-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Hf (m : (ℓ : Loc Cert.Hf.nD Cert.Hf.τ Cert.Hf.sig) → Buf (Elt Bits) ℓ) : Prop :=
  True

def Pre_HfIdeal (m : (ℓ : Loc Cert.HfIdeal.nD Cert.HfIdeal.τ Cert.HfIdeal.sig) → Buf (Elt Ideal) ℓ) : Prop :=
  True

def Pre_HfRefIdeal (m : (ℓ : Loc Cert.HfRefIdeal.nD Cert.HfRefIdeal.τ Cert.HfRefIdeal.sig) → Buf (Elt Ideal) ℓ) : Prop :=
  True

def Pre_Hq (m : (ℓ : Loc Cert.Hq.nD Cert.Hq.τ Cert.Hq.sig) → Buf (Elt Bits) ℓ) : Prop :=
  True

def Pre_HqIdeal (m : (ℓ : Loc Cert.HqIdeal.nD Cert.HqIdeal.τ Cert.HqIdeal.sig) → Buf (Elt Ideal) ℓ) : Prop :=
  True

def Pre_HqRefIdeal (m : (ℓ : Loc Cert.HqRefIdeal.nD Cert.HqRefIdeal.τ Cert.HqRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Upg (m : (ℓ : Loc Cert.Upg.nD Cert.Upg.τ Cert.Upg.sig) → Buf (Elt Bits) ℓ) : Prop :=
  True

def Pre_UpgIdeal (m : (ℓ : Loc Cert.UpgIdeal.nD Cert.UpgIdeal.τ Cert.UpgIdeal.sig) → Buf (Elt Ideal) ℓ) : Prop :=
  True

def Pre_UpgRefIdeal (m : (ℓ : Loc Cert.UpgRefIdeal.nD Cert.UpgRefIdeal.τ Cert.UpgRefIdeal.sig) → Buf (Elt Ideal) ℓ) : Prop :=
  True

def Pre_Upv (m : (ℓ : Loc Cert.Upv.nD Cert.Upv.τ Cert.Upv.sig) → Buf (Elt Bits) ℓ) : Prop :=
  True

def Pre_UpvIdeal (m : (ℓ : Loc Cert.UpvIdeal.nD Cert.UpvIdeal.τ Cert.UpvIdeal.sig) → Buf (Elt Ideal) ℓ) : Prop :=
  True

def Pre_UpvRefIdeal (m : (ℓ : Loc Cert.UpvRefIdeal.nD Cert.UpvRefIdeal.τ Cert.UpvRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dsq (m : (ℓ : Loc Cert.Dsq.nD Cert.Dsq.τ Cert.Dsq.sig) → Buf (Elt Bits) ℓ) : Prop :=
  True

def Pre_DsqIdeal (m : (ℓ : Loc Cert.DsqIdeal.nD Cert.DsqIdeal.τ Cert.DsqIdeal.sig) → Buf (Elt Ideal) ℓ) : Prop :=
  True

def Pre_DsqRefIdeal (m : (ℓ : Loc Cert.DsqRefIdeal.nD Cert.DsqRefIdeal.τ Cert.DsqRefIdeal.sig) → Buf (Elt Ideal) ℓ) : Prop :=
  True

def Pre_Dwsq (m : (ℓ : Loc Cert.Dwsq.nD Cert.Dwsq.τ Cert.Dwsq.sig) → Buf (Elt Bits) ℓ) : Prop :=
  True

def Pre_DwsqIdeal (m : (ℓ : Loc Cert.DwsqIdeal.nD Cert.DwsqIdeal.τ Cert.DwsqIdeal.sig) → Buf (Elt Ideal) ℓ) : Prop :=
  True

def Pre_DwsqRefIdeal (m : (ℓ : Loc Cert.DwsqRefIdeal.nD Cert.DwsqRefIdeal.τ Cert.DwsqRefIdeal.sig) → Buf (Elt Ideal) ℓ) : Prop :=
  True

def Pre_Dyt (m : (ℓ : Loc Cert.Dyt.nD Cert.Dyt.τ Cert.Dyt.sig) → Buf (Elt Bits) ℓ) : Prop :=
  True

def Pre_DytIdeal (m : (ℓ : Loc Cert.DytIdeal.nD Cert.DytIdeal.τ Cert.DytIdeal.sig) → Buf (Elt Ideal) ℓ) : Prop :=
  True

def Pre_DytRefIdeal (m : (ℓ : Loc Cert.DytRefIdeal.nD Cert.DytRefIdeal.τ Cert.DytRefIdeal.sig) → Buf (Elt Ideal) ℓ) : Prop :=
  True

def Pre_Dwco (m : (ℓ : Loc Cert.Dwco.nD Cert.Dwco.τ Cert.Dwco.sig) → Buf (Elt Bits) ℓ) : Prop :=
  True

def Pre_DwcoIdeal (m : (ℓ : Loc Cert.DwcoIdeal.nD Cert.DwcoIdeal.τ Cert.DwcoIdeal.sig) → Buf (Elt Ideal) ℓ) : Prop :=
  True

def Pre_DwcoRefIdeal (m : (ℓ : Loc Cert.DwcoRefIdeal.nD Cert.DwcoRefIdeal.τ Cert.DwcoRefIdeal.sig) → Buf (Elt Ideal) ℓ) : Prop :=
  True

def Pre_Qproj (m : (ℓ : Loc Cert.Qproj.nD Cert.Qproj.τ Cert.Qproj.sig) → Buf (Elt Bits) ℓ) : Prop :=
  True

def Pre_QprojIdeal (m : (ℓ : Loc Cert.QprojIdeal.nD Cert.QprojIdeal.τ Cert.QprojIdeal.sig) → Buf (Elt Ideal) ℓ) : Prop :=
  True

def Pre_QprojRefIdeal (m : (ℓ : Loc Cert.QprojRefIdeal.nD Cert.QprojRefIdeal.τ Cert.QprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Convout (m : (ℓ : Loc Cert.Convout.nD Cert.Convout.τ Cert.Convout.sig) → Buf (Elt Bits) ℓ) : Prop :=
  True

def Pre_ConvoutIdeal (m : (ℓ : Loc Cert.ConvoutIdeal.nD Cert.ConvoutIdeal.τ Cert.ConvoutIdeal.sig) → Buf (Elt Ideal) ℓ) : Prop :=
  True

def Pre_ConvoutRefIdeal (m : (ℓ : Loc Cert.ConvoutRefIdeal.nD Cert.ConvoutRefIdeal.τ Cert.ConvoutRefIdeal.sig) → Buf (Elt Ideal) ℓ) : Prop :=
  True

def Pre_Kvproj (m : (ℓ : Loc Cert.Kvproj.nD Cert.Kvproj.τ Cert.Kvproj.sig) → Buf (Elt Bits) ℓ) : Prop :=
  True

def Pre_KvprojIdeal (m : (ℓ : Loc Cert.KvprojIdeal.nD Cert.KvprojIdeal.τ Cert.KvprojIdeal.sig) → Buf (Elt Ideal) ℓ) : Prop :=
  True

def Pre_KvprojRefIdeal (m : (ℓ : Loc Cert.KvprojRefIdeal.nD Cert.KvprojRefIdeal.τ Cert.KvprojRefIdeal.sig) → Buf (Elt Ideal) ℓ) : Prop :=
  True

def Pre_Dwkv (m : (ℓ : Loc Cert.Dwkv.nD Cert.Dwkv.τ Cert.Dwkv.sig) → Buf (Elt Bits) ℓ) : Prop :=
  True

def Pre_DwkvIdeal (m : (ℓ : Loc Cert.DwkvIdeal.nD Cert.DwkvIdeal.τ Cert.DwkvIdeal.sig) → Buf (Elt Ideal) ℓ) : Prop :=
  True

def Pre_DwkvRefIdeal (m : (ℓ : Loc Cert.DwkvRefIdeal.nD Cert.DwkvRefIdeal.τ Cert.DwkvRefIdeal.sig) → Buf (Elt Ideal) ℓ) : Prop :=
  True

def Pre_Dmem (m : (ℓ : Loc Cert.Dmem.nD Cert.Dmem.τ Cert.Dmem.sig) → Buf (Elt Bits) ℓ) : Prop :=
  True

def Pre_DmemIdeal (m : (ℓ : Loc Cert.DmemIdeal.nD Cert.DmemIdeal.τ Cert.DmemIdeal.sig) → Buf (Elt Ideal) ℓ) : Prop :=
  True

def Pre_DmemRefIdeal (m : (ℓ : Loc Cert.DmemRefIdeal.nD Cert.DmemRefIdeal.τ Cert.DmemRefIdeal.sig) → Buf (Elt Ideal) ℓ) : Prop :=
  True

def Pre_Dmemtop (m : (ℓ : Loc Cert.Dmemtop.nD Cert.Dmemtop.τ Cert.Dmemtop.sig) → Buf (Elt Bits) ℓ) : Prop :=
  True

def Pre_DmemtopIdeal (m : (ℓ : Loc Cert.DmemtopIdeal.nD Cert.DmemtopIdeal.τ Cert.DmemtopIdeal.sig) → Buf (Elt Ideal) ℓ) : Prop :=
  True

def Pre_DmemtopRefIdeal (m : (ℓ : Loc Cert.DmemtopRefIdeal.nD Cert.DmemtopRefIdeal.τ Cert.DmemtopRefIdeal.sig) → Buf (Elt Ideal) ℓ) : Prop :=
  True

def Pre_Attnf (m : (ℓ : Loc Cert.Attnf.nD Cert.Attnf.τ Cert.Attnf.sig) → Buf (Elt Bits) ℓ) : Prop :=
  True

def Pre_AttnfIdeal (m : (ℓ : Loc Cert.AttnfIdeal.nD Cert.AttnfIdeal.τ Cert.AttnfIdeal.sig) → Buf (Elt Ideal) ℓ) : Prop :=
  True

def Pre_AttnfRefIdeal (m : (ℓ : Loc Cert.AttnfRefIdeal.nD Cert.AttnfRefIdeal.τ Cert.AttnfRefIdeal.sig) → Buf (Elt Ideal) ℓ) : Prop :=
  True

def Pre_Normf (m : (ℓ : Loc Cert.Normf.nD Cert.Normf.τ Cert.Normf.sig) → Buf (Elt Bits) ℓ) : Prop :=
  True

def Pre_NormfIdeal (m : (ℓ : Loc Cert.NormfIdeal.nD Cert.NormfIdeal.τ Cert.NormfIdeal.sig) → Buf (Elt Ideal) ℓ) : Prop :=
  True

def Pre_NormfRefIdeal (m : (ℓ : Loc Cert.NormfRefIdeal.nD Cert.NormfRefIdeal.τ Cert.NormfRefIdeal.sig) → Buf (Elt Ideal) ℓ) : Prop :=
  True

def Pre_Memf (m : (ℓ : Loc Cert.Memf.nD Cert.Memf.τ Cert.Memf.sig) → Buf (Elt Bits) ℓ) : Prop :=
  True

def Pre_MemfIdeal (m : (ℓ : Loc Cert.MemfIdeal.nD Cert.MemfIdeal.τ Cert.MemfIdeal.sig) → Buf (Elt Ideal) ℓ) : Prop :=
  True

def Pre_MemfRefIdeal (m : (ℓ : Loc Cert.MemfRefIdeal.nD Cert.MemfRefIdeal.τ Cert.MemfRefIdeal.sig) → Buf (Elt Ideal) ℓ) : Prop :=
  True

def Pre_Mergef (m : (ℓ : Loc Cert.Mergef.nD Cert.Mergef.τ Cert.Mergef.sig) → Buf (Elt Bits) ℓ) : Prop :=
  True

def Pre_MergefIdeal (m : (ℓ : Loc Cert.MergefIdeal.nD Cert.MergefIdeal.τ Cert.MergefIdeal.sig) → Buf (Elt Ideal) ℓ) : Prop :=
  True

def Pre_MergefRefIdeal (m : (ℓ : Loc Cert.MergefRefIdeal.nD Cert.MergefRefIdeal.τ Cert.MergefRefIdeal.sig) → Buf (Elt Ideal) ℓ) : Prop :=
  True

def Pre_Gproj (m : (ℓ : Loc Cert.Gproj.nD Cert.Gproj.τ Cert.Gproj.sig) → Buf (Elt Bits) ℓ) : Prop :=
  True

def Pre_GprojIdeal (m : (ℓ : Loc Cert.GprojIdeal.nD Cert.GprojIdeal.τ Cert.GprojIdeal.sig) → Buf (Elt Ideal) ℓ) : Prop :=
  True

def Pre_GprojRefIdeal (m : (ℓ : Loc Cert.GprojRefIdeal.nD Cert.GprojRefIdeal.τ Cert.GprojRefIdeal.sig) → Buf (Elt Ideal) ℓ) : Prop :=
  True

def Pre_Gdz (m : (ℓ : Loc Cert.Gdz.nD Cert.Gdz.τ Cert.Gdz.sig) → Buf (Elt Bits) ℓ) : Prop :=
  True

def Pre_GdzIdeal (m : (ℓ : Loc Cert.GdzIdeal.nD Cert.GdzIdeal.τ Cert.GdzIdeal.sig) → Buf (Elt Ideal) ℓ) : Prop :=
  True

def Pre_GdzRefIdeal (m : (ℓ : Loc Cert.GdzRefIdeal.nD Cert.GdzRefIdeal.τ Cert.GdzRefIdeal.sig) → Buf (Elt Ideal) ℓ) : Prop :=
  True

def Pre_Gdw (m : (ℓ : Loc Cert.Gdw.nD Cert.Gdw.τ Cert.Gdw.sig) → Buf (Elt Bits) ℓ) : Prop :=
  True

def Pre_GdwIdeal (m : (ℓ : Loc Cert.GdwIdeal.nD Cert.GdwIdeal.τ Cert.GdwIdeal.sig) → Buf (Elt Ideal) ℓ) : Prop :=
  True

def Pre_GdwRefIdeal (m : (ℓ : Loc Cert.GdwRefIdeal.nD Cert.GdwRefIdeal.τ Cert.GdwRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Memn (m : (ℓ : Loc Cert.Memn.nD Cert.Memn.τ Cert.Memn.sig) → Buf (Elt Bits) ℓ) : Prop :=
  True

def Pre_MemnIdeal (m : (ℓ : Loc Cert.MemnIdeal.nD Cert.MemnIdeal.τ Cert.MemnIdeal.sig) → Buf (Elt Ideal) ℓ) : Prop :=
  True

def Pre_MemnRefIdeal (m : (ℓ : Loc Cert.MemnRefIdeal.nD Cert.MemnRefIdeal.τ Cert.MemnRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Gmix (m : (ℓ : Loc Cert.Gmix.nD Cert.Gmix.τ Cert.Gmix.sig) → Buf (Elt Bits) ℓ) : Prop :=
  True

def Pre_GmixIdeal (m : (ℓ : Loc Cert.GmixIdeal.nD Cert.GmixIdeal.τ Cert.GmixIdeal.sig) → Buf (Elt Ideal) ℓ) : Prop :=
  True

def Pre_GmixRefIdeal (m : (ℓ : Loc Cert.GmixRefIdeal.nD Cert.GmixRefIdeal.τ Cert.GmixRefIdeal.sig) → Buf (Elt Ideal) ℓ) : Prop :=
  True

def Pre_Grest (m : (ℓ : Loc Cert.Grest.nD Cert.Grest.τ Cert.Grest.sig) → Buf (Elt Bits) ℓ) : Prop :=
  True

def Pre_GrestIdeal (m : (ℓ : Loc Cert.GrestIdeal.nD Cert.GrestIdeal.τ Cert.GrestIdeal.sig) → Buf (Elt Ideal) ℓ) : Prop :=
  True

def Pre_GrestRefIdeal (m : (ℓ : Loc Cert.GrestRefIdeal.nD Cert.GrestRefIdeal.τ Cert.GrestRefIdeal.sig) → Buf (Elt Ideal) ℓ) : Prop :=
  True

def Pre_Gall (m : (ℓ : Loc Cert.Gall.nD Cert.Gall.τ Cert.Gall.sig) → Buf (Elt Bits) ℓ) : Prop :=
  True

def Pre_GallIdeal (m : (ℓ : Loc Cert.GallIdeal.nD Cert.GallIdeal.τ Cert.GallIdeal.sig) → Buf (Elt Ideal) ℓ) : Prop :=
  True

def Pre_GallRefIdeal (m : (ℓ : Loc Cert.GallRefIdeal.nD Cert.GallRefIdeal.τ Cert.GallRefIdeal.sig) → Buf (Elt Ideal) ℓ) : Prop :=
  True

def Pre_Adchan (m : (ℓ : Loc Cert.Adchan.nD Cert.Adchan.τ Cert.Adchan.sig) → Buf (Elt Bits) ℓ) : Prop :=
  True

def Pre_AdchanIdeal (m : (ℓ : Loc Cert.AdchanIdeal.nD Cert.AdchanIdeal.τ Cert.AdchanIdeal.sig) → Buf (Elt Ideal) ℓ) : Prop :=
  True

def Pre_AdchanRefIdeal (m : (ℓ : Loc Cert.AdchanRefIdeal.nD Cert.AdchanRefIdeal.τ Cert.AdchanRefIdeal.sig) → Buf (Elt Ideal) ℓ) : Prop :=
  True

def Pre_Adconv (m : (ℓ : Loc Cert.Adconv.nD Cert.Adconv.τ Cert.Adconv.sig) → Buf (Elt Bits) ℓ) : Prop :=
  True

def Pre_AdconvIdeal (m : (ℓ : Loc Cert.AdconvIdeal.nD Cert.AdconvIdeal.τ Cert.AdconvIdeal.sig) → Buf (Elt Ideal) ℓ) : Prop :=
  True

def Pre_AdconvRefIdeal (m : (ℓ : Loc Cert.AdconvRefIdeal.nD Cert.AdconvRefIdeal.τ Cert.AdconvRefIdeal.sig) → Buf (Elt Ideal) ℓ) : Prop :=
  True

def Pre_Adgain (m : (ℓ : Loc Cert.Adgain.nD Cert.Adgain.τ Cert.Adgain.sig) → Buf (Elt Bits) ℓ) : Prop :=
  True

def Pre_AdgainIdeal (m : (ℓ : Loc Cert.AdgainIdeal.nD Cert.AdgainIdeal.τ Cert.AdgainIdeal.sig) → Buf (Elt Ideal) ℓ) : Prop :=
  True

def Pre_AdgainRefIdeal (m : (ℓ : Loc Cert.AdgainRefIdeal.nD Cert.AdgainRefIdeal.τ Cert.AdgainRefIdeal.sig) → Buf (Elt Ideal) ℓ) : Prop :=
  True

def Pre_Adfilt (m : (ℓ : Loc Cert.Adfilt.nD Cert.Adfilt.τ Cert.Adfilt.sig) → Buf (Elt Bits) ℓ) : Prop :=
  True

def Pre_AdfiltIdeal (m : (ℓ : Loc Cert.AdfiltIdeal.nD Cert.AdfiltIdeal.τ Cert.AdfiltIdeal.sig) → Buf (Elt Ideal) ℓ) : Prop :=
  True

def Pre_AdfiltRefIdeal (m : (ℓ : Loc Cert.AdfiltRefIdeal.nD Cert.AdfiltRefIdeal.τ Cert.AdfiltRefIdeal.sig) → Buf (Elt Ideal) ℓ) : Prop :=
  True

def Pre_Adffilt (m : (ℓ : Loc Cert.Adffilt.nD Cert.Adffilt.τ Cert.Adffilt.sig) → Buf (Elt Bits) ℓ) : Prop :=
  True

def Pre_AdffiltIdeal (m : (ℓ : Loc Cert.AdffiltIdeal.nD Cert.AdffiltIdeal.τ Cert.AdffiltIdeal.sig) → Buf (Elt Ideal) ℓ) : Prop :=
  True

def Pre_AdffiltRefIdeal (m : (ℓ : Loc Cert.AdffiltRefIdeal.nD Cert.AdffiltRefIdeal.τ Cert.AdffiltRefIdeal.sig) → Buf (Elt Ideal) ℓ) : Prop :=
  True

def Pre_Adsq (m : (ℓ : Loc Cert.Adsq.nD Cert.Adsq.τ Cert.Adsq.sig) → Buf (Elt Bits) ℓ) : Prop :=
  True

def Pre_AdsqIdeal (m : (ℓ : Loc Cert.AdsqIdeal.nD Cert.AdsqIdeal.τ Cert.AdsqIdeal.sig) → Buf (Elt Ideal) ℓ) : Prop :=
  True

def Pre_AdsqRefIdeal (m : (ℓ : Loc Cert.AdsqRefIdeal.nD Cert.AdsqRefIdeal.τ Cert.AdsqRefIdeal.sig) → Buf (Elt Ideal) ℓ) : Prop :=
  True

def Pre_Addown (m : (ℓ : Loc Cert.Addown.nD Cert.Addown.τ Cert.Addown.sig) → Buf (Elt Bits) ℓ) : Prop :=
  True

def Pre_AddownIdeal (m : (ℓ : Loc Cert.AddownIdeal.nD Cert.AddownIdeal.τ Cert.AddownIdeal.sig) → Buf (Elt Ideal) ℓ) : Prop :=
  True

def Pre_AddownRefIdeal (m : (ℓ : Loc Cert.AddownRefIdeal.nD Cert.AddownRefIdeal.τ Cert.AddownRefIdeal.sig) → Buf (Elt Ideal) ℓ) : Prop :=
  True

def Pre_Adin (m : (ℓ : Loc Cert.Adin.nD Cert.Adin.τ Cert.Adin.sig) → Buf (Elt Bits) ℓ) : Prop :=
  True

def Pre_AdinIdeal (m : (ℓ : Loc Cert.AdinIdeal.nD Cert.AdinIdeal.τ Cert.AdinIdeal.sig) → Buf (Elt Ideal) ℓ) : Prop :=
  True

def Pre_AdinRefIdeal (m : (ℓ : Loc Cert.AdinRefIdeal.nD Cert.AdinRefIdeal.τ Cert.AdinRefIdeal.sig) → Buf (Elt Ideal) ℓ) : Prop :=
  True

def Pre_Adkv (m : (ℓ : Loc Cert.Adkv.nD Cert.Adkv.τ Cert.Adkv.sig) → Buf (Elt Bits) ℓ) : Prop :=
  True

def Pre_AdkvIdeal (m : (ℓ : Loc Cert.AdkvIdeal.nD Cert.AdkvIdeal.τ Cert.AdkvIdeal.sig) → Buf (Elt Ideal) ℓ) : Prop :=
  True

def Pre_AdkvRefIdeal (m : (ℓ : Loc Cert.AdkvRefIdeal.nD Cert.AdkvRefIdeal.τ Cert.AdkvRefIdeal.sig) → Buf (Elt Ideal) ℓ) : Prop :=
  True

def Pre_Adup (m : (ℓ : Loc Cert.Adup.nD Cert.Adup.τ Cert.Adup.sig) → Buf (Elt Bits) ℓ) : Prop :=
  True

def Pre_AdupIdeal (m : (ℓ : Loc Cert.AdupIdeal.nD Cert.AdupIdeal.τ Cert.AdupIdeal.sig) → Buf (Elt Ideal) ℓ) : Prop :=
  True

def Pre_AdupRefIdeal (m : (ℓ : Loc Cert.AdupRefIdeal.nD Cert.AdupRefIdeal.τ Cert.AdupRefIdeal.sig) → Buf (Elt Ideal) ℓ) : Prop :=
  True

def Pre_Adcout (m : (ℓ : Loc Cert.Adcout.nD Cert.Adcout.τ Cert.Adcout.sig) → Buf (Elt Bits) ℓ) : Prop :=
  True

def Pre_AdcoutIdeal (m : (ℓ : Loc Cert.AdcoutIdeal.nD Cert.AdcoutIdeal.τ Cert.AdcoutIdeal.sig) → Buf (Elt Ideal) ℓ) : Prop :=
  True

def Pre_AdcoutRefIdeal (m : (ℓ : Loc Cert.AdcoutRefIdeal.nD Cert.AdcoutRefIdeal.τ Cert.AdcoutRefIdeal.sig) → Buf (Elt Ideal) ℓ) : Prop :=
  True

def Pre_Adpool (m : (ℓ : Loc Cert.Adpool.nD Cert.Adpool.τ Cert.Adpool.sig) → Buf (Elt Bits) ℓ) : Prop :=
  True

def Pre_AdpoolIdeal (m : (ℓ : Loc Cert.AdpoolIdeal.nD Cert.AdpoolIdeal.τ Cert.AdpoolIdeal.sig) → Buf (Elt Ideal) ℓ) : Prop :=
  True

def Pre_AdpoolRefIdeal (m : (ℓ : Loc Cert.AdpoolRefIdeal.nD Cert.AdpoolRefIdeal.τ Cert.AdpoolRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Hf [hHf : Cert.Hf.Facts] : Prop :=
  ∀ (m : (ℓ : Loc Cert.Hf.nD Cert.Hf.τ Cert.Hf.sig) → Buf (Elt Bits) ℓ) (g : Dev Cert.Hf.nD → PrngReg), Pre_Hf m →
    θ_run (Cert.Hf.defs (F := Bits)) (onTc (τ := Cert.Hf.τ) (Cert.Hf.main (F := Bits))) ⟨m, fun _ => 0, g⟩ (fun r => (∀ c : Dev Cert.Hf.nD,
      r.2.mem ((c.tc : Thread Cert.Hf.nD Cert.Hf.τ).loc Cert.Hf.main_arg0) = m ((c.tc : Thread Cert.Hf.nD Cert.Hf.τ).loc Cert.Hf.main_arg0)
      ∧ r.2.mem ((c.tc : Thread Cert.Hf.nD Cert.Hf.τ).loc Cert.Hf.main_arg1) = m ((c.tc : Thread Cert.Hf.nD Cert.Hf.τ).loc Cert.Hf.main_arg1)
      ∧ r.2.mem ((c.tc : Thread Cert.Hf.nD Cert.Hf.τ).loc Cert.Hf.main_arg2) = m ((c.tc : Thread Cert.Hf.nD Cert.Hf.τ).loc Cert.Hf.main_arg2)
      ∧ r.2.mem ((c.tc : Thread Cert.Hf.nD Cert.Hf.τ).loc Cert.Hf.main_arg3) = m ((c.tc : Thread Cert.Hf.nD Cert.Hf.τ).loc Cert.Hf.main_arg3)
      ∧ r.2.mem ((c.tc : Thread Cert.Hf.nD Cert.Hf.τ).loc Cert.Hf.main_arg4) = m ((c.tc : Thread Cert.Hf.nD Cert.Hf.τ).loc Cert.Hf.main_arg4)
      ∧ r.2.mem ((c.tc : Thread Cert.Hf.nD Cert.Hf.τ).loc Cert.Hf.main_arg5) = m ((c.tc : Thread Cert.Hf.nD Cert.Hf.τ).loc Cert.Hf.main_arg5))
      ∧ r.2.sem = fun _ => 0)

def quiescent_HfIdeal [hHfIdeal : Cert.HfIdeal.Facts] : Prop :=
  ∀ (m : (ℓ : Loc Cert.HfIdeal.nD Cert.HfIdeal.τ Cert.HfIdeal.sig) → Buf (Elt Ideal) ℓ) (g : Dev Cert.HfIdeal.nD → PrngReg), Pre_HfIdeal m →
    θ_run (Cert.HfIdeal.defs (F := Ideal)) (onTc (τ := Cert.HfIdeal.τ) (Cert.HfIdeal.main (F := Ideal))) ⟨m, fun _ => 0, g⟩ (fun r => (∀ c : Dev Cert.HfIdeal.nD,
      r.2.mem ((c.tc : Thread Cert.HfIdeal.nD Cert.HfIdeal.τ).loc Cert.HfIdeal.main_arg0) = m ((c.tc : Thread Cert.HfIdeal.nD Cert.HfIdeal.τ).loc Cert.HfIdeal.main_arg0)
      ∧ r.2.mem ((c.tc : Thread Cert.HfIdeal.nD Cert.HfIdeal.τ).loc Cert.HfIdeal.main_arg1) = m ((c.tc : Thread Cert.HfIdeal.nD Cert.HfIdeal.τ).loc Cert.HfIdeal.main_arg1)
      ∧ r.2.mem ((c.tc : Thread Cert.HfIdeal.nD Cert.HfIdeal.τ).loc Cert.HfIdeal.main_arg2) = m ((c.tc : Thread Cert.HfIdeal.nD Cert.HfIdeal.τ).loc Cert.HfIdeal.main_arg2)
      ∧ r.2.mem ((c.tc : Thread Cert.HfIdeal.nD Cert.HfIdeal.τ).loc Cert.HfIdeal.main_arg3) = m ((c.tc : Thread Cert.HfIdeal.nD Cert.HfIdeal.τ).loc Cert.HfIdeal.main_arg3)
      ∧ r.2.mem ((c.tc : Thread Cert.HfIdeal.nD Cert.HfIdeal.τ).loc Cert.HfIdeal.main_arg4) = m ((c.tc : Thread Cert.HfIdeal.nD Cert.HfIdeal.τ).loc Cert.HfIdeal.main_arg4)
      ∧ r.2.mem ((c.tc : Thread Cert.HfIdeal.nD Cert.HfIdeal.τ).loc Cert.HfIdeal.main_arg5) = m ((c.tc : Thread Cert.HfIdeal.nD Cert.HfIdeal.τ).loc Cert.HfIdeal.main_arg5))
      ∧ r.2.sem = fun _ => 0)

def quiescent_HfRefIdeal [hHfRefIdeal : Cert.HfRefIdeal.Facts] : Prop :=
  ∀ (m : (ℓ : Loc Cert.HfRefIdeal.nD Cert.HfRefIdeal.τ Cert.HfRefIdeal.sig) → Buf (Elt Ideal) ℓ) (g : Dev Cert.HfRefIdeal.nD → PrngReg), Pre_HfRefIdeal m →
    θ_run (Cert.HfRefIdeal.defs (F := Ideal)) (onTc (τ := Cert.HfRefIdeal.τ) (Cert.HfRefIdeal.main (F := Ideal))) ⟨m, fun _ => 0, g⟩ (fun r => (∀ c : Dev Cert.HfRefIdeal.nD,
      r.2.mem ((c.tc : Thread Cert.HfRefIdeal.nD Cert.HfRefIdeal.τ).loc Cert.HfRefIdeal.main_arg0) = m ((c.tc : Thread Cert.HfRefIdeal.nD Cert.HfRefIdeal.τ).loc Cert.HfRefIdeal.main_arg0)
      ∧ r.2.mem ((c.tc : Thread Cert.HfRefIdeal.nD Cert.HfRefIdeal.τ).loc Cert.HfRefIdeal.main_arg1) = m ((c.tc : Thread Cert.HfRefIdeal.nD Cert.HfRefIdeal.τ).loc Cert.HfRefIdeal.main_arg1)
      ∧ r.2.mem ((c.tc : Thread Cert.HfRefIdeal.nD Cert.HfRefIdeal.τ).loc Cert.HfRefIdeal.main_arg2) = m ((c.tc : Thread Cert.HfRefIdeal.nD Cert.HfRefIdeal.τ).loc Cert.HfRefIdeal.main_arg2)
      ∧ r.2.mem ((c.tc : Thread Cert.HfRefIdeal.nD Cert.HfRefIdeal.τ).loc Cert.HfRefIdeal.main_arg3) = m ((c.tc : Thread Cert.HfRefIdeal.nD Cert.HfRefIdeal.τ).loc Cert.HfRefIdeal.main_arg3)
      ∧ r.2.mem ((c.tc : Thread Cert.HfRefIdeal.nD Cert.HfRefIdeal.τ).loc Cert.HfRefIdeal.main_arg4) = m ((c.tc : Thread Cert.HfRefIdeal.nD Cert.HfRefIdeal.τ).loc Cert.HfRefIdeal.main_arg4)
      ∧ r.2.mem ((c.tc : Thread Cert.HfRefIdeal.nD Cert.HfRefIdeal.τ).loc Cert.HfRefIdeal.main_arg5) = m ((c.tc : Thread Cert.HfRefIdeal.nD Cert.HfRefIdeal.τ).loc Cert.HfRefIdeal.main_arg5))
      ∧ r.2.sem = fun _ => 0)

def quiescent_Hq [hHq : Cert.Hq.Facts] : Prop :=
  ∀ (m : (ℓ : Loc Cert.Hq.nD Cert.Hq.τ Cert.Hq.sig) → Buf (Elt Bits) ℓ) (g : Dev Cert.Hq.nD → PrngReg), Pre_Hq m →
    θ_run (Cert.Hq.defs (F := Bits)) (onTc (τ := Cert.Hq.τ) (Cert.Hq.main (F := Bits))) ⟨m, fun _ => 0, g⟩ (fun r => (∀ c : Dev Cert.Hq.nD,
      r.2.mem ((c.tc : Thread Cert.Hq.nD Cert.Hq.τ).loc Cert.Hq.main_arg0) = m ((c.tc : Thread Cert.Hq.nD Cert.Hq.τ).loc Cert.Hq.main_arg0)
      ∧ r.2.mem ((c.tc : Thread Cert.Hq.nD Cert.Hq.τ).loc Cert.Hq.main_arg1) = m ((c.tc : Thread Cert.Hq.nD Cert.Hq.τ).loc Cert.Hq.main_arg1)
      ∧ r.2.mem ((c.tc : Thread Cert.Hq.nD Cert.Hq.τ).loc Cert.Hq.main_arg2) = m ((c.tc : Thread Cert.Hq.nD Cert.Hq.τ).loc Cert.Hq.main_arg2)
      ∧ r.2.mem ((c.tc : Thread Cert.Hq.nD Cert.Hq.τ).loc Cert.Hq.main_arg3) = m ((c.tc : Thread Cert.Hq.nD Cert.Hq.τ).loc Cert.Hq.main_arg3)
      ∧ r.2.mem ((c.tc : Thread Cert.Hq.nD Cert.Hq.τ).loc Cert.Hq.main_arg4) = m ((c.tc : Thread Cert.Hq.nD Cert.Hq.τ).loc Cert.Hq.main_arg4))
      ∧ r.2.sem = fun _ => 0)

def quiescent_HqIdeal [hHqIdeal : Cert.HqIdeal.Facts] : Prop :=
  ∀ (m : (ℓ : Loc Cert.HqIdeal.nD Cert.HqIdeal.τ Cert.HqIdeal.sig) → Buf (Elt Ideal) ℓ) (g : Dev Cert.HqIdeal.nD → PrngReg), Pre_HqIdeal m →
    θ_run (Cert.HqIdeal.defs (F := Ideal)) (onTc (τ := Cert.HqIdeal.τ) (Cert.HqIdeal.main (F := Ideal))) ⟨m, fun _ => 0, g⟩ (fun r => (∀ c : Dev Cert.HqIdeal.nD,
      r.2.mem ((c.tc : Thread Cert.HqIdeal.nD Cert.HqIdeal.τ).loc Cert.HqIdeal.main_arg0) = m ((c.tc : Thread Cert.HqIdeal.nD Cert.HqIdeal.τ).loc Cert.HqIdeal.main_arg0)
      ∧ r.2.mem ((c.tc : Thread Cert.HqIdeal.nD Cert.HqIdeal.τ).loc Cert.HqIdeal.main_arg1) = m ((c.tc : Thread Cert.HqIdeal.nD Cert.HqIdeal.τ).loc Cert.HqIdeal.main_arg1)
      ∧ r.2.mem ((c.tc : Thread Cert.HqIdeal.nD Cert.HqIdeal.τ).loc Cert.HqIdeal.main_arg2) = m ((c.tc : Thread Cert.HqIdeal.nD Cert.HqIdeal.τ).loc Cert.HqIdeal.main_arg2)
      ∧ r.2.mem ((c.tc : Thread Cert.HqIdeal.nD Cert.HqIdeal.τ).loc Cert.HqIdeal.main_arg3) = m ((c.tc : Thread Cert.HqIdeal.nD Cert.HqIdeal.τ).loc Cert.HqIdeal.main_arg3)
      ∧ r.2.mem ((c.tc : Thread Cert.HqIdeal.nD Cert.HqIdeal.τ).loc Cert.HqIdeal.main_arg4) = m ((c.tc : Thread Cert.HqIdeal.nD Cert.HqIdeal.τ).loc Cert.HqIdeal.main_arg4))
      ∧ r.2.sem = fun _ => 0)

def quiescent_HqRefIdeal [hHqRefIdeal : Cert.HqRefIdeal.Facts] : Prop :=
  ∀ (m : (ℓ : Loc Cert.HqRefIdeal.nD Cert.HqRefIdeal.τ Cert.HqRefIdeal.sig) → Buf (Elt Ideal) ℓ) (g : Dev Cert.HqRefIdeal.nD → PrngReg), Pre_HqRefIdeal m →
    θ_run (Cert.HqRefIdeal.defs (F := Ideal)) (onTc (τ := Cert.HqRefIdeal.τ) (Cert.HqRefIdeal.main (F := Ideal))) ⟨m, fun _ => 0, g⟩ (fun r => (∀ c : Dev Cert.HqRefIdeal.nD,
      r.2.mem ((c.tc : Thread Cert.HqRefIdeal.nD Cert.HqRefIdeal.τ).loc Cert.HqRefIdeal.main_arg0) = m ((c.tc : Thread Cert.HqRefIdeal.nD Cert.HqRefIdeal.τ).loc Cert.HqRefIdeal.main_arg0)
      ∧ r.2.mem ((c.tc : Thread Cert.HqRefIdeal.nD Cert.HqRefIdeal.τ).loc Cert.HqRefIdeal.main_arg1) = m ((c.tc : Thread Cert.HqRefIdeal.nD Cert.HqRefIdeal.τ).loc Cert.HqRefIdeal.main_arg1)
      ∧ r.2.mem ((c.tc : Thread Cert.HqRefIdeal.nD Cert.HqRefIdeal.τ).loc Cert.HqRefIdeal.main_arg2) = m ((c.tc : Thread Cert.HqRefIdeal.nD Cert.HqRefIdeal.τ).loc Cert.HqRefIdeal.main_arg2)
      ∧ r.2.mem ((c.tc : Thread Cert.HqRefIdeal.nD Cert.HqRefIdeal.τ).loc Cert.HqRefIdeal.main_arg3) = m ((c.tc : Thread Cert.HqRefIdeal.nD Cert.HqRefIdeal.τ).loc Cert.HqRefIdeal.main_arg3)
      ∧ r.2.mem ((c.tc : Thread Cert.HqRefIdeal.nD Cert.HqRefIdeal.τ).loc Cert.HqRefIdeal.main_arg4) = m ((c.tc : Thread Cert.HqRefIdeal.nD Cert.HqRefIdeal.τ).loc Cert.HqRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Upg [hUpg : Cert.Upg.Facts] : Prop :=
  ∀ (m : (ℓ : Loc Cert.Upg.nD Cert.Upg.τ Cert.Upg.sig) → Buf (Elt Bits) ℓ) (g : Dev Cert.Upg.nD → PrngReg), Pre_Upg m →
    θ_run (Cert.Upg.defs (F := Bits)) (onTc (τ := Cert.Upg.τ) (Cert.Upg.main (F := Bits))) ⟨m, fun _ => 0, g⟩ (fun r => (∀ c : Dev Cert.Upg.nD,
      r.2.mem ((c.tc : Thread Cert.Upg.nD Cert.Upg.τ).loc Cert.Upg.main_arg0) = m ((c.tc : Thread Cert.Upg.nD Cert.Upg.τ).loc Cert.Upg.main_arg0)
      ∧ r.2.mem ((c.tc : Thread Cert.Upg.nD Cert.Upg.τ).loc Cert.Upg.main_arg1) = m ((c.tc : Thread Cert.Upg.nD Cert.Upg.τ).loc Cert.Upg.main_arg1))
      ∧ r.2.sem = fun _ => 0)

def quiescent_UpgIdeal [hUpgIdeal : Cert.UpgIdeal.Facts] : Prop :=
  ∀ (m : (ℓ : Loc Cert.UpgIdeal.nD Cert.UpgIdeal.τ Cert.UpgIdeal.sig) → Buf (Elt Ideal) ℓ) (g : Dev Cert.UpgIdeal.nD → PrngReg), Pre_UpgIdeal m →
    θ_run (Cert.UpgIdeal.defs (F := Ideal)) (onTc (τ := Cert.UpgIdeal.τ) (Cert.UpgIdeal.main (F := Ideal))) ⟨m, fun _ => 0, g⟩ (fun r => (∀ c : Dev Cert.UpgIdeal.nD,
      r.2.mem ((c.tc : Thread Cert.UpgIdeal.nD Cert.UpgIdeal.τ).loc Cert.UpgIdeal.main_arg0) = m ((c.tc : Thread Cert.UpgIdeal.nD Cert.UpgIdeal.τ).loc Cert.UpgIdeal.main_arg0)
      ∧ r.2.mem ((c.tc : Thread Cert.UpgIdeal.nD Cert.UpgIdeal.τ).loc Cert.UpgIdeal.main_arg1) = m ((c.tc : Thread Cert.UpgIdeal.nD Cert.UpgIdeal.τ).loc Cert.UpgIdeal.main_arg1))
      ∧ r.2.sem = fun _ => 0)

def quiescent_UpgRefIdeal [hUpgRefIdeal : Cert.UpgRefIdeal.Facts] : Prop :=
  ∀ (m : (ℓ : Loc Cert.UpgRefIdeal.nD Cert.UpgRefIdeal.τ Cert.UpgRefIdeal.sig) → Buf (Elt Ideal) ℓ) (g : Dev Cert.UpgRefIdeal.nD → PrngReg), Pre_UpgRefIdeal m →
    θ_run (Cert.UpgRefIdeal.defs (F := Ideal)) (onTc (τ := Cert.UpgRefIdeal.τ) (Cert.UpgRefIdeal.main (F := Ideal))) ⟨m, fun _ => 0, g⟩ (fun r => (∀ c : Dev Cert.UpgRefIdeal.nD,
      r.2.mem ((c.tc : Thread Cert.UpgRefIdeal.nD Cert.UpgRefIdeal.τ).loc Cert.UpgRefIdeal.main_arg0) = m ((c.tc : Thread Cert.UpgRefIdeal.nD Cert.UpgRefIdeal.τ).loc Cert.UpgRefIdeal.main_arg0)
      ∧ r.2.mem ((c.tc : Thread Cert.UpgRefIdeal.nD Cert.UpgRefIdeal.τ).loc Cert.UpgRefIdeal.main_arg1) = m ((c.tc : Thread Cert.UpgRefIdeal.nD Cert.UpgRefIdeal.τ).loc Cert.UpgRefIdeal.main_arg1))
      ∧ r.2.sem = fun _ => 0)

def quiescent_Upv [hUpv : Cert.Upv.Facts] : Prop :=
  ∀ (m : (ℓ : Loc Cert.Upv.nD Cert.Upv.τ Cert.Upv.sig) → Buf (Elt Bits) ℓ) (g : Dev Cert.Upv.nD → PrngReg), Pre_Upv m →
    θ_run (Cert.Upv.defs (F := Bits)) (onTc (τ := Cert.Upv.τ) (Cert.Upv.main (F := Bits))) ⟨m, fun _ => 0, g⟩ (fun r => (∀ c : Dev Cert.Upv.nD,
      r.2.mem ((c.tc : Thread Cert.Upv.nD Cert.Upv.τ).loc Cert.Upv.main_arg0) = m ((c.tc : Thread Cert.Upv.nD Cert.Upv.τ).loc Cert.Upv.main_arg0)
      ∧ r.2.mem ((c.tc : Thread Cert.Upv.nD Cert.Upv.τ).loc Cert.Upv.main_arg1) = m ((c.tc : Thread Cert.Upv.nD Cert.Upv.τ).loc Cert.Upv.main_arg1))
      ∧ r.2.sem = fun _ => 0)

def quiescent_UpvIdeal [hUpvIdeal : Cert.UpvIdeal.Facts] : Prop :=
  ∀ (m : (ℓ : Loc Cert.UpvIdeal.nD Cert.UpvIdeal.τ Cert.UpvIdeal.sig) → Buf (Elt Ideal) ℓ) (g : Dev Cert.UpvIdeal.nD → PrngReg), Pre_UpvIdeal m →
    θ_run (Cert.UpvIdeal.defs (F := Ideal)) (onTc (τ := Cert.UpvIdeal.τ) (Cert.UpvIdeal.main (F := Ideal))) ⟨m, fun _ => 0, g⟩ (fun r => (∀ c : Dev Cert.UpvIdeal.nD,
      r.2.mem ((c.tc : Thread Cert.UpvIdeal.nD Cert.UpvIdeal.τ).loc Cert.UpvIdeal.main_arg0) = m ((c.tc : Thread Cert.UpvIdeal.nD Cert.UpvIdeal.τ).loc Cert.UpvIdeal.main_arg0)
      ∧ r.2.mem ((c.tc : Thread Cert.UpvIdeal.nD Cert.UpvIdeal.τ).loc Cert.UpvIdeal.main_arg1) = m ((c.tc : Thread Cert.UpvIdeal.nD Cert.UpvIdeal.τ).loc Cert.UpvIdeal.main_arg1))
      ∧ r.2.sem = fun _ => 0)

def quiescent_UpvRefIdeal [hUpvRefIdeal : Cert.UpvRefIdeal.Facts] : Prop :=
  ∀ (m : (ℓ : Loc Cert.UpvRefIdeal.nD Cert.UpvRefIdeal.τ Cert.UpvRefIdeal.sig) → Buf (Elt Ideal) ℓ) (g : Dev Cert.UpvRefIdeal.nD → PrngReg), Pre_UpvRefIdeal m →
    θ_run (Cert.UpvRefIdeal.defs (F := Ideal)) (onTc (τ := Cert.UpvRefIdeal.τ) (Cert.UpvRefIdeal.main (F := Ideal))) ⟨m, fun _ => 0, g⟩ (fun r => (∀ c : Dev Cert.UpvRefIdeal.nD,
      r.2.mem ((c.tc : Thread Cert.UpvRefIdeal.nD Cert.UpvRefIdeal.τ).loc Cert.UpvRefIdeal.main_arg0) = m ((c.tc : Thread Cert.UpvRefIdeal.nD Cert.UpvRefIdeal.τ).loc Cert.UpvRefIdeal.main_arg0)
      ∧ r.2.mem ((c.tc : Thread Cert.UpvRefIdeal.nD Cert.UpvRefIdeal.τ).loc Cert.UpvRefIdeal.main_arg1) = m ((c.tc : Thread Cert.UpvRefIdeal.nD Cert.UpvRefIdeal.τ).loc Cert.UpvRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dsq [hDsq : Cert.Dsq.Facts] : Prop :=
  ∀ (m : (ℓ : Loc Cert.Dsq.nD Cert.Dsq.τ Cert.Dsq.sig) → Buf (Elt Bits) ℓ) (g : Dev Cert.Dsq.nD → PrngReg), Pre_Dsq m →
    θ_run (Cert.Dsq.defs (F := Bits)) (onTc (τ := Cert.Dsq.τ) (Cert.Dsq.main (F := Bits))) ⟨m, fun _ => 0, g⟩ (fun r => (∀ c : Dev Cert.Dsq.nD,
      r.2.mem ((c.tc : Thread Cert.Dsq.nD Cert.Dsq.τ).loc Cert.Dsq.main_arg0) = m ((c.tc : Thread Cert.Dsq.nD Cert.Dsq.τ).loc Cert.Dsq.main_arg0)
      ∧ r.2.mem ((c.tc : Thread Cert.Dsq.nD Cert.Dsq.τ).loc Cert.Dsq.main_arg1) = m ((c.tc : Thread Cert.Dsq.nD Cert.Dsq.τ).loc Cert.Dsq.main_arg1))
      ∧ r.2.sem = fun _ => 0)

def quiescent_DsqIdeal [hDsqIdeal : Cert.DsqIdeal.Facts] : Prop :=
  ∀ (m : (ℓ : Loc Cert.DsqIdeal.nD Cert.DsqIdeal.τ Cert.DsqIdeal.sig) → Buf (Elt Ideal) ℓ) (g : Dev Cert.DsqIdeal.nD → PrngReg), Pre_DsqIdeal m →
    θ_run (Cert.DsqIdeal.defs (F := Ideal)) (onTc (τ := Cert.DsqIdeal.τ) (Cert.DsqIdeal.main (F := Ideal))) ⟨m, fun _ => 0, g⟩ (fun r => (∀ c : Dev Cert.DsqIdeal.nD,
      r.2.mem ((c.tc : Thread Cert.DsqIdeal.nD Cert.DsqIdeal.τ).loc Cert.DsqIdeal.main_arg0) = m ((c.tc : Thread Cert.DsqIdeal.nD Cert.DsqIdeal.τ).loc Cert.DsqIdeal.main_arg0)
      ∧ r.2.mem ((c.tc : Thread Cert.DsqIdeal.nD Cert.DsqIdeal.τ).loc Cert.DsqIdeal.main_arg1) = m ((c.tc : Thread Cert.DsqIdeal.nD Cert.DsqIdeal.τ).loc Cert.DsqIdeal.main_arg1))
      ∧ r.2.sem = fun _ => 0)

def quiescent_DsqRefIdeal [hDsqRefIdeal : Cert.DsqRefIdeal.Facts] : Prop :=
  ∀ (m : (ℓ : Loc Cert.DsqRefIdeal.nD Cert.DsqRefIdeal.τ Cert.DsqRefIdeal.sig) → Buf (Elt Ideal) ℓ) (g : Dev Cert.DsqRefIdeal.nD → PrngReg), Pre_DsqRefIdeal m →
    θ_run (Cert.DsqRefIdeal.defs (F := Ideal)) (onTc (τ := Cert.DsqRefIdeal.τ) (Cert.DsqRefIdeal.main (F := Ideal))) ⟨m, fun _ => 0, g⟩ (fun r => (∀ c : Dev Cert.DsqRefIdeal.nD,
      r.2.mem ((c.tc : Thread Cert.DsqRefIdeal.nD Cert.DsqRefIdeal.τ).loc Cert.DsqRefIdeal.main_arg0) = m ((c.tc : Thread Cert.DsqRefIdeal.nD Cert.DsqRefIdeal.τ).loc Cert.DsqRefIdeal.main_arg0)
      ∧ r.2.mem ((c.tc : Thread Cert.DsqRefIdeal.nD Cert.DsqRefIdeal.τ).loc Cert.DsqRefIdeal.main_arg1) = m ((c.tc : Thread Cert.DsqRefIdeal.nD Cert.DsqRefIdeal.τ).loc Cert.DsqRefIdeal.main_arg1))
      ∧ r.2.sem = fun _ => 0)

def quiescent_Dwsq [hDwsq : Cert.Dwsq.Facts] : Prop :=
  ∀ (m : (ℓ : Loc Cert.Dwsq.nD Cert.Dwsq.τ Cert.Dwsq.sig) → Buf (Elt Bits) ℓ) (g : Dev Cert.Dwsq.nD → PrngReg), Pre_Dwsq m →
    θ_run (Cert.Dwsq.defs (F := Bits)) (onTc (τ := Cert.Dwsq.τ) (Cert.Dwsq.main (F := Bits))) ⟨m, fun _ => 0, g⟩ (fun r => (∀ c : Dev Cert.Dwsq.nD,
      r.2.mem ((c.tc : Thread Cert.Dwsq.nD Cert.Dwsq.τ).loc Cert.Dwsq.main_arg0) = m ((c.tc : Thread Cert.Dwsq.nD Cert.Dwsq.τ).loc Cert.Dwsq.main_arg0)
      ∧ r.2.mem ((c.tc : Thread Cert.Dwsq.nD Cert.Dwsq.τ).loc Cert.Dwsq.main_arg1) = m ((c.tc : Thread Cert.Dwsq.nD Cert.Dwsq.τ).loc Cert.Dwsq.main_arg1))
      ∧ r.2.sem = fun _ => 0)

def quiescent_DwsqIdeal [hDwsqIdeal : Cert.DwsqIdeal.Facts] : Prop :=
  ∀ (m : (ℓ : Loc Cert.DwsqIdeal.nD Cert.DwsqIdeal.τ Cert.DwsqIdeal.sig) → Buf (Elt Ideal) ℓ) (g : Dev Cert.DwsqIdeal.nD → PrngReg), Pre_DwsqIdeal m →
    θ_run (Cert.DwsqIdeal.defs (F := Ideal)) (onTc (τ := Cert.DwsqIdeal.τ) (Cert.DwsqIdeal.main (F := Ideal))) ⟨m, fun _ => 0, g⟩ (fun r => (∀ c : Dev Cert.DwsqIdeal.nD,
      r.2.mem ((c.tc : Thread Cert.DwsqIdeal.nD Cert.DwsqIdeal.τ).loc Cert.DwsqIdeal.main_arg0) = m ((c.tc : Thread Cert.DwsqIdeal.nD Cert.DwsqIdeal.τ).loc Cert.DwsqIdeal.main_arg0)
      ∧ r.2.mem ((c.tc : Thread Cert.DwsqIdeal.nD Cert.DwsqIdeal.τ).loc Cert.DwsqIdeal.main_arg1) = m ((c.tc : Thread Cert.DwsqIdeal.nD Cert.DwsqIdeal.τ).loc Cert.DwsqIdeal.main_arg1))
      ∧ r.2.sem = fun _ => 0)

def quiescent_DwsqRefIdeal [hDwsqRefIdeal : Cert.DwsqRefIdeal.Facts] : Prop :=
  ∀ (m : (ℓ : Loc Cert.DwsqRefIdeal.nD Cert.DwsqRefIdeal.τ Cert.DwsqRefIdeal.sig) → Buf (Elt Ideal) ℓ) (g : Dev Cert.DwsqRefIdeal.nD → PrngReg), Pre_DwsqRefIdeal m →
    θ_run (Cert.DwsqRefIdeal.defs (F := Ideal)) (onTc (τ := Cert.DwsqRefIdeal.τ) (Cert.DwsqRefIdeal.main (F := Ideal))) ⟨m, fun _ => 0, g⟩ (fun r => (∀ c : Dev Cert.DwsqRefIdeal.nD,
      r.2.mem ((c.tc : Thread Cert.DwsqRefIdeal.nD Cert.DwsqRefIdeal.τ).loc Cert.DwsqRefIdeal.main_arg0) = m ((c.tc : Thread Cert.DwsqRefIdeal.nD Cert.DwsqRefIdeal.τ).loc Cert.DwsqRefIdeal.main_arg0)
      ∧ r.2.mem ((c.tc : Thread Cert.DwsqRefIdeal.nD Cert.DwsqRefIdeal.τ).loc Cert.DwsqRefIdeal.main_arg1) = m ((c.tc : Thread Cert.DwsqRefIdeal.nD Cert.DwsqRefIdeal.τ).loc Cert.DwsqRefIdeal.main_arg1))
      ∧ r.2.sem = fun _ => 0)

def quiescent_Dyt [hDyt : Cert.Dyt.Facts] : Prop :=
  ∀ (m : (ℓ : Loc Cert.Dyt.nD Cert.Dyt.τ Cert.Dyt.sig) → Buf (Elt Bits) ℓ) (g : Dev Cert.Dyt.nD → PrngReg), Pre_Dyt m →
    θ_run (Cert.Dyt.defs (F := Bits)) (onTc (τ := Cert.Dyt.τ) (Cert.Dyt.main (F := Bits))) ⟨m, fun _ => 0, g⟩ (fun r => (∀ c : Dev Cert.Dyt.nD,
      r.2.mem ((c.tc : Thread Cert.Dyt.nD Cert.Dyt.τ).loc Cert.Dyt.main_arg0) = m ((c.tc : Thread Cert.Dyt.nD Cert.Dyt.τ).loc Cert.Dyt.main_arg0)
      ∧ r.2.mem ((c.tc : Thread Cert.Dyt.nD Cert.Dyt.τ).loc Cert.Dyt.main_arg1) = m ((c.tc : Thread Cert.Dyt.nD Cert.Dyt.τ).loc Cert.Dyt.main_arg1))
      ∧ r.2.sem = fun _ => 0)

def quiescent_DytIdeal [hDytIdeal : Cert.DytIdeal.Facts] : Prop :=
  ∀ (m : (ℓ : Loc Cert.DytIdeal.nD Cert.DytIdeal.τ Cert.DytIdeal.sig) → Buf (Elt Ideal) ℓ) (g : Dev Cert.DytIdeal.nD → PrngReg), Pre_DytIdeal m →
    θ_run (Cert.DytIdeal.defs (F := Ideal)) (onTc (τ := Cert.DytIdeal.τ) (Cert.DytIdeal.main (F := Ideal))) ⟨m, fun _ => 0, g⟩ (fun r => (∀ c : Dev Cert.DytIdeal.nD,
      r.2.mem ((c.tc : Thread Cert.DytIdeal.nD Cert.DytIdeal.τ).loc Cert.DytIdeal.main_arg0) = m ((c.tc : Thread Cert.DytIdeal.nD Cert.DytIdeal.τ).loc Cert.DytIdeal.main_arg0)
      ∧ r.2.mem ((c.tc : Thread Cert.DytIdeal.nD Cert.DytIdeal.τ).loc Cert.DytIdeal.main_arg1) = m ((c.tc : Thread Cert.DytIdeal.nD Cert.DytIdeal.τ).loc Cert.DytIdeal.main_arg1))
      ∧ r.2.sem = fun _ => 0)

def quiescent_DytRefIdeal [hDytRefIdeal : Cert.DytRefIdeal.Facts] : Prop :=
  ∀ (m : (ℓ : Loc Cert.DytRefIdeal.nD Cert.DytRefIdeal.τ Cert.DytRefIdeal.sig) → Buf (Elt Ideal) ℓ) (g : Dev Cert.DytRefIdeal.nD → PrngReg), Pre_DytRefIdeal m →
    θ_run (Cert.DytRefIdeal.defs (F := Ideal)) (onTc (τ := Cert.DytRefIdeal.τ) (Cert.DytRefIdeal.main (F := Ideal))) ⟨m, fun _ => 0, g⟩ (fun r => (∀ c : Dev Cert.DytRefIdeal.nD,
      r.2.mem ((c.tc : Thread Cert.DytRefIdeal.nD Cert.DytRefIdeal.τ).loc Cert.DytRefIdeal.main_arg0) = m ((c.tc : Thread Cert.DytRefIdeal.nD Cert.DytRefIdeal.τ).loc Cert.DytRefIdeal.main_arg0)
      ∧ r.2.mem ((c.tc : Thread Cert.DytRefIdeal.nD Cert.DytRefIdeal.τ).loc Cert.DytRefIdeal.main_arg1) = m ((c.tc : Thread Cert.DytRefIdeal.nD Cert.DytRefIdeal.τ).loc Cert.DytRefIdeal.main_arg1))
      ∧ r.2.sem = fun _ => 0)

def quiescent_Dwco [hDwco : Cert.Dwco.Facts] : Prop :=
  ∀ (m : (ℓ : Loc Cert.Dwco.nD Cert.Dwco.τ Cert.Dwco.sig) → Buf (Elt Bits) ℓ) (g : Dev Cert.Dwco.nD → PrngReg), Pre_Dwco m →
    θ_run (Cert.Dwco.defs (F := Bits)) (onTc (τ := Cert.Dwco.τ) (Cert.Dwco.main (F := Bits))) ⟨m, fun _ => 0, g⟩ (fun r => (∀ c : Dev Cert.Dwco.nD,
      r.2.mem ((c.tc : Thread Cert.Dwco.nD Cert.Dwco.τ).loc Cert.Dwco.main_arg0) = m ((c.tc : Thread Cert.Dwco.nD Cert.Dwco.τ).loc Cert.Dwco.main_arg0)
      ∧ r.2.mem ((c.tc : Thread Cert.Dwco.nD Cert.Dwco.τ).loc Cert.Dwco.main_arg1) = m ((c.tc : Thread Cert.Dwco.nD Cert.Dwco.τ).loc Cert.Dwco.main_arg1))
      ∧ r.2.sem = fun _ => 0)

def quiescent_DwcoIdeal [hDwcoIdeal : Cert.DwcoIdeal.Facts] : Prop :=
  ∀ (m : (ℓ : Loc Cert.DwcoIdeal.nD Cert.DwcoIdeal.τ Cert.DwcoIdeal.sig) → Buf (Elt Ideal) ℓ) (g : Dev Cert.DwcoIdeal.nD → PrngReg), Pre_DwcoIdeal m →
    θ_run (Cert.DwcoIdeal.defs (F := Ideal)) (onTc (τ := Cert.DwcoIdeal.τ) (Cert.DwcoIdeal.main (F := Ideal))) ⟨m, fun _ => 0, g⟩ (fun r => (∀ c : Dev Cert.DwcoIdeal.nD,
      r.2.mem ((c.tc : Thread Cert.DwcoIdeal.nD Cert.DwcoIdeal.τ).loc Cert.DwcoIdeal.main_arg0) = m ((c.tc : Thread Cert.DwcoIdeal.nD Cert.DwcoIdeal.τ).loc Cert.DwcoIdeal.main_arg0)
      ∧ r.2.mem ((c.tc : Thread Cert.DwcoIdeal.nD Cert.DwcoIdeal.τ).loc Cert.DwcoIdeal.main_arg1) = m ((c.tc : Thread Cert.DwcoIdeal.nD Cert.DwcoIdeal.τ).loc Cert.DwcoIdeal.main_arg1))
      ∧ r.2.sem = fun _ => 0)

def quiescent_DwcoRefIdeal [hDwcoRefIdeal : Cert.DwcoRefIdeal.Facts] : Prop :=
  ∀ (m : (ℓ : Loc Cert.DwcoRefIdeal.nD Cert.DwcoRefIdeal.τ Cert.DwcoRefIdeal.sig) → Buf (Elt Ideal) ℓ) (g : Dev Cert.DwcoRefIdeal.nD → PrngReg), Pre_DwcoRefIdeal m →
    θ_run (Cert.DwcoRefIdeal.defs (F := Ideal)) (onTc (τ := Cert.DwcoRefIdeal.τ) (Cert.DwcoRefIdeal.main (F := Ideal))) ⟨m, fun _ => 0, g⟩ (fun r => (∀ c : Dev Cert.DwcoRefIdeal.nD,
      r.2.mem ((c.tc : Thread Cert.DwcoRefIdeal.nD Cert.DwcoRefIdeal.τ).loc Cert.DwcoRefIdeal.main_arg0) = m ((c.tc : Thread Cert.DwcoRefIdeal.nD Cert.DwcoRefIdeal.τ).loc Cert.DwcoRefIdeal.main_arg0)
      ∧ r.2.mem ((c.tc : Thread Cert.DwcoRefIdeal.nD Cert.DwcoRefIdeal.τ).loc Cert.DwcoRefIdeal.main_arg1) = m ((c.tc : Thread Cert.DwcoRefIdeal.nD Cert.DwcoRefIdeal.τ).loc Cert.DwcoRefIdeal.main_arg1))
      ∧ r.2.sem = fun _ => 0)

def quiescent_Qproj [hQproj : Cert.Qproj.Facts] : Prop :=
  ∀ (m : (ℓ : Loc Cert.Qproj.nD Cert.Qproj.τ Cert.Qproj.sig) → Buf (Elt Bits) ℓ) (g : Dev Cert.Qproj.nD → PrngReg), Pre_Qproj m →
    θ_run (Cert.Qproj.defs (F := Bits)) (onTc (τ := Cert.Qproj.τ) (Cert.Qproj.main (F := Bits))) ⟨m, fun _ => 0, g⟩ (fun r => (∀ c : Dev Cert.Qproj.nD,
      r.2.mem ((c.tc : Thread Cert.Qproj.nD Cert.Qproj.τ).loc Cert.Qproj.main_arg0) = m ((c.tc : Thread Cert.Qproj.nD Cert.Qproj.τ).loc Cert.Qproj.main_arg0)
      ∧ r.2.mem ((c.tc : Thread Cert.Qproj.nD Cert.Qproj.τ).loc Cert.Qproj.main_arg1) = m ((c.tc : Thread Cert.Qproj.nD Cert.Qproj.τ).loc Cert.Qproj.main_arg1))
      ∧ r.2.sem = fun _ => 0)

def quiescent_QprojIdeal [hQprojIdeal : Cert.QprojIdeal.Facts] : Prop :=
  ∀ (m : (ℓ : Loc Cert.QprojIdeal.nD Cert.QprojIdeal.τ Cert.QprojIdeal.sig) → Buf (Elt Ideal) ℓ) (g : Dev Cert.QprojIdeal.nD → PrngReg), Pre_QprojIdeal m →
    θ_run (Cert.QprojIdeal.defs (F := Ideal)) (onTc (τ := Cert.QprojIdeal.τ) (Cert.QprojIdeal.main (F := Ideal))) ⟨m, fun _ => 0, g⟩ (fun r => (∀ c : Dev Cert.QprojIdeal.nD,
      r.2.mem ((c.tc : Thread Cert.QprojIdeal.nD Cert.QprojIdeal.τ).loc Cert.QprojIdeal.main_arg0) = m ((c.tc : Thread Cert.QprojIdeal.nD Cert.QprojIdeal.τ).loc Cert.QprojIdeal.main_arg0)
      ∧ r.2.mem ((c.tc : Thread Cert.QprojIdeal.nD Cert.QprojIdeal.τ).loc Cert.QprojIdeal.main_arg1) = m ((c.tc : Thread Cert.QprojIdeal.nD Cert.QprojIdeal.τ).loc Cert.QprojIdeal.main_arg1))
      ∧ r.2.sem = fun _ => 0)

def quiescent_QprojRefIdeal [hQprojRefIdeal : Cert.QprojRefIdeal.Facts] : Prop :=
  ∀ (m : (ℓ : Loc Cert.QprojRefIdeal.nD Cert.QprojRefIdeal.τ Cert.QprojRefIdeal.sig) → Buf (Elt Ideal) ℓ) (g : Dev Cert.QprojRefIdeal.nD → PrngReg), Pre_QprojRefIdeal m →
    θ_run (Cert.QprojRefIdeal.defs (F := Ideal)) (onTc (τ := Cert.QprojRefIdeal.τ) (Cert.QprojRefIdeal.main (F := Ideal))) ⟨m, fun _ => 0, g⟩ (fun r => (∀ c : Dev Cert.QprojRefIdeal.nD,
      r.2.mem ((c.tc : Thread Cert.QprojRefIdeal.nD Cert.QprojRefIdeal.τ).loc Cert.QprojRefIdeal.main_arg0) = m ((c.tc : Thread Cert.QprojRefIdeal.nD Cert.QprojRefIdeal.τ).loc Cert.QprojRefIdeal.main_arg0)
      ∧ r.2.mem ((c.tc : Thread Cert.QprojRefIdeal.nD Cert.QprojRefIdeal.τ).loc Cert.QprojRefIdeal.main_arg1) = m ((c.tc : Thread Cert.QprojRefIdeal.nD Cert.QprojRefIdeal.τ).loc Cert.QprojRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2))
      ∧ r.2.sem = fun _ => 0)

def quiescent_Convout [hConvout : Cert.Convout.Facts] : Prop :=
  ∀ (m : (ℓ : Loc Cert.Convout.nD Cert.Convout.τ Cert.Convout.sig) → Buf (Elt Bits) ℓ) (g : Dev Cert.Convout.nD → PrngReg), Pre_Convout m →
    θ_run (Cert.Convout.defs (F := Bits)) (onTc (τ := Cert.Convout.τ) (Cert.Convout.main (F := Bits))) ⟨m, fun _ => 0, g⟩ (fun r => (∀ c : Dev Cert.Convout.nD,
      r.2.mem ((c.tc : Thread Cert.Convout.nD Cert.Convout.τ).loc Cert.Convout.main_arg0) = m ((c.tc : Thread Cert.Convout.nD Cert.Convout.τ).loc Cert.Convout.main_arg0)
      ∧ r.2.mem ((c.tc : Thread Cert.Convout.nD Cert.Convout.τ).loc Cert.Convout.main_arg1) = m ((c.tc : Thread Cert.Convout.nD Cert.Convout.τ).loc Cert.Convout.main_arg1))
      ∧ r.2.sem = fun _ => 0)

def quiescent_ConvoutIdeal [hConvoutIdeal : Cert.ConvoutIdeal.Facts] : Prop :=
  ∀ (m : (ℓ : Loc Cert.ConvoutIdeal.nD Cert.ConvoutIdeal.τ Cert.ConvoutIdeal.sig) → Buf (Elt Ideal) ℓ) (g : Dev Cert.ConvoutIdeal.nD → PrngReg), Pre_ConvoutIdeal m →
    θ_run (Cert.ConvoutIdeal.defs (F := Ideal)) (onTc (τ := Cert.ConvoutIdeal.τ) (Cert.ConvoutIdeal.main (F := Ideal))) ⟨m, fun _ => 0, g⟩ (fun r => (∀ c : Dev Cert.ConvoutIdeal.nD,
      r.2.mem ((c.tc : Thread Cert.ConvoutIdeal.nD Cert.ConvoutIdeal.τ).loc Cert.ConvoutIdeal.main_arg0) = m ((c.tc : Thread Cert.ConvoutIdeal.nD Cert.ConvoutIdeal.τ).loc Cert.ConvoutIdeal.main_arg0)
      ∧ r.2.mem ((c.tc : Thread Cert.ConvoutIdeal.nD Cert.ConvoutIdeal.τ).loc Cert.ConvoutIdeal.main_arg1) = m ((c.tc : Thread Cert.ConvoutIdeal.nD Cert.ConvoutIdeal.τ).loc Cert.ConvoutIdeal.main_arg1))
      ∧ r.2.sem = fun _ => 0)

def quiescent_ConvoutRefIdeal [hConvoutRefIdeal : Cert.ConvoutRefIdeal.Facts] : Prop :=
  ∀ (m : (ℓ : Loc Cert.ConvoutRefIdeal.nD Cert.ConvoutRefIdeal.τ Cert.ConvoutRefIdeal.sig) → Buf (Elt Ideal) ℓ) (g : Dev Cert.ConvoutRefIdeal.nD → PrngReg), Pre_ConvoutRefIdeal m →
    θ_run (Cert.ConvoutRefIdeal.defs (F := Ideal)) (onTc (τ := Cert.ConvoutRefIdeal.τ) (Cert.ConvoutRefIdeal.main (F := Ideal))) ⟨m, fun _ => 0, g⟩ (fun r => (∀ c : Dev Cert.ConvoutRefIdeal.nD,
      r.2.mem ((c.tc : Thread Cert.ConvoutRefIdeal.nD Cert.ConvoutRefIdeal.τ).loc Cert.ConvoutRefIdeal.main_arg0) = m ((c.tc : Thread Cert.ConvoutRefIdeal.nD Cert.ConvoutRefIdeal.τ).loc Cert.ConvoutRefIdeal.main_arg0)
      ∧ r.2.mem ((c.tc : Thread Cert.ConvoutRefIdeal.nD Cert.ConvoutRefIdeal.τ).loc Cert.ConvoutRefIdeal.main_arg1) = m ((c.tc : Thread Cert.ConvoutRefIdeal.nD Cert.ConvoutRefIdeal.τ).loc Cert.ConvoutRefIdeal.main_arg1))
      ∧ r.2.sem = fun _ => 0)

def quiescent_Kvproj [hKvproj : Cert.Kvproj.Facts] : Prop :=
  ∀ (m : (ℓ : Loc Cert.Kvproj.nD Cert.Kvproj.τ Cert.Kvproj.sig) → Buf (Elt Bits) ℓ) (g : Dev Cert.Kvproj.nD → PrngReg), Pre_Kvproj m →
    θ_run (Cert.Kvproj.defs (F := Bits)) (onTc (τ := Cert.Kvproj.τ) (Cert.Kvproj.main (F := Bits))) ⟨m, fun _ => 0, g⟩ (fun r => (∀ c : Dev Cert.Kvproj.nD,
      r.2.mem ((c.tc : Thread Cert.Kvproj.nD Cert.Kvproj.τ).loc Cert.Kvproj.main_arg0) = m ((c.tc : Thread Cert.Kvproj.nD Cert.Kvproj.τ).loc Cert.Kvproj.main_arg0)
      ∧ r.2.mem ((c.tc : Thread Cert.Kvproj.nD Cert.Kvproj.τ).loc Cert.Kvproj.main_arg1) = m ((c.tc : Thread Cert.Kvproj.nD Cert.Kvproj.τ).loc Cert.Kvproj.main_arg1))
      ∧ r.2.sem = fun _ => 0)

def quiescent_KvprojIdeal [hKvprojIdeal : Cert.KvprojIdeal.Facts] : Prop :=
  ∀ (m : (ℓ : Loc Cert.KvprojIdeal.nD Cert.KvprojIdeal.τ Cert.KvprojIdeal.sig) → Buf (Elt Ideal) ℓ) (g : Dev Cert.KvprojIdeal.nD → PrngReg), Pre_KvprojIdeal m →
    θ_run (Cert.KvprojIdeal.defs (F := Ideal)) (onTc (τ := Cert.KvprojIdeal.τ) (Cert.KvprojIdeal.main (F := Ideal))) ⟨m, fun _ => 0, g⟩ (fun r => (∀ c : Dev Cert.KvprojIdeal.nD,
      r.2.mem ((c.tc : Thread Cert.KvprojIdeal.nD Cert.KvprojIdeal.τ).loc Cert.KvprojIdeal.main_arg0) = m ((c.tc : Thread Cert.KvprojIdeal.nD Cert.KvprojIdeal.τ).loc Cert.KvprojIdeal.main_arg0)
      ∧ r.2.mem ((c.tc : Thread Cert.KvprojIdeal.nD Cert.KvprojIdeal.τ).loc Cert.KvprojIdeal.main_arg1) = m ((c.tc : Thread Cert.KvprojIdeal.nD Cert.KvprojIdeal.τ).loc Cert.KvprojIdeal.main_arg1))
      ∧ r.2.sem = fun _ => 0)

def quiescent_KvprojRefIdeal [hKvprojRefIdeal : Cert.KvprojRefIdeal.Facts] : Prop :=
  ∀ (m : (ℓ : Loc Cert.KvprojRefIdeal.nD Cert.KvprojRefIdeal.τ Cert.KvprojRefIdeal.sig) → Buf (Elt Ideal) ℓ) (g : Dev Cert.KvprojRefIdeal.nD → PrngReg), Pre_KvprojRefIdeal m →
    θ_run (Cert.KvprojRefIdeal.defs (F := Ideal)) (onTc (τ := Cert.KvprojRefIdeal.τ) (Cert.KvprojRefIdeal.main (F := Ideal))) ⟨m, fun _ => 0, g⟩ (fun r => (∀ c : Dev Cert.KvprojRefIdeal.nD,
      r.2.mem ((c.tc : Thread Cert.KvprojRefIdeal.nD Cert.KvprojRefIdeal.τ).loc Cert.KvprojRefIdeal.main_arg0) = m ((c.tc : Thread Cert.KvprojRefIdeal.nD Cert.KvprojRefIdeal.τ).loc Cert.KvprojRefIdeal.main_arg0)
      ∧ r.2.mem ((c.tc : Thread Cert.KvprojRefIdeal.nD Cert.KvprojRefIdeal.τ).loc Cert.KvprojRefIdeal.main_arg1) = m ((c.tc : Thread Cert.KvprojRefIdeal.nD Cert.KvprojRefIdeal.τ).loc Cert.KvprojRefIdeal.main_arg1))
      ∧ r.2.sem = fun _ => 0)

def quiescent_Dwkv [hDwkv : Cert.Dwkv.Facts] : Prop :=
  ∀ (m : (ℓ : Loc Cert.Dwkv.nD Cert.Dwkv.τ Cert.Dwkv.sig) → Buf (Elt Bits) ℓ) (g : Dev Cert.Dwkv.nD → PrngReg), Pre_Dwkv m →
    θ_run (Cert.Dwkv.defs (F := Bits)) (onTc (τ := Cert.Dwkv.τ) (Cert.Dwkv.main (F := Bits))) ⟨m, fun _ => 0, g⟩ (fun r => (∀ c : Dev Cert.Dwkv.nD,
      r.2.mem ((c.tc : Thread Cert.Dwkv.nD Cert.Dwkv.τ).loc Cert.Dwkv.main_arg0) = m ((c.tc : Thread Cert.Dwkv.nD Cert.Dwkv.τ).loc Cert.Dwkv.main_arg0)
      ∧ r.2.mem ((c.tc : Thread Cert.Dwkv.nD Cert.Dwkv.τ).loc Cert.Dwkv.main_arg1) = m ((c.tc : Thread Cert.Dwkv.nD Cert.Dwkv.τ).loc Cert.Dwkv.main_arg1))
      ∧ r.2.sem = fun _ => 0)

def quiescent_DwkvIdeal [hDwkvIdeal : Cert.DwkvIdeal.Facts] : Prop :=
  ∀ (m : (ℓ : Loc Cert.DwkvIdeal.nD Cert.DwkvIdeal.τ Cert.DwkvIdeal.sig) → Buf (Elt Ideal) ℓ) (g : Dev Cert.DwkvIdeal.nD → PrngReg), Pre_DwkvIdeal m →
    θ_run (Cert.DwkvIdeal.defs (F := Ideal)) (onTc (τ := Cert.DwkvIdeal.τ) (Cert.DwkvIdeal.main (F := Ideal))) ⟨m, fun _ => 0, g⟩ (fun r => (∀ c : Dev Cert.DwkvIdeal.nD,
      r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
      ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ r.2.sem = fun _ => 0)

def quiescent_DwkvRefIdeal [hDwkvRefIdeal : Cert.DwkvRefIdeal.Facts] : Prop :=
  ∀ (m : (ℓ : Loc Cert.DwkvRefIdeal.nD Cert.DwkvRefIdeal.τ Cert.DwkvRefIdeal.sig) → Buf (Elt Ideal) ℓ) (g : Dev Cert.DwkvRefIdeal.nD → PrngReg), Pre_DwkvRefIdeal m →
    θ_run (Cert.DwkvRefIdeal.defs (F := Ideal)) (onTc (τ := Cert.DwkvRefIdeal.τ) (Cert.DwkvRefIdeal.main (F := Ideal))) ⟨m, fun _ => 0, g⟩ (fun r => (∀ c : Dev Cert.DwkvRefIdeal.nD,
      r.2.mem ((c.tc : Thread Cert.DwkvRefIdeal.nD Cert.DwkvRefIdeal.τ).loc Cert.DwkvRefIdeal.main_arg0) = m ((c.tc : Thread Cert.DwkvRefIdeal.nD Cert.DwkvRefIdeal.τ).loc Cert.DwkvRefIdeal.main_arg0)
      ∧ r.2.mem ((c.tc : Thread Cert.DwkvRefIdeal.nD Cert.DwkvRefIdeal.τ).loc Cert.DwkvRefIdeal.main_arg1) = m ((c.tc : Thread Cert.DwkvRefIdeal.nD Cert.DwkvRefIdeal.τ).loc Cert.DwkvRefIdeal.main_arg1))
      ∧ r.2.sem = fun _ => 0)

def quiescent_Dmem [hDmem : Cert.Dmem.Facts] : Prop :=
  ∀ (m : (ℓ : Loc Cert.Dmem.nD Cert.Dmem.τ Cert.Dmem.sig) → Buf (Elt Bits) ℓ) (g : Dev Cert.Dmem.nD → PrngReg), Pre_Dmem m →
    θ_run (Cert.Dmem.defs (F := Bits)) (onTc (τ := Cert.Dmem.τ) (Cert.Dmem.main (F := Bits))) ⟨m, fun _ => 0, g⟩ (fun r => (∀ c : Dev Cert.Dmem.nD,
      r.2.mem ((c.tc : Thread Cert.Dmem.nD Cert.Dmem.τ).loc Cert.Dmem.main_arg0) = m ((c.tc : Thread Cert.Dmem.nD Cert.Dmem.τ).loc Cert.Dmem.main_arg0)
      ∧ r.2.mem ((c.tc : Thread Cert.Dmem.nD Cert.Dmem.τ).loc Cert.Dmem.main_arg1) = m ((c.tc : Thread Cert.Dmem.nD Cert.Dmem.τ).loc Cert.Dmem.main_arg1)
      ∧ r.2.mem ((c.tc : Thread Cert.Dmem.nD Cert.Dmem.τ).loc Cert.Dmem.main_arg2) = m ((c.tc : Thread Cert.Dmem.nD Cert.Dmem.τ).loc Cert.Dmem.main_arg2))
      ∧ r.2.sem = fun _ => 0)

def quiescent_DmemIdeal [hDmemIdeal : Cert.DmemIdeal.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
      ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2))
      ∧ r.2.sem = fun _ => 0)

def quiescent_DmemRefIdeal [hDmemRefIdeal : Cert.DmemRefIdeal.Facts] : Prop :=
  ∀ (m : (ℓ : Loc Cert.DmemRefIdeal.nD Cert.DmemRefIdeal.τ Cert.DmemRefIdeal.sig) → Buf (Elt Ideal) ℓ) (g : Dev Cert.DmemRefIdeal.nD → PrngReg), Pre_DmemRefIdeal m →
    θ_run (Cert.DmemRefIdeal.defs (F := Ideal)) (onTc (τ := Cert.DmemRefIdeal.τ) (Cert.DmemRefIdeal.main (F := Ideal))) ⟨m, fun _ => 0, g⟩ (fun r => (∀ c : Dev Cert.DmemRefIdeal.nD,
      r.2.mem ((c.tc : Thread Cert.DmemRefIdeal.nD Cert.DmemRefIdeal.τ).loc Cert.DmemRefIdeal.main_arg0) = m ((c.tc : Thread Cert.DmemRefIdeal.nD Cert.DmemRefIdeal.τ).loc Cert.DmemRefIdeal.main_arg0)
      ∧ r.2.mem ((c.tc : Thread Cert.DmemRefIdeal.nD Cert.DmemRefIdeal.τ).loc Cert.DmemRefIdeal.main_arg1) = m ((c.tc : Thread Cert.DmemRefIdeal.nD Cert.DmemRefIdeal.τ).loc Cert.DmemRefIdeal.main_arg1)
      ∧ r.2.mem ((c.tc : Thread Cert.DmemRefIdeal.nD Cert.DmemRefIdeal.τ).loc Cert.DmemRefIdeal.main_arg2) = m ((c.tc : Thread Cert.DmemRefIdeal.nD Cert.DmemRefIdeal.τ).loc Cert.DmemRefIdeal.main_arg2))
      ∧ r.2.sem = fun _ => 0)

def quiescent_Dmemtop [hDmemtop : Cert.Dmemtop.Facts] : Prop :=
  ∀ (m : (ℓ : Loc Cert.Dmemtop.nD Cert.Dmemtop.τ Cert.Dmemtop.sig) → Buf (Elt Bits) ℓ) (g : Dev Cert.Dmemtop.nD → PrngReg), Pre_Dmemtop m →
    θ_run (Cert.Dmemtop.defs (F := Bits)) (onTc (τ := Cert.Dmemtop.τ) (Cert.Dmemtop.main (F := Bits))) ⟨m, fun _ => 0, g⟩ (fun r => (∀ c : Dev Cert.Dmemtop.nD,
      r.2.mem ((c.tc : Thread Cert.Dmemtop.nD Cert.Dmemtop.τ).loc Cert.Dmemtop.main_arg0) = m ((c.tc : Thread Cert.Dmemtop.nD Cert.Dmemtop.τ).loc Cert.Dmemtop.main_arg0)
      ∧ r.2.mem ((c.tc : Thread Cert.Dmemtop.nD Cert.Dmemtop.τ).loc Cert.Dmemtop.main_arg1) = m ((c.tc : Thread Cert.Dmemtop.nD Cert.Dmemtop.τ).loc Cert.Dmemtop.main_arg1))
      ∧ r.2.sem = fun _ => 0)

def quiescent_DmemtopIdeal [hDmemtopIdeal : Cert.DmemtopIdeal.Facts] : Prop :=
  ∀ (m : (ℓ : Loc Cert.DmemtopIdeal.nD Cert.DmemtopIdeal.τ Cert.DmemtopIdeal.sig) → Buf (Elt Ideal) ℓ) (g : Dev Cert.DmemtopIdeal.nD → PrngReg), Pre_DmemtopIdeal m →
    θ_run (Cert.DmemtopIdeal.defs (F := Ideal)) (onTc (τ := Cert.DmemtopIdeal.τ) (Cert.DmemtopIdeal.main (F := Ideal))) ⟨m, fun _ => 0, g⟩ (fun r => (∀ c : Dev Cert.DmemtopIdeal.nD,
      r.2.mem ((c.tc : Thread Cert.DmemtopIdeal.nD Cert.DmemtopIdeal.τ).loc Cert.DmemtopIdeal.main_arg0) = m ((c.tc : Thread Cert.DmemtopIdeal.nD Cert.DmemtopIdeal.τ).loc Cert.DmemtopIdeal.main_arg0)
      ∧ r.2.mem ((c.tc : Thread Cert.DmemtopIdeal.nD Cert.DmemtopIdeal.τ).loc Cert.DmemtopIdeal.main_arg1) = m ((c.tc : Thread Cert.DmemtopIdeal.nD Cert.DmemtopIdeal.τ).loc Cert.DmemtopIdeal.main_arg1))
      ∧ r.2.sem = fun _ => 0)

def quiescent_DmemtopRefIdeal [hDmemtopRefIdeal : Cert.DmemtopRefIdeal.Facts] : Prop :=
  ∀ (m : (ℓ : Loc Cert.DmemtopRefIdeal.nD Cert.DmemtopRefIdeal.τ Cert.DmemtopRefIdeal.sig) → Buf (Elt Ideal) ℓ) (g : Dev Cert.DmemtopRefIdeal.nD → PrngReg), Pre_DmemtopRefIdeal m →
    θ_run (Cert.DmemtopRefIdeal.defs (F := Ideal)) (onTc (τ := Cert.DmemtopRefIdeal.τ) (Cert.DmemtopRefIdeal.main (F := Ideal))) ⟨m, fun _ => 0, g⟩ (fun r => (∀ c : Dev Cert.DmemtopRefIdeal.nD,
      r.2.mem ((c.tc : Thread Cert.DmemtopRefIdeal.nD Cert.DmemtopRefIdeal.τ).loc Cert.DmemtopRefIdeal.main_arg0) = m ((c.tc : Thread Cert.DmemtopRefIdeal.nD Cert.DmemtopRefIdeal.τ).loc Cert.DmemtopRefIdeal.main_arg0)
      ∧ r.2.mem ((c.tc : Thread Cert.DmemtopRefIdeal.nD Cert.DmemtopRefIdeal.τ).loc Cert.DmemtopRefIdeal.main_arg1) = m ((c.tc : Thread Cert.DmemtopRefIdeal.nD Cert.DmemtopRefIdeal.τ).loc Cert.DmemtopRefIdeal.main_arg1))
      ∧ r.2.sem = fun _ => 0)

def quiescent_Attnf [hAttnf : Cert.Attnf.Facts] : Prop :=
  ∀ (m : (ℓ : Loc Cert.Attnf.nD Cert.Attnf.τ Cert.Attnf.sig) → Buf (Elt Bits) ℓ) (g : Dev Cert.Attnf.nD → PrngReg), Pre_Attnf m →
    θ_run (Cert.Attnf.defs (F := Bits)) (onTc (τ := Cert.Attnf.τ) (Cert.Attnf.main (F := Bits))) ⟨m, fun _ => 0, g⟩ (fun r => (∀ c : Dev Cert.Attnf.nD,
      r.2.mem ((c.tc : Thread Cert.Attnf.nD Cert.Attnf.τ).loc Cert.Attnf.main_arg0) = m ((c.tc : Thread Cert.Attnf.nD Cert.Attnf.τ).loc Cert.Attnf.main_arg0)
      ∧ r.2.mem ((c.tc : Thread Cert.Attnf.nD Cert.Attnf.τ).loc Cert.Attnf.main_arg1) = m ((c.tc : Thread Cert.Attnf.nD Cert.Attnf.τ).loc Cert.Attnf.main_arg1))
      ∧ r.2.sem = fun _ => 0)

def quiescent_AttnfIdeal [hAttnfIdeal : Cert.AttnfIdeal.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ r.2.sem = fun _ => 0)

def quiescent_AttnfRefIdeal [hAttnfRefIdeal : Cert.AttnfRefIdeal.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1))
      ∧ r.2.sem = fun _ => 0)

def quiescent_Normf [hNormf : Cert.Normf.Facts] : Prop :=
  ∀ (m : (ℓ : Loc Cert.Normf.nD Cert.Normf.τ Cert.Normf.sig) → Buf (Elt Bits) ℓ) (g : Dev Cert.Normf.nD → PrngReg), Pre_Normf m →
    θ_run (Cert.Normf.defs (F := Bits)) (onTc (τ := Cert.Normf.τ) (Cert.Normf.main (F := Bits))) ⟨m, fun _ => 0, g⟩ (fun r => (∀ c : Dev Cert.Normf.nD,
      r.2.mem ((c.tc : Thread Cert.Normf.nD Cert.Normf.τ).loc Cert.Normf.main_arg0) = m ((c.tc : Thread Cert.Normf.nD Cert.Normf.τ).loc Cert.Normf.main_arg0)
      ∧ r.2.mem ((c.tc : Thread Cert.Normf.nD Cert.Normf.τ).loc Cert.Normf.main_arg1) = m ((c.tc : Thread Cert.Normf.nD Cert.Normf.τ).loc Cert.Normf.main_arg1))
      ∧ r.2.sem = fun _ => 0)

def quiescent_NormfIdeal [hNormfIdeal : Cert.NormfIdeal.Facts] : Prop :=
  ∀ (m : (ℓ : Loc Cert.NormfIdeal.nD Cert.NormfIdeal.τ Cert.NormfIdeal.sig) → Buf (Elt Ideal) ℓ) (g : Dev Cert.NormfIdeal.nD → PrngReg), Pre_NormfIdeal m →
    θ_run (Cert.NormfIdeal.defs (F := Ideal)) (onTc (τ := Cert.NormfIdeal.τ) (Cert.NormfIdeal.main (F := Ideal))) ⟨m, fun _ => 0, g⟩ (fun r => (∀ c : Dev Cert.NormfIdeal.nD,
      r.2.mem ((c.tc : Thread Cert.NormfIdeal.nD Cert.NormfIdeal.τ).loc Cert.NormfIdeal.main_arg0) = m ((c.tc : Thread Cert.NormfIdeal.nD Cert.NormfIdeal.τ).loc Cert.NormfIdeal.main_arg0)
      ∧ r.2.mem ((c.tc : Thread Cert.NormfIdeal.nD Cert.NormfIdeal.τ).loc Cert.NormfIdeal.main_arg1) = m ((c.tc : Thread Cert.NormfIdeal.nD Cert.NormfIdeal.τ).loc Cert.NormfIdeal.main_arg1))
      ∧ r.2.sem = fun _ => 0)

def quiescent_NormfRefIdeal [hNormfRefIdeal : Cert.NormfRefIdeal.Facts] : Prop :=
  ∀ (m : (ℓ : Loc Cert.NormfRefIdeal.nD Cert.NormfRefIdeal.τ Cert.NormfRefIdeal.sig) → Buf (Elt Ideal) ℓ) (g : Dev Cert.NormfRefIdeal.nD → PrngReg), Pre_NormfRefIdeal m →
    θ_run (Cert.NormfRefIdeal.defs (F := Ideal)) (onTc (τ := Cert.NormfRefIdeal.τ) (Cert.NormfRefIdeal.main (F := Ideal))) ⟨m, fun _ => 0, g⟩ (fun r => (∀ c : Dev Cert.NormfRefIdeal.nD,
      r.2.mem ((c.tc : Thread Cert.NormfRefIdeal.nD Cert.NormfRefIdeal.τ).loc Cert.NormfRefIdeal.main_arg0) = m ((c.tc : Thread Cert.NormfRefIdeal.nD Cert.NormfRefIdeal.τ).loc Cert.NormfRefIdeal.main_arg0)
      ∧ r.2.mem ((c.tc : Thread Cert.NormfRefIdeal.nD Cert.NormfRefIdeal.τ).loc Cert.NormfRefIdeal.main_arg1) = m ((c.tc : Thread Cert.NormfRefIdeal.nD Cert.NormfRefIdeal.τ).loc Cert.NormfRefIdeal.main_arg1))
      ∧ r.2.sem = fun _ => 0)

def quiescent_Memf [hMemf : Cert.Memf.Facts] : Prop :=
  ∀ (m : (ℓ : Loc Cert.Memf.nD Cert.Memf.τ Cert.Memf.sig) → Buf (Elt Bits) ℓ) (g : Dev Cert.Memf.nD → PrngReg), Pre_Memf m →
    θ_run (Cert.Memf.defs (F := Bits)) (onTc (τ := Cert.Memf.τ) (Cert.Memf.main (F := Bits))) ⟨m, fun _ => 0, g⟩ (fun r => (∀ c : Dev Cert.Memf.nD,
      r.2.mem ((c.tc : Thread Cert.Memf.nD Cert.Memf.τ).loc Cert.Memf.main_arg0) = m ((c.tc : Thread Cert.Memf.nD Cert.Memf.τ).loc Cert.Memf.main_arg0)
      ∧ r.2.mem ((c.tc : Thread Cert.Memf.nD Cert.Memf.τ).loc Cert.Memf.main_arg1) = m ((c.tc : Thread Cert.Memf.nD Cert.Memf.τ).loc Cert.Memf.main_arg1))
      ∧ r.2.sem = fun _ => 0)

def quiescent_MemfIdeal [hMemfIdeal : Cert.MemfIdeal.Facts] : Prop :=
  ∀ (m : (ℓ : Loc Cert.MemfIdeal.nD Cert.MemfIdeal.τ Cert.MemfIdeal.sig) → Buf (Elt Ideal) ℓ) (g : Dev Cert.MemfIdeal.nD → PrngReg), Pre_MemfIdeal m →
    θ_run (Cert.MemfIdeal.defs (F := Ideal)) (onTc (τ := Cert.MemfIdeal.τ) (Cert.MemfIdeal.main (F := Ideal))) ⟨m, fun _ => 0, g⟩ (fun r => (∀ c : Dev Cert.MemfIdeal.nD,
      r.2.mem ((c.tc : Thread Cert.MemfIdeal.nD Cert.MemfIdeal.τ).loc Cert.MemfIdeal.main_arg0) = m ((c.tc : Thread Cert.MemfIdeal.nD Cert.MemfIdeal.τ).loc Cert.MemfIdeal.main_arg0)
      ∧ r.2.mem ((c.tc : Thread Cert.MemfIdeal.nD Cert.MemfIdeal.τ).loc Cert.MemfIdeal.main_arg1) = m ((c.tc : Thread Cert.MemfIdeal.nD Cert.MemfIdeal.τ).loc Cert.MemfIdeal.main_arg1))
      ∧ r.2.sem = fun _ => 0)

def quiescent_MemfRefIdeal [hMemfRefIdeal : Cert.MemfRefIdeal.Facts] : Prop :=
  ∀ (m : (ℓ : Loc Cert.MemfRefIdeal.nD Cert.MemfRefIdeal.τ Cert.MemfRefIdeal.sig) → Buf (Elt Ideal) ℓ) (g : Dev Cert.MemfRefIdeal.nD → PrngReg), Pre_MemfRefIdeal m →
    θ_run (Cert.MemfRefIdeal.defs (F := Ideal)) (onTc (τ := Cert.MemfRefIdeal.τ) (Cert.MemfRefIdeal.main (F := Ideal))) ⟨m, fun _ => 0, g⟩ (fun r => (∀ c : Dev Cert.MemfRefIdeal.nD,
      r.2.mem ((c.tc : Thread Cert.MemfRefIdeal.nD Cert.MemfRefIdeal.τ).loc Cert.MemfRefIdeal.main_arg0) = m ((c.tc : Thread Cert.MemfRefIdeal.nD Cert.MemfRefIdeal.τ).loc Cert.MemfRefIdeal.main_arg0)
      ∧ r.2.mem ((c.tc : Thread Cert.MemfRefIdeal.nD Cert.MemfRefIdeal.τ).loc Cert.MemfRefIdeal.main_arg1) = m ((c.tc : Thread Cert.MemfRefIdeal.nD Cert.MemfRefIdeal.τ).loc Cert.MemfRefIdeal.main_arg1))
      ∧ r.2.sem = fun _ => 0)

def quiescent_Mergef [hMergef : Cert.Mergef.Facts] : Prop :=
  ∀ (m : (ℓ : Loc Cert.Mergef.nD Cert.Mergef.τ Cert.Mergef.sig) → Buf (Elt Bits) ℓ) (g : Dev Cert.Mergef.nD → PrngReg), Pre_Mergef m →
    θ_run (Cert.Mergef.defs (F := Bits)) (onTc (τ := Cert.Mergef.τ) (Cert.Mergef.main (F := Bits))) ⟨m, fun _ => 0, g⟩ (fun r => (∀ c : Dev Cert.Mergef.nD,
      r.2.mem ((c.tc : Thread Cert.Mergef.nD Cert.Mergef.τ).loc Cert.Mergef.main_arg0) = m ((c.tc : Thread Cert.Mergef.nD Cert.Mergef.τ).loc Cert.Mergef.main_arg0)
      ∧ r.2.mem ((c.tc : Thread Cert.Mergef.nD Cert.Mergef.τ).loc Cert.Mergef.main_arg1) = m ((c.tc : Thread Cert.Mergef.nD Cert.Mergef.τ).loc Cert.Mergef.main_arg1)
      ∧ r.2.mem ((c.tc : Thread Cert.Mergef.nD Cert.Mergef.τ).loc Cert.Mergef.main_arg2) = m ((c.tc : Thread Cert.Mergef.nD Cert.Mergef.τ).loc Cert.Mergef.main_arg2)
      ∧ r.2.mem ((c.tc : Thread Cert.Mergef.nD Cert.Mergef.τ).loc Cert.Mergef.main_arg3) = m ((c.tc : Thread Cert.Mergef.nD Cert.Mergef.τ).loc Cert.Mergef.main_arg3))
      ∧ r.2.sem = fun _ => 0)

def quiescent_MergefIdeal [hMergefIdeal : Cert.MergefIdeal.Facts] : Prop :=
  ∀ (m : (ℓ : Loc Cert.MergefIdeal.nD Cert.MergefIdeal.τ Cert.MergefIdeal.sig) → Buf (Elt Ideal) ℓ) (g : Dev Cert.MergefIdeal.nD → PrngReg), Pre_MergefIdeal m →
    θ_run (Cert.MergefIdeal.defs (F := Ideal)) (onTc (τ := Cert.MergefIdeal.τ) (Cert.MergefIdeal.main (F := Ideal))) ⟨m, fun _ => 0, g⟩ (fun r => (∀ c : Dev Cert.MergefIdeal.nD,
      r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
      ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
      ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
      ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3))
      ∧ r.2.sem = fun _ => 0)

def quiescent_MergefRefIdeal [hMergefRefIdeal : Cert.MergefRefIdeal.Facts] : Prop :=
  ∀ (m : (ℓ : Loc Cert.MergefRefIdeal.nD Cert.MergefRefIdeal.τ Cert.MergefRefIdeal.sig) → Buf (Elt Ideal) ℓ) (g : Dev Cert.MergefRefIdeal.nD → PrngReg), Pre_MergefRefIdeal m →
    θ_run (Cert.MergefRefIdeal.defs (F := Ideal)) (onTc (τ := Cert.MergefRefIdeal.τ) (Cert.MergefRefIdeal.main (F := Ideal))) ⟨m, fun _ => 0, g⟩ (fun r => (∀ c : Dev Cert.MergefRefIdeal.nD,
      r.2.mem ((c.tc : Thread Cert.MergefRefIdeal.nD Cert.MergefRefIdeal.τ).loc Cert.MergefRefIdeal.main_arg0) = m ((c.tc : Thread Cert.MergefRefIdeal.nD Cert.MergefRefIdeal.τ).loc Cert.MergefRefIdeal.main_arg0)
      ∧ r.2.mem ((c.tc : Thread Cert.MergefRefIdeal.nD Cert.MergefRefIdeal.τ).loc Cert.MergefRefIdeal.main_arg1) = m ((c.tc : Thread Cert.MergefRefIdeal.nD Cert.MergefRefIdeal.τ).loc Cert.MergefRefIdeal.main_arg1)
      ∧ r.2.mem ((c.tc : Thread Cert.MergefRefIdeal.nD Cert.MergefRefIdeal.τ).loc Cert.MergefRefIdeal.main_arg2) = m ((c.tc : Thread Cert.MergefRefIdeal.nD Cert.MergefRefIdeal.τ).loc Cert.MergefRefIdeal.main_arg2)
      ∧ r.2.mem ((c.tc : Thread Cert.MergefRefIdeal.nD Cert.MergefRefIdeal.τ).loc Cert.MergefRefIdeal.main_arg3) = m ((c.tc : Thread Cert.MergefRefIdeal.nD Cert.MergefRefIdeal.τ).loc Cert.MergefRefIdeal.main_arg3))
      ∧ r.2.sem = fun _ => 0)

def quiescent_Gproj [hGproj : Cert.Gproj.Facts] : Prop :=
  ∀ (m : (ℓ : Loc Cert.Gproj.nD Cert.Gproj.τ Cert.Gproj.sig) → Buf (Elt Bits) ℓ) (g : Dev Cert.Gproj.nD → PrngReg), Pre_Gproj m →
    θ_run (Cert.Gproj.defs (F := Bits)) (onTc (τ := Cert.Gproj.τ) (Cert.Gproj.main (F := Bits))) ⟨m, fun _ => 0, g⟩ (fun r => (∀ c : Dev Cert.Gproj.nD,
      r.2.mem ((c.tc : Thread Cert.Gproj.nD Cert.Gproj.τ).loc Cert.Gproj.main_arg0) = m ((c.tc : Thread Cert.Gproj.nD Cert.Gproj.τ).loc Cert.Gproj.main_arg0)
      ∧ r.2.mem ((c.tc : Thread Cert.Gproj.nD Cert.Gproj.τ).loc Cert.Gproj.main_arg1) = m ((c.tc : Thread Cert.Gproj.nD Cert.Gproj.τ).loc Cert.Gproj.main_arg1))
      ∧ r.2.sem = fun _ => 0)

def quiescent_GprojIdeal [hGprojIdeal : Cert.GprojIdeal.Facts] : Prop :=
  ∀ (m : (ℓ : Loc Cert.GprojIdeal.nD Cert.GprojIdeal.τ Cert.GprojIdeal.sig) → Buf (Elt Ideal) ℓ) (g : Dev Cert.GprojIdeal.nD → PrngReg), Pre_GprojIdeal m →
    θ_run (Cert.GprojIdeal.defs (F := Ideal)) (onTc (τ := Cert.GprojIdeal.τ) (Cert.GprojIdeal.main (F := Ideal))) ⟨m, fun _ => 0, g⟩ (fun r => (∀ c : Dev Cert.GprojIdeal.nD,
      r.2.mem ((c.tc : Thread Cert.GprojIdeal.nD Cert.GprojIdeal.τ).loc Cert.GprojIdeal.main_arg0) = m ((c.tc : Thread Cert.GprojIdeal.nD Cert.GprojIdeal.τ).loc Cert.GprojIdeal.main_arg0)
      ∧ r.2.mem ((c.tc : Thread Cert.GprojIdeal.nD Cert.GprojIdeal.τ).loc Cert.GprojIdeal.main_arg1) = m ((c.tc : Thread Cert.GprojIdeal.nD Cert.GprojIdeal.τ).loc Cert.GprojIdeal.main_arg1))
      ∧ r.2.sem = fun _ => 0)

def quiescent_GprojRefIdeal [hGprojRefIdeal : Cert.GprojRefIdeal.Facts] : Prop :=
  ∀ (m : (ℓ : Loc Cert.GprojRefIdeal.nD Cert.GprojRefIdeal.τ Cert.GprojRefIdeal.sig) → Buf (Elt Ideal) ℓ) (g : Dev Cert.GprojRefIdeal.nD → PrngReg), Pre_GprojRefIdeal m →
    θ_run (Cert.GprojRefIdeal.defs (F := Ideal)) (onTc (τ := Cert.GprojRefIdeal.τ) (Cert.GprojRefIdeal.main (F := Ideal))) ⟨m, fun _ => 0, g⟩ (fun r => (∀ c : Dev Cert.GprojRefIdeal.nD,
      r.2.mem ((c.tc : Thread Cert.GprojRefIdeal.nD Cert.GprojRefIdeal.τ).loc Cert.GprojRefIdeal.main_arg0) = m ((c.tc : Thread Cert.GprojRefIdeal.nD Cert.GprojRefIdeal.τ).loc Cert.GprojRefIdeal.main_arg0)
      ∧ r.2.mem ((c.tc : Thread Cert.GprojRefIdeal.nD Cert.GprojRefIdeal.τ).loc Cert.GprojRefIdeal.main_arg1) = m ((c.tc : Thread Cert.GprojRefIdeal.nD Cert.GprojRefIdeal.τ).loc Cert.GprojRefIdeal.main_arg1))
      ∧ r.2.sem = fun _ => 0)

def quiescent_Gdz [hGdz : Cert.Gdz.Facts] : Prop :=
  ∀ (m : (ℓ : Loc Cert.Gdz.nD Cert.Gdz.τ Cert.Gdz.sig) → Buf (Elt Bits) ℓ) (g : Dev Cert.Gdz.nD → PrngReg), Pre_Gdz m →
    θ_run (Cert.Gdz.defs (F := Bits)) (onTc (τ := Cert.Gdz.τ) (Cert.Gdz.main (F := Bits))) ⟨m, fun _ => 0, g⟩ (fun r => (∀ c : Dev Cert.Gdz.nD,
      r.2.mem ((c.tc : Thread Cert.Gdz.nD Cert.Gdz.τ).loc Cert.Gdz.main_arg0) = m ((c.tc : Thread Cert.Gdz.nD Cert.Gdz.τ).loc Cert.Gdz.main_arg0)
      ∧ r.2.mem ((c.tc : Thread Cert.Gdz.nD Cert.Gdz.τ).loc Cert.Gdz.main_arg1) = m ((c.tc : Thread Cert.Gdz.nD Cert.Gdz.τ).loc Cert.Gdz.main_arg1))
      ∧ r.2.sem = fun _ => 0)

def quiescent_GdzIdeal [hGdzIdeal : Cert.GdzIdeal.Facts] : Prop :=
  ∀ (m : (ℓ : Loc Cert.GdzIdeal.nD Cert.GdzIdeal.τ Cert.GdzIdeal.sig) → Buf (Elt Ideal) ℓ) (g : Dev Cert.GdzIdeal.nD → PrngReg), Pre_GdzIdeal m →
    θ_run (Cert.GdzIdeal.defs (F := Ideal)) (onTc (τ := Cert.GdzIdeal.τ) (Cert.GdzIdeal.main (F := Ideal))) ⟨m, fun _ => 0, g⟩ (fun r => (∀ c : Dev Cert.GdzIdeal.nD,
      r.2.mem ((c.tc : Thread Cert.GdzIdeal.nD Cert.GdzIdeal.τ).loc Cert.GdzIdeal.main_arg0) = m ((c.tc : Thread Cert.GdzIdeal.nD Cert.GdzIdeal.τ).loc Cert.GdzIdeal.main_arg0)
      ∧ r.2.mem ((c.tc : Thread Cert.GdzIdeal.nD Cert.GdzIdeal.τ).loc Cert.GdzIdeal.main_arg1) = m ((c.tc : Thread Cert.GdzIdeal.nD Cert.GdzIdeal.τ).loc Cert.GdzIdeal.main_arg1))
      ∧ r.2.sem = fun _ => 0)

def quiescent_GdzRefIdeal [hGdzRefIdeal : Cert.GdzRefIdeal.Facts] : Prop :=
  ∀ (m : (ℓ : Loc Cert.GdzRefIdeal.nD Cert.GdzRefIdeal.τ Cert.GdzRefIdeal.sig) → Buf (Elt Ideal) ℓ) (g : Dev Cert.GdzRefIdeal.nD → PrngReg), Pre_GdzRefIdeal m →
    θ_run (Cert.GdzRefIdeal.defs (F := Ideal)) (onTc (τ := Cert.GdzRefIdeal.τ) (Cert.GdzRefIdeal.main (F := Ideal))) ⟨m, fun _ => 0, g⟩ (fun r => (∀ c : Dev Cert.GdzRefIdeal.nD,
      r.2.mem ((c.tc : Thread Cert.GdzRefIdeal.nD Cert.GdzRefIdeal.τ).loc Cert.GdzRefIdeal.main_arg0) = m ((c.tc : Thread Cert.GdzRefIdeal.nD Cert.GdzRefIdeal.τ).loc Cert.GdzRefIdeal.main_arg0)
      ∧ r.2.mem ((c.tc : Thread Cert.GdzRefIdeal.nD Cert.GdzRefIdeal.τ).loc Cert.GdzRefIdeal.main_arg1) = m ((c.tc : Thread Cert.GdzRefIdeal.nD Cert.GdzRefIdeal.τ).loc Cert.GdzRefIdeal.main_arg1))
      ∧ r.2.sem = fun _ => 0)

def quiescent_Gdw [hGdw : Cert.Gdw.Facts] : Prop :=
  ∀ (m : (ℓ : Loc Cert.Gdw.nD Cert.Gdw.τ Cert.Gdw.sig) → Buf (Elt Bits) ℓ) (g : Dev Cert.Gdw.nD → PrngReg), Pre_Gdw m →
    θ_run (Cert.Gdw.defs (F := Bits)) (onTc (τ := Cert.Gdw.τ) (Cert.Gdw.main (F := Bits))) ⟨m, fun _ => 0, g⟩ (fun r => (∀ c : Dev Cert.Gdw.nD,
      r.2.mem ((c.tc : Thread Cert.Gdw.nD Cert.Gdw.τ).loc Cert.Gdw.main_arg0) = m ((c.tc : Thread Cert.Gdw.nD Cert.Gdw.τ).loc Cert.Gdw.main_arg0)
      ∧ r.2.mem ((c.tc : Thread Cert.Gdw.nD Cert.Gdw.τ).loc Cert.Gdw.main_arg1) = m ((c.tc : Thread Cert.Gdw.nD Cert.Gdw.τ).loc Cert.Gdw.main_arg1))
      ∧ r.2.sem = fun _ => 0)

def quiescent_GdwIdeal [hGdwIdeal : Cert.GdwIdeal.Facts] : Prop :=
  ∀ (m : (ℓ : Loc Cert.GdwIdeal.nD Cert.GdwIdeal.τ Cert.GdwIdeal.sig) → Buf (Elt Ideal) ℓ) (g : Dev Cert.GdwIdeal.nD → PrngReg), Pre_GdwIdeal m →
    θ_run (Cert.GdwIdeal.defs (F := Ideal)) (onTc (τ := Cert.GdwIdeal.τ) (Cert.GdwIdeal.main (F := Ideal))) ⟨m, fun _ => 0, g⟩ (fun r => (∀ c : Dev Cert.GdwIdeal.nD,
      r.2.mem ((c.tc : Thread Cert.GdwIdeal.nD Cert.GdwIdeal.τ).loc Cert.GdwIdeal.main_arg0) = m ((c.tc : Thread Cert.GdwIdeal.nD Cert.GdwIdeal.τ).loc Cert.GdwIdeal.main_arg0)
      ∧ r.2.mem ((c.tc : Thread Cert.GdwIdeal.nD Cert.GdwIdeal.τ).loc Cert.GdwIdeal.main_arg1) = m ((c.tc : Thread Cert.GdwIdeal.nD Cert.GdwIdeal.τ).loc Cert.GdwIdeal.main_arg1))
      ∧ r.2.sem = fun _ => 0)

def quiescent_GdwRefIdeal [hGdwRefIdeal : Cert.GdwRefIdeal.Facts] : Prop :=
  ∀ (m : (ℓ : Loc Cert.GdwRefIdeal.nD Cert.GdwRefIdeal.τ Cert.GdwRefIdeal.sig) → Buf (Elt Ideal) ℓ) (g : Dev Cert.GdwRefIdeal.nD → PrngReg), Pre_GdwRefIdeal m →
    θ_run (Cert.GdwRefIdeal.defs (F := Ideal)) (onTc (τ := Cert.GdwRefIdeal.τ) (Cert.GdwRefIdeal.main (F := Ideal))) ⟨m, fun _ => 0, g⟩ (fun r => (∀ c : Dev Cert.GdwRefIdeal.nD,
      r.2.mem ((c.tc : Thread Cert.GdwRefIdeal.nD Cert.GdwRefIdeal.τ).loc Cert.GdwRefIdeal.main_arg0) = m ((c.tc : Thread Cert.GdwRefIdeal.nD Cert.GdwRefIdeal.τ).loc Cert.GdwRefIdeal.main_arg0)
      ∧ r.2.mem ((c.tc : Thread Cert.GdwRefIdeal.nD Cert.GdwRefIdeal.τ).loc Cert.GdwRefIdeal.main_arg1) = m ((c.tc : Thread Cert.GdwRefIdeal.nD Cert.GdwRefIdeal.τ).loc Cert.GdwRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Memn [hMemn : Cert.Memn.Facts] : Prop :=
  ∀ (m : (ℓ : Loc Cert.Memn.nD Cert.Memn.τ Cert.Memn.sig) → Buf (Elt Bits) ℓ) (g : Dev Cert.Memn.nD → PrngReg), Pre_Memn m →
    θ_run (Cert.Memn.defs (F := Bits)) (onTc (τ := Cert.Memn.τ) (Cert.Memn.main (F := Bits))) ⟨m, fun _ => 0, g⟩ (fun r => (∀ c : Dev Cert.Memn.nD,
      r.2.mem ((c.tc : Thread Cert.Memn.nD Cert.Memn.τ).loc Cert.Memn.main_arg0) = m ((c.tc : Thread Cert.Memn.nD Cert.Memn.τ).loc Cert.Memn.main_arg0)
      ∧ r.2.mem ((c.tc : Thread Cert.Memn.nD Cert.Memn.τ).loc Cert.Memn.main_arg1) = m ((c.tc : Thread Cert.Memn.nD Cert.Memn.τ).loc Cert.Memn.main_arg1)
      ∧ r.2.mem ((c.tc : Thread Cert.Memn.nD Cert.Memn.τ).loc Cert.Memn.main_arg2) = m ((c.tc : Thread Cert.Memn.nD Cert.Memn.τ).loc Cert.Memn.main_arg2))
      ∧ r.2.sem = fun _ => 0)

def quiescent_MemnIdeal [hMemnIdeal : Cert.MemnIdeal.Facts] : Prop :=
  ∀ (m : (ℓ : Loc Cert.MemnIdeal.nD Cert.MemnIdeal.τ Cert.MemnIdeal.sig) → Buf (Elt Ideal) ℓ) (g : Dev Cert.MemnIdeal.nD → PrngReg), Pre_MemnIdeal m →
    θ_run (Cert.MemnIdeal.defs (F := Ideal)) (onTc (τ := Cert.MemnIdeal.τ) (Cert.MemnIdeal.main (F := Ideal))) ⟨m, fun _ => 0, g⟩ (fun r => (∀ c : Dev Cert.MemnIdeal.nD,
      r.2.mem ((c.tc : Thread Cert.MemnIdeal.nD Cert.MemnIdeal.τ).loc Cert.MemnIdeal.main_arg0) = m ((c.tc : Thread Cert.MemnIdeal.nD Cert.MemnIdeal.τ).loc Cert.MemnIdeal.main_arg0)
      ∧ r.2.mem ((c.tc : Thread Cert.MemnIdeal.nD Cert.MemnIdeal.τ).loc Cert.MemnIdeal.main_arg1) = m ((c.tc : Thread Cert.MemnIdeal.nD Cert.MemnIdeal.τ).loc Cert.MemnIdeal.main_arg1)
      ∧ r.2.mem ((c.tc : Thread Cert.MemnIdeal.nD Cert.MemnIdeal.τ).loc Cert.MemnIdeal.main_arg2) = m ((c.tc : Thread Cert.MemnIdeal.nD Cert.MemnIdeal.τ).loc Cert.MemnIdeal.main_arg2))
      ∧ r.2.sem = fun _ => 0)

def quiescent_MemnRefIdeal [hMemnRefIdeal : Cert.MemnRefIdeal.Facts] : Prop :=
  ∀ (m : (ℓ : Loc Cert.MemnRefIdeal.nD Cert.MemnRefIdeal.τ Cert.MemnRefIdeal.sig) → Buf (Elt Ideal) ℓ) (g : Dev Cert.MemnRefIdeal.nD → PrngReg), Pre_MemnRefIdeal m →
    θ_run (Cert.MemnRefIdeal.defs (F := Ideal)) (onTc (τ := Cert.MemnRefIdeal.τ) (Cert.MemnRefIdeal.main (F := Ideal))) ⟨m, fun _ => 0, g⟩ (fun r => (∀ c : Dev Cert.MemnRefIdeal.nD,
      r.2.mem ((c.tc : Thread Cert.MemnRefIdeal.nD Cert.MemnRefIdeal.τ).loc Cert.MemnRefIdeal.main_arg0) = m ((c.tc : Thread Cert.MemnRefIdeal.nD Cert.MemnRefIdeal.τ).loc Cert.MemnRefIdeal.main_arg0)
      ∧ r.2.mem ((c.tc : Thread Cert.MemnRefIdeal.nD Cert.MemnRefIdeal.τ).loc Cert.MemnRefIdeal.main_arg1) = m ((c.tc : Thread Cert.MemnRefIdeal.nD Cert.MemnRefIdeal.τ).loc Cert.MemnRefIdeal.main_arg1)
      ∧ r.2.mem ((c.tc : Thread Cert.MemnRefIdeal.nD Cert.MemnRefIdeal.τ).loc Cert.MemnRefIdeal.main_arg2) = m ((c.tc : Thread Cert.MemnRefIdeal.nD Cert.MemnRefIdeal.τ).loc Cert.MemnRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_Gmix [hGmix : Cert.Gmix.Facts] : Prop :=
  ∀ (m : (ℓ : Loc Cert.Gmix.nD Cert.Gmix.τ Cert.Gmix.sig) → Buf (Elt Bits) ℓ) (g : Dev Cert.Gmix.nD → PrngReg), Pre_Gmix m →
    θ_run (Cert.Gmix.defs (F := Bits)) (onTc (τ := Cert.Gmix.τ) (Cert.Gmix.main (F := Bits))) ⟨m, fun _ => 0, g⟩ (fun r => (∀ c : Dev Cert.Gmix.nD,
      r.2.mem ((c.tc : Thread Cert.Gmix.nD Cert.Gmix.τ).loc Cert.Gmix.main_arg0) = m ((c.tc : Thread Cert.Gmix.nD Cert.Gmix.τ).loc Cert.Gmix.main_arg0)
      ∧ r.2.mem ((c.tc : Thread Cert.Gmix.nD Cert.Gmix.τ).loc Cert.Gmix.main_arg1) = m ((c.tc : Thread Cert.Gmix.nD Cert.Gmix.τ).loc Cert.Gmix.main_arg1))
      ∧ r.2.sem = fun _ => 0)

def quiescent_GmixIdeal [hGmixIdeal : Cert.GmixIdeal.Facts] : Prop :=
  ∀ (m : (ℓ : Loc Cert.GmixIdeal.nD Cert.GmixIdeal.τ Cert.GmixIdeal.sig) → Buf (Elt Ideal) ℓ) (g : Dev Cert.GmixIdeal.nD → PrngReg), Pre_GmixIdeal m →
    θ_run (Cert.GmixIdeal.defs (F := Ideal)) (onTc (τ := Cert.GmixIdeal.τ) (Cert.GmixIdeal.main (F := Ideal))) ⟨m, fun _ => 0, g⟩ (fun r => (∀ c : Dev Cert.GmixIdeal.nD,
      r.2.mem ((c.tc : Thread Cert.GmixIdeal.nD Cert.GmixIdeal.τ).loc Cert.GmixIdeal.main_arg0) = m ((c.tc : Thread Cert.GmixIdeal.nD Cert.GmixIdeal.τ).loc Cert.GmixIdeal.main_arg0)
      ∧ r.2.mem ((c.tc : Thread Cert.GmixIdeal.nD Cert.GmixIdeal.τ).loc Cert.GmixIdeal.main_arg1) = m ((c.tc : Thread Cert.GmixIdeal.nD Cert.GmixIdeal.τ).loc Cert.GmixIdeal.main_arg1))
      ∧ r.2.sem = fun _ => 0)

def quiescent_GmixRefIdeal [hGmixRefIdeal : Cert.GmixRefIdeal.Facts] : Prop :=
  ∀ (m : (ℓ : Loc Cert.GmixRefIdeal.nD Cert.GmixRefIdeal.τ Cert.GmixRefIdeal.sig) → Buf (Elt Ideal) ℓ) (g : Dev Cert.GmixRefIdeal.nD → PrngReg), Pre_GmixRefIdeal m →
    θ_run (Cert.GmixRefIdeal.defs (F := Ideal)) (onTc (τ := Cert.GmixRefIdeal.τ) (Cert.GmixRefIdeal.main (F := Ideal))) ⟨m, fun _ => 0, g⟩ (fun r => (∀ c : Dev Cert.GmixRefIdeal.nD,
      r.2.mem ((c.tc : Thread Cert.GmixRefIdeal.nD Cert.GmixRefIdeal.τ).loc Cert.GmixRefIdeal.main_arg0) = m ((c.tc : Thread Cert.GmixRefIdeal.nD Cert.GmixRefIdeal.τ).loc Cert.GmixRefIdeal.main_arg0)
      ∧ r.2.mem ((c.tc : Thread Cert.GmixRefIdeal.nD Cert.GmixRefIdeal.τ).loc Cert.GmixRefIdeal.main_arg1) = m ((c.tc : Thread Cert.GmixRefIdeal.nD Cert.GmixRefIdeal.τ).loc Cert.GmixRefIdeal.main_arg1))
      ∧ r.2.sem = fun _ => 0)

def quiescent_Grest [hGrest : Cert.Grest.Facts] : Prop :=
  ∀ (m : (ℓ : Loc Cert.Grest.nD Cert.Grest.τ Cert.Grest.sig) → Buf (Elt Bits) ℓ) (g : Dev Cert.Grest.nD → PrngReg), Pre_Grest m →
    θ_run (Cert.Grest.defs (F := Bits)) (onTc (τ := Cert.Grest.τ) (Cert.Grest.main (F := Bits))) ⟨m, fun _ => 0, g⟩ (fun r => (∀ c : Dev Cert.Grest.nD,
      r.2.mem ((c.tc : Thread Cert.Grest.nD Cert.Grest.τ).loc Cert.Grest.main_arg0) = m ((c.tc : Thread Cert.Grest.nD Cert.Grest.τ).loc Cert.Grest.main_arg0)
      ∧ r.2.mem ((c.tc : Thread Cert.Grest.nD Cert.Grest.τ).loc Cert.Grest.main_arg1) = m ((c.tc : Thread Cert.Grest.nD Cert.Grest.τ).loc Cert.Grest.main_arg1))
      ∧ r.2.sem = fun _ => 0)

def quiescent_GrestIdeal [hGrestIdeal : Cert.GrestIdeal.Facts] : Prop :=
  ∀ (m : (ℓ : Loc Cert.GrestIdeal.nD Cert.GrestIdeal.τ Cert.GrestIdeal.sig) → Buf (Elt Ideal) ℓ) (g : Dev Cert.GrestIdeal.nD → PrngReg), Pre_GrestIdeal m →
    θ_run (Cert.GrestIdeal.defs (F := Ideal)) (onTc (τ := Cert.GrestIdeal.τ) (Cert.GrestIdeal.main (F := Ideal))) ⟨m, fun _ => 0, g⟩ (fun r => (∀ c : Dev Cert.GrestIdeal.nD,
      r.2.mem ((c.tc : Thread Cert.GrestIdeal.nD Cert.GrestIdeal.τ).loc Cert.GrestIdeal.main_arg0) = m ((c.tc : Thread Cert.GrestIdeal.nD Cert.GrestIdeal.τ).loc Cert.GrestIdeal.main_arg0)
      ∧ r.2.mem ((c.tc : Thread Cert.GrestIdeal.nD Cert.GrestIdeal.τ).loc Cert.GrestIdeal.main_arg1) = m ((c.tc : Thread Cert.GrestIdeal.nD Cert.GrestIdeal.τ).loc Cert.GrestIdeal.main_arg1))
      ∧ r.2.sem = fun _ => 0)

def quiescent_GrestRefIdeal [hGrestRefIdeal : Cert.GrestRefIdeal.Facts] : Prop :=
  ∀ (m : (ℓ : Loc Cert.GrestRefIdeal.nD Cert.GrestRefIdeal.τ Cert.GrestRefIdeal.sig) → Buf (Elt Ideal) ℓ) (g : Dev Cert.GrestRefIdeal.nD → PrngReg), Pre_GrestRefIdeal m →
    θ_run (Cert.GrestRefIdeal.defs (F := Ideal)) (onTc (τ := Cert.GrestRefIdeal.τ) (Cert.GrestRefIdeal.main (F := Ideal))) ⟨m, fun _ => 0, g⟩ (fun r => (∀ c : Dev Cert.GrestRefIdeal.nD,
      r.2.mem ((c.tc : Thread Cert.GrestRefIdeal.nD Cert.GrestRefIdeal.τ).loc Cert.GrestRefIdeal.main_arg0) = m ((c.tc : Thread Cert.GrestRefIdeal.nD Cert.GrestRefIdeal.τ).loc Cert.GrestRefIdeal.main_arg0)
      ∧ r.2.mem ((c.tc : Thread Cert.GrestRefIdeal.nD Cert.GrestRefIdeal.τ).loc Cert.GrestRefIdeal.main_arg1) = m ((c.tc : Thread Cert.GrestRefIdeal.nD Cert.GrestRefIdeal.τ).loc Cert.GrestRefIdeal.main_arg1))
      ∧ r.2.sem = fun _ => 0)

def quiescent_Gall [hGall : Cert.Gall.Facts] : Prop :=
  ∀ (m : (ℓ : Loc Cert.Gall.nD Cert.Gall.τ Cert.Gall.sig) → Buf (Elt Bits) ℓ) (g : Dev Cert.Gall.nD → PrngReg), Pre_Gall m →
    θ_run (Cert.Gall.defs (F := Bits)) (onTc (τ := Cert.Gall.τ) (Cert.Gall.main (F := Bits))) ⟨m, fun _ => 0, g⟩ (fun r => (∀ c : Dev Cert.Gall.nD,
      r.2.mem ((c.tc : Thread Cert.Gall.nD Cert.Gall.τ).loc Cert.Gall.main_arg0) = m ((c.tc : Thread Cert.Gall.nD Cert.Gall.τ).loc Cert.Gall.main_arg0)
      ∧ r.2.mem ((c.tc : Thread Cert.Gall.nD Cert.Gall.τ).loc Cert.Gall.main_arg1) = m ((c.tc : Thread Cert.Gall.nD Cert.Gall.τ).loc Cert.Gall.main_arg1))
      ∧ r.2.sem = fun _ => 0)

def quiescent_GallIdeal [hGallIdeal : Cert.GallIdeal.Facts] : Prop :=
  ∀ (m : (ℓ : Loc Cert.GallIdeal.nD Cert.GallIdeal.τ Cert.GallIdeal.sig) → Buf (Elt Ideal) ℓ) (g : Dev Cert.GallIdeal.nD → PrngReg), Pre_GallIdeal m →
    θ_run (Cert.GallIdeal.defs (F := Ideal)) (onTc (τ := Cert.GallIdeal.τ) (Cert.GallIdeal.main (F := Ideal))) ⟨m, fun _ => 0, g⟩ (fun r => (∀ c : Dev Cert.GallIdeal.nD,
      r.2.mem ((c.tc : Thread Cert.GallIdeal.nD Cert.GallIdeal.τ).loc Cert.GallIdeal.main_arg0) = m ((c.tc : Thread Cert.GallIdeal.nD Cert.GallIdeal.τ).loc Cert.GallIdeal.main_arg0)
      ∧ r.2.mem ((c.tc : Thread Cert.GallIdeal.nD Cert.GallIdeal.τ).loc Cert.GallIdeal.main_arg1) = m ((c.tc : Thread Cert.GallIdeal.nD Cert.GallIdeal.τ).loc Cert.GallIdeal.main_arg1))
      ∧ r.2.sem = fun _ => 0)

def quiescent_GallRefIdeal [hGallRefIdeal : Cert.GallRefIdeal.Facts] : Prop :=
  ∀ (m : (ℓ : Loc Cert.GallRefIdeal.nD Cert.GallRefIdeal.τ Cert.GallRefIdeal.sig) → Buf (Elt Ideal) ℓ) (g : Dev Cert.GallRefIdeal.nD → PrngReg), Pre_GallRefIdeal m →
    θ_run (Cert.GallRefIdeal.defs (F := Ideal)) (onTc (τ := Cert.GallRefIdeal.τ) (Cert.GallRefIdeal.main (F := Ideal))) ⟨m, fun _ => 0, g⟩ (fun r => (∀ c : Dev Cert.GallRefIdeal.nD,
      r.2.mem ((c.tc : Thread Cert.GallRefIdeal.nD Cert.GallRefIdeal.τ).loc Cert.GallRefIdeal.main_arg0) = m ((c.tc : Thread Cert.GallRefIdeal.nD Cert.GallRefIdeal.τ).loc Cert.GallRefIdeal.main_arg0)
      ∧ r.2.mem ((c.tc : Thread Cert.GallRefIdeal.nD Cert.GallRefIdeal.τ).loc Cert.GallRefIdeal.main_arg1) = m ((c.tc : Thread Cert.GallRefIdeal.nD Cert.GallRefIdeal.τ).loc Cert.GallRefIdeal.main_arg1))
      ∧ r.2.sem = fun _ => 0)

def quiescent_Adchan [hAdchan : Cert.Adchan.Facts] : Prop :=
  ∀ (m : (ℓ : Loc Cert.Adchan.nD Cert.Adchan.τ Cert.Adchan.sig) → Buf (Elt Bits) ℓ) (g : Dev Cert.Adchan.nD → PrngReg), Pre_Adchan m →
    θ_run (Cert.Adchan.defs (F := Bits)) (onTc (τ := Cert.Adchan.τ) (Cert.Adchan.main (F := Bits))) ⟨m, fun _ => 0, g⟩ (fun r => (∀ c : Dev Cert.Adchan.nD,
      r.2.mem ((c.tc : Thread Cert.Adchan.nD Cert.Adchan.τ).loc Cert.Adchan.main_arg0) = m ((c.tc : Thread Cert.Adchan.nD Cert.Adchan.τ).loc Cert.Adchan.main_arg0)
      ∧ r.2.mem ((c.tc : Thread Cert.Adchan.nD Cert.Adchan.τ).loc Cert.Adchan.main_arg1) = m ((c.tc : Thread Cert.Adchan.nD Cert.Adchan.τ).loc Cert.Adchan.main_arg1)
      ∧ r.2.mem ((c.tc : Thread Cert.Adchan.nD Cert.Adchan.τ).loc Cert.Adchan.main_arg2) = m ((c.tc : Thread Cert.Adchan.nD Cert.Adchan.τ).loc Cert.Adchan.main_arg2)
      ∧ r.2.mem ((c.tc : Thread Cert.Adchan.nD Cert.Adchan.τ).loc Cert.Adchan.main_arg3) = m ((c.tc : Thread Cert.Adchan.nD Cert.Adchan.τ).loc Cert.Adchan.main_arg3))
      ∧ r.2.sem = fun _ => 0)

def quiescent_AdchanIdeal [hAdchanIdeal : Cert.AdchanIdeal.Facts] : Prop :=
  ∀ (m : (ℓ : Loc Cert.AdchanIdeal.nD Cert.AdchanIdeal.τ Cert.AdchanIdeal.sig) → Buf (Elt Ideal) ℓ) (g : Dev Cert.AdchanIdeal.nD → PrngReg), Pre_AdchanIdeal m →
    θ_run (Cert.AdchanIdeal.defs (F := Ideal)) (onTc (τ := Cert.AdchanIdeal.τ) (Cert.AdchanIdeal.main (F := Ideal))) ⟨m, fun _ => 0, g⟩ (fun r => (∀ c : Dev Cert.AdchanIdeal.nD,
      r.2.mem ((c.tc : Thread Cert.AdchanIdeal.nD Cert.AdchanIdeal.τ).loc Cert.AdchanIdeal.main_arg0) = m ((c.tc : Thread Cert.AdchanIdeal.nD Cert.AdchanIdeal.τ).loc Cert.AdchanIdeal.main_arg0)
      ∧ r.2.mem ((c.tc : Thread Cert.AdchanIdeal.nD Cert.AdchanIdeal.τ).loc Cert.AdchanIdeal.main_arg1) = m ((c.tc : Thread Cert.AdchanIdeal.nD Cert.AdchanIdeal.τ).loc Cert.AdchanIdeal.main_arg1)
      ∧ r.2.mem ((c.tc : Thread Cert.AdchanIdeal.nD Cert.AdchanIdeal.τ).loc Cert.AdchanIdeal.main_arg2) = m ((c.tc : Thread Cert.AdchanIdeal.nD Cert.AdchanIdeal.τ).loc Cert.AdchanIdeal.main_arg2)
      ∧ r.2.mem ((c.tc : Thread Cert.AdchanIdeal.nD Cert.AdchanIdeal.τ).loc Cert.AdchanIdeal.main_arg3) = m ((c.tc : Thread Cert.AdchanIdeal.nD Cert.AdchanIdeal.τ).loc Cert.AdchanIdeal.main_arg3))
      ∧ r.2.sem = fun _ => 0)

def quiescent_AdchanRefIdeal [hAdchanRefIdeal : Cert.AdchanRefIdeal.Facts] : Prop :=
  ∀ (m : (ℓ : Loc Cert.AdchanRefIdeal.nD Cert.AdchanRefIdeal.τ Cert.AdchanRefIdeal.sig) → Buf (Elt Ideal) ℓ) (g : Dev Cert.AdchanRefIdeal.nD → PrngReg), Pre_AdchanRefIdeal m →
    θ_run (Cert.AdchanRefIdeal.defs (F := Ideal)) (onTc (τ := Cert.AdchanRefIdeal.τ) (Cert.AdchanRefIdeal.main (F := Ideal))) ⟨m, fun _ => 0, g⟩ (fun r => (∀ c : Dev Cert.AdchanRefIdeal.nD,
      r.2.mem ((c.tc : Thread Cert.AdchanRefIdeal.nD Cert.AdchanRefIdeal.τ).loc Cert.AdchanRefIdeal.main_arg0) = m ((c.tc : Thread Cert.AdchanRefIdeal.nD Cert.AdchanRefIdeal.τ).loc Cert.AdchanRefIdeal.main_arg0)
      ∧ r.2.mem ((c.tc : Thread Cert.AdchanRefIdeal.nD Cert.AdchanRefIdeal.τ).loc Cert.AdchanRefIdeal.main_arg1) = m ((c.tc : Thread Cert.AdchanRefIdeal.nD Cert.AdchanRefIdeal.τ).loc Cert.AdchanRefIdeal.main_arg1)
      ∧ r.2.mem ((c.tc : Thread Cert.AdchanRefIdeal.nD Cert.AdchanRefIdeal.τ).loc Cert.AdchanRefIdeal.main_arg2) = m ((c.tc : Thread Cert.AdchanRefIdeal.nD Cert.AdchanRefIdeal.τ).loc Cert.AdchanRefIdeal.main_arg2)
      ∧ r.2.mem ((c.tc : Thread Cert.AdchanRefIdeal.nD Cert.AdchanRefIdeal.τ).loc Cert.AdchanRefIdeal.main_arg3) = m ((c.tc : Thread Cert.AdchanRefIdeal.nD Cert.AdchanRefIdeal.τ).loc Cert.AdchanRefIdeal.main_arg3))
      ∧ r.2.sem = fun _ => 0)

def quiescent_Adconv [hAdconv : Cert.Adconv.Facts] : Prop :=
  ∀ (m : (ℓ : Loc Cert.Adconv.nD Cert.Adconv.τ Cert.Adconv.sig) → Buf (Elt Bits) ℓ) (g : Dev Cert.Adconv.nD → PrngReg), Pre_Adconv m →
    θ_run (Cert.Adconv.defs (F := Bits)) (onTc (τ := Cert.Adconv.τ) (Cert.Adconv.main (F := Bits))) ⟨m, fun _ => 0, g⟩ (fun r => (∀ c : Dev Cert.Adconv.nD,
      r.2.mem ((c.tc : Thread Cert.Adconv.nD Cert.Adconv.τ).loc Cert.Adconv.main_arg0) = m ((c.tc : Thread Cert.Adconv.nD Cert.Adconv.τ).loc Cert.Adconv.main_arg0)
      ∧ r.2.mem ((c.tc : Thread Cert.Adconv.nD Cert.Adconv.τ).loc Cert.Adconv.main_arg1) = m ((c.tc : Thread Cert.Adconv.nD Cert.Adconv.τ).loc Cert.Adconv.main_arg1)
      ∧ r.2.mem ((c.tc : Thread Cert.Adconv.nD Cert.Adconv.τ).loc Cert.Adconv.main_arg2) = m ((c.tc : Thread Cert.Adconv.nD Cert.Adconv.τ).loc Cert.Adconv.main_arg2)
      ∧ r.2.mem ((c.tc : Thread Cert.Adconv.nD Cert.Adconv.τ).loc Cert.Adconv.main_arg3) = m ((c.tc : Thread Cert.Adconv.nD Cert.Adconv.τ).loc Cert.Adconv.main_arg3))
      ∧ r.2.sem = fun _ => 0)

def quiescent_AdconvIdeal [hAdconvIdeal : Cert.AdconvIdeal.Facts] : Prop :=
  ∀ (m : (ℓ : Loc Cert.AdconvIdeal.nD Cert.AdconvIdeal.τ Cert.AdconvIdeal.sig) → Buf (Elt Ideal) ℓ) (g : Dev Cert.AdconvIdeal.nD → PrngReg), Pre_AdconvIdeal m →
    θ_run (Cert.AdconvIdeal.defs (F := Ideal)) (onTc (τ := Cert.AdconvIdeal.τ) (Cert.AdconvIdeal.main (F := Ideal))) ⟨m, fun _ => 0, g⟩ (fun r => (∀ c : Dev Cert.AdconvIdeal.nD,
      r.2.mem ((c.tc : Thread Cert.AdconvIdeal.nD Cert.AdconvIdeal.τ).loc Cert.AdconvIdeal.main_arg0) = m ((c.tc : Thread Cert.AdconvIdeal.nD Cert.AdconvIdeal.τ).loc Cert.AdconvIdeal.main_arg0)
      ∧ r.2.mem ((c.tc : Thread Cert.AdconvIdeal.nD Cert.AdconvIdeal.τ).loc Cert.AdconvIdeal.main_arg1) = m ((c.tc : Thread Cert.AdconvIdeal.nD Cert.AdconvIdeal.τ).loc Cert.AdconvIdeal.main_arg1)
      ∧ r.2.mem ((c.tc : Thread Cert.AdconvIdeal.nD Cert.AdconvIdeal.τ).loc Cert.AdconvIdeal.main_arg2) = m ((c.tc : Thread Cert.AdconvIdeal.nD Cert.AdconvIdeal.τ).loc Cert.AdconvIdeal.main_arg2)
      ∧ r.2.mem ((c.tc : Thread Cert.AdconvIdeal.nD Cert.AdconvIdeal.τ).loc Cert.AdconvIdeal.main_arg3) = m ((c.tc : Thread Cert.AdconvIdeal.nD Cert.AdconvIdeal.τ).loc Cert.AdconvIdeal.main_arg3))
      ∧ r.2.sem = fun _ => 0)

def quiescent_AdconvRefIdeal [hAdconvRefIdeal : Cert.AdconvRefIdeal.Facts] : Prop :=
  ∀ (m : (ℓ : Loc Cert.AdconvRefIdeal.nD Cert.AdconvRefIdeal.τ Cert.AdconvRefIdeal.sig) → Buf (Elt Ideal) ℓ) (g : Dev Cert.AdconvRefIdeal.nD → PrngReg), Pre_AdconvRefIdeal m →
    θ_run (Cert.AdconvRefIdeal.defs (F := Ideal)) (onTc (τ := Cert.AdconvRefIdeal.τ) (Cert.AdconvRefIdeal.main (F := Ideal))) ⟨m, fun _ => 0, g⟩ (fun r => (∀ c : Dev Cert.AdconvRefIdeal.nD,
      r.2.mem ((c.tc : Thread Cert.AdconvRefIdeal.nD Cert.AdconvRefIdeal.τ).loc Cert.AdconvRefIdeal.main_arg0) = m ((c.tc : Thread Cert.AdconvRefIdeal.nD Cert.AdconvRefIdeal.τ).loc Cert.AdconvRefIdeal.main_arg0)
      ∧ r.2.mem ((c.tc : Thread Cert.AdconvRefIdeal.nD Cert.AdconvRefIdeal.τ).loc Cert.AdconvRefIdeal.main_arg1) = m ((c.tc : Thread Cert.AdconvRefIdeal.nD Cert.AdconvRefIdeal.τ).loc Cert.AdconvRefIdeal.main_arg1)
      ∧ r.2.mem ((c.tc : Thread Cert.AdconvRefIdeal.nD Cert.AdconvRefIdeal.τ).loc Cert.AdconvRefIdeal.main_arg2) = m ((c.tc : Thread Cert.AdconvRefIdeal.nD Cert.AdconvRefIdeal.τ).loc Cert.AdconvRefIdeal.main_arg2)
      ∧ r.2.mem ((c.tc : Thread Cert.AdconvRefIdeal.nD Cert.AdconvRefIdeal.τ).loc Cert.AdconvRefIdeal.main_arg3) = m ((c.tc : Thread Cert.AdconvRefIdeal.nD Cert.AdconvRefIdeal.τ).loc Cert.AdconvRefIdeal.main_arg3))
      ∧ r.2.sem = fun _ => 0)

def quiescent_Adgain [hAdgain : Cert.Adgain.Facts] : Prop :=
  ∀ (m : (ℓ : Loc Cert.Adgain.nD Cert.Adgain.τ Cert.Adgain.sig) → Buf (Elt Bits) ℓ) (g : Dev Cert.Adgain.nD → PrngReg), Pre_Adgain m →
    θ_run (Cert.Adgain.defs (F := Bits)) (onTc (τ := Cert.Adgain.τ) (Cert.Adgain.main (F := Bits))) ⟨m, fun _ => 0, g⟩ (fun r => (∀ c : Dev Cert.Adgain.nD,
      r.2.mem ((c.tc : Thread Cert.Adgain.nD Cert.Adgain.τ).loc Cert.Adgain.main_arg0) = m ((c.tc : Thread Cert.Adgain.nD Cert.Adgain.τ).loc Cert.Adgain.main_arg0)
      ∧ r.2.mem ((c.tc : Thread Cert.Adgain.nD Cert.Adgain.τ).loc Cert.Adgain.main_arg1) = m ((c.tc : Thread Cert.Adgain.nD Cert.Adgain.τ).loc Cert.Adgain.main_arg1)
      ∧ r.2.mem ((c.tc : Thread Cert.Adgain.nD Cert.Adgain.τ).loc Cert.Adgain.main_arg2) = m ((c.tc : Thread Cert.Adgain.nD Cert.Adgain.τ).loc Cert.Adgain.main_arg2)
      ∧ r.2.mem ((c.tc : Thread Cert.Adgain.nD Cert.Adgain.τ).loc Cert.Adgain.main_arg3) = m ((c.tc : Thread Cert.Adgain.nD Cert.Adgain.τ).loc Cert.Adgain.main_arg3))
      ∧ r.2.sem = fun _ => 0)

def quiescent_AdgainIdeal [hAdgainIdeal : Cert.AdgainIdeal.Facts] : Prop :=
  ∀ (m : (ℓ : Loc Cert.AdgainIdeal.nD Cert.AdgainIdeal.τ Cert.AdgainIdeal.sig) → Buf (Elt Ideal) ℓ) (g : Dev Cert.AdgainIdeal.nD → PrngReg), Pre_AdgainIdeal m →
    θ_run (Cert.AdgainIdeal.defs (F := Ideal)) (onTc (τ := Cert.AdgainIdeal.τ) (Cert.AdgainIdeal.main (F := Ideal))) ⟨m, fun _ => 0, g⟩ (fun r => (∀ c : Dev Cert.AdgainIdeal.nD,
      r.2.mem ((c.tc : Thread Cert.AdgainIdeal.nD Cert.AdgainIdeal.τ).loc Cert.AdgainIdeal.main_arg0) = m ((c.tc : Thread Cert.AdgainIdeal.nD Cert.AdgainIdeal.τ).loc Cert.AdgainIdeal.main_arg0)
      ∧ r.2.mem ((c.tc : Thread Cert.AdgainIdeal.nD Cert.AdgainIdeal.τ).loc Cert.AdgainIdeal.main_arg1) = m ((c.tc : Thread Cert.AdgainIdeal.nD Cert.AdgainIdeal.τ).loc Cert.AdgainIdeal.main_arg1)
      ∧ r.2.mem ((c.tc : Thread Cert.AdgainIdeal.nD Cert.AdgainIdeal.τ).loc Cert.AdgainIdeal.main_arg2) = m ((c.tc : Thread Cert.AdgainIdeal.nD Cert.AdgainIdeal.τ).loc Cert.AdgainIdeal.main_arg2)
      ∧ r.2.mem ((c.tc : Thread Cert.AdgainIdeal.nD Cert.AdgainIdeal.τ).loc Cert.AdgainIdeal.main_arg3) = m ((c.tc : Thread Cert.AdgainIdeal.nD Cert.AdgainIdeal.τ).loc Cert.AdgainIdeal.main_arg3))
      ∧ r.2.sem = fun _ => 0)

def quiescent_AdgainRefIdeal [hAdgainRefIdeal : Cert.AdgainRefIdeal.Facts] : Prop :=
  ∀ (m : (ℓ : Loc Cert.AdgainRefIdeal.nD Cert.AdgainRefIdeal.τ Cert.AdgainRefIdeal.sig) → Buf (Elt Ideal) ℓ) (g : Dev Cert.AdgainRefIdeal.nD → PrngReg), Pre_AdgainRefIdeal m →
    θ_run (Cert.AdgainRefIdeal.defs (F := Ideal)) (onTc (τ := Cert.AdgainRefIdeal.τ) (Cert.AdgainRefIdeal.main (F := Ideal))) ⟨m, fun _ => 0, g⟩ (fun r => (∀ c : Dev Cert.AdgainRefIdeal.nD,
      r.2.mem ((c.tc : Thread Cert.AdgainRefIdeal.nD Cert.AdgainRefIdeal.τ).loc Cert.AdgainRefIdeal.main_arg0) = m ((c.tc : Thread Cert.AdgainRefIdeal.nD Cert.AdgainRefIdeal.τ).loc Cert.AdgainRefIdeal.main_arg0)
      ∧ r.2.mem ((c.tc : Thread Cert.AdgainRefIdeal.nD Cert.AdgainRefIdeal.τ).loc Cert.AdgainRefIdeal.main_arg1) = m ((c.tc : Thread Cert.AdgainRefIdeal.nD Cert.AdgainRefIdeal.τ).loc Cert.AdgainRefIdeal.main_arg1)
      ∧ r.2.mem ((c.tc : Thread Cert.AdgainRefIdeal.nD Cert.AdgainRefIdeal.τ).loc Cert.AdgainRefIdeal.main_arg2) = m ((c.tc : Thread Cert.AdgainRefIdeal.nD Cert.AdgainRefIdeal.τ).loc Cert.AdgainRefIdeal.main_arg2)
      ∧ r.2.mem ((c.tc : Thread Cert.AdgainRefIdeal.nD Cert.AdgainRefIdeal.τ).loc Cert.AdgainRefIdeal.main_arg3) = m ((c.tc : Thread Cert.AdgainRefIdeal.nD Cert.AdgainRefIdeal.τ).loc Cert.AdgainRefIdeal.main_arg3))
      ∧ r.2.sem = fun _ => 0)

def quiescent_Adfilt [hAdfilt : Cert.Adfilt.Facts] : Prop :=
  ∀ (m : (ℓ : Loc Cert.Adfilt.nD Cert.Adfilt.τ Cert.Adfilt.sig) → Buf (Elt Bits) ℓ) (g : Dev Cert.Adfilt.nD → PrngReg), Pre_Adfilt m →
    θ_run (Cert.Adfilt.defs (F := Bits)) (onTc (τ := Cert.Adfilt.τ) (Cert.Adfilt.main (F := Bits))) ⟨m, fun _ => 0, g⟩ (fun r => (∀ c : Dev Cert.Adfilt.nD,
      r.2.mem ((c.tc : Thread Cert.Adfilt.nD Cert.Adfilt.τ).loc Cert.Adfilt.main_arg0) = m ((c.tc : Thread Cert.Adfilt.nD Cert.Adfilt.τ).loc Cert.Adfilt.main_arg0)
      ∧ r.2.mem ((c.tc : Thread Cert.Adfilt.nD Cert.Adfilt.τ).loc Cert.Adfilt.main_arg1) = m ((c.tc : Thread Cert.Adfilt.nD Cert.Adfilt.τ).loc Cert.Adfilt.main_arg1)
      ∧ r.2.mem ((c.tc : Thread Cert.Adfilt.nD Cert.Adfilt.τ).loc Cert.Adfilt.main_arg2) = m ((c.tc : Thread Cert.Adfilt.nD Cert.Adfilt.τ).loc Cert.Adfilt.main_arg2)
      ∧ r.2.mem ((c.tc : Thread Cert.Adfilt.nD Cert.Adfilt.τ).loc Cert.Adfilt.main_arg3) = m ((c.tc : Thread Cert.Adfilt.nD Cert.Adfilt.τ).loc Cert.Adfilt.main_arg3))
      ∧ r.2.sem = fun _ => 0)

def quiescent_AdfiltIdeal [hAdfiltIdeal : Cert.AdfiltIdeal.Facts] : Prop :=
  ∀ (m : (ℓ : Loc Cert.AdfiltIdeal.nD Cert.AdfiltIdeal.τ Cert.AdfiltIdeal.sig) → Buf (Elt Ideal) ℓ) (g : Dev Cert.AdfiltIdeal.nD → PrngReg), Pre_AdfiltIdeal m →
    θ_run (Cert.AdfiltIdeal.defs (F := Ideal)) (onTc (τ := Cert.AdfiltIdeal.τ) (Cert.AdfiltIdeal.main (F := Ideal))) ⟨m, fun _ => 0, g⟩ (fun r => (∀ c : Dev Cert.AdfiltIdeal.nD,
      r.2.mem ((c.tc : Thread Cert.AdfiltIdeal.nD Cert.AdfiltIdeal.τ).loc Cert.AdfiltIdeal.main_arg0) = m ((c.tc : Thread Cert.AdfiltIdeal.nD Cert.AdfiltIdeal.τ).loc Cert.AdfiltIdeal.main_arg0)
      ∧ r.2.mem ((c.tc : Thread Cert.AdfiltIdeal.nD Cert.AdfiltIdeal.τ).loc Cert.AdfiltIdeal.main_arg1) = m ((c.tc : Thread Cert.AdfiltIdeal.nD Cert.AdfiltIdeal.τ).loc Cert.AdfiltIdeal.main_arg1)
      ∧ r.2.mem ((c.tc : Thread Cert.AdfiltIdeal.nD Cert.AdfiltIdeal.τ).loc Cert.AdfiltIdeal.main_arg2) = m ((c.tc : Thread Cert.AdfiltIdeal.nD Cert.AdfiltIdeal.τ).loc Cert.AdfiltIdeal.main_arg2)
      ∧ r.2.mem ((c.tc : Thread Cert.AdfiltIdeal.nD Cert.AdfiltIdeal.τ).loc Cert.AdfiltIdeal.main_arg3) = m ((c.tc : Thread Cert.AdfiltIdeal.nD Cert.AdfiltIdeal.τ).loc Cert.AdfiltIdeal.main_arg3))
      ∧ r.2.sem = fun _ => 0)

def quiescent_AdfiltRefIdeal [hAdfiltRefIdeal : Cert.AdfiltRefIdeal.Facts] : Prop :=
  ∀ (m : (ℓ : Loc Cert.AdfiltRefIdeal.nD Cert.AdfiltRefIdeal.τ Cert.AdfiltRefIdeal.sig) → Buf (Elt Ideal) ℓ) (g : Dev Cert.AdfiltRefIdeal.nD → PrngReg), Pre_AdfiltRefIdeal m →
    θ_run (Cert.AdfiltRefIdeal.defs (F := Ideal)) (onTc (τ := Cert.AdfiltRefIdeal.τ) (Cert.AdfiltRefIdeal.main (F := Ideal))) ⟨m, fun _ => 0, g⟩ (fun r => (∀ c : Dev Cert.AdfiltRefIdeal.nD,
      r.2.mem ((c.tc : Thread Cert.AdfiltRefIdeal.nD Cert.AdfiltRefIdeal.τ).loc Cert.AdfiltRefIdeal.main_arg0) = m ((c.tc : Thread Cert.AdfiltRefIdeal.nD Cert.AdfiltRefIdeal.τ).loc Cert.AdfiltRefIdeal.main_arg0)
      ∧ r.2.mem ((c.tc : Thread Cert.AdfiltRefIdeal.nD Cert.AdfiltRefIdeal.τ).loc Cert.AdfiltRefIdeal.main_arg1) = m ((c.tc : Thread Cert.AdfiltRefIdeal.nD Cert.AdfiltRefIdeal.τ).loc Cert.AdfiltRefIdeal.main_arg1)
      ∧ r.2.mem ((c.tc : Thread Cert.AdfiltRefIdeal.nD Cert.AdfiltRefIdeal.τ).loc Cert.AdfiltRefIdeal.main_arg2) = m ((c.tc : Thread Cert.AdfiltRefIdeal.nD Cert.AdfiltRefIdeal.τ).loc Cert.AdfiltRefIdeal.main_arg2)
      ∧ r.2.mem ((c.tc : Thread Cert.AdfiltRefIdeal.nD Cert.AdfiltRefIdeal.τ).loc Cert.AdfiltRefIdeal.main_arg3) = m ((c.tc : Thread Cert.AdfiltRefIdeal.nD Cert.AdfiltRefIdeal.τ).loc Cert.AdfiltRefIdeal.main_arg3))
      ∧ r.2.sem = fun _ => 0)

def quiescent_Adffilt [hAdffilt : Cert.Adffilt.Facts] : Prop :=
  ∀ (m : (ℓ : Loc Cert.Adffilt.nD Cert.Adffilt.τ Cert.Adffilt.sig) → Buf (Elt Bits) ℓ) (g : Dev Cert.Adffilt.nD → PrngReg), Pre_Adffilt m →
    θ_run (Cert.Adffilt.defs (F := Bits)) (onTc (τ := Cert.Adffilt.τ) (Cert.Adffilt.main (F := Bits))) ⟨m, fun _ => 0, g⟩ (fun r => (∀ c : Dev Cert.Adffilt.nD,
      r.2.mem ((c.tc : Thread Cert.Adffilt.nD Cert.Adffilt.τ).loc Cert.Adffilt.main_arg0) = m ((c.tc : Thread Cert.Adffilt.nD Cert.Adffilt.τ).loc Cert.Adffilt.main_arg0)
      ∧ r.2.mem ((c.tc : Thread Cert.Adffilt.nD Cert.Adffilt.τ).loc Cert.Adffilt.main_arg1) = m ((c.tc : Thread Cert.Adffilt.nD Cert.Adffilt.τ).loc Cert.Adffilt.main_arg1)
      ∧ r.2.mem ((c.tc : Thread Cert.Adffilt.nD Cert.Adffilt.τ).loc Cert.Adffilt.main_arg2) = m ((c.tc : Thread Cert.Adffilt.nD Cert.Adffilt.τ).loc Cert.Adffilt.main_arg2)
      ∧ r.2.mem ((c.tc : Thread Cert.Adffilt.nD Cert.Adffilt.τ).loc Cert.Adffilt.main_arg3) = m ((c.tc : Thread Cert.Adffilt.nD Cert.Adffilt.τ).loc Cert.Adffilt.main_arg3))
      ∧ r.2.sem = fun _ => 0)

def quiescent_AdffiltIdeal [hAdffiltIdeal : Cert.AdffiltIdeal.Facts] : Prop :=
  ∀ (m : (ℓ : Loc Cert.AdffiltIdeal.nD Cert.AdffiltIdeal.τ Cert.AdffiltIdeal.sig) → Buf (Elt Ideal) ℓ) (g : Dev Cert.AdffiltIdeal.nD → PrngReg), Pre_AdffiltIdeal m →
    θ_run (Cert.AdffiltIdeal.defs (F := Ideal)) (onTc (τ := Cert.AdffiltIdeal.τ) (Cert.AdffiltIdeal.main (F := Ideal))) ⟨m, fun _ => 0, g⟩ (fun r => (∀ c : Dev Cert.AdffiltIdeal.nD,
      r.2.mem ((c.tc : Thread Cert.AdffiltIdeal.nD Cert.AdffiltIdeal.τ).loc Cert.AdffiltIdeal.main_arg0) = m ((c.tc : Thread Cert.AdffiltIdeal.nD Cert.AdffiltIdeal.τ).loc Cert.AdffiltIdeal.main_arg0)
      ∧ r.2.mem ((c.tc : Thread Cert.AdffiltIdeal.nD Cert.AdffiltIdeal.τ).loc Cert.AdffiltIdeal.main_arg1) = m ((c.tc : Thread Cert.AdffiltIdeal.nD Cert.AdffiltIdeal.τ).loc Cert.AdffiltIdeal.main_arg1)
      ∧ r.2.mem ((c.tc : Thread Cert.AdffiltIdeal.nD Cert.AdffiltIdeal.τ).loc Cert.AdffiltIdeal.main_arg2) = m ((c.tc : Thread Cert.AdffiltIdeal.nD Cert.AdffiltIdeal.τ).loc Cert.AdffiltIdeal.main_arg2)
      ∧ r.2.mem ((c.tc : Thread Cert.AdffiltIdeal.nD Cert.AdffiltIdeal.τ).loc Cert.AdffiltIdeal.main_arg3) = m ((c.tc : Thread Cert.AdffiltIdeal.nD Cert.AdffiltIdeal.τ).loc Cert.AdffiltIdeal.main_arg3))
      ∧ r.2.sem = fun _ => 0)

def quiescent_AdffiltRefIdeal [hAdffiltRefIdeal : Cert.AdffiltRefIdeal.Facts] : Prop :=
  ∀ (m : (ℓ : Loc Cert.AdffiltRefIdeal.nD Cert.AdffiltRefIdeal.τ Cert.AdffiltRefIdeal.sig) → Buf (Elt Ideal) ℓ) (g : Dev Cert.AdffiltRefIdeal.nD → PrngReg), Pre_AdffiltRefIdeal m →
    θ_run (Cert.AdffiltRefIdeal.defs (F := Ideal)) (onTc (τ := Cert.AdffiltRefIdeal.τ) (Cert.AdffiltRefIdeal.main (F := Ideal))) ⟨m, fun _ => 0, g⟩ (fun r => (∀ c : Dev Cert.AdffiltRefIdeal.nD,
      r.2.mem ((c.tc : Thread Cert.AdffiltRefIdeal.nD Cert.AdffiltRefIdeal.τ).loc Cert.AdffiltRefIdeal.main_arg0) = m ((c.tc : Thread Cert.AdffiltRefIdeal.nD Cert.AdffiltRefIdeal.τ).loc Cert.AdffiltRefIdeal.main_arg0)
      ∧ r.2.mem ((c.tc : Thread Cert.AdffiltRefIdeal.nD Cert.AdffiltRefIdeal.τ).loc Cert.AdffiltRefIdeal.main_arg1) = m ((c.tc : Thread Cert.AdffiltRefIdeal.nD Cert.AdffiltRefIdeal.τ).loc Cert.AdffiltRefIdeal.main_arg1)
      ∧ r.2.mem ((c.tc : Thread Cert.AdffiltRefIdeal.nD Cert.AdffiltRefIdeal.τ).loc Cert.AdffiltRefIdeal.main_arg2) = m ((c.tc : Thread Cert.AdffiltRefIdeal.nD Cert.AdffiltRefIdeal.τ).loc Cert.AdffiltRefIdeal.main_arg2)
      ∧ r.2.mem ((c.tc : Thread Cert.AdffiltRefIdeal.nD Cert.AdffiltRefIdeal.τ).loc Cert.AdffiltRefIdeal.main_arg3) = m ((c.tc : Thread Cert.AdffiltRefIdeal.nD Cert.AdffiltRefIdeal.τ).loc Cert.AdffiltRefIdeal.main_arg3))
      ∧ r.2.sem = fun _ => 0)

def quiescent_Adsq [hAdsq : Cert.Adsq.Facts] : Prop :=
  ∀ (m : (ℓ : Loc Cert.Adsq.nD Cert.Adsq.τ Cert.Adsq.sig) → Buf (Elt Bits) ℓ) (g : Dev Cert.Adsq.nD → PrngReg), Pre_Adsq m →
    θ_run (Cert.Adsq.defs (F := Bits)) (onTc (τ := Cert.Adsq.τ) (Cert.Adsq.main (F := Bits))) ⟨m, fun _ => 0, g⟩ (fun r => (∀ c : Dev Cert.Adsq.nD,
      r.2.mem ((c.tc : Thread Cert.Adsq.nD Cert.Adsq.τ).loc Cert.Adsq.main_arg0) = m ((c.tc : Thread Cert.Adsq.nD Cert.Adsq.τ).loc Cert.Adsq.main_arg0)
      ∧ r.2.mem ((c.tc : Thread Cert.Adsq.nD Cert.Adsq.τ).loc Cert.Adsq.main_arg1) = m ((c.tc : Thread Cert.Adsq.nD Cert.Adsq.τ).loc Cert.Adsq.main_arg1)
      ∧ r.2.mem ((c.tc : Thread Cert.Adsq.nD Cert.Adsq.τ).loc Cert.Adsq.main_arg2) = m ((c.tc : Thread Cert.Adsq.nD Cert.Adsq.τ).loc Cert.Adsq.main_arg2)
      ∧ r.2.mem ((c.tc : Thread Cert.Adsq.nD Cert.Adsq.τ).loc Cert.Adsq.main_arg3) = m ((c.tc : Thread Cert.Adsq.nD Cert.Adsq.τ).loc Cert.Adsq.main_arg3))
      ∧ r.2.sem = fun _ => 0)

def quiescent_AdsqIdeal [hAdsqIdeal : Cert.AdsqIdeal.Facts] : Prop :=
  ∀ (m : (ℓ : Loc Cert.AdsqIdeal.nD Cert.AdsqIdeal.τ Cert.AdsqIdeal.sig) → Buf (Elt Ideal) ℓ) (g : Dev Cert.AdsqIdeal.nD → PrngReg), Pre_AdsqIdeal m →
    θ_run (Cert.AdsqIdeal.defs (F := Ideal)) (onTc (τ := Cert.AdsqIdeal.τ) (Cert.AdsqIdeal.main (F := Ideal))) ⟨m, fun _ => 0, g⟩ (fun r => (∀ c : Dev Cert.AdsqIdeal.nD,
      r.2.mem ((c.tc : Thread Cert.AdsqIdeal.nD Cert.AdsqIdeal.τ).loc Cert.AdsqIdeal.main_arg0) = m ((c.tc : Thread Cert.AdsqIdeal.nD Cert.AdsqIdeal.τ).loc Cert.AdsqIdeal.main_arg0)
      ∧ r.2.mem ((c.tc : Thread Cert.AdsqIdeal.nD Cert.AdsqIdeal.τ).loc Cert.AdsqIdeal.main_arg1) = m ((c.tc : Thread Cert.AdsqIdeal.nD Cert.AdsqIdeal.τ).loc Cert.AdsqIdeal.main_arg1)
      ∧ r.2.mem ((c.tc : Thread Cert.AdsqIdeal.nD Cert.AdsqIdeal.τ).loc Cert.AdsqIdeal.main_arg2) = m ((c.tc : Thread Cert.AdsqIdeal.nD Cert.AdsqIdeal.τ).loc Cert.AdsqIdeal.main_arg2)
      ∧ r.2.mem ((c.tc : Thread Cert.AdsqIdeal.nD Cert.AdsqIdeal.τ).loc Cert.AdsqIdeal.main_arg3) = m ((c.tc : Thread Cert.AdsqIdeal.nD Cert.AdsqIdeal.τ).loc Cert.AdsqIdeal.main_arg3))
      ∧ r.2.sem = fun _ => 0)

def quiescent_AdsqRefIdeal [hAdsqRefIdeal : Cert.AdsqRefIdeal.Facts] : Prop :=
  ∀ (m : (ℓ : Loc Cert.AdsqRefIdeal.nD Cert.AdsqRefIdeal.τ Cert.AdsqRefIdeal.sig) → Buf (Elt Ideal) ℓ) (g : Dev Cert.AdsqRefIdeal.nD → PrngReg), Pre_AdsqRefIdeal m →
    θ_run (Cert.AdsqRefIdeal.defs (F := Ideal)) (onTc (τ := Cert.AdsqRefIdeal.τ) (Cert.AdsqRefIdeal.main (F := Ideal))) ⟨m, fun _ => 0, g⟩ (fun r => (∀ c : Dev Cert.AdsqRefIdeal.nD,
      r.2.mem ((c.tc : Thread Cert.AdsqRefIdeal.nD Cert.AdsqRefIdeal.τ).loc Cert.AdsqRefIdeal.main_arg0) = m ((c.tc : Thread Cert.AdsqRefIdeal.nD Cert.AdsqRefIdeal.τ).loc Cert.AdsqRefIdeal.main_arg0)
      ∧ r.2.mem ((c.tc : Thread Cert.AdsqRefIdeal.nD Cert.AdsqRefIdeal.τ).loc Cert.AdsqRefIdeal.main_arg1) = m ((c.tc : Thread Cert.AdsqRefIdeal.nD Cert.AdsqRefIdeal.τ).loc Cert.AdsqRefIdeal.main_arg1)
      ∧ r.2.mem ((c.tc : Thread Cert.AdsqRefIdeal.nD Cert.AdsqRefIdeal.τ).loc Cert.AdsqRefIdeal.main_arg2) = m ((c.tc : Thread Cert.AdsqRefIdeal.nD Cert.AdsqRefIdeal.τ).loc Cert.AdsqRefIdeal.main_arg2)
      ∧ r.2.mem ((c.tc : Thread Cert.AdsqRefIdeal.nD Cert.AdsqRefIdeal.τ).loc Cert.AdsqRefIdeal.main_arg3) = m ((c.tc : Thread Cert.AdsqRefIdeal.nD Cert.AdsqRefIdeal.τ).loc Cert.AdsqRefIdeal.main_arg3))
      ∧ r.2.sem = fun _ => 0)

def quiescent_Addown [hAddown : Cert.Addown.Facts] : Prop :=
  ∀ (m : (ℓ : Loc Cert.Addown.nD Cert.Addown.τ Cert.Addown.sig) → Buf (Elt Bits) ℓ) (g : Dev Cert.Addown.nD → PrngReg), Pre_Addown m →
    θ_run (Cert.Addown.defs (F := Bits)) (onTc (τ := Cert.Addown.τ) (Cert.Addown.main (F := Bits))) ⟨m, fun _ => 0, g⟩ (fun r => (∀ c : Dev Cert.Addown.nD,
      r.2.mem ((c.tc : Thread Cert.Addown.nD Cert.Addown.τ).loc Cert.Addown.main_arg0) = m ((c.tc : Thread Cert.Addown.nD Cert.Addown.τ).loc Cert.Addown.main_arg0)
      ∧ r.2.mem ((c.tc : Thread Cert.Addown.nD Cert.Addown.τ).loc Cert.Addown.main_arg1) = m ((c.tc : Thread Cert.Addown.nD Cert.Addown.τ).loc Cert.Addown.main_arg1)
      ∧ r.2.mem ((c.tc : Thread Cert.Addown.nD Cert.Addown.τ).loc Cert.Addown.main_arg2) = m ((c.tc : Thread Cert.Addown.nD Cert.Addown.τ).loc Cert.Addown.main_arg2)
      ∧ r.2.mem ((c.tc : Thread Cert.Addown.nD Cert.Addown.τ).loc Cert.Addown.main_arg3) = m ((c.tc : Thread Cert.Addown.nD Cert.Addown.τ).loc Cert.Addown.main_arg3))
      ∧ r.2.sem = fun _ => 0)

def quiescent_AddownIdeal [hAddownIdeal : Cert.AddownIdeal.Facts] : Prop :=
  ∀ (m : (ℓ : Loc Cert.AddownIdeal.nD Cert.AddownIdeal.τ Cert.AddownIdeal.sig) → Buf (Elt Ideal) ℓ) (g : Dev Cert.AddownIdeal.nD → PrngReg), Pre_AddownIdeal m →
    θ_run (Cert.AddownIdeal.defs (F := Ideal)) (onTc (τ := Cert.AddownIdeal.τ) (Cert.AddownIdeal.main (F := Ideal))) ⟨m, fun _ => 0, g⟩ (fun r => (∀ c : Dev Cert.AddownIdeal.nD,
      r.2.mem ((c.tc : Thread Cert.AddownIdeal.nD Cert.AddownIdeal.τ).loc Cert.AddownIdeal.main_arg0) = m ((c.tc : Thread Cert.AddownIdeal.nD Cert.AddownIdeal.τ).loc Cert.AddownIdeal.main_arg0)
      ∧ r.2.mem ((c.tc : Thread Cert.AddownIdeal.nD Cert.AddownIdeal.τ).loc Cert.AddownIdeal.main_arg1) = m ((c.tc : Thread Cert.AddownIdeal.nD Cert.AddownIdeal.τ).loc Cert.AddownIdeal.main_arg1)
      ∧ r.2.mem ((c.tc : Thread Cert.AddownIdeal.nD Cert.AddownIdeal.τ).loc Cert.AddownIdeal.main_arg2) = m ((c.tc : Thread Cert.AddownIdeal.nD Cert.AddownIdeal.τ).loc Cert.AddownIdeal.main_arg2)
      ∧ r.2.mem ((c.tc : Thread Cert.AddownIdeal.nD Cert.AddownIdeal.τ).loc Cert.AddownIdeal.main_arg3) = m ((c.tc : Thread Cert.AddownIdeal.nD Cert.AddownIdeal.τ).loc Cert.AddownIdeal.main_arg3))
      ∧ r.2.sem = fun _ => 0)

def quiescent_AddownRefIdeal [hAddownRefIdeal : Cert.AddownRefIdeal.Facts] : Prop :=
  ∀ (m : (ℓ : Loc Cert.AddownRefIdeal.nD Cert.AddownRefIdeal.τ Cert.AddownRefIdeal.sig) → Buf (Elt Ideal) ℓ) (g : Dev Cert.AddownRefIdeal.nD → PrngReg), Pre_AddownRefIdeal m →
    θ_run (Cert.AddownRefIdeal.defs (F := Ideal)) (onTc (τ := Cert.AddownRefIdeal.τ) (Cert.AddownRefIdeal.main (F := Ideal))) ⟨m, fun _ => 0, g⟩ (fun r => (∀ c : Dev Cert.AddownRefIdeal.nD,
      r.2.mem ((c.tc : Thread Cert.AddownRefIdeal.nD Cert.AddownRefIdeal.τ).loc Cert.AddownRefIdeal.main_arg0) = m ((c.tc : Thread Cert.AddownRefIdeal.nD Cert.AddownRefIdeal.τ).loc Cert.AddownRefIdeal.main_arg0)
      ∧ r.2.mem ((c.tc : Thread Cert.AddownRefIdeal.nD Cert.AddownRefIdeal.τ).loc Cert.AddownRefIdeal.main_arg1) = m ((c.tc : Thread Cert.AddownRefIdeal.nD Cert.AddownRefIdeal.τ).loc Cert.AddownRefIdeal.main_arg1)
      ∧ r.2.mem ((c.tc : Thread Cert.AddownRefIdeal.nD Cert.AddownRefIdeal.τ).loc Cert.AddownRefIdeal.main_arg2) = m ((c.tc : Thread Cert.AddownRefIdeal.nD Cert.AddownRefIdeal.τ).loc Cert.AddownRefIdeal.main_arg2)
      ∧ r.2.mem ((c.tc : Thread Cert.AddownRefIdeal.nD Cert.AddownRefIdeal.τ).loc Cert.AddownRefIdeal.main_arg3) = m ((c.tc : Thread Cert.AddownRefIdeal.nD Cert.AddownRefIdeal.τ).loc Cert.AddownRefIdeal.main_arg3))
      ∧ r.2.sem = fun _ => 0)

def quiescent_Adin [hAdin : Cert.Adin.Facts] : Prop :=
  ∀ (m : (ℓ : Loc Cert.Adin.nD Cert.Adin.τ Cert.Adin.sig) → Buf (Elt Bits) ℓ) (g : Dev Cert.Adin.nD → PrngReg), Pre_Adin m →
    θ_run (Cert.Adin.defs (F := Bits)) (onTc (τ := Cert.Adin.τ) (Cert.Adin.main (F := Bits))) ⟨m, fun _ => 0, g⟩ (fun r => (∀ c : Dev Cert.Adin.nD,
      r.2.mem ((c.tc : Thread Cert.Adin.nD Cert.Adin.τ).loc Cert.Adin.main_arg0) = m ((c.tc : Thread Cert.Adin.nD Cert.Adin.τ).loc Cert.Adin.main_arg0)
      ∧ r.2.mem ((c.tc : Thread Cert.Adin.nD Cert.Adin.τ).loc Cert.Adin.main_arg1) = m ((c.tc : Thread Cert.Adin.nD Cert.Adin.τ).loc Cert.Adin.main_arg1)
      ∧ r.2.mem ((c.tc : Thread Cert.Adin.nD Cert.Adin.τ).loc Cert.Adin.main_arg2) = m ((c.tc : Thread Cert.Adin.nD Cert.Adin.τ).loc Cert.Adin.main_arg2)
      ∧ r.2.mem ((c.tc : Thread Cert.Adin.nD Cert.Adin.τ).loc Cert.Adin.main_arg3) = m ((c.tc : Thread Cert.Adin.nD Cert.Adin.τ).loc Cert.Adin.main_arg3))
      ∧ r.2.sem = fun _ => 0)

def quiescent_AdinIdeal [hAdinIdeal : Cert.AdinIdeal.Facts] : Prop :=
  ∀ (m : (ℓ : Loc Cert.AdinIdeal.nD Cert.AdinIdeal.τ Cert.AdinIdeal.sig) → Buf (Elt Ideal) ℓ) (g : Dev Cert.AdinIdeal.nD → PrngReg), Pre_AdinIdeal m →
    θ_run (Cert.AdinIdeal.defs (F := Ideal)) (onTc (τ := Cert.AdinIdeal.τ) (Cert.AdinIdeal.main (F := Ideal))) ⟨m, fun _ => 0, g⟩ (fun r => (∀ c : Dev Cert.AdinIdeal.nD,
      r.2.mem ((c.tc : Thread Cert.AdinIdeal.nD Cert.AdinIdeal.τ).loc Cert.AdinIdeal.main_arg0) = m ((c.tc : Thread Cert.AdinIdeal.nD Cert.AdinIdeal.τ).loc Cert.AdinIdeal.main_arg0)
      ∧ r.2.mem ((c.tc : Thread Cert.AdinIdeal.nD Cert.AdinIdeal.τ).loc Cert.AdinIdeal.main_arg1) = m ((c.tc : Thread Cert.AdinIdeal.nD Cert.AdinIdeal.τ).loc Cert.AdinIdeal.main_arg1)
      ∧ r.2.mem ((c.tc : Thread Cert.AdinIdeal.nD Cert.AdinIdeal.τ).loc Cert.AdinIdeal.main_arg2) = m ((c.tc : Thread Cert.AdinIdeal.nD Cert.AdinIdeal.τ).loc Cert.AdinIdeal.main_arg2)
      ∧ r.2.mem ((c.tc : Thread Cert.AdinIdeal.nD Cert.AdinIdeal.τ).loc Cert.AdinIdeal.main_arg3) = m ((c.tc : Thread Cert.AdinIdeal.nD Cert.AdinIdeal.τ).loc Cert.AdinIdeal.main_arg3))
      ∧ r.2.sem = fun _ => 0)

def quiescent_AdinRefIdeal [hAdinRefIdeal : Cert.AdinRefIdeal.Facts] : Prop :=
  ∀ (m : (ℓ : Loc Cert.AdinRefIdeal.nD Cert.AdinRefIdeal.τ Cert.AdinRefIdeal.sig) → Buf (Elt Ideal) ℓ) (g : Dev Cert.AdinRefIdeal.nD → PrngReg), Pre_AdinRefIdeal m →
    θ_run (Cert.AdinRefIdeal.defs (F := Ideal)) (onTc (τ := Cert.AdinRefIdeal.τ) (Cert.AdinRefIdeal.main (F := Ideal))) ⟨m, fun _ => 0, g⟩ (fun r => (∀ c : Dev Cert.AdinRefIdeal.nD,
      r.2.mem ((c.tc : Thread Cert.AdinRefIdeal.nD Cert.AdinRefIdeal.τ).loc Cert.AdinRefIdeal.main_arg0) = m ((c.tc : Thread Cert.AdinRefIdeal.nD Cert.AdinRefIdeal.τ).loc Cert.AdinRefIdeal.main_arg0)
      ∧ r.2.mem ((c.tc : Thread Cert.AdinRefIdeal.nD Cert.AdinRefIdeal.τ).loc Cert.AdinRefIdeal.main_arg1) = m ((c.tc : Thread Cert.AdinRefIdeal.nD Cert.AdinRefIdeal.τ).loc Cert.AdinRefIdeal.main_arg1)
      ∧ r.2.mem ((c.tc : Thread Cert.AdinRefIdeal.nD Cert.AdinRefIdeal.τ).loc Cert.AdinRefIdeal.main_arg2) = m ((c.tc : Thread Cert.AdinRefIdeal.nD Cert.AdinRefIdeal.τ).loc Cert.AdinRefIdeal.main_arg2)
      ∧ r.2.mem ((c.tc : Thread Cert.AdinRefIdeal.nD Cert.AdinRefIdeal.τ).loc Cert.AdinRefIdeal.main_arg3) = m ((c.tc : Thread Cert.AdinRefIdeal.nD Cert.AdinRefIdeal.τ).loc Cert.AdinRefIdeal.main_arg3))
      ∧ r.2.sem = fun _ => 0)

def quiescent_Adkv [hAdkv : Cert.Adkv.Facts] : Prop :=
  ∀ (m : (ℓ : Loc Cert.Adkv.nD Cert.Adkv.τ Cert.Adkv.sig) → Buf (Elt Bits) ℓ) (g : Dev Cert.Adkv.nD → PrngReg), Pre_Adkv m →
    θ_run (Cert.Adkv.defs (F := Bits)) (onTc (τ := Cert.Adkv.τ) (Cert.Adkv.main (F := Bits))) ⟨m, fun _ => 0, g⟩ (fun r => (∀ c : Dev Cert.Adkv.nD,
      r.2.mem ((c.tc : Thread Cert.Adkv.nD Cert.Adkv.τ).loc Cert.Adkv.main_arg0) = m ((c.tc : Thread Cert.Adkv.nD Cert.Adkv.τ).loc Cert.Adkv.main_arg0)
      ∧ r.2.mem ((c.tc : Thread Cert.Adkv.nD Cert.Adkv.τ).loc Cert.Adkv.main_arg1) = m ((c.tc : Thread Cert.Adkv.nD Cert.Adkv.τ).loc Cert.Adkv.main_arg1)
      ∧ r.2.mem ((c.tc : Thread Cert.Adkv.nD Cert.Adkv.τ).loc Cert.Adkv.main_arg2) = m ((c.tc : Thread Cert.Adkv.nD Cert.Adkv.τ).loc Cert.Adkv.main_arg2)
      ∧ r.2.mem ((c.tc : Thread Cert.Adkv.nD Cert.Adkv.τ).loc Cert.Adkv.main_arg3) = m ((c.tc : Thread Cert.Adkv.nD Cert.Adkv.τ).loc Cert.Adkv.main_arg3))
      ∧ r.2.sem = fun _ => 0)

def quiescent_AdkvIdeal [hAdkvIdeal : Cert.AdkvIdeal.Facts] : Prop :=
  ∀ (m : (ℓ : Loc Cert.AdkvIdeal.nD Cert.AdkvIdeal.τ Cert.AdkvIdeal.sig) → Buf (Elt Ideal) ℓ) (g : Dev Cert.AdkvIdeal.nD → PrngReg), Pre_AdkvIdeal m →
    θ_run (Cert.AdkvIdeal.defs (F := Ideal)) (onTc (τ := Cert.AdkvIdeal.τ) (Cert.AdkvIdeal.main (F := Ideal))) ⟨m, fun _ => 0, g⟩ (fun r => (∀ c : Dev Cert.AdkvIdeal.nD,
      r.2.mem ((c.tc : Thread Cert.AdkvIdeal.nD Cert.AdkvIdeal.τ).loc Cert.AdkvIdeal.main_arg0) = m ((c.tc : Thread Cert.AdkvIdeal.nD Cert.AdkvIdeal.τ).loc Cert.AdkvIdeal.main_arg0)
      ∧ r.2.mem ((c.tc : Thread Cert.AdkvIdeal.nD Cert.AdkvIdeal.τ).loc Cert.AdkvIdeal.main_arg1) = m ((c.tc : Thread Cert.AdkvIdeal.nD Cert.AdkvIdeal.τ).loc Cert.AdkvIdeal.main_arg1)
      ∧ r.2.mem ((c.tc : Thread Cert.AdkvIdeal.nD Cert.AdkvIdeal.τ).loc Cert.AdkvIdeal.main_arg2) = m ((c.tc : Thread Cert.AdkvIdeal.nD Cert.AdkvIdeal.τ).loc Cert.AdkvIdeal.main_arg2)
      ∧ r.2.mem ((c.tc : Thread Cert.AdkvIdeal.nD Cert.AdkvIdeal.τ).loc Cert.AdkvIdeal.main_arg3) = m ((c.tc : Thread Cert.AdkvIdeal.nD Cert.AdkvIdeal.τ).loc Cert.AdkvIdeal.main_arg3))
      ∧ r.2.sem = fun _ => 0)

def quiescent_AdkvRefIdeal [hAdkvRefIdeal : Cert.AdkvRefIdeal.Facts] : Prop :=
  ∀ (m : (ℓ : Loc Cert.AdkvRefIdeal.nD Cert.AdkvRefIdeal.τ Cert.AdkvRefIdeal.sig) → Buf (Elt Ideal) ℓ) (g : Dev Cert.AdkvRefIdeal.nD → PrngReg), Pre_AdkvRefIdeal m →
    θ_run (Cert.AdkvRefIdeal.defs (F := Ideal)) (onTc (τ := Cert.AdkvRefIdeal.τ) (Cert.AdkvRefIdeal.main (F := Ideal))) ⟨m, fun _ => 0, g⟩ (fun r => (∀ c : Dev Cert.AdkvRefIdeal.nD,
      r.2.mem ((c.tc : Thread Cert.AdkvRefIdeal.nD Cert.AdkvRefIdeal.τ).loc Cert.AdkvRefIdeal.main_arg0) = m ((c.tc : Thread Cert.AdkvRefIdeal.nD Cert.AdkvRefIdeal.τ).loc Cert.AdkvRefIdeal.main_arg0)
      ∧ r.2.mem ((c.tc : Thread Cert.AdkvRefIdeal.nD Cert.AdkvRefIdeal.τ).loc Cert.AdkvRefIdeal.main_arg1) = m ((c.tc : Thread Cert.AdkvRefIdeal.nD Cert.AdkvRefIdeal.τ).loc Cert.AdkvRefIdeal.main_arg1)
      ∧ r.2.mem ((c.tc : Thread Cert.AdkvRefIdeal.nD Cert.AdkvRefIdeal.τ).loc Cert.AdkvRefIdeal.main_arg2) = m ((c.tc : Thread Cert.AdkvRefIdeal.nD Cert.AdkvRefIdeal.τ).loc Cert.AdkvRefIdeal.main_arg2)
      ∧ r.2.mem ((c.tc : Thread Cert.AdkvRefIdeal.nD Cert.AdkvRefIdeal.τ).loc Cert.AdkvRefIdeal.main_arg3) = m ((c.tc : Thread Cert.AdkvRefIdeal.nD Cert.AdkvRefIdeal.τ).loc Cert.AdkvRefIdeal.main_arg3))
      ∧ r.2.sem = fun _ => 0)

def quiescent_Adup [hAdup : Cert.Adup.Facts] : Prop :=
  ∀ (m : (ℓ : Loc Cert.Adup.nD Cert.Adup.τ Cert.Adup.sig) → Buf (Elt Bits) ℓ) (g : Dev Cert.Adup.nD → PrngReg), Pre_Adup m →
    θ_run (Cert.Adup.defs (F := Bits)) (onTc (τ := Cert.Adup.τ) (Cert.Adup.main (F := Bits))) ⟨m, fun _ => 0, g⟩ (fun r => (∀ c : Dev Cert.Adup.nD,
      r.2.mem ((c.tc : Thread Cert.Adup.nD Cert.Adup.τ).loc Cert.Adup.main_arg0) = m ((c.tc : Thread Cert.Adup.nD Cert.Adup.τ).loc Cert.Adup.main_arg0)
      ∧ r.2.mem ((c.tc : Thread Cert.Adup.nD Cert.Adup.τ).loc Cert.Adup.main_arg1) = m ((c.tc : Thread Cert.Adup.nD Cert.Adup.τ).loc Cert.Adup.main_arg1)
      ∧ r.2.mem ((c.tc : Thread Cert.Adup.nD Cert.Adup.τ).loc Cert.Adup.main_arg2) = m ((c.tc : Thread Cert.Adup.nD Cert.Adup.τ).loc Cert.Adup.main_arg2)
      ∧ r.2.mem ((c.tc : Thread Cert.Adup.nD Cert.Adup.τ).loc Cert.Adup.main_arg3) = m ((c.tc : Thread Cert.Adup.nD Cert.Adup.τ).loc Cert.Adup.main_arg3))
      ∧ r.2.sem = fun _ => 0)

def quiescent_AdupIdeal [hAdupIdeal : Cert.AdupIdeal.Facts] : Prop :=
  ∀ (m : (ℓ : Loc Cert.AdupIdeal.nD Cert.AdupIdeal.τ Cert.AdupIdeal.sig) → Buf (Elt Ideal) ℓ) (g : Dev Cert.AdupIdeal.nD → PrngReg), Pre_AdupIdeal m →
    θ_run (Cert.AdupIdeal.defs (F := Ideal)) (onTc (τ := Cert.AdupIdeal.τ) (Cert.AdupIdeal.main (F := Ideal))) ⟨m, fun _ => 0, g⟩ (fun r => (∀ c : Dev Cert.AdupIdeal.nD,
      r.2.mem ((c.tc : Thread Cert.AdupIdeal.nD Cert.AdupIdeal.τ).loc Cert.AdupIdeal.main_arg0) = m ((c.tc : Thread Cert.AdupIdeal.nD Cert.AdupIdeal.τ).loc Cert.AdupIdeal.main_arg0)
      ∧ r.2.mem ((c.tc : Thread Cert.AdupIdeal.nD Cert.AdupIdeal.τ).loc Cert.AdupIdeal.main_arg1) = m ((c.tc : Thread Cert.AdupIdeal.nD Cert.AdupIdeal.τ).loc Cert.AdupIdeal.main_arg1)
      ∧ r.2.mem ((c.tc : Thread Cert.AdupIdeal.nD Cert.AdupIdeal.τ).loc Cert.AdupIdeal.main_arg2) = m ((c.tc : Thread Cert.AdupIdeal.nD Cert.AdupIdeal.τ).loc Cert.AdupIdeal.main_arg2)
      ∧ r.2.mem ((c.tc : Thread Cert.AdupIdeal.nD Cert.AdupIdeal.τ).loc Cert.AdupIdeal.main_arg3) = m ((c.tc : Thread Cert.AdupIdeal.nD Cert.AdupIdeal.τ).loc Cert.AdupIdeal.main_arg3))
      ∧ r.2.sem = fun _ => 0)

def quiescent_AdupRefIdeal [hAdupRefIdeal : Cert.AdupRefIdeal.Facts] : Prop :=
  ∀ (m : (ℓ : Loc Cert.AdupRefIdeal.nD Cert.AdupRefIdeal.τ Cert.AdupRefIdeal.sig) → Buf (Elt Ideal) ℓ) (g : Dev Cert.AdupRefIdeal.nD → PrngReg), Pre_AdupRefIdeal m →
    θ_run (Cert.AdupRefIdeal.defs (F := Ideal)) (onTc (τ := Cert.AdupRefIdeal.τ) (Cert.AdupRefIdeal.main (F := Ideal))) ⟨m, fun _ => 0, g⟩ (fun r => (∀ c : Dev Cert.AdupRefIdeal.nD,
      r.2.mem ((c.tc : Thread Cert.AdupRefIdeal.nD Cert.AdupRefIdeal.τ).loc Cert.AdupRefIdeal.main_arg0) = m ((c.tc : Thread Cert.AdupRefIdeal.nD Cert.AdupRefIdeal.τ).loc Cert.AdupRefIdeal.main_arg0)
      ∧ r.2.mem ((c.tc : Thread Cert.AdupRefIdeal.nD Cert.AdupRefIdeal.τ).loc Cert.AdupRefIdeal.main_arg1) = m ((c.tc : Thread Cert.AdupRefIdeal.nD Cert.AdupRefIdeal.τ).loc Cert.AdupRefIdeal.main_arg1)
      ∧ r.2.mem ((c.tc : Thread Cert.AdupRefIdeal.nD Cert.AdupRefIdeal.τ).loc Cert.AdupRefIdeal.main_arg2) = m ((c.tc : Thread Cert.AdupRefIdeal.nD Cert.AdupRefIdeal.τ).loc Cert.AdupRefIdeal.main_arg2)
      ∧ r.2.mem ((c.tc : Thread Cert.AdupRefIdeal.nD Cert.AdupRefIdeal.τ).loc Cert.AdupRefIdeal.main_arg3) = m ((c.tc : Thread Cert.AdupRefIdeal.nD Cert.AdupRefIdeal.τ).loc Cert.AdupRefIdeal.main_arg3))
      ∧ r.2.sem = fun _ => 0)

def quiescent_Adcout [hAdcout : Cert.Adcout.Facts] : Prop :=
  ∀ (m : (ℓ : Loc Cert.Adcout.nD Cert.Adcout.τ Cert.Adcout.sig) → Buf (Elt Bits) ℓ) (g : Dev Cert.Adcout.nD → PrngReg), Pre_Adcout m →
    θ_run (Cert.Adcout.defs (F := Bits)) (onTc (τ := Cert.Adcout.τ) (Cert.Adcout.main (F := Bits))) ⟨m, fun _ => 0, g⟩ (fun r => (∀ c : Dev Cert.Adcout.nD,
      r.2.mem ((c.tc : Thread Cert.Adcout.nD Cert.Adcout.τ).loc Cert.Adcout.main_arg0) = m ((c.tc : Thread Cert.Adcout.nD Cert.Adcout.τ).loc Cert.Adcout.main_arg0)
      ∧ r.2.mem ((c.tc : Thread Cert.Adcout.nD Cert.Adcout.τ).loc Cert.Adcout.main_arg1) = m ((c.tc : Thread Cert.Adcout.nD Cert.Adcout.τ).loc Cert.Adcout.main_arg1)
      ∧ r.2.mem ((c.tc : Thread Cert.Adcout.nD Cert.Adcout.τ).loc Cert.Adcout.main_arg2) = m ((c.tc : Thread Cert.Adcout.nD Cert.Adcout.τ).loc Cert.Adcout.main_arg2)
      ∧ r.2.mem ((c.tc : Thread Cert.Adcout.nD Cert.Adcout.τ).loc Cert.Adcout.main_arg3) = m ((c.tc : Thread Cert.Adcout.nD Cert.Adcout.τ).loc Cert.Adcout.main_arg3))
      ∧ r.2.sem = fun _ => 0)

def quiescent_AdcoutIdeal [hAdcoutIdeal : Cert.AdcoutIdeal.Facts] : Prop :=
  ∀ (m : (ℓ : Loc Cert.AdcoutIdeal.nD Cert.AdcoutIdeal.τ Cert.AdcoutIdeal.sig) → Buf (Elt Ideal) ℓ) (g : Dev Cert.AdcoutIdeal.nD → PrngReg), Pre_AdcoutIdeal m →
    θ_run (Cert.AdcoutIdeal.defs (F := Ideal)) (onTc (τ := Cert.AdcoutIdeal.τ) (Cert.AdcoutIdeal.main (F := Ideal))) ⟨m, fun _ => 0, g⟩ (fun r => (∀ c : Dev Cert.AdcoutIdeal.nD,
      r.2.mem ((c.tc : Thread Cert.AdcoutIdeal.nD Cert.AdcoutIdeal.τ).loc Cert.AdcoutIdeal.main_arg0) = m ((c.tc : Thread Cert.AdcoutIdeal.nD Cert.AdcoutIdeal.τ).loc Cert.AdcoutIdeal.main_arg0)
      ∧ r.2.mem ((c.tc : Thread Cert.AdcoutIdeal.nD Cert.AdcoutIdeal.τ).loc Cert.AdcoutIdeal.main_arg1) = m ((c.tc : Thread Cert.AdcoutIdeal.nD Cert.AdcoutIdeal.τ).loc Cert.AdcoutIdeal.main_arg1)
      ∧ r.2.mem ((c.tc : Thread Cert.AdcoutIdeal.nD Cert.AdcoutIdeal.τ).loc Cert.AdcoutIdeal.main_arg2) = m ((c.tc : Thread Cert.AdcoutIdeal.nD Cert.AdcoutIdeal.τ).loc Cert.AdcoutIdeal.main_arg2)
      ∧ r.2.mem ((c.tc : Thread Cert.AdcoutIdeal.nD Cert.AdcoutIdeal.τ).loc Cert.AdcoutIdeal.main_arg3) = m ((c.tc : Thread Cert.AdcoutIdeal.nD Cert.AdcoutIdeal.τ).loc Cert.AdcoutIdeal.main_arg3))
      ∧ r.2.sem = fun _ => 0)

def quiescent_AdcoutRefIdeal [hAdcoutRefIdeal : Cert.AdcoutRefIdeal.Facts] : Prop :=
  ∀ (m : (ℓ : Loc Cert.AdcoutRefIdeal.nD Cert.AdcoutRefIdeal.τ Cert.AdcoutRefIdeal.sig) → Buf (Elt Ideal) ℓ) (g : Dev Cert.AdcoutRefIdeal.nD → PrngReg), Pre_AdcoutRefIdeal m →
    θ_run (Cert.AdcoutRefIdeal.defs (F := Ideal)) (onTc (τ := Cert.AdcoutRefIdeal.τ) (Cert.AdcoutRefIdeal.main (F := Ideal))) ⟨m, fun _ => 0, g⟩ (fun r => (∀ c : Dev Cert.AdcoutRefIdeal.nD,
      r.2.mem ((c.tc : Thread Cert.AdcoutRefIdeal.nD Cert.AdcoutRefIdeal.τ).loc Cert.AdcoutRefIdeal.main_arg0) = m ((c.tc : Thread Cert.AdcoutRefIdeal.nD Cert.AdcoutRefIdeal.τ).loc Cert.AdcoutRefIdeal.main_arg0)
      ∧ r.2.mem ((c.tc : Thread Cert.AdcoutRefIdeal.nD Cert.AdcoutRefIdeal.τ).loc Cert.AdcoutRefIdeal.main_arg1) = m ((c.tc : Thread Cert.AdcoutRefIdeal.nD Cert.AdcoutRefIdeal.τ).loc Cert.AdcoutRefIdeal.main_arg1)
      ∧ r.2.mem ((c.tc : Thread Cert.AdcoutRefIdeal.nD Cert.AdcoutRefIdeal.τ).loc Cert.AdcoutRefIdeal.main_arg2) = m ((c.tc : Thread Cert.AdcoutRefIdeal.nD Cert.AdcoutRefIdeal.τ).loc Cert.AdcoutRefIdeal.main_arg2)
      ∧ r.2.mem ((c.tc : Thread Cert.AdcoutRefIdeal.nD Cert.AdcoutRefIdeal.τ).loc Cert.AdcoutRefIdeal.main_arg3) = m ((c.tc : Thread Cert.AdcoutRefIdeal.nD Cert.AdcoutRefIdeal.τ).loc Cert.AdcoutRefIdeal.main_arg3))
      ∧ r.2.sem = fun _ => 0)

def quiescent_Adpool [hAdpool : Cert.Adpool.Facts] : Prop :=
  ∀ (m : (ℓ : Loc Cert.Adpool.nD Cert.Adpool.τ Cert.Adpool.sig) → Buf (Elt Bits) ℓ) (g : Dev Cert.Adpool.nD → PrngReg), Pre_Adpool m →
    θ_run (Cert.Adpool.defs (F := Bits)) (onTc (τ := Cert.Adpool.τ) (Cert.Adpool.main (F := Bits))) ⟨m, fun _ => 0, g⟩ (fun r => (∀ c : Dev Cert.Adpool.nD,
      r.2.mem ((c.tc : Thread Cert.Adpool.nD Cert.Adpool.τ).loc Cert.Adpool.main_arg0) = m ((c.tc : Thread Cert.Adpool.nD Cert.Adpool.τ).loc Cert.Adpool.main_arg0)
      ∧ r.2.mem ((c.tc : Thread Cert.Adpool.nD Cert.Adpool.τ).loc Cert.Adpool.main_arg1) = m ((c.tc : Thread Cert.Adpool.nD Cert.Adpool.τ).loc Cert.Adpool.main_arg1)
      ∧ r.2.mem ((c.tc : Thread Cert.Adpool.nD Cert.Adpool.τ).loc Cert.Adpool.main_arg2) = m ((c.tc : Thread Cert.Adpool.nD Cert.Adpool.τ).loc Cert.Adpool.main_arg2)
      ∧ r.2.mem ((c.tc : Thread Cert.Adpool.nD Cert.Adpool.τ).loc Cert.Adpool.main_arg3) = m ((c.tc : Thread Cert.Adpool.nD Cert.Adpool.τ).loc Cert.Adpool.main_arg3))
      ∧ r.2.sem = fun _ => 0)

def quiescent_AdpoolIdeal [hAdpoolIdeal : Cert.AdpoolIdeal.Facts] : Prop :=
  ∀ (m : (ℓ : Loc Cert.AdpoolIdeal.nD Cert.AdpoolIdeal.τ Cert.AdpoolIdeal.sig) → Buf (Elt Ideal) ℓ) (g : Dev Cert.AdpoolIdeal.nD → PrngReg), Pre_AdpoolIdeal m →
    θ_run (Cert.AdpoolIdeal.defs (F := Ideal)) (onTc (τ := Cert.AdpoolIdeal.τ) (Cert.AdpoolIdeal.main (F := Ideal))) ⟨m, fun _ => 0, g⟩ (fun r => (∀ c : Dev Cert.AdpoolIdeal.nD,
      r.2.mem ((c.tc : Thread Cert.AdpoolIdeal.nD Cert.AdpoolIdeal.τ).loc Cert.AdpoolIdeal.main_arg0) = m ((c.tc : Thread Cert.AdpoolIdeal.nD Cert.AdpoolIdeal.τ).loc Cert.AdpoolIdeal.main_arg0)
      ∧ r.2.mem ((c.tc : Thread Cert.AdpoolIdeal.nD Cert.AdpoolIdeal.τ).loc Cert.AdpoolIdeal.main_arg1) = m ((c.tc : Thread Cert.AdpoolIdeal.nD Cert.AdpoolIdeal.τ).loc Cert.AdpoolIdeal.main_arg1)
      ∧ r.2.mem ((c.tc : Thread Cert.AdpoolIdeal.nD Cert.AdpoolIdeal.τ).loc Cert.AdpoolIdeal.main_arg2) = m ((c.tc : Thread Cert.AdpoolIdeal.nD Cert.AdpoolIdeal.τ).loc Cert.AdpoolIdeal.main_arg2)
      ∧ r.2.mem ((c.tc : Thread Cert.AdpoolIdeal.nD Cert.AdpoolIdeal.τ).loc Cert.AdpoolIdeal.main_arg3) = m ((c.tc : Thread Cert.AdpoolIdeal.nD Cert.AdpoolIdeal.τ).loc Cert.AdpoolIdeal.main_arg3))
      ∧ r.2.sem = fun _ => 0)

def quiescent_AdpoolRefIdeal [hAdpoolRefIdeal : Cert.AdpoolRefIdeal.Facts] : Prop :=
  ∀ (m : (ℓ : Loc Cert.AdpoolRefIdeal.nD Cert.AdpoolRefIdeal.τ Cert.AdpoolRefIdeal.sig) → Buf (Elt Ideal) ℓ) (g : Dev Cert.AdpoolRefIdeal.nD → PrngReg), Pre_AdpoolRefIdeal m →
    θ_run (Cert.AdpoolRefIdeal.defs (F := Ideal)) (onTc (τ := Cert.AdpoolRefIdeal.τ) (Cert.AdpoolRefIdeal.main (F := Ideal))) ⟨m, fun _ => 0, g⟩ (fun r => (∀ c : Dev Cert.AdpoolRefIdeal.nD,
      r.2.mem ((c.tc : Thread Cert.AdpoolRefIdeal.nD Cert.AdpoolRefIdeal.τ).loc Cert.AdpoolRefIdeal.main_arg0) = m ((c.tc : Thread Cert.AdpoolRefIdeal.nD Cert.AdpoolRefIdeal.τ).loc Cert.AdpoolRefIdeal.main_arg0)
      ∧ r.2.mem ((c.tc : Thread Cert.AdpoolRefIdeal.nD Cert.AdpoolRefIdeal.τ).loc Cert.AdpoolRefIdeal.main_arg1) = m ((c.tc : Thread Cert.AdpoolRefIdeal.nD Cert.AdpoolRefIdeal.τ).loc Cert.AdpoolRefIdeal.main_arg1)
      ∧ r.2.mem ((c.tc : Thread Cert.AdpoolRefIdeal.nD Cert.AdpoolRefIdeal.τ).loc Cert.AdpoolRefIdeal.main_arg2) = m ((c.tc : Thread Cert.AdpoolRefIdeal.nD Cert.AdpoolRefIdeal.τ).loc Cert.AdpoolRefIdeal.main_arg2)
      ∧ r.2.mem ((c.tc : Thread Cert.AdpoolRefIdeal.nD Cert.AdpoolRefIdeal.τ).loc Cert.AdpoolRefIdeal.main_arg3) = m ((c.tc : Thread Cert.AdpoolRefIdeal.nD Cert.AdpoolRefIdeal.τ).loc Cert.AdpoolRefIdeal.main_arg3))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v66) = v1 c
          ∧ r.2.mem ((c.tc : Thread Cert.AttnRefIdeal.nD Cert.AttnRefIdeal.τ).loc Cert.AttnRefIdeal.main_v65) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Hf_HfIdeal : Prop :=
  True

def algebraic_HfIdeal_HfRefIdeal [hHfIdeal : Cert.HfIdeal.Facts] [hHfRefIdeal : Cert.HfRefIdeal.Facts] : Prop :=
  ∀ (m : (ℓ : Loc Cert.HfIdeal.nD Cert.HfIdeal.τ Cert.HfIdeal.sig) → Buf (Elt Ideal) ℓ) (g : Dev Cert.HfIdeal.nD → PrngReg)
    (m' : (ℓ : Loc Cert.HfRefIdeal.nD Cert.HfRefIdeal.τ Cert.HfRefIdeal.sig) → Buf (Elt Ideal) ℓ) (g' : Dev Cert.HfRefIdeal.nD → PrngReg), Pre_HfIdeal m →
    (∀ c : Dev Cert.HfIdeal.nD,
      m' ((c.tc : Thread Cert.HfRefIdeal.nD Cert.HfRefIdeal.τ).loc Cert.HfRefIdeal.main_arg0) = m ((c.tc : Thread Cert.HfIdeal.nD Cert.HfIdeal.τ).loc Cert.HfIdeal.main_arg0)
      ∧ m' ((c.tc : Thread Cert.HfRefIdeal.nD Cert.HfRefIdeal.τ).loc Cert.HfRefIdeal.main_arg1) = m ((c.tc : Thread Cert.HfIdeal.nD Cert.HfIdeal.τ).loc Cert.HfIdeal.main_arg1)
      ∧ m' ((c.tc : Thread Cert.HfRefIdeal.nD Cert.HfRefIdeal.τ).loc Cert.HfRefIdeal.main_arg2) = m ((c.tc : Thread Cert.HfIdeal.nD Cert.HfIdeal.τ).loc Cert.HfIdeal.main_arg2)
      ∧ m' ((c.tc : Thread Cert.HfRefIdeal.nD Cert.HfRefIdeal.τ).loc Cert.HfRefIdeal.main_arg3) = m ((c.tc : Thread Cert.HfIdeal.nD Cert.HfIdeal.τ).loc Cert.HfIdeal.main_arg3)
      ∧ m' ((c.tc : Thread Cert.HfRefIdeal.nD Cert.HfRefIdeal.τ).loc Cert.HfRefIdeal.main_arg4) = m ((c.tc : Thread Cert.HfIdeal.nD Cert.HfIdeal.τ).loc Cert.HfIdeal.main_arg4)
      ∧ m' ((c.tc : Thread Cert.HfRefIdeal.nD Cert.HfRefIdeal.τ).loc Cert.HfRefIdeal.main_arg5) = m ((c.tc : Thread Cert.HfIdeal.nD Cert.HfIdeal.τ).loc Cert.HfIdeal.main_arg5)) →
    ∃ (v0 : (c : Dev Cert.HfIdeal.nD) → Buf (Elt Ideal) ((c.tc : Thread Cert.HfIdeal.nD Cert.HfIdeal.τ).loc Cert.HfIdeal.main_v3_0)) (v1 : (c : Dev Cert.HfIdeal.nD) → Buf (Elt Ideal) ((c.tc : Thread Cert.HfIdeal.nD Cert.HfIdeal.τ).loc Cert.HfIdeal.main_v3_1)) (v2 : (c : Dev Cert.HfIdeal.nD) → Buf (Elt Ideal) ((c.tc : Thread Cert.HfIdeal.nD Cert.HfIdeal.τ).loc Cert.HfIdeal.main_v3_2)),
      θ_run (Cert.HfIdeal.defs (F := Ideal)) (onTc (τ := Cert.HfIdeal.τ) (Cert.HfIdeal.main (F := Ideal))) ⟨m, fun _ => 0, g⟩ (fun r => ∀ c : Dev Cert.HfIdeal.nD,
          r.2.mem ((c.tc : Thread Cert.HfIdeal.nD Cert.HfIdeal.τ).loc Cert.HfIdeal.main_v3_0) = v0 c
          ∧ r.2.mem ((c.tc : Thread Cert.HfIdeal.nD Cert.HfIdeal.τ).loc Cert.HfIdeal.main_v3_1) = v1 c
          ∧ r.2.mem ((c.tc : Thread Cert.HfIdeal.nD Cert.HfIdeal.τ).loc Cert.HfIdeal.main_v3_2) = v2 c
          ∧ r.2.mem ((c.tc : Thread Cert.HfIdeal.nD Cert.HfIdeal.τ).loc Cert.HfIdeal.main_arg0) = m ((c.tc : Thread Cert.HfIdeal.nD Cert.HfIdeal.τ).loc Cert.HfIdeal.main_arg0)
          ∧ r.2.mem ((c.tc : Thread Cert.HfIdeal.nD Cert.HfIdeal.τ).loc Cert.HfIdeal.main_arg1) = m ((c.tc : Thread Cert.HfIdeal.nD Cert.HfIdeal.τ).loc Cert.HfIdeal.main_arg1)
          ∧ r.2.mem ((c.tc : Thread Cert.HfIdeal.nD Cert.HfIdeal.τ).loc Cert.HfIdeal.main_arg2) = m ((c.tc : Thread Cert.HfIdeal.nD Cert.HfIdeal.τ).loc Cert.HfIdeal.main_arg2)
          ∧ r.2.mem ((c.tc : Thread Cert.HfIdeal.nD Cert.HfIdeal.τ).loc Cert.HfIdeal.main_arg3) = m ((c.tc : Thread Cert.HfIdeal.nD Cert.HfIdeal.τ).loc Cert.HfIdeal.main_arg3)
          ∧ r.2.mem ((c.tc : Thread Cert.HfIdeal.nD Cert.HfIdeal.τ).loc Cert.HfIdeal.main_arg4) = m ((c.tc : Thread Cert.HfIdeal.nD Cert.HfIdeal.τ).loc Cert.HfIdeal.main_arg4)
          ∧ r.2.mem ((c.tc : Thread Cert.HfIdeal.nD Cert.HfIdeal.τ).loc Cert.HfIdeal.main_arg5) = m ((c.tc : Thread Cert.HfIdeal.nD Cert.HfIdeal.τ).loc Cert.HfIdeal.main_arg5))
      ∧ θ_run (Cert.HfRefIdeal.defs (F := Ideal)) (onTc (τ := Cert.HfRefIdeal.τ) (Cert.HfRefIdeal.main (F := Ideal))) ⟨m', fun _ => 0, g'⟩ (fun r => ∀ c : Dev Cert.HfRefIdeal.nD,
          r.2.mem ((c.tc : Thread Cert.HfRefIdeal.nD Cert.HfRefIdeal.τ).loc Cert.HfRefIdeal.main_v40) = v0 c
          ∧ r.2.mem ((c.tc : Thread Cert.HfRefIdeal.nD Cert.HfRefIdeal.τ).loc Cert.HfRefIdeal.main_v41) = v1 c
          ∧ r.2.mem ((c.tc : Thread Cert.HfRefIdeal.nD Cert.HfRefIdeal.τ).loc Cert.HfRefIdeal.main_v42) = v2 c
          ∧ r.2.mem ((c.tc : Thread Cert.HfRefIdeal.nD Cert.HfRefIdeal.τ).loc Cert.HfRefIdeal.main_arg0) = m' ((c.tc : Thread Cert.HfRefIdeal.nD Cert.HfRefIdeal.τ).loc Cert.HfRefIdeal.main_arg0)
          ∧ r.2.mem ((c.tc : Thread Cert.HfRefIdeal.nD Cert.HfRefIdeal.τ).loc Cert.HfRefIdeal.main_arg1) = m' ((c.tc : Thread Cert.HfRefIdeal.nD Cert.HfRefIdeal.τ).loc Cert.HfRefIdeal.main_arg1)
          ∧ r.2.mem ((c.tc : Thread Cert.HfRefIdeal.nD Cert.HfRefIdeal.τ).loc Cert.HfRefIdeal.main_arg2) = m' ((c.tc : Thread Cert.HfRefIdeal.nD Cert.HfRefIdeal.τ).loc Cert.HfRefIdeal.main_arg2)
          ∧ r.2.mem ((c.tc : Thread Cert.HfRefIdeal.nD Cert.HfRefIdeal.τ).loc Cert.HfRefIdeal.main_arg3) = m' ((c.tc : Thread Cert.HfRefIdeal.nD Cert.HfRefIdeal.τ).loc Cert.HfRefIdeal.main_arg3)
          ∧ r.2.mem ((c.tc : Thread Cert.HfRefIdeal.nD Cert.HfRefIdeal.τ).loc Cert.HfRefIdeal.main_arg4) = m' ((c.tc : Thread Cert.HfRefIdeal.nD Cert.HfRefIdeal.τ).loc Cert.HfRefIdeal.main_arg4)
          ∧ r.2.mem ((c.tc : Thread Cert.HfRefIdeal.nD Cert.HfRefIdeal.τ).loc Cert.HfRefIdeal.main_arg5) = m' ((c.tc : Thread Cert.HfRefIdeal.nD Cert.HfRefIdeal.τ).loc Cert.HfRefIdeal.main_arg5))

def preserves_Hq_HqIdeal : Prop :=
  True

def algebraic_HqIdeal_HqRefIdeal [hHqIdeal : Cert.HqIdeal.Facts] [hHqRefIdeal : Cert.HqRefIdeal.Facts] : Prop :=
  ∀ (m : (ℓ : Loc Cert.HqIdeal.nD Cert.HqIdeal.τ Cert.HqIdeal.sig) → Buf (Elt Ideal) ℓ) (g : Dev Cert.HqIdeal.nD → PrngReg)
    (m' : (ℓ : Loc Cert.HqRefIdeal.nD Cert.HqRefIdeal.τ Cert.HqRefIdeal.sig) → Buf (Elt Ideal) ℓ) (g' : Dev Cert.HqRefIdeal.nD → PrngReg), Pre_HqIdeal m →
    (∀ c : Dev Cert.HqIdeal.nD,
      m' ((c.tc : Thread Cert.HqRefIdeal.nD Cert.HqRefIdeal.τ).loc Cert.HqRefIdeal.main_arg0) = m ((c.tc : Thread Cert.HqIdeal.nD Cert.HqIdeal.τ).loc Cert.HqIdeal.main_arg0)
      ∧ m' ((c.tc : Thread Cert.HqRefIdeal.nD Cert.HqRefIdeal.τ).loc Cert.HqRefIdeal.main_arg1) = m ((c.tc : Thread Cert.HqIdeal.nD Cert.HqIdeal.τ).loc Cert.HqIdeal.main_arg1)
      ∧ m' ((c.tc : Thread Cert.HqRefIdeal.nD Cert.HqRefIdeal.τ).loc Cert.HqRefIdeal.main_arg2) = m ((c.tc : Thread Cert.HqIdeal.nD Cert.HqIdeal.τ).loc Cert.HqIdeal.main_arg2)
      ∧ m' ((c.tc : Thread Cert.HqRefIdeal.nD Cert.HqRefIdeal.τ).loc Cert.HqRefIdeal.main_arg3) = m ((c.tc : Thread Cert.HqIdeal.nD Cert.HqIdeal.τ).loc Cert.HqIdeal.main_arg3)
      ∧ m' ((c.tc : Thread Cert.HqRefIdeal.nD Cert.HqRefIdeal.τ).loc Cert.HqRefIdeal.main_arg4) = m ((c.tc : Thread Cert.HqIdeal.nD Cert.HqIdeal.τ).loc Cert.HqIdeal.main_arg4)) →
    ∃ (v0 : (c : Dev Cert.HqIdeal.nD) → Buf (Elt Ideal) ((c.tc : Thread Cert.HqIdeal.nD Cert.HqIdeal.τ).loc Cert.HqIdeal.main_v2_0)) (v1 : (c : Dev Cert.HqIdeal.nD) → Buf (Elt Ideal) ((c.tc : Thread Cert.HqIdeal.nD Cert.HqIdeal.τ).loc Cert.HqIdeal.main_v2_1)) (v2 : (c : Dev Cert.HqIdeal.nD) → Buf (Elt Ideal) ((c.tc : Thread Cert.HqIdeal.nD Cert.HqIdeal.τ).loc Cert.HqIdeal.main_v2_2)),
      θ_run (Cert.HqIdeal.defs (F := Ideal)) (onTc (τ := Cert.HqIdeal.τ) (Cert.HqIdeal.main (F := Ideal))) ⟨m, fun _ => 0, g⟩ (fun r => ∀ c : Dev Cert.HqIdeal.nD,
          r.2.mem ((c.tc : Thread Cert.HqIdeal.nD Cert.HqIdeal.τ).loc Cert.HqIdeal.main_v2_0) = v0 c
          ∧ r.2.mem ((c.tc : Thread Cert.HqIdeal.nD Cert.HqIdeal.τ).loc Cert.HqIdeal.main_v2_1) = v1 c
          ∧ r.2.mem ((c.tc : Thread Cert.HqIdeal.nD Cert.HqIdeal.τ).loc Cert.HqIdeal.main_v2_2) = v2 c
          ∧ r.2.mem ((c.tc : Thread Cert.HqIdeal.nD Cert.HqIdeal.τ).loc Cert.HqIdeal.main_arg0) = m ((c.tc : Thread Cert.HqIdeal.nD Cert.HqIdeal.τ).loc Cert.HqIdeal.main_arg0)
          ∧ r.2.mem ((c.tc : Thread Cert.HqIdeal.nD Cert.HqIdeal.τ).loc Cert.HqIdeal.main_arg1) = m ((c.tc : Thread Cert.HqIdeal.nD Cert.HqIdeal.τ).loc Cert.HqIdeal.main_arg1)
          ∧ r.2.mem ((c.tc : Thread Cert.HqIdeal.nD Cert.HqIdeal.τ).loc Cert.HqIdeal.main_arg2) = m ((c.tc : Thread Cert.HqIdeal.nD Cert.HqIdeal.τ).loc Cert.HqIdeal.main_arg2)
          ∧ r.2.mem ((c.tc : Thread Cert.HqIdeal.nD Cert.HqIdeal.τ).loc Cert.HqIdeal.main_arg3) = m ((c.tc : Thread Cert.HqIdeal.nD Cert.HqIdeal.τ).loc Cert.HqIdeal.main_arg3)
          ∧ r.2.mem ((c.tc : Thread Cert.HqIdeal.nD Cert.HqIdeal.τ).loc Cert.HqIdeal.main_arg4) = m ((c.tc : Thread Cert.HqIdeal.nD Cert.HqIdeal.τ).loc Cert.HqIdeal.main_arg4))
      ∧ θ_run (Cert.HqRefIdeal.defs (F := Ideal)) (onTc (τ := Cert.HqRefIdeal.τ) (Cert.HqRefIdeal.main (F := Ideal))) ⟨m', fun _ => 0, g'⟩ (fun r => ∀ c : Dev Cert.HqRefIdeal.nD,
          r.2.mem ((c.tc : Thread Cert.HqRefIdeal.nD Cert.HqRefIdeal.τ).loc Cert.HqRefIdeal.main_v39) = v0 c
          ∧ r.2.mem ((c.tc : Thread Cert.HqRefIdeal.nD Cert.HqRefIdeal.τ).loc Cert.HqRefIdeal.main_v40) = v1 c
          ∧ r.2.mem ((c.tc : Thread Cert.HqRefIdeal.nD Cert.HqRefIdeal.τ).loc Cert.HqRefIdeal.main_v41) = v2 c
          ∧ r.2.mem ((c.tc : Thread Cert.HqRefIdeal.nD Cert.HqRefIdeal.τ).loc Cert.HqRefIdeal.main_arg0) = m' ((c.tc : Thread Cert.HqRefIdeal.nD Cert.HqRefIdeal.τ).loc Cert.HqRefIdeal.main_arg0)
          ∧ r.2.mem ((c.tc : Thread Cert.HqRefIdeal.nD Cert.HqRefIdeal.τ).loc Cert.HqRefIdeal.main_arg1) = m' ((c.tc : Thread Cert.HqRefIdeal.nD Cert.HqRefIdeal.τ).loc Cert.HqRefIdeal.main_arg1)
          ∧ r.2.mem ((c.tc : Thread Cert.HqRefIdeal.nD Cert.HqRefIdeal.τ).loc Cert.HqRefIdeal.main_arg2) = m' ((c.tc : Thread Cert.HqRefIdeal.nD Cert.HqRefIdeal.τ).loc Cert.HqRefIdeal.main_arg2)
          ∧ r.2.mem ((c.tc : Thread Cert.HqRefIdeal.nD Cert.HqRefIdeal.τ).loc Cert.HqRefIdeal.main_arg3) = m' ((c.tc : Thread Cert.HqRefIdeal.nD Cert.HqRefIdeal.τ).loc Cert.HqRefIdeal.main_arg3)
          ∧ r.2.mem ((c.tc : Thread Cert.HqRefIdeal.nD Cert.HqRefIdeal.τ).loc Cert.HqRefIdeal.main_arg4) = m' ((c.tc : Thread Cert.HqRefIdeal.nD Cert.HqRefIdeal.τ).loc Cert.HqRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)) (v2 : (c : Dev Cert.MixIdeal.nD) → Buf (Elt Ideal) ((c.tc : Thread Cert.MixIdeal.nD Cert.MixIdeal.τ).loc Cert.MixIdeal.main_v3_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_v3_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v39) = v0 c
          ∧ r.2.mem ((c.tc : Thread Cert.MixRefIdeal.nD Cert.MixRefIdeal.τ).loc Cert.MixRefIdeal.main_v40) = v1 c
          ∧ r.2.mem ((c.tc : Thread Cert.MixRefIdeal.nD Cert.MixRefIdeal.τ).loc Cert.MixRefIdeal.main_v41) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)) (v4 : (c : Dev Cert.MergeIdeal.nD) → Buf (Elt Ideal) ((c.tc : Thread Cert.MergeIdeal.nD Cert.MergeIdeal.τ).loc Cert.MergeIdeal.main_v1_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_v1_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_v44) = v2 c
          ∧ r.2.mem ((c.tc : Thread Cert.MergeRefIdeal.nD Cert.MergeRefIdeal.τ).loc Cert.MergeRefIdeal.main_v45) = v3 c
          ∧ r.2.mem ((c.tc : Thread Cert.MergeRefIdeal.nD Cert.MergeRefIdeal.τ).loc Cert.MergeRefIdeal.main_v46) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v6) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v7) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v7) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v2) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Upg_UpgIdeal : Prop :=
  True

def algebraic_UpgIdeal_UpgRefIdeal [hUpgIdeal : Cert.UpgIdeal.Facts] [hUpgRefIdeal : Cert.UpgRefIdeal.Facts] : Prop :=
  ∀ (m : (ℓ : Loc Cert.UpgIdeal.nD Cert.UpgIdeal.τ Cert.UpgIdeal.sig) → Buf (Elt Ideal) ℓ) (g : Dev Cert.UpgIdeal.nD → PrngReg)
    (m' : (ℓ : Loc Cert.UpgRefIdeal.nD Cert.UpgRefIdeal.τ Cert.UpgRefIdeal.sig) → Buf (Elt Ideal) ℓ) (g' : Dev Cert.UpgRefIdeal.nD → PrngReg), Pre_UpgIdeal m →
    (∀ c : Dev Cert.UpgIdeal.nD,
      m' ((c.tc : Thread Cert.UpgRefIdeal.nD Cert.UpgRefIdeal.τ).loc Cert.UpgRefIdeal.main_arg0) = m ((c.tc : Thread Cert.UpgIdeal.nD Cert.UpgIdeal.τ).loc Cert.UpgIdeal.main_arg0)
      ∧ m' ((c.tc : Thread Cert.UpgRefIdeal.nD Cert.UpgRefIdeal.τ).loc Cert.UpgRefIdeal.main_arg1) = m ((c.tc : Thread Cert.UpgIdeal.nD Cert.UpgIdeal.τ).loc Cert.UpgIdeal.main_arg1)) →
    ∃ (v0 : (c : Dev Cert.UpgIdeal.nD) → Buf (Elt Ideal) ((c.tc : Thread Cert.UpgIdeal.nD Cert.UpgIdeal.τ).loc Cert.UpgIdeal.main_v2)),
      θ_run (Cert.UpgIdeal.defs (F := Ideal)) (onTc (τ := Cert.UpgIdeal.τ) (Cert.UpgIdeal.main (F := Ideal))) ⟨m, fun _ => 0, g⟩ (fun r => ∀ c : Dev Cert.UpgIdeal.nD,
          r.2.mem ((c.tc : Thread Cert.UpgIdeal.nD Cert.UpgIdeal.τ).loc Cert.UpgIdeal.main_v2) = v0 c
          ∧ r.2.mem ((c.tc : Thread Cert.UpgIdeal.nD Cert.UpgIdeal.τ).loc Cert.UpgIdeal.main_arg0) = m ((c.tc : Thread Cert.UpgIdeal.nD Cert.UpgIdeal.τ).loc Cert.UpgIdeal.main_arg0)
          ∧ r.2.mem ((c.tc : Thread Cert.UpgIdeal.nD Cert.UpgIdeal.τ).loc Cert.UpgIdeal.main_arg1) = m ((c.tc : Thread Cert.UpgIdeal.nD Cert.UpgIdeal.τ).loc Cert.UpgIdeal.main_arg1))
      ∧ θ_run (Cert.UpgRefIdeal.defs (F := Ideal)) (onTc (τ := Cert.UpgRefIdeal.τ) (Cert.UpgRefIdeal.main (F := Ideal))) ⟨m', fun _ => 0, g'⟩ (fun r => ∀ c : Dev Cert.UpgRefIdeal.nD,
          r.2.mem ((c.tc : Thread Cert.UpgRefIdeal.nD Cert.UpgRefIdeal.τ).loc Cert.UpgRefIdeal.main_v3) = v0 c
          ∧ r.2.mem ((c.tc : Thread Cert.UpgRefIdeal.nD Cert.UpgRefIdeal.τ).loc Cert.UpgRefIdeal.main_arg0) = m' ((c.tc : Thread Cert.UpgRefIdeal.nD Cert.UpgRefIdeal.τ).loc Cert.UpgRefIdeal.main_arg0)
          ∧ r.2.mem ((c.tc : Thread Cert.UpgRefIdeal.nD Cert.UpgRefIdeal.τ).loc Cert.UpgRefIdeal.main_arg1) = m' ((c.tc : Thread Cert.UpgRefIdeal.nD Cert.UpgRefIdeal.τ).loc Cert.UpgRefIdeal.main_arg1))

def preserves_Upv_UpvIdeal : Prop :=
  True

def algebraic_UpvIdeal_UpvRefIdeal [hUpvIdeal : Cert.UpvIdeal.Facts] [hUpvRefIdeal : Cert.UpvRefIdeal.Facts] : Prop :=
  ∀ (m : (ℓ : Loc Cert.UpvIdeal.nD Cert.UpvIdeal.τ Cert.UpvIdeal.sig) → Buf (Elt Ideal) ℓ) (g : Dev Cert.UpvIdeal.nD → PrngReg)
    (m' : (ℓ : Loc Cert.UpvRefIdeal.nD Cert.UpvRefIdeal.τ Cert.UpvRefIdeal.sig) → Buf (Elt Ideal) ℓ) (g' : Dev Cert.UpvRefIdeal.nD → PrngReg), Pre_UpvIdeal m →
    (∀ c : Dev Cert.UpvIdeal.nD,
      m' ((c.tc : Thread Cert.UpvRefIdeal.nD Cert.UpvRefIdeal.τ).loc Cert.UpvRefIdeal.main_arg0) = m ((c.tc : Thread Cert.UpvIdeal.nD Cert.UpvIdeal.τ).loc Cert.UpvIdeal.main_arg0)
      ∧ m' ((c.tc : Thread Cert.UpvRefIdeal.nD Cert.UpvRefIdeal.τ).loc Cert.UpvRefIdeal.main_arg1) = m ((c.tc : Thread Cert.UpvIdeal.nD Cert.UpvIdeal.τ).loc Cert.UpvIdeal.main_arg1)) →
    ∃ (v0 : (c : Dev Cert.UpvIdeal.nD) → Buf (Elt Ideal) ((c.tc : Thread Cert.UpvIdeal.nD Cert.UpvIdeal.τ).loc Cert.UpvIdeal.main_v2)),
      θ_run (Cert.UpvIdeal.defs (F := Ideal)) (onTc (τ := Cert.UpvIdeal.τ) (Cert.UpvIdeal.main (F := Ideal))) ⟨m, fun _ => 0, g⟩ (fun r => ∀ c : Dev Cert.UpvIdeal.nD,
          r.2.mem ((c.tc : Thread Cert.UpvIdeal.nD Cert.UpvIdeal.τ).loc Cert.UpvIdeal.main_v2) = v0 c
          ∧ r.2.mem ((c.tc : Thread Cert.UpvIdeal.nD Cert.UpvIdeal.τ).loc Cert.UpvIdeal.main_arg0) = m ((c.tc : Thread Cert.UpvIdeal.nD Cert.UpvIdeal.τ).loc Cert.UpvIdeal.main_arg0)
          ∧ r.2.mem ((c.tc : Thread Cert.UpvIdeal.nD Cert.UpvIdeal.τ).loc Cert.UpvIdeal.main_arg1) = m ((c.tc : Thread Cert.UpvIdeal.nD Cert.UpvIdeal.τ).loc Cert.UpvIdeal.main_arg1))
      ∧ θ_run (Cert.UpvRefIdeal.defs (F := Ideal)) (onTc (τ := Cert.UpvRefIdeal.τ) (Cert.UpvRefIdeal.main (F := Ideal))) ⟨m', fun _ => 0, g'⟩ (fun r => ∀ c : Dev Cert.UpvRefIdeal.nD,
          r.2.mem ((c.tc : Thread Cert.UpvRefIdeal.nD Cert.UpvRefIdeal.τ).loc Cert.UpvRefIdeal.main_v4) = v0 c
          ∧ r.2.mem ((c.tc : Thread Cert.UpvRefIdeal.nD Cert.UpvRefIdeal.τ).loc Cert.UpvRefIdeal.main_arg0) = m' ((c.tc : Thread Cert.UpvRefIdeal.nD Cert.UpvRefIdeal.τ).loc Cert.UpvRefIdeal.main_arg0)
          ∧ r.2.mem ((c.tc : Thread Cert.UpvRefIdeal.nD Cert.UpvRefIdeal.τ).loc Cert.UpvRefIdeal.main_arg1) = m' ((c.tc : Thread Cert.UpvRefIdeal.nD Cert.UpvRefIdeal.τ).loc Cert.UpvRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dsq_DsqIdeal : Prop :=
  True

def algebraic_DsqIdeal_DsqRefIdeal [hDsqIdeal : Cert.DsqIdeal.Facts] [hDsqRefIdeal : Cert.DsqRefIdeal.Facts] : Prop :=
  ∀ (m : (ℓ : Loc Cert.DsqIdeal.nD Cert.DsqIdeal.τ Cert.DsqIdeal.sig) → Buf (Elt Ideal) ℓ) (g : Dev Cert.DsqIdeal.nD → PrngReg)
    (m' : (ℓ : Loc Cert.DsqRefIdeal.nD Cert.DsqRefIdeal.τ Cert.DsqRefIdeal.sig) → Buf (Elt Ideal) ℓ) (g' : Dev Cert.DsqRefIdeal.nD → PrngReg), Pre_DsqIdeal m →
    (∀ c : Dev Cert.DsqIdeal.nD,
      m' ((c.tc : Thread Cert.DsqRefIdeal.nD Cert.DsqRefIdeal.τ).loc Cert.DsqRefIdeal.main_arg0) = m ((c.tc : Thread Cert.DsqIdeal.nD Cert.DsqIdeal.τ).loc Cert.DsqIdeal.main_arg0)
      ∧ m' ((c.tc : Thread Cert.DsqRefIdeal.nD Cert.DsqRefIdeal.τ).loc Cert.DsqRefIdeal.main_arg1) = m ((c.tc : Thread Cert.DsqIdeal.nD Cert.DsqIdeal.τ).loc Cert.DsqIdeal.main_arg1)) →
    ∃ (v0 : (c : Dev Cert.DsqIdeal.nD) → Buf (Elt Ideal) ((c.tc : Thread Cert.DsqIdeal.nD Cert.DsqIdeal.τ).loc Cert.DsqIdeal.main_v1)),
      θ_run (Cert.DsqIdeal.defs (F := Ideal)) (onTc (τ := Cert.DsqIdeal.τ) (Cert.DsqIdeal.main (F := Ideal))) ⟨m, fun _ => 0, g⟩ (fun r => ∀ c : Dev Cert.DsqIdeal.nD,
          r.2.mem ((c.tc : Thread Cert.DsqIdeal.nD Cert.DsqIdeal.τ).loc Cert.DsqIdeal.main_v1) = v0 c
          ∧ r.2.mem ((c.tc : Thread Cert.DsqIdeal.nD Cert.DsqIdeal.τ).loc Cert.DsqIdeal.main_arg0) = m ((c.tc : Thread Cert.DsqIdeal.nD Cert.DsqIdeal.τ).loc Cert.DsqIdeal.main_arg0)
          ∧ r.2.mem ((c.tc : Thread Cert.DsqIdeal.nD Cert.DsqIdeal.τ).loc Cert.DsqIdeal.main_arg1) = m ((c.tc : Thread Cert.DsqIdeal.nD Cert.DsqIdeal.τ).loc Cert.DsqIdeal.main_arg1))
      ∧ θ_run (Cert.DsqRefIdeal.defs (F := Ideal)) (onTc (τ := Cert.DsqRefIdeal.τ) (Cert.DsqRefIdeal.main (F := Ideal))) ⟨m', fun _ => 0, g'⟩ (fun r => ∀ c : Dev Cert.DsqRefIdeal.nD,
          r.2.mem ((c.tc : Thread Cert.DsqRefIdeal.nD Cert.DsqRefIdeal.τ).loc Cert.DsqRefIdeal.main_v4) = v0 c
          ∧ r.2.mem ((c.tc : Thread Cert.DsqRefIdeal.nD Cert.DsqRefIdeal.τ).loc Cert.DsqRefIdeal.main_arg0) = m' ((c.tc : Thread Cert.DsqRefIdeal.nD Cert.DsqRefIdeal.τ).loc Cert.DsqRefIdeal.main_arg0)
          ∧ r.2.mem ((c.tc : Thread Cert.DsqRefIdeal.nD Cert.DsqRefIdeal.τ).loc Cert.DsqRefIdeal.main_arg1) = m' ((c.tc : Thread Cert.DsqRefIdeal.nD Cert.DsqRefIdeal.τ).loc Cert.DsqRefIdeal.main_arg1))

def preserves_Dwsq_DwsqIdeal : Prop :=
  True

def algebraic_DwsqIdeal_DwsqRefIdeal [hDwsqIdeal : Cert.DwsqIdeal.Facts] [hDwsqRefIdeal : Cert.DwsqRefIdeal.Facts] : Prop :=
  ∀ (m : (ℓ : Loc Cert.DwsqIdeal.nD Cert.DwsqIdeal.τ Cert.DwsqIdeal.sig) → Buf (Elt Ideal) ℓ) (g : Dev Cert.DwsqIdeal.nD → PrngReg)
    (m' : (ℓ : Loc Cert.DwsqRefIdeal.nD Cert.DwsqRefIdeal.τ Cert.DwsqRefIdeal.sig) → Buf (Elt Ideal) ℓ) (g' : Dev Cert.DwsqRefIdeal.nD → PrngReg), Pre_DwsqIdeal m →
    (∀ c : Dev Cert.DwsqIdeal.nD,
      m' ((c.tc : Thread Cert.DwsqRefIdeal.nD Cert.DwsqRefIdeal.τ).loc Cert.DwsqRefIdeal.main_arg0) = m ((c.tc : Thread Cert.DwsqIdeal.nD Cert.DwsqIdeal.τ).loc Cert.DwsqIdeal.main_arg0)
      ∧ m' ((c.tc : Thread Cert.DwsqRefIdeal.nD Cert.DwsqRefIdeal.τ).loc Cert.DwsqRefIdeal.main_arg1) = m ((c.tc : Thread Cert.DwsqIdeal.nD Cert.DwsqIdeal.τ).loc Cert.DwsqIdeal.main_arg1)) →
    ∃ (v0 : (c : Dev Cert.DwsqIdeal.nD) → Buf (Elt Ideal) ((c.tc : Thread Cert.DwsqIdeal.nD Cert.DwsqIdeal.τ).loc Cert.DwsqIdeal.main_v0)),
      θ_run (Cert.DwsqIdeal.defs (F := Ideal)) (onTc (τ := Cert.DwsqIdeal.τ) (Cert.DwsqIdeal.main (F := Ideal))) ⟨m, fun _ => 0, g⟩ (fun r => ∀ c : Dev Cert.DwsqIdeal.nD,
          r.2.mem ((c.tc : Thread Cert.DwsqIdeal.nD Cert.DwsqIdeal.τ).loc Cert.DwsqIdeal.main_v0) = v0 c
          ∧ r.2.mem ((c.tc : Thread Cert.DwsqIdeal.nD Cert.DwsqIdeal.τ).loc Cert.DwsqIdeal.main_arg0) = m ((c.tc : Thread Cert.DwsqIdeal.nD Cert.DwsqIdeal.τ).loc Cert.DwsqIdeal.main_arg0)
          ∧ r.2.mem ((c.tc : Thread Cert.DwsqIdeal.nD Cert.DwsqIdeal.τ).loc Cert.DwsqIdeal.main_arg1) = m ((c.tc : Thread Cert.DwsqIdeal.nD Cert.DwsqIdeal.τ).loc Cert.DwsqIdeal.main_arg1))
      ∧ θ_run (Cert.DwsqRefIdeal.defs (F := Ideal)) (onTc (τ := Cert.DwsqRefIdeal.τ) (Cert.DwsqRefIdeal.main (F := Ideal))) ⟨m', fun _ => 0, g'⟩ (fun r => ∀ c : Dev Cert.DwsqRefIdeal.nD,
          r.2.mem ((c.tc : Thread Cert.DwsqRefIdeal.nD Cert.DwsqRefIdeal.τ).loc Cert.DwsqRefIdeal.main_v6) = v0 c
          ∧ r.2.mem ((c.tc : Thread Cert.DwsqRefIdeal.nD Cert.DwsqRefIdeal.τ).loc Cert.DwsqRefIdeal.main_arg0) = m' ((c.tc : Thread Cert.DwsqRefIdeal.nD Cert.DwsqRefIdeal.τ).loc Cert.DwsqRefIdeal.main_arg0)
          ∧ r.2.mem ((c.tc : Thread Cert.DwsqRefIdeal.nD Cert.DwsqRefIdeal.τ).loc Cert.DwsqRefIdeal.main_arg1) = m' ((c.tc : Thread Cert.DwsqRefIdeal.nD Cert.DwsqRefIdeal.τ).loc Cert.DwsqRefIdeal.main_arg1))

def preserves_Dyt_DytIdeal : Prop :=
  True

def algebraic_DytIdeal_DytRefIdeal [hDytIdeal : Cert.DytIdeal.Facts] [hDytRefIdeal : Cert.DytRefIdeal.Facts] : Prop :=
  ∀ (m : (ℓ : Loc Cert.DytIdeal.nD Cert.DytIdeal.τ Cert.DytIdeal.sig) → Buf (Elt Ideal) ℓ) (g : Dev Cert.DytIdeal.nD → PrngReg)
    (m' : (ℓ : Loc Cert.DytRefIdeal.nD Cert.DytRefIdeal.τ Cert.DytRefIdeal.sig) → Buf (Elt Ideal) ℓ) (g' : Dev Cert.DytRefIdeal.nD → PrngReg), Pre_DytIdeal m →
    (∀ c : Dev Cert.DytIdeal.nD,
      m' ((c.tc : Thread Cert.DytRefIdeal.nD Cert.DytRefIdeal.τ).loc Cert.DytRefIdeal.main_arg0) = m ((c.tc : Thread Cert.DytIdeal.nD Cert.DytIdeal.τ).loc Cert.DytIdeal.main_arg0)
      ∧ m' ((c.tc : Thread Cert.DytRefIdeal.nD Cert.DytRefIdeal.τ).loc Cert.DytRefIdeal.main_arg1) = m ((c.tc : Thread Cert.DytIdeal.nD Cert.DytIdeal.τ).loc Cert.DytIdeal.main_arg1)) →
    ∃ (v0 : (c : Dev Cert.DytIdeal.nD) → Buf (Elt Ideal) ((c.tc : Thread Cert.DytIdeal.nD Cert.DytIdeal.τ).loc Cert.DytIdeal.main_v2)),
      θ_run (Cert.DytIdeal.defs (F := Ideal)) (onTc (τ := Cert.DytIdeal.τ) (Cert.DytIdeal.main (F := Ideal))) ⟨m, fun _ => 0, g⟩ (fun r => ∀ c : Dev Cert.DytIdeal.nD,
          r.2.mem ((c.tc : Thread Cert.DytIdeal.nD Cert.DytIdeal.τ).loc Cert.DytIdeal.main_v2) = v0 c
          ∧ r.2.mem ((c.tc : Thread Cert.DytIdeal.nD Cert.DytIdeal.τ).loc Cert.DytIdeal.main_arg0) = m ((c.tc : Thread Cert.DytIdeal.nD Cert.DytIdeal.τ).loc Cert.DytIdeal.main_arg0)
          ∧ r.2.mem ((c.tc : Thread Cert.DytIdeal.nD Cert.DytIdeal.τ).loc Cert.DytIdeal.main_arg1) = m ((c.tc : Thread Cert.DytIdeal.nD Cert.DytIdeal.τ).loc Cert.DytIdeal.main_arg1))
      ∧ θ_run (Cert.DytRefIdeal.defs (F := Ideal)) (onTc (τ := Cert.DytRefIdeal.τ) (Cert.DytRefIdeal.main (F := Ideal))) ⟨m', fun _ => 0, g'⟩ (fun r => ∀ c : Dev Cert.DytRefIdeal.nD,
          r.2.mem ((c.tc : Thread Cert.DytRefIdeal.nD Cert.DytRefIdeal.τ).loc Cert.DytRefIdeal.main_v4) = v0 c
          ∧ r.2.mem ((c.tc : Thread Cert.DytRefIdeal.nD Cert.DytRefIdeal.τ).loc Cert.DytRefIdeal.main_arg0) = m' ((c.tc : Thread Cert.DytRefIdeal.nD Cert.DytRefIdeal.τ).loc Cert.DytRefIdeal.main_arg0)
          ∧ r.2.mem ((c.tc : Thread Cert.DytRefIdeal.nD Cert.DytRefIdeal.τ).loc Cert.DytRefIdeal.main_arg1) = m' ((c.tc : Thread Cert.DytRefIdeal.nD Cert.DytRefIdeal.τ).loc Cert.DytRefIdeal.main_arg1))

def preserves_Dwco_DwcoIdeal : Prop :=
  True

def algebraic_DwcoIdeal_DwcoRefIdeal [hDwcoIdeal : Cert.DwcoIdeal.Facts] [hDwcoRefIdeal : Cert.DwcoRefIdeal.Facts] : Prop :=
  ∀ (m : (ℓ : Loc Cert.DwcoIdeal.nD Cert.DwcoIdeal.τ Cert.DwcoIdeal.sig) → Buf (Elt Ideal) ℓ) (g : Dev Cert.DwcoIdeal.nD → PrngReg)
    (m' : (ℓ : Loc Cert.DwcoRefIdeal.nD Cert.DwcoRefIdeal.τ Cert.DwcoRefIdeal.sig) → Buf (Elt Ideal) ℓ) (g' : Dev Cert.DwcoRefIdeal.nD → PrngReg), Pre_DwcoIdeal m →
    (∀ c : Dev Cert.DwcoIdeal.nD,
      m' ((c.tc : Thread Cert.DwcoRefIdeal.nD Cert.DwcoRefIdeal.τ).loc Cert.DwcoRefIdeal.main_arg0) = m ((c.tc : Thread Cert.DwcoIdeal.nD Cert.DwcoIdeal.τ).loc Cert.DwcoIdeal.main_arg0)
      ∧ m' ((c.tc : Thread Cert.DwcoRefIdeal.nD Cert.DwcoRefIdeal.τ).loc Cert.DwcoRefIdeal.main_arg1) = m ((c.tc : Thread Cert.DwcoIdeal.nD Cert.DwcoIdeal.τ).loc Cert.DwcoIdeal.main_arg1)) →
    ∃ (v0 : (c : Dev Cert.DwcoIdeal.nD) → Buf (Elt Ideal) ((c.tc : Thread Cert.DwcoIdeal.nD Cert.DwcoIdeal.τ).loc Cert.DwcoIdeal.main_v0)),
      θ_run (Cert.DwcoIdeal.defs (F := Ideal)) (onTc (τ := Cert.DwcoIdeal.τ) (Cert.DwcoIdeal.main (F := Ideal))) ⟨m, fun _ => 0, g⟩ (fun r => ∀ c : Dev Cert.DwcoIdeal.nD,
          r.2.mem ((c.tc : Thread Cert.DwcoIdeal.nD Cert.DwcoIdeal.τ).loc Cert.DwcoIdeal.main_v0) = v0 c
          ∧ r.2.mem ((c.tc : Thread Cert.DwcoIdeal.nD Cert.DwcoIdeal.τ).loc Cert.DwcoIdeal.main_arg0) = m ((c.tc : Thread Cert.DwcoIdeal.nD Cert.DwcoIdeal.τ).loc Cert.DwcoIdeal.main_arg0)
          ∧ r.2.mem ((c.tc : Thread Cert.DwcoIdeal.nD Cert.DwcoIdeal.τ).loc Cert.DwcoIdeal.main_arg1) = m ((c.tc : Thread Cert.DwcoIdeal.nD Cert.DwcoIdeal.τ).loc Cert.DwcoIdeal.main_arg1))
      ∧ θ_run (Cert.DwcoRefIdeal.defs (F := Ideal)) (onTc (τ := Cert.DwcoRefIdeal.τ) (Cert.DwcoRefIdeal.main (F := Ideal))) ⟨m', fun _ => 0, g'⟩ (fun r => ∀ c : Dev Cert.DwcoRefIdeal.nD,
          r.2.mem ((c.tc : Thread Cert.DwcoRefIdeal.nD Cert.DwcoRefIdeal.τ).loc Cert.DwcoRefIdeal.main_v7) = v0 c
          ∧ r.2.mem ((c.tc : Thread Cert.DwcoRefIdeal.nD Cert.DwcoRefIdeal.τ).loc Cert.DwcoRefIdeal.main_arg0) = m' ((c.tc : Thread Cert.DwcoRefIdeal.nD Cert.DwcoRefIdeal.τ).loc Cert.DwcoRefIdeal.main_arg0)
          ∧ r.2.mem ((c.tc : Thread Cert.DwcoRefIdeal.nD Cert.DwcoRefIdeal.τ).loc Cert.DwcoRefIdeal.main_arg1) = m' ((c.tc : Thread Cert.DwcoRefIdeal.nD Cert.DwcoRefIdeal.τ).loc Cert.DwcoRefIdeal.main_arg1))

def preserves_Qproj_QprojIdeal : Prop :=
  True

def algebraic_QprojIdeal_QprojRefIdeal [hQprojIdeal : Cert.QprojIdeal.Facts] [hQprojRefIdeal : Cert.QprojRefIdeal.Facts] : Prop :=
  ∀ (m : (ℓ : Loc Cert.QprojIdeal.nD Cert.QprojIdeal.τ Cert.QprojIdeal.sig) → Buf (Elt Ideal) ℓ) (g : Dev Cert.QprojIdeal.nD → PrngReg)
    (m' : (ℓ : Loc Cert.QprojRefIdeal.nD Cert.QprojRefIdeal.τ Cert.QprojRefIdeal.sig) → Buf (Elt Ideal) ℓ) (g' : Dev Cert.QprojRefIdeal.nD → PrngReg), Pre_QprojIdeal m →
    (∀ c : Dev Cert.QprojIdeal.nD,
      m' ((c.tc : Thread Cert.QprojRefIdeal.nD Cert.QprojRefIdeal.τ).loc Cert.QprojRefIdeal.main_arg0) = m ((c.tc : Thread Cert.QprojIdeal.nD Cert.QprojIdeal.τ).loc Cert.QprojIdeal.main_arg0)
      ∧ m' ((c.tc : Thread Cert.QprojRefIdeal.nD Cert.QprojRefIdeal.τ).loc Cert.QprojRefIdeal.main_arg1) = m ((c.tc : Thread Cert.QprojIdeal.nD Cert.QprojIdeal.τ).loc Cert.QprojIdeal.main_arg1)) →
    ∃ (v0 : (c : Dev Cert.QprojIdeal.nD) → Buf (Elt Ideal) ((c.tc : Thread Cert.QprojIdeal.nD Cert.QprojIdeal.τ).loc Cert.QprojIdeal.main_v1)),
      θ_run (Cert.QprojIdeal.defs (F := Ideal)) (onTc (τ := Cert.QprojIdeal.τ) (Cert.QprojIdeal.main (F := Ideal))) ⟨m, fun _ => 0, g⟩ (fun r => ∀ c : Dev Cert.QprojIdeal.nD,
          r.2.mem ((c.tc : Thread Cert.QprojIdeal.nD Cert.QprojIdeal.τ).loc Cert.QprojIdeal.main_v1) = v0 c
          ∧ r.2.mem ((c.tc : Thread Cert.QprojIdeal.nD Cert.QprojIdeal.τ).loc Cert.QprojIdeal.main_arg0) = m ((c.tc : Thread Cert.QprojIdeal.nD Cert.QprojIdeal.τ).loc Cert.QprojIdeal.main_arg0)
          ∧ r.2.mem ((c.tc : Thread Cert.QprojIdeal.nD Cert.QprojIdeal.τ).loc Cert.QprojIdeal.main_arg1) = m ((c.tc : Thread Cert.QprojIdeal.nD Cert.QprojIdeal.τ).loc Cert.QprojIdeal.main_arg1))
      ∧ θ_run (Cert.QprojRefIdeal.defs (F := Ideal)) (onTc (τ := Cert.QprojRefIdeal.τ) (Cert.QprojRefIdeal.main (F := Ideal))) ⟨m', fun _ => 0, g'⟩ (fun r => ∀ c : Dev Cert.QprojRefIdeal.nD,
          r.2.mem ((c.tc : Thread Cert.QprojRefIdeal.nD Cert.QprojRefIdeal.τ).loc Cert.QprojRefIdeal.main_v2) = v0 c
          ∧ r.2.mem ((c.tc : Thread Cert.QprojRefIdeal.nD Cert.QprojRefIdeal.τ).loc Cert.QprojRefIdeal.main_arg0) = m' ((c.tc : Thread Cert.QprojRefIdeal.nD Cert.QprojRefIdeal.τ).loc Cert.QprojRefIdeal.main_arg0)
          ∧ r.2.mem ((c.tc : Thread Cert.QprojRefIdeal.nD Cert.QprojRefIdeal.τ).loc Cert.QprojRefIdeal.main_arg1) = m' ((c.tc : Thread Cert.QprojRefIdeal.nD Cert.QprojRefIdeal.τ).loc Cert.QprojRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v2) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2))

def preserves_Convout_ConvoutIdeal : Prop :=
  True

def algebraic_ConvoutIdeal_ConvoutRefIdeal [hConvoutIdeal : Cert.ConvoutIdeal.Facts] [hConvoutRefIdeal : Cert.ConvoutRefIdeal.Facts] : Prop :=
  ∀ (m : (ℓ : Loc Cert.ConvoutIdeal.nD Cert.ConvoutIdeal.τ Cert.ConvoutIdeal.sig) → Buf (Elt Ideal) ℓ) (g : Dev Cert.ConvoutIdeal.nD → PrngReg)
    (m' : (ℓ : Loc Cert.ConvoutRefIdeal.nD Cert.ConvoutRefIdeal.τ Cert.ConvoutRefIdeal.sig) → Buf (Elt Ideal) ℓ) (g' : Dev Cert.ConvoutRefIdeal.nD → PrngReg), Pre_ConvoutIdeal m →
    (∀ c : Dev Cert.ConvoutIdeal.nD,
      m' ((c.tc : Thread Cert.ConvoutRefIdeal.nD Cert.ConvoutRefIdeal.τ).loc Cert.ConvoutRefIdeal.main_arg0) = m ((c.tc : Thread Cert.ConvoutIdeal.nD Cert.ConvoutIdeal.τ).loc Cert.ConvoutIdeal.main_arg0)
      ∧ m' ((c.tc : Thread Cert.ConvoutRefIdeal.nD Cert.ConvoutRefIdeal.τ).loc Cert.ConvoutRefIdeal.main_arg1) = m ((c.tc : Thread Cert.ConvoutIdeal.nD Cert.ConvoutIdeal.τ).loc Cert.ConvoutIdeal.main_arg1)) →
    ∃ (v0 : (c : Dev Cert.ConvoutIdeal.nD) → Buf (Elt Ideal) ((c.tc : Thread Cert.ConvoutIdeal.nD Cert.ConvoutIdeal.τ).loc Cert.ConvoutIdeal.main_v2)),
      θ_run (Cert.ConvoutIdeal.defs (F := Ideal)) (onTc (τ := Cert.ConvoutIdeal.τ) (Cert.ConvoutIdeal.main (F := Ideal))) ⟨m, fun _ => 0, g⟩ (fun r => ∀ c : Dev Cert.ConvoutIdeal.nD,
          r.2.mem ((c.tc : Thread Cert.ConvoutIdeal.nD Cert.ConvoutIdeal.τ).loc Cert.ConvoutIdeal.main_v2) = v0 c
          ∧ r.2.mem ((c.tc : Thread Cert.ConvoutIdeal.nD Cert.ConvoutIdeal.τ).loc Cert.ConvoutIdeal.main_arg0) = m ((c.tc : Thread Cert.ConvoutIdeal.nD Cert.ConvoutIdeal.τ).loc Cert.ConvoutIdeal.main_arg0)
          ∧ r.2.mem ((c.tc : Thread Cert.ConvoutIdeal.nD Cert.ConvoutIdeal.τ).loc Cert.ConvoutIdeal.main_arg1) = m ((c.tc : Thread Cert.ConvoutIdeal.nD Cert.ConvoutIdeal.τ).loc Cert.ConvoutIdeal.main_arg1))
      ∧ θ_run (Cert.ConvoutRefIdeal.defs (F := Ideal)) (onTc (τ := Cert.ConvoutRefIdeal.τ) (Cert.ConvoutRefIdeal.main (F := Ideal))) ⟨m', fun _ => 0, g'⟩ (fun r => ∀ c : Dev Cert.ConvoutRefIdeal.nD,
          r.2.mem ((c.tc : Thread Cert.ConvoutRefIdeal.nD Cert.ConvoutRefIdeal.τ).loc Cert.ConvoutRefIdeal.main_v2) = v0 c
          ∧ r.2.mem ((c.tc : Thread Cert.ConvoutRefIdeal.nD Cert.ConvoutRefIdeal.τ).loc Cert.ConvoutRefIdeal.main_arg0) = m' ((c.tc : Thread Cert.ConvoutRefIdeal.nD Cert.ConvoutRefIdeal.τ).loc Cert.ConvoutRefIdeal.main_arg0)
          ∧ r.2.mem ((c.tc : Thread Cert.ConvoutRefIdeal.nD Cert.ConvoutRefIdeal.τ).loc Cert.ConvoutRefIdeal.main_arg1) = m' ((c.tc : Thread Cert.ConvoutRefIdeal.nD Cert.ConvoutRefIdeal.τ).loc Cert.ConvoutRefIdeal.main_arg1))

def preserves_Kvproj_KvprojIdeal : Prop :=
  True

def algebraic_KvprojIdeal_KvprojRefIdeal [hKvprojIdeal : Cert.KvprojIdeal.Facts] [hKvprojRefIdeal : Cert.KvprojRefIdeal.Facts] : Prop :=
  ∀ (m : (ℓ : Loc Cert.KvprojIdeal.nD Cert.KvprojIdeal.τ Cert.KvprojIdeal.sig) → Buf (Elt Ideal) ℓ) (g : Dev Cert.KvprojIdeal.nD → PrngReg)
    (m' : (ℓ : Loc Cert.KvprojRefIdeal.nD Cert.KvprojRefIdeal.τ Cert.KvprojRefIdeal.sig) → Buf (Elt Ideal) ℓ) (g' : Dev Cert.KvprojRefIdeal.nD → PrngReg), Pre_KvprojIdeal m →
    (∀ c : Dev Cert.KvprojIdeal.nD,
      m' ((c.tc : Thread Cert.KvprojRefIdeal.nD Cert.KvprojRefIdeal.τ).loc Cert.KvprojRefIdeal.main_arg0) = m ((c.tc : Thread Cert.KvprojIdeal.nD Cert.KvprojIdeal.τ).loc Cert.KvprojIdeal.main_arg0)
      ∧ m' ((c.tc : Thread Cert.KvprojRefIdeal.nD Cert.KvprojRefIdeal.τ).loc Cert.KvprojRefIdeal.main_arg1) = m ((c.tc : Thread Cert.KvprojIdeal.nD Cert.KvprojIdeal.τ).loc Cert.KvprojIdeal.main_arg1)) →
    ∃ (v0 : (c : Dev Cert.KvprojIdeal.nD) → Buf (Elt Ideal) ((c.tc : Thread Cert.KvprojIdeal.nD Cert.KvprojIdeal.τ).loc Cert.KvprojIdeal.main_v2)),
      θ_run (Cert.KvprojIdeal.defs (F := Ideal)) (onTc (τ := Cert.KvprojIdeal.τ) (Cert.KvprojIdeal.main (F := Ideal))) ⟨m, fun _ => 0, g⟩ (fun r => ∀ c : Dev Cert.KvprojIdeal.nD,
          r.2.mem ((c.tc : Thread Cert.KvprojIdeal.nD Cert.KvprojIdeal.τ).loc Cert.KvprojIdeal.main_v2) = v0 c
          ∧ r.2.mem ((c.tc : Thread Cert.KvprojIdeal.nD Cert.KvprojIdeal.τ).loc Cert.KvprojIdeal.main_arg0) = m ((c.tc : Thread Cert.KvprojIdeal.nD Cert.KvprojIdeal.τ).loc Cert.KvprojIdeal.main_arg0)
          ∧ r.2.mem ((c.tc : Thread Cert.KvprojIdeal.nD Cert.KvprojIdeal.τ).loc Cert.KvprojIdeal.main_arg1) = m ((c.tc : Thread Cert.KvprojIdeal.nD Cert.KvprojIdeal.τ).loc Cert.KvprojIdeal.main_arg1))
      ∧ θ_run (Cert.KvprojRefIdeal.defs (F := Ideal)) (onTc (τ := Cert.KvprojRefIdeal.τ) (Cert.KvprojRefIdeal.main (F := Ideal))) ⟨m', fun _ => 0, g'⟩ (fun r => ∀ c : Dev Cert.KvprojRefIdeal.nD,
          r.2.mem ((c.tc : Thread Cert.KvprojRefIdeal.nD Cert.KvprojRefIdeal.τ).loc Cert.KvprojRefIdeal.main_v2) = v0 c
          ∧ r.2.mem ((c.tc : Thread Cert.KvprojRefIdeal.nD Cert.KvprojRefIdeal.τ).loc Cert.KvprojRefIdeal.main_arg0) = m' ((c.tc : Thread Cert.KvprojRefIdeal.nD Cert.KvprojRefIdeal.τ).loc Cert.KvprojRefIdeal.main_arg0)
          ∧ r.2.mem ((c.tc : Thread Cert.KvprojRefIdeal.nD Cert.KvprojRefIdeal.τ).loc Cert.KvprojRefIdeal.main_arg1) = m' ((c.tc : Thread Cert.KvprojRefIdeal.nD Cert.KvprojRefIdeal.τ).loc Cert.KvprojRefIdeal.main_arg1))

def preserves_Dwkv_DwkvIdeal : Prop :=
  True

def algebraic_DwkvIdeal_DwkvRefIdeal [hDwkvIdeal : Cert.DwkvIdeal.Facts] [hDwkvRefIdeal : Cert.DwkvRefIdeal.Facts] : Prop :=
  ∀ (m : (ℓ : Loc Cert.DwkvIdeal.nD Cert.DwkvIdeal.τ Cert.DwkvIdeal.sig) → Buf (Elt Ideal) ℓ) (g : Dev Cert.DwkvIdeal.nD → PrngReg)
    (m' : (ℓ : Loc Cert.DwkvRefIdeal.nD Cert.DwkvRefIdeal.τ Cert.DwkvRefIdeal.sig) → Buf (Elt Ideal) ℓ) (g' : Dev Cert.DwkvRefIdeal.nD → PrngReg), Pre_DwkvIdeal m →
    (∀ c : Dev Cert.DwkvIdeal.nD,
      m' ((c.tc : Thread Cert.DwkvRefIdeal.nD Cert.DwkvRefIdeal.τ).loc Cert.DwkvRefIdeal.main_arg0) = m ((c.tc : Thread Cert.DwkvIdeal.nD Cert.DwkvIdeal.τ).loc Cert.DwkvIdeal.main_arg0)
      ∧ m' ((c.tc : Thread Cert.DwkvRefIdeal.nD Cert.DwkvRefIdeal.τ).loc Cert.DwkvRefIdeal.main_arg1) = m ((c.tc : Thread Cert.DwkvIdeal.nD Cert.DwkvIdeal.τ).loc Cert.DwkvIdeal.main_arg1)) →
    ∃ (v0 : (c : Dev Cert.DwkvIdeal.nD) → Buf (Elt Ideal) ((c.tc : Thread Cert.DwkvIdeal.nD Cert.DwkvIdeal.τ).loc Cert.DwkvIdeal.main_v0)),
      θ_run (Cert.DwkvIdeal.defs (F := Ideal)) (onTc (τ := Cert.DwkvIdeal.τ) (Cert.DwkvIdeal.main (F := Ideal))) ⟨m, fun _ => 0, g⟩ (fun r => ∀ c : Dev Cert.DwkvIdeal.nD,
          r.2.mem ((c.tc : Thread Cert.DwkvIdeal.nD Cert.DwkvIdeal.τ).loc Cert.DwkvIdeal.main_v0) = v0 c
          ∧ r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
          ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ θ_run (Cert.DwkvRefIdeal.defs (F := Ideal)) (onTc (τ := Cert.DwkvRefIdeal.τ) (Cert.DwkvRefIdeal.main (F := Ideal))) ⟨m', fun _ => 0, g'⟩ (fun r => ∀ c : Dev Cert.DwkvRefIdeal.nD,
          r.2.mem ((c.tc : Thread Cert.DwkvRefIdeal.nD Cert.DwkvRefIdeal.τ).loc Cert.DwkvRefIdeal.main_v6) = v0 c
          ∧ r.2.mem ((c.tc : Thread Cert.DwkvRefIdeal.nD Cert.DwkvRefIdeal.τ).loc Cert.DwkvRefIdeal.main_arg0) = m' ((c.tc : Thread Cert.DwkvRefIdeal.nD Cert.DwkvRefIdeal.τ).loc Cert.DwkvRefIdeal.main_arg0)
          ∧ r.2.mem ((c.tc : Thread Cert.DwkvRefIdeal.nD Cert.DwkvRefIdeal.τ).loc Cert.DwkvRefIdeal.main_arg1) = m' ((c.tc : Thread Cert.DwkvRefIdeal.nD Cert.DwkvRefIdeal.τ).loc Cert.DwkvRefIdeal.main_arg1))

def preserves_Dmem_DmemIdeal : Prop :=
  True

def algebraic_DmemIdeal_DmemRefIdeal [hDmemIdeal : Cert.DmemIdeal.Facts] [hDmemRefIdeal : Cert.DmemRefIdeal.Facts] : Prop :=
  ∀ (m : (ℓ : Loc Cert.DmemIdeal.nD Cert.DmemIdeal.τ Cert.DmemIdeal.sig) → Buf (Elt Ideal) ℓ) (g : Dev Cert.DmemIdeal.nD → PrngReg)
    (m' : (ℓ : Loc Cert.DmemRefIdeal.nD Cert.DmemRefIdeal.τ Cert.DmemRefIdeal.sig) → Buf (Elt Ideal) ℓ) (g' : Dev Cert.DmemRefIdeal.nD → PrngReg), Pre_DmemIdeal m →
    (∀ c : Dev Cert.DmemIdeal.nD,
      m' ((c.tc : Thread Cert.DmemRefIdeal.nD Cert.DmemRefIdeal.τ).loc Cert.DmemRefIdeal.main_arg0) = m ((c.tc : Thread Cert.DmemIdeal.nD Cert.DmemIdeal.τ).loc Cert.DmemIdeal.main_arg0)
      ∧ m' ((c.tc : Thread Cert.DmemRefIdeal.nD Cert.DmemRefIdeal.τ).loc Cert.DmemRefIdeal.main_arg1) = m ((c.tc : Thread Cert.DmemIdeal.nD Cert.DmemIdeal.τ).loc Cert.DmemIdeal.main_arg1)
      ∧ m' ((c.tc : Thread Cert.DmemRefIdeal.nD Cert.DmemRefIdeal.τ).loc Cert.DmemRefIdeal.main_arg2) = m ((c.tc : Thread Cert.DmemIdeal.nD Cert.DmemIdeal.τ).loc Cert.DmemIdeal.main_arg2)) →
    ∃ (v0 : (c : Dev Cert.DmemIdeal.nD) → Buf (Elt Ideal) ((c.tc : Thread Cert.DmemIdeal.nD Cert.DmemIdeal.τ).loc Cert.DmemIdeal.main_v2)),
      θ_run (Cert.DmemIdeal.defs (F := Ideal)) (onTc (τ := Cert.DmemIdeal.τ) (Cert.DmemIdeal.main (F := Ideal))) ⟨m, fun _ => 0, g⟩ (fun r => ∀ c : Dev Cert.DmemIdeal.nD,
          r.2.mem ((c.tc : Thread Cert.DmemIdeal.nD Cert.DmemIdeal.τ).loc Cert.DmemIdeal.main_v2) = v0 c
          ∧ r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
          ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
          ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2))
      ∧ θ_run (Cert.DmemRefIdeal.defs (F := Ideal)) (onTc (τ := Cert.DmemRefIdeal.τ) (Cert.DmemRefIdeal.main (F := Ideal))) ⟨m', fun _ => 0, g'⟩ (fun r => ∀ c : Dev Cert.DmemRefIdeal.nD,
          r.2.mem ((c.tc : Thread Cert.DmemRefIdeal.nD Cert.DmemRefIdeal.τ).loc Cert.DmemRefIdeal.main_v3) = v0 c
          ∧ r.2.mem ((c.tc : Thread Cert.DmemRefIdeal.nD Cert.DmemRefIdeal.τ).loc Cert.DmemRefIdeal.main_arg0) = m' ((c.tc : Thread Cert.DmemRefIdeal.nD Cert.DmemRefIdeal.τ).loc Cert.DmemRefIdeal.main_arg0)
          ∧ r.2.mem ((c.tc : Thread Cert.DmemRefIdeal.nD Cert.DmemRefIdeal.τ).loc Cert.DmemRefIdeal.main_arg1) = m' ((c.tc : Thread Cert.DmemRefIdeal.nD Cert.DmemRefIdeal.τ).loc Cert.DmemRefIdeal.main_arg1)
          ∧ r.2.mem ((c.tc : Thread Cert.DmemRefIdeal.nD Cert.DmemRefIdeal.τ).loc Cert.DmemRefIdeal.main_arg2) = m' ((c.tc : Thread Cert.DmemRefIdeal.nD Cert.DmemRefIdeal.τ).loc Cert.DmemRefIdeal.main_arg2))

def preserves_Dmemtop_DmemtopIdeal : Prop :=
  True

def algebraic_DmemtopIdeal_DmemtopRefIdeal [hDmemtopIdeal : Cert.DmemtopIdeal.Facts] [hDmemtopRefIdeal : Cert.DmemtopRefIdeal.Facts] : Prop :=
  ∀ (m : (ℓ : Loc Cert.DmemtopIdeal.nD Cert.DmemtopIdeal.τ Cert.DmemtopIdeal.sig) → Buf (Elt Ideal) ℓ) (g : Dev Cert.DmemtopIdeal.nD → PrngReg)
    (m' : (ℓ : Loc Cert.DmemtopRefIdeal.nD Cert.DmemtopRefIdeal.τ Cert.DmemtopRefIdeal.sig) → Buf (Elt Ideal) ℓ) (g' : Dev Cert.DmemtopRefIdeal.nD → PrngReg), Pre_DmemtopIdeal m →
    (∀ c : Dev Cert.DmemtopIdeal.nD,
      m' ((c.tc : Thread Cert.DmemtopRefIdeal.nD Cert.DmemtopRefIdeal.τ).loc Cert.DmemtopRefIdeal.main_arg0) = m ((c.tc : Thread Cert.DmemtopIdeal.nD Cert.DmemtopIdeal.τ).loc Cert.DmemtopIdeal.main_arg0)
      ∧ m' ((c.tc : Thread Cert.DmemtopRefIdeal.nD Cert.DmemtopRefIdeal.τ).loc Cert.DmemtopRefIdeal.main_arg1) = m ((c.tc : Thread Cert.DmemtopIdeal.nD Cert.DmemtopIdeal.τ).loc Cert.DmemtopIdeal.main_arg1)) →
    ∃ (v0 : (c : Dev Cert.DmemtopIdeal.nD) → Buf (Elt Ideal) ((c.tc : Thread Cert.DmemtopIdeal.nD Cert.DmemtopIdeal.τ).loc Cert.DmemtopIdeal.main_v2)),
      θ_run (Cert.DmemtopIdeal.defs (F := Ideal)) (onTc (τ := Cert.DmemtopIdeal.τ) (Cert.DmemtopIdeal.main (F := Ideal))) ⟨m, fun _ => 0, g⟩ (fun r => ∀ c : Dev Cert.DmemtopIdeal.nD,
          r.2.mem ((c.tc : Thread Cert.DmemtopIdeal.nD Cert.DmemtopIdeal.τ).loc Cert.DmemtopIdeal.main_v2) = v0 c
          ∧ r.2.mem ((c.tc : Thread Cert.DmemtopIdeal.nD Cert.DmemtopIdeal.τ).loc Cert.DmemtopIdeal.main_arg0) = m ((c.tc : Thread Cert.DmemtopIdeal.nD Cert.DmemtopIdeal.τ).loc Cert.DmemtopIdeal.main_arg0)
          ∧ r.2.mem ((c.tc : Thread Cert.DmemtopIdeal.nD Cert.DmemtopIdeal.τ).loc Cert.DmemtopIdeal.main_arg1) = m ((c.tc : Thread Cert.DmemtopIdeal.nD Cert.DmemtopIdeal.τ).loc Cert.DmemtopIdeal.main_arg1))
      ∧ θ_run (Cert.DmemtopRefIdeal.defs (F := Ideal)) (onTc (τ := Cert.DmemtopRefIdeal.τ) (Cert.DmemtopRefIdeal.main (F := Ideal))) ⟨m', fun _ => 0, g'⟩ (fun r => ∀ c : Dev Cert.DmemtopRefIdeal.nD,
          r.2.mem ((c.tc : Thread Cert.DmemtopRefIdeal.nD Cert.DmemtopRefIdeal.τ).loc Cert.DmemtopRefIdeal.main_v2) = v0 c
          ∧ r.2.mem ((c.tc : Thread Cert.DmemtopRefIdeal.nD Cert.DmemtopRefIdeal.τ).loc Cert.DmemtopRefIdeal.main_arg0) = m' ((c.tc : Thread Cert.DmemtopRefIdeal.nD Cert.DmemtopRefIdeal.τ).loc Cert.DmemtopRefIdeal.main_arg0)
          ∧ r.2.mem ((c.tc : Thread Cert.DmemtopRefIdeal.nD Cert.DmemtopRefIdeal.τ).loc Cert.DmemtopRefIdeal.main_arg1) = m' ((c.tc : Thread Cert.DmemtopRefIdeal.nD Cert.DmemtopRefIdeal.τ).loc Cert.DmemtopRefIdeal.main_arg1))

def preserves_Attnf_AttnfIdeal : Prop :=
  True

def algebraic_AttnfIdeal_AttnfRefIdeal [hAttnfIdeal : Cert.AttnfIdeal.Facts] [hAttnfRefIdeal : Cert.AttnfRefIdeal.Facts] : Prop :=
  ∀ (m : (ℓ : Loc Cert.AttnfIdeal.nD Cert.AttnfIdeal.τ Cert.AttnfIdeal.sig) → Buf (Elt Ideal) ℓ) (g : Dev Cert.AttnfIdeal.nD → PrngReg)
    (m' : (ℓ : Loc Cert.AttnfRefIdeal.nD Cert.AttnfRefIdeal.τ Cert.AttnfRefIdeal.sig) → Buf (Elt Ideal) ℓ) (g' : Dev Cert.AttnfRefIdeal.nD → PrngReg), Pre_AttnfIdeal m →
    (∀ c : Dev Cert.AttnfIdeal.nD,
      m' ((c.tc : Thread Cert.AttnfRefIdeal.nD Cert.AttnfRefIdeal.τ).loc Cert.AttnfRefIdeal.main_arg0) = m ((c.tc : Thread Cert.AttnfIdeal.nD Cert.AttnfIdeal.τ).loc Cert.AttnfIdeal.main_arg0)
      ∧ m' ((c.tc : Thread Cert.AttnfRefIdeal.nD Cert.AttnfRefIdeal.τ).loc Cert.AttnfRefIdeal.main_arg1) = m ((c.tc : Thread Cert.AttnfIdeal.nD Cert.AttnfIdeal.τ).loc Cert.AttnfIdeal.main_arg1)) →
    ∃ (v0 : (c : Dev Cert.AttnfIdeal.nD) → Buf (Elt Ideal) ((c.tc : Thread Cert.AttnfIdeal.nD Cert.AttnfIdeal.τ).loc Cert.AttnfIdeal.main_v0)),
      θ_run (Cert.AttnfIdeal.defs (F := Ideal)) (onTc (τ := Cert.AttnfIdeal.τ) (Cert.AttnfIdeal.main (F := Ideal))) ⟨m, fun _ => 0, g⟩ (fun r => ∀ c : Dev Cert.AttnfIdeal.nD,
          r.2.mem ((c.tc : Thread Cert.AttnfIdeal.nD Cert.AttnfIdeal.τ).loc Cert.AttnfIdeal.main_v0) = v0 c
          ∧ r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
          ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ θ_run (Cert.AttnfRefIdeal.defs (F := Ideal)) (onTc (τ := Cert.AttnfRefIdeal.τ) (Cert.AttnfRefIdeal.main (F := Ideal))) ⟨m', fun _ => 0, g'⟩ (fun r => ∀ c : Dev Cert.AttnfRefIdeal.nD,
          r.2.mem ((c.tc : Thread Cert.AttnfRefIdeal.nD Cert.AttnfRefIdeal.τ).loc Cert.AttnfRefIdeal.main_v24) = v0 c
          ∧ r.2.mem ((c.tc : Thread Cert.AttnfRefIdeal.nD Cert.AttnfRefIdeal.τ).loc Cert.AttnfRefIdeal.main_arg0) = m' ((c.tc : Thread Cert.AttnfRefIdeal.nD Cert.AttnfRefIdeal.τ).loc Cert.AttnfRefIdeal.main_arg0)
          ∧ r.2.mem ((c.tc : Thread Cert.AttnfRefIdeal.nD Cert.AttnfRefIdeal.τ).loc Cert.AttnfRefIdeal.main_arg1) = m' ((c.tc : Thread Cert.AttnfRefIdeal.nD Cert.AttnfRefIdeal.τ).loc Cert.AttnfRefIdeal.main_arg1))

def preserves_Normf_NormfIdeal : Prop :=
  True

def algebraic_NormfIdeal_NormfRefIdeal [hNormfIdeal : Cert.NormfIdeal.Facts] [hNormfRefIdeal : Cert.NormfRefIdeal.Facts] : Prop :=
  ∀ (m : (ℓ : Loc Cert.NormfIdeal.nD Cert.NormfIdeal.τ Cert.NormfIdeal.sig) → Buf (Elt Ideal) ℓ) (g : Dev Cert.NormfIdeal.nD → PrngReg)
    (m' : (ℓ : Loc Cert.NormfRefIdeal.nD Cert.NormfRefIdeal.τ Cert.NormfRefIdeal.sig) → Buf (Elt Ideal) ℓ) (g' : Dev Cert.NormfRefIdeal.nD → PrngReg), Pre_NormfIdeal m →
    (∀ c : Dev Cert.NormfIdeal.nD,
      m' ((c.tc : Thread Cert.NormfRefIdeal.nD Cert.NormfRefIdeal.τ).loc Cert.NormfRefIdeal.main_arg0) = m ((c.tc : Thread Cert.NormfIdeal.nD Cert.NormfIdeal.τ).loc Cert.NormfIdeal.main_arg0)
      ∧ m' ((c.tc : Thread Cert.NormfRefIdeal.nD Cert.NormfRefIdeal.τ).loc Cert.NormfRefIdeal.main_arg1) = m ((c.tc : Thread Cert.NormfIdeal.nD Cert.NormfIdeal.τ).loc Cert.NormfIdeal.main_arg1)) →
    ∃ (v0 : (c : Dev Cert.NormfIdeal.nD) → Buf (Elt Ideal) ((c.tc : Thread Cert.NormfIdeal.nD Cert.NormfIdeal.τ).loc Cert.NormfIdeal.main_v1)),
      θ_run (Cert.NormfIdeal.defs (F := Ideal)) (onTc (τ := Cert.NormfIdeal.τ) (Cert.NormfIdeal.main (F := Ideal))) ⟨m, fun _ => 0, g⟩ (fun r => ∀ c : Dev Cert.NormfIdeal.nD,
          r.2.mem ((c.tc : Thread Cert.NormfIdeal.nD Cert.NormfIdeal.τ).loc Cert.NormfIdeal.main_v1) = v0 c
          ∧ r.2.mem ((c.tc : Thread Cert.NormfIdeal.nD Cert.NormfIdeal.τ).loc Cert.NormfIdeal.main_arg0) = m ((c.tc : Thread Cert.NormfIdeal.nD Cert.NormfIdeal.τ).loc Cert.NormfIdeal.main_arg0)
          ∧ r.2.mem ((c.tc : Thread Cert.NormfIdeal.nD Cert.NormfIdeal.τ).loc Cert.NormfIdeal.main_arg1) = m ((c.tc : Thread Cert.NormfIdeal.nD Cert.NormfIdeal.τ).loc Cert.NormfIdeal.main_arg1))
      ∧ θ_run (Cert.NormfRefIdeal.defs (F := Ideal)) (onTc (τ := Cert.NormfRefIdeal.τ) (Cert.NormfRefIdeal.main (F := Ideal))) ⟨m', fun _ => 0, g'⟩ (fun r => ∀ c : Dev Cert.NormfRefIdeal.nD,
          r.2.mem ((c.tc : Thread Cert.NormfRefIdeal.nD Cert.NormfRefIdeal.τ).loc Cert.NormfRefIdeal.main_v13) = v0 c
          ∧ r.2.mem ((c.tc : Thread Cert.NormfRefIdeal.nD Cert.NormfRefIdeal.τ).loc Cert.NormfRefIdeal.main_arg0) = m' ((c.tc : Thread Cert.NormfRefIdeal.nD Cert.NormfRefIdeal.τ).loc Cert.NormfRefIdeal.main_arg0)
          ∧ r.2.mem ((c.tc : Thread Cert.NormfRefIdeal.nD Cert.NormfRefIdeal.τ).loc Cert.NormfRefIdeal.main_arg1) = m' ((c.tc : Thread Cert.NormfRefIdeal.nD Cert.NormfRefIdeal.τ).loc Cert.NormfRefIdeal.main_arg1))

def preserves_Memf_MemfIdeal : Prop :=
  True

def algebraic_MemfIdeal_MemfRefIdeal [hMemfIdeal : Cert.MemfIdeal.Facts] [hMemfRefIdeal : Cert.MemfRefIdeal.Facts] : Prop :=
  ∀ (m : (ℓ : Loc Cert.MemfIdeal.nD Cert.MemfIdeal.τ Cert.MemfIdeal.sig) → Buf (Elt Ideal) ℓ) (g : Dev Cert.MemfIdeal.nD → PrngReg)
    (m' : (ℓ : Loc Cert.MemfRefIdeal.nD Cert.MemfRefIdeal.τ Cert.MemfRefIdeal.sig) → Buf (Elt Ideal) ℓ) (g' : Dev Cert.MemfRefIdeal.nD → PrngReg), Pre_MemfIdeal m →
    (∀ c : Dev Cert.MemfIdeal.nD,
      m' ((c.tc : Thread Cert.MemfRefIdeal.nD Cert.MemfRefIdeal.τ).loc Cert.MemfRefIdeal.main_arg0) = m ((c.tc : Thread Cert.MemfIdeal.nD Cert.MemfIdeal.τ).loc Cert.MemfIdeal.main_arg0)
      ∧ m' ((c.tc : Thread Cert.MemfRefIdeal.nD Cert.MemfRefIdeal.τ).loc Cert.MemfRefIdeal.main_arg1) = m ((c.tc : Thread Cert.MemfIdeal.nD Cert.MemfIdeal.τ).loc Cert.MemfIdeal.main_arg1)) →
    ∃ (v0 : (c : Dev Cert.MemfIdeal.nD) → Buf (Elt Ideal) ((c.tc : Thread Cert.MemfIdeal.nD Cert.MemfIdeal.τ).loc Cert.MemfIdeal.main_v1)),
      θ_run (Cert.MemfIdeal.defs (F := Ideal)) (onTc (τ := Cert.MemfIdeal.τ) (Cert.MemfIdeal.main (F := Ideal))) ⟨m, fun _ => 0, g⟩ (fun r => ∀ c : Dev Cert.MemfIdeal.nD,
          r.2.mem ((c.tc : Thread Cert.MemfIdeal.nD Cert.MemfIdeal.τ).loc Cert.MemfIdeal.main_v1) = v0 c
          ∧ r.2.mem ((c.tc : Thread Cert.MemfIdeal.nD Cert.MemfIdeal.τ).loc Cert.MemfIdeal.main_arg0) = m ((c.tc : Thread Cert.MemfIdeal.nD Cert.MemfIdeal.τ).loc Cert.MemfIdeal.main_arg0)
          ∧ r.2.mem ((c.tc : Thread Cert.MemfIdeal.nD Cert.MemfIdeal.τ).loc Cert.MemfIdeal.main_arg1) = m ((c.tc : Thread Cert.MemfIdeal.nD Cert.MemfIdeal.τ).loc Cert.MemfIdeal.main_arg1))
      ∧ θ_run (Cert.MemfRefIdeal.defs (F := Ideal)) (onTc (τ := Cert.MemfRefIdeal.τ) (Cert.MemfRefIdeal.main (F := Ideal))) ⟨m', fun _ => 0, g'⟩ (fun r => ∀ c : Dev Cert.MemfRefIdeal.nD,
          r.2.mem ((c.tc : Thread Cert.MemfRefIdeal.nD Cert.MemfRefIdeal.τ).loc Cert.MemfRefIdeal.main_v13) = v0 c
          ∧ r.2.mem ((c.tc : Thread Cert.MemfRefIdeal.nD Cert.MemfRefIdeal.τ).loc Cert.MemfRefIdeal.main_arg0) = m' ((c.tc : Thread Cert.MemfRefIdeal.nD Cert.MemfRefIdeal.τ).loc Cert.MemfRefIdeal.main_arg0)
          ∧ r.2.mem ((c.tc : Thread Cert.MemfRefIdeal.nD Cert.MemfRefIdeal.τ).loc Cert.MemfRefIdeal.main_arg1) = m' ((c.tc : Thread Cert.MemfRefIdeal.nD Cert.MemfRefIdeal.τ).loc Cert.MemfRefIdeal.main_arg1))

def preserves_Mergef_MergefIdeal : Prop :=
  True

def algebraic_MergefIdeal_MergefRefIdeal [hMergefIdeal : Cert.MergefIdeal.Facts] [hMergefRefIdeal : Cert.MergefRefIdeal.Facts] : Prop :=
  ∀ (m : (ℓ : Loc Cert.MergefIdeal.nD Cert.MergefIdeal.τ Cert.MergefIdeal.sig) → Buf (Elt Ideal) ℓ) (g : Dev Cert.MergefIdeal.nD → PrngReg)
    (m' : (ℓ : Loc Cert.MergefRefIdeal.nD Cert.MergefRefIdeal.τ Cert.MergefRefIdeal.sig) → Buf (Elt Ideal) ℓ) (g' : Dev Cert.MergefRefIdeal.nD → PrngReg), Pre_MergefIdeal m →
    (∀ c : Dev Cert.MergefIdeal.nD,
      m' ((c.tc : Thread Cert.MergefRefIdeal.nD Cert.MergefRefIdeal.τ).loc Cert.MergefRefIdeal.main_arg0) = m ((c.tc : Thread Cert.MergefIdeal.nD Cert.MergefIdeal.τ).loc Cert.MergefIdeal.main_arg0)
      ∧ m' ((c.tc : Thread Cert.MergefRefIdeal.nD Cert.MergefRefIdeal.τ).loc Cert.MergefRefIdeal.main_arg1) = m ((c.tc : Thread Cert.MergefIdeal.nD Cert.MergefIdeal.τ).loc Cert.MergefIdeal.main_arg1)
      ∧ m' ((c.tc : Thread Cert.MergefRefIdeal.nD Cert.MergefRefIdeal.τ).loc Cert.MergefRefIdeal.main_arg2) = m ((c.tc : Thread Cert.MergefIdeal.nD Cert.MergefIdeal.τ).loc Cert.MergefIdeal.main_arg2)
      ∧ m' ((c.tc : Thread Cert.MergefRefIdeal.nD Cert.MergefRefIdeal.τ).loc Cert.MergefRefIdeal.main_arg3) = m ((c.tc : Thread Cert.MergefIdeal.nD Cert.MergefIdeal.τ).loc Cert.MergefIdeal.main_arg3)) →
    ∃ (v0 : (c : Dev Cert.MergefIdeal.nD) → Buf (Elt Ideal) ((c.tc : Thread Cert.MergefIdeal.nD Cert.MergefIdeal.τ).loc Cert.MergefIdeal.main_v1)),
      θ_run (Cert.MergefIdeal.defs (F := Ideal)) (onTc (τ := Cert.MergefIdeal.τ) (Cert.MergefIdeal.main (F := Ideal))) ⟨m, fun _ => 0, g⟩ (fun r => ∀ c : Dev Cert.MergefIdeal.nD,
          r.2.mem ((c.tc : Thread Cert.MergefIdeal.nD Cert.MergefIdeal.τ).loc Cert.MergefIdeal.main_v1) = v0 c
          ∧ r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
          ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
          ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
          ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3))
      ∧ θ_run (Cert.MergefRefIdeal.defs (F := Ideal)) (onTc (τ := Cert.MergefRefIdeal.τ) (Cert.MergefRefIdeal.main (F := Ideal))) ⟨m', fun _ => 0, g'⟩ (fun r => ∀ c : Dev Cert.MergefRefIdeal.nD,
          r.2.mem ((c.tc : Thread Cert.MergefRefIdeal.nD Cert.MergefRefIdeal.τ).loc Cert.MergefRefIdeal.main_v23) = v0 c
          ∧ r.2.mem ((c.tc : Thread Cert.MergefRefIdeal.nD Cert.MergefRefIdeal.τ).loc Cert.MergefRefIdeal.main_arg0) = m' ((c.tc : Thread Cert.MergefRefIdeal.nD Cert.MergefRefIdeal.τ).loc Cert.MergefRefIdeal.main_arg0)
          ∧ r.2.mem ((c.tc : Thread Cert.MergefRefIdeal.nD Cert.MergefRefIdeal.τ).loc Cert.MergefRefIdeal.main_arg1) = m' ((c.tc : Thread Cert.MergefRefIdeal.nD Cert.MergefRefIdeal.τ).loc Cert.MergefRefIdeal.main_arg1)
          ∧ r.2.mem ((c.tc : Thread Cert.MergefRefIdeal.nD Cert.MergefRefIdeal.τ).loc Cert.MergefRefIdeal.main_arg2) = m' ((c.tc : Thread Cert.MergefRefIdeal.nD Cert.MergefRefIdeal.τ).loc Cert.MergefRefIdeal.main_arg2)
          ∧ r.2.mem ((c.tc : Thread Cert.MergefRefIdeal.nD Cert.MergefRefIdeal.τ).loc Cert.MergefRefIdeal.main_arg3) = m' ((c.tc : Thread Cert.MergefRefIdeal.nD Cert.MergefRefIdeal.τ).loc Cert.MergefRefIdeal.main_arg3))

def preserves_Gproj_GprojIdeal : Prop :=
  True

def algebraic_GprojIdeal_GprojRefIdeal [hGprojIdeal : Cert.GprojIdeal.Facts] [hGprojRefIdeal : Cert.GprojRefIdeal.Facts] : Prop :=
  ∀ (m : (ℓ : Loc Cert.GprojIdeal.nD Cert.GprojIdeal.τ Cert.GprojIdeal.sig) → Buf (Elt Ideal) ℓ) (g : Dev Cert.GprojIdeal.nD → PrngReg)
    (m' : (ℓ : Loc Cert.GprojRefIdeal.nD Cert.GprojRefIdeal.τ Cert.GprojRefIdeal.sig) → Buf (Elt Ideal) ℓ) (g' : Dev Cert.GprojRefIdeal.nD → PrngReg), Pre_GprojIdeal m →
    (∀ c : Dev Cert.GprojIdeal.nD,
      m' ((c.tc : Thread Cert.GprojRefIdeal.nD Cert.GprojRefIdeal.τ).loc Cert.GprojRefIdeal.main_arg0) = m ((c.tc : Thread Cert.GprojIdeal.nD Cert.GprojIdeal.τ).loc Cert.GprojIdeal.main_arg0)
      ∧ m' ((c.tc : Thread Cert.GprojRefIdeal.nD Cert.GprojRefIdeal.τ).loc Cert.GprojRefIdeal.main_arg1) = m ((c.tc : Thread Cert.GprojIdeal.nD Cert.GprojIdeal.τ).loc Cert.GprojIdeal.main_arg1)) →
    ∃ (v0 : (c : Dev Cert.GprojIdeal.nD) → Buf (Elt Ideal) ((c.tc : Thread Cert.GprojIdeal.nD Cert.GprojIdeal.τ).loc Cert.GprojIdeal.main_v2)),
      θ_run (Cert.GprojIdeal.defs (F := Ideal)) (onTc (τ := Cert.GprojIdeal.τ) (Cert.GprojIdeal.main (F := Ideal))) ⟨m, fun _ => 0, g⟩ (fun r => ∀ c : Dev Cert.GprojIdeal.nD,
          r.2.mem ((c.tc : Thread Cert.GprojIdeal.nD Cert.GprojIdeal.τ).loc Cert.GprojIdeal.main_v2) = v0 c
          ∧ r.2.mem ((c.tc : Thread Cert.GprojIdeal.nD Cert.GprojIdeal.τ).loc Cert.GprojIdeal.main_arg0) = m ((c.tc : Thread Cert.GprojIdeal.nD Cert.GprojIdeal.τ).loc Cert.GprojIdeal.main_arg0)
          ∧ r.2.mem ((c.tc : Thread Cert.GprojIdeal.nD Cert.GprojIdeal.τ).loc Cert.GprojIdeal.main_arg1) = m ((c.tc : Thread Cert.GprojIdeal.nD Cert.GprojIdeal.τ).loc Cert.GprojIdeal.main_arg1))
      ∧ θ_run (Cert.GprojRefIdeal.defs (F := Ideal)) (onTc (τ := Cert.GprojRefIdeal.τ) (Cert.GprojRefIdeal.main (F := Ideal))) ⟨m', fun _ => 0, g'⟩ (fun r => ∀ c : Dev Cert.GprojRefIdeal.nD,
          r.2.mem ((c.tc : Thread Cert.GprojRefIdeal.nD Cert.GprojRefIdeal.τ).loc Cert.GprojRefIdeal.main_v5) = v0 c
          ∧ r.2.mem ((c.tc : Thread Cert.GprojRefIdeal.nD Cert.GprojRefIdeal.τ).loc Cert.GprojRefIdeal.main_arg0) = m' ((c.tc : Thread Cert.GprojRefIdeal.nD Cert.GprojRefIdeal.τ).loc Cert.GprojRefIdeal.main_arg0)
          ∧ r.2.mem ((c.tc : Thread Cert.GprojRefIdeal.nD Cert.GprojRefIdeal.τ).loc Cert.GprojRefIdeal.main_arg1) = m' ((c.tc : Thread Cert.GprojRefIdeal.nD Cert.GprojRefIdeal.τ).loc Cert.GprojRefIdeal.main_arg1))

def preserves_Gdz_GdzIdeal : Prop :=
  True

def algebraic_GdzIdeal_GdzRefIdeal [hGdzIdeal : Cert.GdzIdeal.Facts] [hGdzRefIdeal : Cert.GdzRefIdeal.Facts] : Prop :=
  ∀ (m : (ℓ : Loc Cert.GdzIdeal.nD Cert.GdzIdeal.τ Cert.GdzIdeal.sig) → Buf (Elt Ideal) ℓ) (g : Dev Cert.GdzIdeal.nD → PrngReg)
    (m' : (ℓ : Loc Cert.GdzRefIdeal.nD Cert.GdzRefIdeal.τ Cert.GdzRefIdeal.sig) → Buf (Elt Ideal) ℓ) (g' : Dev Cert.GdzRefIdeal.nD → PrngReg), Pre_GdzIdeal m →
    (∀ c : Dev Cert.GdzIdeal.nD,
      m' ((c.tc : Thread Cert.GdzRefIdeal.nD Cert.GdzRefIdeal.τ).loc Cert.GdzRefIdeal.main_arg0) = m ((c.tc : Thread Cert.GdzIdeal.nD Cert.GdzIdeal.τ).loc Cert.GdzIdeal.main_arg0)
      ∧ m' ((c.tc : Thread Cert.GdzRefIdeal.nD Cert.GdzRefIdeal.τ).loc Cert.GdzRefIdeal.main_arg1) = m ((c.tc : Thread Cert.GdzIdeal.nD Cert.GdzIdeal.τ).loc Cert.GdzIdeal.main_arg1)) →
    ∃ (v0 : (c : Dev Cert.GdzIdeal.nD) → Buf (Elt Ideal) ((c.tc : Thread Cert.GdzIdeal.nD Cert.GdzIdeal.τ).loc Cert.GdzIdeal.main_v2)),
      θ_run (Cert.GdzIdeal.defs (F := Ideal)) (onTc (τ := Cert.GdzIdeal.τ) (Cert.GdzIdeal.main (F := Ideal))) ⟨m, fun _ => 0, g⟩ (fun r => ∀ c : Dev Cert.GdzIdeal.nD,
          r.2.mem ((c.tc : Thread Cert.GdzIdeal.nD Cert.GdzIdeal.τ).loc Cert.GdzIdeal.main_v2) = v0 c
          ∧ r.2.mem ((c.tc : Thread Cert.GdzIdeal.nD Cert.GdzIdeal.τ).loc Cert.GdzIdeal.main_arg0) = m ((c.tc : Thread Cert.GdzIdeal.nD Cert.GdzIdeal.τ).loc Cert.GdzIdeal.main_arg0)
          ∧ r.2.mem ((c.tc : Thread Cert.GdzIdeal.nD Cert.GdzIdeal.τ).loc Cert.GdzIdeal.main_arg1) = m ((c.tc : Thread Cert.GdzIdeal.nD Cert.GdzIdeal.τ).loc Cert.GdzIdeal.main_arg1))
      ∧ θ_run (Cert.GdzRefIdeal.defs (F := Ideal)) (onTc (τ := Cert.GdzRefIdeal.τ) (Cert.GdzRefIdeal.main (F := Ideal))) ⟨m', fun _ => 0, g'⟩ (fun r => ∀ c : Dev Cert.GdzRefIdeal.nD,
          r.2.mem ((c.tc : Thread Cert.GdzRefIdeal.nD Cert.GdzRefIdeal.τ).loc Cert.GdzRefIdeal.main_v11) = v0 c
          ∧ r.2.mem ((c.tc : Thread Cert.GdzRefIdeal.nD Cert.GdzRefIdeal.τ).loc Cert.GdzRefIdeal.main_arg0) = m' ((c.tc : Thread Cert.GdzRefIdeal.nD Cert.GdzRefIdeal.τ).loc Cert.GdzRefIdeal.main_arg0)
          ∧ r.2.mem ((c.tc : Thread Cert.GdzRefIdeal.nD Cert.GdzRefIdeal.τ).loc Cert.GdzRefIdeal.main_arg1) = m' ((c.tc : Thread Cert.GdzRefIdeal.nD Cert.GdzRefIdeal.τ).loc Cert.GdzRefIdeal.main_arg1))

def preserves_Gdw_GdwIdeal : Prop :=
  True

def algebraic_GdwIdeal_GdwRefIdeal [hGdwIdeal : Cert.GdwIdeal.Facts] [hGdwRefIdeal : Cert.GdwRefIdeal.Facts] : Prop :=
  ∀ (m : (ℓ : Loc Cert.GdwIdeal.nD Cert.GdwIdeal.τ Cert.GdwIdeal.sig) → Buf (Elt Ideal) ℓ) (g : Dev Cert.GdwIdeal.nD → PrngReg)
    (m' : (ℓ : Loc Cert.GdwRefIdeal.nD Cert.GdwRefIdeal.τ Cert.GdwRefIdeal.sig) → Buf (Elt Ideal) ℓ) (g' : Dev Cert.GdwRefIdeal.nD → PrngReg), Pre_GdwIdeal m →
    (∀ c : Dev Cert.GdwIdeal.nD,
      m' ((c.tc : Thread Cert.GdwRefIdeal.nD Cert.GdwRefIdeal.τ).loc Cert.GdwRefIdeal.main_arg0) = m ((c.tc : Thread Cert.GdwIdeal.nD Cert.GdwIdeal.τ).loc Cert.GdwIdeal.main_arg0)
      ∧ m' ((c.tc : Thread Cert.GdwRefIdeal.nD Cert.GdwRefIdeal.τ).loc Cert.GdwRefIdeal.main_arg1) = m ((c.tc : Thread Cert.GdwIdeal.nD Cert.GdwIdeal.τ).loc Cert.GdwIdeal.main_arg1)) →
    ∃ (v0 : (c : Dev Cert.GdwIdeal.nD) → Buf (Elt Ideal) ((c.tc : Thread Cert.GdwIdeal.nD Cert.GdwIdeal.τ).loc Cert.GdwIdeal.main_v0)),
      θ_run (Cert.GdwIdeal.defs (F := Ideal)) (onTc (τ := Cert.GdwIdeal.τ) (Cert.GdwIdeal.main (F := Ideal))) ⟨m, fun _ => 0, g⟩ (fun r => ∀ c : Dev Cert.GdwIdeal.nD,
          r.2.mem ((c.tc : Thread Cert.GdwIdeal.nD Cert.GdwIdeal.τ).loc Cert.GdwIdeal.main_v0) = v0 c
          ∧ r.2.mem ((c.tc : Thread Cert.GdwIdeal.nD Cert.GdwIdeal.τ).loc Cert.GdwIdeal.main_arg0) = m ((c.tc : Thread Cert.GdwIdeal.nD Cert.GdwIdeal.τ).loc Cert.GdwIdeal.main_arg0)
          ∧ r.2.mem ((c.tc : Thread Cert.GdwIdeal.nD Cert.GdwIdeal.τ).loc Cert.GdwIdeal.main_arg1) = m ((c.tc : Thread Cert.GdwIdeal.nD Cert.GdwIdeal.τ).loc Cert.GdwIdeal.main_arg1))
      ∧ θ_run (Cert.GdwRefIdeal.defs (F := Ideal)) (onTc (τ := Cert.GdwRefIdeal.τ) (Cert.GdwRefIdeal.main (F := Ideal))) ⟨m', fun _ => 0, g'⟩ (fun r => ∀ c : Dev Cert.GdwRefIdeal.nD,
          r.2.mem ((c.tc : Thread Cert.GdwRefIdeal.nD Cert.GdwRefIdeal.τ).loc Cert.GdwRefIdeal.main_v11) = v0 c
          ∧ r.2.mem ((c.tc : Thread Cert.GdwRefIdeal.nD Cert.GdwRefIdeal.τ).loc Cert.GdwRefIdeal.main_arg0) = m' ((c.tc : Thread Cert.GdwRefIdeal.nD Cert.GdwRefIdeal.τ).loc Cert.GdwRefIdeal.main_arg0)
          ∧ r.2.mem ((c.tc : Thread Cert.GdwRefIdeal.nD Cert.GdwRefIdeal.τ).loc Cert.GdwRefIdeal.main_arg1) = m' ((c.tc : Thread Cert.GdwRefIdeal.nD Cert.GdwRefIdeal.τ).loc Cert.GdwRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Memn_MemnIdeal : Prop :=
  True

def algebraic_MemnIdeal_MemnRefIdeal [hMemnIdeal : Cert.MemnIdeal.Facts] [hMemnRefIdeal : Cert.MemnRefIdeal.Facts] : Prop :=
  ∀ (m : (ℓ : Loc Cert.MemnIdeal.nD Cert.MemnIdeal.τ Cert.MemnIdeal.sig) → Buf (Elt Ideal) ℓ) (g : Dev Cert.MemnIdeal.nD → PrngReg)
    (m' : (ℓ : Loc Cert.MemnRefIdeal.nD Cert.MemnRefIdeal.τ Cert.MemnRefIdeal.sig) → Buf (Elt Ideal) ℓ) (g' : Dev Cert.MemnRefIdeal.nD → PrngReg), Pre_MemnIdeal m →
    (∀ c : Dev Cert.MemnIdeal.nD,
      m' ((c.tc : Thread Cert.MemnRefIdeal.nD Cert.MemnRefIdeal.τ).loc Cert.MemnRefIdeal.main_arg0) = m ((c.tc : Thread Cert.MemnIdeal.nD Cert.MemnIdeal.τ).loc Cert.MemnIdeal.main_arg0)
      ∧ m' ((c.tc : Thread Cert.MemnRefIdeal.nD Cert.MemnRefIdeal.τ).loc Cert.MemnRefIdeal.main_arg1) = m ((c.tc : Thread Cert.MemnIdeal.nD Cert.MemnIdeal.τ).loc Cert.MemnIdeal.main_arg1)
      ∧ m' ((c.tc : Thread Cert.MemnRefIdeal.nD Cert.MemnRefIdeal.τ).loc Cert.MemnRefIdeal.main_arg2) = m ((c.tc : Thread Cert.MemnIdeal.nD Cert.MemnIdeal.τ).loc Cert.MemnIdeal.main_arg2)) →
    ∃ (v0 : (c : Dev Cert.MemnIdeal.nD) → Buf (Elt Ideal) ((c.tc : Thread Cert.MemnIdeal.nD Cert.MemnIdeal.τ).loc Cert.MemnIdeal.main_v1_0)) (v1 : (c : Dev Cert.MemnIdeal.nD) → Buf (Elt Ideal) ((c.tc : Thread Cert.MemnIdeal.nD Cert.MemnIdeal.τ).loc Cert.MemnIdeal.main_v1_1)) (v2 : (c : Dev Cert.MemnIdeal.nD) → Buf (Elt Ideal) ((c.tc : Thread Cert.MemnIdeal.nD Cert.MemnIdeal.τ).loc Cert.MemnIdeal.main_v1_2)),
      θ_run (Cert.MemnIdeal.defs (F := Ideal)) (onTc (τ := Cert.MemnIdeal.τ) (Cert.MemnIdeal.main (F := Ideal))) ⟨m, fun _ => 0, g⟩ (fun r => ∀ c : Dev Cert.MemnIdeal.nD,
          r.2.mem ((c.tc : Thread Cert.MemnIdeal.nD Cert.MemnIdeal.τ).loc Cert.MemnIdeal.main_v1_0) = v0 c
          ∧ r.2.mem ((c.tc : Thread Cert.MemnIdeal.nD Cert.MemnIdeal.τ).loc Cert.MemnIdeal.main_v1_1) = v1 c
          ∧ r.2.mem ((c.tc : Thread Cert.MemnIdeal.nD Cert.MemnIdeal.τ).loc Cert.MemnIdeal.main_v1_2) = v2 c
          ∧ r.2.mem ((c.tc : Thread Cert.MemnIdeal.nD Cert.MemnIdeal.τ).loc Cert.MemnIdeal.main_arg0) = m ((c.tc : Thread Cert.MemnIdeal.nD Cert.MemnIdeal.τ).loc Cert.MemnIdeal.main_arg0)
          ∧ r.2.mem ((c.tc : Thread Cert.MemnIdeal.nD Cert.MemnIdeal.τ).loc Cert.MemnIdeal.main_arg1) = m ((c.tc : Thread Cert.MemnIdeal.nD Cert.MemnIdeal.τ).loc Cert.MemnIdeal.main_arg1)
          ∧ r.2.mem ((c.tc : Thread Cert.MemnIdeal.nD Cert.MemnIdeal.τ).loc Cert.MemnIdeal.main_arg2) = m ((c.tc : Thread Cert.MemnIdeal.nD Cert.MemnIdeal.τ).loc Cert.MemnIdeal.main_arg2))
      ∧ θ_run (Cert.MemnRefIdeal.defs (F := Ideal)) (onTc (τ := Cert.MemnRefIdeal.τ) (Cert.MemnRefIdeal.main (F := Ideal))) ⟨m', fun _ => 0, g'⟩ (fun r => ∀ c : Dev Cert.MemnRefIdeal.nD,
          r.2.mem ((c.tc : Thread Cert.MemnRefIdeal.nD Cert.MemnRefIdeal.τ).loc Cert.MemnRefIdeal.main_v35) = v0 c
          ∧ r.2.mem ((c.tc : Thread Cert.MemnRefIdeal.nD Cert.MemnRefIdeal.τ).loc Cert.MemnRefIdeal.main_v36) = v1 c
          ∧ r.2.mem ((c.tc : Thread Cert.MemnRefIdeal.nD Cert.MemnRefIdeal.τ).loc Cert.MemnRefIdeal.main_v37) = v2 c
          ∧ r.2.mem ((c.tc : Thread Cert.MemnRefIdeal.nD Cert.MemnRefIdeal.τ).loc Cert.MemnRefIdeal.main_arg0) = m' ((c.tc : Thread Cert.MemnRefIdeal.nD Cert.MemnRefIdeal.τ).loc Cert.MemnRefIdeal.main_arg0)
          ∧ r.2.mem ((c.tc : Thread Cert.MemnRefIdeal.nD Cert.MemnRefIdeal.τ).loc Cert.MemnRefIdeal.main_arg1) = m' ((c.tc : Thread Cert.MemnRefIdeal.nD Cert.MemnRefIdeal.τ).loc Cert.MemnRefIdeal.main_arg1)
          ∧ r.2.mem ((c.tc : Thread Cert.MemnRefIdeal.nD Cert.MemnRefIdeal.τ).loc Cert.MemnRefIdeal.main_arg2) = m' ((c.tc : Thread Cert.MemnRefIdeal.nD Cert.MemnRefIdeal.τ).loc Cert.MemnRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)) →
    ∃ (v0 : (c : Dev Cert.SmallIdeal.nD) → Buf (Elt Ideal) ((c.tc : Thread Cert.SmallIdeal.nD Cert.SmallIdeal.τ).loc Cert.SmallIdeal.main_v16)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v16) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0))

def preserves_Gmix_GmixIdeal : Prop :=
  True

def algebraic_GmixIdeal_GmixRefIdeal [hGmixIdeal : Cert.GmixIdeal.Facts] [hGmixRefIdeal : Cert.GmixRefIdeal.Facts] : Prop :=
  ∀ (m : (ℓ : Loc Cert.GmixIdeal.nD Cert.GmixIdeal.τ Cert.GmixIdeal.sig) → Buf (Elt Ideal) ℓ) (g : Dev Cert.GmixIdeal.nD → PrngReg)
    (m' : (ℓ : Loc Cert.GmixRefIdeal.nD Cert.GmixRefIdeal.τ Cert.GmixRefIdeal.sig) → Buf (Elt Ideal) ℓ) (g' : Dev Cert.GmixRefIdeal.nD → PrngReg), Pre_GmixIdeal m →
    (∀ c : Dev Cert.GmixIdeal.nD,
      m' ((c.tc : Thread Cert.GmixRefIdeal.nD Cert.GmixRefIdeal.τ).loc Cert.GmixRefIdeal.main_arg0) = m ((c.tc : Thread Cert.GmixIdeal.nD Cert.GmixIdeal.τ).loc Cert.GmixIdeal.main_arg0)
      ∧ m' ((c.tc : Thread Cert.GmixRefIdeal.nD Cert.GmixRefIdeal.τ).loc Cert.GmixRefIdeal.main_arg1) = m ((c.tc : Thread Cert.GmixIdeal.nD Cert.GmixIdeal.τ).loc Cert.GmixIdeal.main_arg1)) →
    ∃ (v0 : (c : Dev Cert.GmixIdeal.nD) → Buf (Elt Ideal) ((c.tc : Thread Cert.GmixIdeal.nD Cert.GmixIdeal.τ).loc Cert.GmixIdeal.main_v0)),
      θ_run (Cert.GmixIdeal.defs (F := Ideal)) (onTc (τ := Cert.GmixIdeal.τ) (Cert.GmixIdeal.main (F := Ideal))) ⟨m, fun _ => 0, g⟩ (fun r => ∀ c : Dev Cert.GmixIdeal.nD,
          r.2.mem ((c.tc : Thread Cert.GmixIdeal.nD Cert.GmixIdeal.τ).loc Cert.GmixIdeal.main_v0) = v0 c
          ∧ r.2.mem ((c.tc : Thread Cert.GmixIdeal.nD Cert.GmixIdeal.τ).loc Cert.GmixIdeal.main_arg0) = m ((c.tc : Thread Cert.GmixIdeal.nD Cert.GmixIdeal.τ).loc Cert.GmixIdeal.main_arg0)
          ∧ r.2.mem ((c.tc : Thread Cert.GmixIdeal.nD Cert.GmixIdeal.τ).loc Cert.GmixIdeal.main_arg1) = m ((c.tc : Thread Cert.GmixIdeal.nD Cert.GmixIdeal.τ).loc Cert.GmixIdeal.main_arg1))
      ∧ θ_run (Cert.GmixRefIdeal.defs (F := Ideal)) (onTc (τ := Cert.GmixRefIdeal.τ) (Cert.GmixRefIdeal.main (F := Ideal))) ⟨m', fun _ => 0, g'⟩ (fun r => ∀ c : Dev Cert.GmixRefIdeal.nD,
          r.2.mem ((c.tc : Thread Cert.GmixRefIdeal.nD Cert.GmixRefIdeal.τ).loc Cert.GmixRefIdeal.main_v5) = v0 c
          ∧ r.2.mem ((c.tc : Thread Cert.GmixRefIdeal.nD Cert.GmixRefIdeal.τ).loc Cert.GmixRefIdeal.main_arg0) = m' ((c.tc : Thread Cert.GmixRefIdeal.nD Cert.GmixRefIdeal.τ).loc Cert.GmixRefIdeal.main_arg0)
          ∧ r.2.mem ((c.tc : Thread Cert.GmixRefIdeal.nD Cert.GmixRefIdeal.τ).loc Cert.GmixRefIdeal.main_arg1) = m' ((c.tc : Thread Cert.GmixRefIdeal.nD Cert.GmixRefIdeal.τ).loc Cert.GmixRefIdeal.main_arg1))

def preserves_Grest_GrestIdeal : Prop :=
  True

def algebraic_GrestIdeal_GrestRefIdeal [hGrestIdeal : Cert.GrestIdeal.Facts] [hGrestRefIdeal : Cert.GrestRefIdeal.Facts] : Prop :=
  ∀ (m : (ℓ : Loc Cert.GrestIdeal.nD Cert.GrestIdeal.τ Cert.GrestIdeal.sig) → Buf (Elt Ideal) ℓ) (g : Dev Cert.GrestIdeal.nD → PrngReg)
    (m' : (ℓ : Loc Cert.GrestRefIdeal.nD Cert.GrestRefIdeal.τ Cert.GrestRefIdeal.sig) → Buf (Elt Ideal) ℓ) (g' : Dev Cert.GrestRefIdeal.nD → PrngReg), Pre_GrestIdeal m →
    (∀ c : Dev Cert.GrestIdeal.nD,
      m' ((c.tc : Thread Cert.GrestRefIdeal.nD Cert.GrestRefIdeal.τ).loc Cert.GrestRefIdeal.main_arg0) = m ((c.tc : Thread Cert.GrestIdeal.nD Cert.GrestIdeal.τ).loc Cert.GrestIdeal.main_arg0)
      ∧ m' ((c.tc : Thread Cert.GrestRefIdeal.nD Cert.GrestRefIdeal.τ).loc Cert.GrestRefIdeal.main_arg1) = m ((c.tc : Thread Cert.GrestIdeal.nD Cert.GrestIdeal.τ).loc Cert.GrestIdeal.main_arg1)) →
    ∃ (v0 : (c : Dev Cert.GrestIdeal.nD) → Buf (Elt Ideal) ((c.tc : Thread Cert.GrestIdeal.nD Cert.GrestIdeal.τ).loc Cert.GrestIdeal.main_v0)),
      θ_run (Cert.GrestIdeal.defs (F := Ideal)) (onTc (τ := Cert.GrestIdeal.τ) (Cert.GrestIdeal.main (F := Ideal))) ⟨m, fun _ => 0, g⟩ (fun r => ∀ c : Dev Cert.GrestIdeal.nD,
          r.2.mem ((c.tc : Thread Cert.GrestIdeal.nD Cert.GrestIdeal.τ).loc Cert.GrestIdeal.main_v0) = v0 c
          ∧ r.2.mem ((c.tc : Thread Cert.GrestIdeal.nD Cert.GrestIdeal.τ).loc Cert.GrestIdeal.main_arg0) = m ((c.tc : Thread Cert.GrestIdeal.nD Cert.GrestIdeal.τ).loc Cert.GrestIdeal.main_arg0)
          ∧ r.2.mem ((c.tc : Thread Cert.GrestIdeal.nD Cert.GrestIdeal.τ).loc Cert.GrestIdeal.main_arg1) = m ((c.tc : Thread Cert.GrestIdeal.nD Cert.GrestIdeal.τ).loc Cert.GrestIdeal.main_arg1))
      ∧ θ_run (Cert.GrestRefIdeal.defs (F := Ideal)) (onTc (τ := Cert.GrestRefIdeal.τ) (Cert.GrestRefIdeal.main (F := Ideal))) ⟨m', fun _ => 0, g'⟩ (fun r => ∀ c : Dev Cert.GrestRefIdeal.nD,
          r.2.mem ((c.tc : Thread Cert.GrestRefIdeal.nD Cert.GrestRefIdeal.τ).loc Cert.GrestRefIdeal.main_v5) = v0 c
          ∧ r.2.mem ((c.tc : Thread Cert.GrestRefIdeal.nD Cert.GrestRefIdeal.τ).loc Cert.GrestRefIdeal.main_arg0) = m' ((c.tc : Thread Cert.GrestRefIdeal.nD Cert.GrestRefIdeal.τ).loc Cert.GrestRefIdeal.main_arg0)
          ∧ r.2.mem ((c.tc : Thread Cert.GrestRefIdeal.nD Cert.GrestRefIdeal.τ).loc Cert.GrestRefIdeal.main_arg1) = m' ((c.tc : Thread Cert.GrestRefIdeal.nD Cert.GrestRefIdeal.τ).loc Cert.GrestRefIdeal.main_arg1))

def preserves_Gall_GallIdeal : Prop :=
  True

def algebraic_GallIdeal_GallRefIdeal [hGallIdeal : Cert.GallIdeal.Facts] [hGallRefIdeal : Cert.GallRefIdeal.Facts] : Prop :=
  ∀ (m : (ℓ : Loc Cert.GallIdeal.nD Cert.GallIdeal.τ Cert.GallIdeal.sig) → Buf (Elt Ideal) ℓ) (g : Dev Cert.GallIdeal.nD → PrngReg)
    (m' : (ℓ : Loc Cert.GallRefIdeal.nD Cert.GallRefIdeal.τ Cert.GallRefIdeal.sig) → Buf (Elt Ideal) ℓ) (g' : Dev Cert.GallRefIdeal.nD → PrngReg), Pre_GallIdeal m →
    (∀ c : Dev Cert.GallIdeal.nD,
      m' ((c.tc : Thread Cert.GallRefIdeal.nD Cert.GallRefIdeal.τ).loc Cert.GallRefIdeal.main_arg0) = m ((c.tc : Thread Cert.GallIdeal.nD Cert.GallIdeal.τ).loc Cert.GallIdeal.main_arg0)
      ∧ m' ((c.tc : Thread Cert.GallRefIdeal.nD Cert.GallRefIdeal.τ).loc Cert.GallRefIdeal.main_arg1) = m ((c.tc : Thread Cert.GallIdeal.nD Cert.GallIdeal.τ).loc Cert.GallIdeal.main_arg1)) →
    ∃ (v0 : (c : Dev Cert.GallIdeal.nD) → Buf (Elt Ideal) ((c.tc : Thread Cert.GallIdeal.nD Cert.GallIdeal.τ).loc Cert.GallIdeal.main_v0)),
      θ_run (Cert.GallIdeal.defs (F := Ideal)) (onTc (τ := Cert.GallIdeal.τ) (Cert.GallIdeal.main (F := Ideal))) ⟨m, fun _ => 0, g⟩ (fun r => ∀ c : Dev Cert.GallIdeal.nD,
          r.2.mem ((c.tc : Thread Cert.GallIdeal.nD Cert.GallIdeal.τ).loc Cert.GallIdeal.main_v0) = v0 c
          ∧ r.2.mem ((c.tc : Thread Cert.GallIdeal.nD Cert.GallIdeal.τ).loc Cert.GallIdeal.main_arg0) = m ((c.tc : Thread Cert.GallIdeal.nD Cert.GallIdeal.τ).loc Cert.GallIdeal.main_arg0)
          ∧ r.2.mem ((c.tc : Thread Cert.GallIdeal.nD Cert.GallIdeal.τ).loc Cert.GallIdeal.main_arg1) = m ((c.tc : Thread Cert.GallIdeal.nD Cert.GallIdeal.τ).loc Cert.GallIdeal.main_arg1))
      ∧ θ_run (Cert.GallRefIdeal.defs (F := Ideal)) (onTc (τ := Cert.GallRefIdeal.τ) (Cert.GallRefIdeal.main (F := Ideal))) ⟨m', fun _ => 0, g'⟩ (fun r => ∀ c : Dev Cert.GallRefIdeal.nD,
          r.2.mem ((c.tc : Thread Cert.GallRefIdeal.nD Cert.GallRefIdeal.τ).loc Cert.GallRefIdeal.main_v5) = v0 c
          ∧ r.2.mem ((c.tc : Thread Cert.GallRefIdeal.nD Cert.GallRefIdeal.τ).loc Cert.GallRefIdeal.main_arg0) = m' ((c.tc : Thread Cert.GallRefIdeal.nD Cert.GallRefIdeal.τ).loc Cert.GallRefIdeal.main_arg0)
          ∧ r.2.mem ((c.tc : Thread Cert.GallRefIdeal.nD Cert.GallRefIdeal.τ).loc Cert.GallRefIdeal.main_arg1) = m' ((c.tc : Thread Cert.GallRefIdeal.nD Cert.GallRefIdeal.τ).loc Cert.GallRefIdeal.main_arg1))

def preserves_Adchan_AdchanIdeal : Prop :=
  True

def algebraic_AdchanIdeal_AdchanRefIdeal [hAdchanIdeal : Cert.AdchanIdeal.Facts] [hAdchanRefIdeal : Cert.AdchanRefIdeal.Facts] : Prop :=
  ∀ (m : (ℓ : Loc Cert.AdchanIdeal.nD Cert.AdchanIdeal.τ Cert.AdchanIdeal.sig) → Buf (Elt Ideal) ℓ) (g : Dev Cert.AdchanIdeal.nD → PrngReg)
    (m' : (ℓ : Loc Cert.AdchanRefIdeal.nD Cert.AdchanRefIdeal.τ Cert.AdchanRefIdeal.sig) → Buf (Elt Ideal) ℓ) (g' : Dev Cert.AdchanRefIdeal.nD → PrngReg), Pre_AdchanIdeal m →
    (∀ c : Dev Cert.AdchanIdeal.nD,
      m' ((c.tc : Thread Cert.AdchanRefIdeal.nD Cert.AdchanRefIdeal.τ).loc Cert.AdchanRefIdeal.main_arg0) = m ((c.tc : Thread Cert.AdchanIdeal.nD Cert.AdchanIdeal.τ).loc Cert.AdchanIdeal.main_arg0)
      ∧ m' ((c.tc : Thread Cert.AdchanRefIdeal.nD Cert.AdchanRefIdeal.τ).loc Cert.AdchanRefIdeal.main_arg1) = m ((c.tc : Thread Cert.AdchanIdeal.nD Cert.AdchanIdeal.τ).loc Cert.AdchanIdeal.main_arg1)
      ∧ m' ((c.tc : Thread Cert.AdchanRefIdeal.nD Cert.AdchanRefIdeal.τ).loc Cert.AdchanRefIdeal.main_arg2) = m ((c.tc : Thread Cert.AdchanIdeal.nD Cert.AdchanIdeal.τ).loc Cert.AdchanIdeal.main_arg2)
      ∧ m' ((c.tc : Thread Cert.AdchanRefIdeal.nD Cert.AdchanRefIdeal.τ).loc Cert.AdchanRefIdeal.main_arg3) = m ((c.tc : Thread Cert.AdchanIdeal.nD Cert.AdchanIdeal.τ).loc Cert.AdchanIdeal.main_arg3)) →
    ∃ (v0 : (c : Dev Cert.AdchanIdeal.nD) → Buf (Elt Ideal) ((c.tc : Thread Cert.AdchanIdeal.nD Cert.AdchanIdeal.τ).loc Cert.AdchanIdeal.main_v0_0)) (v1 : (c : Dev Cert.AdchanIdeal.nD) → Buf (Elt Ideal) ((c.tc : Thread Cert.AdchanIdeal.nD Cert.AdchanIdeal.τ).loc Cert.AdchanIdeal.main_v0_1)) (v2 : (c : Dev Cert.AdchanIdeal.nD) → Buf (Elt Ideal) ((c.tc : Thread Cert.AdchanIdeal.nD Cert.AdchanIdeal.τ).loc Cert.AdchanIdeal.main_v0_2)),
      θ_run (Cert.AdchanIdeal.defs (F := Ideal)) (onTc (τ := Cert.AdchanIdeal.τ) (Cert.AdchanIdeal.main (F := Ideal))) ⟨m, fun _ => 0, g⟩ (fun r => ∀ c : Dev Cert.AdchanIdeal.nD,
          r.2.mem ((c.tc : Thread Cert.AdchanIdeal.nD Cert.AdchanIdeal.τ).loc Cert.AdchanIdeal.main_v0_0) = v0 c
          ∧ r.2.mem ((c.tc : Thread Cert.AdchanIdeal.nD Cert.AdchanIdeal.τ).loc Cert.AdchanIdeal.main_v0_1) = v1 c
          ∧ r.2.mem ((c.tc : Thread Cert.AdchanIdeal.nD Cert.AdchanIdeal.τ).loc Cert.AdchanIdeal.main_v0_2) = v2 c
          ∧ r.2.mem ((c.tc : Thread Cert.AdchanIdeal.nD Cert.AdchanIdeal.τ).loc Cert.AdchanIdeal.main_arg0) = m ((c.tc : Thread Cert.AdchanIdeal.nD Cert.AdchanIdeal.τ).loc Cert.AdchanIdeal.main_arg0)
          ∧ r.2.mem ((c.tc : Thread Cert.AdchanIdeal.nD Cert.AdchanIdeal.τ).loc Cert.AdchanIdeal.main_arg1) = m ((c.tc : Thread Cert.AdchanIdeal.nD Cert.AdchanIdeal.τ).loc Cert.AdchanIdeal.main_arg1)
          ∧ r.2.mem ((c.tc : Thread Cert.AdchanIdeal.nD Cert.AdchanIdeal.τ).loc Cert.AdchanIdeal.main_arg2) = m ((c.tc : Thread Cert.AdchanIdeal.nD Cert.AdchanIdeal.τ).loc Cert.AdchanIdeal.main_arg2)
          ∧ r.2.mem ((c.tc : Thread Cert.AdchanIdeal.nD Cert.AdchanIdeal.τ).loc Cert.AdchanIdeal.main_arg3) = m ((c.tc : Thread Cert.AdchanIdeal.nD Cert.AdchanIdeal.τ).loc Cert.AdchanIdeal.main_arg3))
      ∧ θ_run (Cert.AdchanRefIdeal.defs (F := Ideal)) (onTc (τ := Cert.AdchanRefIdeal.τ) (Cert.AdchanRefIdeal.main (F := Ideal))) ⟨m', fun _ => 0, g'⟩ (fun r => ∀ c : Dev Cert.AdchanRefIdeal.nD,
          r.2.mem ((c.tc : Thread Cert.AdchanRefIdeal.nD Cert.AdchanRefIdeal.τ).loc Cert.AdchanRefIdeal.main_v23) = v0 c
          ∧ r.2.mem ((c.tc : Thread Cert.AdchanRefIdeal.nD Cert.AdchanRefIdeal.τ).loc Cert.AdchanRefIdeal.main_v4) = v1 c
          ∧ r.2.mem ((c.tc : Thread Cert.AdchanRefIdeal.nD Cert.AdchanRefIdeal.τ).loc Cert.AdchanRefIdeal.main_v10) = v2 c
          ∧ r.2.mem ((c.tc : Thread Cert.AdchanRefIdeal.nD Cert.AdchanRefIdeal.τ).loc Cert.AdchanRefIdeal.main_arg0) = m' ((c.tc : Thread Cert.AdchanRefIdeal.nD Cert.AdchanRefIdeal.τ).loc Cert.AdchanRefIdeal.main_arg0)
          ∧ r.2.mem ((c.tc : Thread Cert.AdchanRefIdeal.nD Cert.AdchanRefIdeal.τ).loc Cert.AdchanRefIdeal.main_arg1) = m' ((c.tc : Thread Cert.AdchanRefIdeal.nD Cert.AdchanRefIdeal.τ).loc Cert.AdchanRefIdeal.main_arg1)
          ∧ r.2.mem ((c.tc : Thread Cert.AdchanRefIdeal.nD Cert.AdchanRefIdeal.τ).loc Cert.AdchanRefIdeal.main_arg2) = m' ((c.tc : Thread Cert.AdchanRefIdeal.nD Cert.AdchanRefIdeal.τ).loc Cert.AdchanRefIdeal.main_arg2)
          ∧ r.2.mem ((c.tc : Thread Cert.AdchanRefIdeal.nD Cert.AdchanRefIdeal.τ).loc Cert.AdchanRefIdeal.main_arg3) = m' ((c.tc : Thread Cert.AdchanRefIdeal.nD Cert.AdchanRefIdeal.τ).loc Cert.AdchanRefIdeal.main_arg3))

def preserves_Adconv_AdconvIdeal : Prop :=
  True

def algebraic_AdconvIdeal_AdconvRefIdeal [hAdconvIdeal : Cert.AdconvIdeal.Facts] [hAdconvRefIdeal : Cert.AdconvRefIdeal.Facts] : Prop :=
  ∀ (m : (ℓ : Loc Cert.AdconvIdeal.nD Cert.AdconvIdeal.τ Cert.AdconvIdeal.sig) → Buf (Elt Ideal) ℓ) (g : Dev Cert.AdconvIdeal.nD → PrngReg)
    (m' : (ℓ : Loc Cert.AdconvRefIdeal.nD Cert.AdconvRefIdeal.τ Cert.AdconvRefIdeal.sig) → Buf (Elt Ideal) ℓ) (g' : Dev Cert.AdconvRefIdeal.nD → PrngReg), Pre_AdconvIdeal m →
    (∀ c : Dev Cert.AdconvIdeal.nD,
      m' ((c.tc : Thread Cert.AdconvRefIdeal.nD Cert.AdconvRefIdeal.τ).loc Cert.AdconvRefIdeal.main_arg0) = m ((c.tc : Thread Cert.AdconvIdeal.nD Cert.AdconvIdeal.τ).loc Cert.AdconvIdeal.main_arg0)
      ∧ m' ((c.tc : Thread Cert.AdconvRefIdeal.nD Cert.AdconvRefIdeal.τ).loc Cert.AdconvRefIdeal.main_arg1) = m ((c.tc : Thread Cert.AdconvIdeal.nD Cert.AdconvIdeal.τ).loc Cert.AdconvIdeal.main_arg1)
      ∧ m' ((c.tc : Thread Cert.AdconvRefIdeal.nD Cert.AdconvRefIdeal.τ).loc Cert.AdconvRefIdeal.main_arg2) = m ((c.tc : Thread Cert.AdconvIdeal.nD Cert.AdconvIdeal.τ).loc Cert.AdconvIdeal.main_arg2)
      ∧ m' ((c.tc : Thread Cert.AdconvRefIdeal.nD Cert.AdconvRefIdeal.τ).loc Cert.AdconvRefIdeal.main_arg3) = m ((c.tc : Thread Cert.AdconvIdeal.nD Cert.AdconvIdeal.τ).loc Cert.AdconvIdeal.main_arg3)) →
    ∃ (v0 : (c : Dev Cert.AdconvIdeal.nD) → Buf (Elt Ideal) ((c.tc : Thread Cert.AdconvIdeal.nD Cert.AdconvIdeal.τ).loc Cert.AdconvIdeal.main_v0_0)) (v1 : (c : Dev Cert.AdconvIdeal.nD) → Buf (Elt Ideal) ((c.tc : Thread Cert.AdconvIdeal.nD Cert.AdconvIdeal.τ).loc Cert.AdconvIdeal.main_v0_1)) (v2 : (c : Dev Cert.AdconvIdeal.nD) → Buf (Elt Ideal) ((c.tc : Thread Cert.AdconvIdeal.nD Cert.AdconvIdeal.τ).loc Cert.AdconvIdeal.main_v0_2)),
      θ_run (Cert.AdconvIdeal.defs (F := Ideal)) (onTc (τ := Cert.AdconvIdeal.τ) (Cert.AdconvIdeal.main (F := Ideal))) ⟨m, fun _ => 0, g⟩ (fun r => ∀ c : Dev Cert.AdconvIdeal.nD,
          r.2.mem ((c.tc : Thread Cert.AdconvIdeal.nD Cert.AdconvIdeal.τ).loc Cert.AdconvIdeal.main_v0_0) = v0 c
          ∧ r.2.mem ((c.tc : Thread Cert.AdconvIdeal.nD Cert.AdconvIdeal.τ).loc Cert.AdconvIdeal.main_v0_1) = v1 c
          ∧ r.2.mem ((c.tc : Thread Cert.AdconvIdeal.nD Cert.AdconvIdeal.τ).loc Cert.AdconvIdeal.main_v0_2) = v2 c
          ∧ r.2.mem ((c.tc : Thread Cert.AdconvIdeal.nD Cert.AdconvIdeal.τ).loc Cert.AdconvIdeal.main_arg0) = m ((c.tc : Thread Cert.AdconvIdeal.nD Cert.AdconvIdeal.τ).loc Cert.AdconvIdeal.main_arg0)
          ∧ r.2.mem ((c.tc : Thread Cert.AdconvIdeal.nD Cert.AdconvIdeal.τ).loc Cert.AdconvIdeal.main_arg1) = m ((c.tc : Thread Cert.AdconvIdeal.nD Cert.AdconvIdeal.τ).loc Cert.AdconvIdeal.main_arg1)
          ∧ r.2.mem ((c.tc : Thread Cert.AdconvIdeal.nD Cert.AdconvIdeal.τ).loc Cert.AdconvIdeal.main_arg2) = m ((c.tc : Thread Cert.AdconvIdeal.nD Cert.AdconvIdeal.τ).loc Cert.AdconvIdeal.main_arg2)
          ∧ r.2.mem ((c.tc : Thread Cert.AdconvIdeal.nD Cert.AdconvIdeal.τ).loc Cert.AdconvIdeal.main_arg3) = m ((c.tc : Thread Cert.AdconvIdeal.nD Cert.AdconvIdeal.τ).loc Cert.AdconvIdeal.main_arg3))
      ∧ θ_run (Cert.AdconvRefIdeal.defs (F := Ideal)) (onTc (τ := Cert.AdconvRefIdeal.τ) (Cert.AdconvRefIdeal.main (F := Ideal))) ⟨m', fun _ => 0, g'⟩ (fun r => ∀ c : Dev Cert.AdconvRefIdeal.nD,
          r.2.mem ((c.tc : Thread Cert.AdconvRefIdeal.nD Cert.AdconvRefIdeal.τ).loc Cert.AdconvRefIdeal.main_v23) = v0 c
          ∧ r.2.mem ((c.tc : Thread Cert.AdconvRefIdeal.nD Cert.AdconvRefIdeal.τ).loc Cert.AdconvRefIdeal.main_v4) = v1 c
          ∧ r.2.mem ((c.tc : Thread Cert.AdconvRefIdeal.nD Cert.AdconvRefIdeal.τ).loc Cert.AdconvRefIdeal.main_v10) = v2 c
          ∧ r.2.mem ((c.tc : Thread Cert.AdconvRefIdeal.nD Cert.AdconvRefIdeal.τ).loc Cert.AdconvRefIdeal.main_arg0) = m' ((c.tc : Thread Cert.AdconvRefIdeal.nD Cert.AdconvRefIdeal.τ).loc Cert.AdconvRefIdeal.main_arg0)
          ∧ r.2.mem ((c.tc : Thread Cert.AdconvRefIdeal.nD Cert.AdconvRefIdeal.τ).loc Cert.AdconvRefIdeal.main_arg1) = m' ((c.tc : Thread Cert.AdconvRefIdeal.nD Cert.AdconvRefIdeal.τ).loc Cert.AdconvRefIdeal.main_arg1)
          ∧ r.2.mem ((c.tc : Thread Cert.AdconvRefIdeal.nD Cert.AdconvRefIdeal.τ).loc Cert.AdconvRefIdeal.main_arg2) = m' ((c.tc : Thread Cert.AdconvRefIdeal.nD Cert.AdconvRefIdeal.τ).loc Cert.AdconvRefIdeal.main_arg2)
          ∧ r.2.mem ((c.tc : Thread Cert.AdconvRefIdeal.nD Cert.AdconvRefIdeal.τ).loc Cert.AdconvRefIdeal.main_arg3) = m' ((c.tc : Thread Cert.AdconvRefIdeal.nD Cert.AdconvRefIdeal.τ).loc Cert.AdconvRefIdeal.main_arg3))

def preserves_Adgain_AdgainIdeal : Prop :=
  True

def algebraic_AdgainIdeal_AdgainRefIdeal [hAdgainIdeal : Cert.AdgainIdeal.Facts] [hAdgainRefIdeal : Cert.AdgainRefIdeal.Facts] : Prop :=
  ∀ (m : (ℓ : Loc Cert.AdgainIdeal.nD Cert.AdgainIdeal.τ Cert.AdgainIdeal.sig) → Buf (Elt Ideal) ℓ) (g : Dev Cert.AdgainIdeal.nD → PrngReg)
    (m' : (ℓ : Loc Cert.AdgainRefIdeal.nD Cert.AdgainRefIdeal.τ Cert.AdgainRefIdeal.sig) → Buf (Elt Ideal) ℓ) (g' : Dev Cert.AdgainRefIdeal.nD → PrngReg), Pre_AdgainIdeal m →
    (∀ c : Dev Cert.AdgainIdeal.nD,
      m' ((c.tc : Thread Cert.AdgainRefIdeal.nD Cert.AdgainRefIdeal.τ).loc Cert.AdgainRefIdeal.main_arg0) = m ((c.tc : Thread Cert.AdgainIdeal.nD Cert.AdgainIdeal.τ).loc Cert.AdgainIdeal.main_arg0)
      ∧ m' ((c.tc : Thread Cert.AdgainRefIdeal.nD Cert.AdgainRefIdeal.τ).loc Cert.AdgainRefIdeal.main_arg1) = m ((c.tc : Thread Cert.AdgainIdeal.nD Cert.AdgainIdeal.τ).loc Cert.AdgainIdeal.main_arg1)
      ∧ m' ((c.tc : Thread Cert.AdgainRefIdeal.nD Cert.AdgainRefIdeal.τ).loc Cert.AdgainRefIdeal.main_arg2) = m ((c.tc : Thread Cert.AdgainIdeal.nD Cert.AdgainIdeal.τ).loc Cert.AdgainIdeal.main_arg2)
      ∧ m' ((c.tc : Thread Cert.AdgainRefIdeal.nD Cert.AdgainRefIdeal.τ).loc Cert.AdgainRefIdeal.main_arg3) = m ((c.tc : Thread Cert.AdgainIdeal.nD Cert.AdgainIdeal.τ).loc Cert.AdgainIdeal.main_arg3)) →
    ∃ (v0 : (c : Dev Cert.AdgainIdeal.nD) → Buf (Elt Ideal) ((c.tc : Thread Cert.AdgainIdeal.nD Cert.AdgainIdeal.τ).loc Cert.AdgainIdeal.main_v4_0)) (v1 : (c : Dev Cert.AdgainIdeal.nD) → Buf (Elt Ideal) ((c.tc : Thread Cert.AdgainIdeal.nD Cert.AdgainIdeal.τ).loc Cert.AdgainIdeal.main_v4_1)) (v2 : (c : Dev Cert.AdgainIdeal.nD) → Buf (Elt Ideal) ((c.tc : Thread Cert.AdgainIdeal.nD Cert.AdgainIdeal.τ).loc Cert.AdgainIdeal.main_v4_2)),
      θ_run (Cert.AdgainIdeal.defs (F := Ideal)) (onTc (τ := Cert.AdgainIdeal.τ) (Cert.AdgainIdeal.main (F := Ideal))) ⟨m, fun _ => 0, g⟩ (fun r => ∀ c : Dev Cert.AdgainIdeal.nD,
          r.2.mem ((c.tc : Thread Cert.AdgainIdeal.nD Cert.AdgainIdeal.τ).loc Cert.AdgainIdeal.main_v4_0) = v0 c
          ∧ r.2.mem ((c.tc : Thread Cert.AdgainIdeal.nD Cert.AdgainIdeal.τ).loc Cert.AdgainIdeal.main_v4_1) = v1 c
          ∧ r.2.mem ((c.tc : Thread Cert.AdgainIdeal.nD Cert.AdgainIdeal.τ).loc Cert.AdgainIdeal.main_v4_2) = v2 c
          ∧ r.2.mem ((c.tc : Thread Cert.AdgainIdeal.nD Cert.AdgainIdeal.τ).loc Cert.AdgainIdeal.main_arg0) = m ((c.tc : Thread Cert.AdgainIdeal.nD Cert.AdgainIdeal.τ).loc Cert.AdgainIdeal.main_arg0)
          ∧ r.2.mem ((c.tc : Thread Cert.AdgainIdeal.nD Cert.AdgainIdeal.τ).loc Cert.AdgainIdeal.main_arg1) = m ((c.tc : Thread Cert.AdgainIdeal.nD Cert.AdgainIdeal.τ).loc Cert.AdgainIdeal.main_arg1)
          ∧ r.2.mem ((c.tc : Thread Cert.AdgainIdeal.nD Cert.AdgainIdeal.τ).loc Cert.AdgainIdeal.main_arg2) = m ((c.tc : Thread Cert.AdgainIdeal.nD Cert.AdgainIdeal.τ).loc Cert.AdgainIdeal.main_arg2)
          ∧ r.2.mem ((c.tc : Thread Cert.AdgainIdeal.nD Cert.AdgainIdeal.τ).loc Cert.AdgainIdeal.main_arg3) = m ((c.tc : Thread Cert.AdgainIdeal.nD Cert.AdgainIdeal.τ).loc Cert.AdgainIdeal.main_arg3))
      ∧ θ_run (Cert.AdgainRefIdeal.defs (F := Ideal)) (onTc (τ := Cert.AdgainRefIdeal.τ) (Cert.AdgainRefIdeal.main (F := Ideal))) ⟨m', fun _ => 0, g'⟩ (fun r => ∀ c : Dev Cert.AdgainRefIdeal.nD,
          r.2.mem ((c.tc : Thread Cert.AdgainRefIdeal.nD Cert.AdgainRefIdeal.τ).loc Cert.AdgainRefIdeal.main_v24) = v0 c
          ∧ r.2.mem ((c.tc : Thread Cert.AdgainRefIdeal.nD Cert.AdgainRefIdeal.τ).loc Cert.AdgainRefIdeal.main_v25) = v1 c
          ∧ r.2.mem ((c.tc : Thread Cert.AdgainRefIdeal.nD Cert.AdgainRefIdeal.τ).loc Cert.AdgainRefIdeal.main_v26) = v2 c
          ∧ r.2.mem ((c.tc : Thread Cert.AdgainRefIdeal.nD Cert.AdgainRefIdeal.τ).loc Cert.AdgainRefIdeal.main_arg0) = m' ((c.tc : Thread Cert.AdgainRefIdeal.nD Cert.AdgainRefIdeal.τ).loc Cert.AdgainRefIdeal.main_arg0)
          ∧ r.2.mem ((c.tc : Thread Cert.AdgainRefIdeal.nD Cert.AdgainRefIdeal.τ).loc Cert.AdgainRefIdeal.main_arg1) = m' ((c.tc : Thread Cert.AdgainRefIdeal.nD Cert.AdgainRefIdeal.τ).loc Cert.AdgainRefIdeal.main_arg1)
          ∧ r.2.mem ((c.tc : Thread Cert.AdgainRefIdeal.nD Cert.AdgainRefIdeal.τ).loc Cert.AdgainRefIdeal.main_arg2) = m' ((c.tc : Thread Cert.AdgainRefIdeal.nD Cert.AdgainRefIdeal.τ).loc Cert.AdgainRefIdeal.main_arg2)
          ∧ r.2.mem ((c.tc : Thread Cert.AdgainRefIdeal.nD Cert.AdgainRefIdeal.τ).loc Cert.AdgainRefIdeal.main_arg3) = m' ((c.tc : Thread Cert.AdgainRefIdeal.nD Cert.AdgainRefIdeal.τ).loc Cert.AdgainRefIdeal.main_arg3))

def preserves_Adfilt_AdfiltIdeal : Prop :=
  True

def algebraic_AdfiltIdeal_AdfiltRefIdeal [hAdfiltIdeal : Cert.AdfiltIdeal.Facts] [hAdfiltRefIdeal : Cert.AdfiltRefIdeal.Facts] : Prop :=
  ∀ (m : (ℓ : Loc Cert.AdfiltIdeal.nD Cert.AdfiltIdeal.τ Cert.AdfiltIdeal.sig) → Buf (Elt Ideal) ℓ) (g : Dev Cert.AdfiltIdeal.nD → PrngReg)
    (m' : (ℓ : Loc Cert.AdfiltRefIdeal.nD Cert.AdfiltRefIdeal.τ Cert.AdfiltRefIdeal.sig) → Buf (Elt Ideal) ℓ) (g' : Dev Cert.AdfiltRefIdeal.nD → PrngReg), Pre_AdfiltIdeal m →
    (∀ c : Dev Cert.AdfiltIdeal.nD,
      m' ((c.tc : Thread Cert.AdfiltRefIdeal.nD Cert.AdfiltRefIdeal.τ).loc Cert.AdfiltRefIdeal.main_arg0) = m ((c.tc : Thread Cert.AdfiltIdeal.nD Cert.AdfiltIdeal.τ).loc Cert.AdfiltIdeal.main_arg0)
      ∧ m' ((c.tc : Thread Cert.AdfiltRefIdeal.nD Cert.AdfiltRefIdeal.τ).loc Cert.AdfiltRefIdeal.main_arg1) = m ((c.tc : Thread Cert.AdfiltIdeal.nD Cert.AdfiltIdeal.τ).loc Cert.AdfiltIdeal.main_arg1)
      ∧ m' ((c.tc : Thread Cert.AdfiltRefIdeal.nD Cert.AdfiltRefIdeal.τ).loc Cert.AdfiltRefIdeal.main_arg2) = m ((c.tc : Thread Cert.AdfiltIdeal.nD Cert.AdfiltIdeal.τ).loc Cert.AdfiltIdeal.main_arg2)
      ∧ m' ((c.tc : Thread Cert.AdfiltRefIdeal.nD Cert.AdfiltRefIdeal.τ).loc Cert.AdfiltRefIdeal.main_arg3) = m ((c.tc : Thread Cert.AdfiltIdeal.nD Cert.AdfiltIdeal.τ).loc Cert.AdfiltIdeal.main_arg3)) →
    ∃ (v0 : (c : Dev Cert.AdfiltIdeal.nD) → Buf (Elt Ideal) ((c.tc : Thread Cert.AdfiltIdeal.nD Cert.AdfiltIdeal.τ).loc Cert.AdfiltIdeal.main_v4_0)) (v1 : (c : Dev Cert.AdfiltIdeal.nD) → Buf (Elt Ideal) ((c.tc : Thread Cert.AdfiltIdeal.nD Cert.AdfiltIdeal.τ).loc Cert.AdfiltIdeal.main_v4_1)) (v2 : (c : Dev Cert.AdfiltIdeal.nD) → Buf (Elt Ideal) ((c.tc : Thread Cert.AdfiltIdeal.nD Cert.AdfiltIdeal.τ).loc Cert.AdfiltIdeal.main_v4_2)),
      θ_run (Cert.AdfiltIdeal.defs (F := Ideal)) (onTc (τ := Cert.AdfiltIdeal.τ) (Cert.AdfiltIdeal.main (F := Ideal))) ⟨m, fun _ => 0, g⟩ (fun r => ∀ c : Dev Cert.AdfiltIdeal.nD,
          r.2.mem ((c.tc : Thread Cert.AdfiltIdeal.nD Cert.AdfiltIdeal.τ).loc Cert.AdfiltIdeal.main_v4_0) = v0 c
          ∧ r.2.mem ((c.tc : Thread Cert.AdfiltIdeal.nD Cert.AdfiltIdeal.τ).loc Cert.AdfiltIdeal.main_v4_1) = v1 c
          ∧ r.2.mem ((c.tc : Thread Cert.AdfiltIdeal.nD Cert.AdfiltIdeal.τ).loc Cert.AdfiltIdeal.main_v4_2) = v2 c
          ∧ r.2.mem ((c.tc : Thread Cert.AdfiltIdeal.nD Cert.AdfiltIdeal.τ).loc Cert.AdfiltIdeal.main_arg0) = m ((c.tc : Thread Cert.AdfiltIdeal.nD Cert.AdfiltIdeal.τ).loc Cert.AdfiltIdeal.main_arg0)
          ∧ r.2.mem ((c.tc : Thread Cert.AdfiltIdeal.nD Cert.AdfiltIdeal.τ).loc Cert.AdfiltIdeal.main_arg1) = m ((c.tc : Thread Cert.AdfiltIdeal.nD Cert.AdfiltIdeal.τ).loc Cert.AdfiltIdeal.main_arg1)
          ∧ r.2.mem ((c.tc : Thread Cert.AdfiltIdeal.nD Cert.AdfiltIdeal.τ).loc Cert.AdfiltIdeal.main_arg2) = m ((c.tc : Thread Cert.AdfiltIdeal.nD Cert.AdfiltIdeal.τ).loc Cert.AdfiltIdeal.main_arg2)
          ∧ r.2.mem ((c.tc : Thread Cert.AdfiltIdeal.nD Cert.AdfiltIdeal.τ).loc Cert.AdfiltIdeal.main_arg3) = m ((c.tc : Thread Cert.AdfiltIdeal.nD Cert.AdfiltIdeal.τ).loc Cert.AdfiltIdeal.main_arg3))
      ∧ θ_run (Cert.AdfiltRefIdeal.defs (F := Ideal)) (onTc (τ := Cert.AdfiltRefIdeal.τ) (Cert.AdfiltRefIdeal.main (F := Ideal))) ⟨m', fun _ => 0, g'⟩ (fun r => ∀ c : Dev Cert.AdfiltRefIdeal.nD,
          r.2.mem ((c.tc : Thread Cert.AdfiltRefIdeal.nD Cert.AdfiltRefIdeal.τ).loc Cert.AdfiltRefIdeal.main_v24) = v0 c
          ∧ r.2.mem ((c.tc : Thread Cert.AdfiltRefIdeal.nD Cert.AdfiltRefIdeal.τ).loc Cert.AdfiltRefIdeal.main_v25) = v1 c
          ∧ r.2.mem ((c.tc : Thread Cert.AdfiltRefIdeal.nD Cert.AdfiltRefIdeal.τ).loc Cert.AdfiltRefIdeal.main_v26) = v2 c
          ∧ r.2.mem ((c.tc : Thread Cert.AdfiltRefIdeal.nD Cert.AdfiltRefIdeal.τ).loc Cert.AdfiltRefIdeal.main_arg0) = m' ((c.tc : Thread Cert.AdfiltRefIdeal.nD Cert.AdfiltRefIdeal.τ).loc Cert.AdfiltRefIdeal.main_arg0)
          ∧ r.2.mem ((c.tc : Thread Cert.AdfiltRefIdeal.nD Cert.AdfiltRefIdeal.τ).loc Cert.AdfiltRefIdeal.main_arg1) = m' ((c.tc : Thread Cert.AdfiltRefIdeal.nD Cert.AdfiltRefIdeal.τ).loc Cert.AdfiltRefIdeal.main_arg1)
          ∧ r.2.mem ((c.tc : Thread Cert.AdfiltRefIdeal.nD Cert.AdfiltRefIdeal.τ).loc Cert.AdfiltRefIdeal.main_arg2) = m' ((c.tc : Thread Cert.AdfiltRefIdeal.nD Cert.AdfiltRefIdeal.τ).loc Cert.AdfiltRefIdeal.main_arg2)
          ∧ r.2.mem ((c.tc : Thread Cert.AdfiltRefIdeal.nD Cert.AdfiltRefIdeal.τ).loc Cert.AdfiltRefIdeal.main_arg3) = m' ((c.tc : Thread Cert.AdfiltRefIdeal.nD Cert.AdfiltRefIdeal.τ).loc Cert.AdfiltRefIdeal.main_arg3))

def preserves_Adffilt_AdffiltIdeal : Prop :=
  True

def algebraic_AdffiltIdeal_AdffiltRefIdeal [hAdffiltIdeal : Cert.AdffiltIdeal.Facts] [hAdffiltRefIdeal : Cert.AdffiltRefIdeal.Facts] : Prop :=
  ∀ (m : (ℓ : Loc Cert.AdffiltIdeal.nD Cert.AdffiltIdeal.τ Cert.AdffiltIdeal.sig) → Buf (Elt Ideal) ℓ) (g : Dev Cert.AdffiltIdeal.nD → PrngReg)
    (m' : (ℓ : Loc Cert.AdffiltRefIdeal.nD Cert.AdffiltRefIdeal.τ Cert.AdffiltRefIdeal.sig) → Buf (Elt Ideal) ℓ) (g' : Dev Cert.AdffiltRefIdeal.nD → PrngReg), Pre_AdffiltIdeal m →
    (∀ c : Dev Cert.AdffiltIdeal.nD,
      m' ((c.tc : Thread Cert.AdffiltRefIdeal.nD Cert.AdffiltRefIdeal.τ).loc Cert.AdffiltRefIdeal.main_arg0) = m ((c.tc : Thread Cert.AdffiltIdeal.nD Cert.AdffiltIdeal.τ).loc Cert.AdffiltIdeal.main_arg0)
      ∧ m' ((c.tc : Thread Cert.AdffiltRefIdeal.nD Cert.AdffiltRefIdeal.τ).loc Cert.AdffiltRefIdeal.main_arg1) = m ((c.tc : Thread Cert.AdffiltIdeal.nD Cert.AdffiltIdeal.τ).loc Cert.AdffiltIdeal.main_arg1)
      ∧ m' ((c.tc : Thread Cert.AdffiltRefIdeal.nD Cert.AdffiltRefIdeal.τ).loc Cert.AdffiltRefIdeal.main_arg2) = m ((c.tc : Thread Cert.AdffiltIdeal.nD Cert.AdffiltIdeal.τ).loc Cert.AdffiltIdeal.main_arg2)
      ∧ m' ((c.tc : Thread Cert.AdffiltRefIdeal.nD Cert.AdffiltRefIdeal.τ).loc Cert.AdffiltRefIdeal.main_arg3) = m ((c.tc : Thread Cert.AdffiltIdeal.nD Cert.AdffiltIdeal.τ).loc Cert.AdffiltIdeal.main_arg3)) →
    ∃ (v0 : (c : Dev Cert.AdffiltIdeal.nD) → Buf (Elt Ideal) ((c.tc : Thread Cert.AdffiltIdeal.nD Cert.AdffiltIdeal.τ).loc Cert.AdffiltIdeal.main_v4_0)) (v1 : (c : Dev Cert.AdffiltIdeal.nD) → Buf (Elt Ideal) ((c.tc : Thread Cert.AdffiltIdeal.nD Cert.AdffiltIdeal.τ).loc Cert.AdffiltIdeal.main_v4_1)) (v2 : (c : Dev Cert.AdffiltIdeal.nD) → Buf (Elt Ideal) ((c.tc : Thread Cert.AdffiltIdeal.nD Cert.AdffiltIdeal.τ).loc Cert.AdffiltIdeal.main_v4_2)),
      θ_run (Cert.AdffiltIdeal.defs (F := Ideal)) (onTc (τ := Cert.AdffiltIdeal.τ) (Cert.AdffiltIdeal.main (F := Ideal))) ⟨m, fun _ => 0, g⟩ (fun r => ∀ c : Dev Cert.AdffiltIdeal.nD,
          r.2.mem ((c.tc : Thread Cert.AdffiltIdeal.nD Cert.AdffiltIdeal.τ).loc Cert.AdffiltIdeal.main_v4_0) = v0 c
          ∧ r.2.mem ((c.tc : Thread Cert.AdffiltIdeal.nD Cert.AdffiltIdeal.τ).loc Cert.AdffiltIdeal.main_v4_1) = v1 c
          ∧ r.2.mem ((c.tc : Thread Cert.AdffiltIdeal.nD Cert.AdffiltIdeal.τ).loc Cert.AdffiltIdeal.main_v4_2) = v2 c
          ∧ r.2.mem ((c.tc : Thread Cert.AdffiltIdeal.nD Cert.AdffiltIdeal.τ).loc Cert.AdffiltIdeal.main_arg0) = m ((c.tc : Thread Cert.AdffiltIdeal.nD Cert.AdffiltIdeal.τ).loc Cert.AdffiltIdeal.main_arg0)
          ∧ r.2.mem ((c.tc : Thread Cert.AdffiltIdeal.nD Cert.AdffiltIdeal.τ).loc Cert.AdffiltIdeal.main_arg1) = m ((c.tc : Thread Cert.AdffiltIdeal.nD Cert.AdffiltIdeal.τ).loc Cert.AdffiltIdeal.main_arg1)
          ∧ r.2.mem ((c.tc : Thread Cert.AdffiltIdeal.nD Cert.AdffiltIdeal.τ).loc Cert.AdffiltIdeal.main_arg2) = m ((c.tc : Thread Cert.AdffiltIdeal.nD Cert.AdffiltIdeal.τ).loc Cert.AdffiltIdeal.main_arg2)
          ∧ r.2.mem ((c.tc : Thread Cert.AdffiltIdeal.nD Cert.AdffiltIdeal.τ).loc Cert.AdffiltIdeal.main_arg3) = m ((c.tc : Thread Cert.AdffiltIdeal.nD Cert.AdffiltIdeal.τ).loc Cert.AdffiltIdeal.main_arg3))
      ∧ θ_run (Cert.AdffiltRefIdeal.defs (F := Ideal)) (onTc (τ := Cert.AdffiltRefIdeal.τ) (Cert.AdffiltRefIdeal.main (F := Ideal))) ⟨m', fun _ => 0, g'⟩ (fun r => ∀ c : Dev Cert.AdffiltRefIdeal.nD,
          r.2.mem ((c.tc : Thread Cert.AdffiltRefIdeal.nD Cert.AdffiltRefIdeal.τ).loc Cert.AdffiltRefIdeal.main_v24) = v0 c
          ∧ r.2.mem ((c.tc : Thread Cert.AdffiltRefIdeal.nD Cert.AdffiltRefIdeal.τ).loc Cert.AdffiltRefIdeal.main_v25) = v1 c
          ∧ r.2.mem ((c.tc : Thread Cert.AdffiltRefIdeal.nD Cert.AdffiltRefIdeal.τ).loc Cert.AdffiltRefIdeal.main_v26) = v2 c
          ∧ r.2.mem ((c.tc : Thread Cert.AdffiltRefIdeal.nD Cert.AdffiltRefIdeal.τ).loc Cert.AdffiltRefIdeal.main_arg0) = m' ((c.tc : Thread Cert.AdffiltRefIdeal.nD Cert.AdffiltRefIdeal.τ).loc Cert.AdffiltRefIdeal.main_arg0)
          ∧ r.2.mem ((c.tc : Thread Cert.AdffiltRefIdeal.nD Cert.AdffiltRefIdeal.τ).loc Cert.AdffiltRefIdeal.main_arg1) = m' ((c.tc : Thread Cert.AdffiltRefIdeal.nD Cert.AdffiltRefIdeal.τ).loc Cert.AdffiltRefIdeal.main_arg1)
          ∧ r.2.mem ((c.tc : Thread Cert.AdffiltRefIdeal.nD Cert.AdffiltRefIdeal.τ).loc Cert.AdffiltRefIdeal.main_arg2) = m' ((c.tc : Thread Cert.AdffiltRefIdeal.nD Cert.AdffiltRefIdeal.τ).loc Cert.AdffiltRefIdeal.main_arg2)
          ∧ r.2.mem ((c.tc : Thread Cert.AdffiltRefIdeal.nD Cert.AdffiltRefIdeal.τ).loc Cert.AdffiltRefIdeal.main_arg3) = m' ((c.tc : Thread Cert.AdffiltRefIdeal.nD Cert.AdffiltRefIdeal.τ).loc Cert.AdffiltRefIdeal.main_arg3))

def preserves_Adsq_AdsqIdeal : Prop :=
  True

def algebraic_AdsqIdeal_AdsqRefIdeal [hAdsqIdeal : Cert.AdsqIdeal.Facts] [hAdsqRefIdeal : Cert.AdsqRefIdeal.Facts] : Prop :=
  ∀ (m : (ℓ : Loc Cert.AdsqIdeal.nD Cert.AdsqIdeal.τ Cert.AdsqIdeal.sig) → Buf (Elt Ideal) ℓ) (g : Dev Cert.AdsqIdeal.nD → PrngReg)
    (m' : (ℓ : Loc Cert.AdsqRefIdeal.nD Cert.AdsqRefIdeal.τ Cert.AdsqRefIdeal.sig) → Buf (Elt Ideal) ℓ) (g' : Dev Cert.AdsqRefIdeal.nD → PrngReg), Pre_AdsqIdeal m →
    (∀ c : Dev Cert.AdsqIdeal.nD,
      m' ((c.tc : Thread Cert.AdsqRefIdeal.nD Cert.AdsqRefIdeal.τ).loc Cert.AdsqRefIdeal.main_arg0) = m ((c.tc : Thread Cert.AdsqIdeal.nD Cert.AdsqIdeal.τ).loc Cert.AdsqIdeal.main_arg0)
      ∧ m' ((c.tc : Thread Cert.AdsqRefIdeal.nD Cert.AdsqRefIdeal.τ).loc Cert.AdsqRefIdeal.main_arg1) = m ((c.tc : Thread Cert.AdsqIdeal.nD Cert.AdsqIdeal.τ).loc Cert.AdsqIdeal.main_arg1)
      ∧ m' ((c.tc : Thread Cert.AdsqRefIdeal.nD Cert.AdsqRefIdeal.τ).loc Cert.AdsqRefIdeal.main_arg2) = m ((c.tc : Thread Cert.AdsqIdeal.nD Cert.AdsqIdeal.τ).loc Cert.AdsqIdeal.main_arg2)
      ∧ m' ((c.tc : Thread Cert.AdsqRefIdeal.nD Cert.AdsqRefIdeal.τ).loc Cert.AdsqRefIdeal.main_arg3) = m ((c.tc : Thread Cert.AdsqIdeal.nD Cert.AdsqIdeal.τ).loc Cert.AdsqIdeal.main_arg3)) →
    ∃ (v0 : (c : Dev Cert.AdsqIdeal.nD) → Buf (Elt Ideal) ((c.tc : Thread Cert.AdsqIdeal.nD Cert.AdsqIdeal.τ).loc Cert.AdsqIdeal.main_v4_0)) (v1 : (c : Dev Cert.AdsqIdeal.nD) → Buf (Elt Ideal) ((c.tc : Thread Cert.AdsqIdeal.nD Cert.AdsqIdeal.τ).loc Cert.AdsqIdeal.main_v4_1)) (v2 : (c : Dev Cert.AdsqIdeal.nD) → Buf (Elt Ideal) ((c.tc : Thread Cert.AdsqIdeal.nD Cert.AdsqIdeal.τ).loc Cert.AdsqIdeal.main_v4_2)),
      θ_run (Cert.AdsqIdeal.defs (F := Ideal)) (onTc (τ := Cert.AdsqIdeal.τ) (Cert.AdsqIdeal.main (F := Ideal))) ⟨m, fun _ => 0, g⟩ (fun r => ∀ c : Dev Cert.AdsqIdeal.nD,
          r.2.mem ((c.tc : Thread Cert.AdsqIdeal.nD Cert.AdsqIdeal.τ).loc Cert.AdsqIdeal.main_v4_0) = v0 c
          ∧ r.2.mem ((c.tc : Thread Cert.AdsqIdeal.nD Cert.AdsqIdeal.τ).loc Cert.AdsqIdeal.main_v4_1) = v1 c
          ∧ r.2.mem ((c.tc : Thread Cert.AdsqIdeal.nD Cert.AdsqIdeal.τ).loc Cert.AdsqIdeal.main_v4_2) = v2 c
          ∧ r.2.mem ((c.tc : Thread Cert.AdsqIdeal.nD Cert.AdsqIdeal.τ).loc Cert.AdsqIdeal.main_arg0) = m ((c.tc : Thread Cert.AdsqIdeal.nD Cert.AdsqIdeal.τ).loc Cert.AdsqIdeal.main_arg0)
          ∧ r.2.mem ((c.tc : Thread Cert.AdsqIdeal.nD Cert.AdsqIdeal.τ).loc Cert.AdsqIdeal.main_arg1) = m ((c.tc : Thread Cert.AdsqIdeal.nD Cert.AdsqIdeal.τ).loc Cert.AdsqIdeal.main_arg1)
          ∧ r.2.mem ((c.tc : Thread Cert.AdsqIdeal.nD Cert.AdsqIdeal.τ).loc Cert.AdsqIdeal.main_arg2) = m ((c.tc : Thread Cert.AdsqIdeal.nD Cert.AdsqIdeal.τ).loc Cert.AdsqIdeal.main_arg2)
          ∧ r.2.mem ((c.tc : Thread Cert.AdsqIdeal.nD Cert.AdsqIdeal.τ).loc Cert.AdsqIdeal.main_arg3) = m ((c.tc : Thread Cert.AdsqIdeal.nD Cert.AdsqIdeal.τ).loc Cert.AdsqIdeal.main_arg3))
      ∧ θ_run (Cert.AdsqRefIdeal.defs (F := Ideal)) (onTc (τ := Cert.AdsqRefIdeal.τ) (Cert.AdsqRefIdeal.main (F := Ideal))) ⟨m', fun _ => 0, g'⟩ (fun r => ∀ c : Dev Cert.AdsqRefIdeal.nD,
          r.2.mem ((c.tc : Thread Cert.AdsqRefIdeal.nD Cert.AdsqRefIdeal.τ).loc Cert.AdsqRefIdeal.main_v24) = v0 c
          ∧ r.2.mem ((c.tc : Thread Cert.AdsqRefIdeal.nD Cert.AdsqRefIdeal.τ).loc Cert.AdsqRefIdeal.main_v25) = v1 c
          ∧ r.2.mem ((c.tc : Thread Cert.AdsqRefIdeal.nD Cert.AdsqRefIdeal.τ).loc Cert.AdsqRefIdeal.main_v26) = v2 c
          ∧ r.2.mem ((c.tc : Thread Cert.AdsqRefIdeal.nD Cert.AdsqRefIdeal.τ).loc Cert.AdsqRefIdeal.main_arg0) = m' ((c.tc : Thread Cert.AdsqRefIdeal.nD Cert.AdsqRefIdeal.τ).loc Cert.AdsqRefIdeal.main_arg0)
          ∧ r.2.mem ((c.tc : Thread Cert.AdsqRefIdeal.nD Cert.AdsqRefIdeal.τ).loc Cert.AdsqRefIdeal.main_arg1) = m' ((c.tc : Thread Cert.AdsqRefIdeal.nD Cert.AdsqRefIdeal.τ).loc Cert.AdsqRefIdeal.main_arg1)
          ∧ r.2.mem ((c.tc : Thread Cert.AdsqRefIdeal.nD Cert.AdsqRefIdeal.τ).loc Cert.AdsqRefIdeal.main_arg2) = m' ((c.tc : Thread Cert.AdsqRefIdeal.nD Cert.AdsqRefIdeal.τ).loc Cert.AdsqRefIdeal.main_arg2)
          ∧ r.2.mem ((c.tc : Thread Cert.AdsqRefIdeal.nD Cert.AdsqRefIdeal.τ).loc Cert.AdsqRefIdeal.main_arg3) = m' ((c.tc : Thread Cert.AdsqRefIdeal.nD Cert.AdsqRefIdeal.τ).loc Cert.AdsqRefIdeal.main_arg3))

def preserves_Addown_AddownIdeal : Prop :=
  True

def algebraic_AddownIdeal_AddownRefIdeal [hAddownIdeal : Cert.AddownIdeal.Facts] [hAddownRefIdeal : Cert.AddownRefIdeal.Facts] : Prop :=
  ∀ (m : (ℓ : Loc Cert.AddownIdeal.nD Cert.AddownIdeal.τ Cert.AddownIdeal.sig) → Buf (Elt Ideal) ℓ) (g : Dev Cert.AddownIdeal.nD → PrngReg)
    (m' : (ℓ : Loc Cert.AddownRefIdeal.nD Cert.AddownRefIdeal.τ Cert.AddownRefIdeal.sig) → Buf (Elt Ideal) ℓ) (g' : Dev Cert.AddownRefIdeal.nD → PrngReg), Pre_AddownIdeal m →
    (∀ c : Dev Cert.AddownIdeal.nD,
      m' ((c.tc : Thread Cert.AddownRefIdeal.nD Cert.AddownRefIdeal.τ).loc Cert.AddownRefIdeal.main_arg0) = m ((c.tc : Thread Cert.AddownIdeal.nD Cert.AddownIdeal.τ).loc Cert.AddownIdeal.main_arg0)
      ∧ m' ((c.tc : Thread Cert.AddownRefIdeal.nD Cert.AddownRefIdeal.τ).loc Cert.AddownRefIdeal.main_arg1) = m ((c.tc : Thread Cert.AddownIdeal.nD Cert.AddownIdeal.τ).loc Cert.AddownIdeal.main_arg1)
      ∧ m' ((c.tc : Thread Cert.AddownRefIdeal.nD Cert.AddownRefIdeal.τ).loc Cert.AddownRefIdeal.main_arg2) = m ((c.tc : Thread Cert.AddownIdeal.nD Cert.AddownIdeal.τ).loc Cert.AddownIdeal.main_arg2)
      ∧ m' ((c.tc : Thread Cert.AddownRefIdeal.nD Cert.AddownRefIdeal.τ).loc Cert.AddownRefIdeal.main_arg3) = m ((c.tc : Thread Cert.AddownIdeal.nD Cert.AddownIdeal.τ).loc Cert.AddownIdeal.main_arg3)) →
    ∃ (v0 : (c : Dev Cert.AddownIdeal.nD) → Buf (Elt Ideal) ((c.tc : Thread Cert.AddownIdeal.nD Cert.AddownIdeal.τ).loc Cert.AddownIdeal.main_v4_0)) (v1 : (c : Dev Cert.AddownIdeal.nD) → Buf (Elt Ideal) ((c.tc : Thread Cert.AddownIdeal.nD Cert.AddownIdeal.τ).loc Cert.AddownIdeal.main_v4_1)) (v2 : (c : Dev Cert.AddownIdeal.nD) → Buf (Elt Ideal) ((c.tc : Thread Cert.AddownIdeal.nD Cert.AddownIdeal.τ).loc Cert.AddownIdeal.main_v4_2)),
      θ_run (Cert.AddownIdeal.defs (F := Ideal)) (onTc (τ := Cert.AddownIdeal.τ) (Cert.AddownIdeal.main (F := Ideal))) ⟨m, fun _ => 0, g⟩ (fun r => ∀ c : Dev Cert.AddownIdeal.nD,
          r.2.mem ((c.tc : Thread Cert.AddownIdeal.nD Cert.AddownIdeal.τ).loc Cert.AddownIdeal.main_v4_0) = v0 c
          ∧ r.2.mem ((c.tc : Thread Cert.AddownIdeal.nD Cert.AddownIdeal.τ).loc Cert.AddownIdeal.main_v4_1) = v1 c
          ∧ r.2.mem ((c.tc : Thread Cert.AddownIdeal.nD Cert.AddownIdeal.τ).loc Cert.AddownIdeal.main_v4_2) = v2 c
          ∧ r.2.mem ((c.tc : Thread Cert.AddownIdeal.nD Cert.AddownIdeal.τ).loc Cert.AddownIdeal.main_arg0) = m ((c.tc : Thread Cert.AddownIdeal.nD Cert.AddownIdeal.τ).loc Cert.AddownIdeal.main_arg0)
          ∧ r.2.mem ((c.tc : Thread Cert.AddownIdeal.nD Cert.AddownIdeal.τ).loc Cert.AddownIdeal.main_arg1) = m ((c.tc : Thread Cert.AddownIdeal.nD Cert.AddownIdeal.τ).loc Cert.AddownIdeal.main_arg1)
          ∧ r.2.mem ((c.tc : Thread Cert.AddownIdeal.nD Cert.AddownIdeal.τ).loc Cert.AddownIdeal.main_arg2) = m ((c.tc : Thread Cert.AddownIdeal.nD Cert.AddownIdeal.τ).loc Cert.AddownIdeal.main_arg2)
          ∧ r.2.mem ((c.tc : Thread Cert.AddownIdeal.nD Cert.AddownIdeal.τ).loc Cert.AddownIdeal.main_arg3) = m ((c.tc : Thread Cert.AddownIdeal.nD Cert.AddownIdeal.τ).loc Cert.AddownIdeal.main_arg3))
      ∧ θ_run (Cert.AddownRefIdeal.defs (F := Ideal)) (onTc (τ := Cert.AddownRefIdeal.τ) (Cert.AddownRefIdeal.main (F := Ideal))) ⟨m', fun _ => 0, g'⟩ (fun r => ∀ c : Dev Cert.AddownRefIdeal.nD,
          r.2.mem ((c.tc : Thread Cert.AddownRefIdeal.nD Cert.AddownRefIdeal.τ).loc Cert.AddownRefIdeal.main_v24) = v0 c
          ∧ r.2.mem ((c.tc : Thread Cert.AddownRefIdeal.nD Cert.AddownRefIdeal.τ).loc Cert.AddownRefIdeal.main_v25) = v1 c
          ∧ r.2.mem ((c.tc : Thread Cert.AddownRefIdeal.nD Cert.AddownRefIdeal.τ).loc Cert.AddownRefIdeal.main_v26) = v2 c
          ∧ r.2.mem ((c.tc : Thread Cert.AddownRefIdeal.nD Cert.AddownRefIdeal.τ).loc Cert.AddownRefIdeal.main_arg0) = m' ((c.tc : Thread Cert.AddownRefIdeal.nD Cert.AddownRefIdeal.τ).loc Cert.AddownRefIdeal.main_arg0)
          ∧ r.2.mem ((c.tc : Thread Cert.AddownRefIdeal.nD Cert.AddownRefIdeal.τ).loc Cert.AddownRefIdeal.main_arg1) = m' ((c.tc : Thread Cert.AddownRefIdeal.nD Cert.AddownRefIdeal.τ).loc Cert.AddownRefIdeal.main_arg1)
          ∧ r.2.mem ((c.tc : Thread Cert.AddownRefIdeal.nD Cert.AddownRefIdeal.τ).loc Cert.AddownRefIdeal.main_arg2) = m' ((c.tc : Thread Cert.AddownRefIdeal.nD Cert.AddownRefIdeal.τ).loc Cert.AddownRefIdeal.main_arg2)
          ∧ r.2.mem ((c.tc : Thread Cert.AddownRefIdeal.nD Cert.AddownRefIdeal.τ).loc Cert.AddownRefIdeal.main_arg3) = m' ((c.tc : Thread Cert.AddownRefIdeal.nD Cert.AddownRefIdeal.τ).loc Cert.AddownRefIdeal.main_arg3))

def preserves_Adin_AdinIdeal : Prop :=
  True

def algebraic_AdinIdeal_AdinRefIdeal [hAdinIdeal : Cert.AdinIdeal.Facts] [hAdinRefIdeal : Cert.AdinRefIdeal.Facts] : Prop :=
  ∀ (m : (ℓ : Loc Cert.AdinIdeal.nD Cert.AdinIdeal.τ Cert.AdinIdeal.sig) → Buf (Elt Ideal) ℓ) (g : Dev Cert.AdinIdeal.nD → PrngReg)
    (m' : (ℓ : Loc Cert.AdinRefIdeal.nD Cert.AdinRefIdeal.τ Cert.AdinRefIdeal.sig) → Buf (Elt Ideal) ℓ) (g' : Dev Cert.AdinRefIdeal.nD → PrngReg), Pre_AdinIdeal m →
    (∀ c : Dev Cert.AdinIdeal.nD,
      m' ((c.tc : Thread Cert.AdinRefIdeal.nD Cert.AdinRefIdeal.τ).loc Cert.AdinRefIdeal.main_arg0) = m ((c.tc : Thread Cert.AdinIdeal.nD Cert.AdinIdeal.τ).loc Cert.AdinIdeal.main_arg0)
      ∧ m' ((c.tc : Thread Cert.AdinRefIdeal.nD Cert.AdinRefIdeal.τ).loc Cert.AdinRefIdeal.main_arg1) = m ((c.tc : Thread Cert.AdinIdeal.nD Cert.AdinIdeal.τ).loc Cert.AdinIdeal.main_arg1)
      ∧ m' ((c.tc : Thread Cert.AdinRefIdeal.nD Cert.AdinRefIdeal.τ).loc Cert.AdinRefIdeal.main_arg2) = m ((c.tc : Thread Cert.AdinIdeal.nD Cert.AdinIdeal.τ).loc Cert.AdinIdeal.main_arg2)
      ∧ m' ((c.tc : Thread Cert.AdinRefIdeal.nD Cert.AdinRefIdeal.τ).loc Cert.AdinRefIdeal.main_arg3) = m ((c.tc : Thread Cert.AdinIdeal.nD Cert.AdinIdeal.τ).loc Cert.AdinIdeal.main_arg3)) →
    ∃ (v0 : (c : Dev Cert.AdinIdeal.nD) → Buf (Elt Ideal) ((c.tc : Thread Cert.AdinIdeal.nD Cert.AdinIdeal.τ).loc Cert.AdinIdeal.main_v7_0)) (v1 : (c : Dev Cert.AdinIdeal.nD) → Buf (Elt Ideal) ((c.tc : Thread Cert.AdinIdeal.nD Cert.AdinIdeal.τ).loc Cert.AdinIdeal.main_v7_1)) (v2 : (c : Dev Cert.AdinIdeal.nD) → Buf (Elt Ideal) ((c.tc : Thread Cert.AdinIdeal.nD Cert.AdinIdeal.τ).loc Cert.AdinIdeal.main_v7_2)),
      θ_run (Cert.AdinIdeal.defs (F := Ideal)) (onTc (τ := Cert.AdinIdeal.τ) (Cert.AdinIdeal.main (F := Ideal))) ⟨m, fun _ => 0, g⟩ (fun r => ∀ c : Dev Cert.AdinIdeal.nD,
          r.2.mem ((c.tc : Thread Cert.AdinIdeal.nD Cert.AdinIdeal.τ).loc Cert.AdinIdeal.main_v7_0) = v0 c
          ∧ r.2.mem ((c.tc : Thread Cert.AdinIdeal.nD Cert.AdinIdeal.τ).loc Cert.AdinIdeal.main_v7_1) = v1 c
          ∧ r.2.mem ((c.tc : Thread Cert.AdinIdeal.nD Cert.AdinIdeal.τ).loc Cert.AdinIdeal.main_v7_2) = v2 c
          ∧ r.2.mem ((c.tc : Thread Cert.AdinIdeal.nD Cert.AdinIdeal.τ).loc Cert.AdinIdeal.main_arg0) = m ((c.tc : Thread Cert.AdinIdeal.nD Cert.AdinIdeal.τ).loc Cert.AdinIdeal.main_arg0)
          ∧ r.2.mem ((c.tc : Thread Cert.AdinIdeal.nD Cert.AdinIdeal.τ).loc Cert.AdinIdeal.main_arg1) = m ((c.tc : Thread Cert.AdinIdeal.nD Cert.AdinIdeal.τ).loc Cert.AdinIdeal.main_arg1)
          ∧ r.2.mem ((c.tc : Thread Cert.AdinIdeal.nD Cert.AdinIdeal.τ).loc Cert.AdinIdeal.main_arg2) = m ((c.tc : Thread Cert.AdinIdeal.nD Cert.AdinIdeal.τ).loc Cert.AdinIdeal.main_arg2)
          ∧ r.2.mem ((c.tc : Thread Cert.AdinIdeal.nD Cert.AdinIdeal.τ).loc Cert.AdinIdeal.main_arg3) = m ((c.tc : Thread Cert.AdinIdeal.nD Cert.AdinIdeal.τ).loc Cert.AdinIdeal.main_arg3))
      ∧ θ_run (Cert.AdinRefIdeal.defs (F := Ideal)) (onTc (τ := Cert.AdinRefIdeal.τ) (Cert.AdinRefIdeal.main (F := Ideal))) ⟨m', fun _ => 0, g'⟩ (fun r => ∀ c : Dev Cert.AdinRefIdeal.nD,
          r.2.mem ((c.tc : Thread Cert.AdinRefIdeal.nD Cert.AdinRefIdeal.τ).loc Cert.AdinRefIdeal.main_v26) = v0 c
          ∧ r.2.mem ((c.tc : Thread Cert.AdinRefIdeal.nD Cert.AdinRefIdeal.τ).loc Cert.AdinRefIdeal.main_v28) = v1 c
          ∧ r.2.mem ((c.tc : Thread Cert.AdinRefIdeal.nD Cert.AdinRefIdeal.τ).loc Cert.AdinRefIdeal.main_v30) = v2 c
          ∧ r.2.mem ((c.tc : Thread Cert.AdinRefIdeal.nD Cert.AdinRefIdeal.τ).loc Cert.AdinRefIdeal.main_arg0) = m' ((c.tc : Thread Cert.AdinRefIdeal.nD Cert.AdinRefIdeal.τ).loc Cert.AdinRefIdeal.main_arg0)
          ∧ r.2.mem ((c.tc : Thread Cert.AdinRefIdeal.nD Cert.AdinRefIdeal.τ).loc Cert.AdinRefIdeal.main_arg1) = m' ((c.tc : Thread Cert.AdinRefIdeal.nD Cert.AdinRefIdeal.τ).loc Cert.AdinRefIdeal.main_arg1)
          ∧ r.2.mem ((c.tc : Thread Cert.AdinRefIdeal.nD Cert.AdinRefIdeal.τ).loc Cert.AdinRefIdeal.main_arg2) = m' ((c.tc : Thread Cert.AdinRefIdeal.nD Cert.AdinRefIdeal.τ).loc Cert.AdinRefIdeal.main_arg2)
          ∧ r.2.mem ((c.tc : Thread Cert.AdinRefIdeal.nD Cert.AdinRefIdeal.τ).loc Cert.AdinRefIdeal.main_arg3) = m' ((c.tc : Thread Cert.AdinRefIdeal.nD Cert.AdinRefIdeal.τ).loc Cert.AdinRefIdeal.main_arg3))

def preserves_Adkv_AdkvIdeal : Prop :=
  True

def algebraic_AdkvIdeal_AdkvRefIdeal [hAdkvIdeal : Cert.AdkvIdeal.Facts] [hAdkvRefIdeal : Cert.AdkvRefIdeal.Facts] : Prop :=
  ∀ (m : (ℓ : Loc Cert.AdkvIdeal.nD Cert.AdkvIdeal.τ Cert.AdkvIdeal.sig) → Buf (Elt Ideal) ℓ) (g : Dev Cert.AdkvIdeal.nD → PrngReg)
    (m' : (ℓ : Loc Cert.AdkvRefIdeal.nD Cert.AdkvRefIdeal.τ Cert.AdkvRefIdeal.sig) → Buf (Elt Ideal) ℓ) (g' : Dev Cert.AdkvRefIdeal.nD → PrngReg), Pre_AdkvIdeal m →
    (∀ c : Dev Cert.AdkvIdeal.nD,
      m' ((c.tc : Thread Cert.AdkvRefIdeal.nD Cert.AdkvRefIdeal.τ).loc Cert.AdkvRefIdeal.main_arg0) = m ((c.tc : Thread Cert.AdkvIdeal.nD Cert.AdkvIdeal.τ).loc Cert.AdkvIdeal.main_arg0)
      ∧ m' ((c.tc : Thread Cert.AdkvRefIdeal.nD Cert.AdkvRefIdeal.τ).loc Cert.AdkvRefIdeal.main_arg1) = m ((c.tc : Thread Cert.AdkvIdeal.nD Cert.AdkvIdeal.τ).loc Cert.AdkvIdeal.main_arg1)
      ∧ m' ((c.tc : Thread Cert.AdkvRefIdeal.nD Cert.AdkvRefIdeal.τ).loc Cert.AdkvRefIdeal.main_arg2) = m ((c.tc : Thread Cert.AdkvIdeal.nD Cert.AdkvIdeal.τ).loc Cert.AdkvIdeal.main_arg2)
      ∧ m' ((c.tc : Thread Cert.AdkvRefIdeal.nD Cert.AdkvRefIdeal.τ).loc Cert.AdkvRefIdeal.main_arg3) = m ((c.tc : Thread Cert.AdkvIdeal.nD Cert.AdkvIdeal.τ).loc Cert.AdkvIdeal.main_arg3)) →
    ∃ (v0 : (c : Dev Cert.AdkvIdeal.nD) → Buf (Elt Ideal) ((c.tc : Thread Cert.AdkvIdeal.nD Cert.AdkvIdeal.τ).loc Cert.AdkvIdeal.main_v7_0)) (v1 : (c : Dev Cert.AdkvIdeal.nD) → Buf (Elt Ideal) ((c.tc : Thread Cert.AdkvIdeal.nD Cert.AdkvIdeal.τ).loc Cert.AdkvIdeal.main_v7_1)) (v2 : (c : Dev Cert.AdkvIdeal.nD) → Buf (Elt Ideal) ((c.tc : Thread Cert.AdkvIdeal.nD Cert.AdkvIdeal.τ).loc Cert.AdkvIdeal.main_v7_2)),
      θ_run (Cert.AdkvIdeal.defs (F := Ideal)) (onTc (τ := Cert.AdkvIdeal.τ) (Cert.AdkvIdeal.main (F := Ideal))) ⟨m, fun _ => 0, g⟩ (fun r => ∀ c : Dev Cert.AdkvIdeal.nD,
          r.2.mem ((c.tc : Thread Cert.AdkvIdeal.nD Cert.AdkvIdeal.τ).loc Cert.AdkvIdeal.main_v7_0) = v0 c
          ∧ r.2.mem ((c.tc : Thread Cert.AdkvIdeal.nD Cert.AdkvIdeal.τ).loc Cert.AdkvIdeal.main_v7_1) = v1 c
          ∧ r.2.mem ((c.tc : Thread Cert.AdkvIdeal.nD Cert.AdkvIdeal.τ).loc Cert.AdkvIdeal.main_v7_2) = v2 c
          ∧ r.2.mem ((c.tc : Thread Cert.AdkvIdeal.nD Cert.AdkvIdeal.τ).loc Cert.AdkvIdeal.main_arg0) = m ((c.tc : Thread Cert.AdkvIdeal.nD Cert.AdkvIdeal.τ).loc Cert.AdkvIdeal.main_arg0)
          ∧ r.2.mem ((c.tc : Thread Cert.AdkvIdeal.nD Cert.AdkvIdeal.τ).loc Cert.AdkvIdeal.main_arg1) = m ((c.tc : Thread Cert.AdkvIdeal.nD Cert.AdkvIdeal.τ).loc Cert.AdkvIdeal.main_arg1)
          ∧ r.2.mem ((c.tc : Thread Cert.AdkvIdeal.nD Cert.AdkvIdeal.τ).loc Cert.AdkvIdeal.main_arg2) = m ((c.tc : Thread Cert.AdkvIdeal.nD Cert.AdkvIdeal.τ).loc Cert.AdkvIdeal.main_arg2)
          ∧ r.2.mem ((c.tc : Thread Cert.AdkvIdeal.nD Cert.AdkvIdeal.τ).loc Cert.AdkvIdeal.main_arg3) = m ((c.tc : Thread Cert.AdkvIdeal.nD Cert.AdkvIdeal.τ).loc Cert.AdkvIdeal.main_arg3))
      ∧ θ_run (Cert.AdkvRefIdeal.defs (F := Ideal)) (onTc (τ := Cert.AdkvRefIdeal.τ) (Cert.AdkvRefIdeal.main (F := Ideal))) ⟨m', fun _ => 0, g'⟩ (fun r => ∀ c : Dev Cert.AdkvRefIdeal.nD,
          r.2.mem ((c.tc : Thread Cert.AdkvRefIdeal.nD Cert.AdkvRefIdeal.τ).loc Cert.AdkvRefIdeal.main_v26) = v0 c
          ∧ r.2.mem ((c.tc : Thread Cert.AdkvRefIdeal.nD Cert.AdkvRefIdeal.τ).loc Cert.AdkvRefIdeal.main_v28) = v1 c
          ∧ r.2.mem ((c.tc : Thread Cert.AdkvRefIdeal.nD Cert.AdkvRefIdeal.τ).loc Cert.AdkvRefIdeal.main_v30) = v2 c
          ∧ r.2.mem ((c.tc : Thread Cert.AdkvRefIdeal.nD Cert.AdkvRefIdeal.τ).loc Cert.AdkvRefIdeal.main_arg0) = m' ((c.tc : Thread Cert.AdkvRefIdeal.nD Cert.AdkvRefIdeal.τ).loc Cert.AdkvRefIdeal.main_arg0)
          ∧ r.2.mem ((c.tc : Thread Cert.AdkvRefIdeal.nD Cert.AdkvRefIdeal.τ).loc Cert.AdkvRefIdeal.main_arg1) = m' ((c.tc : Thread Cert.AdkvRefIdeal.nD Cert.AdkvRefIdeal.τ).loc Cert.AdkvRefIdeal.main_arg1)
          ∧ r.2.mem ((c.tc : Thread Cert.AdkvRefIdeal.nD Cert.AdkvRefIdeal.τ).loc Cert.AdkvRefIdeal.main_arg2) = m' ((c.tc : Thread Cert.AdkvRefIdeal.nD Cert.AdkvRefIdeal.τ).loc Cert.AdkvRefIdeal.main_arg2)
          ∧ r.2.mem ((c.tc : Thread Cert.AdkvRefIdeal.nD Cert.AdkvRefIdeal.τ).loc Cert.AdkvRefIdeal.main_arg3) = m' ((c.tc : Thread Cert.AdkvRefIdeal.nD Cert.AdkvRefIdeal.τ).loc Cert.AdkvRefIdeal.main_arg3))

def preserves_Adup_AdupIdeal : Prop :=
  True

def algebraic_AdupIdeal_AdupRefIdeal [hAdupIdeal : Cert.AdupIdeal.Facts] [hAdupRefIdeal : Cert.AdupRefIdeal.Facts] : Prop :=
  ∀ (m : (ℓ : Loc Cert.AdupIdeal.nD Cert.AdupIdeal.τ Cert.AdupIdeal.sig) → Buf (Elt Ideal) ℓ) (g : Dev Cert.AdupIdeal.nD → PrngReg)
    (m' : (ℓ : Loc Cert.AdupRefIdeal.nD Cert.AdupRefIdeal.τ Cert.AdupRefIdeal.sig) → Buf (Elt Ideal) ℓ) (g' : Dev Cert.AdupRefIdeal.nD → PrngReg), Pre_AdupIdeal m →
    (∀ c : Dev Cert.AdupIdeal.nD,
      m' ((c.tc : Thread Cert.AdupRefIdeal.nD Cert.AdupRefIdeal.τ).loc Cert.AdupRefIdeal.main_arg0) = m ((c.tc : Thread Cert.AdupIdeal.nD Cert.AdupIdeal.τ).loc Cert.AdupIdeal.main_arg0)
      ∧ m' ((c.tc : Thread Cert.AdupRefIdeal.nD Cert.AdupRefIdeal.τ).loc Cert.AdupRefIdeal.main_arg1) = m ((c.tc : Thread Cert.AdupIdeal.nD Cert.AdupIdeal.τ).loc Cert.AdupIdeal.main_arg1)
      ∧ m' ((c.tc : Thread Cert.AdupRefIdeal.nD Cert.AdupRefIdeal.τ).loc Cert.AdupRefIdeal.main_arg2) = m ((c.tc : Thread Cert.AdupIdeal.nD Cert.AdupIdeal.τ).loc Cert.AdupIdeal.main_arg2)
      ∧ m' ((c.tc : Thread Cert.AdupRefIdeal.nD Cert.AdupRefIdeal.τ).loc Cert.AdupRefIdeal.main_arg3) = m ((c.tc : Thread Cert.AdupIdeal.nD Cert.AdupIdeal.τ).loc Cert.AdupIdeal.main_arg3)) →
    ∃ (v0 : (c : Dev Cert.AdupIdeal.nD) → Buf (Elt Ideal) ((c.tc : Thread Cert.AdupIdeal.nD Cert.AdupIdeal.τ).loc Cert.AdupIdeal.main_v7_0)) (v1 : (c : Dev Cert.AdupIdeal.nD) → Buf (Elt Ideal) ((c.tc : Thread Cert.AdupIdeal.nD Cert.AdupIdeal.τ).loc Cert.AdupIdeal.main_v7_1)) (v2 : (c : Dev Cert.AdupIdeal.nD) → Buf (Elt Ideal) ((c.tc : Thread Cert.AdupIdeal.nD Cert.AdupIdeal.τ).loc Cert.AdupIdeal.main_v7_2)),
      θ_run (Cert.AdupIdeal.defs (F := Ideal)) (onTc (τ := Cert.AdupIdeal.τ) (Cert.AdupIdeal.main (F := Ideal))) ⟨m, fun _ => 0, g⟩ (fun r => ∀ c : Dev Cert.AdupIdeal.nD,
          r.2.mem ((c.tc : Thread Cert.AdupIdeal.nD Cert.AdupIdeal.τ).loc Cert.AdupIdeal.main_v7_0) = v0 c
          ∧ r.2.mem ((c.tc : Thread Cert.AdupIdeal.nD Cert.AdupIdeal.τ).loc Cert.AdupIdeal.main_v7_1) = v1 c
          ∧ r.2.mem ((c.tc : Thread Cert.AdupIdeal.nD Cert.AdupIdeal.τ).loc Cert.AdupIdeal.main_v7_2) = v2 c
          ∧ r.2.mem ((c.tc : Thread Cert.AdupIdeal.nD Cert.AdupIdeal.τ).loc Cert.AdupIdeal.main_arg0) = m ((c.tc : Thread Cert.AdupIdeal.nD Cert.AdupIdeal.τ).loc Cert.AdupIdeal.main_arg0)
          ∧ r.2.mem ((c.tc : Thread Cert.AdupIdeal.nD Cert.AdupIdeal.τ).loc Cert.AdupIdeal.main_arg1) = m ((c.tc : Thread Cert.AdupIdeal.nD Cert.AdupIdeal.τ).loc Cert.AdupIdeal.main_arg1)
          ∧ r.2.mem ((c.tc : Thread Cert.AdupIdeal.nD Cert.AdupIdeal.τ).loc Cert.AdupIdeal.main_arg2) = m ((c.tc : Thread Cert.AdupIdeal.nD Cert.AdupIdeal.τ).loc Cert.AdupIdeal.main_arg2)
          ∧ r.2.mem ((c.tc : Thread Cert.AdupIdeal.nD Cert.AdupIdeal.τ).loc Cert.AdupIdeal.main_arg3) = m ((c.tc : Thread Cert.AdupIdeal.nD Cert.AdupIdeal.τ).loc Cert.AdupIdeal.main_arg3))
      ∧ θ_run (Cert.AdupRefIdeal.defs (F := Ideal)) (onTc (τ := Cert.AdupRefIdeal.τ) (Cert.AdupRefIdeal.main (F := Ideal))) ⟨m', fun _ => 0, g'⟩ (fun r => ∀ c : Dev Cert.AdupRefIdeal.nD,
          r.2.mem ((c.tc : Thread Cert.AdupRefIdeal.nD Cert.AdupRefIdeal.τ).loc Cert.AdupRefIdeal.main_v26) = v0 c
          ∧ r.2.mem ((c.tc : Thread Cert.AdupRefIdeal.nD Cert.AdupRefIdeal.τ).loc Cert.AdupRefIdeal.main_v28) = v1 c
          ∧ r.2.mem ((c.tc : Thread Cert.AdupRefIdeal.nD Cert.AdupRefIdeal.τ).loc Cert.AdupRefIdeal.main_v30) = v2 c
          ∧ r.2.mem ((c.tc : Thread Cert.AdupRefIdeal.nD Cert.AdupRefIdeal.τ).loc Cert.AdupRefIdeal.main_arg0) = m' ((c.tc : Thread Cert.AdupRefIdeal.nD Cert.AdupRefIdeal.τ).loc Cert.AdupRefIdeal.main_arg0)
          ∧ r.2.mem ((c.tc : Thread Cert.AdupRefIdeal.nD Cert.AdupRefIdeal.τ).loc Cert.AdupRefIdeal.main_arg1) = m' ((c.tc : Thread Cert.AdupRefIdeal.nD Cert.AdupRefIdeal.τ).loc Cert.AdupRefIdeal.main_arg1)
          ∧ r.2.mem ((c.tc : Thread Cert.AdupRefIdeal.nD Cert.AdupRefIdeal.τ).loc Cert.AdupRefIdeal.main_arg2) = m' ((c.tc : Thread Cert.AdupRefIdeal.nD Cert.AdupRefIdeal.τ).loc Cert.AdupRefIdeal.main_arg2)
          ∧ r.2.mem ((c.tc : Thread Cert.AdupRefIdeal.nD Cert.AdupRefIdeal.τ).loc Cert.AdupRefIdeal.main_arg3) = m' ((c.tc : Thread Cert.AdupRefIdeal.nD Cert.AdupRefIdeal.τ).loc Cert.AdupRefIdeal.main_arg3))

def preserves_Adcout_AdcoutIdeal : Prop :=
  True

def algebraic_AdcoutIdeal_AdcoutRefIdeal [hAdcoutIdeal : Cert.AdcoutIdeal.Facts] [hAdcoutRefIdeal : Cert.AdcoutRefIdeal.Facts] : Prop :=
  ∀ (m : (ℓ : Loc Cert.AdcoutIdeal.nD Cert.AdcoutIdeal.τ Cert.AdcoutIdeal.sig) → Buf (Elt Ideal) ℓ) (g : Dev Cert.AdcoutIdeal.nD → PrngReg)
    (m' : (ℓ : Loc Cert.AdcoutRefIdeal.nD Cert.AdcoutRefIdeal.τ Cert.AdcoutRefIdeal.sig) → Buf (Elt Ideal) ℓ) (g' : Dev Cert.AdcoutRefIdeal.nD → PrngReg), Pre_AdcoutIdeal m →
    (∀ c : Dev Cert.AdcoutIdeal.nD,
      m' ((c.tc : Thread Cert.AdcoutRefIdeal.nD Cert.AdcoutRefIdeal.τ).loc Cert.AdcoutRefIdeal.main_arg0) = m ((c.tc : Thread Cert.AdcoutIdeal.nD Cert.AdcoutIdeal.τ).loc Cert.AdcoutIdeal.main_arg0)
      ∧ m' ((c.tc : Thread Cert.AdcoutRefIdeal.nD Cert.AdcoutRefIdeal.τ).loc Cert.AdcoutRefIdeal.main_arg1) = m ((c.tc : Thread Cert.AdcoutIdeal.nD Cert.AdcoutIdeal.τ).loc Cert.AdcoutIdeal.main_arg1)
      ∧ m' ((c.tc : Thread Cert.AdcoutRefIdeal.nD Cert.AdcoutRefIdeal.τ).loc Cert.AdcoutRefIdeal.main_arg2) = m ((c.tc : Thread Cert.AdcoutIdeal.nD Cert.AdcoutIdeal.τ).loc Cert.AdcoutIdeal.main_arg2)
      ∧ m' ((c.tc : Thread Cert.AdcoutRefIdeal.nD Cert.AdcoutRefIdeal.τ).loc Cert.AdcoutRefIdeal.main_arg3) = m ((c.tc : Thread Cert.AdcoutIdeal.nD Cert.AdcoutIdeal.τ).loc Cert.AdcoutIdeal.main_arg3)) →
    ∃ (v0 : (c : Dev Cert.AdcoutIdeal.nD) → Buf (Elt Ideal) ((c.tc : Thread Cert.AdcoutIdeal.nD Cert.AdcoutIdeal.τ).loc Cert.AdcoutIdeal.main_v7_0)) (v1 : (c : Dev Cert.AdcoutIdeal.nD) → Buf (Elt Ideal) ((c.tc : Thread Cert.AdcoutIdeal.nD Cert.AdcoutIdeal.τ).loc Cert.AdcoutIdeal.main_v7_1)) (v2 : (c : Dev Cert.AdcoutIdeal.nD) → Buf (Elt Ideal) ((c.tc : Thread Cert.AdcoutIdeal.nD Cert.AdcoutIdeal.τ).loc Cert.AdcoutIdeal.main_v7_2)),
      θ_run (Cert.AdcoutIdeal.defs (F := Ideal)) (onTc (τ := Cert.AdcoutIdeal.τ) (Cert.AdcoutIdeal.main (F := Ideal))) ⟨m, fun _ => 0, g⟩ (fun r => ∀ c : Dev Cert.AdcoutIdeal.nD,
          r.2.mem ((c.tc : Thread Cert.AdcoutIdeal.nD Cert.AdcoutIdeal.τ).loc Cert.AdcoutIdeal.main_v7_0) = v0 c
          ∧ r.2.mem ((c.tc : Thread Cert.AdcoutIdeal.nD Cert.AdcoutIdeal.τ).loc Cert.AdcoutIdeal.main_v7_1) = v1 c
          ∧ r.2.mem ((c.tc : Thread Cert.AdcoutIdeal.nD Cert.AdcoutIdeal.τ).loc Cert.AdcoutIdeal.main_v7_2) = v2 c
          ∧ r.2.mem ((c.tc : Thread Cert.AdcoutIdeal.nD Cert.AdcoutIdeal.τ).loc Cert.AdcoutIdeal.main_arg0) = m ((c.tc : Thread Cert.AdcoutIdeal.nD Cert.AdcoutIdeal.τ).loc Cert.AdcoutIdeal.main_arg0)
          ∧ r.2.mem ((c.tc : Thread Cert.AdcoutIdeal.nD Cert.AdcoutIdeal.τ).loc Cert.AdcoutIdeal.main_arg1) = m ((c.tc : Thread Cert.AdcoutIdeal.nD Cert.AdcoutIdeal.τ).loc Cert.AdcoutIdeal.main_arg1)
          ∧ r.2.mem ((c.tc : Thread Cert.AdcoutIdeal.nD Cert.AdcoutIdeal.τ).loc Cert.AdcoutIdeal.main_arg2) = m ((c.tc : Thread Cert.AdcoutIdeal.nD Cert.AdcoutIdeal.τ).loc Cert.AdcoutIdeal.main_arg2)
          ∧ r.2.mem ((c.tc : Thread Cert.AdcoutIdeal.nD Cert.AdcoutIdeal.τ).loc Cert.AdcoutIdeal.main_arg3) = m ((c.tc : Thread Cert.AdcoutIdeal.nD Cert.AdcoutIdeal.τ).loc Cert.AdcoutIdeal.main_arg3))
      ∧ θ_run (Cert.AdcoutRefIdeal.defs (F := Ideal)) (onTc (τ := Cert.AdcoutRefIdeal.τ) (Cert.AdcoutRefIdeal.main (F := Ideal))) ⟨m', fun _ => 0, g'⟩ (fun r => ∀ c : Dev Cert.AdcoutRefIdeal.nD,
          r.2.mem ((c.tc : Thread Cert.AdcoutRefIdeal.nD Cert.AdcoutRefIdeal.τ).loc Cert.AdcoutRefIdeal.main_v26) = v0 c
          ∧ r.2.mem ((c.tc : Thread Cert.AdcoutRefIdeal.nD Cert.AdcoutRefIdeal.τ).loc Cert.AdcoutRefIdeal.main_v28) = v1 c
          ∧ r.2.mem ((c.tc : Thread Cert.AdcoutRefIdeal.nD Cert.AdcoutRefIdeal.τ).loc Cert.AdcoutRefIdeal.main_v30) = v2 c
          ∧ r.2.mem ((c.tc : Thread Cert.AdcoutRefIdeal.nD Cert.AdcoutRefIdeal.τ).loc Cert.AdcoutRefIdeal.main_arg0) = m' ((c.tc : Thread Cert.AdcoutRefIdeal.nD Cert.AdcoutRefIdeal.τ).loc Cert.AdcoutRefIdeal.main_arg0)
          ∧ r.2.mem ((c.tc : Thread Cert.AdcoutRefIdeal.nD Cert.AdcoutRefIdeal.τ).loc Cert.AdcoutRefIdeal.main_arg1) = m' ((c.tc : Thread Cert.AdcoutRefIdeal.nD Cert.AdcoutRefIdeal.τ).loc Cert.AdcoutRefIdeal.main_arg1)
          ∧ r.2.mem ((c.tc : Thread Cert.AdcoutRefIdeal.nD Cert.AdcoutRefIdeal.τ).loc Cert.AdcoutRefIdeal.main_arg2) = m' ((c.tc : Thread Cert.AdcoutRefIdeal.nD Cert.AdcoutRefIdeal.τ).loc Cert.AdcoutRefIdeal.main_arg2)
          ∧ r.2.mem ((c.tc : Thread Cert.AdcoutRefIdeal.nD Cert.AdcoutRefIdeal.τ).loc Cert.AdcoutRefIdeal.main_arg3) = m' ((c.tc : Thread Cert.AdcoutRefIdeal.nD Cert.AdcoutRefIdeal.τ).loc Cert.AdcoutRefIdeal.main_arg3))

def preserves_Adpool_AdpoolIdeal : Prop :=
  True

def algebraic_AdpoolIdeal_AdpoolRefIdeal [hAdpoolIdeal : Cert.AdpoolIdeal.Facts] [hAdpoolRefIdeal : Cert.AdpoolRefIdeal.Facts] : Prop :=
  ∀ (m : (ℓ : Loc Cert.AdpoolIdeal.nD Cert.AdpoolIdeal.τ Cert.AdpoolIdeal.sig) → Buf (Elt Ideal) ℓ) (g : Dev Cert.AdpoolIdeal.nD → PrngReg)
    (m' : (ℓ : Loc Cert.AdpoolRefIdeal.nD Cert.AdpoolRefIdeal.τ Cert.AdpoolRefIdeal.sig) → Buf (Elt Ideal) ℓ) (g' : Dev Cert.AdpoolRefIdeal.nD → PrngReg), Pre_AdpoolIdeal m →
    (∀ c : Dev Cert.AdpoolIdeal.nD,
      m' ((c.tc : Thread Cert.AdpoolRefIdeal.nD Cert.AdpoolRefIdeal.τ).loc Cert.AdpoolRefIdeal.main_arg0) = m ((c.tc : Thread Cert.AdpoolIdeal.nD Cert.AdpoolIdeal.τ).loc Cert.AdpoolIdeal.main_arg0)
      ∧ m' ((c.tc : Thread Cert.AdpoolRefIdeal.nD Cert.AdpoolRefIdeal.τ).loc Cert.AdpoolRefIdeal.main_arg1) = m ((c.tc : Thread Cert.AdpoolIdeal.nD Cert.AdpoolIdeal.τ).loc Cert.AdpoolIdeal.main_arg1)
      ∧ m' ((c.tc : Thread Cert.AdpoolRefIdeal.nD Cert.AdpoolRefIdeal.τ).loc Cert.AdpoolRefIdeal.main_arg2) = m ((c.tc : Thread Cert.AdpoolIdeal.nD Cert.AdpoolIdeal.τ).loc Cert.AdpoolIdeal.main_arg2)
      ∧ m' ((c.tc : Thread Cert.AdpoolRefIdeal.nD Cert.AdpoolRefIdeal.τ).loc Cert.AdpoolRefIdeal.main_arg3) = m ((c.tc : Thread Cert.AdpoolIdeal.nD Cert.AdpoolIdeal.τ).loc Cert.AdpoolIdeal.main_arg3)) →
    ∃ (v0 : (c : Dev Cert.AdpoolIdeal.nD) → Buf (Elt Ideal) ((c.tc : Thread Cert.AdpoolIdeal.nD Cert.AdpoolIdeal.τ).loc Cert.AdpoolIdeal.main_v7_0)) (v1 : (c : Dev Cert.AdpoolIdeal.nD) → Buf (Elt Ideal) ((c.tc : Thread Cert.AdpoolIdeal.nD Cert.AdpoolIdeal.τ).loc Cert.AdpoolIdeal.main_v7_1)) (v2 : (c : Dev Cert.AdpoolIdeal.nD) → Buf (Elt Ideal) ((c.tc : Thread Cert.AdpoolIdeal.nD Cert.AdpoolIdeal.τ).loc Cert.AdpoolIdeal.main_v7_2)),
      θ_run (Cert.AdpoolIdeal.defs (F := Ideal)) (onTc (τ := Cert.AdpoolIdeal.τ) (Cert.AdpoolIdeal.main (F := Ideal))) ⟨m, fun _ => 0, g⟩ (fun r => ∀ c : Dev Cert.AdpoolIdeal.nD,
          r.2.mem ((c.tc : Thread Cert.AdpoolIdeal.nD Cert.AdpoolIdeal.τ).loc Cert.AdpoolIdeal.main_v7_0) = v0 c
          ∧ r.2.mem ((c.tc : Thread Cert.AdpoolIdeal.nD Cert.AdpoolIdeal.τ).loc Cert.AdpoolIdeal.main_v7_1) = v1 c
          ∧ r.2.mem ((c.tc : Thread Cert.AdpoolIdeal.nD Cert.AdpoolIdeal.τ).loc Cert.AdpoolIdeal.main_v7_2) = v2 c
          ∧ r.2.mem ((c.tc : Thread Cert.AdpoolIdeal.nD Cert.AdpoolIdeal.τ).loc Cert.AdpoolIdeal.main_arg0) = m ((c.tc : Thread Cert.AdpoolIdeal.nD Cert.AdpoolIdeal.τ).loc Cert.AdpoolIdeal.main_arg0)
          ∧ r.2.mem ((c.tc : Thread Cert.AdpoolIdeal.nD Cert.AdpoolIdeal.τ).loc Cert.AdpoolIdeal.main_arg1) = m ((c.tc : Thread Cert.AdpoolIdeal.nD Cert.AdpoolIdeal.τ).loc Cert.AdpoolIdeal.main_arg1)
          ∧ r.2.mem ((c.tc : Thread Cert.AdpoolIdeal.nD Cert.AdpoolIdeal.τ).loc Cert.AdpoolIdeal.main_arg2) = m ((c.tc : Thread Cert.AdpoolIdeal.nD Cert.AdpoolIdeal.τ).loc Cert.AdpoolIdeal.main_arg2)
          ∧ r.2.mem ((c.tc : Thread Cert.AdpoolIdeal.nD Cert.AdpoolIdeal.τ).loc Cert.AdpoolIdeal.main_arg3) = m ((c.tc : Thread Cert.AdpoolIdeal.nD Cert.AdpoolIdeal.τ).loc Cert.AdpoolIdeal.main_arg3))
      ∧ θ_run (Cert.AdpoolRefIdeal.defs (F := Ideal)) (onTc (τ := Cert.AdpoolRefIdeal.τ) (Cert.AdpoolRefIdeal.main (F := Ideal))) ⟨m', fun _ => 0, g'⟩ (fun r => ∀ c : Dev Cert.AdpoolRefIdeal.nD,
          r.2.mem ((c.tc : Thread Cert.AdpoolRefIdeal.nD Cert.AdpoolRefIdeal.τ).loc Cert.AdpoolRefIdeal.main_v26) = v0 c
          ∧ r.2.mem ((c.tc : Thread Cert.AdpoolRefIdeal.nD Cert.AdpoolRefIdeal.τ).loc Cert.AdpoolRefIdeal.main_v28) = v1 c
          ∧ r.2.mem ((c.tc : Thread Cert.AdpoolRefIdeal.nD Cert.AdpoolRefIdeal.τ).loc Cert.AdpoolRefIdeal.main_v30) = v2 c
          ∧ r.2.mem ((c.tc : Thread Cert.AdpoolRefIdeal.nD Cert.AdpoolRefIdeal.τ).loc Cert.AdpoolRefIdeal.main_arg0) = m' ((c.tc : Thread Cert.AdpoolRefIdeal.nD Cert.AdpoolRefIdeal.τ).loc Cert.AdpoolRefIdeal.main_arg0)
          ∧ r.2.mem ((c.tc : Thread Cert.AdpoolRefIdeal.nD Cert.AdpoolRefIdeal.τ).loc Cert.AdpoolRefIdeal.main_arg1) = m' ((c.tc : Thread Cert.AdpoolRefIdeal.nD Cert.AdpoolRefIdeal.τ).loc Cert.AdpoolRefIdeal.main_arg1)
          ∧ r.2.mem ((c.tc : Thread Cert.AdpoolRefIdeal.nD Cert.AdpoolRefIdeal.τ).loc Cert.AdpoolRefIdeal.main_arg2) = m' ((c.tc : Thread Cert.AdpoolRefIdeal.nD Cert.AdpoolRefIdeal.τ).loc Cert.AdpoolRefIdeal.main_arg2)
          ∧ r.2.mem ((c.tc : Thread Cert.AdpoolRefIdeal.nD Cert.AdpoolRefIdeal.τ).loc Cert.AdpoolRefIdeal.main_arg3) = m' ((c.tc : Thread Cert.AdpoolRefIdeal.nD Cert.AdpoolRefIdeal.τ).loc Cert.AdpoolRefIdeal.main_arg3))

def Claim : Prop :=
  ∃ (hAttn : Cert.Attn.Facts) (hAttnIdeal : Cert.AttnIdeal.Facts) (hAttnRefIdeal : Cert.AttnRefIdeal.Facts) (hHf : Cert.Hf.Facts) (hHfIdeal : Cert.HfIdeal.Facts) (hHfRefIdeal : Cert.HfRefIdeal.Facts) (hHq : Cert.Hq.Facts) (hHqIdeal : Cert.HqIdeal.Facts) (hHqRefIdeal : Cert.HqRefIdeal.Facts) (hMix : Cert.Mix.Facts) (hMixIdeal : Cert.MixIdeal.Facts) (hMixRefIdeal : Cert.MixRefIdeal.Facts) (hMerge : Cert.Merge.Facts) (hMergeIdeal : Cert.MergeIdeal.Facts) (hMergeRefIdeal : Cert.MergeRefIdeal.Facts) (hDact : Cert.Dact.Facts) (hDactIdeal : Cert.DactIdeal.Facts) (hDactRefIdeal : Cert.DactRefIdeal.Facts) (hDwdown : Cert.Dwdown.Facts) (hDwdownIdeal : Cert.DwdownIdeal.Facts) (hDwdownRefIdeal : Cert.DwdownRefIdeal.Facts) (hDwup : Cert.Dwup.Facts) (hDwupIdeal : Cert.DwupIdeal.Facts) (hDwupRefIdeal : Cert.DwupRefIdeal.Facts) (hDwin : Cert.Dwin.Facts) (hDwinIdeal : Cert.DwinIdeal.Facts) (hDwinRefIdeal : Cert.DwinRefIdeal.Facts) (hInproj : Cert.Inproj.Facts) (hInprojIdeal : Cert.InprojIdeal.Facts) (hInprojRefIdeal : Cert.InprojRefIdeal.Facts) (hUpg : Cert.Upg.Facts) (hUpgIdeal : Cert.UpgIdeal.Facts) (hUpgRefIdeal : Cert.UpgRefIdeal.Facts) (hUpv : Cert.Upv.Facts) (hUpvIdeal : Cert.UpvIdeal.Facts) (hUpvRefIdeal : Cert.UpvRefIdeal.Facts) (hDown : Cert.Down.Facts) (hDownIdeal : Cert.DownIdeal.Facts) (hDownRefIdeal : Cert.DownRefIdeal.Facts) (hDsq : Cert.Dsq.Facts) (hDsqIdeal : Cert.DsqIdeal.Facts) (hDsqRefIdeal : Cert.DsqRefIdeal.Facts) (hDwsq : Cert.Dwsq.Facts) (hDwsqIdeal : Cert.DwsqIdeal.Facts) (hDwsqRefIdeal : Cert.DwsqRefIdeal.Facts) (hDyt : Cert.Dyt.Facts) (hDytIdeal : Cert.DytIdeal.Facts) (hDytRefIdeal : Cert.DytRefIdeal.Facts) (hDwco : Cert.Dwco.Facts) (hDwcoIdeal : Cert.DwcoIdeal.Facts) (hDwcoRefIdeal : Cert.DwcoRefIdeal.Facts) (hQproj : Cert.Qproj.Facts) (hQprojIdeal : Cert.QprojIdeal.Facts) (hQprojRefIdeal : Cert.QprojRefIdeal.Facts) (hOutproj : Cert.Outproj.Facts) (hOutprojIdeal : Cert.OutprojIdeal.Facts) (hOutprojRefIdeal : Cert.OutprojRefIdeal.Facts) (hConvout : Cert.Convout.Facts) (hConvoutIdeal : Cert.ConvoutIdeal.Facts) (hConvoutRefIdeal : Cert.ConvoutRefIdeal.Facts) (hKvproj : Cert.Kvproj.Facts) (hKvprojIdeal : Cert.KvprojIdeal.Facts) (hKvprojRefIdeal : Cert.KvprojRefIdeal.Facts) (hDwkv : Cert.Dwkv.Facts) (hDwkvIdeal : Cert.DwkvIdeal.Facts) (hDwkvRefIdeal : Cert.DwkvRefIdeal.Facts) (hDmem : Cert.Dmem.Facts) (hDmemIdeal : Cert.DmemIdeal.Facts) (hDmemRefIdeal : Cert.DmemRefIdeal.Facts) (hDmemtop : Cert.Dmemtop.Facts) (hDmemtopIdeal : Cert.DmemtopIdeal.Facts) (hDmemtopRefIdeal : Cert.DmemtopRefIdeal.Facts) (hAttnf : Cert.Attnf.Facts) (hAttnfIdeal : Cert.AttnfIdeal.Facts) (hAttnfRefIdeal : Cert.AttnfRefIdeal.Facts) (hNormf : Cert.Normf.Facts) (hNormfIdeal : Cert.NormfIdeal.Facts) (hNormfRefIdeal : Cert.NormfRefIdeal.Facts) (hMemf : Cert.Memf.Facts) (hMemfIdeal : Cert.MemfIdeal.Facts) (hMemfRefIdeal : Cert.MemfRefIdeal.Facts) (hMergef : Cert.Mergef.Facts) (hMergefIdeal : Cert.MergefIdeal.Facts) (hMergefRefIdeal : Cert.MergefRefIdeal.Facts) (hGproj : Cert.Gproj.Facts) (hGprojIdeal : Cert.GprojIdeal.Facts) (hGprojRefIdeal : Cert.GprojRefIdeal.Facts) (hGdz : Cert.Gdz.Facts) (hGdzIdeal : Cert.GdzIdeal.Facts) (hGdzRefIdeal : Cert.GdzRefIdeal.Facts) (hGdw : Cert.Gdw.Facts) (hGdwIdeal : Cert.GdwIdeal.Facts) (hGdwRefIdeal : Cert.GdwRefIdeal.Facts) (hLoss : Cert.Loss.Facts) (hLossIdeal : Cert.LossIdeal.Facts) (hLossRefIdeal : Cert.LossRefIdeal.Facts) (hMemn : Cert.Memn.Facts) (hMemnIdeal : Cert.MemnIdeal.Facts) (hMemnRefIdeal : Cert.MemnRefIdeal.Facts) (hSmall : Cert.Small.Facts) (hSmallIdeal : Cert.SmallIdeal.Facts) (hSmallRefIdeal : Cert.SmallRefIdeal.Facts) (hGmix : Cert.Gmix.Facts) (hGmixIdeal : Cert.GmixIdeal.Facts) (hGmixRefIdeal : Cert.GmixRefIdeal.Facts) (hGrest : Cert.Grest.Facts) (hGrestIdeal : Cert.GrestIdeal.Facts) (hGrestRefIdeal : Cert.GrestRefIdeal.Facts) (hGall : Cert.Gall.Facts) (hGallIdeal : Cert.GallIdeal.Facts) (hGallRefIdeal : Cert.GallRefIdeal.Facts) (hAdchan : Cert.Adchan.Facts) (hAdchanIdeal : Cert.AdchanIdeal.Facts) (hAdchanRefIdeal : Cert.AdchanRefIdeal.Facts) (hAdconv : Cert.Adconv.Facts) (hAdconvIdeal : Cert.AdconvIdeal.Facts) (hAdconvRefIdeal : Cert.AdconvRefIdeal.Facts) (hAdgain : Cert.Adgain.Facts) (hAdgainIdeal : Cert.AdgainIdeal.Facts) (hAdgainRefIdeal : Cert.AdgainRefIdeal.Facts) (hAdfilt : Cert.Adfilt.Facts) (hAdfiltIdeal : Cert.AdfiltIdeal.Facts) (hAdfiltRefIdeal : Cert.AdfiltRefIdeal.Facts) (hAdffilt : Cert.Adffilt.Facts) (hAdffiltIdeal : Cert.AdffiltIdeal.Facts) (hAdffiltRefIdeal : Cert.AdffiltRefIdeal.Facts) (hAdsq : Cert.Adsq.Facts) (hAdsqIdeal : Cert.AdsqIdeal.Facts) (hAdsqRefIdeal : Cert.AdsqRefIdeal.Facts) (hAddown : Cert.Addown.Facts) (hAddownIdeal : Cert.AddownIdeal.Facts) (hAddownRefIdeal : Cert.AddownRefIdeal.Facts) (hAdin : Cert.Adin.Facts) (hAdinIdeal : Cert.AdinIdeal.Facts) (hAdinRefIdeal : Cert.AdinRefIdeal.Facts) (hAdkv : Cert.Adkv.Facts) (hAdkvIdeal : Cert.AdkvIdeal.Facts) (hAdkvRefIdeal : Cert.AdkvRefIdeal.Facts) (hAdup : Cert.Adup.Facts) (hAdupIdeal : Cert.AdupIdeal.Facts) (hAdupRefIdeal : Cert.AdupRefIdeal.Facts) (hAdcout : Cert.Adcout.Facts) (hAdcoutIdeal : Cert.AdcoutIdeal.Facts) (hAdcoutRefIdeal : Cert.AdcoutRefIdeal.Facts) (hAdpool : Cert.Adpool.Facts) (hAdpoolIdeal : Cert.AdpoolIdeal.Facts) (hAdpoolRefIdeal : Cert.AdpoolRefIdeal.Facts) (hPre_finite_attn : Cert.Pre_finite_attn.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Hf (hHf := hHf)
    ∧ quiescent_HfIdeal (hHfIdeal := hHfIdeal)
    ∧ quiescent_HfRefIdeal (hHfRefIdeal := hHfRefIdeal)
    ∧ quiescent_Hq (hHq := hHq)
    ∧ quiescent_HqIdeal (hHqIdeal := hHqIdeal)
    ∧ quiescent_HqRefIdeal (hHqRefIdeal := hHqRefIdeal)
    ∧ quiescent_Mix (hMix := hMix)
    ∧ quiescent_MixIdeal (hMixIdeal := hMixIdeal)
    ∧ quiescent_MixRefIdeal (hMixRefIdeal := hMixRefIdeal)
    ∧ quiescent_Merge (hMerge := hMerge)
    ∧ quiescent_MergeIdeal (hMergeIdeal := hMergeIdeal)
    ∧ quiescent_MergeRefIdeal (hMergeRefIdeal := hMergeRefIdeal)
    ∧ quiescent_Dact (hDact := hDact)
    ∧ quiescent_DactIdeal (hDactIdeal := hDactIdeal)
    ∧ quiescent_DactRefIdeal (hDactRefIdeal := hDactRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Upg (hUpg := hUpg)
    ∧ quiescent_UpgIdeal (hUpgIdeal := hUpgIdeal)
    ∧ quiescent_UpgRefIdeal (hUpgRefIdeal := hUpgRefIdeal)
    ∧ quiescent_Upv (hUpv := hUpv)
    ∧ quiescent_UpvIdeal (hUpvIdeal := hUpvIdeal)
    ∧ quiescent_UpvRefIdeal (hUpvRefIdeal := hUpvRefIdeal)
    ∧ quiescent_Down (hDown := hDown)
    ∧ quiescent_DownIdeal (hDownIdeal := hDownIdeal)
    ∧ quiescent_DownRefIdeal (hDownRefIdeal := hDownRefIdeal)
    ∧ quiescent_Dsq (hDsq := hDsq)
    ∧ quiescent_DsqIdeal (hDsqIdeal := hDsqIdeal)
    ∧ quiescent_DsqRefIdeal (hDsqRefIdeal := hDsqRefIdeal)
    ∧ quiescent_Dwsq (hDwsq := hDwsq)
    ∧ quiescent_DwsqIdeal (hDwsqIdeal := hDwsqIdeal)
    ∧ quiescent_DwsqRefIdeal (hDwsqRefIdeal := hDwsqRefIdeal)
    ∧ quiescent_Dyt (hDyt := hDyt)
    ∧ quiescent_DytIdeal (hDytIdeal := hDytIdeal)
    ∧ quiescent_DytRefIdeal (hDytRefIdeal := hDytRefIdeal)
    ∧ quiescent_Dwco (hDwco := hDwco)
    ∧ quiescent_DwcoIdeal (hDwcoIdeal := hDwcoIdeal)
    ∧ quiescent_DwcoRefIdeal (hDwcoRefIdeal := hDwcoRefIdeal)
    ∧ quiescent_Qproj (hQproj := hQproj)
    ∧ quiescent_QprojIdeal (hQprojIdeal := hQprojIdeal)
    ∧ quiescent_QprojRefIdeal (hQprojRefIdeal := hQprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Convout (hConvout := hConvout)
    ∧ quiescent_ConvoutIdeal (hConvoutIdeal := hConvoutIdeal)
    ∧ quiescent_ConvoutRefIdeal (hConvoutRefIdeal := hConvoutRefIdeal)
    ∧ quiescent_Kvproj (hKvproj := hKvproj)
    ∧ quiescent_KvprojIdeal (hKvprojIdeal := hKvprojIdeal)
    ∧ quiescent_KvprojRefIdeal (hKvprojRefIdeal := hKvprojRefIdeal)
    ∧ quiescent_Dwkv (hDwkv := hDwkv)
    ∧ quiescent_DwkvIdeal (hDwkvIdeal := hDwkvIdeal)
    ∧ quiescent_DwkvRefIdeal (hDwkvRefIdeal := hDwkvRefIdeal)
    ∧ quiescent_Dmem (hDmem := hDmem)
    ∧ quiescent_DmemIdeal (hDmemIdeal := hDmemIdeal)
    ∧ quiescent_DmemRefIdeal (hDmemRefIdeal := hDmemRefIdeal)
    ∧ quiescent_Dmemtop (hDmemtop := hDmemtop)
    ∧ quiescent_DmemtopIdeal (hDmemtopIdeal := hDmemtopIdeal)
    ∧ quiescent_DmemtopRefIdeal (hDmemtopRefIdeal := hDmemtopRefIdeal)
    ∧ quiescent_Attnf (hAttnf := hAttnf)
    ∧ quiescent_AttnfIdeal (hAttnfIdeal := hAttnfIdeal)
    ∧ quiescent_AttnfRefIdeal (hAttnfRefIdeal := hAttnfRefIdeal)
    ∧ quiescent_Normf (hNormf := hNormf)
    ∧ quiescent_NormfIdeal (hNormfIdeal := hNormfIdeal)
    ∧ quiescent_NormfRefIdeal (hNormfRefIdeal := hNormfRefIdeal)
    ∧ quiescent_Memf (hMemf := hMemf)
    ∧ quiescent_MemfIdeal (hMemfIdeal := hMemfIdeal)
    ∧ quiescent_MemfRefIdeal (hMemfRefIdeal := hMemfRefIdeal)
    ∧ quiescent_Mergef (hMergef := hMergef)
    ∧ quiescent_MergefIdeal (hMergefIdeal := hMergefIdeal)
    ∧ quiescent_MergefRefIdeal (hMergefRefIdeal := hMergefRefIdeal)
    ∧ quiescent_Gproj (hGproj := hGproj)
    ∧ quiescent_GprojIdeal (hGprojIdeal := hGprojIdeal)
    ∧ quiescent_GprojRefIdeal (hGprojRefIdeal := hGprojRefIdeal)
    ∧ quiescent_Gdz (hGdz := hGdz)
    ∧ quiescent_GdzIdeal (hGdzIdeal := hGdzIdeal)
    ∧ quiescent_GdzRefIdeal (hGdzRefIdeal := hGdzRefIdeal)
    ∧ quiescent_Gdw (hGdw := hGdw)
    ∧ quiescent_GdwIdeal (hGdwIdeal := hGdwIdeal)
    ∧ quiescent_GdwRefIdeal (hGdwRefIdeal := hGdwRefIdeal)
    ∧ quiescent_Loss (hLoss := hLoss)
    ∧ quiescent_LossIdeal (hLossIdeal := hLossIdeal)
    ∧ quiescent_LossRefIdeal (hLossRefIdeal := hLossRefIdeal)
    ∧ quiescent_Memn (hMemn := hMemn)
    ∧ quiescent_MemnIdeal (hMemnIdeal := hMemnIdeal)
    ∧ quiescent_MemnRefIdeal (hMemnRefIdeal := hMemnRefIdeal)
    ∧ quiescent_Small (hSmall := hSmall)
    ∧ quiescent_SmallIdeal (hSmallIdeal := hSmallIdeal)
    ∧ quiescent_SmallRefIdeal (hSmallRefIdeal := hSmallRefIdeal)
    ∧ quiescent_Gmix (hGmix := hGmix)
    ∧ quiescent_GmixIdeal (hGmixIdeal := hGmixIdeal)
    ∧ quiescent_GmixRefIdeal (hGmixRefIdeal := hGmixRefIdeal)
    ∧ quiescent_Grest (hGrest := hGrest)
    ∧ quiescent_GrestIdeal (hGrestIdeal := hGrestIdeal)
    ∧ quiescent_GrestRefIdeal (hGrestRefIdeal := hGrestRefIdeal)
    ∧ quiescent_Gall (hGall := hGall)
    ∧ quiescent_GallIdeal (hGallIdeal := hGallIdeal)
    ∧ quiescent_GallRefIdeal (hGallRefIdeal := hGallRefIdeal)
    ∧ quiescent_Adchan (hAdchan := hAdchan)
    ∧ quiescent_AdchanIdeal (hAdchanIdeal := hAdchanIdeal)
    ∧ quiescent_AdchanRefIdeal (hAdchanRefIdeal := hAdchanRefIdeal)
    ∧ quiescent_Adconv (hAdconv := hAdconv)
    ∧ quiescent_AdconvIdeal (hAdconvIdeal := hAdconvIdeal)
    ∧ quiescent_AdconvRefIdeal (hAdconvRefIdeal := hAdconvRefIdeal)
    ∧ quiescent_Adgain (hAdgain := hAdgain)
    ∧ quiescent_AdgainIdeal (hAdgainIdeal := hAdgainIdeal)
    ∧ quiescent_AdgainRefIdeal (hAdgainRefIdeal := hAdgainRefIdeal)
    ∧ quiescent_Adfilt (hAdfilt := hAdfilt)
    ∧ quiescent_AdfiltIdeal (hAdfiltIdeal := hAdfiltIdeal)
    ∧ quiescent_AdfiltRefIdeal (hAdfiltRefIdeal := hAdfiltRefIdeal)
    ∧ quiescent_Adffilt (hAdffilt := hAdffilt)
    ∧ quiescent_AdffiltIdeal (hAdffiltIdeal := hAdffiltIdeal)
    ∧ quiescent_AdffiltRefIdeal (hAdffiltRefIdeal := hAdffiltRefIdeal)
    ∧ quiescent_Adsq (hAdsq := hAdsq)
    ∧ quiescent_AdsqIdeal (hAdsqIdeal := hAdsqIdeal)
    ∧ quiescent_AdsqRefIdeal (hAdsqRefIdeal := hAdsqRefIdeal)
    ∧ quiescent_Addown (hAddown := hAddown)
    ∧ quiescent_AddownIdeal (hAddownIdeal := hAddownIdeal)
    ∧ quiescent_AddownRefIdeal (hAddownRefIdeal := hAddownRefIdeal)
    ∧ quiescent_Adin (hAdin := hAdin)
    ∧ quiescent_AdinIdeal (hAdinIdeal := hAdinIdeal)
    ∧ quiescent_AdinRefIdeal (hAdinRefIdeal := hAdinRefIdeal)
    ∧ quiescent_Adkv (hAdkv := hAdkv)
    ∧ quiescent_AdkvIdeal (hAdkvIdeal := hAdkvIdeal)
    ∧ quiescent_AdkvRefIdeal (hAdkvRefIdeal := hAdkvRefIdeal)
    ∧ quiescent_Adup (hAdup := hAdup)
    ∧ quiescent_AdupIdeal (hAdupIdeal := hAdupIdeal)
    ∧ quiescent_AdupRefIdeal (hAdupRefIdeal := hAdupRefIdeal)
    ∧ quiescent_Adcout (hAdcout := hAdcout)
    ∧ quiescent_AdcoutIdeal (hAdcoutIdeal := hAdcoutIdeal)
    ∧ quiescent_AdcoutRefIdeal (hAdcoutRefIdeal := hAdcoutRefIdeal)
    ∧ quiescent_Adpool (hAdpool := hAdpool)
    ∧ quiescent_AdpoolIdeal (hAdpoolIdeal := hAdpoolIdeal)
    ∧ quiescent_AdpoolRefIdeal (hAdpoolRefIdeal := hAdpoolRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Hf_HfIdeal
    ∧ algebraic_HfIdeal_HfRefIdeal (hHfIdeal := hHfIdeal) (hHfRefIdeal := hHfRefIdeal)
    ∧ preserves_Hq_HqIdeal
    ∧ algebraic_HqIdeal_HqRefIdeal (hHqIdeal := hHqIdeal) (hHqRefIdeal := hHqRefIdeal)
    ∧ preserves_Mix_MixIdeal
    ∧ algebraic_MixIdeal_MixRefIdeal (hMixIdeal := hMixIdeal) (hMixRefIdeal := hMixRefIdeal)
    ∧ preserves_Merge_MergeIdeal
    ∧ algebraic_MergeIdeal_MergeRefIdeal (hMergeIdeal := hMergeIdeal) (hMergeRefIdeal := hMergeRefIdeal)
    ∧ preserves_Dact_DactIdeal
    ∧ algebraic_DactIdeal_DactRefIdeal (hDactIdeal := hDactIdeal) (hDactRefIdeal := hDactRefIdeal)
    ∧ preserves_Dwdown_DwdownIdeal
    ∧ algebraic_DwdownIdeal_DwdownRefIdeal (hDwdownIdeal := hDwdownIdeal) (hDwdownRefIdeal := hDwdownRefIdeal)
    ∧ preserves_Dwup_DwupIdeal
    ∧ algebraic_DwupIdeal_DwupRefIdeal (hDwupIdeal := hDwupIdeal) (hDwupRefIdeal := hDwupRefIdeal)
    ∧ preserves_Dwin_DwinIdeal
    ∧ algebraic_DwinIdeal_DwinRefIdeal (hDwinIdeal := hDwinIdeal) (hDwinRefIdeal := hDwinRefIdeal)
    ∧ preserves_Inproj_InprojIdeal
    ∧ algebraic_InprojIdeal_InprojRefIdeal (hInprojIdeal := hInprojIdeal) (hInprojRefIdeal := hInprojRefIdeal)
    ∧ preserves_Upg_UpgIdeal
    ∧ algebraic_UpgIdeal_UpgRefIdeal (hUpgIdeal := hUpgIdeal) (hUpgRefIdeal := hUpgRefIdeal)
    ∧ preserves_Upv_UpvIdeal
    ∧ algebraic_UpvIdeal_UpvRefIdeal (hUpvIdeal := hUpvIdeal) (hUpvRefIdeal := hUpvRefIdeal)
    ∧ preserves_Down_DownIdeal
    ∧ algebraic_DownIdeal_DownRefIdeal (hDownIdeal := hDownIdeal) (hDownRefIdeal := hDownRefIdeal)
    ∧ preserves_Dsq_DsqIdeal
    ∧ algebraic_DsqIdeal_DsqRefIdeal (hDsqIdeal := hDsqIdeal) (hDsqRefIdeal := hDsqRefIdeal)
    ∧ preserves_Dwsq_DwsqIdeal
    ∧ algebraic_DwsqIdeal_DwsqRefIdeal (hDwsqIdeal := hDwsqIdeal) (hDwsqRefIdeal := hDwsqRefIdeal)
    ∧ preserves_Dyt_DytIdeal
    ∧ algebraic_DytIdeal_DytRefIdeal (hDytIdeal := hDytIdeal) (hDytRefIdeal := hDytRefIdeal)
    ∧ preserves_Dwco_DwcoIdeal
    ∧ algebraic_DwcoIdeal_DwcoRefIdeal (hDwcoIdeal := hDwcoIdeal) (hDwcoRefIdeal := hDwcoRefIdeal)
    ∧ preserves_Qproj_QprojIdeal
    ∧ algebraic_QprojIdeal_QprojRefIdeal (hQprojIdeal := hQprojIdeal) (hQprojRefIdeal := hQprojRefIdeal)
    ∧ preserves_Outproj_OutprojIdeal
    ∧ algebraic_OutprojIdeal_OutprojRefIdeal (hOutprojIdeal := hOutprojIdeal) (hOutprojRefIdeal := hOutprojRefIdeal)
    ∧ preserves_Convout_ConvoutIdeal
    ∧ algebraic_ConvoutIdeal_ConvoutRefIdeal (hConvoutIdeal := hConvoutIdeal) (hConvoutRefIdeal := hConvoutRefIdeal)
    ∧ preserves_Kvproj_KvprojIdeal
    ∧ algebraic_KvprojIdeal_KvprojRefIdeal (hKvprojIdeal := hKvprojIdeal) (hKvprojRefIdeal := hKvprojRefIdeal)
    ∧ preserves_Dwkv_DwkvIdeal
    ∧ algebraic_DwkvIdeal_DwkvRefIdeal (hDwkvIdeal := hDwkvIdeal) (hDwkvRefIdeal := hDwkvRefIdeal)
    ∧ preserves_Dmem_DmemIdeal
    ∧ algebraic_DmemIdeal_DmemRefIdeal (hDmemIdeal := hDmemIdeal) (hDmemRefIdeal := hDmemRefIdeal)
    ∧ preserves_Dmemtop_DmemtopIdeal
    ∧ algebraic_DmemtopIdeal_DmemtopRefIdeal (hDmemtopIdeal := hDmemtopIdeal) (hDmemtopRefIdeal := hDmemtopRefIdeal)
    ∧ preserves_Attnf_AttnfIdeal
    ∧ algebraic_AttnfIdeal_AttnfRefIdeal (hAttnfIdeal := hAttnfIdeal) (hAttnfRefIdeal := hAttnfRefIdeal)
    ∧ preserves_Normf_NormfIdeal
    ∧ algebraic_NormfIdeal_NormfRefIdeal (hNormfIdeal := hNormfIdeal) (hNormfRefIdeal := hNormfRefIdeal)
    ∧ preserves_Memf_MemfIdeal
    ∧ algebraic_MemfIdeal_MemfRefIdeal (hMemfIdeal := hMemfIdeal) (hMemfRefIdeal := hMemfRefIdeal)
    ∧ preserves_Mergef_MergefIdeal
    ∧ algebraic_MergefIdeal_MergefRefIdeal (hMergefIdeal := hMergefIdeal) (hMergefRefIdeal := hMergefRefIdeal)
    ∧ preserves_Gproj_GprojIdeal
    ∧ algebraic_GprojIdeal_GprojRefIdeal (hGprojIdeal := hGprojIdeal) (hGprojRefIdeal := hGprojRefIdeal)
    ∧ preserves_Gdz_GdzIdeal
    ∧ algebraic_GdzIdeal_GdzRefIdeal (hGdzIdeal := hGdzIdeal) (hGdzRefIdeal := hGdzRefIdeal)
    ∧ preserves_Gdw_GdwIdeal
    ∧ algebraic_GdwIdeal_GdwRefIdeal (hGdwIdeal := hGdwIdeal) (hGdwRefIdeal := hGdwRefIdeal)
    ∧ preserves_Loss_LossIdeal
    ∧ algebraic_LossIdeal_LossRefIdeal (hLossIdeal := hLossIdeal) (hLossRefIdeal := hLossRefIdeal)
    ∧ preserves_Memn_MemnIdeal
    ∧ algebraic_MemnIdeal_MemnRefIdeal (hMemnIdeal := hMemnIdeal) (hMemnRefIdeal := hMemnRefIdeal)
    ∧ preserves_Small_SmallIdeal
    ∧ algebraic_SmallIdeal_SmallRefIdeal (hSmallIdeal := hSmallIdeal) (hSmallRefIdeal := hSmallRefIdeal)
    ∧ preserves_Gmix_GmixIdeal
    ∧ algebraic_GmixIdeal_GmixRefIdeal (hGmixIdeal := hGmixIdeal) (hGmixRefIdeal := hGmixRefIdeal)
    ∧ preserves_Grest_GrestIdeal
    ∧ algebraic_GrestIdeal_GrestRefIdeal (hGrestIdeal := hGrestIdeal) (hGrestRefIdeal := hGrestRefIdeal)
    ∧ preserves_Gall_GallIdeal
    ∧ algebraic_GallIdeal_GallRefIdeal (hGallIdeal := hGallIdeal) (hGallRefIdeal := hGallRefIdeal)
    ∧ preserves_Adchan_AdchanIdeal
    ∧ algebraic_AdchanIdeal_AdchanRefIdeal (hAdchanIdeal := hAdchanIdeal) (hAdchanRefIdeal := hAdchanRefIdeal)
    ∧ preserves_Adconv_AdconvIdeal
    ∧ algebraic_AdconvIdeal_AdconvRefIdeal (hAdconvIdeal := hAdconvIdeal) (hAdconvRefIdeal := hAdconvRefIdeal)
    ∧ preserves_Adgain_AdgainIdeal
    ∧ algebraic_AdgainIdeal_AdgainRefIdeal (hAdgainIdeal := hAdgainIdeal) (hAdgainRefIdeal := hAdgainRefIdeal)
    ∧ preserves_Adfilt_AdfiltIdeal
    ∧ algebraic_AdfiltIdeal_AdfiltRefIdeal (hAdfiltIdeal := hAdfiltIdeal) (hAdfiltRefIdeal := hAdfiltRefIdeal)
    ∧ preserves_Adffilt_AdffiltIdeal
    ∧ algebraic_AdffiltIdeal_AdffiltRefIdeal (hAdffiltIdeal := hAdffiltIdeal) (hAdffiltRefIdeal := hAdffiltRefIdeal)
    ∧ preserves_Adsq_AdsqIdeal
    ∧ algebraic_AdsqIdeal_AdsqRefIdeal (hAdsqIdeal := hAdsqIdeal) (hAdsqRefIdeal := hAdsqRefIdeal)
    ∧ preserves_Addown_AddownIdeal
    ∧ algebraic_AddownIdeal_AddownRefIdeal (hAddownIdeal := hAddownIdeal) (hAddownRefIdeal := hAddownRefIdeal)
    ∧ preserves_Adin_AdinIdeal
    ∧ algebraic_AdinIdeal_AdinRefIdeal (hAdinIdeal := hAdinIdeal) (hAdinRefIdeal := hAdinRefIdeal)
    ∧ preserves_Adkv_AdkvIdeal
    ∧ algebraic_AdkvIdeal_AdkvRefIdeal (hAdkvIdeal := hAdkvIdeal) (hAdkvRefIdeal := hAdkvRefIdeal)
    ∧ preserves_Adup_AdupIdeal
    ∧ algebraic_AdupIdeal_AdupRefIdeal (hAdupIdeal := hAdupIdeal) (hAdupRefIdeal := hAdupRefIdeal)
    ∧ preserves_Adcout_AdcoutIdeal
    ∧ algebraic_AdcoutIdeal_AdcoutRefIdeal (hAdcoutIdeal := hAdcoutIdeal) (hAdcoutRefIdeal := hAdcoutRefIdeal)
    ∧ preserves_Adpool_AdpoolIdeal
    ∧ algebraic_AdpoolIdeal_AdpoolRefIdeal (hAdpoolIdeal := hAdpoolIdeal) (hAdpoolRefIdeal := hAdpoolRefIdeal)
-- ==== Pre_finite_attn.lean ====
abbrev S4096x1024 : Shape := ⟨2, ![4096, 1024]⟩
abbrev S512x2048 : Shape := ⟨2, ![512, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S4096x1024 .bf16) (main_arg1 : FVec F S512x2048 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S512x2048 .f32 := (extf .f32 · bitsLt_bf16_f32) main_arg1
  let main_v6 : FVec F S512x2048 .f32 := Host.absf main_v5
  let main_cst_0 : FVec F S_ .f32 := constant S_ .f32 0x7F800000#32
  let main_v7 : FVec F S512x2048 .f32 := broadcastInDim S512x2048 ![] bcast_S_S512x2048 main_cst_0
  let main_v8 : IVec S512x2048 1 := cmpf .olt main_v6 main_v7
  let main_c_1 : IVec S_ 1 := constantI S_ 1 1#1
  let main_v9 : IVec S_ 1 := (fun x v => Host.reduce IntOp.andi x v reducesTo_S512x2048_S_d0_1 h_S_) main_v8 main_c_1
  let main_v10 : IVec S_ 1 := andi main_v4 main_v9
  main_v10
-- ==== Attn.lean ====
abbrev S4096x1024 : Shape := ⟨2, ![4096, 1024]⟩
abbrev S512x2048 : Shape := ⟨2, ![512, 2048]⟩
abbrev S512x1024 : Shape := ⟨2, ![512, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .bf16⟩
  | .hbm, ⟨4, _⟩ => ⟨S512x1024, .f32⟩
  | .hbm, ⟨5, _⟩ => ⟨S512x1024, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v32 : BitVec 1 := Scalar.cmpi .eq arg2 c0_i32
  let v33 : BitVec 32 := Scalar.extui v32
  let c0_i32_18 : BitVec 32 := 0#32
  let v34 : BitVec 1 := Scalar.cmpi .ne v33 c0_i32_18
  v34

def k0_cond2 (i : grid0.Coords) : BitVec 1 :=
  let arg2 : BitVec 32 := BitVec.ofNat 32 (i 2).val
  let c0_i32_19 : BitVec 32 := 0#32
  let v35 : BitVec 1 := Scalar.cmpi .sgt arg2 c0_i32_19
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttnRefIdeal.lean ====
abbrev S4096x1024 : Shape := ⟨2, ![4096, 1024]⟩
abbrev S512x2048 : Shape := ⟨2, ![512, 2048]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S512x2048, .f32⟩
  | .hbm, ⟨4, _⟩ => ⟨S512x1024, .f32⟩
  | .hbm, ⟨5, _⟩ => ⟨S512x1024, .f32⟩
  | .hbm, ⟨6, _⟩ => ⟨S4096x1024, .f32⟩
  | .hbm, ⟨7, _⟩ => ⟨S2x2048x4x256, .f32⟩
  | .hbm, ⟨8, _⟩ => ⟨S2x256x4x256, .f32⟩
  | .hbm, ⟨9, _⟩ => ⟨S2x256x4x256, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x256x2048, .f32⟩
  | .hbm, ⟨53, _⟩ => ⟨S2x2048x4x256, .f32⟩
  | .hbm, ⟨54, _⟩ => ⟨S4096x1024, .f32⟩
  | .hbm, ⟨55, _⟩ => ⟨S4096x1024, .f32⟩
  | .hbm, ⟨56, _⟩ => ⟨S2x2048x4x256, .f32⟩
  | .hbm, ⟨57, _⟩ => ⟨S2x4x256x2048, .f32⟩
  | .hbm, ⟨58, _⟩ => ⟨S2x4x2048x256, .f32⟩
  | .hbm, ⟨59, _⟩ => ⟨S2x4x256x256, .f32⟩
  | .hbm, ⟨60, _⟩ => ⟨S2x256x4x256, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x256, .f32⟩
  | .hbm, ⟨79, _⟩ => ⟨S2x256x4x256, .f32⟩
  | .hbm, ⟨80, _⟩ => ⟨S2x4x2048x256, .f32⟩
  | .hbm, ⟨81, _⟩ => ⟨S2x2048x4x256, .f32⟩
  | .hbm, ⟨82, _⟩ => ⟨S512x1024, .f32⟩
  | .hbm, ⟨83, _⟩ => ⟨S512x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Hf.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S5632x1024 : Shape := ⟨2, ![5632, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg1 : BitVec 32 := BitVec.ofNat 32 (i 1).val
  let c3_i32_10 : BitVec 32 := 3#32
  let v22 : BitVec 1 := Scalar.cmpi .eq arg1 c3_i32_10
  let v23 : BitVec 32 := Scalar.extui v22
  let c0_i32_11 : BitVec 32 := 0#32
  let v24 : BitVec 1 := Scalar.cmpi .ne v23 c0_i32_11
  v24

def k0_cond7 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond10 (i : grid0.Coords) : BitVec 1 :=
  let arg1 : BitVec 32 := BitVec.ofNat 32 (i 1).val
  let c3_i32_10 : BitVec 32 := 3#32
  let v22 : BitVec 1 := Scalar.cmpi .eq arg1 c3_i32_10
  let v23 : BitVec 32 := Scalar.extui v22
  let c0_i32_11 : BitVec 32 := 0#32
  let v24 : BitVec 1 := Scalar.cmpi .ne v23 c0_i32_11
  v24

def k0_cond5 (i : grid0.Coords) : BitVec 1 :=
  let arg0 : BitVec 32 := BitVec.ofNat 32 (i 0).val
  let c0_i32_30 : BitVec 32 := 0#32
  let v60 : BitVec 1 := Scalar.cmpi .eq arg0 c0_i32_30
  let v61 : BitVec 32 := Scalar.extui v60
  let c0_i32_31 : BitVec 32 := 0#32
  let v62 : BitVec 1 := Scalar.cmpi .ne v61 c0_i32_31
  v62

def k0_cond6 (i : grid0.Coords) : BitVec 1 :=
  let arg0 : BitVec 32 := BitVec.ofNat 32 (i 0).val
  let c0_i32_32 : BitVec 32 := 0#32
  let v63 : BitVec 1 := Scalar.cmpi .sgt arg0 c0_i32_32
  let v64 : BitVec 32 := Scalar.extui v63
  let c0_i32_33 : BitVec 32 := 0#32
  let v65 : BitVec 1 := Scalar.cmpi .ne v64 c0_i32_33
  v65

def k0_cond11 (i : grid0.Coords) : BitVec 1 :=
  let arg0 : BitVec 32 := BitVec.ofNat 32 (i 0).val
  let c0_i32_30 : BitVec 32 := 0#32
  let v60 : BitVec 1 := Scalar.cmpi .eq arg0 c0_i32_30
  let v61 : BitVec 32 := Scalar.extui v60
  let c0_i32_31 : BitVec 32 := 0#32
  let v62 : BitVec 1 := Scalar.cmpi .ne v61 c0_i32_31
  v62

def k0_cond12 (i : grid0.Coords) : BitVec 1 :=
  let arg0 : BitVec 32 := BitVec.ofNat 32 (i 0).val
  let c0_i32_32 : BitVec 32 := 0#32
  let v63 : BitVec 1 := Scalar.cmpi .sgt arg0 c0_i32_32
  let v64 : BitVec 32 := Scalar.extui v63
  let c0_i32_33 : BitVec 32 := 0#32
  let v65 : BitVec 1 := Scalar.cmpi .ne v64 c0_i32_33
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== HfRefIdeal.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Hq.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .sgt arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== HqRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Mix.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S3584x1024 : Shape := ⟨2, ![3584, 1024]⟩
abbrev S1x1024 : Shape := ⟨2, ![1, 1024]⟩
abbrev S512x1792 : Shape := ⟨2, ![512, 1792]⟩
abbrev S1792x1024 : Shape := ⟨2, ![1792, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S3584x1024, .f32⟩
  | .hbm, ⟨6, _⟩ => ⟨S3584x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S1792x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_6 : BitVec 32 := 1#32
  let v12 : BitVec 1 := Scalar.cmpi .eq arg1 c1_i32_6
  let v13 : BitVec 32 := Scalar.extui v12
  let c0_i32_7 : BitVec 32 := 0#32
  let v14 : BitVec 1 := Scalar.cmpi .ne v13 c0_i32_7
  v14

def k0_cond4 (i : grid0.Coords) : BitVec 1 :=
  let arg0 : BitVec 32 := BitVec.ofNat 32 (i 0).val
  let c0_i32_26 : BitVec 32 := 0#32
  let v50 : BitVec 1 := Scalar.cmpi .eq arg0 c0_i32_26
  let v51 : BitVec 32 := Scalar.extui v50
  let c0_i32_27 : BitVec 32 := 0#32
  let v52 : BitVec 1 := Scalar.cmpi .ne v51 c0_i32_27
  v52

def k0_cond5 (i : grid0.Coords) : BitVec 1 :=
  let arg0 : BitVec 32 := BitVec.ofNat 32 (i 0).val
  let c0_i32_28 : BitVec 32 := 0#32
  let v53 : BitVec 1 := Scalar.cmpi .sgt arg0 c0_i32_28
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MixRefIdeal.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x3584, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Merge.lean ====
abbrev S4096x3584 : Shape := ⟨2, ![4096, 3584]⟩
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩
abbrev S512 : Shape := ⟨1, ![512]⟩

abbrev nBuf : Space → Nat
  | .hbm => 11
  | .vmem => 22
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x512, .f32⟩
  | .local _ .vmem, ⟨21, _⟩ => ⟨S1x512, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v53 : BitVec 1 := Scalar.cmpi .eq arg1 c0_i32
  let v54 : BitVec 32 := Scalar.extui v53
  let c0_i32_27 : BitVec 32 := 0#32
  let v55 : BitVec 1 := Scalar.cmpi .ne v54 c0_i32_27
  v55

def k0_cond2 (i : grid0.Coords) : BitVec 1 :=
  let arg1 : BitVec 32 := BitVec.ofNat 32 (i 1).val
  let c0_i32_28 : BitVec 32 := 0#32
  let v56 : BitVec 1 := Scalar.cmpi .sgt arg1 c0_i32_28
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MergeRefIdeal.lean ====
abbrev S4096x3584 : Shape := ⟨2, ![4096, 3584]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S4096x1024, .bf16⟩
  | .hbm, ⟨5, _⟩ => ⟨S4096x3584, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x1024, .bf16⟩
  | .hbm, ⟨59, _⟩ => ⟨S1x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2816x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwdown.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwup.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwin.lean ====
abbrev S4096x3584 : Shape := ⟨2, ![4096, 3584]⟩
abbrev S4096x1024 : Shape := ⟨2, ![4096, 1024]⟩
abbrev S3584x1024 : Shape := ⟨2, ![3584, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S3584x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1792x1024, .bf16⟩
  | .local _ .vmem, ⟨5, _⟩ => ⟨S1792x1024, .bf16⟩
  | .local _ .vmem, ⟨6, _⟩ => ⟨S1792x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x3584 : Shape := ⟨2, ![4096, 3584]⟩
abbrev S4096x1024 : Shape := ⟨2, ![4096, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S_, .f32⟩
  | .hbm, ⟨3, _⟩ => ⟨S1024x3584, .f32⟩
  | .hbm, ⟨4, _⟩ => ⟨S4096x1024, .f32⟩
  | .hbm, ⟨5, _⟩ => ⟨S4096x3584, .f32⟩
  | .hbm, ⟨6, _⟩ => ⟨S4096x3584, .f32⟩
  | .hbm, ⟨7, _⟩ => ⟨S3584x1024, .f32⟩
  | .hbm, ⟨8, _⟩ => ⟨S1024x3584, .f32⟩
  | .hbm, ⟨9, _⟩ => ⟨S1024x3584, .bf16⟩
  | .hbm, ⟨10, _⟩ => ⟨S3584x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Inproj.lean ====
abbrev S4096x1024 : Shape := ⟨2, ![4096, 1024]⟩
abbrev S1024x3584 : Shape := ⟨2, ![1024, 3584]⟩
abbrev S3584x1024 : Shape := ⟨2, ![3584, 1024]⟩
abbrev S4096x3584 : Shape := ⟨2, ![4096, 3584]⟩
abbrev S1024x1024 : Shape := ⟨2, ![1024, 1024]⟩
abbrev S1792x1024 : Shape := ⟨2, ![1792, 1024]⟩
abbrev S1024x1792 : Shape := ⟨2, ![1024, 1792]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S3584x1024, .f32⟩
  | .hbm, ⟨3, _⟩ => ⟨S3584x1024, .bf16⟩
  | .hbm, ⟨4, _⟩ => ⟨S4096x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1792, .bf16⟩
  | .local _ .vmem, ⟨5, _⟩ => ⟨S1024x1792, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InprojRefIdeal.lean ====
abbrev S4096x1024 : Shape := ⟨2, ![4096, 1024]⟩
abbrev S1024x3584 : Shape := ⟨2, ![1024, 3584]⟩
abbrev S4096x3584 : Shape := ⟨2, ![4096, 3584]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S4096x1024, .f32⟩
  | .hbm, ⟨3, _⟩ => ⟨S4096x3584, .f32⟩
  | .hbm, ⟨4, _⟩ => ⟨S4096x3584, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Upg.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpgRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | .hbm, ⟨5, _⟩ => ⟨S4096x2816, .bf16⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Upv.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpvRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | .hbm, ⟨5, _⟩ => ⟨S4096x2816, .bf16⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dsq.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DsqRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwsq.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwsqRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dyt.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DytRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwco.lean ====
abbrev S4096x1024 : Shape := ⟨2, ![4096, 1024]⟩
abbrev S4096x512 : Shape := ⟨2, ![4096, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwcoRefIdeal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Qproj.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QprojRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Outproj.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutprojRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Convout.lean ====
abbrev S4096x512 : Shape := ⟨2, ![4096, 512]⟩
abbrev S512x1024 : Shape := ⟨2, ![512, 1024]⟩
abbrev S1024x512 : Shape := ⟨2, ![1024, 512]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvoutRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | .hbm, ⟨4, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kvproj.lean ====
abbrev S512x1024 : Shape := ⟨2, ![512, 1024]⟩
abbrev S1024x2048 : Shape := ⟨2, ![1024, 2048]⟩
abbrev S2048x1024 : Shape := ⟨2, ![2048, 1024]⟩
abbrev S512x2048 : Shape := ⟨2, ![512, 2048]⟩

abbrev nBuf : Space → Nat
  | .hbm => 5
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S512x2048, .bf16⟩
  | .local _ .vmem, ⟨0, _⟩ => ⟨S512x1024, .bf16⟩
  | .local _ .vmem, ⟨1, _⟩ => ⟨S2048x1024, .bf16⟩
  | .local _ .vmem, ⟨2, _⟩ => ⟨S512x2048, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvprojRefIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x2048, .f32⟩
  | .hbm, ⟨2, _⟩ => ⟨S512x1024, .f32⟩
  | .hbm, ⟨3, _⟩ => ⟨S512x2048, .f32⟩
  | .hbm, ⟨4, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwkv.lean ====
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S512x1024, .bf16⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwkvRefIdeal.lean ====
abbrev S512x2048 : Shape := ⟨2, ![512, 2048]⟩
abbrev S512x1024 : Shape := ⟨2, ![512, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x1024, .bf16⟩
  | .hbm, ⟨2, _⟩ => ⟨S_, .f32⟩
  | .hbm, ⟨3, _⟩ => ⟨S1024x2048, .f32⟩
  | .hbm, ⟨4, _⟩ => ⟨S512x1024, .f32⟩
  | .hbm, ⟨5, _⟩ => ⟨S512x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S2048x1024, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dmem.lean ====
abbrev S512x2048 : Shape := ⟨2, ![512, 2048]⟩
abbrev S1024x2048 : Shape := ⟨2, ![1024, 2048]⟩
abbrev S512x1024 : Shape := ⟨2, ![512, 1024]⟩
abbrev S2048x1024 : Shape := ⟨2, ![2048, 1024]⟩

abbrev nBuf : Space → Nat
  | .hbm => 6
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S1024x2048, .f32⟩
  | .hbm, ⟨2, _⟩ => ⟨S512x1024, .f32⟩
  | .hbm, ⟨3, _⟩ => ⟨S2048x1024, .f32⟩
  | .hbm, ⟨4, _⟩ => ⟨S2048x1024, .bf16⟩
  | .hbm, ⟨5, _⟩ => ⟨S512x1024, .f32⟩
  | .local _ .vmem, ⟨0, _⟩ => ⟨S512x2048, .f32⟩
  | .local _ .vmem, ⟨1, _⟩ => ⟨S2048x1024, .bf16⟩
  | .local _ .vmem, ⟨2, _⟩ => ⟨S512x1024, .f32⟩
  | .local _ .vmem, ⟨3, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DmemRefIdeal.lean ====
abbrev S512x2048 : Shape := ⟨2, ![512, 2048]⟩
abbrev S1024x2048 : Shape := ⟨2, ![1024, 2048]⟩
abbrev S512x1024 : Shape := ⟨2, ![512, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1024x2048, .f32⟩
  | .hbm, ⟨2, _⟩ => ⟨S512x1024, .f32⟩
  | .hbm, ⟨3, _⟩ => ⟨S_, .f32⟩
  | .hbm, ⟨4, _⟩ => ⟨S512x1024, .f32⟩
  | .hbm, ⟨5, _⟩ => ⟨S512x2048, .f32⟩
  | .hbm, ⟨6, _⟩ => ⟨S512x1024, .f32⟩
  | .hbm, ⟨7, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Dmemtop.lean ====
abbrev S512x2048 : Shape := ⟨2, ![512, 2048]⟩
abbrev S1024x2048 : Shape := ⟨2, ![1024, 2048]⟩
abbrev S2048x1024 : Shape := ⟨2, ![2048, 1024]⟩
abbrev S512x1024 : Shape := ⟨2, ![512, 1024]⟩

abbrev nBuf : Space → Nat
  | .hbm => 5
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S512x1024, .f32⟩
  | .local _ .vmem, ⟨0, _⟩ => ⟨S512x2048, .f32⟩
  | .local _ .vmem, ⟨1, _⟩ => ⟨S2048x1024, .bf16⟩
  | .local _ .vmem, ⟨2, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DmemtopRefIdeal.lean ====
abbrev S512x2048 : Shape := ⟨2, ![512, 2048]⟩
abbrev S1024x2048 : Shape := ⟨2, ![1024, 2048]⟩
abbrev S_ : Shape := ⟨0, ![]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1024x2048, .f32⟩
  | .hbm, ⟨2, _⟩ => ⟨S_, .f32⟩
  | .hbm, ⟨3, _⟩ => ⟨S512x1024, .f32⟩
  | .hbm, ⟨4, _⟩ => ⟨S512x2048, .f32⟩
  | .hbm, ⟨5, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Attnf.lean ====
abbrev S4096x1024 : Shape := ⟨2, ![4096, 1024]⟩
abbrev S512x2048 : Shape := ⟨2, ![512, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnfRefIdeal.lean ====
abbrev S4096x1024 : Shape := ⟨2, ![4096, 1024]⟩
abbrev S512x2048 : Shape := ⟨2, ![512, 2048]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S512x2048, .f32⟩
  | .hbm, ⟨3, _⟩ => ⟨S512x1024, .f32⟩
  | .hbm, ⟨4, _⟩ => ⟨S512x1024, .f32⟩
  | .hbm, ⟨5, _⟩ => ⟨S4096x1024, .f32⟩
  | .hbm, ⟨6, _⟩ => ⟨S2x2048x4x256, .f32⟩
  | .hbm, ⟨7, _⟩ => ⟨S2x256x4x256, .f32⟩
  | .hbm, ⟨8, _⟩ => ⟨S2x256x4x256, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x256x2048, .f32⟩
  | .hbm, ⟨28, _⟩ => ⟨S2x2048x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Normf.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormfRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Memf.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1x1024, .f32⟩
  | .hbm, ⟨3, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemfRefIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S1x1024, .f32⟩
  | .hbm, ⟨16, _⟩ => ⟨S512x1024, .f32⟩
  | .hbm, ⟨17, _⟩ => ⟨S512x1024, .f32⟩
  | .hbm, ⟨18, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mergef.lean ====
abbrev S4096x3584 : Shape := ⟨2, ![4096, 3584]⟩
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S1x1024, .f32⟩
  | .hbm, ⟨5, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergefRefIdeal.lean ====
abbrev S4096x3584 : Shape := ⟨2, ![4096, 3584]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S4096x3584, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Gproj.lean ====
abbrev S4096x512 : Shape := ⟨2, ![4096, 512]⟩
abbrev S4x128x256 : Shape := ⟨3, ![4, 128, 256]⟩
abbrev S4x256x128 : Shape := ⟨3, ![4, 256, 128]⟩
abbrev S4096x1024 : Shape := ⟨2, ![4096, 1024]⟩
abbrev S4096x128 : Shape := ⟨2, ![4096, 128]⟩
abbrev S1x256x128 : Shape := ⟨3, ![1, 256, 128]⟩
abbrev S4096x256 : Shape := ⟨2, ![4096, 256]⟩
abbrev S256x128 : Shape := ⟨2, ![256, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x128x256, .f32⟩
  | .hbm, ⟨2, _⟩ => ⟨S4x256x128, .f32⟩
  | .hbm, ⟨3, _⟩ => ⟨S4x256x128, .bf16⟩
  | .hbm, ⟨4, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S1x256x128, .bf16⟩
  | .local _ .vmem, ⟨3, _⟩ => ⟨S1x256x128, .bf16⟩
  | .local _ .vmem, ⟨4, _⟩ => ⟨S4096x256, .bf16⟩
  | .local _ .vmem, ⟨5, _⟩ => ⟨S4096x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GprojRefIdeal.lean ====
abbrev S4096x512 : Shape := ⟨2, ![4096, 512]⟩
abbrev S4x128x256 : Shape := ⟨3, ![4, 128, 256]⟩
abbrev S4096x4x128 : Shape := ⟨3, ![4096, 4, 128]⟩
abbrev S4x256x4096 : Shape := ⟨3, ![4, 256, 4096]⟩
abbrev S4096x4x256 : Shape := ⟨3, ![4096, 4, 256]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x128x256, .f32⟩
  | .hbm, ⟨2, _⟩ => ⟨S4096x512, .f32⟩
  | .hbm, ⟨3, _⟩ => ⟨S4096x4x128, .f32⟩
  | .hbm, ⟨4, _⟩ => ⟨S4x256x4096, .f32⟩
  | .hbm, ⟨5, _⟩ => ⟨S4096x4x256, .f32⟩
  | .hbm, ⟨6, _⟩ => ⟨S4096x1024, .f32⟩
  | .hbm, ⟨7, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gdz.lean ====
abbrev S4096x1024 : Shape := ⟨2, ![4096, 1024]⟩
abbrev S4x128x256 : Shape := ⟨3, ![4, 128, 256]⟩
abbrev S4x256x128 : Shape := ⟨3, ![4, 256, 128]⟩
abbrev S4096x512 : Shape := ⟨2, ![4096, 512]⟩
abbrev S4096x256 : Shape := ⟨2, ![4096, 256]⟩
abbrev S1x256x128 : Shape := ⟨3, ![1, 256, 128]⟩
abbrev S4096x128 : Shape := ⟨2, ![4096, 128]⟩
abbrev S256x128 : Shape := ⟨2, ![256, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x128x256, .f32⟩
  | .hbm, ⟨2, _⟩ => ⟨S4x256x128, .f32⟩
  | .hbm, ⟨3, _⟩ => ⟨S4x256x128, .bf16⟩
  | .hbm, ⟨4, _⟩ => ⟨S4096x512, .bf16⟩
  | .local _ .vmem, ⟨0, _⟩ => ⟨S4096x256, .bf16⟩
  | .local _ .vmem, ⟨1, _⟩ => ⟨S4096x256, .bf16⟩
  | .local _ .vmem, ⟨2, _⟩ => ⟨S1x256x128, .bf16⟩
  | .local _ .vmem, ⟨3, _⟩ => ⟨S1x256x128, .bf16⟩
  | .local _ .vmem, ⟨4, _⟩ => ⟨S4096x128, .bf16⟩
  | .local _ .vmem, ⟨5, _⟩ => ⟨S4096x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdzRefIdeal.lean ====
abbrev S4096x1024 : Shape := ⟨2, ![4096, 1024]⟩
abbrev S4x128x256 : Shape := ⟨3, ![4, 128, 256]⟩
abbrev S_ : Shape := ⟨0, ![]⟩
abbrev S4096x512 : Shape := ⟨2, ![4096, 512]⟩
abbrev S4096x4x128 : Shape := ⟨3, ![4096, 4, 128]⟩
abbrev S4x256x4096 : Shape := ⟨3, ![4, 256, 4096]⟩
abbrev S4096x4x256 : Shape := ⟨3, ![4096, 4, 256]⟩
abbrev S4x4096x128 : Shape := ⟨3, ![4, 4096, 128]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x128x256, .f32⟩
  | .hbm, ⟨2, _⟩ => ⟨S_, .f32⟩
  | .hbm, ⟨3, _⟩ => ⟨S4096x512, .f32⟩
  | .hbm, ⟨4, _⟩ => ⟨S4096x4x128, .f32⟩
  | .hbm, ⟨5, _⟩ => ⟨S4x256x4096, .f32⟩
  | .hbm, ⟨6, _⟩ => ⟨S4096x4x256, .f32⟩
  | .hbm, ⟨7, _⟩ => ⟨S4096x1024, .f32⟩
  | .hbm, ⟨8, _⟩ => ⟨S4096x1024, .f32⟩
  | .hbm, ⟨9, _⟩ => ⟨S4096x4x256, .f32⟩
  | .hbm, ⟨10, _⟩ => ⟨S4x256x4096, .f32⟩
  | .hbm, ⟨11, _⟩ => ⟨S4x4096x128, .f32⟩
  | .hbm, ⟨12, _⟩ => ⟨S4096x4x128, .f32⟩
  | .hbm, ⟨13, _⟩ => ⟨S4096x512, .f32⟩
  | .hbm, ⟨14, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Gdw.lean ====
abbrev S4096x1024 : Shape := ⟨2, ![4096, 1024]⟩
abbrev S4096x512 : Shape := ⟨2, ![4096, 512]⟩
abbrev S4x256x128 : Shape := ⟨3, ![4, 256, 128]⟩
abbrev S4096x256 : Shape := ⟨2, ![4096, 256]⟩
abbrev S4096x128 : Shape := ⟨2, ![4096, 128]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4x256x128, .f32⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .bf16⟩
  | .local _ .vmem, ⟨4, _⟩ => ⟨S1x256x128, .f32⟩
  | .local _ .vmem, ⟨5, _⟩ => ⟨S1x256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GdwRefIdeal.lean ====
abbrev S4096x1024 : Shape := ⟨2, ![4096, 1024]⟩
abbrev S4096x512 : Shape := ⟨2, ![4096, 512]⟩
abbrev S_ : Shape := ⟨0, ![]⟩
abbrev S4x128x256 : Shape := ⟨3, ![4, 128, 256]⟩
abbrev S4096x4x128 : Shape := ⟨3, ![4096, 4, 128]⟩
abbrev S4x256x4096 : Shape := ⟨3, ![4, 256, 4096]⟩
abbrev S4096x4x256 : Shape := ⟨3, ![4096, 4, 256]⟩
abbrev S4x256x128 : Shape := ⟨3, ![4, 256, 128]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S4x128x256, .f32⟩
  | .hbm, ⟨4, _⟩ => ⟨S4096x512, .f32⟩
  | .hbm, ⟨5, _⟩ => ⟨S4096x4x128, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x256x128, .f32⟩
  | .hbm, ⟨13, _⟩ => ⟨S4x128x256, .f32⟩
  | .hbm, ⟨14, _⟩ => ⟨S4x256x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S1x1024, .f32⟩
  | .hbm, ⟨73, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Memn.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S1x1024, .f32⟩
  | .hbm, ⟨4, _⟩ => ⟨S512x1024, .f32⟩
  | .hbm, ⟨5, _⟩ => ⟨S512x1024, .bf16⟩
  | .hbm, ⟨6, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemnRefIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S1024, .f32⟩
  | .hbm, ⟨31, _⟩ => ⟨S512x1024, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S512x1024, .f32⟩
  | .hbm, ⟨36, _⟩ => ⟨S512x1024, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .f32⟩
  | .hbm, ⟨42, _⟩ => ⟨S512, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .bf16⟩
  | .hbm, ⟨49, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Small.lean ====
abbrev S8x80x1024 : Shape := ⟨3, ![8, 80, 1024]⟩
abbrev S1x80x1024 : Shape := ⟨3, ![1, 80, 1024]⟩
abbrev S80x1024 : Shape := ⟨2, ![80, 1024]⟩

abbrev nBuf : Space → Nat
  | .hbm => 18
  | .vmem => 9
  | .smem => 0
  | _ => 0

abbrev bufTy : (tb : Table) → Fin (tcTables nBuf tb) → BufTy
  | .hbm, ⟨0, _⟩ => ⟨S8x80x1024, .f32⟩
  | .hbm, ⟨1, _⟩ => ⟨S1x80x1024, .f32⟩
  | .hbm, ⟨2, _⟩ => ⟨S80x1024, .f32⟩
  | .hbm, ⟨3, _⟩ => ⟨S1x80x1024, .f32⟩
  | .hbm, ⟨4, _⟩ => ⟨S80x1024, .f32⟩
  | .hbm, ⟨5, _⟩ => ⟨S1x80x1024, .f32⟩
  | .hbm, ⟨6, _⟩ => ⟨S80x1024, .f32⟩
  | .hbm, ⟨7, _⟩ => ⟨S1x80x1024, .f32⟩
  | .hbm, ⟨8, _⟩ => ⟨S80x1024, .f32⟩
  | .hbm, ⟨9, _⟩ => ⟨S1x80x1024, .f32⟩
  | .hbm, ⟨10, _⟩ => ⟨S80x1024, .f32⟩
  | .hbm, ⟨11, _⟩ => ⟨S1x80x1024, .f32⟩
  | .hbm, ⟨12, _⟩ => ⟨S80x1024, .f32⟩
  | .hbm, ⟨13, _⟩ => ⟨S1x80x1024, .f32⟩
  | .hbm, ⟨14, _⟩ => ⟨S80x1024, .f32⟩
  | .hbm, ⟨15, _⟩ => ⟨S1x80x1024, .f32⟩
  | .hbm, ⟨16, _⟩ => ⟨S80x1024, .f32⟩
  | .hbm, ⟨17, _⟩ => ⟨S80x1024, .f32⟩
  | .local _ .vmem, ⟨0, _⟩ => ⟨S80x1024, .f32⟩
  | .local _ .vmem, ⟨1, _⟩ => ⟨S80x1024, .f32⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | .local _ .vmem, ⟨8, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S80x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S80x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SmallRefIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gmix.lean ====
abbrev S4x656x1024 : Shape := ⟨3, ![4, 656, 1024]⟩
abbrev S3x656x1024 : Shape := ⟨3, ![3, 656, 1024]⟩
abbrev S656x1024 : Shape := ⟨2, ![656, 1024]⟩
abbrev S1x656x1024 : Shape := ⟨3, ![1, 656, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x656x1024, .bf16⟩
  | .hbm, ⟨1, _⟩ => ⟨S3x656x1024, .bf16⟩
  | .hbm, ⟨2, _⟩ => ⟨S656x1024, .f32⟩
  | .local _ .vmem, ⟨0, _⟩ => ⟨S1x656x1024, .bf16⟩
  | .local _ .vmem, ⟨1, _⟩ => ⟨S1x656x1024, .bf16⟩
  | .local _ .vmem, ⟨2, _⟩ => ⟨S1x656x1024, .bf16⟩
  | .local _ .vmem, ⟨3, _⟩ => ⟨S1x656x1024, .bf16⟩
  | .local _ .vmem, ⟨4, _⟩ => ⟨S656x1024, .f32⟩
  | _, _ => ⟨S4x656x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x656x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x656x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x656x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S656x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== GmixRefIdeal.lean ====
abbrev S4x656x1024 : Shape := ⟨3, ![4, 656, 1024]⟩
abbrev S3x656x1024 : Shape := ⟨3, ![3, 656, 1024]⟩
abbrev S1x656x1024 : Shape := ⟨3, ![1, 656, 1024]⟩
abbrev S656x1024 : Shape := ⟨2, ![656, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x656x1024, .bf16⟩
  | .hbm, ⟨1, _⟩ => ⟨S3x656x1024, .bf16⟩
  | .hbm, ⟨2, _⟩ => ⟨S1x656x1024, .bf16⟩
  | .hbm, ⟨3, _⟩ => ⟨S656x1024, .bf16⟩
  | .hbm, ⟨4, _⟩ => ⟨S656x1024, .f32⟩
  | .hbm, ⟨5, _⟩ => ⟨S3x656x1024, .f32⟩
  | .hbm, ⟨6, _⟩ => ⟨S_, .f32⟩
  | .hbm, ⟨7, _⟩ => ⟨S656x1024, .f32⟩
  | .hbm, ⟨8, _⟩ => ⟨S656x1024, .f32⟩
  | _, _ => ⟨S4x656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Grest.lean ====
abbrev S4x1568x1024 : Shape := ⟨3, ![4, 1568, 1024]⟩
abbrev S3x1568x1024 : Shape := ⟨3, ![3, 1568, 1024]⟩
abbrev S1568x1024 : Shape := ⟨2, ![1568, 1024]⟩
abbrev S1x784x1024 : Shape := ⟨3, ![1, 784, 1024]⟩
abbrev S784x1024 : Shape := ⟨2, ![784, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x1568x1024, .bf16⟩
  | .hbm, ⟨1, _⟩ => ⟨S3x1568x1024, .bf16⟩
  | .hbm, ⟨2, _⟩ => ⟨S1568x1024, .f32⟩
  | .local _ .vmem, ⟨0, _⟩ => ⟨S1x784x1024, .bf16⟩
  | .local _ .vmem, ⟨1, _⟩ => ⟨S1x784x1024, .bf16⟩
  | .local _ .vmem, ⟨2, _⟩ => ⟨S1x784x1024, .bf16⟩
  | .local _ .vmem, ⟨3, _⟩ => ⟨S1x784x1024, .bf16⟩
  | .local _ .vmem, ⟨4, _⟩ => ⟨S1x784x1024, .bf16⟩
  | .local _ .vmem, ⟨5, _⟩ => ⟨S1x784x1024, .bf16⟩
  | .local _ .vmem, ⟨6, _⟩ => ⟨S1x784x1024, .bf16⟩
  | .local _ .vmem, ⟨7, _⟩ => ⟨S1x784x1024, .bf16⟩
  | .local _ .vmem, ⟨8, _⟩ => ⟨S784x1024, .f32⟩
  | .local _ .vmem, ⟨9, _⟩ => ⟨S784x1024, .f32⟩
  | _, _ => ⟨S4x1568x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x784x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x784x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x784x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x784x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S784x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GrestRefIdeal.lean ====
abbrev S4x1568x1024 : Shape := ⟨3, ![4, 1568, 1024]⟩
abbrev S3x1568x1024 : Shape := ⟨3, ![3, 1568, 1024]⟩
abbrev S1x1568x1024 : Shape := ⟨3, ![1, 1568, 1024]⟩
abbrev S1568x1024 : Shape := ⟨2, ![1568, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1568x1024, .bf16⟩
  | .hbm, ⟨1, _⟩ => ⟨S3x1568x1024, .bf16⟩
  | .hbm, ⟨2, _⟩ => ⟨S1x1568x1024, .bf16⟩
  | .hbm, ⟨3, _⟩ => ⟨S1568x1024, .bf16⟩
  | .hbm, ⟨4, _⟩ => ⟨S1568x1024, .f32⟩
  | .hbm, ⟨5, _⟩ => ⟨S3x1568x1024, .f32⟩
  | .hbm, ⟨6, _⟩ => ⟨S_, .f32⟩
  | .hbm, ⟨7, _⟩ => ⟨S1568x1024, .f32⟩
  | .hbm, ⟨8, _⟩ => ⟨S1568x1024, .f32⟩
  | _, _ => ⟨S4x1568x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gall.lean ====
abbrev S4x2224x1024 : Shape := ⟨3, ![4, 2224, 1024]⟩
abbrev S3x2224x1024 : Shape := ⟨3, ![3, 2224, 1024]⟩
abbrev S2224x1024 : Shape := ⟨2, ![2224, 1024]⟩
abbrev S1x1112x1024 : Shape := ⟨3, ![1, 1112, 1024]⟩
abbrev S1112x1024 : Shape := ⟨2, ![1112, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x2224x1024, .bf16⟩
  | .hbm, ⟨1, _⟩ => ⟨S3x2224x1024, .bf16⟩
  | .hbm, ⟨2, _⟩ => ⟨S2224x1024, .f32⟩
  | .local _ .vmem, ⟨0, _⟩ => ⟨S1x1112x1024, .bf16⟩
  | .local _ .vmem, ⟨1, _⟩ => ⟨S1x1112x1024, .bf16⟩
  | .local _ .vmem, ⟨2, _⟩ => ⟨S1x1112x1024, .bf16⟩
  | .local _ .vmem, ⟨3, _⟩ => ⟨S1x1112x1024, .bf16⟩
  | .local _ .vmem, ⟨4, _⟩ => ⟨S1x1112x1024, .bf16⟩
  | .local _ .vmem, ⟨5, _⟩ => ⟨S1x1112x1024, .bf16⟩
  | .local _ .vmem, ⟨6, _⟩ => ⟨S1x1112x1024, .bf16⟩
  | .local _ .vmem, ⟨7, _⟩ => ⟨S1x1112x1024, .bf16⟩
  | .local _ .vmem, ⟨8, _⟩ => ⟨S1112x1024, .f32⟩
  | .local _ .vmem, ⟨9, _⟩ => ⟨S1112x1024, .f32⟩
  | _, _ => ⟨S4x2224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1112x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GallRefIdeal.lean ====
abbrev S4x2224x1024 : Shape := ⟨3, ![4, 2224, 1024]⟩
abbrev S3x2224x1024 : Shape := ⟨3, ![3, 2224, 1024]⟩
abbrev S1x2224x1024 : Shape := ⟨3, ![1, 2224, 1024]⟩
abbrev S2224x1024 : Shape := ⟨2, ![2224, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2224x1024, .bf16⟩
  | .hbm, ⟨1, _⟩ => ⟨S3x2224x1024, .bf16⟩
  | .hbm, ⟨2, _⟩ => ⟨S1x2224x1024, .bf16⟩
  | .hbm, ⟨3, _⟩ => ⟨S2224x1024, .bf16⟩
  | .hbm, ⟨4, _⟩ => ⟨S2224x1024, .f32⟩
  | .hbm, ⟨5, _⟩ => ⟨S3x2224x1024, .f32⟩
  | .hbm, ⟨6, _⟩ => ⟨S_, .f32⟩
  | .hbm, ⟨7, _⟩ => ⟨S2224x1024, .f32⟩
  | .hbm, ⟨8, _⟩ => ⟨S2224x1024, .f32⟩
  | _, _ => ⟨S4x2224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adchan.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdchanRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adconv.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdconvRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adgain.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdgainRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Adfilt.lean ====
abbrev S2x31x64 : Shape := ⟨3, ![2, 31, 64]⟩
abbrev S62x64 : Shape := ⟨2, ![62, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x31x64, .f32⟩
  | .hbm, ⟨1, _⟩ => ⟨S2x31x64, .f32⟩
  | .hbm, ⟨2, _⟩ => ⟨S2x31x64, .f32⟩
  | .hbm, ⟨3, _⟩ => ⟨S2x31x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S62x64, .f32⟩
  | .hbm, ⟨8, _⟩ => ⟨S62x64, .f32⟩
  | .hbm, ⟨9, _⟩ => ⟨S62x64, .f32⟩
  | .hbm, ⟨10, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S2x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdfiltRefIdeal.lean ====
abbrev S2x31x64 : Shape := ⟨3, ![2, 31, 64]⟩
abbrev S_ : Shape := ⟨0, ![]⟩
abbrev S62x64 : Shape := ⟨2, ![62, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x31x64, .f32⟩
  | .hbm, ⟨1, _⟩ => ⟨S2x31x64, .f32⟩
  | .hbm, ⟨2, _⟩ => ⟨S2x31x64, .f32⟩
  | .hbm, ⟨3, _⟩ => ⟨S2x31x64, .f32⟩
  | .hbm, ⟨4, _⟩ => ⟨S_, .f32⟩
  | .hbm, ⟨5, _⟩ => ⟨S2x31x64, .f32⟩
  | .hbm, ⟨6, _⟩ => ⟨S2x31x64, .f32⟩
  | .hbm, ⟨7, _⟩ => ⟨S_, .f32⟩
  | .hbm, ⟨8, _⟩ => ⟨S2x31x64, .f32⟩
  | .hbm, ⟨9, _⟩ => ⟨S2x31x64, .f32⟩
  | .hbm, ⟨10, _⟩ => ⟨S2x31x64, .f32⟩
  | .hbm, ⟨11, _⟩ => ⟨S_, .f32⟩
  | .hbm, ⟨12, _⟩ => ⟨S2x31x64, .f32⟩
  | .hbm, ⟨13, _⟩ => ⟨S2x31x64, .f32⟩
  | .hbm, ⟨14, _⟩ => ⟨S2x31x64, .f32⟩
  | .hbm, ⟨15, _⟩ => ⟨S_, .f32⟩
  | .hbm, ⟨16, _⟩ => ⟨S2x31x64, .f32⟩
  | .hbm, ⟨17, _⟩ => ⟨S2x31x64, .f32⟩
  | .hbm, ⟨18, _⟩ => ⟨S2x31x64, .f32⟩
  | .hbm, ⟨19, _⟩ => ⟨S_, .f32⟩
  | .hbm, ⟨20, _⟩ => ⟨S2x31x64, .f32⟩
  | .hbm, ⟨21, _⟩ => ⟨S2x31x64, .f32⟩
  | .hbm, ⟨22, _⟩ => ⟨S_, .f32⟩
  | .hbm, ⟨23, _⟩ => ⟨S2x31x64, .f32⟩
  | .hbm, ⟨24, _⟩ => ⟨S2x31x64, .f32⟩
  | .hbm, ⟨25, _⟩ => ⟨S2x31x64, .f32⟩
  | .hbm, ⟨26, _⟩ => ⟨S_, .f32⟩
  | .hbm, ⟨27, _⟩ => ⟨S2x31x64, .f32⟩
  | .hbm, ⟨28, _⟩ => ⟨S2x31x64, .f32⟩
  | .hbm, ⟨29, _⟩ => ⟨S2x31x64, .f32⟩
  | .hbm, ⟨30, _⟩ => ⟨S_, .f32⟩
  | .hbm, ⟨31, _⟩ => ⟨S2x31x64, .f32⟩
  | .hbm, ⟨32, _⟩ => ⟨S2x31x64, .f32⟩
  | .hbm, ⟨33, _⟩ => ⟨S2x31x64, .f32⟩
  | .hbm, ⟨34, _⟩ => ⟨S_, .f32⟩
  | .hbm, ⟨35, _⟩ => ⟨S2x31x64, .f32⟩
  | .hbm, ⟨36, _⟩ => ⟨S2x31x64, .f32⟩
  | .hbm, ⟨37, _⟩ => ⟨S62x64, .f32⟩
  | .hbm, ⟨38, _⟩ => ⟨S62x64, .f32⟩
  | .hbm, ⟨39, _⟩ => ⟨S62x64, .f32⟩
  | _, _ => ⟨S2x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Adffilt.lean ====
abbrev S2x3x704 : Shape := ⟨3, ![2, 3, 704]⟩
abbrev S6x704 : Shape := ⟨2, ![6, 704]⟩

abbrev nBuf : Space → Nat
  | .hbm => 11
  | .vmem => 7
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S6x704, .f32⟩
  | .hbm, ⟨5, _⟩ => ⟨S6x704, .f32⟩
  | .hbm, ⟨6, _⟩ => ⟨S6x704, .f32⟩
  | .hbm, ⟨7, _⟩ => ⟨S6x704, .f32⟩
  | .hbm, ⟨8, _⟩ => ⟨S6x704, .f32⟩
  | .hbm, ⟨9, _⟩ => ⟨S6x704, .f32⟩
  | .hbm, ⟨10, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S2x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdffiltRefIdeal.lean ====
abbrev S2x3x704 : Shape := ⟨3, ![2, 3, 704]⟩
abbrev S_ : Shape := ⟨0, ![]⟩
abbrev S6x704 : Shape := ⟨2, ![6, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S_, .f32⟩
  | .hbm, ⟨5, _⟩ => ⟨S2x3x704, .f32⟩
  | .hbm, ⟨6, _⟩ => ⟨S2x3x704, .f32⟩
  | .hbm, ⟨7, _⟩ => ⟨S_, .f32⟩
  | .hbm, ⟨8, _⟩ => ⟨S2x3x704, .f32⟩
  | .hbm, ⟨9, _⟩ => ⟨S2x3x704, .f32⟩
  | .hbm, ⟨10, _⟩ => ⟨S2x3x704, .f32⟩
  | .hbm, ⟨11, _⟩ => ⟨S_, .f32⟩
  | .hbm, ⟨12, _⟩ => ⟨S2x3x704, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S_, .f32⟩
  | .hbm, ⟨23, _⟩ => ⟨S2x3x704, .f32⟩
  | .hbm, ⟨24, _⟩ => ⟨S2x3x704, .f32⟩
  | .hbm, ⟨25, _⟩ => ⟨S2x3x704, .f32⟩
  | .hbm, ⟨26, _⟩ => ⟨S_, .f32⟩
  | .hbm, ⟨27, _⟩ => ⟨S2x3x704, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S6x704, .f32⟩
  | .hbm, ⟨38, _⟩ => ⟨S6x704, .f32⟩
  | .hbm, ⟨39, _⟩ => ⟨S6x704, .f32⟩
  | _, _ => ⟨S2x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Adsq.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdsqRefIdeal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Addown.lean ====
abbrev S2x352x1024 : Shape := ⟨3, ![2, 352, 1024]⟩
abbrev S704x1024 : Shape := ⟨2, ![704, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AddownRefIdeal.lean ====
abbrev S2x352x1024 : Shape := ⟨3, ![2, 352, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Adin.lean ====
abbrev S2x1024x448 : Shape := ⟨3, ![2, 1024, 448]⟩
abbrev S2x448x1024 : Shape := ⟨3, ![2, 448, 1024]⟩
abbrev S896x1024 : Shape := ⟨2, ![896, 1024]⟩
abbrev S448x1024 : Shape := ⟨2, ![448, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x448, .f32⟩
  | .hbm, ⟨1, _⟩ => ⟨S2x448x1024, .f32⟩
  | .hbm, ⟨2, _⟩ => ⟨S2x1024x448, .f32⟩
  | .hbm, ⟨3, _⟩ => ⟨S2x1024x448, .f32⟩
  | .hbm, ⟨4, _⟩ => ⟨S2x448x1024, .f32⟩
  | .hbm, ⟨5, _⟩ => ⟨S2x448x1024, .f32⟩
  | .hbm, ⟨6, _⟩ => ⟨S2x448x1024, .f32⟩
  | .hbm, ⟨7, _⟩ => ⟨S896x1024, .f32⟩
  | .hbm, ⟨8, _⟩ => ⟨S896x1024, .f32⟩
  | .hbm, ⟨9, _⟩ => ⟨S896x1024, .f32⟩
  | .hbm, ⟨10, _⟩ => ⟨S896x1024, .f32⟩
  | .hbm, ⟨11, _⟩ => ⟨S896x1024, .f32⟩
  | .hbm, ⟨12, _⟩ => ⟨S896x1024, .f32⟩
  | .hbm, ⟨13, _⟩ => ⟨S896x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | .local _ .vmem, ⟨7, _⟩ => ⟨S448x1024, .f32⟩
  | .local _ .vmem, ⟨8, _⟩ => ⟨S448x1024, .f32⟩
  | .local _ .vmem, ⟨9, _⟩ => ⟨S448x1024, .f32⟩
  | .local _ .vmem, ⟨10, _⟩ => ⟨S448x1024, .f32⟩
  | .local _ .vmem, ⟨11, _⟩ => ⟨S448x1024, .f32⟩
  | .local _ .vmem, ⟨12, _⟩ => ⟨S448x1024, .f32⟩
  | .local _ .vmem, ⟨13, _⟩ => ⟨S448x1024, .f32⟩
  | _, _ => ⟨S2x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S448x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S448x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S448x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdinRefIdeal.lean ====
abbrev S2x1024x448 : Shape := ⟨3, ![2, 1024, 448]⟩
abbrev S2x448x1024 : Shape := ⟨3, ![2, 448, 1024]⟩
abbrev S_ : Shape := ⟨0, ![]⟩
abbrev S896x1024 : Shape := ⟨2, ![896, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x448, .f32⟩
  | .hbm, ⟨1, _⟩ => ⟨S2x448x1024, .f32⟩
  | .hbm, ⟨2, _⟩ => ⟨S2x1024x448, .f32⟩
  | .hbm, ⟨3, _⟩ => ⟨S2x1024x448, .f32⟩
  | .hbm, ⟨4, _⟩ => ⟨S2x1024x448, .f32⟩
  | .hbm, ⟨5, _⟩ => ⟨S_, .f32⟩
  | .hbm, ⟨6, _⟩ => ⟨S2x1024x448, .f32⟩
  | .hbm, ⟨7, _⟩ => ⟨S2x1024x448, .f32⟩
  | .hbm, ⟨8, _⟩ => ⟨S_, .f32⟩
  | .hbm, ⟨9, _⟩ => ⟨S2x1024x448, .f32⟩
  | .hbm, ⟨10, _⟩ => ⟨S2x1024x448, .f32⟩
  | .hbm, ⟨11, _⟩ => ⟨S2x1024x448, .f32⟩
  | .hbm, ⟨12, _⟩ => ⟨S_, .f32⟩
  | .hbm, ⟨13, _⟩ => ⟨S2x1024x448, .f32⟩
  | .hbm, ⟨14, _⟩ => ⟨S2x1024x448, .f32⟩
  | .hbm, ⟨15, _⟩ => ⟨S2x1024x448, .f32⟩
  | .hbm, ⟨16, _⟩ => ⟨S_, .f32⟩
  | .hbm, ⟨17, _⟩ => ⟨S2x1024x448, .f32⟩
  | .hbm, ⟨18, _⟩ => ⟨S2x1024x448, .f32⟩
  | .hbm, ⟨19, _⟩ => ⟨S2x1024x448, .f32⟩
  | .hbm, ⟨20, _⟩ => ⟨S_, .f32⟩
  | .hbm, ⟨21, _⟩ => ⟨S2x1024x448, .f32⟩
  | .hbm, ⟨22, _⟩ => ⟨S2x1024x448, .f32⟩
  | .hbm, ⟨23, _⟩ => ⟨S_, .f32⟩
  | .hbm, ⟨24, _⟩ => ⟨S2x1024x448, .f32⟩
  | .hbm, ⟨25, _⟩ => ⟨S2x1024x448, .f32⟩
  | .hbm, ⟨26, _⟩ => ⟨S2x1024x448, .f32⟩
  | .hbm, ⟨27, _⟩ => ⟨S_, .f32⟩
  | .hbm, ⟨28, _⟩ => ⟨S2x1024x448, .f32⟩
  | .hbm, ⟨29, _⟩ => ⟨S2x1024x448, .f32⟩
  | .hbm, ⟨30, _⟩ => ⟨S2x1024x448, .f32⟩
  | .hbm, ⟨31, _⟩ => ⟨S_, .f32⟩
  | .hbm, ⟨32, _⟩ => ⟨S2x1024x448, .f32⟩
  | .hbm, ⟨33, _⟩ => ⟨S2x1024x448, .f32⟩
  | .hbm, ⟨34, _⟩ => ⟨S2x1024x448, .f32⟩
  | .hbm, ⟨35, _⟩ => ⟨S_, .f32⟩
  | .hbm, ⟨36, _⟩ => ⟨S2x1024x448, .f32⟩
  | .hbm, ⟨37, _⟩ => ⟨S2x1024x448, .f32⟩
  | .hbm, ⟨38, _⟩ => ⟨S2x448x1024, .f32⟩
  | .hbm, ⟨39, _⟩ => ⟨S896x1024, .f32⟩
  | .hbm, ⟨40, _⟩ => ⟨S2x448x1024, .f32⟩
  | .hbm, ⟨41, _⟩ => ⟨S896x1024, .f32⟩
  | .hbm, ⟨42, _⟩ => ⟨S2x448x1024, .f32⟩
  | .hbm, ⟨43, _⟩ => ⟨S896x1024, .f32⟩
  | _, _ => ⟨S2x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Adkv.lean ====
abbrev S2x1024x256 : Shape := ⟨3, ![2, 1024, 256]⟩
abbrev S2x256x1024 : Shape := ⟨3, ![2, 256, 1024]⟩
abbrev S512x1024 : Shape := ⟨2, ![512, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2x1024x256, .f32⟩
  | .hbm, ⟨1, _⟩ => ⟨S2x256x1024, .f32⟩
  | .hbm, ⟨2, _⟩ => ⟨S2x1024x256, .f32⟩
  | .hbm, ⟨3, _⟩ => ⟨S2x1024x256, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdkvRefIdeal.lean ====
abbrev S2x1024x256 : Shape := ⟨3, ![2, 1024, 256]⟩
abbrev S2x256x1024 : Shape := ⟨3, ![2, 256, 1024]⟩
abbrev S_ : Shape := ⟨0, ![]⟩
abbrev S512x1024 : Shape := ⟨2, ![512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S2x256x1024, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S_, .f32⟩
  | .hbm, ⟨6, _⟩ => ⟨S2x1024x256, .f32⟩
  | .hbm, ⟨7, _⟩ => ⟨S2x1024x256, .f32⟩
  | .hbm, ⟨8, _⟩ => ⟨S_, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S_, .f32⟩
  | .hbm, ⟨13, _⟩ => ⟨S2x1024x256, .f32⟩
  | .hbm, ⟨14, _⟩ => ⟨S2x1024x256, .f32⟩
  | .hbm, ⟨15, _⟩ => ⟨S2x1024x256, .f32⟩
  | .hbm, ⟨16, _⟩ => ⟨S_, .f32⟩
  | .hbm, ⟨17, _⟩ => ⟨S2x1024x256, .f32⟩
  | .hbm, ⟨18, _⟩ => ⟨S2x1024x256, .f32⟩
  | .hbm, ⟨19, _⟩ => ⟨S2x1024x256, .f32⟩
  | .hbm, ⟨20, _⟩ => ⟨S_, .f32⟩
  | .hbm, ⟨21, _⟩ => ⟨S2x1024x256, .f32⟩
  | .hbm, ⟨22, _⟩ => ⟨S2x1024x256, .f32⟩
  | .hbm, ⟨23, _⟩ => ⟨S_, .f32⟩
  | .hbm, ⟨24, _⟩ => ⟨S2x1024x256, .f32⟩
  | .hbm, ⟨25, _⟩ => ⟨S2x1024x256, .f32⟩
  | .hbm, ⟨26, _⟩ => ⟨S2x1024x256, .f32⟩
  | .hbm, ⟨27, _⟩ => ⟨S_, .f32⟩
  | .hbm, ⟨28, _⟩ => ⟨S2x1024x256, .f32⟩
  | .hbm, ⟨29, _⟩ => ⟨S2x1024x256, .f32⟩
  | .hbm, ⟨30, _⟩ => ⟨S2x1024x256, .f32⟩
  | .hbm, ⟨31, _⟩ => ⟨S_, .f32⟩
  | .hbm, ⟨32, _⟩ => ⟨S2x1024x256, .f32⟩
  | .hbm, ⟨33, _⟩ => ⟨S2x1024x256, .f32⟩
  | .hbm, ⟨34, _⟩ => ⟨S2x1024x256, .f32⟩
  | .hbm, ⟨35, _⟩ => ⟨S_, .f32⟩
  | .hbm, ⟨36, _⟩ => ⟨S2x1024x256, .f32⟩
  | .hbm, ⟨37, _⟩ => ⟨S2x1024x256, .f32⟩
  | .hbm, ⟨38, _⟩ => ⟨S2x256x1024, .f32⟩
  | .hbm, ⟨39, _⟩ => ⟨S512x1024, .f32⟩
  | .hbm, ⟨40, _⟩ => ⟨S2x256x1024, .f32⟩
  | .hbm, ⟨41, _⟩ => ⟨S512x1024, .f32⟩
  | .hbm, ⟨42, _⟩ => ⟨S2x256x1024, .f32⟩
  | .hbm, ⟨43, _⟩ => ⟨S512x1024, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Adup.lean ====
abbrev S2x1024x704 : Shape := ⟨3, ![2, 1024, 704]⟩
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x704x1024, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdupRefIdeal.lean ====
abbrev S2x1024x704 : Shape := ⟨3, ![2, 1024, 704]⟩
abbrev S2x704x1024 : Shape := ⟨3, ![2, 704, 1024]⟩
abbrev S_ : Shape := ⟨0, ![]⟩
abbrev S1408x1024 : Shape := ⟨2, ![1408, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S2x1024x704, .f32⟩
  | .hbm, ⟨7, _⟩ => ⟨S2x1024x704, .f32⟩
  | .hbm, ⟨8, _⟩ => ⟨S_, .f32⟩
  | .hbm, ⟨9, _⟩ => ⟨S2x1024x704, .f32⟩
  | .hbm, ⟨10, _⟩ => ⟨S2x1024x704, .f32⟩
  | .hbm, ⟨11, _⟩ => ⟨S2x1024x704, .f32⟩
  | .hbm, ⟨12, _⟩ => ⟨S_, .f32⟩
  | .hbm, ⟨13, _⟩ => ⟨S2x1024x704, .f32⟩
  | .hbm, ⟨14, _⟩ => ⟨S2x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S2x1024x704, .f32⟩
  | .hbm, ⟨20, _⟩ => ⟨S_, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | .hbm, ⟨38, _⟩ => ⟨S2x704x1024, .f32⟩
  | .hbm, ⟨39, _⟩ => ⟨S1408x1024, .f32⟩
  | .hbm, ⟨40, _⟩ => ⟨S2x704x1024, .f32⟩
  | .hbm, ⟨41, _⟩ => ⟨S1408x1024, .f32⟩
  | .hbm, ⟨42, _⟩ => ⟨S2x704x1024, .f32⟩
  | .hbm, ⟨43, _⟩ => ⟨S1408x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Adcout.lean ====
abbrev S2x512x128 : Shape := ⟨3, ![2, 512, 128]⟩
abbrev S2x128x512 : Shape := ⟨3, ![2, 128, 512]⟩
abbrev S256x512 : Shape := ⟨2, ![256, 512]⟩

abbrev nBuf : Space → Nat
  | .hbm => 14
  | .vmem => 7
  | .smem => 0
  | _ => 0

abbrev bufTy : (tb : Table) → Fin (tcTables nBuf tb) → BufTy
  | .hbm, ⟨0, _⟩ => ⟨S2x512x128, .f32⟩
  | .hbm, ⟨1, _⟩ => ⟨S2x128x512, .f32⟩
  | .hbm, ⟨2, _⟩ => ⟨S2x512x128, .f32⟩
  | .hbm, ⟨3, _⟩ => ⟨S2x512x128, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdcoutRefIdeal.lean ====
abbrev S2x512x128 : Shape := ⟨3, ![2, 512, 128]⟩
abbrev S2x128x512 : Shape := ⟨3, ![2, 128, 512]⟩
abbrev S_ : Shape := ⟨0, ![]⟩
abbrev S256x512 : Shape := ⟨2, ![256, 512]⟩

abbrev nBuf : Space → Nat
  | .hbm => 44
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x128x512, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S_, .f32⟩
  | .hbm, ⟨6, _⟩ => ⟨S2x512x128, .f32⟩
  | .hbm, ⟨7, _⟩ => ⟨S2x512x128, .f32⟩
  | .hbm, ⟨8, _⟩ => ⟨S_, .f32⟩
  | .hbm, ⟨9, _⟩ => ⟨S2x512x128, .f32⟩
  | .hbm, ⟨10, _⟩ => ⟨S2x512x128, .f32⟩
  | .hbm, ⟨11, _⟩ => ⟨S2x512x128, .f32⟩
  | .hbm, ⟨12, _⟩ => ⟨S_, .f32⟩
  | .hbm, ⟨13, _⟩ => ⟨S2x512x128, .f32⟩
  | .hbm, ⟨14, _⟩ => ⟨S2x512x128, .f32⟩
  | .hbm, ⟨15, _⟩ => ⟨S2x512x128, .f32⟩
  | .hbm, ⟨16, _⟩ => ⟨S_, .f32⟩
  | .hbm, ⟨17, _⟩ => ⟨S2x512x128, .f32⟩
  | .hbm, ⟨18, _⟩ => ⟨S2x512x128, .f32⟩
  | .hbm, ⟨19, _⟩ => ⟨S2x512x128, .f32⟩
  | .hbm, ⟨20, _⟩ => ⟨S_, .f32⟩
  | .hbm, ⟨21, _⟩ => ⟨S2x512x128, .f32⟩
  | .hbm, ⟨22, _⟩ => ⟨S2x512x128, .f32⟩
  | .hbm, ⟨23, _⟩ => ⟨S_, .f32⟩
  | .hbm, ⟨24, _⟩ => ⟨S2x512x128, .f32⟩
  | .hbm, ⟨25, _⟩ => ⟨S2x512x128, .f32⟩
  | .hbm, ⟨26, _⟩ => ⟨S2x512x128, .f32⟩
  | .hbm, ⟨27, _⟩ => ⟨S_, .f32⟩
  | .hbm, ⟨28, _⟩ => ⟨S2x512x128, .f32⟩
  | .hbm, ⟨29, _⟩ => ⟨S2x512x128, .f32⟩
  | .hbm, ⟨30, _⟩ => ⟨S2x512x128, .f32⟩
  | .hbm, ⟨31, _⟩ => ⟨S_, .f32⟩
  | .hbm, ⟨32, _⟩ => ⟨S2x512x128, .f32⟩
  | .hbm, ⟨33, _⟩ => ⟨S2x512x128, .f32⟩
  | .hbm, ⟨34, _⟩ => ⟨S2x512x128, .f32⟩
  | .hbm, ⟨35, _⟩ => ⟨S_, .f32⟩
  | .hbm, ⟨36, _⟩ => ⟨S2x512x128, .f32⟩
  | .hbm, ⟨37, _⟩ => ⟨S2x512x128, .f32⟩
  | .hbm, ⟨38, _⟩ => ⟨S2x128x512, .f32⟩
  | .hbm, ⟨39, _⟩ => ⟨S256x512, .f32⟩
  | .hbm, ⟨40, _⟩ => ⟨S2x128x512, .f32⟩
  | .hbm, ⟨41, _⟩ => ⟨S256x512, .f32⟩
  | .hbm, ⟨42, _⟩ => ⟨S2x128x512, .f32⟩
  | .hbm, ⟨43, _⟩ => ⟨S256x512, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Adpool.lean ====
abbrev S2x4x128x32 : Shape := ⟨4, ![2, 4, 128, 32]⟩
abbrev S2x4x32x128 : Shape := ⟨4, ![2, 4, 32, 128]⟩
abbrev S256x128 : Shape := ⟨2, ![256, 128]⟩

abbrev nBuf : Space → Nat
  | .hbm => 14
  | .vmem => 7
  | .smem => 0
  | _ => 0

abbrev bufTy : (tb : Table) → Fin (tcTables nBuf tb) → BufTy
  | .hbm, ⟨0, _⟩ => ⟨S2x4x128x32, .f32⟩
  | .hbm, ⟨1, _⟩ => ⟨S2x4x32x128, .f32⟩
  | .hbm, ⟨2, _⟩ => ⟨S2x4x128x32, .f32⟩
  | .hbm, ⟨3, _⟩ => ⟨S2x4x128x32, .f32⟩
  | .hbm, ⟨4, _⟩ => ⟨S2x4x32x128, .f32⟩
  | .hbm, ⟨5, _⟩ => ⟨S2x4x32x128, .f32⟩
  | .hbm, ⟨6, _⟩ => ⟨S2x4x32x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S2x4x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdpoolRefIdeal.lean ====
abbrev S2x4x128x32 : Shape := ⟨4, ![2, 4, 128, 32]⟩
abbrev S2x4x32x128 : Shape := ⟨4, ![2, 4, 32, 128]⟩
abbrev S_ : Shape := ⟨0, ![]⟩
abbrev S256x128 : Shape := ⟨2, ![256, 128]⟩

abbrev nBuf : Space → Nat
  | .hbm => 44
  | .vmem => 0
  | .smem => 0
  | _ => 0

abbrev bufTy : (tb : Table) → Fin (tcTables nBuf tb) → BufTy
  | .hbm, ⟨0, _⟩ => ⟨S2x4x128x32, .f32⟩
  | .hbm, ⟨1, _⟩ => ⟨S2x4x32x128, .f32⟩
  | .hbm, ⟨2, _⟩ => ⟨S2x4x128x32, .f32⟩
  | .hbm, ⟨3, _⟩ => ⟨S2x4x128x32, .f32⟩
  | .hbm, ⟨4, _⟩ => ⟨S2x4x128x32, .f32⟩
  | .hbm, ⟨5, _⟩ => ⟨S_, .f32⟩
  | .hbm, ⟨6, _⟩ => ⟨S2x4x128x32, .f32⟩
  | .hbm, ⟨7, _⟩ => ⟨S2x4x128x32, .f32⟩
  | .hbm, ⟨8, _⟩ => ⟨S_, .f32⟩
  | .hbm, ⟨9, _⟩ => ⟨S2x4x128x32, .f32⟩
  | .hbm, ⟨10, _⟩ => ⟨S2x4x128x32, .f32⟩
  | .hbm, ⟨11, _⟩ => ⟨S2x4x128x32, .f32⟩
  | .hbm, ⟨12, _⟩ => ⟨S_, .f32⟩
  | .hbm, ⟨13, _⟩ => ⟨S2x4x128x32, .f32⟩
  | .hbm, ⟨14, _⟩ => ⟨S2x4x128x32, .f32⟩
  | .hbm, ⟨15, _⟩ => ⟨S2x4x128x32, .f32⟩
  | .hbm, ⟨16, _⟩ => ⟨S_, .f32⟩
  | .hbm, ⟨17, _⟩ => ⟨S2x4x128x32, .f32⟩
  | .hbm, ⟨18, _⟩ => ⟨S2x4x128x32, .f32⟩
  | .hbm, ⟨19, _⟩ => ⟨S2x4x128x32, .f32⟩
  | .hbm, ⟨20, _⟩ => ⟨S_, .f32⟩
  | .hbm, ⟨21, _⟩ => ⟨S2x4x128x32, .f32⟩
  | .hbm, ⟨22, _⟩ => ⟨S2x4x128x32, .f32⟩
  | .hbm, ⟨23, _⟩ => ⟨S_, .f32⟩
  | .hbm, ⟨24, _⟩ => ⟨S2x4x128x32, .f32⟩
  | .hbm, ⟨25, _⟩ => ⟨S2x4x128x32, .f32⟩
  | .hbm, ⟨26, _⟩ => ⟨S2x4x128x32, .f32⟩
  | .hbm, ⟨27, _⟩ => ⟨S_, .f32⟩
  | .hbm, ⟨28, _⟩ => ⟨S2x4x128x32, .f32⟩
  | .hbm, ⟨29, _⟩ => ⟨S2x4x128x32, .f32⟩
  | .hbm, ⟨30, _⟩ => ⟨S2x4x128x32, .f32⟩
  | .hbm, ⟨31, _⟩ => ⟨S_, .f32⟩
  | .hbm, ⟨32, _⟩ => ⟨S2x4x128x32, .f32⟩
  | .hbm, ⟨33, _⟩ => ⟨S2x4x128x32, .f32⟩
  | .hbm, ⟨34, _⟩ => ⟨S2x4x128x32, .f32⟩
  | .hbm, ⟨35, _⟩ => ⟨S_, .f32⟩
  | .hbm, ⟨36, _⟩ => ⟨S2x4x128x32, .f32⟩
  | .hbm, ⟨37, _⟩ => ⟨S2x4x128x32, .f32⟩
  | .hbm, ⟨38, _⟩ => ⟨S2x4x32x128, .f32⟩
  | .hbm, ⟨39, _⟩ => ⟨S256x128, .f32⟩
  | .hbm, ⟨40, _⟩ => ⟨S2x4x32x128, .f32⟩
  | .hbm, ⟨41, _⟩ => ⟨S256x128, .f32⟩
  | .hbm, ⟨42, _⟩ => ⟨S2x4x32x128, .f32⟩
  | .hbm, ⟨43, _⟩ => ⟨S256x128, .f32⟩
  | _, _ => ⟨S2x4x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.AttnMath.lean ====
/- The mathematics of the attention's gradient for one batch entry and one head: the scores, the softmax and the gradient of the scores,
   as functions on extended reals. -/
module

public import Idealize.ShloMosaic.Lib.Pointwise

@[expose] public section

noncomputable section

namespace Cert.AttnMath

open Idealize.ShloMosaic

/-- The factor of the scores, 1/16. -/
abbrev scale : EReal := Ideal.ofBits FTy.f32 0x3D800000#32
/-- Where a maximum starts, −∞. -/
abbrev start : EReal := Ideal.ofBits FTy.f32 0xFF800000#32

variable {T J D : ℕ}

/-- The score of query `t` against key `j`. -/
def score (q : Fin T → Fin D → EReal) (k : Fin J → Fin D → EReal) (t : Fin T) (j : Fin J) : EReal := (∑ d, q t d * k j d) * scale

/-- The largest score of a query. -/
def top (s : Fin T → Fin J → EReal) (t : Fin T) : EReal := Finset.univ.fold max start fun j => s t j

/-- The exponential of a score less the largest. -/
def ex (s : Fin T → Fin J → EReal) (t : Fin T) (j : Fin J) : EReal := Ideal.exp (s t j - top s t)

/-- The sum of a query's exponentials. -/
def den (s : Fin T → Fin J → EReal) (t : Fin T) : EReal := ∑ j, ex s t j

/-- The attention's weight. -/
def prob (s : Fin T → Fin J → EReal) (t : Fin T) (j : Fin J) : EReal := Ideal.div (ex s t j) (den s t)

/-- The gradient of a weight: the cotangent of query `t` against value `j`. -/
def dprob (o : Fin T → Fin D → EReal) (v : Fin J → Fin D → EReal) (t : Fin T) (j : Fin J) : EReal := ∑ d, o t d * v j d

/-- The gradient of a score as the kernel takes it, from the weights. -/
def dscore (s g : Fin T → Fin J → EReal) (t : Fin T) (j : Fin J) : EReal :=
  prob s t j * (g t j - ∑ x, g t x * prob s t x) * scale

/-- The gradient of a score as the derivative of a quotient gives it. -/
def dscoreQuot (s g : Fin T → Fin J → EReal) (t : Fin T) (j : Fin J) : EReal :=
  (Ideal.div (g t j) (den s t) + -∑ x, g t x * Ideal.div 1 (den s t * den s t) * ex s t x) * ex s t j * scale

/-- An array of 4096 tokens. -/
abbrev Tok : Shape := ⟨2, ![4096, 1024]⟩
/-- An array of the memory's keys and values. -/
abbrev Mem : Shape := ⟨2, ![512, 2048]⟩
/-- An array of the memory's keys or values. -/
abbrev Half : Shape := ⟨2, ![512, 1024]⟩

/-- Batch entry `b`, head `h` of an array of 4096 tokens. -/
def tok (X : Tok.Idx → EReal) (b h : ℕ) (hb : b < 2) (hh : h < 4) (t : Fin 2048) (d : Fin 256) : EReal :=
  X (ix2 ⟨b * 2048 + t.val, by omega⟩ ⟨h * 256 + d.val, by omega⟩)

/-- Batch entry `b`, head `h` of the keys (`h < 4`) or the values (`4 ≤ h`) of the memory. -/
def mem (X : Mem.Idx → EReal) (b h : ℕ) (hb : b < 2) (hh : h < 8) (t : Fin 256) (d : Fin 256) : EReal :=
  X (ix2 ⟨b * 256 + t.val, by omega⟩ ⟨h * 256 + d.val, by omega⟩)

/-- The scores of one batch entry and head. -/
def sc (q : Tok.Idx → EReal) (kv : Mem.Idx → EReal) (b h : ℕ) (hb : b < 2) (hh : h < 4) : Fin 2048 → Fin 256 → EReal :=
  score (tok q b h hb hh) (mem kv b h hb (by omega))

/-- The gradients of the weights of one batch entry and head. -/
def dp (o : Tok.Idx → EReal) (kv : Mem.Idx → EReal) (b h : ℕ) (hb : b < 2) (hh : h < 4) : Fin 2048 → Fin 256 → EReal :=
  dprob (tok o b h hb hh) (mem kv b (4 + h) hb (by omega))

/-- The gradient of the queries. -/
def dq (q : Tok.Idx → EReal) (kv : Mem.Idx → EReal) (o : Tok.Idx → EReal) (b h : ℕ) (hb : b < 2) (hh : h < 4) (t : Fin 2048) (d : Fin 256) : EReal :=
  ∑ j, dscore (sc q kv b h hb hh) (dp o kv b h hb hh) t j * mem kv b h hb (by omega) j d

/-- The gradient of the keys. -/
def dk (q : Tok.Idx → EReal) (kv : Mem.Idx → EReal) (o : Tok.Idx → EReal) (b h : ℕ) (hb : b < 2) (hh : h < 4) (j : Fin 256) (d : Fin 256) : EReal :=
  ∑ t, dscore (sc q kv b h hb hh) (dp o kv b h hb hh) t j * tok q b h hb hh t d

/-- The gradient of the values. -/
def dv (q : Tok.Idx → EReal) (kv : Mem.Idx → EReal) (o : Tok.Idx → EReal) (b h : ℕ) (hb : b < 2) (hh : h < 4) (j : Fin 256) (d : Fin 256) : EReal :=
  ∑ t, prob (sc q kv b h hb hh) t j * tok o b h hb hh t d

/-- The array of the queries' gradients. -/
def DQ (q : Tok.Idx → EReal) (kv : Mem.Idx → EReal) (o : Tok.Idx → EReal) (i : Tok.Idx) : EReal :=
  dq q kv o ((i 0).val / 2048) ((i 1).val / 256) (Nat.div_lt_of_lt_mul (i 0).isLt) (Nat.div_lt_of_lt_mul (i 1).isLt)
    ⟨(i 0).val % 2048, Nat.mod_lt _ (by decide)⟩ ⟨(i 1).val % 256, Nat.mod_lt _ (by decide)⟩

/-- The array of the keys' gradients. -/
def DK (q : Tok.Idx → EReal) (kv : Mem.Idx → EReal) (o : Tok.Idx → EReal) (i : Half.Idx) : EReal :=
  dk q kv o ((i 0).val / 256) ((i 1).val / 256) (Nat.div_lt_of_lt_mul (i 0).isLt) (Nat.div_lt_of_lt_mul (i 1).isLt)
    ⟨(i 0).val % 256, Nat.mod_lt _ (by decide)⟩ ⟨(i 1).val % 256, Nat.mod_lt _ (by decide)⟩

/-- The array of the values' gradients. -/
def DV (q : Tok.Idx → EReal) (kv : Mem.Idx → EReal) (o : Tok.Idx → EReal) (i : Half.Idx) : EReal :=
  dv q kv o ((i 0).val / 256) ((i 1).val / 256) (Nat.div_lt_of_lt_mul (i 0).isLt) (Nat.div_lt_of_lt_mul (i 1).isLt)
    ⟨(i 0).val % 256, Nat.mod_lt _ (by decide)⟩ ⟨(i 1).val % 256, Nat.mod_lt _ (by decide)⟩

/-- The gradient of the queries read at an index of a given block. -/
theorem DQ_at (q : Tok.Idx → EReal) (kv : Mem.Idx → EReal) (o : Tok.Idx → EReal) (b h : ℕ) (hb : b < 2) (hh : h < 4) (t : Fin 2048) (d : Fin 256)
    (i : Tok.Idx) (h0 : (i 0).val = b * 2048 + t.val) (h1 : (i 1).val = h * 256 + d.val) : DQ q kv o i = dq q kv o b h hb hh t d := by
  unfold DQ
  congr 1
  · omega
  · omega
  · exact Fin.ext (by show (i 0).val % 2048 = t.val; omega)
  · exact Fin.ext (by show (i 1).val % 256 = d.val; omega)

/-- The gradient of the keys read at an index of a given block. -/
theorem DK_at (q : Tok.Idx → EReal) (kv : Mem.Idx → EReal) (o : Tok.Idx → EReal) (b h : ℕ) (hb : b < 2) (hh : h < 4) (t : Fin 256) (d : Fin 256)
    (i : Half.Idx) (h0 : (i 0).val = b * 256 + t.val) (h1 : (i 1).val = h * 256 + d.val) : DK q kv o i = dk q kv o b h hb hh t d := by
  unfold DK
  congr 1
  · omega
  · omega
  · exact Fin.ext (by show (i 0).val % 256 = t.val; omega)
  · exact Fin.ext (by show (i 1).val % 256 = d.val; omega)

/-- The gradient of the values read at an index of a given block. -/
theorem DV_at (q : Tok.Idx → EReal) (kv : Mem.Idx → EReal) (o : Tok.Idx → EReal) (b h : ℕ) (hb : b < 2) (hh : h < 4) (t : Fin 256) (d : Fin 256)
    (i : Half.Idx) (h0 : (i 0).val = b * 256 + t.val) (h1 : (i 1).val = h * 256 + d.val) : DV q kv o i = dv q kv o b h hb hh t d := by
  unfold DV
  congr 1
  · omega
  · omega
  · exact Fin.ext (by show (i 0).val % 256 = t.val; omega)
  · exact Fin.ext (by show (i 1).val % 256 = d.val; omega)

end Cert.AttnMath

end
-- ==== Proof.AttnArray.lean ====
/- What the attention's gradient kernel leaves in its three arrays: block by block the gradients of one batch entry and one head. -/
module

public import proofs.«01_k».proof.Proof.Gen.AttnIdeal.Value
public import proofs.«01_k».proof.Proof.AttnMath
public import Idealize.ShloMosaic.Lib.Pipeline.ValueKit

@[expose] public section

set_option maxRecDepth 16384

noncomputable section

namespace Cert.AttnIdeal.Arr

open Cert.AttnIdeal Cert.AttnIdeal.Gen Cert.AttnMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val / 4, t.val % 4] ∧ win0_1.index t = ![t.val / 4, t.val % 4] ∧ win0_2.index t = ![t.val / 4, 4 + t.val % 4] ∧
    win0_3.index t = ![t.val / 4, t.val % 4] ∧ win0_4.index t = ![t.val / 4, t.val % 4] ∧ win0_5.index t = ![t.val / 4, t.val % 4] ∧ win0_6.index t = ![t.val / 4, t.val % 4] := by
  decide +kernel

/-- A grid point is a batch entry. -/
theorem hb (t : Fin cfg0.N) : t.val / 4 < 2 := by
  have h : cfg0.N = 8 := by decide +kernel
  have := t.isLt
  omega
/-- A grid point is a head. -/
theorem hh (t : Fin cfg0.N) : t.val % 4 < 4 := Nat.mod_lt _ (by decide)

/-- The block of queries. -/
theorem blk0 (c : Dev nD) (t : Fin cfg0.N) (x : Fin 2048) (y : Fin 256) :
    iblk m c 0 t (ix2 x y) = tok (m ((c : Thread nD τ).loc main_arg0)) (t.val / 4) (t.val % 4) (hb t) (hh t) x y := by
  unfold tok
  blk_ext [iblk, V, idx t]

/-- The block of keys. -/
theorem blk1 (c : Dev nD) (t : Fin cfg0.N) (x : Fin 256) (y : Fin 256) :
    iblk m c 1 t (ix2 x y) = mem (m ((c : Thread nD τ).loc main_arg1)) (t.val / 4) (t.val % 4) (hb t) (Nat.lt_trans (hh t) (by decide)) x y := by
  unfold mem
  blk_ext [iblk, V, idx t]

/-- The block of values. -/
theorem blk2 (c : Dev nD) (t : Fin cfg0.N) (x : Fin 256) (y : Fin 256) :
    iblk m c 2 t (ix2 x y) = mem (m ((c : Thread nD τ).loc main_arg1)) (t.val / 4) (4 + t.val % 4) (hb t) (Nat.add_lt_add_left (hh t) 4) x y := by
  unfold mem
  blk_ext [iblk, V, idx t]

/-- The block of cotangents. -/
theorem blk3 (c : Dev nD) (t : Fin cfg0.N) (x : Fin 2048) (y : Fin 256) :
    iblk m c 3 t (ix2 x y) = tok (m ((c : Thread nD τ).loc main_arg2)) (t.val / 4) (t.val % 4) (hb t) (hh t) x y := by
  unfold tok
  blk_ext [iblk, V, idx t]

/-- After the run the array of the values' gradients holds `DV`. -/
theorem dv_arr (c : Dev nD) : (dats m 0 c).arrAt 6 cfg0.N
    = DV (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  simp only [outsAt0]
  frame_out
  idx_vars y
  rw [DV_at _ _ _ (t.val / 4) (t.val % 4) (hb t) (hh t) y0 y1 _ (by blk_simp [idx t]) (by blk_simp [idx t])]
  pointwise [Gen.k0_pay6, Gen.k0_pay3]
  simp only [blk0, blk1, blk3]
  rfl

/-- After the run the array of the keys' gradients holds `DK`. -/
theorem dk_arr (c : Dev nD) : (dats m 0 c).arrAt 5 cfg0.N
    = DK (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  simp only [outsAt0]
  frame_out
  idx_vars y
  rw [DK_at _ _ _ (t.val / 4) (t.val % 4) (hb t) (hh t) y0 y1 _ (by blk_simp [idx t]) (by blk_simp [idx t])]
  pointwise [Gen.k0_pay7, Gen.k0_pay4, Gen.k0_pay3]
  simp only [blk0, blk1, blk2, blk3]
  rfl

/-- After the run the array of the queries' gradients holds `DQ`. -/
theorem dq_arr (c : Dev nD) : (dats m 0 c).arrAt 4 cfg0.N
    = DQ (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  simp only [outsAt0]
  frame_out
  idx_vars y
  rw [DQ_at _ _ _ (t.val / 4) (t.val % 4) (hb t) (hh t) y0 y1 _ (by blk_simp [idx t]) (by blk_simp [idx t])]
  pointwise [Gen.k0_pay5, Gen.k0_pay4, Gen.k0_pay3]
  simp only [blk0, blk1, blk2, blk3]
  rfl

end Cert.AttnIdeal.Arr

end
-- ==== Proof.Real.lean ====
/- Laws of the extended reals that the value claims use: which values are real numbers, and when a factor distributes over a sum. -/
module

public import Idealize.ShloMosaic.Lib.Pointwise

@[expose] public section

noncomputable section

namespace Cert.RealLaws

open Idealize.ShloMosaic

/-- `x` is a real number. -/
def IsReal (x : EReal) : Prop := ∃ r : ℝ, x = (r : EReal)

/-- A real is finite. -/
theorem IsReal.coe (r : ℝ) : IsReal (r : EReal) := ⟨r, rfl⟩

/-- What is neither infinity is a real number. -/
theorem isReal_of_ne {x : EReal} (hb : x ≠ ⊥) (ht : x ≠ ⊤) : IsReal x := ⟨x.toReal, (EReal.coe_toReal ht hb).symm⟩

/-- A finite value is not infinity. -/
theorem IsReal.ne_top {x : EReal} (h : IsReal x) : x ≠ ⊤ := by
  obtain ⟨r, rfl⟩ := h
  exact EReal.coe_ne_top r

/-- A finite value is not minus infinity. -/
theorem IsReal.ne_bot {x : EReal} (h : IsReal x) : x ≠ ⊥ := by
  obtain ⟨r, rfl⟩ := h
  exact EReal.coe_ne_bot r

/-- A product of finite values is finite. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A sum of finite values is finite. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The negative of a finite value is finite. -/
theorem IsReal.neg {x : EReal} (hx : IsReal x) : IsReal (-x) := by
  obtain ⟨r, rfl⟩ := hx
  exact ⟨-r, (EReal.coe_neg r).symm⟩

/-- A difference of finite values is finite. -/
theorem IsReal.sub {x y : EReal} (hx : IsReal x) (hy : IsReal y) : IsReal (x - y) := by
  rw [sub_eq_add_neg]
  exact hx.add hy.neg

/-- A sum of real numbers is one. -/
theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih =>
    rw [Finset.sum_insert ha]
    exact (h a).add ih

/-- A sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is not negative and not +∞ distributes over a sum. -/
theorem mul_sum {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The same with the factor on the right. -/
theorem sum_mul {ι : Type*} (s : Finset ι) (f : ι → EReal) {c : EReal} (h0 : 0 ≤ c) (ht : c ≠ ⊤) :
    (∑ i ∈ s, f i) * c = ∑ i ∈ s, f i * c := by
  rw [mul_comm, mul_sum s f h0 ht]
  exact Finset.sum_congr rfl fun i _ => mul_comm _ _

/-- A maximum that starts at −∞, over real numbers of which there is at least one, is one of them. -/
theorem fold_max_mem {ι : Type*} (s : Finset ι) (hs : s.Nonempty) {f : ι → EReal} {b : EReal} (hb : b = ⊥) :
    ∃ i ∈ s, s.fold max b f = f i := by
  classical
  subst hb
  induction s using Finset.induction_on with
  | empty => exact absurd hs Finset.not_nonempty_empty
  | insert a s ha ih =>
    rw [Finset.fold_insert ha]
    rcases s.eq_empty_or_nonempty with rfl | hn
    · exact ⟨a, by simp, by simp⟩
    · obtain ⟨i, hi, e⟩ := ih hn
      rw [e]
      rcases le_total (f a) (f i) with h | h
      · exact ⟨i, by simp [hi], max_eq_right h⟩
      · exact ⟨a, by simp, max_eq_left h⟩

end Cert.RealLaws

end
-- ==== Proof.AttnEq.lean ====
/- Why the gradient of the scores taken from the weights is the one the derivative of a quotient gives, for scores that are real numbers:
   the sum of a row's exponentials is a real number of at least 1, and one over it distributes over every sum. -/
module

public import proofs.«01_k».proof.Proof.AttnMath
public import proofs.«01_k».proof.Proof.Real

@[expose] public section

noncomputable section

namespace Cert.AttnMath

open Idealize.ShloMosaic Cert.RealLaws

variable {T J D : ℕ}

/-- The maximum of a row starts from minus infinity. -/
theorem start_eq : start = ⊥ := by
  unfold start
  simp [Ideal.ofBits, Ideal.ieee]

/-- The factor of the scores is a real number. -/
theorem scale_real : IsReal scale := by
  refine isReal_of_ne ?_ ?_ <;>
  · unfold scale
    simp only [Ideal.ofBits, Ideal.ieee]
    rw [if_neg (by decide), if_neg (by decide)]
    first | exact EReal.coe_ne_bot _ | exact EReal.coe_ne_top _

/-- The sum of a row's exponentials is a real number of at least 1. -/
theorem den_real (s : Fin T → Fin J → EReal) (t : Fin T) (hJ : 0 < J) (hs : ∀ j, IsReal (s t j)) :
    ∃ r : ℝ, 0 < r ∧ den s t = (r : EReal) := by
  obtain ⟨i, -, hi⟩ := fold_max_mem (Finset.univ : Finset (Fin J)) ⟨⟨0, hJ⟩, Finset.mem_univ _⟩ (f := fun j => s t j) start_eq
  have ht : top s t = s t i := hi
  have he : ∀ j, ∃ r : ℝ, 0 < r ∧ ex s t j = (r : EReal) := fun j => by
    obtain ⟨a, ha⟩ := hs j
    obtain ⟨b, hb⟩ := hs i
    refine ⟨Real.exp (a - b), Real.exp_pos _, ?_⟩
    unfold ex
    rw [ht, ha, hb, ← EReal.coe_sub, Ideal.exp_coe]
  choose f hf hfe using he
  refine ⟨∑ j, f j, Finset.sum_pos (fun j _ => hf j) ⟨⟨0, hJ⟩, Finset.mem_univ _⟩, ?_⟩
  unfold den
  simp only [hfe]
  exact (coe_sum _ f).symm

/-- The two forms of the gradient of a score are equal. -/
theorem dscore_eq (s g : Fin T → Fin J → EReal) (t : Fin T) (j : Fin J) (hJ : 0 < J) (hs : ∀ j, IsReal (s t j)) :
    dscoreQuot s g t j = dscore s g t j := by
  obtain ⟨r, hr, hd⟩ := den_real s t hJ hs
  have h0 : (r : EReal) ≠ 0 := by exact_mod_cast hr.ne'
  have h1 : (r : EReal) * (r : EReal) ≠ 0 := by rw [← EReal.coe_mul]; exact_mod_cast (mul_pos hr hr).ne'
  unfold dscoreQuot dscore prob
  simp only [hd, Ideal.div, if_neg h0, if_neg h1]
  rw [← EReal.coe_mul, ← EReal.coe_inv, ← EReal.coe_inv, mul_inv, EReal.coe_mul, one_mul]
  have c0 : (0 : EReal) ≤ ((r⁻¹ : ℝ) : EReal) := by exact_mod_cast (inv_pos.mpr hr).le
  have ct : ((r⁻¹ : ℝ) : EReal) ≠ ⊤ := EReal.coe_ne_top _
  generalize ((r⁻¹ : ℝ) : EReal) = c at c0 ct ⊢
  have e : ∑ x, g t x * (c * c) * ex s t x = c * ∑ x, g t x * (ex s t x * c) := by
    rw [mul_sum _ _ c0 ct]
    exact Finset.sum_congr rfl fun x _ => by ac_rfl
  rw [e, sub_eq_add_neg, mul_comm (g t j) c, ← mul_neg, ← EReal.left_distrib_of_nonneg_of_ne_top c0 ct]
  ac_rfl

end Cert.AttnMath

end
-- ==== Proof.AttnRef.lean ====
/- What the reference of the attention's gradient computes, read at an index. -/
module

public import proofs.«01_k».proof.Proof.Gen.AttnRefIdeal.Read
public import proofs.«01_k».proof.Proof.AttnEq
public import Idealize.ShloMosaic.Lib.Pointwise
public import Idealize.ShloMosaic.Lib.Pipeline.ValueKit

@[expose] public section

set_option maxRecDepth 16384

noncomputable section

namespace Cert.AttnRefIdeal.At

open Cert.AttnRefIdeal Cert.AttnRefIdeal.Gen Cert.AttnRefIdeal.Read Cert.AttnMath Idealize.ShloMosaic Idealize.ShloMosaic.TcCoe Idealize.SL.Sem

variable (q : Tok.Idx → EReal) (kv : Mem.Idx → EReal) (o : Tok.Idx → EReal)

/-- A maximum that starts at −∞ is unchanged by it. -/
theorem start_max (x : EReal) : max start x = x := by
  rw [start_eq]
  exact bot_sup_eq x

/-- The scores. -/
theorem v9_at (b : Fin 2) (h : Fin 4) (t : Fin 2048) (j : Fin 256) :
    val_main_v9 (F := Ideal) q kv (ix4 b h t j) = sc q kv b h b.isLt h.isLt t j := by
  pointwise [val_main_v9, val_main_v8, val_main_v7, val_main_v5, val_main_v4, val_main_v3, val_main_v1, val_main_v0]
  rfl

/-- The largest score. -/
theorem v10_at (b : Fin 2) (h : Fin 4) (t : Fin 2048) :
    val_main_v10 (F := Ideal) q kv (ix3 b h t) = top (sc q kv b h b.isLt h.isLt) t := by
  unfold val_main_v10
  have e : ∀ j, val_main_v9 (F := Ideal) q kv (ix4 b h t j) = sc q kv b h b.isLt h.isLt t j := v9_at q kv b h t
  generalize val_main_v9 (F := Ideal) q kv = y at e ⊢
  pointwise [val_main_cst_0]
  unfold top
  simp only [e]

/-- The largest score, once more compared with −∞. -/
theorem v17_at (b : Fin 2) (h : Fin 4) (t : Fin 2048) :
    val_main_v17 (F := Ideal) q kv (ix3 b h t) = top (sc q kv b h b.isLt h.isLt) t := by
  rw [val_main_v17_apply, v10_at, val_main_v16_apply, val_main_cst_2_apply]
  exact start_max _

/-- The exponentials. -/
theorem v30_at (b : Fin 2) (h : Fin 4) (t : Fin 2048) (j : Fin 256) :
    val_main_v30 (F := Ideal) q kv (ix4 b h t j) = ex (sc q kv b h b.isLt h.isLt) t j := by
  unfold val_main_v30 val_main_v29 val_main_v28 val_main_v27
  have e := v9_at q kv b h t j
  have f := v17_at q kv b h t
  generalize val_main_v9 (F := Ideal) q kv = y at e ⊢
  generalize val_main_v17 (F := Ideal) q kv = z at f ⊢
  pointwise
  rw [e, f]
  rfl

/-- The sum of the exponentials. -/
theorem v31_at (b : Fin 2) (h : Fin 4) (t : Fin 2048) :
    val_main_v31 (F := Ideal) q kv (ix3 b h t) = den (sc q kv b h b.isLt h.isLt) t := by
  unfold val_main_v31
  have e := v30_at q kv b h t
  generalize val_main_v30 (F := Ideal) q kv = y at e ⊢
  pointwise [val_main_cst_8]
  simp only [e]
  rfl

/-- The weights. -/
theorem v34_at (b : Fin 2) (h : Fin 4) (t : Fin 2048) (j : Fin 256) :
    val_main_v34 (F := Ideal) q kv (ix4 b h t j) = prob (sc q kv b h b.isLt h.isLt) t j := by
  unfold val_main_v34 val_main_v33 val_main_v32
  have e := v30_at q kv b h t j
  have f := v31_at q kv b h t
  generalize val_main_v30 (F := Ideal) q kv = y at e ⊢
  generalize val_main_v31 (F := Ideal) q kv = z at f ⊢
  pointwise
  rw [e, f]
  rfl

/-- One over the square of the sum. -/
theorem v47_at (b : Fin 2) (h : Fin 4) (t : Fin 2048) (j : Fin 256) :
    val_main_v47 (F := Ideal) q kv (ix4 b h t j)
      = Ideal.div 1 (den (sc q kv b h b.isLt h.isLt) t * den (sc q kv b h b.isLt h.isLt) t) := by
  unfold val_main_v47 val_main_v37 val_main_v36 val_main_v35 val_main_v32 val_main_cst_9
  have f := v31_at q kv b h t
  generalize val_main_v31 (F := Ideal) q kv = z at f ⊢
  pointwise
  rw [f]

/-- The gradients of the weights. -/
theorem v44_at (b : Fin 2) (h : Fin 4) (t : Fin 2048) (j : Fin 256) :
    val_main_v44 (F := Ideal) kv o (ix4 b h t j) = dp o kv b h b.isLt h.isLt t j := by
  pointwise [val_main_v44, val_main_v43, val_main_v42, val_main_v41, val_main_v6, val_main_v2, val_main_v0]
  unfold dp dprob
  refine Finset.sum_congr rfl fun x _ => ?_
  unfold tok mem
  congr 1
  refine congrArg kv ?_
  blk_ext

/-- The sum of the second summand of the scores' gradient. -/
theorem v50_at (b : Fin 2) (h : Fin 4) (t : Fin 2048) :
    val_main_v50 (F := Ideal) q kv o (ix3 b h t)
      = ∑ j, dp o kv b h b.isLt h.isLt t j * Ideal.div 1 (den (sc q kv b h b.isLt h.isLt) t * den (sc q kv b h b.isLt h.isLt) t)
          * ex (sc q kv b h b.isLt h.isLt) t j := by
  unfold val_main_v50 val_main_v49 val_main_v48
  have e := v30_at q kv b h t
  have f := v47_at q kv b h t
  have g := v44_at kv o b h t
  generalize val_main_v30 (F := Ideal) q kv = y at e ⊢
  generalize val_main_v47 (F := Ideal) q kv = z at f ⊢
  generalize val_main_v44 (F := Ideal) kv o = w at g ⊢
  pointwise [val_main_cst_10]
  simp only [e, f, g]

/-- The gradients of the scores. -/
theorem v60_at (b : Fin 2) (h : Fin 4) (t : Fin 2048) (j : Fin 256) :
    val_main_v60 (F := Ideal) q kv o (ix4 b h t j)
      = dscoreQuot (sc q kv b h b.isLt h.isLt) (dp o kv b h b.isLt h.isLt) t j := by
  unfold val_main_v60 val_main_v59 val_main_v58 val_main_v57 val_main_v56 val_main_v55 val_main_v54 val_main_v53 val_main_v52 val_main_v51
    val_main_v32 val_main_cst_12 val_main_cst_11
  have e := v30_at q kv b h t j
  have f := v31_at q kv b h t
  have g := v44_at kv o b h t j
  have k := v50_at q kv o b h t
  generalize val_main_v30 (F := Ideal) q kv = y at e ⊢
  generalize val_main_v31 (F := Ideal) q kv = z at f ⊢
  generalize val_main_v44 (F := Ideal) kv o = w at g ⊢
  generalize val_main_v50 (F := Ideal) q kv o = u at k ⊢
  pointwise
  simp only [e, f, g, k, Finset.univ_unique, Finset.sum_singleton]
  rfl

/-- The gradients of the values. -/
theorem v65_at (b : Fin 2) (h : Fin 4) (j : Fin 256) (d : Fin 256) :
    val_main_v65 (F := Ideal) q kv o (ix2 ⟨b.val * 256 + j.val, by omega⟩ ⟨h.val * 256 + d.val, by omega⟩) = dv q kv o b h b.isLt h.isLt j d := by
  unfold val_main_v65 val_main_v46 val_main_v45 val_main_v43 val_main_v42 val_main_v41
  have e := v34_at q kv b h
  generalize val_main_v34 (F := Ideal) q kv = y at e ⊢
  pointwise
  unfold dv
  exact Finset.sum_congr rfl fun x _ => by rw [e, mul_comm]; rfl

/-- Every query and every key is a real number. -/
def Finite : Prop := (∀ i, RealLaws.IsReal (q i)) ∧ ∀ i, RealLaws.IsReal (kv i)

variable {q kv}

/-- The scores are then real numbers. -/
theorem Finite.sc (hf : Finite q kv) (b h : ℕ) (hb : b < 2) (hh : h < 4) (t : Fin 2048) (j : Fin 256) : RealLaws.IsReal (sc q kv b h hb hh t j) :=
  (RealLaws.IsReal.sum _ fun _ => (hf.1 _).mul (hf.2 _)).mul scale_real

/-- The gradients of the keys. -/
theorem v66_at (hf : Finite q kv) (b : Fin 2) (h : Fin 4) (j : Fin 256) (d : Fin 256) :
    val_main_v66 (F := Ideal) q kv o (ix2 ⟨b.val * 256 + j.val, by omega⟩ ⟨h.val * 256 + d.val, by omega⟩) = dk q kv o b h b.isLt h.isLt j d := by
  unfold val_main_v66 val_main_v62 val_main_v61 val_main_v4 val_main_v3
  have e := v60_at q kv o b h
  generalize val_main_v60 (F := Ideal) q kv o = y at e ⊢
  pointwise
  unfold dk
  exact Finset.sum_congr rfl fun x _ => by rw [e, dscore_eq _ _ _ _ (by decide) (hf.sc _ _ _ _ x)]; rfl

/-- The gradients of the queries. -/
theorem v68_at (hf : Finite q kv) (b : Fin 2) (h : Fin 4) (t : Fin 2048) (d : Fin 256) :
    val_main_v68 (F := Ideal) q kv o (ix2 ⟨b.val * 2048 + t.val, by omega⟩ ⟨h.val * 256 + d.val, by omega⟩) = dq q kv o b h b.isLt h.isLt t d := by
  unfold val_main_v68 val_main_v67 val_main_v64 val_main_v63 val_main_v5 val_main_v1 val_main_v0
  have e := v60_at q kv o b h
  generalize val_main_v60 (F := Ideal) q kv o = y at e ⊢
  pointwise
  unfold dq
  exact Finset.sum_congr rfl fun x _ => by rw [e, dscore_eq _ _ _ _ (by decide) (hf.sc _ _ _ _ t)]; rfl

/-- An index of 4096 × 1024 is a batch entry, a head, a token and a lane. -/
theorem split_tok (i : Tok.Idx) : ∃ (b : Fin 2) (h : Fin 4) (t : Fin 2048) (d : Fin 256),
    i = ix2 ⟨b.val * 2048 + t.val, by omega⟩ ⟨h.val * 256 + d.val, by omega⟩ := by
  idx_vars i
  refine ⟨⟨i0.val / 2048, by omega⟩, ⟨i1.val / 256, by omega⟩, ⟨i0.val % 2048, by omega⟩, ⟨i1.val % 256, by omega⟩, ?_⟩
  rw [ix2_inj]
  exact ⟨Fin.ext (Nat.div_add_mod' _ _).symm, Fin.ext (Nat.div_add_mod' _ _).symm⟩

/-- An index of 512 × 1024 is a batch entry, a head, a row and a lane. -/
theorem split_half (i : Half.Idx) : ∃ (b : Fin 2) (h : Fin 4) (t : Fin 256) (d : Fin 256),
    i = ix2 ⟨b.val * 256 + t.val, by omega⟩ ⟨h.val * 256 + d.val, by omega⟩ := by
  idx_vars i
  refine ⟨⟨i0.val / 256, by omega⟩, ⟨i1.val / 256, by omega⟩, ⟨i0.val % 256, by omega⟩, ⟨i1.val % 256, by omega⟩, ?_⟩
  rw [ix2_inj]
  exact ⟨Fin.ext (Nat.div_add_mod' _ _).symm, Fin.ext (Nat.div_add_mod' _ _).symm⟩

/-- The reference's gradient of the queries is `DQ`. -/
theorem v68_eq (hf : Finite q kv) : val_main_v68 (F := Ideal) q kv o = DQ q kv o := by
  funext i
  obtain ⟨b, h, t, d, rfl⟩ := split_tok i
  rw [v68_at o hf, DQ_at q kv o b h b.isLt h.isLt t d _ rfl rfl]

/-- The reference's gradient of the keys is `DK`. -/
theorem v66_eq (hf : Finite q kv) : val_main_v66 (F := Ideal) q kv o = DK q kv o := by
  funext i
  obtain ⟨b, h, t, d, rfl⟩ := split_half i
  rw [v66_at o hf, DK_at q kv o b h b.isLt h.isLt t d _ rfl rfl]

/-- The reference's gradient of the values is `DV`. -/
theorem v65_eq : val_main_v65 (F := Ideal) q kv o = DV q kv o := by
  funext i
  obtain ⟨b, h, t, d, rfl⟩ := split_half i
  rw [v65_at, DV_at q kv o b h b.isLt h.isLt t d _ rfl rfl]

end Cert.AttnRefIdeal.At

end
-- ==== Proof.AttnClaim.lean ====
/- The claims of the attention's gradient: the reference's frame, and that kernel and reference leave equal results. -/
module

public import proofs.«01_k».proof.Defs
public import proofs.«01_k».proof.Proof.AttnArray
public import proofs.«01_k».proof.Proof.AttnRef
public import proofs.«01_k».proof.Proof.Gen.Pre_finite_attn
public import Idealize.ShloMosaic.Lib.ReduceAll
public import Idealize.ShloMosaic.Lib.Quiescent

@[expose] public section

set_option maxRecDepth 16384

noncomputable section

namespace Cert.AttnEq

open Idealize.ShloMosaic Idealize.ShloMosaic.TcCoe Idealize.SL.Sem Cert.AttnMath

/-- The pattern that the precondition compares with is +∞. -/
theorem inf_eq : Ideal.ofBits .f32 0x7F800000#32 = ⊤ := by
  simp [Ideal.ofBits, Ideal.ieee]

/-- A value whose magnitude is below +∞ is a real number. -/
theorem real_of_abs_lt {x : EReal} (h : BitVec.ofBool (decide (max x (-x) < Ideal.ofBits .f32 0x7F800000#32)) = 1#1) :
    RealLaws.IsReal x := by
  rw [inf_eq] at h
  have h' : max x (-x) < ⊤ := by
    by_contra hn
    simp [hn] at h
  refine RealLaws.isReal_of_ne ?_ ?_
  · rintro rfl
    simp at h'
  · rintro rfl
    simp at h'

/-- A result of one element has one index. -/
instance : Subsingleton Cert.Pre_finite_attn.S_.Idx := ⟨fun _ _ => funext fun a => a.elim0⟩

variable (m : (ℓ : Loc AttnIdeal.nD AttnIdeal.τ AttnIdeal.sig) → Buf (Elt Ideal) ℓ)

/-- The precondition, read: every query and every key and value is a real number. -/
theorem finite_of_pre (h : Cert.Pre_AttnIdeal_finite_attn (hPre_finite_attn := Cert.Pre_finite_attn.Gen.facts) m) (c : Dev AttnIdeal.nD) :
    AttnRefIdeal.At.Finite (m ((c : Thread AttnIdeal.nD AttnIdeal.τ).loc AttnIdeal.main_arg0)) (m ((c : Thread AttnIdeal.nD AttnIdeal.τ).loc AttnIdeal.main_arg1)) := by
  have hc := h c
  generalize m ((c.tc : Thread AttnIdeal.nD AttnIdeal.τ).loc AttnIdeal.main_arg0) = q at hc ⊢
  generalize m ((c.tc : Thread AttnIdeal.nD AttnIdeal.τ).loc AttnIdeal.main_arg1) = kv at hc ⊢
  dsimp only [Cert.Pre_finite_attn.fn] at hc
  have h0 := congrFun hc ix0
  obtain ⟨ha, hb⟩ := IntOp.andi_eq_one.mp h0
  constructor
  · exact fun i => real_of_abs_lt (Host.reduce_andi_all _ _ _ _ _ ha i)
  · exact fun i => real_of_abs_lt (Host.reduce_andi_all _ _ _ _ _ hb i)

/-- The reference's frame. -/
theorem frame_ref : Cert.quiescent_AttnRefIdeal (hAttnRefIdeal := Cert.AttnRefIdeal.Gen.facts) := fun m ρ _ =>
  (θ_run AttnRefIdeal.defs _ _).mono (fun r h => ⟨fun c => (h c).2.2.2, sem_eq_zero_of_no_sems (by decide) r.2⟩)
    (AttnRefIdeal.Value.run (F := Ideal) m ρ)

/-- Kernel and reference, from equal arguments that the precondition allows, leave equal gradients of queries, keys and values. -/
theorem algebraic : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.Gen.facts) := by
  intro m ρ m' ρ' hpre hagree
  refine ⟨fun c => DQ (m ((c : Thread AttnIdeal.nD AttnIdeal.τ).loc AttnIdeal.main_arg0)) (m ((c : Thread AttnIdeal.nD AttnIdeal.τ).loc AttnIdeal.main_arg1)) (m ((c : Thread AttnIdeal.nD AttnIdeal.τ).loc AttnIdeal.main_arg2)),
    fun c => DK (m ((c : Thread AttnIdeal.nD AttnIdeal.τ).loc AttnIdeal.main_arg0)) (m ((c : Thread AttnIdeal.nD AttnIdeal.τ).loc AttnIdeal.main_arg1)) (m ((c : Thread AttnIdeal.nD AttnIdeal.τ).loc AttnIdeal.main_arg2)),
    fun c => DV (m ((c : Thread AttnIdeal.nD AttnIdeal.τ).loc AttnIdeal.main_arg0)) (m ((c : Thread AttnIdeal.nD AttnIdeal.τ).loc AttnIdeal.main_arg1)) (m ((c : Thread AttnIdeal.nD AttnIdeal.τ).loc AttnIdeal.main_arg2)), ?_, ?_⟩
  · exact (θ_run AttnIdeal.defs _ _).mono (fun r h c => ⟨(h c).1.trans (AttnIdeal.Arr.dq_arr m c), (h c).2.1.trans (AttnIdeal.Arr.dk_arr m c),
      (h c).2.2.1.trans (AttnIdeal.Arr.dv_arr m c), (h c).2.2.2⟩) (AttnIdeal.Value.run_blocks (F := Ideal) m ρ)
  · refine (θ_run AttnRefIdeal.defs _ _).mono (fun r h c => ?_) (AttnRefIdeal.Value.run (F := Ideal) m' ρ')
    obtain ⟨e0, e1, e2⟩ := hagree c
    have hf := finite_of_pre m hpre c
    refine ⟨(h c).1.trans ?_, (h c).2.1.trans ?_, (h c).2.2.1.trans ?_, (h c).2.2.2⟩
    · rw [AttnRefIdeal.Read.val_main_v68_eq, e0, e1, e2]
      exact AttnRefIdeal.At.v68_eq _ hf
    · rw [AttnRefIdeal.Read.val_main_v66_eq, e0, e1, e2]
      exact AttnRefIdeal.At.v66_eq _ hf
    · rw [AttnRefIdeal.Read.val_main_v65_eq, e0, e1, e2]
      exact AttnRefIdeal.At.v65_eq _

end Cert.AttnEq

end
-- ==== Proof.NormMath.lean ====
/- The mathematics of a root-mean-square norm's gradient for one row of 1024 values: as the kernel takes it, and as the derivative of the
   norm's formula gives it. The two are equal on all extended reals. -/
module

public import proofs.«01_k».proof.Proof.Real
public import Idealize.ShloMosaic.Lib.Pipeline.ValueKit

@[expose] public section

noncomputable section

namespace Cert.NormMath

open Idealize.ShloMosaic Cert.RealLaws

/-- The length of a row, 1024. -/
abbrev len : EReal := Ideal.ofBits FTy.f32 0x44800000#32
/-- What is added to the mean square. -/
abbrev eps : EReal := Ideal.ofBits FTy.f32 0x358637BD#32
/-- Minus one half. -/
abbrev mhalf : EReal := Ideal.ofBits FTy.f32 0xBF000000#32

variable {D : ℕ}

/-- The mean square of a row, moved away from zero. -/
def ms (x : Fin D → EReal) : EReal := Ideal.div (∑ k, x k * x k) len + eps

/-- The factor of the norm. -/
def rs (x : Fin D → EReal) : EReal := Ideal.rsqrt (ms x)

/-- The gradient of a row as the kernel takes it, beside the residual path's `dx`. -/
def back (h g x dx : Fin D → EReal) (j : Fin D) : EReal :=
  rs x * (h j * g j - x j * rs x * Ideal.div (∑ k, h k * g k * (x k * rs x)) len) + dx j

/-- The part of the gradient that goes through the mean square. -/
def thru (h g x : Fin D → EReal) : EReal :=
  Ideal.div ((∑ k, x k * (h k * g k)) * (mhalf * Ideal.div (rs x) (ms x))) len

/-- The gradient of a row as the derivative of the norm's formula gives it. -/
def backRef (h g x dx : Fin D → EReal) (j : Fin D) : EReal :=
  dx j + h j * g j * rs x + x j * thru h g x + thru h g x * x j

/-- The constant is 1024. -/
theorem len_eq : len = ((1024 : ℝ) : EReal) := by
  simp [Ideal.ofBits, Ideal.ieee]
  rw [← EReal.coe_mul]
  norm_num

/-- The constant is minus one half. -/
theorem mhalf_eq : mhalf = ((-(1 / 2) : ℝ) : EReal) := by
  simp [Ideal.ofBits, Ideal.ieee]
  rw [← EReal.coe_mul]
  norm_num

/-- The constant under the root is a positive real. -/
theorem eps_pos : ∃ e : ℝ, 0 < e ∧ eps = (e : EReal) := by
  refine ⟨_, ?_, by simp only [eps, Ideal.ofBits, Ideal.ieee]; rw [if_neg (by decide), if_neg (by decide)]⟩
  rw [if_neg (by decide)]
  positivity

/-- A division by 1024 is a multiplication. -/
theorem div_len (x : EReal) : Ideal.div x len = x * ((1 / 1024 : ℝ) : EReal) := by
  rw [len_eq]
  unfold Ideal.div
  rw [if_neg (by norm_num), ← EReal.coe_inv]
  norm_num

/-- A square is not negative. -/
theorem sq_nonneg' (x : EReal) : 0 ≤ x * x := by
  induction x with
  | bot => simp
  | top => simp
  | coe r => exact_mod_cast mul_self_nonneg r

/-- A row with an infinite value has factor zero. -/
theorem rs_zero (x : Fin D → EReal) (k : Fin D) (hk : ¬IsReal (x k)) : ms x = ⊤ ∧ rs x = 0 := by
  have hs : x k * x k = ⊤ := by
    generalize x k = y at hk
    induction y with
    | bot => simp
    | top => simp
    | coe r => exact absurd ⟨r, rfl⟩ hk
  have ht : ∑ k, x k * x k = ⊤ := top_le_iff.mp (hs ▸ Finset.single_le_sum (f := fun k => x k * x k) (fun i _ => sq_nonneg' (x i)) (Finset.mem_univ k))
  obtain ⟨e, he, e'⟩ := eps_pos
  have hm : ms x = ⊤ := by
    unfold ms
    rw [ht, div_len, e', EReal.top_mul_coe_of_pos (by norm_num), EReal.top_add_coe]
  exact ⟨hm, by unfold rs; rw [hm]; rfl⟩

/-- A row of real numbers has a positive real factor. -/
theorem rs_real (x : Fin D → EReal) (hx : ∀ k, IsReal (x k)) :
    ∃ r : ℝ, 0 < r ∧ rs x = (r : EReal) ∧ Ideal.div (rs x) (ms x) = ((r * r * r : ℝ) : EReal) := by
  choose y hy using hx
  obtain ⟨e, he, e'⟩ := eps_pos
  have hm : ms x = ((∑ k, y k * y k) * (1 / 1024) + e : ℝ) := by
    unfold ms
    rw [div_len, e', EReal.coe_add, EReal.coe_mul, coe_sum]
    simp only [hy, EReal.coe_mul]
  have hp : 0 < (∑ k, y k * y k) * (1 / 1024) + e := by
    have : 0 ≤ ∑ k, y k * y k := Finset.sum_nonneg fun k _ => mul_self_nonneg _
    positivity
  generalize (∑ k, y k * y k) * (1 / 1024) + e = u at hm hp
  have hr : rs x = (((√u)⁻¹ : ℝ) : EReal) := by
    unfold rs
    rw [hm]
    change (if u < 0 then ⊥ else if u = 0 then ⊤ else (((√u)⁻¹ : ℝ) : EReal)) = _
    rw [if_neg (not_lt.mpr hp.le), if_neg hp.ne']
  refine ⟨(√u)⁻¹, by positivity, hr, ?_⟩
  rw [hr, hm]
  unfold Ideal.div
  rw [if_neg (by exact_mod_cast hp.ne'), ← EReal.coe_inv, ← EReal.coe_mul]
  congr 1
  have hi : u⁻¹ = (√u)⁻¹ * (√u)⁻¹ := by rw [← mul_inv, Real.mul_self_sqrt hp.le]
  rw [hi, mul_assoc]

/-- The two gradients of a row are equal. -/
theorem backRef_eq (h g x dx : Fin D → EReal) (j : Fin D) : backRef h g x dx j = back h g x dx j := by
  unfold backRef back thru
  simp only [div_len]
  by_cases hx : ∀ k, IsReal (x k)
  · obtain ⟨r, hr, e, e'⟩ := rs_real x hx
    rw [e', e, mhalf_eq]
    have hs : ∑ k, h k * g k * (x k * r) = r * ∑ k, x k * (h k * g k) := by
      rw [mul_sum _ _ (by exact_mod_cast hr.le) (EReal.coe_ne_top r)]
      exact Finset.sum_congr rfl fun k _ => by ac_rfl
    rw [hs]
    generalize ∑ k, x k * (h k * g k) = T
    generalize h j * g j = a
    generalize x j = X
    rw [sub_eq_add_neg, EReal.left_distrib_of_nonneg_of_ne_top (by exact_mod_cast hr.le) (EReal.coe_ne_top r), mul_neg]
    have h2 : X * (T * (((-(1 / 2) : ℝ) : EReal) * ((r * r * r : ℝ) : EReal)) * ((1 / 1024 : ℝ) : EReal))
        + T * (((-(1 / 2) : ℝ) : EReal) * ((r * r * r : ℝ) : EReal)) * ((1 / 1024 : ℝ) : EReal) * X
        = -(r * (X * r * (r * T * ((1 / 1024 : ℝ) : EReal)))) := by
      rw [mul_comm (T * _ * _) X]
      generalize hz : X * (T * (((-(1 / 2) : ℝ) : EReal) * ((r * r * r : ℝ) : EReal)) * ((1 / 1024 : ℝ) : EReal)) = z
      have hzz : z + z = ((2 : ℝ) : EReal) * z := by
        have : ((2 : ℝ) : EReal) = 1 + 1 := by
          rw [← EReal.coe_one, ← EReal.coe_add]
          norm_num
        rw [this, EReal.right_distrib_of_nonneg (by norm_num) (by norm_num), one_mul]
      rw [hzz, ← hz, ← neg_mul]
      have : ((2 : ℝ) : EReal) * (X * (T * (((-(1 / 2) : ℝ) : EReal) * ((r * r * r : ℝ) : EReal)) * ((1 / 1024 : ℝ) : EReal)))
          = (((2 : ℝ) : EReal) * ((-(1 / 2) : ℝ) : EReal) * ((r * r * r : ℝ) : EReal)) * (X * T * ((1 / 1024 : ℝ) : EReal)) := by ac_rfl
      rw [this, ← EReal.coe_mul, ← EReal.coe_mul]
      have h3 : (2 : ℝ) * -(1 / 2) * (r * r * r) = (-r) * (r * r) := by ring
      rw [h3, EReal.coe_mul, EReal.coe_mul, EReal.coe_neg]
      ac_rfl
    rw [add_assoc (dx j + a * r), h2, mul_comm a]
    ac_rfl
  · obtain ⟨k, hk⟩ := not_forall.mp hx
    obtain ⟨e, e'⟩ := rs_zero x k hk
    rw [e', e]
    have hd : Ideal.div 0 ⊤ = 0 := by
      unfold Ideal.div
      rw [if_neg (by simp), zero_mul]
    rw [hd]
    simp

/-- An array of 4096 tokens of 1024 values. -/
abbrev Tok : Shape := ⟨2, ![4096, 1024]⟩
/-- A row of 1024 values, as an array of one row. -/
abbrev Vec1 : Shape := ⟨2, ![1, 1024]⟩
/-- A row of 1024 values. -/
abbrev Vec0 : Shape := ⟨1, ![1024]⟩

/-- Token `t` of an array. -/
def row (x : Tok.Idx → EReal) (t : Fin 4096) (j : Fin 1024) : EReal := x (ix2 t j)
/-- The values of a row. -/
def gain (g : Vec0.Idx → EReal) (j : Fin 1024) : EReal := g (ix1 j)

/-- The gradients of all tokens: `h` holds the gradients of the normed tokens. -/
def DX (h : Fin 4096 → Fin 1024 → EReal) (g : Vec0.Idx → EReal) (x dx : Tok.Idx → EReal) : Tok.Idx → EReal :=
  fun i => back (h (i 0)) (gain g) (row x (i 0)) (row dx (i 0)) (i 1)

/-- One token's part of the gradient of the norm's gain. -/
def gainPart (h : Fin 4096 → Fin 1024 → EReal) (x : Tok.Idx → EReal) (t : Fin 4096) (j : Fin 1024) : EReal :=
  h t j * (row x t j * rs (row x t))

/-- The gradient of the norm's gain. -/
def DG (h : Fin 4096 → Fin 1024 → EReal) (x : Tok.Idx → EReal) : Vec1.Idx → EReal :=
  fun i => ∑ t, gainPart h x t (i 1)

/-- The gradients of the tokens at an index with these coordinates. -/
theorem DX_at (h : Fin 4096 → Fin 1024 → EReal) (g : Vec0.Idx → EReal) (x dx : Tok.Idx → EReal) (t : ℕ) (ht : t < 4096) (j : Fin 1024)
    (i : Tok.Idx) (h0 : (i 0).val = t) (h1 : (i 1).val = j.val) :
    DX h g x dx i = back (h ⟨t, ht⟩) (gain g) (row x ⟨t, ht⟩) (row dx ⟨t, ht⟩) j := by
  have e0 : i 0 = (⟨t, ht⟩ : Fin 4096) := Fin.ext h0
  have e1 : i 1 = (j : Fin 1024) := Fin.ext h1
  unfold DX
  rw [e0, e1]

end Cert.NormMath

end
-- ==== Proof.HqMath.lean ====
/- The products of the norm's gradients: the gradients of the normed tokens, from the gradients of what they were multiplied into. -/
module

public import proofs.«01_k».proof.Proof.NormMath

@[expose] public section

noncomputable section

namespace Cert.NormMath

open Idealize.ShloMosaic

/-- Rows of `a` times rows of `w`: the gradient of `h` through `h @ w`. -/
def prod {K : ℕ} (a : (⟨2, ![4096, K]⟩ : Shape).Idx → EReal) (w : (⟨2, ![1024, K]⟩ : Shape).Idx → EReal) (t : Fin 4096) (j : Fin 1024) : EReal :=
  ∑ n : Fin K, a (ix2 t n) * w (ix2 j n)

end Cert.NormMath

end
-- ==== Proof.HfMath.lean ====
/- The gradients of the gate and of the value beside each other, as one array of 5632 channels. -/
module

public import proofs.«01_k».proof.Proof.HqMath

@[expose] public section

noncomputable section

namespace Cert.NormMath

open Idealize.ShloMosaic

/-- `a` beside `b`. -/
def cat (a b : (⟨2, ![4096, 2816]⟩ : Shape).Idx → EReal) : (⟨2, ![4096, 5632]⟩ : Shape).Idx → EReal := fun i =>
  if h : (i 1).val < 2816 then a (ix2 (i 0) ⟨(i 1).val, h⟩) else b (ix2 (i 0) ⟨(i 1).val - 2816, by have h' : (i 1).val < 5632 := (i 1).isLt; omega⟩)

/-- The left half of the two pieces side by side is the first piece. -/
theorem cat_left (a b : (⟨2, ![4096, 2816]⟩ : Shape).Idx → EReal) (t : Fin 4096) (n : Fin 5632) (k : Fin 2816) (h : n.val = k.val) :
    cat a b (ix2 t n) = a (ix2 t k) := by
  obtain ⟨n, hn⟩ := n
  obtain rfl : n = k.val := h
  exact dif_pos k.isLt

/-- The right half is the second piece. -/
theorem cat_right (a b : (⟨2, ![4096, 2816]⟩ : Shape).Idx → EReal) (t : Fin 4096) (n : Fin 5632) (k : Fin 2816) (h : n.val = 2816 + k.val) :
    cat a b (ix2 t n) = b (ix2 t k) := by
  obtain ⟨n, hn⟩ := n
  obtain rfl : n = 2816 + k.val := h
  refine (dif_neg (show ¬2816 + k.val < 2816 by omega)).trans (congrArg b (congrArg (ix2 t) (Fin.ext ?_)))
  show 2816 + k.val - 2816 = k.val
  omega

end Cert.NormMath

end
-- ==== Proof.HfArray.lean ====
/- What the kernel of the gradient through the feed-forward norm leaves in its arrays: four grid points for each block of tokens, of which the
   first three sum their quarters of the product in the scratch. -/
module

public import proofs.«01_k».proof.Proof.Gen.HfIdeal.Value
public import proofs.«01_k».proof.Proof.HfMath
public import Idealize.ShloMosaic.Lib.Pipeline.ValueKit
public import Idealize.ShloMosaic.Lib.Pipeline.ReadBack

@[expose] public section

set_option maxRecDepth 16384

noncomputable section

namespace Cert.HfIdeal.Arr

open Cert.HfIdeal Cert.HfIdeal.Gen Cert.NormMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val / 4, min (t.val % 4) 1] ∧ win0_1.index t = ![t.val / 4, t.val % 4 - 2] ∧ win0_2.index t = ![t.val % 4, 0] ∧
    win0_3.index t = ![t.val / 4, 0] ∧ win0_4.index t = ![0, 0] ∧
    win0_5.index t = ![t.val / 4, 0] ∧ win0_6.index t = ![t.val / 4, 0] ∧ win0_7.index t = ![t.val / 4, 0] ∧ win0_8.index t = ![0, 0] := by
  decide +kernel

/-- How many grid points there are. -/
theorem ptLt (t : Fin cfg0.N) : t.val < 32 := t.isLt

/-- Token `x` of block `b`. -/
abbrev tk (b : ℕ) (hb : b < 8) (x : Fin 512) : Fin 4096 := ⟨b * 512 + x.val, by omega⟩
/-- Channel `y` of quarter `q`. -/
abbrev ch (q : ℕ) (hq : q < 4) (y : Fin 1408) : Fin 5632 := ⟨q * 1408 + y.val, by omega⟩
/-- The block of tokens is one of those there are. -/
theorem hb (t : Fin cfg0.N) : t.val / 4 < 8 := by
  have := ptLt t
  omega

/-- The gradients of the gate. -/
abbrev A (c : Dev nD) : S4096x2816.Idx → EReal := m ((c : Thread nD τ).loc main_arg0)
/-- The gradients of the value. -/
abbrev B (c : Dev nD) : S4096x2816.Idx → EReal := m ((c : Thread nD τ).loc main_arg1)
/-- The two beside each other. -/
abbrev AB (c : Dev nD) : (⟨2, ![4096, 5632]⟩ : Shape).Idx → EReal := cat (A m c) (B m c)
/-- The weights of gate and value. -/
abbrev W (c : Dev nD) : S1024x5632.Idx → EReal := m ((c : Thread nD τ).loc main_arg2)
/-- The tokens before the norm. -/
abbrev X (c : Dev nD) : Tok.Idx → EReal := m ((c : Thread nD τ).loc main_arg3)
/-- The norm's gain. -/
abbrev G (c : Dev nD) : Vec0.Idx → EReal := m ((c : Thread nD τ).loc main_arg4)
/-- The gradients beside the residual path. -/
abbrev R (c : Dev nD) : Tok.Idx → EReal := m ((c : Thread nD τ).loc main_arg5)

/-- The block of the gate's gradients, at the first two points of a block of tokens. -/
theorem blk0 (c : Dev nD) (t : Fin cfg0.N) (h : t.val % 4 < 2) (x : Fin 512) (y : Fin 1408) :
    iblk m c 0 t (ix2 x y) = AB m c (ix2 (tk (t.val / 4) (hb t) x) (ch (t.val % 4) (by omega) y)) := by
  unfold AB
  rw [cat_left _ _ _ _ (⟨t.val % 4 * 1408 + y.val, by omega⟩ : Fin 2816) rfl]
  have e : min (t.val % 4) 1 = t.val % 4 := by omega
  blk_ext [iblk, V, idx t, e]

/-- The block of the value's gradients, at the last two. -/
theorem blk1 (c : Dev nD) (t : Fin cfg0.N) (h : 2 ≤ t.val % 4) (x : Fin 512) (y : Fin 1408) :
    iblk m c 1 t (ix2 x y) = AB m c (ix2 (tk (t.val / 4) (hb t) x) (ch (t.val % 4) (by omega) y)) := by
  unfold AB
  rw [cat_right _ _ _ _ (⟨(t.val % 4 - 2) * 1408 + y.val, by omega⟩ : Fin 2816) (show t.val % 4 * 1408 + y.val = 2816 + ((t.val % 4 - 2) * 1408 + y.val) by omega)]
  blk_ext [iblk, V, idx t]

/-- The block of weights. -/
theorem blk2 (c : Dev nD) (t : Fin cfg0.N) (q : ℕ) (hq : q < 4) (h : t.val % 4 = q) (x : Fin 1408) (y : Fin 1024) :
    iblk m c 2 t (ix2 x y) = W m c (ix2 y (ch q hq x)) := by
  subst h
  blk_simp [iblk, V, idx t]
  entry_read
  pointwise
  refine congrArg (W m c) ?_
  blk_ext [idx t]

/-- The block of tokens. -/
theorem blk3 (c : Dev nD) (t : Fin cfg0.N) (x : Fin 512) (y : Fin 1024) :
    iblk m c 3 t (ix2 x y) = row (X m c) (tk (t.val / 4) (hb t) x) y := by
  unfold row
  blk_ext [iblk, V, idx t]

/-- The gain. -/
theorem blk4 (c : Dev nD) (t : Fin cfg0.N) (x : Fin 1) (y : Fin 1024) : iblk m c 4 t (ix2 x y) = gain (G m c) y := by
  unfold gain
  blk_simp [iblk, V, idx t]
  entry_read
  pointwise
  refine congrArg (G m c) (congrArg ix1 (Fin.ext ?_))
  blk_simp [idx t]

/-- The block of the residual path's gradients. -/
theorem blk5 (c : Dev nD) (t : Fin cfg0.N) (x : Fin 512) (y : Fin 1024) :
    iblk m c 5 t (ix2 x y) = row (R m c) (tk (t.val / 4) (hb t) x) y := by
  unfold row
  blk_ext [iblk, V, idx t]

/-- The product of a quarter of the channels. -/
def quarter (c : Dev nD) (q : ℕ) (hq : q < 4) (t : Fin 4096) (j : Fin 1024) : EReal :=
  ∑ n : Fin 1408, AB m c (ix2 t (ch q hq n)) * W m c (ix2 j (ch q hq n))

/-- The four quarters make the product. -/
theorem quarters (c : Dev nD) (t : Fin 4096) (j : Fin 1024) :
    quarter m c 0 (by decide) t j + quarter m c 1 (by decide) t j + quarter m c 2 (by decide) t j + quarter m c 3 (by decide) t j
      = prod (AB m c) (W m c) t j := by
  unfold prod
  refine Eq.trans ?_ (Fin.sum_mul_add_congr (S := 4) (n := 1408) (F := fun s n => AB m c (ix2 t (ch s.val s.isLt n)) * W m c (ix2 j (ch s.val s.isLt n)))
    (fun s k hl => rfl))
  rw [Fin.sum_univ_four]
  rfl

/-- What a point of the first two multiplies. -/
theorem pay1_at (c : Dev nD) (t : Fin cfg0.N) (q : ℕ) (hq : q < 4) (h : t.val % 4 = q) (h2 : q < 2) (x : Fin 512) (y : Fin 1024) :
    k0_pay1 (F := Ideal) (iblk m c 0 t) (iblk m c 2 t) (ix2 x y) = quarter m c q hq (tk (t.val / 4) (hb t) x) y := by
  pointwise [Gen.k0_pay1]
  subst h
  simp only [blk0 m c t h2, blk2 m c t (t.val % 4) hq rfl]
  rfl

/-- What a point of the last two multiplies. -/
theorem pay5_at (c : Dev nD) (t : Fin cfg0.N) (q : ℕ) (hq : q < 4) (h : t.val % 4 = q) (h2 : 2 ≤ q) (x : Fin 512) (y : Fin 1024) :
    k0_pay5 (F := Ideal) (iblk m c 1 t) (iblk m c 2 t) (ix2 x y) = quarter m c q hq (tk (t.val / 4) (hb t) x) y := by
  pointwise [Gen.k0_pay5]
  subst h
  simp only [blk1 m c t h2, blk2 m c t (t.val % 4) hq rfl]
  rfl

/-- What a block computes of the tokens' gradients, from the product's last quarter and the sum of the others. -/
theorem pay18_at (v13 v25 v27 : Vec Ideal S512x1024 .f32) (v38 : Vec Ideal S1x1024 .f32) (v52 : Vec Ideal S512x1024 .f32) (x : Fin 512) (y : Fin 1024) :
    k0_pay18 (F := Ideal) v13 v25 v27 v38 v52 (ix2 x y)
      = back (fun j => v25 (ix2 x j) + v13 (ix2 x j)) (fun j => v38 (ix2 0 j)) (fun j => v27 (ix2 x j)) (fun j => v52 (ix2 x j)) y := by
  pointwise [Gen.k0_pay18, Gen.k0_pay17, Gen.k0_pay16, Gen.k0_pay15]
  rfl

/-- What a block computes of the gain's gradient. -/
theorem pay20_at (v13 v25 v27 : Vec Ideal S512x1024 .f32) (x : Fin 1) (y : Fin 1024) :
    k0_pay20 (F := Ideal) v13 v25 v27 (ix2 x y)
      = ∑ k : Fin 512, (v25 (ix2 k y) + v13 (ix2 k y)) * (v27 (ix2 k y) * rs fun j => v27 (ix2 k j)) := by
  pointwise [Gen.k0_pay20, Gen.k0_pay17, Gen.k0_pay16, Gen.k0_pay15]
  rfl

/-- The scratch after the point before. -/
abbrev before (c : Dev nD) (t : Fin cfg0.N) : Vec Ideal S512x1024 .f32 :=
  (outsAt0 m c (t.val - 1) (Nat.lt_of_le_of_lt (Nat.sub_le _ _) t.isLt)).2.2.2

/-- The point before. -/
abbrev pre (t : Fin cfg0.N) : Fin cfg0.N := ⟨t.val - 1, Nat.lt_of_le_of_lt (Nat.sub_le _ _) t.isLt⟩

/-- The first point of a block leaves its quarter in the scratch. -/
theorem scr0 (c : Dev nD) (t : Fin cfg0.N) (h : t.val % 4 = 0) (x : Fin 512) (y : Fin 1024) :
    (outsAt0 m c t.val t.isLt).2.2.2 (ix2 x y) = quarter m c 0 (by decide) (tk (t.val / 4) (hb t) x) y := by
  rw [← pay1_at m c t 0 _ h (by decide), Gen.outsAt0_A m c t (by omega) (by omega) (by omega) (by omega) (by omega)]
  frame_out
  pointwise [Gen.k0_pay2]

/-- The second adds its own. -/
theorem scr1 (c : Dev nD) (t : Fin cfg0.N) (h : t.val % 4 = 1) (x : Fin 512) (y : Fin 1024) :
    (outsAt0 m c t.val t.isLt).2.2.2 (ix2 x y) = before m c t (ix2 x y) + quarter m c 1 (by decide) (tk (t.val / 4) (hb t) x) y := by
  rw [← pay1_at m c t 1 _ h (by decide), Gen.outsAt0_B m c t (by omega) (by omega) (by omega) (by omega) (by omega)]
  frame_out
  simp only [read_unread_whole]
  pointwise [Gen.k0_pay3]

/-- The third too. -/
theorem scr2 (c : Dev nD) (t : Fin cfg0.N) (h : t.val % 4 = 2) (x : Fin 512) (y : Fin 1024) :
    (outsAt0 m c t.val t.isLt).2.2.2 (ix2 x y) = before m c t (ix2 x y) + quarter m c 2 (by decide) (tk (t.val / 4) (hb t) x) y := by
  rw [← pay5_at m c t 2 _ h (by decide), Gen.outsAt0_C m c t (by omega) (by omega) (by omega) (by omega) (by omega)]
  frame_out
  simp only [read_unread_whole]
  pointwise [Gen.k0_pay7]

/-- The product of the last point and what the others left make the product of the block. -/
theorem whole (c : Dev nD) (t : Fin cfg0.N) (h : t.val % 4 = 3) (x : Fin 512) (y : Fin 1024) :
    before m c t (ix2 x y) + k0_pay5 (F := Ideal) (iblk m c 1 t) (iblk m c 2 t) (ix2 x y)
      = prod (AB m c) (W m c) (tk (t.val / 4) (hb t) x) y := by
  have l1 : (pre t).val % 4 = 2 := show (t.val - 1) % 4 = 2 by omega
  have l2 : (pre (pre t)).val % 4 = 1 := show (t.val - 1 - 1) % 4 = 1 by omega
  have l3 : (pre (pre (pre t))).val % 4 = 0 := show (t.val - 1 - 1 - 1) % 4 = 0 by omega
  have k1 : (pre t).val / 4 = t.val / 4 := show (t.val - 1) / 4 = _ by omega
  have k2 : (pre (pre t)).val / 4 = t.val / 4 := show (t.val - 1 - 1) / 4 = _ by omega
  have k3 : (pre (pre (pre t))).val / 4 = t.val / 4 := show (t.val - 1 - 1 - 1) / 4 = _ by omega
  have e2 : before m c t (ix2 x y) = _ := scr2 m c (pre t) l1 x y
  have e1 : before m c (pre t) (ix2 x y) = _ := scr1 m c (pre (pre t)) l2 x y
  have e0 : before m c (pre (pre t)) (ix2 x y) = _ := scr0 m c (pre (pre (pre t))) l3 x y
  rw [e2, e1, e0, pay5_at m c t 3 (by decide) h (by decide), ← quarters]
  simp only [k1, k2, k3]

/-- What the last point of a block computes of the tokens' gradients. -/
theorem dx_at (c : Dev nD) (t : Fin cfg0.N) (h : t.val % 4 = 3) (x : Fin 512) (y : Fin 1024) :
    k0_pay18 (F := Ideal) (k0_pay5 (iblk m c 1 t) (iblk m c 2 t)) (before m c t) (iblk m c 3 t) (iblk m c 4 t) (iblk m c 5 t) (ix2 x y)
      = back (prod (AB m c) (W m c) (tk (t.val / 4) (hb t) x)) (gain (G m c)) (row (X m c) (tk (t.val / 4) (hb t) x))
          (row (R m c) (tk (t.val / 4) (hb t) x)) y := by
  rw [pay18_at]
  simp only [whole m c t h, blk3, blk4, blk5]

/-- … and of the gain's gradient. -/
theorem dg_at (c : Dev nD) (t : Fin cfg0.N) (h : t.val % 4 = 3) (x : Fin 1) (y : Fin 1024) :
    k0_pay20 (F := Ideal) (k0_pay5 (iblk m c 1 t) (iblk m c 2 t)) (before m c t) (iblk m c 3 t) (ix2 x y)
      = ∑ k : Fin 512, gainPart (prod (AB m c) (W m c)) (X m c) (tk (t.val / 4) (hb t) k) y := by
  rw [pay20_at]
  simp only [whole m c t h, blk3]
  rfl

/-- After the run the first array holds the gradients of the tokens. -/
theorem dx_arr (c : Dev nD) : (dats m 0 c).arrAt 6 cfg0.N = DX (prod (AB m c) (W m c)) (G m c) (X m c) (R m c) := by
  refine (dats m 0 c).arrAt_eq_of_covers 6 _ (by decide +kernel) fun t hf y => ?_
  have h := (flush0_6 t).mp hf
  blk_simp
  rw [after0_6]
  idx_vars y
  rw [DX_at _ _ _ _ (t.val / 4 * 512 + y0.val) (tk (t.val / 4) (hb t) y0).isLt y1 _ (by blk_simp [idx t]) (by blk_simp [idx t]), ← dx_at m c t h]
  by_cases h0 : t.val < 4
  · rw [Gen.outsAt0_D m c t (by omega) (by omega) (by omega) (by omega) h h0 (by omega)]
    frame_out
    simp only [read_unread_whole]
  · rw [Gen.outsAt0_E m c t (by omega) (by omega) (by omega) (by omega) h h0 (by omega)]
    frame_out
    simp only [read_unread_whole]

/-- … the second the same. -/
theorem dxb_arr (c : Dev nD) : (dats m 0 c).arrAt 7 cfg0.N = DX (prod (AB m c) (W m c)) (G m c) (X m c) (R m c) := by
  refine (dats m 0 c).arrAt_eq_of_covers 7 _ (by decide +kernel) fun t hf y => ?_
  have h := (flush0_7 t).mp hf
  blk_simp
  rw [after0_7]
  idx_vars y
  rw [DX_at _ _ _ _ (t.val / 4 * 512 + y0.val) (tk (t.val / 4) (hb t) y0).isLt y1 _ (by blk_simp [idx t]) (by blk_simp [idx t]), ← dx_at m c t h]
  by_cases h0 : t.val < 4
  · rw [Gen.outsAt0_D m c t (by omega) (by omega) (by omega) (by omega) h h0 (by omega)]
    frame_out
    simp only [read_unread_whole]
    pointwise [Gen.k0_pay19]
  · rw [Gen.outsAt0_E m c t (by omega) (by omega) (by omega) (by omega) h h0 (by omega)]
    frame_out
    simp only [read_unread_whole]
    pointwise [Gen.k0_pay19]

/-- The first three points of a block keep the gain's gradient. -/
theorem keep (c : Dev nD) (t : Fin cfg0.N) (h : t.val % 4 < 3) (i : S1x1024.Idx) :
    (outsAt0 m c t.val t.isLt).2.2.1 i = (outsAt0 m c (t.val - 1) (Nat.lt_of_le_of_lt (Nat.sub_le _ _) t.isLt)).2.2.1 i := by
  rcases (show t.val % 4 = 0 ∨ t.val % 4 = 1 ∨ t.val % 4 = 2 by omega) with h0 | h0 | h0
  · rw [Gen.outsAt0_A m c t (by omega) (by omega) (by omega) (by omega) (by omega)]
    dsimp only [out0_A_8]
  · rw [Gen.outsAt0_B m c t (by omega) (by omega) (by omega) (by omega) (by omega)]
    dsimp only [out0_B_8]
  · rw [Gen.outsAt0_C m c t (by omega) (by omega) (by omega) (by omega) (by omega)]
    dsimp only [out0_C_8]

/-- What block `b` adds to the gain's gradient. -/
def part (c : Dev nD) (b : Fin 8) (i : S1x1024.Idx) : EReal :=
  ∑ k : Fin 512, gainPart (prod (AB m c) (W m c)) (X m c) (tk b.val b.isLt k) (i 1)

/-- The last point of the first block starts it. -/
theorem start (c : Dev nD) (t : Fin cfg0.N) (h : t.val % 4 = 3) (h0 : t.val < 4) (i : S1x1024.Idx) :
    (outsAt0 m c t.val t.isLt).2.2.1 i = part m c ⟨t.val / 4, hb t⟩ i := by
  idx_vars i
  refine Eq.trans ?_ (dg_at m c t h i0 i1)
  rw [Gen.outsAt0_D m c t (by omega) (by omega) (by omega) (by omega) h h0 (by omega)]
  frame_out
  simp only [read_unread_whole]

/-- The last point of a further block adds to it. -/
theorem step (c : Dev nD) (t : Fin cfg0.N) (h : t.val % 4 = 3) (h0 : ¬t.val < 4) (i : S1x1024.Idx) :
    (outsAt0 m c t.val t.isLt).2.2.1 i
      = (outsAt0 m c (t.val - 1) (Nat.lt_of_le_of_lt (Nat.sub_le _ _) t.isLt)).2.2.1 i + part m c ⟨t.val / 4, hb t⟩ i := by
  idx_vars i
  refine Eq.trans ?_ (congrArg _ (dg_at m c t h i0 i1))
  rw [Gen.outsAt0_E m c t (by omega) (by omega) (by omega) (by omega) h h0 (by omega)]
  frame_out
  simp only [read_unread_whole]
  pointwise [Gen.k0_pay8]

/-- What the gain's gradient is after block `b`. -/
def acc (c : Dev nD) (b : ℕ) (hb : b < 8) : Vec Ideal S1x1024 .f32 := (outsAt0 m c (4 * b + 3) (show _ < 32 by omega)).2.2.1

/-- The accumulator after the first block is that block's part. -/
theorem acc_start (c : Dev nD) (b : Fin 8) (h0 : b.val % 8 = 0) (i : S1x1024.Idx) : acc m c b.val b.isLt i = 0 + part m c b i := by
  rw [zero_add]
  unfold acc
  refine (start m c ⟨4 * b.val + 3, show _ < 32 by omega⟩ (show (4 * b.val + 3) % 4 = 3 by omega) (show 4 * b.val + 3 < 4 by omega) i).trans ?_
  exact congrArg (fun b => part m c b i) (Fin.ext (show (4 * b.val + 3) / 4 = b.val by omega))

/-- The accumulator after a later block is the one before and the block's part. -/
theorem acc_step (c : Dev nD) (b : Fin 8) (h0 : ¬b.val % 8 = 0) (i : S1x1024.Idx) :
    acc m c b.val b.isLt i = acc m c (b.val - 1) (Nat.lt_of_le_of_lt (Nat.sub_le _ _) b.isLt) i + part m c b i := by
  unfold acc
  refine (step m c ⟨4 * b.val + 3, show _ < 32 by omega⟩ (show (4 * b.val + 3) % 4 = 3 by omega) (show ¬4 * b.val + 3 < 4 by omega) i).trans ?_
  refine congrArg₂ (· + ·) ?_ (congrArg (fun b => part m c b i) (Fin.ext (show (4 * b.val + 3) / 4 = b.val by omega)))
  refine (keep m c ⟨4 * b.val + 2, show _ < 32 by omega⟩ (show (4 * b.val + 2) % 4 < 3 by omega) i).trans ?_
  refine (keep m c ⟨4 * b.val + 1, show _ < 32 by omega⟩ (show (4 * b.val + 1) % 4 < 3 by omega) i).trans ?_
  refine (keep m c ⟨4 * b.val, show _ < 32 by omega⟩ (show (4 * b.val) % 4 < 3 by omega) i).trans ?_
  have e : 4 * b.val - 1 = 4 * (b.val - 1) + 3 := by omega
  simp only [e]

/-- The last grid point. -/
def tLast : Fin cfg0.N := ⟨31, by rw [show cfg0.N = 32 from N_0]; decide⟩

/-- What it leaves of the gain's gradient is the sum over the blocks. -/
theorem last (c : Dev nD) (i : S1x1024.Idx) : (outsAt0 m c tLast.val tLast.isLt).2.2.1 i = ∑ b : Fin 8, part m c b i := by
  have e := Pipeline.eq_sum_fin_of_reset_step_apply_last (acc m c) 8 (fun _ => 0) (part m c) (acc_start m c) (acc_step m c) (by decide) 7 rfl i
  rw [zero_add] at e
  refine Eq.trans ?_ e
  unfold acc
  have k : ∀ (p : ℕ) (hp : p < cfg0.N) (q : ℕ) (hq : q < cfg0.N), p = q → (outsAt0 m c p hp).2.2.1 i = (outsAt0 m c q hq).2.2.1 i := by
    intro p hp q hq h
    subst h
    rfl
  exact k _ _ _ _ (by decide)

/-- After the run the third array holds the gradient of the gain. -/
theorem dg_arr (c : Dev nD) : (dats m 0 c).arrAt 8 cfg0.N = DG (prod (AB m c) (W m c)) (X m c) := by
  refine (dats m 0 c).arrAt_eq_of_after_last 8 tLast (by decide +kernel) _ fun j => ?_
  blk_simp
  rw [after0_8]
  rw [last]
  idx_vars j
  unfold part
  refine (Fin.sum_mul_add_congr (S := 8) (n := 512) (f := fun l : Fin 4096 => gainPart (prod (AB m c) (W m c)) (X m c) l j1)
    (fun s k hl => rfl)).trans ?_
  unfold DG
  refine Finset.sum_congr rfl fun l _ => congrArg _ (Fin.ext ?_)
  blk_simp [idx tLast]

end Cert.HfIdeal.Arr

end
-- ==== Proof.HfRef.lean ====
/- What the reference of the gradient through the feed-forward norm computes, read at an index. -/
module

public import proofs.«01_k».proof.Proof.Gen.HfRefIdeal.Read
public import proofs.«01_k».proof.Proof.HfMath
public import Idealize.ShloMosaic.Lib.Pointwise

@[expose] public section

set_option maxRecDepth 16384

noncomputable section

namespace Cert.HfRefIdeal.At

open Cert.HfRefIdeal Cert.HfRefIdeal.Gen Cert.HfRefIdeal.Read Cert.NormMath Idealize.ShloMosaic Idealize.ShloMosaic.TcCoe Idealize.SL.Sem

variable (a b : S4096x2816.Idx → EReal) (w : S1024x5632.Idx → EReal) (x : Tok.Idx → EReal) (g : Vec0.Idx → EReal) (dx : Tok.Idx → EReal)

/-- The mean square. -/
theorem v8_at (t : Fin 4096) : val_main_v8 (F := Ideal) x (ix2 t 0) = ms (row x t) := by
  pointwise [val_main_v8, val_main_v7, val_main_v6, val_main_v5, val_main_v4, val_main_v3, val_main_v2, val_main_cst, val_main_cst_0, val_main_cst_1]
  rfl

/-- The factor of the norm. -/
theorem v9_at (t : Fin 4096) : val_main_v9 (F := Ideal) x (ix2 t 0) = rs (row x t) := by
  unfold val_main_v9
  have e := v8_at x t
  generalize val_main_v8 (F := Ideal) x = y at e ⊢
  pointwise
  rw [e]
  rfl

/-- The derivative of the factor. -/
theorem v12_at (t : Fin 4096) : val_main_v12 (F := Ideal) x (ix2 t 0) = mhalf * Ideal.div (rs (row x t)) (ms (row x t)) := by
  unfold val_main_v12 val_main_v11 val_main_v10 val_main_cst_2
  have e := v8_at x t
  have f := v9_at x t
  generalize val_main_v8 (F := Ideal) x = y at e ⊢
  generalize val_main_v9 (F := Ideal) x = z at f ⊢
  pointwise
  rw [e, f]

/-- The normed token before its gain. -/
theorem v14_at (t : Fin 4096) (j : Fin 1024) : val_main_v14 (F := Ideal) x (ix2 t j) = row x t j * rs (row x t) := by
  unfold val_main_v14 val_main_v13
  have f := v9_at x t
  generalize val_main_v9 (F := Ideal) x = z at f ⊢
  pointwise
  rw [f]
  rfl

/-- The gradient of the normed tokens. -/
theorem v19_at (t : Fin 4096) (j : Fin 1024) : val_main_v19 (F := Ideal) a b w (ix2 t j) = prod (cat a b) w t j := by
  pointwise [val_main_v19, val_main_v1]
  unfold prod
  refine Finset.sum_congr rfl fun n _ => congrArg (· * _) ?_
  unfold val_main_v0 cat
  pointwise

/-- … times the gain. -/
theorem v24_at (t : Fin 4096) (j : Fin 1024) : val_main_v24 (F := Ideal) a b w g (ix2 t j) = prod (cat a b) w t j * gain g j := by
  unfold val_main_v24 val_main_v23 val_main_v15
  have f := v19_at a b w t j
  generalize val_main_v19 (F := Ideal) a b w = z at f ⊢
  pointwise
  rw [f]
  rfl

/-- The part through the mean square. -/
theorem v35_at (t : Fin 4096) : val_main_v35 (F := Ideal) a b w x g (ix1 t) = thru (prod (cat a b) w t) (gain g) (row x t) := by
  unfold val_main_v35 val_main_v34 val_main_v33 val_main_v32 val_main_v28 val_main_v27 val_main_v26 val_main_cst_5 val_main_cst_6 val_main_cst_7
  have e := v12_at x t
  have f := v24_at a b w g t
  generalize val_main_v12 (F := Ideal) x = y at e ⊢
  generalize val_main_v24 (F := Ideal) a b w g = z at f ⊢
  pointwise
  simp only [Finset.univ_unique, Finset.sum_singleton, Fin.default_eq_zero, e, f]
  rfl

/-- The gradients of the tokens. -/
theorem v40_at (t : Fin 4096) (j : Fin 1024) :
    val_main_v40 (F := Ideal) a b w x g dx (ix2 t j) = backRef (prod (cat a b) w t) (gain g) (row x t) (row dx t) j := by
  unfold val_main_v40 val_main_v39 val_main_v38 val_main_v37 val_main_v36 val_main_v31 val_main_v30 val_main_v29
  have e := v9_at x t
  have f := v24_at a b w g t j
  have k := v35_at a b w x g t
  generalize val_main_v9 (F := Ideal) x = y at e ⊢
  generalize val_main_v24 (F := Ideal) a b w g = z at f ⊢
  generalize val_main_v35 (F := Ideal) a b w x g = u at k ⊢
  pointwise
  rw [e, f, k]
  rfl

/-- The reference's first result is the gradients of the tokens. -/
theorem v40_eq : val_main_v40 (F := Ideal) a b w x g dx = DX (prod (cat a b) w) g x dx := by
  funext i
  idx_vars i
  rw [v40_at, backRef_eq]
  rfl

/-- The reference's second result is the same, rounded in the last step. -/
theorem v41_eq : val_main_v41 (F := Ideal) a b w x g dx = DX (prod (cat a b) w) g x dx := by
  rw [← v40_eq]
  unfold val_main_v41
  generalize val_main_v40 (F := Ideal) a b w x g dx = y
  funext i
  pointwise

/-- The reference's third result is the gradient of the gain. -/
theorem v42_eq : val_main_v42 (F := Ideal) a b w x = DG (prod (cat a b) w) x := by
  funext i
  unfold val_main_v42 val_main_v25 val_main_v22 val_main_v21 val_main_v20 val_main_cst_3 val_main_cst_4
  have e := v14_at x
  have f := v19_at a b w
  generalize val_main_v14 (F := Ideal) x = y at e ⊢
  generalize val_main_v19 (F := Ideal) a b w = z at f ⊢
  idx_vars i
  pointwise
  simp only [Finset.univ_unique, Finset.sum_singleton, Fin.default_eq_zero, e, f]
  refine Finset.sum_congr rfl fun t _ => mul_comm _ _

end Cert.HfRefIdeal.At

end
-- ==== Proof.HfClaim.lean ====
/- The claims of the gradient through the feed-forward norm: the reference's frame, and that kernel and reference leave equal results. -/
module

public import proofs.«01_k».proof.Defs
public import proofs.«01_k».proof.Proof.HfArray
public import proofs.«01_k».proof.Proof.HfRef
public import Idealize.ShloMosaic.Lib.Quiescent

@[expose] public section

set_option maxRecDepth 16384

noncomputable section

namespace Cert.HfEq

open Idealize.ShloMosaic Idealize.ShloMosaic.TcCoe Idealize.SL.Sem Cert.NormMath

/-- The reference's frame. -/
theorem frame_ref : Cert.quiescent_HfRefIdeal (hHfRefIdeal := Cert.HfRefIdeal.Gen.facts) := fun m ρ _ =>
  (θ_run HfRefIdeal.defs _ _).mono (fun r h => ⟨fun c => (h c).2.2.2, sem_eq_zero_of_no_sems (by decide) r.2⟩)
    (HfRefIdeal.Value.run (F := Ideal) m ρ)

/-- Kernel and reference, from equal arguments, leave equal gradients of the tokens, twice, and of the gain. -/
theorem algebraic : Cert.algebraic_HfIdeal_HfRefIdeal (hHfIdeal := Cert.HfIdeal.Gen.facts)
    (hHfRefIdeal := Cert.HfRefIdeal.Gen.facts) := by
  intro m ρ m' ρ' hpre hagree
  refine ⟨fun c => DX (prod (HfIdeal.Arr.AB m c) (HfIdeal.Arr.W m c)) (HfIdeal.Arr.G m c) (HfIdeal.Arr.X m c) (HfIdeal.Arr.R m c),
    fun c => DX (prod (HfIdeal.Arr.AB m c) (HfIdeal.Arr.W m c)) (HfIdeal.Arr.G m c) (HfIdeal.Arr.X m c) (HfIdeal.Arr.R m c),
    fun c => DG (prod (HfIdeal.Arr.AB m c) (HfIdeal.Arr.W m c)) (HfIdeal.Arr.X m c), ?_, ?_⟩
  · exact (θ_run HfIdeal.defs _ _).mono (fun r h c => ⟨(h c).1.trans (HfIdeal.Arr.dx_arr m c), (h c).2.1.trans (HfIdeal.Arr.dxb_arr m c),
      (h c).2.2.1.trans (HfIdeal.Arr.dg_arr m c), (h c).2.2.2⟩) (HfIdeal.Value.run_blocks (F := Ideal) m ρ)
  · refine (θ_run HfRefIdeal.defs _ _).mono (fun r h c => ?_) (HfRefIdeal.Value.run (F := Ideal) m' ρ')
    obtain ⟨e0, e1, e2, e3, e4, e5⟩ := hagree c
    refine ⟨(h c).1.trans ?_, (h c).2.1.trans ?_, (h c).2.2.1.trans ?_, (h c).2.2.2⟩
    · rw [HfRefIdeal.Read.val_main_v40_eq, e0, e1, e2, e3, e4, e5]
      exact HfRefIdeal.At.v40_eq _ _ _ _ _ _
    · rw [HfRefIdeal.Read.val_main_v41_eq, e0, e1, e2, e3, e4, e5]
      exact HfRefIdeal.At.v41_eq _ _ _ _ _ _
    · rw [HfRefIdeal.Read.val_main_v42_eq, e0, e1, e2, e3]
      exact HfRefIdeal.At.v42_eq _ _ _ _

end Cert.HfEq

end
-- ==== Proof.HqArray.lean ====
/- What the kernel of the gradient through the queries' norm leaves in its arrays, block of tokens by block of tokens. -/
module

public import proofs.«01_k».proof.Proof.Gen.HqIdeal.Value
public import proofs.«01_k».proof.Proof.HqMath
public import Idealize.ShloMosaic.Lib.Pipeline.ValueKit

@[expose] public section

set_option maxRecDepth 16384

noncomputable section

namespace Cert.HqIdeal.Arr

open Cert.HqIdeal Cert.HqIdeal.Gen Cert.NormMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val, 0] ∧ win0_1.index t = ![0, 0] ∧ win0_2.index t = ![t.val, 0] ∧ win0_3.index t = ![0, 0] ∧
    win0_4.index t = ![t.val, 0] ∧ win0_5.index t = ![t.val, 0] ∧ win0_6.index t = ![t.val, 0] ∧ win0_7.index t = ![0, 0] := by
  decide +kernel

/-- Token `x` of the block of point `t`. -/
theorem tokLt (t : Fin cfg0.N) (x : Fin 512) : t.val * 512 + x.val < 4096 := by
  have h : cfg0.N = 8 := by decide +kernel
  have := t.isLt
  omega

/-- The gradients of the queries. -/
abbrev A (c : Dev nD) : S4096x1024.Idx → EReal := m ((c : Thread nD τ).loc main_arg0)
/-- The queries' weights. -/
abbrev W (c : Dev nD) : S1024x1024.Idx → EReal := m ((c : Thread nD τ).loc main_arg1)
/-- The tokens before the norm. -/
abbrev X (c : Dev nD) : Tok.Idx → EReal := m ((c : Thread nD τ).loc main_arg2)
/-- The norm's gain. -/
abbrev G (c : Dev nD) : Vec0.Idx → EReal := m ((c : Thread nD τ).loc main_arg3)
/-- The gradients beside the residual path. -/
abbrev R (c : Dev nD) : Tok.Idx → EReal := m ((c : Thread nD τ).loc main_arg4)

/-- The block of the queries' gradients. -/
theorem blk0 (c : Dev nD) (t : Fin cfg0.N) (x : Fin 512) (y : Fin 1024) :
    iblk m c 0 t (ix2 x y) = A m c (ix2 ⟨t.val * 512 + x.val, tokLt t x⟩ y) := by
  blk_ext [iblk, V, idx t]

/-- The weights. -/
theorem blk1 (c : Dev nD) (t : Fin cfg0.N) (x : Fin 1024) (y : Fin 1024) : iblk m c 1 t (ix2 x y) = W m c (ix2 x y) := by
  blk_simp [iblk, V, idx t]
  entry_read
  pointwise
  refine congrArg (W m c) ?_
  blk_ext [idx t]

/-- The block of tokens. -/
theorem blk2 (c : Dev nD) (t : Fin cfg0.N) (x : Fin 512) (y : Fin 1024) :
    iblk m c 2 t (ix2 x y) = row (X m c) ⟨t.val * 512 + x.val, tokLt t x⟩ y := by
  unfold row
  blk_ext [iblk, V, idx t]

/-- The gain. -/
theorem blk3 (c : Dev nD) (t : Fin cfg0.N) (x : Fin 1) (y : Fin 1024) : iblk m c 3 t (ix2 x y) = gain (G m c) y := by
  unfold gain
  blk_simp [iblk, V, idx t]
  entry_read
  pointwise
  refine congrArg (G m c) (congrArg ix1 (Fin.ext ?_))
  blk_simp [idx t]

/-- The block of the residual path's gradients. -/
theorem blk4 (c : Dev nD) (t : Fin cfg0.N) (x : Fin 512) (y : Fin 1024) :
    iblk m c 4 t (ix2 x y) = row (R m c) ⟨t.val * 512 + x.val, tokLt t x⟩ y := by
  unfold row
  blk_ext [iblk, V, idx t]

/-- What one block computes of the tokens' gradients. -/
theorem pay6_at (c : Dev nD) (t : Fin cfg0.N) (x : Fin 512) (y : Fin 1024) :
    k0_pay6 (F := Ideal) (iblk m c 0 t) (iblk m c 1 t) (iblk m c 2 t) (iblk m c 3 t) (iblk m c 4 t) (ix2 x y)
      = back (prod (A m c) (W m c) ⟨t.val * 512 + x.val, tokLt t x⟩) (gain (G m c)) (row (X m c) ⟨t.val * 512 + x.val, tokLt t x⟩)
          (row (R m c) ⟨t.val * 512 + x.val, tokLt t x⟩) y := by
  pointwise [Gen.k0_pay6, Gen.k0_pay5, Gen.k0_pay4, Gen.k0_pay3]
  simp only [blk0, blk1, blk2, blk3, blk4]
  rfl

/-- What one block computes of the gain's gradient: the sum over its tokens. -/
theorem pay1_at (c : Dev nD) (t : Fin cfg0.N) (x : Fin 1) (y : Fin 1024) :
    k0_pay1 (F := Ideal) (k0_pay8 (iblk m c 0 t) (iblk m c 1 t) (iblk m c 2 t)) (ix2 x y)
      = ∑ k : Fin 512, gainPart (prod (A m c) (W m c)) (X m c) ⟨t.val * 512 + k.val, tokLt t k⟩ y := by
  pointwise [Gen.k0_pay1, Gen.k0_pay8, Gen.k0_pay5, Gen.k0_pay4, Gen.k0_pay3]
  simp only [blk0, blk1, blk2]
  rfl

/-- After the run the first array holds the gradients of the tokens. -/
theorem dx_arr (c : Dev nD) : (dats m 0 c).arrAt 5 cfg0.N = DX (prod (A m c) (W m c)) (G m c) (X m c) (R m c) := by
  refine (dats m 0 c).arrAt_eq_of_covers 5 _ (by decide +kernel) fun t hf y => ?_
  blk_simp
  rw [after0_5]
  have hN : t.val < 8 := t.isLt
  idx_vars y
  rw [DX_at _ _ _ _ (t.val * 512 + y0.val) (tokLt t y0) y1 _ (by blk_simp [idx t]) (by blk_simp [idx t]), ← pay6_at]
  by_cases h0 : t.val % 8 = 0
  · rw [Gen.outsAt0_A m c t h0 (by omega)]
    frame_out
  · rw [Gen.outsAt0_B m c t h0 (by omega)]
    frame_out

/-- … the second the same. -/
theorem dxb_arr (c : Dev nD) : (dats m 0 c).arrAt 6 cfg0.N = DX (prod (A m c) (W m c)) (G m c) (X m c) (R m c) := by
  refine (dats m 0 c).arrAt_eq_of_covers 6 _ (by decide +kernel) fun t hf y => ?_
  blk_simp
  rw [after0_6]
  have hN : t.val < 8 := t.isLt
  idx_vars y
  rw [DX_at _ _ _ _ (t.val * 512 + y0.val) (tokLt t y0) y1 _ (by blk_simp [idx t]) (by blk_simp [idx t]), ← pay6_at]
  by_cases h0 : t.val % 8 = 0
  · rw [Gen.outsAt0_A m c t h0 (by omega)]
    frame_out
    pointwise [Gen.k0_pay7]
  · rw [Gen.outsAt0_B m c t h0 (by omega)]
    frame_out
    pointwise [Gen.k0_pay7]

/-- The first block starts the gain's gradient. -/
theorem acc_start (c : Dev nD) (t : Fin cfg0.N) (h0 : t.val % 8 = 0) (i : S1x1024.Idx) :
    (outsAt0 m c t.val t.isLt).2.2 i = 0 + k0_pay1 (F := Ideal) (k0_pay8 (iblk m c 0 t) (iblk m c 1 t) (iblk m c 2 t)) i := by
  have hN : t.val < 8 := t.isLt
  rw [Gen.outsAt0_A m c t h0 (by omega), zero_add]
  frame_out

/-- Each further block adds to it. -/
theorem acc_step (c : Dev nD) (t : Fin cfg0.N) (h0 : ¬t.val % 8 = 0) (i : S1x1024.Idx) :
    (outsAt0 m c t.val t.isLt).2.2 i = (outsAt0 m c (t.val - 1) (Nat.lt_of_le_of_lt (Nat.sub_le _ _) t.isLt)).2.2 i
      + k0_pay1 (F := Ideal) (k0_pay8 (iblk m c 0 t) (iblk m c 1 t) (iblk m c 2 t)) i := by
  have hN : t.val < 8 := t.isLt
  rw [Gen.outsAt0_B m c t h0 (by omega)]
  frame_out
  pointwise [Gen.k0_pay2]

/-- After the run the third array holds the gradient of the gain. -/
theorem dg_arr (c : Dev nD) : (dats m 0 c).arrAt 7 cfg0.N = DG (prod (A m c) (W m c)) (X m c) := by
  refine (dats m 0 c).arrAt_eq_of_after_last 7 t0_7 (by decide +kernel) _ fun j => ?_
  blk_simp
  rw [after0_7]
  refine (Pipeline.eq_sum_fin_of_reset_step_apply_last (fun n hn => (outsAt0 m c n hn).2.2) 8 (fun _ => 0)
    (fun t => k0_pay1 (F := Ideal) (k0_pay8 (iblk m c 0 t) (iblk m c 1 t) (iblk m c 2 t)))
    (acc_start m c) (acc_step m c) (by decide +kernel) t0_7 rfl j).trans ?_
  idx_vars j
  rw [zero_add]
  simp only [pay1_at]
  refine (Fin.sum_mul_add_congr (S := 8) (n := 512) (f := fun l : Fin 4096 => gainPart (prod (A m c) (W m c)) (X m c) l j1)
    (fun s k hl => rfl)).trans ?_
  unfold DG
  refine Finset.sum_congr rfl fun l _ => congrArg _ (Fin.ext ?_)
  blk_simp [idx t0_7]

end Cert.HqIdeal.Arr

end
-- ==== Proof.HqRef.lean ====
/- What the reference of the gradient through the queries' norm computes, read at an index. -/
module

public import proofs.«01_k».proof.Proof.Gen.HqRefIdeal.Read
public import proofs.«01_k».proof.Proof.HqMath
public import Idealize.ShloMosaic.Lib.Pointwise

@[expose] public section

set_option maxRecDepth 16384

noncomputable section

namespace Cert.HqRefIdeal.At

open Cert.HqRefIdeal Cert.HqRefIdeal.Gen Cert.HqRefIdeal.Read Cert.NormMath Idealize.ShloMosaic Idealize.ShloMosaic.TcCoe Idealize.SL.Sem

variable (a : S4096x1024.Idx → EReal) (w : S1024x1024.Idx → EReal) (x : Tok.Idx → EReal) (g : Vec0.Idx → EReal) (dx : Tok.Idx → EReal)

/-- The mean square. -/
theorem v6_at (t : Fin 4096) : val_main_v6 (F := Ideal) x (ix2 t 0) = ms (row x t) := by
  pointwise [val_main_v6, val_main_v5, val_main_v4, val_main_v3, val_main_v2, val_main_v1, val_main_v0, val_main_cst, val_main_cst_0, val_main_cst_1]
  rfl

/-- The factor of the norm. -/
theorem v7_at (t : Fin 4096) : val_main_v7 (F := Ideal) x (ix2 t 0) = rs (row x t) := by
  unfold val_main_v7
  have e := v6_at x t
  generalize val_main_v6 (F := Ideal) x = y at e ⊢
  pointwise
  rw [e]
  rfl

/-- The derivative of the factor. -/
theorem v10_at (t : Fin 4096) : val_main_v10 (F := Ideal) x (ix2 t 0) = mhalf * Ideal.div (rs (row x t)) (ms (row x t)) := by
  unfold val_main_v10 val_main_v9 val_main_v8 val_main_cst_2
  have e := v6_at x t
  have f := v7_at x t
  generalize val_main_v6 (F := Ideal) x = y at e ⊢
  generalize val_main_v7 (F := Ideal) x = z at f ⊢
  pointwise
  rw [e, f]

/-- The normed token before its gain. -/
theorem v12_at (t : Fin 4096) (j : Fin 1024) : val_main_v12 (F := Ideal) x (ix2 t j) = row x t j * rs (row x t) := by
  unfold val_main_v12 val_main_v11
  have f := v7_at x t
  generalize val_main_v7 (F := Ideal) x = z at f ⊢
  pointwise
  rw [f]
  rfl

/-- The gradient of the normed tokens. -/
theorem v18_at (t : Fin 4096) (j : Fin 1024) : val_main_v18 (F := Ideal) a w (ix2 t j) = prod a w t j := by
  pointwise [val_main_v18, val_main_v17]
  rfl

/-- … times the gain. -/
theorem v23_at (t : Fin 4096) (j : Fin 1024) : val_main_v23 (F := Ideal) a w g (ix2 t j) = prod a w t j * gain g j := by
  unfold val_main_v23 val_main_v22 val_main_v13
  have f := v18_at a w t j
  generalize val_main_v18 (F := Ideal) a w = z at f ⊢
  pointwise
  rw [f]
  rfl

/-- The part through the mean square. -/
theorem v34_at (t : Fin 4096) : val_main_v34 (F := Ideal) a w x g (ix1 t) = thru (prod a w t) (gain g) (row x t) := by
  unfold val_main_v34 val_main_v33 val_main_v32 val_main_v31 val_main_v27 val_main_v26 val_main_v25 val_main_cst_5 val_main_cst_6 val_main_cst_7
  have e := v10_at x t
  have f := v23_at a w g t
  generalize val_main_v10 (F := Ideal) x = y at e ⊢
  generalize val_main_v23 (F := Ideal) a w g = z at f ⊢
  pointwise
  simp only [Finset.univ_unique, Finset.sum_singleton, Fin.default_eq_zero, e, f]
  rfl

/-- The gradients of the tokens. -/
theorem v39_at (t : Fin 4096) (j : Fin 1024) :
    val_main_v39 (F := Ideal) a w x g dx (ix2 t j) = backRef (prod a w t) (gain g) (row x t) (row dx t) j := by
  unfold val_main_v39 val_main_v38 val_main_v37 val_main_v36 val_main_v35 val_main_v30 val_main_v29 val_main_v28
  have e := v7_at x t
  have f := v23_at a w g t j
  have k := v34_at a w x g t
  generalize val_main_v7 (F := Ideal) x = y at e ⊢
  generalize val_main_v23 (F := Ideal) a w g = z at f ⊢
  generalize val_main_v34 (F := Ideal) a w x g = u at k ⊢
  pointwise
  rw [e, f, k]
  rfl

/-- The reference's first result is the gradients of the tokens. -/
theorem v39_eq : val_main_v39 (F := Ideal) a w x g dx = DX (prod a w) g x dx := by
  funext i
  idx_vars i
  rw [v39_at, backRef_eq]
  rfl

/-- The reference's second result is the same, rounded in the last step. -/
theorem v40_eq : val_main_v40 (F := Ideal) a w x g dx = DX (prod a w) g x dx := by
  rw [← v39_eq]
  unfold val_main_v40
  generalize val_main_v39 (F := Ideal) a w x g dx = y
  funext i
  pointwise

/-- The reference's third result is the gradient of the gain. -/
theorem v41_eq : val_main_v41 (F := Ideal) a w x = DG (prod a w) x := by
  funext i
  unfold val_main_v41 val_main_v24 val_main_v21 val_main_v20 val_main_v19 val_main_cst_3 val_main_cst_4
  have e := v12_at x
  have f := v18_at a w
  generalize val_main_v12 (F := Ideal) x = y at e ⊢
  generalize val_main_v18 (F := Ideal) a w = z at f ⊢
  idx_vars i
  pointwise
  simp only [Finset.univ_unique, Finset.sum_singleton, Fin.default_eq_zero, e, f]
  refine Finset.sum_congr rfl fun t _ => mul_comm _ _

end Cert.HqRefIdeal.At

end
-- ==== Proof.HqClaim.lean ====
/- The claims of the gradient through the queries' norm: the reference's frame, and that kernel and reference leave equal results. -/
module

public import proofs.«01_k».proof.Defs
public import proofs.«01_k».proof.Proof.HqArray
public import proofs.«01_k».proof.Proof.HqRef
public import Idealize.ShloMosaic.Lib.Quiescent

@[expose] public section

set_option maxRecDepth 16384

noncomputable section

namespace Cert.HqEq

open Idealize.ShloMosaic Idealize.ShloMosaic.TcCoe Idealize.SL.Sem Cert.NormMath

/-- The reference's frame. -/
theorem frame_ref : Cert.quiescent_HqRefIdeal (hHqRefIdeal := Cert.HqRefIdeal.Gen.facts) := fun m ρ _ =>
  (θ_run HqRefIdeal.defs _ _).mono (fun r h => ⟨fun c => (h c).2.2.2, sem_eq_zero_of_no_sems (by decide) r.2⟩)
    (HqRefIdeal.Value.run (F := Ideal) m ρ)

/-- Kernel and reference, from equal arguments, leave equal gradients of the tokens, twice, and of the gain. -/
theorem algebraic : Cert.algebraic_HqIdeal_HqRefIdeal (hHqIdeal := Cert.HqIdeal.Gen.facts)
    (hHqRefIdeal := Cert.HqRefIdeal.Gen.facts) := by
  intro m ρ m' ρ' hpre hagree
  refine ⟨fun c => DX (prod (HqIdeal.Arr.A m c) (HqIdeal.Arr.W m c)) (HqIdeal.Arr.G m c) (HqIdeal.Arr.X m c) (HqIdeal.Arr.R m c),
    fun c => DX (prod (HqIdeal.Arr.A m c) (HqIdeal.Arr.W m c)) (HqIdeal.Arr.G m c) (HqIdeal.Arr.X m c) (HqIdeal.Arr.R m c),
    fun c => DG (prod (HqIdeal.Arr.A m c) (HqIdeal.Arr.W m c)) (HqIdeal.Arr.X m c), ?_, ?_⟩
  · exact (θ_run HqIdeal.defs _ _).mono (fun r h c => ⟨(h c).1.trans (HqIdeal.Arr.dx_arr m c), (h c).2.1.trans (HqIdeal.Arr.dxb_arr m c),
      (h c).2.2.1.trans (HqIdeal.Arr.dg_arr m c), (h c).2.2.2⟩) (HqIdeal.Value.run_blocks (F := Ideal) m ρ)
  · refine (θ_run HqRefIdeal.defs _ _).mono (fun r h c => ?_) (HqRefIdeal.Value.run (F := Ideal) m' ρ')
    obtain ⟨e0, e1, e2, e3, e4⟩ := hagree c
    refine ⟨(h c).1.trans ?_, (h c).2.1.trans ?_, (h c).2.2.1.trans ?_, (h c).2.2.2⟩
    · rw [HqRefIdeal.Read.val_main_v39_eq, e0, e1, e2, e3, e4]
      exact HqRefIdeal.At.v39_eq _ _ _ _ _
    · rw [HqRefIdeal.Read.val_main_v40_eq, e0, e1, e2, e3, e4]
      exact HqRefIdeal.At.v40_eq _ _ _ _ _
    · rw [HqRefIdeal.Read.val_main_v41_eq, e0, e1, e2]
      exact HqRefIdeal.At.v41_eq _ _ _

end Cert.HqEq

end
-- ==== Proof.MixArray.lean ====
/- What the kernel of the gradient through the mixing norm leaves in its arrays: two grid points for each block of tokens, the first of which
   keeps its half of the product in the scratch. -/
module

public import proofs.«01_k».proof.Proof.Gen.MixIdeal.Value
public import proofs.«01_k».proof.Proof.HqMath
public import Idealize.ShloMosaic.Lib.Pipeline.ValueKit
public import Idealize.ShloMosaic.Lib.Pipeline.ReadBack

@[expose] public section

set_option maxRecDepth 16384

noncomputable section

namespace Cert.MixIdeal.Arr

open Cert.MixIdeal Cert.MixIdeal.Gen Cert.NormMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val / 2, t.val % 2] ∧ win0_1.index t = ![t.val % 2, 0] ∧ win0_2.index t = ![t.val / 2, 0] ∧ win0_3.index t = ![0, 0] ∧
    win0_4.index t = ![t.val / 2, 0] ∧ win0_5.index t = ![t.val / 2, 0] ∧ win0_6.index t = ![t.val / 2, 0] ∧ win0_7.index t = ![0, 0] := by
  decide +kernel

/-- How many grid points there are. -/
theorem ptLt (t : Fin cfg0.N) : t.val < 16 := t.isLt

/-- Token `x` of block `b`. -/
abbrev tk (b : ℕ) (hb : b < 8) (x : Fin 512) : Fin 4096 := ⟨b * 512 + x.val, by omega⟩
/-- Channel `y` of half `h`. -/
abbrev ch (h : ℕ) (hh : h < 2) (y : Fin 1792) : Fin 3584 := ⟨h * 1792 + y.val, by omega⟩
/-- The block of tokens is one of those there are. -/
theorem hb (t : Fin cfg0.N) : t.val / 2 < 8 := by
  have := ptLt t
  omega
/-- The half is one of the two. -/
theorem hh (t : Fin cfg0.N) : t.val % 2 < 2 := Nat.mod_lt _ (by decide)

/-- The gradients of the projections. -/
abbrev A (c : Dev nD) : S4096x3584.Idx → EReal := m ((c : Thread nD τ).loc main_arg0)
/-- The projections' weights. -/
abbrev W (c : Dev nD) : S1024x3584.Idx → EReal := m ((c : Thread nD τ).loc main_arg1)
/-- The tokens before the norm. -/
abbrev X (c : Dev nD) : Tok.Idx → EReal := m ((c : Thread nD τ).loc main_arg2)
/-- The norm's gain. -/
abbrev G (c : Dev nD) : Vec0.Idx → EReal := m ((c : Thread nD τ).loc main_arg3)
/-- The gradients beside the residual path. -/
abbrev R (c : Dev nD) : Tok.Idx → EReal := m ((c : Thread nD τ).loc main_arg4)

/-- The block of the projections' gradients. -/
theorem blk0 (c : Dev nD) (t : Fin cfg0.N) (x : Fin 512) (y : Fin 1792) :
    iblk m c 0 t (ix2 x y) = A m c (ix2 (tk (t.val / 2) (hb t) x) (ch (t.val % 2) (hh t) y)) := by
  blk_ext [iblk, V, idx t]

/-- The block of weights. -/
theorem blk1 (c : Dev nD) (t : Fin cfg0.N) (x : Fin 1792) (y : Fin 1024) :
    iblk m c 1 t (ix2 x y) = W m c (ix2 y (ch (t.val % 2) (hh t) x)) := by
  blk_simp [iblk, V, idx t]
  entry_read
  pointwise
  refine congrArg (W m c) ?_
  blk_ext [idx t]

/-- The block of tokens. -/
theorem blk2 (c : Dev nD) (t : Fin cfg0.N) (x : Fin 512) (y : Fin 1024) :
    iblk m c 2 t (ix2 x y) = row (X m c) (tk (t.val / 2) (hb t) x) y := by
  unfold row
  blk_ext [iblk, V, idx t]

/-- The gain. -/
theorem blk3 (c : Dev nD) (t : Fin cfg0.N) (x : Fin 1) (y : Fin 1024) : iblk m c 3 t (ix2 x y) = gain (G m c) y := by
  unfold gain
  blk_simp [iblk, V, idx t]
  entry_read
  pointwise
  refine congrArg (G m c) (congrArg ix1 (Fin.ext ?_))
  blk_simp [idx t]

/-- The block of the residual path's gradients. -/
theorem blk4 (c : Dev nD) (t : Fin cfg0.N) (x : Fin 512) (y : Fin 1024) :
    iblk m c 4 t (ix2 x y) = row (R m c) (tk (t.val / 2) (hb t) x) y := by
  unfold row
  blk_ext [iblk, V, idx t]

/-- The product of a half of the channels. -/
def half (c : Dev nD) (h : ℕ) (hh : h < 2) (t : Fin 4096) (j : Fin 1024) : EReal :=
  ∑ n : Fin 1792, A m c (ix2 t (ch h hh n)) * W m c (ix2 j (ch h hh n))

/-- The two halves make the product. -/
theorem halves (c : Dev nD) (t : Fin 4096) (j : Fin 1024) :
    half m c 0 (by decide) t j + half m c 1 (by decide) t j = prod (A m c) (W m c) t j := by
  unfold prod
  refine Eq.trans ?_ (Fin.sum_mul_add_congr (S := 2) (n := 1792) (F := fun s n => A m c (ix2 t (ch s.val s.isLt n)) * W m c (ix2 j (ch s.val s.isLt n)))
    (fun s k hl => rfl))
  rw [Fin.sum_univ_two]
  rfl

/-- What a point multiplies. -/
theorem pay1_at (c : Dev nD) (t : Fin cfg0.N) (x : Fin 512) (y : Fin 1024) :
    k0_pay1 (F := Ideal) (iblk m c 0 t) (iblk m c 1 t) (ix2 x y) = half m c (t.val % 2) (hh t) (tk (t.val / 2) (hb t) x) y := by
  pointwise [Gen.k0_pay1]
  simp only [blk0, blk1]
  rfl

/-- What a block computes of the tokens' gradients, from the two halves of the product. -/
theorem pay8_at (v3 v15 v17 : Vec Ideal S512x1024 .f32) (v28 : Vec Ideal S1x1024 .f32) (v42 : Vec Ideal S512x1024 .f32) (x : Fin 512) (y : Fin 1024) :
    k0_pay8 (F := Ideal) v3 v15 v17 v28 v42 (ix2 x y)
      = back (fun j => v15 (ix2 x j) + v3 (ix2 x j)) (fun j => v28 (ix2 0 j)) (fun j => v17 (ix2 x j)) (fun j => v42 (ix2 x j)) y := by
  pointwise [Gen.k0_pay8, Gen.k0_pay7, Gen.k0_pay6, Gen.k0_pay5]
  rfl

/-- What a block computes of the gain's gradient. -/
theorem pay10_at (v3 v15 v17 : Vec Ideal S512x1024 .f32) (x : Fin 1) (y : Fin 1024) :
    k0_pay10 (F := Ideal) v3 v15 v17 (ix2 x y)
      = ∑ k : Fin 512, (v15 (ix2 k y) + v3 (ix2 k y)) * (v17 (ix2 k y) * rs fun j => v17 (ix2 k j)) := by
  pointwise [Gen.k0_pay10, Gen.k0_pay7, Gen.k0_pay6, Gen.k0_pay5]
  rfl

/-- What the first point of a block leaves in the scratch. -/
theorem scr (c : Dev nD) (t : Fin cfg0.N) (h0 : t.val % 2 = 0) :
    (outsAt0 m c t.val t.isLt).2.2.2 = k0_pay1 (F := Ideal) (iblk m c 0 t) (iblk m c 1 t) := by
  rw [Gen.outsAt0_A m c t h0 (by omega)]
  funext i
  frame_out
  idx_vars i
  pointwise [Gen.k0_pay2]

/-- The point before. -/
abbrev pre (t : Fin cfg0.N) : Fin cfg0.N := ⟨t.val - 1, Nat.lt_of_le_of_lt (Nat.sub_le _ _) t.isLt⟩

/-- The product of the second point and what the first left make the product of the block. -/
theorem whole (c : Dev nD) (t : Fin cfg0.N) (h : t.val % 2 = 1) (x : Fin 512) (y : Fin 1024) :
    (outsAt0 m c (t.val - 1) (Nat.lt_of_le_of_lt (Nat.sub_le _ _) t.isLt)).2.2.2 (ix2 x y)
      + k0_pay1 (F := Ideal) (iblk m c 0 t) (iblk m c 1 t) (ix2 x y) = prod (A m c) (W m c) (tk (t.val / 2) (hb t) x) y := by
  have e := scr m c (pre t) (show (t.val - 1) % 2 = 0 by omega)
  rw [show (outsAt0 m c (t.val - 1) (Nat.lt_of_le_of_lt (Nat.sub_le _ _) t.isLt)).2.2.2 = _ from e, pay1_at, pay1_at, ← halves]
  have h1 : (pre t).val % 2 = 0 := by
    show (t.val - 1) % 2 = 0
    omega
  have h2 : (pre t).val / 2 = t.val / 2 := by
    show (t.val - 1) / 2 = _
    omega
  simp only [h, h1, h2]

/-- What the second point of a block computes of the tokens' gradients. -/
theorem dx_at (c : Dev nD) (t : Fin cfg0.N) (h : t.val % 2 = 1) (x : Fin 512) (y : Fin 1024) :
    k0_pay8 (F := Ideal) (k0_pay1 (iblk m c 0 t) (iblk m c 1 t))
        (outsAt0 m c (t.val - 1) (Nat.lt_of_le_of_lt (Nat.sub_le _ _) t.isLt)).2.2.2 (iblk m c 2 t) (iblk m c 3 t) (iblk m c 4 t) (ix2 x y)
      = back (prod (A m c) (W m c) (tk (t.val / 2) (hb t) x)) (gain (G m c)) (row (X m c) (tk (t.val / 2) (hb t) x))
          (row (R m c) (tk (t.val / 2) (hb t) x)) y := by
  rw [pay8_at]
  simp only [whole m c t h, blk2, blk3, blk4]

/-- … and of the gain's gradient. -/
theorem dg_at (c : Dev nD) (t : Fin cfg0.N) (h : t.val % 2 = 1) (x : Fin 1) (y : Fin 1024) :
    k0_pay10 (F := Ideal) (k0_pay1 (iblk m c 0 t) (iblk m c 1 t))
        (outsAt0 m c (t.val - 1) (Nat.lt_of_le_of_lt (Nat.sub_le _ _) t.isLt)).2.2.2 (iblk m c 2 t) (ix2 x y)
      = ∑ k : Fin 512, gainPart (prod (A m c) (W m c)) (X m c) (tk (t.val / 2) (hb t) k) y := by
  rw [pay10_at]
  simp only [whole m c t h, blk2]
  rfl

/-- After the run the first array holds the gradients of the tokens. -/
theorem dx_arr (c : Dev nD) : (dats m 0 c).arrAt 5 cfg0.N = DX (prod (A m c) (W m c)) (G m c) (X m c) (R m c) := by
  refine (dats m 0 c).arrAt_eq_of_covers 5 _ (by decide +kernel) fun t hf y => ?_
  have h := (flush0_5 t).mp hf
  blk_simp
  rw [after0_5]
  idx_vars y
  rw [DX_at _ _ _ _ (t.val / 2 * 512 + y0.val) (tk (t.val / 2) (hb t) y0).isLt y1 _ (by blk_simp [idx t]) (by blk_simp [idx t]), ← dx_at m c t h]
  by_cases h0 : t.val < 2
  · rw [Gen.outsAt0_B m c t (by omega) h h0 (by omega)]
    frame_out
    simp only [read_unread_whole]
  · rw [Gen.outsAt0_C m c t (by omega) h h0 (by omega)]
    frame_out
    simp only [read_unread_whole]

/-- … the second the same. -/
theorem dxb_arr (c : Dev nD) : (dats m 0 c).arrAt 6 cfg0.N = DX (prod (A m c) (W m c)) (G m c) (X m c) (R m c) := by
  refine (dats m 0 c).arrAt_eq_of_covers 6 _ (by decide +kernel) fun t hf y => ?_
  have h := (flush0_6 t).mp hf
  blk_simp
  rw [after0_6]
  idx_vars y
  rw [DX_at _ _ _ _ (t.val / 2 * 512 + y0.val) (tk (t.val / 2) (hb t) y0).isLt y1 _ (by blk_simp [idx t]) (by blk_simp [idx t]), ← dx_at m c t h]
  by_cases h0 : t.val < 2
  · rw [Gen.outsAt0_B m c t (by omega) h h0 (by omega)]
    frame_out
    simp only [read_unread_whole]
    pointwise [Gen.k0_pay9]
  · rw [Gen.outsAt0_C m c t (by omega) h h0 (by omega)]
    frame_out
    simp only [read_unread_whole]
    pointwise [Gen.k0_pay9]

/-- The first point of a block keeps the gain's gradient. -/
theorem keep (c : Dev nD) (t : Fin cfg0.N) (h : t.val % 2 = 0) (i : S1x1024.Idx) :
    (outsAt0 m c t.val t.isLt).2.2.1 i = (outsAt0 m c (t.val - 1) (Nat.lt_of_le_of_lt (Nat.sub_le _ _) t.isLt)).2.2.1 i := by
  rw [Gen.outsAt0_A m c t h (by omega)]
  dsimp only [out0_A_7]

/-- What block `b` adds to the gain's gradient. -/
def part (c : Dev nD) (b : Fin 8) (i : S1x1024.Idx) : EReal :=
  ∑ k : Fin 512, gainPart (prod (A m c) (W m c)) (X m c) (tk b.val b.isLt k) (i 1)

/-- The second point of the first block starts it. -/
theorem start (c : Dev nD) (t : Fin cfg0.N) (h : t.val % 2 = 1) (h0 : t.val < 2) (i : S1x1024.Idx) :
    (outsAt0 m c t.val t.isLt).2.2.1 i = part m c ⟨t.val / 2, hb t⟩ i := by
  idx_vars i
  refine Eq.trans ?_ (dg_at m c t h i0 i1)
  rw [Gen.outsAt0_B m c t (by omega) h h0 (by omega)]
  frame_out
  simp only [read_unread_whole]

/-- The second point of a further block adds to it. -/
theorem step (c : Dev nD) (t : Fin cfg0.N) (h : t.val % 2 = 1) (h0 : ¬t.val < 2) (i : S1x1024.Idx) :
    (outsAt0 m c t.val t.isLt).2.2.1 i
      = (outsAt0 m c (t.val - 1) (Nat.lt_of_le_of_lt (Nat.sub_le _ _) t.isLt)).2.2.1 i + part m c ⟨t.val / 2, hb t⟩ i := by
  idx_vars i
  refine Eq.trans ?_ (congrArg _ (dg_at m c t h i0 i1))
  rw [Gen.outsAt0_C m c t (by omega) h h0 (by omega)]
  frame_out
  simp only [read_unread_whole]
  pointwise [Gen.k0_pay4]

/-- What the gain's gradient is after block `b`. -/
def acc (c : Dev nD) (b : ℕ) (hb : b < 8) : Vec Ideal S1x1024 .f32 := (outsAt0 m c (2 * b + 1) (show _ < 16 by omega)).2.2.1

/-- The accumulator after the first block is that block's part. -/
theorem acc_start (c : Dev nD) (b : Fin 8) (h0 : b.val % 8 = 0) (i : S1x1024.Idx) : acc m c b.val b.isLt i = 0 + part m c b i := by
  rw [zero_add]
  unfold acc
  refine (start m c ⟨2 * b.val + 1, show _ < 16 by omega⟩ (show (2 * b.val + 1) % 2 = 1 by omega) (show 2 * b.val + 1 < 2 by omega) i).trans ?_
  exact congrArg (fun b => part m c b i) (Fin.ext (show (2 * b.val + 1) / 2 = b.val by omega))

/-- The accumulator after a later block is the one before and the block's part. -/
theorem acc_step (c : Dev nD) (b : Fin 8) (h0 : ¬b.val % 8 = 0) (i : S1x1024.Idx) :
    acc m c b.val b.isLt i = acc m c (b.val - 1) (Nat.lt_of_le_of_lt (Nat.sub_le _ _) b.isLt) i + part m c b i := by
  unfold acc
  refine (step m c ⟨2 * b.val + 1, show _ < 16 by omega⟩ (show (2 * b.val + 1) % 2 = 1 by omega) (show ¬2 * b.val + 1 < 2 by omega) i).trans ?_
  refine congrArg₂ (· + ·) ?_ (congrArg (fun b => part m c b i) (Fin.ext (show (2 * b.val + 1) / 2 = b.val by omega)))
  refine (keep m c ⟨2 * b.val, show _ < 16 by omega⟩ (show (2 * b.val) % 2 = 0 by omega) i).trans ?_
  have e : 2 * b.val - 1 = 2 * (b.val - 1) + 1 := by omega
  simp only [e]

/-- After the run the third array holds the gradient of the gain. -/
theorem dg_arr (c : Dev nD) : (dats m 0 c).arrAt 7 cfg0.N = DG (prod (A m c) (W m c)) (X m c) := by
  refine (dats m 0 c).arrAt_eq_of_after_last 7 t0_15 (by decide +kernel) _ fun j => ?_
  blk_simp
  rw [after0_7]
  refine (Pipeline.eq_sum_fin_of_reset_step_apply_last (acc m c) 8 (fun _ => 0) (part m c) (acc_start m c) (acc_step m c) (by decide) 7 rfl j).trans ?_
  idx_vars j
  rw [zero_add]
  unfold part
  refine (Fin.sum_mul_add_congr (S := 8) (n := 512) (f := fun l : Fin 4096 => gainPart (prod (A m c) (W m c)) (X m c) l j1)
    (fun s k hl => rfl)).trans ?_
  unfold DG
  refine Finset.sum_congr rfl fun l _ => congrArg _ (Fin.ext ?_)
  blk_simp [idx t0_15]

end Cert.MixIdeal.Arr

end
-- ==== Proof.MixRef.lean ====
/- What the reference of the gradient through the mixing norm computes, read at an index. -/
module

public import proofs.«01_k».proof.Proof.Gen.MixRefIdeal.Read
public import proofs.«01_k».proof.Proof.HqMath
public import Idealize.ShloMosaic.Lib.Pointwise

@[expose] public section

set_option maxRecDepth 16384

noncomputable section

namespace Cert.MixRefIdeal.At

open Cert.MixRefIdeal Cert.MixRefIdeal.Gen Cert.MixRefIdeal.Read Cert.NormMath Idealize.ShloMosaic Idealize.ShloMosaic.TcCoe Idealize.SL.Sem

variable (a : S4096x3584.Idx → EReal) (w : S1024x3584.Idx → EReal) (x : Tok.Idx → EReal) (g : Vec0.Idx → EReal) (dx : Tok.Idx → EReal)

/-- The mean square. -/
theorem v6_at (t : Fin 4096) : val_main_v6 (F := Ideal) x (ix2 t 0) = ms (row x t) := by
  pointwise [val_main_v6, val_main_v5, val_main_v4, val_main_v3, val_main_v2, val_main_v1, val_main_v0, val_main_cst, val_main_cst_0, val_main_cst_1]
  rfl

/-- The factor of the norm. -/
theorem v7_at (t : Fin 4096) : val_main_v7 (F := Ideal) x (ix2 t 0) = rs (row x t) := by
  unfold val_main_v7
  have e := v6_at x t
  generalize val_main_v6 (F := Ideal) x = y at e ⊢
  pointwise
  rw [e]
  rfl

/-- The derivative of the factor. -/
theorem v10_at (t : Fin 4096) : val_main_v10 (F := Ideal) x (ix2 t 0) = mhalf * Ideal.div (rs (row x t)) (ms (row x t)) := by
  unfold val_main_v10 val_main_v9 val_main_v8 val_main_cst_2
  have e := v6_at x t
  have f := v7_at x t
  generalize val_main_v6 (F := Ideal) x = y at e ⊢
  generalize val_main_v7 (F := Ideal) x = z at f ⊢
  pointwise
  rw [e, f]

/-- The normed token before its gain. -/
theorem v12_at (t : Fin 4096) (j : Fin 1024) : val_main_v12 (F := Ideal) x (ix2 t j) = row x t j * rs (row x t) := by
  unfold val_main_v12 val_main_v11
  have f := v7_at x t
  generalize val_main_v7 (F := Ideal) x = z at f ⊢
  pointwise
  rw [f]
  rfl

/-- The gradient of the normed tokens. -/
theorem v18_at (t : Fin 4096) (j : Fin 1024) : val_main_v18 (F := Ideal) a w (ix2 t j) = prod a w t j := by
  pointwise [val_main_v18, val_main_v17]
  rfl

/-- … times the gain. -/
theorem v23_at (t : Fin 4096) (j : Fin 1024) : val_main_v23 (F := Ideal) a w g (ix2 t j) = prod a w t j * gain g j := by
  unfold val_main_v23 val_main_v22 val_main_v13
  have f := v18_at a w t j
  generalize val_main_v18 (F := Ideal) a w = z at f ⊢
  pointwise
  rw [f]
  rfl

/-- The part through the mean square. -/
theorem v34_at (t : Fin 4096) : val_main_v34 (F := Ideal) a w x g (ix1 t) = thru (prod a w t) (gain g) (row x t) := by
  unfold val_main_v34 val_main_v33 val_main_v32 val_main_v31 val_main_v27 val_main_v26 val_main_v25 val_main_cst_5 val_main_cst_6 val_main_cst_7
  have e := v10_at x t
  have f := v23_at a w g t
  generalize val_main_v10 (F := Ideal) x = y at e ⊢
  generalize val_main_v23 (F := Ideal) a w g = z at f ⊢
  pointwise
  simp only [Finset.univ_unique, Finset.sum_singleton, Fin.default_eq_zero, e, f]
  rfl

/-- The gradients of the tokens. -/
theorem v39_at (t : Fin 4096) (j : Fin 1024) :
    val_main_v39 (F := Ideal) a w x g dx (ix2 t j) = backRef (prod a w t) (gain g) (row x t) (row dx t) j := by
  unfold val_main_v39 val_main_v38 val_main_v37 val_main_v36 val_main_v35 val_main_v30 val_main_v29 val_main_v28
  have e := v7_at x t
  have f := v23_at a w g t j
  have k := v34_at a w x g t
  generalize val_main_v7 (F := Ideal) x = y at e ⊢
  generalize val_main_v23 (F := Ideal) a w g = z at f ⊢
  generalize val_main_v34 (F := Ideal) a w x g = u at k ⊢
  pointwise
  rw [e, f, k]
  rfl

/-- The reference's first result is the gradients of the tokens. -/
theorem v39_eq : val_main_v39 (F := Ideal) a w x g dx = DX (prod a w) g x dx := by
  funext i
  idx_vars i
  rw [v39_at, backRef_eq]
  rfl

/-- The reference's second result is the same, rounded in the last step. -/
theorem v40_eq : val_main_v40 (F := Ideal) a w x g dx = DX (prod a w) g x dx := by
  rw [← v39_eq]
  unfold val_main_v40
  generalize val_main_v39 (F := Ideal) a w x g dx = y
  funext i
  pointwise

/-- The reference's third result is the gradient of the gain. -/
theorem v41_eq : val_main_v41 (F := Ideal) a w x = DG (prod a w) x := by
  funext i
  unfold val_main_v41 val_main_v24 val_main_v21 val_main_v20 val_main_v19 val_main_cst_3 val_main_cst_4
  have e := v12_at x
  have f := v18_at a w
  generalize val_main_v12 (F := Ideal) x = y at e ⊢
  generalize val_main_v18 (F := Ideal) a w = z at f ⊢
  idx_vars i
  pointwise
  simp only [Finset.univ_unique, Finset.sum_singleton, Fin.default_eq_zero, e, f]
  refine Finset.sum_congr rfl fun t _ => mul_comm _ _

end Cert.MixRefIdeal.At

end
-- ==== Proof.MixClaim.lean ====
/- The claims of the gradient through the mixing norm: the reference's frame, and that kernel and reference leave equal results. -/
module

public import proofs.«01_k».proof.Defs
public import proofs.«01_k».proof.Proof.MixArray
public import proofs.«01_k».proof.Proof.MixRef
public import Idealize.ShloMosaic.Lib.Quiescent

@[expose] public section

set_option maxRecDepth 16384

noncomputable section

namespace Cert.MixEq

open Idealize.ShloMosaic Idealize.ShloMosaic.TcCoe Idealize.SL.Sem Cert.NormMath

/-- The reference's frame. -/
theorem frame_ref : Cert.quiescent_MixRefIdeal (hMixRefIdeal := Cert.MixRefIdeal.Gen.facts) := fun m ρ _ =>
  (θ_run MixRefIdeal.defs _ _).mono (fun r h => ⟨fun c => (h c).2.2.2, sem_eq_zero_of_no_sems (by decide) r.2⟩)
    (MixRefIdeal.Value.run (F := Ideal) m ρ)

/-- Kernel and reference, from equal arguments, leave equal gradients of the tokens, twice, and of the gain. -/
theorem algebraic : Cert.algebraic_MixIdeal_MixRefIdeal (hMixIdeal := Cert.MixIdeal.Gen.facts)
    (hMixRefIdeal := Cert.MixRefIdeal.Gen.facts) := by
  intro m ρ m' ρ' hpre hagree
  refine ⟨fun c => DX (prod (MixIdeal.Arr.A m c) (MixIdeal.Arr.W m c)) (MixIdeal.Arr.G m c) (MixIdeal.Arr.X m c) (MixIdeal.Arr.R m c),
    fun c => DX (prod (MixIdeal.Arr.A m c) (MixIdeal.Arr.W m c)) (MixIdeal.Arr.G m c) (MixIdeal.Arr.X m c) (MixIdeal.Arr.R m c),
    fun c => DG (prod (MixIdeal.Arr.A m c) (MixIdeal.Arr.W m c)) (MixIdeal.Arr.X m c), ?_, ?_⟩
  · exact (θ_run MixIdeal.defs _ _).mono (fun r h c => ⟨(h c).1.trans (MixIdeal.Arr.dx_arr m c), (h c).2.1.trans (MixIdeal.Arr.dxb_arr m c),
      (h c).2.2.1.trans (MixIdeal.Arr.dg_arr m c), (h c).2.2.2⟩) (MixIdeal.Value.run_blocks (F := Ideal) m ρ)
  · refine (θ_run MixRefIdeal.defs _ _).mono (fun r h c => ?_) (MixRefIdeal.Value.run (F := Ideal) m' ρ')
    obtain ⟨e0, e1, e2, e3, e4⟩ := hagree c
    refine ⟨(h c).1.trans ?_, (h c).2.1.trans ?_, (h c).2.2.1.trans ?_, (h c).2.2.2⟩
    · rw [MixRefIdeal.Read.val_main_v39_eq, e0, e1, e2, e3, e4]
      exact MixRefIdeal.At.v39_eq _ _ _ _ _
    · rw [MixRefIdeal.Read.val_main_v40_eq, e0, e1, e2, e3, e4]
      exact MixRefIdeal.At.v40_eq _ _ _ _ _
    · rw [MixRefIdeal.Read.val_main_v41_eq, e0, e1, e2]
      exact MixRefIdeal.At.v41_eq _ _ _

end Cert.MixEq

end
-- ==== Proof.MergeMath.lean ====
/- The mathematics of the gated merge's gradients: what kernel and reference compute for every token and channel. -/
module

public import proofs.«01_k».proof.Proof.Real
public import Idealize.ShloMosaic.Lib.Pipeline.ValueKit

@[expose] public section

noncomputable section

namespace Cert.MergeMath

open Idealize.ShloMosaic

/-- One. -/
abbrev one : EReal := 1

/-- The logistic function. -/
def sg (x : EReal) : EReal := Ideal.div one (one + Ideal.exp (-x))

/-- The gradient of a gate, from the gradient `d` of what it lets through and the branch `y` it opens. -/
def gate (d y g : EReal) : EReal := d * y * sg g * (one - sg g)

/-- The derivative of the formula multiplies the logistic function's two factors first. -/
theorem gate_ref (d y g : EReal) : d * y * (sg g * (one - sg g)) = gate d y g := by
  unfold gate
  ac_rfl

/-- The projections: 3584 values a token. -/
abbrev Proj : Shape := ⟨2, ![4096, 3584]⟩
/-- An array of tokens. -/
abbrev Tok : Shape := ⟨2, ![4096, 1024]⟩
/-- A value a channel. -/
abbrev Chan : Shape := ⟨1, ![1024]⟩
/-- A value a channel, as a row. -/
abbrev Row : Shape := ⟨2, ![1, 1024]⟩

variable (p : Proj.Idx → EReal) (yc yp : Tok.Idx → EReal) (s : Chan.Idx → EReal) (dm : Tok.Idx → EReal)

/-- The gate of the convolution's branch. -/
abbrev gc (t : Fin 4096) (j : Fin 1024) : EReal := p (ix2 t ⟨1536 + j.val, by omega⟩)
/-- The gate of the pool's branch. -/
abbrev gp (t : Fin 4096) (j : Fin 1024) : EReal := p (ix2 t ⟨2560 + j.val, by omega⟩)

/-- The gradient of the first gate. -/
def DGC : Tok.Idx → EReal := fun i => gate (dm (ix2 (i 0) (i 1))) (yc (ix2 (i 0) (i 1))) (gc p (i 0) (i 1))
/-- … of the second. -/
def DGP : Tok.Idx → EReal := fun i => gate (dm (ix2 (i 0) (i 1))) (yp (ix2 (i 0) (i 1)) * s (ix1 (i 1))) (gp p (i 0) (i 1))
/-- The gradient of the convolution's branch. -/
def DYC : Tok.Idx → EReal := fun i => dm (ix2 (i 0) (i 1)) * sg (gc p (i 0) (i 1))
/-- … of the pool's branch. -/
def DYP : Tok.Idx → EReal := fun i => dm (ix2 (i 0) (i 1)) * sg (gp p (i 0) (i 1)) * s (ix1 (i 1))
/-- What one token adds to the gradient of the pool's scale. -/
def scalePart (t : Fin 4096) (j : Fin 1024) : EReal := dm (ix2 t j) * sg (gp p t j) * yp (ix2 t j)
/-- The gradient of the pool's scale. -/
def DS : Row.Idx → EReal := fun i => ∑ t : Fin 4096, scalePart p yp dm t (i 1)

/-- The arrays at an index that is known by its coordinates. -/
theorem DGC_at (a b : ℕ) (ha : a < 4096) (hb : b < 1024) (i : Tok.Idx) (h0 : (i 0).val = a) (h1 : (i 1).val = b) :
    DGC p yc dm i = gate (dm (ix2 ⟨a, ha⟩ ⟨b, hb⟩)) (yc (ix2 ⟨a, ha⟩ ⟨b, hb⟩)) (gc p ⟨a, ha⟩ ⟨b, hb⟩) := by
  subst h0 h1
  rfl
/-- The gradients of the pool's gate at an index with these coordinates. -/
theorem DGP_at (a b : ℕ) (ha : a < 4096) (hb : b < 1024) (i : Tok.Idx) (h0 : (i 0).val = a) (h1 : (i 1).val = b) :
    DGP p yp s dm i = gate (dm (ix2 ⟨a, ha⟩ ⟨b, hb⟩)) (yp (ix2 ⟨a, ha⟩ ⟨b, hb⟩) * s (ix1 ⟨b, hb⟩)) (gp p ⟨a, ha⟩ ⟨b, hb⟩) := by
  subst h0 h1
  rfl
/-- The gradients of the convolution's branch at such an index. -/
theorem DYC_at (a b : ℕ) (ha : a < 4096) (hb : b < 1024) (i : Tok.Idx) (h0 : (i 0).val = a) (h1 : (i 1).val = b) :
    DYC p dm i = dm (ix2 ⟨a, ha⟩ ⟨b, hb⟩) * sg (gc p ⟨a, ha⟩ ⟨b, hb⟩) := by
  subst h0 h1
  rfl
/-- The gradients of the pool's branch at such an index. -/
theorem DYP_at (a b : ℕ) (ha : a < 4096) (hb : b < 1024) (i : Tok.Idx) (h0 : (i 0).val = a) (h1 : (i 1).val = b) :
    DYP p s dm i = dm (ix2 ⟨a, ha⟩ ⟨b, hb⟩) * sg (gp p ⟨a, ha⟩ ⟨b, hb⟩) * s (ix1 ⟨b, hb⟩) := by
  subst h0 h1
  rfl
/-- The gradient of the scale at an index with this channel. -/
theorem DS_at (b : ℕ) (hb : b < 1024) (i : Row.Idx) (h1 : (i 1).val = b) :
    DS p yp dm i = ∑ t : Fin 4096, scalePart p yp dm t ⟨b, hb⟩ := by
  subst h1
  rfl

end Cert.MergeMath

end
-- ==== Proof.MergeArray.lean ====
/- What the kernel of the gated merge's gradients leaves in its arrays: a block of 1024 tokens and 512 channels at each of eight grid points. -/
module

public import proofs.«01_k».proof.Proof.Gen.MergeIdeal.Value
public import proofs.«01_k».proof.Proof.MergeMath
public import Idealize.ShloMosaic.Lib.Pipeline.ValueKit
public import Idealize.ShloMosaic.Lib.Pipeline.ReadBack

@[expose] public section

set_option maxRecDepth 16384

noncomputable section

namespace Cert.MergeIdeal.Arr

open Cert.MergeIdeal Cert.MergeIdeal.Gen Cert.MergeMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val % 4, 3 + t.val / 4] ∧ win0_1.index t = ![t.val % 4, 5 + t.val / 4] ∧ win0_2.index t = ![t.val % 4, t.val / 4] ∧
    win0_3.index t = ![t.val % 4, t.val / 4] ∧ win0_4.index t = ![0, t.val / 4] ∧ win0_5.index t = ![t.val % 4, t.val / 4] ∧
    win0_6.index t = ![t.val % 4, t.val / 4] ∧ win0_7.index t = ![t.val % 4, t.val / 4] ∧ win0_8.index t = ![t.val % 4, t.val / 4] ∧
    win0_9.index t = ![t.val % 4, t.val / 4] ∧ win0_10.index t = ![0, t.val / 4] := by
  decide +kernel

/-- How many grid points there are. -/
theorem ptLt (t : Fin cfg0.N) : t.val < 8 := t.isLt

/-- Token `x` of block `b`. -/
abbrev tk (b : ℕ) (hb : b < 4) (x : Fin 1024) : Fin 4096 := ⟨b * 1024 + x.val, by omega⟩
/-- Channel `y` of half `h`. -/
abbrev ch (h : ℕ) (hh : h < 2) (y : Fin 512) : Fin 1024 := ⟨h * 512 + y.val, by omega⟩
/-- The block of tokens is one of those there are. -/
theorem hb (t : Fin cfg0.N) : t.val % 4 < 4 := Nat.mod_lt _ (by decide)
/-- The half is one of the two. -/
theorem hh (t : Fin cfg0.N) : t.val / 4 < 2 := by
  have := ptLt t
  omega

/-- The projections. -/
abbrev P (c : Dev nD) : Proj.Idx → EReal := m ((c : Thread nD τ).loc main_arg0)
/-- The convolution's branch. -/
abbrev YC (c : Dev nD) : Tok.Idx → EReal := m ((c : Thread nD τ).loc main_arg1)
/-- The pool's branch. -/
abbrev YP (c : Dev nD) : Tok.Idx → EReal := m ((c : Thread nD τ).loc main_arg2)
/-- The pool's scale. -/
abbrev SC (c : Dev nD) : Chan.Idx → EReal := m ((c : Thread nD τ).loc main_arg3)
/-- The gradients of the merged tokens. -/
abbrev DM (c : Dev nD) : Tok.Idx → EReal := m ((c : Thread nD τ).loc main_arg4)

/-- The block of the first gate. -/
theorem blk0 (c : Dev nD) (t : Fin cfg0.N) (x : Fin 1024) (y : Fin 512) :
    iblk m c 0 t (ix2 x y) = gc (P m c) (tk (t.val % 4) (hb t) x) (ch (t.val / 4) (hh t) y) := by
  blk_ext [iblk, V, idx t]

/-- The block of the second gate. -/
theorem blk1 (c : Dev nD) (t : Fin cfg0.N) (x : Fin 1024) (y : Fin 512) :
    iblk m c 1 t (ix2 x y) = gp (P m c) (tk (t.val % 4) (hb t) x) (ch (t.val / 4) (hh t) y) := by
  blk_ext [iblk, V, idx t]

/-- The blocks of the two branches. -/
theorem blk2 (c : Dev nD) (t : Fin cfg0.N) (x : Fin 1024) (y : Fin 512) :
    iblk m c 2 t (ix2 x y) = YC m c (ix2 (tk (t.val % 4) (hb t) x) (ch (t.val / 4) (hh t) y)) := by
  blk_ext [iblk, V, idx t]
/-- The block of the second branch. -/
theorem blk3 (c : Dev nD) (t : Fin cfg0.N) (x : Fin 1024) (y : Fin 512) :
    iblk m c 3 t (ix2 x y) = YP m c (ix2 (tk (t.val % 4) (hb t) x) (ch (t.val / 4) (hh t) y)) := by
  blk_ext [iblk, V, idx t]

/-- The block of the scale. -/
theorem blk4 (c : Dev nD) (t : Fin cfg0.N) (x : Fin 1) (y : Fin 512) :
    iblk m c 4 t (ix2 x y) = SC m c (ix1 (ch (t.val / 4) (hh t) y)) := by
  blk_simp [iblk, V, idx t]
  entry_read
  pointwise
  refine congrArg (SC m c) (congrArg ix1 (Fin.ext ?_))
  blk_simp [idx t]

/-- The block of the gradients. -/
theorem blk5 (c : Dev nD) (t : Fin cfg0.N) (x : Fin 1024) (y : Fin 512) :
    iblk m c 5 t (ix2 x y) = DM m c (ix2 (tk (t.val % 4) (hb t) x) (ch (t.val / 4) (hh t) y)) := by
  blk_ext [iblk, V, idx t]

/-- The kernel writes the logistic function with a difference from zero. -/
theorem sg_eq (x : EReal) : Ideal.div one (one + Ideal.exp (Ideal.ofBits FTy.f32 0x00000000#32 - x)) = sg x := by
  unfold sg
  rw [show Ideal.ofBits FTy.f32 0x00000000#32 = 0 from by simp [Ideal.ofBits, Ideal.ieee], zero_sub]

/-- The gates opened. -/
theorem pay8_at (v : Vec Ideal S1024x512 .bf16) (i : S1024x512.Idx) : k0_pay8 (F := Ideal) v i = sg (v i) := by
  rw [← sg_eq]
  idx_vars i
  pointwise [Gen.k0_pay8]
/-- The gate is the sigmoid of what it is given. -/
theorem pay9_at (v : Vec Ideal S1024x512 .bf16) (i : S1024x512.Idx) : k0_pay9 (F := Ideal) v i = sg (v i) := by
  rw [← sg_eq]
  idx_vars i
  pointwise [Gen.k0_pay9]

/-- What a point computes of the first gate's gradient. -/
theorem dgc_at (c : Dev nD) (t : Fin cfg0.N) (x : Fin 1024) (y : Fin 512) :
    k0_pay12 (F := Ideal) (iblk m c 5 t) (iblk m c 0 t) (iblk m c 2 t) (ix2 x y)
      = gate (DM m c (ix2 (tk (t.val % 4) (hb t) x) (ch (t.val / 4) (hh t) y))) (YC m c (ix2 (tk (t.val % 4) (hb t) x) (ch (t.val / 4) (hh t) y)))
          (gc (P m c) (tk (t.val % 4) (hb t) x) (ch (t.val / 4) (hh t) y)) := by
  pointwise [Gen.k0_pay12, Gen.k0_pay7]
  simp only [pay8_at, blk0, blk2, blk5]
  rfl

/-- … of the second's. -/
theorem dgp_at (c : Dev nD) (t : Fin cfg0.N) (x : Fin 1024) (y : Fin 512) :
    k0_pay1 (F := Ideal) (k0_pay9 (iblk m c 1 t)) (k0_pay13 (iblk m c 5 t) (iblk m c 4 t) (iblk m c 3 t)) (ix2 x y)
      = gate (DM m c (ix2 (tk (t.val % 4) (hb t) x) (ch (t.val / 4) (hh t) y)))
          (YP m c (ix2 (tk (t.val % 4) (hb t) x) (ch (t.val / 4) (hh t) y)) * SC m c (ix1 (ch (t.val / 4) (hh t) y)))
          (gp (P m c) (tk (t.val % 4) (hb t) x) (ch (t.val / 4) (hh t) y)) := by
  pointwise [Gen.k0_pay1, Gen.k0_pay13, Gen.k0_pay11, Gen.k0_pay10, Gen.k0_pay7]
  simp only [pay9_at, blk1, blk3, blk4, blk5]
  rfl

/-- … of the convolution's branch. -/
theorem dyc_at (c : Dev nD) (t : Fin cfg0.N) (x : Fin 1024) (y : Fin 512) :
    k0_pay2 (F := Ideal) (k0_pay7 (iblk m c 5 t)) (k0_pay8 (iblk m c 0 t)) (ix2 x y)
      = DM m c (ix2 (tk (t.val % 4) (hb t) x) (ch (t.val / 4) (hh t) y)) * sg (gc (P m c) (tk (t.val % 4) (hb t) x) (ch (t.val / 4) (hh t) y)) := by
  pointwise [Gen.k0_pay2, Gen.k0_pay7]
  simp only [pay8_at, blk0, blk5]

/-- … of the pool's branch. -/
theorem dyp_at (c : Dev nD) (t : Fin cfg0.N) (x : Fin 1024) (y : Fin 512) :
    k0_pay4 (F := Ideal) (k0_pay7 (iblk m c 5 t)) (k0_pay9 (iblk m c 1 t)) (k0_pay10 (iblk m c 4 t)) (ix2 x y)
      = DM m c (ix2 (tk (t.val % 4) (hb t) x) (ch (t.val / 4) (hh t) y)) * sg (gp (P m c) (tk (t.val % 4) (hb t) x) (ch (t.val / 4) (hh t) y))
          * SC m c (ix1 (ch (t.val / 4) (hh t) y)) := by
  pointwise [Gen.k0_pay4, Gen.k0_pay3, Gen.k0_pay7, Gen.k0_pay10]
  simp only [pay9_at, blk1, blk4, blk5]

/-- … of the scale. -/
theorem ds_at (c : Dev nD) (t : Fin cfg0.N) (x : Fin 1) (y : Fin 512) :
    k0_pay5 (F := Ideal) (k0_pay7 (iblk m c 5 t)) (k0_pay9 (iblk m c 1 t)) (k0_pay11 (iblk m c 3 t)) (ix2 x y)
      = ∑ k : Fin 1024, scalePart (P m c) (YP m c) (DM m c) (tk (t.val % 4) (hb t) k) (ch (t.val / 4) (hh t) y) := by
  pointwise [Gen.k0_pay5, Gen.k0_pay3, Gen.k0_pay7, Gen.k0_pay11]
  simp only [pay9_at, blk1, blk3, blk5]
  rfl

/-- The gradients of the first gate. -/
theorem dgc_arr (c : Dev nD) : (dats m 0 c).arrAt 6 cfg0.N = DGC (P m c) (YC m c) (DM m c) := by
  refine (dats m 0 c).arrAt_eq_of_covers 6 _ (by decide +kernel) fun t hf y => ?_
  blk_simp
  rw [after0_6]
  idx_vars y
  rw [DGC_at _ _ _ (t.val % 4 * 1024 + y0.val) (t.val / 4 * 512 + y1.val) (tk (t.val % 4) (hb t) y0).isLt (ch (t.val / 4) (hh t) y1).isLt _
    (by blk_simp [idx t]) (by blk_simp [idx t]), ← dgc_at m c t]
  by_cases h : t.val % 4 = 0
  · rw [Gen.outsAt0_A m c t h (by omega)]
    frame_out
  · rw [Gen.outsAt0_B m c t h (by omega)]
    frame_out

/-- … of the second. -/
theorem dgp_arr (c : Dev nD) : (dats m 0 c).arrAt 7 cfg0.N = DGP (P m c) (YP m c) (SC m c) (DM m c) := by
  refine (dats m 0 c).arrAt_eq_of_covers 7 _ (by decide +kernel) fun t hf y => ?_
  blk_simp
  rw [after0_7]
  idx_vars y
  rw [DGP_at _ _ _ _ (t.val % 4 * 1024 + y0.val) (t.val / 4 * 512 + y1.val) (tk (t.val % 4) (hb t) y0).isLt (ch (t.val / 4) (hh t) y1).isLt _
    (by blk_simp [idx t]) (by blk_simp [idx t]), ← dgp_at m c t]
  by_cases h : t.val % 4 = 0
  · rw [Gen.outsAt0_A m c t h (by omega)]
    frame_out
  · rw [Gen.outsAt0_B m c t h (by omega)]
    frame_out

/-- The gradients of the convolution's branch. -/
theorem dyc_arr (c : Dev nD) : (dats m 0 c).arrAt 8 cfg0.N = DYC (P m c) (DM m c) := by
  refine (dats m 0 c).arrAt_eq_of_covers 8 _ (by decide +kernel) fun t hf y => ?_
  blk_simp
  rw [after0_8]
  idx_vars y
  rw [DYC_at _ _ (t.val % 4 * 1024 + y0.val) (t.val / 4 * 512 + y1.val) (tk (t.val % 4) (hb t) y0).isLt (ch (t.val / 4) (hh t) y1).isLt _
    (by blk_simp [idx t]) (by blk_simp [idx t]), ← dyc_at m c t]
  by_cases h : t.val % 4 = 0
  · rw [Gen.outsAt0_A m c t h (by omega)]
    frame_out
  · rw [Gen.outsAt0_B m c t h (by omega)]
    frame_out

/-- … of the pool's branch. -/
theorem dyp_arr (c : Dev nD) : (dats m 0 c).arrAt 9 cfg0.N = DYP (P m c) (SC m c) (DM m c) := by
  refine (dats m 0 c).arrAt_eq_of_covers 9 _ (by decide +kernel) fun t hf y => ?_
  blk_simp
  rw [after0_9]
  idx_vars y
  rw [DYP_at _ _ _ (t.val % 4 * 1024 + y0.val) (t.val / 4 * 512 + y1.val) (tk (t.val % 4) (hb t) y0).isLt (ch (t.val / 4) (hh t) y1).isLt _
    (by blk_simp [idx t]) (by blk_simp [idx t]), ← dyp_at m c t]
  by_cases h : t.val % 4 = 0
  · rw [Gen.outsAt0_A m c t h (by omega)]
    frame_out
  · rw [Gen.outsAt0_B m c t h (by omega)]
    frame_out

/-- What the tokens of block `b` add to the gradient of the scale, in half `h` of the channels. -/
def part (c : Dev nD) (h : ℕ) (hh : h < 2) (b : Fin 4) (i : S1x512.Idx) : EReal :=
  ∑ k : Fin 1024, scalePart (P m c) (YP m c) (DM m c) (tk b.val b.isLt k) (ch h hh (i 1))

/-- What the gradient of the scale is after block `b`, in half `h` of the channels. -/
def acc (c : Dev nD) (h : ℕ) (hh : h < 2) (b : ℕ) (hb : b < 4) : Vec Ideal S1x512 .f32 :=
  (outsAt0 m c (4 * h + b) (show _ < 8 by omega)).2.2.2.2

/-- The accumulator after the first block is that block's part. -/
theorem acc_start (c : Dev nD) (h : ℕ) (hh : h < 2) (b : Fin 4) (h0 : b.val % 4 = 0) (i : S1x512.Idx) :
    acc m c h hh b.val b.isLt i = 0 + part m c h hh b i := by
  idx_vars i
  rw [zero_add]
  unfold acc
  have e := ds_at m c ⟨4 * h + b.val, show _ < 8 by omega⟩ i0 i1
  have q : (4 * h + b.val) % 4 = b.val := by omega
  have r : (4 * h + b.val) / 4 = h := by omega
  simp only [q, r] at e
  refine Eq.trans ?_ e
  have o := Gen.outsAt0_A m c ⟨4 * h + b.val, show _ < 8 by omega⟩ (show (4 * h + b.val) % 4 = 0 by omega) (show ¬1 ≤ (4 * h + b.val) % 4 by omega)
  rw [show outsAt0 m c (4 * h + b.val) _ = _ from o]
  frame_out

/-- The accumulator after a later block is the one before and the block's part. -/
theorem acc_step (c : Dev nD) (h : ℕ) (hh : h < 2) (b : Fin 4) (h0 : ¬b.val % 4 = 0) (i : S1x512.Idx) :
    acc m c h hh b.val b.isLt i = acc m c h hh (b.val - 1) (Nat.lt_of_le_of_lt (Nat.sub_le _ _) b.isLt) i + part m c h hh b i := by
  idx_vars i
  unfold acc
  have e := ds_at m c ⟨4 * h + b.val, show _ < 8 by omega⟩ i0 i1
  have q : (4 * h + b.val) % 4 = b.val := by omega
  have r : (4 * h + b.val) / 4 = h := by omega
  simp only [q, r] at e
  refine Eq.trans ?_ (congrArg _ e)
  have o := Gen.outsAt0_B m c ⟨4 * h + b.val, show _ < 8 by omega⟩ (show ¬(4 * h + b.val) % 4 = 0 by omega) (show 1 ≤ (4 * h + b.val) % 4 by omega)
  have p : 4 * h + b.val - 1 = 4 * h + (b.val - 1) := by omega
  rw [show outsAt0 m c (4 * h + b.val) _ = _ from o]
  frame_out
  pointwise [Gen.k0_pay6]
  simp only [p]

/-- The gradient of the scale. -/
theorem ds_arr (c : Dev nD) : (dats m 0 c).arrAt 10 cfg0.N = DS (P m c) (YP m c) (DM m c) := by
  refine (dats m 0 c).arrAt_eq_of_covers 10 _ (by decide +kernel) fun t hf y => ?_
  have h := (flush0_10 t).mp hf
  blk_simp
  rw [after0_10]
  idx_vars y
  rw [DS_at _ _ _ (t.val / 4 * 512 + y1.val) (ch (t.val / 4) (hh t) y1).isLt _ (by blk_simp [idx t])]
  have e := Pipeline.eq_sum_fin_of_reset_step_apply_last (acc m c (t.val / 4) (hh t)) 4 (fun _ => 0) (part m c (t.val / 4) (hh t))
    (acc_start m c _ (hh t)) (acc_step m c _ (hh t)) (by decide) 3 rfl (ix2 y0 y1)
  have p : 4 * (t.val / 4) + 3 = t.val := by omega
  refine Eq.trans ?_ (e.trans ?_)
  · unfold acc
    simp only [show 4 * (t.val / 4) + ((3 : Fin 4) : ℕ) = t.val from p]
  · rw [zero_add]
    unfold part
    refine (Fin.sum_mul_add_congr (S := 4) (n := 1024)
      (f := fun l : Fin 4096 => scalePart (P m c) (YP m c) (DM m c) l (ch (t.val / 4) (hh t) y1)) (fun s k hl => rfl)).trans rfl

end Cert.MergeIdeal.Arr

end
-- ==== Proof.MergeRef.lean ====
/- What the reference of the gated merge's gradients computes, read at an index. -/
module

public import proofs.«01_k».proof.Proof.Gen.MergeRefIdeal.Read
public import proofs.«01_k».proof.Proof.MergeMath
public import Idealize.ShloMosaic.Lib.Pointwise

@[expose] public section

set_option maxRecDepth 16384

noncomputable section

namespace Cert.MergeRefIdeal.At

open Cert.MergeRefIdeal Cert.MergeRefIdeal.Gen Cert.MergeRefIdeal.Read Cert.MergeMath Idealize.ShloMosaic Idealize.ShloMosaic.TcCoe Idealize.SL.Sem

variable (p : Proj.Idx → EReal) (yc yp : Tok.Idx → EReal) (s : Chan.Idx → EReal) (dm : Tok.Idx → EReal)

/-- The two gates opened. -/
theorem v11_at (t : Fin 4096) (j : Fin 1024) : val_main_v11 (F := Ideal) p (ix2 t j) = sg (gc p t j) := by
  pointwise [val_main_v11, val_main_v10, val_main_cst_0, val_main_v9, val_main_v8, val_main_cst, val_main_v7, val_main_v6, val_main_v4, val_main_v0]
  rfl
/-- The reference's pool gate is the sigmoid. -/
theorem v21_at (t : Fin 4096) (j : Fin 1024) : val_main_v21 (F := Ideal) p (ix2 t j) = sg (gp p t j) := by
  pointwise [val_main_v21, val_main_v20, val_main_cst_3, val_main_v19, val_main_v18, val_main_cst_2, val_main_v17, val_main_v16, val_main_v5, val_main_v0]
  rfl

/-- The gradient of the first gate. -/
theorem v42_eq : val_main_v42 (F := Ideal) p yc dm = DGC p yc dm := by
  funext i
  idx_vars i
  unfold val_main_v42 val_main_v41 val_main_v40 val_main_v14 val_main_v13 val_main_v12 val_main_cst_1 val_main_v1 val_main_v3
  have e := v11_at p i0 i1
  generalize val_main_v11 (F := Ideal) p = z at e ⊢
  pointwise
  rw [e]
  exact gate_ref _ _ _

/-- … of the second. -/
theorem v43_eq : val_main_v43 (F := Ideal) p yp s dm = DGP p yp s dm := by
  funext i
  idx_vars i
  unfold val_main_v43 val_main_v38 val_main_v31 val_main_v27 val_main_v26 val_main_v25 val_main_v24 val_main_v23 val_main_v22 val_main_cst_4
    val_main_v2 val_main_v3
  have e := v21_at p i0 i1
  generalize val_main_v21 (F := Ideal) p = z at e ⊢
  pointwise
  rw [e]
  exact gate_ref _ _ _

/-- The gradient of the convolution's branch. -/
theorem v44_eq : val_main_v44 (F := Ideal) p dm = DYC p dm := by
  funext i
  idx_vars i
  unfold val_main_v44 val_main_v39 val_main_v3
  have e := v11_at p i0 i1
  generalize val_main_v11 (F := Ideal) p = z at e ⊢
  pointwise
  rw [e]
  exact mul_comm _ _

/-- … of the pool's branch. -/
theorem v45_eq : val_main_v45 (F := Ideal) p s dm = DYP p s dm := by
  funext i
  idx_vars i
  unfold val_main_v45 val_main_v36 val_main_v30 val_main_v35 val_main_v25 val_main_v3
  have e := v21_at p i0 i1
  generalize val_main_v21 (F := Ideal) p = z at e ⊢
  pointwise
  rw [e]
  exact congrArg (· * _) (mul_comm _ _)

/-- The gradient of the scale. -/
theorem v46_eq : val_main_v46 (F := Ideal) p yp dm = DS p yp dm := by
  funext i
  idx_vars i
  unfold val_main_v46 val_main_v37 val_main_v34 val_main_v33 val_main_v32 val_main_v30 val_main_v2 val_main_v3 val_main_cst_5 val_main_cst_6
  have e := v21_at p
  generalize val_main_v21 (F := Ideal) p = z at e ⊢
  pointwise
  simp only [Finset.univ_unique, Finset.sum_singleton, Fin.default_eq_zero, e]
  refine Finset.sum_congr rfl fun t _ => ?_
  exact (mul_comm _ _).trans (congrArg (· * _) (mul_comm _ _))

end Cert.MergeRefIdeal.At

end
-- ==== Proof.MergeClaim.lean ====
/- The claims of the gated merge's gradients: the reference's frame, and that kernel and reference leave equal results. -/
module

public import proofs.«01_k».proof.Defs
public import proofs.«01_k».proof.Proof.MergeArray
public import proofs.«01_k».proof.Proof.MergeRef
public import Idealize.ShloMosaic.Lib.Quiescent

@[expose] public section

set_option maxRecDepth 16384

noncomputable section

namespace Cert.MergeEq

open Idealize.ShloMosaic Idealize.ShloMosaic.TcCoe Idealize.SL.Sem Cert.MergeMath Cert.MergeIdeal.Arr

/-- The reference's frame. -/
theorem frame_ref : Cert.quiescent_MergeRefIdeal (hMergeRefIdeal := Cert.MergeRefIdeal.Gen.facts) := fun m ρ _ =>
  (θ_run MergeRefIdeal.defs _ _).mono (fun r h => ⟨fun c => (h c).2.2.2.2.2, sem_eq_zero_of_no_sems (by decide) r.2⟩)
    (MergeRefIdeal.Value.run (F := Ideal) m ρ)

/-- Kernel and reference, from equal arguments, leave equal gradients of the two gates, the two branches and the scale. -/
theorem algebraic : Cert.algebraic_MergeIdeal_MergeRefIdeal (hMergeIdeal := Cert.MergeIdeal.Gen.facts)
    (hMergeRefIdeal := Cert.MergeRefIdeal.Gen.facts) := by
  intro m ρ m' ρ' hpre hagree
  refine ⟨fun c => DGC (P m c) (YC m c) (DM m c), fun c => DGP (P m c) (YP m c) (SC m c) (DM m c), fun c => DYC (P m c) (DM m c),
    fun c => DYP (P m c) (SC m c) (DM m c), fun c => DS (P m c) (YP m c) (DM m c), ?_, ?_⟩
  · exact (θ_run MergeIdeal.defs _ _).mono (fun r h c => ⟨(h c).1.trans (dgc_arr m c), (h c).2.1.trans (dgp_arr m c),
      (h c).2.2.1.trans (dyc_arr m c), (h c).2.2.2.1.trans (dyp_arr m c), (h c).2.2.2.2.1.trans (ds_arr m c), (h c).2.2.2.2.2⟩)
      (MergeIdeal.Value.run_blocks (F := Ideal) m ρ)
  · refine (θ_run MergeRefIdeal.defs _ _).mono (fun r h c => ?_) (MergeRefIdeal.Value.run (F := Ideal) m' ρ')
    obtain ⟨e0, e1, e2, e3, e4⟩ := hagree c
    refine ⟨(h c).1.trans ?_, (h c).2.1.trans ?_, (h c).2.2.1.trans ?_, (h c).2.2.2.1.trans ?_, (h c).2.2.2.2.1.trans ?_, (h c).2.2.2.2.2⟩
    · rw [MergeRefIdeal.Read.val_main_v42_eq, e0, e1, e4]
      exact MergeRefIdeal.At.v42_eq _ _ _
    · rw [MergeRefIdeal.Read.val_main_v43_eq, e0, e2, e3, e4]
      exact MergeRefIdeal.At.v43_eq _ _ _ _
    · rw [MergeRefIdeal.Read.val_main_v44_eq, e0, e4]
      exact MergeRefIdeal.At.v44_eq _ _
    · rw [MergeRefIdeal.Read.val_main_v45_eq, e0, e3, e4]
      exact MergeRefIdeal.At.v45_eq _ _ _
    · rw [MergeRefIdeal.Read.val_main_v46_eq, e0, e2, e4]
      exact MergeRefIdeal.At.v46_eq _ _ _

end Cert.MergeEq

end
-- ==== Proof.Products.lean ====
/- The plain products of matrices: rows by columns, rows by rows and columns by columns, each one sum. -/
module

public import Idealize.ShloMosaic.PureOps.Ideal.Laws
public import Idealize.ShloMosaic.Lib.ValueIdx
public import Idealize.ShloMosaic.Lib.Pipeline.ValueKit

@[expose] public section

noncomputable section

namespace Cert.Products

open Idealize.ShloMosaic

/-- A matrix of `M` rows and `N` columns. -/
abbrev Mat (M N : ℕ) : Type := (⟨2, ![M, N]⟩ : Shape).Idx → EReal

/-- `a b`: each row of `a` times each column of `b`, of which the first is column `o`. -/
def nn {M K N N' : ℕ} (o : ℕ) (ho : o + N ≤ N') (a : Mat M K) (b : Mat K N') : Mat M N := fun i =>
  ∑ k : Fin K, a (ix2 (i 0) k) * b (ix2 k ⟨o + (i 1).val, Nat.lt_of_lt_of_le (Nat.add_lt_add_left (show (i 1).val < N from (i 1).isLt) o) ho⟩)

/-- `a bᵀ`: each row of `a` times each row of `b`. -/
def nt {M K N : ℕ} (a : Mat M K) (b : Mat N K) : Mat M N := fun i => ∑ k : Fin K, a (ix2 (i 0) k) * b (ix2 (i 1) k)

/-- `aᵀ b`: each column of `a` times each column of `b`. -/
def tn {M K N : ℕ} (a : Mat K M) (b : Mat K N) : Mat M N := fun i => ∑ k : Fin K, a (ix2 k (i 0)) * b (ix2 k (i 1))

/-- A product of two matrices, read at an index: the sum over the columns of the first. -/
theorem nn_at {M K N N' : ℕ} (o : ℕ) (ho : o + N ≤ N') (a : Mat M K) (b : Mat K N') (x : Fin M) (y : Fin N) (z : Fin N') (hz : z.val = o + y.val)
    (i : (⟨2, ![M, N]⟩ : Shape).Idx) (h0 : (i 0).val = x.val) (h1 : (i 1).val = y.val) :
    nn o ho a b i = ∑ k : Fin K, a (ix2 x k) * b (ix2 k z) := by
  have e0 : i 0 = x := Fin.ext h0
  have e1 : (⟨o + (i 1).val, Nat.lt_of_lt_of_le (Nat.add_lt_add_left (show (i 1).val < N from (i 1).isLt) o) ho⟩ : Fin N') = z :=
    Fin.ext (by rw [hz, ← h1])
  unfold nn
  rw [e0, e1]

/-- A product with the second matrix transposed, read at an index. -/
theorem nt_at {M K N : ℕ} (a : Mat M K) (b : Mat N K) (x : Fin M) (y : Fin N)
    (i : (⟨2, ![M, N]⟩ : Shape).Idx) (h0 : (i 0).val = x.val) (h1 : (i 1).val = y.val) :
    nt a b i = ∑ k : Fin K, a (ix2 x k) * b (ix2 y k) := by
  have e0 : i 0 = x := Fin.ext h0
  have e1 : i 1 = y := Fin.ext h1
  unfold nt
  rw [e0, e1]

/-- A product with the first matrix transposed, read at an index. -/
theorem tn_at {M K N : ℕ} (a : Mat K M) (b : Mat K N) (x : Fin M) (y : Fin N)
    (i : (⟨2, ![M, N]⟩ : Shape).Idx) (h0 : (i 0).val = x.val) (h1 : (i 1).val = y.val) :
    tn a b i = ∑ k : Fin K, a (ix2 k x) * b (ix2 k y) := by
  have e0 : i 0 = x := Fin.ext h0
  have e1 : i 1 = y := Fin.ext h1
  unfold tn
  rw [e0, e1]

end Cert.Products

end
-- ==== Proof.DactArray.lean ====
/- What the kernel of the gradient of the activation through the down projection leaves in its array: one block of the product at each grid point. -/
module

public import proofs.«01_k».proof.Proof.Gen.DactIdeal.Value
public import proofs.«01_k».proof.Proof.Products
public import Idealize.ShloMosaic.Lib.Pipeline.ValueKit

@[expose] public section

set_option maxRecDepth 16384

noncomputable section

namespace Cert.DactIdeal.Arr

open Cert.DactIdeal Cert.DactIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 4 := t.isLt

/-- Row `x` of the point's block. -/
abbrev tk (t : Fin cfg0.N) (x : Fin 1024) : Fin 4096 := ⟨t.val * 1024 + x.val, by have := ptLt t; omega⟩
/-- Column `y` of the point's block of the result, a row of the weights. -/
abbrev ch (t : Fin cfg0.N) (y : Fin 2816) : Fin 2816 := ⟨y.val, by have := ptLt t; omega⟩

/-- The rows. -/
abbrev A (c : Dev nD) : S4096x1024.Idx → EReal := m ((c : Thread nD τ).loc main_arg0)
/-- The weights. -/
abbrev W (c : Dev nD) : S2816x1024.Idx → EReal := m ((c : Thread nD τ).loc main_arg1)

/-- The block of rows. -/
theorem blk0 (c : Dev nD) (t : Fin cfg0.N) (x : Fin 1024) (y : Fin 1024) : iblk m c 0 t (ix2 x y) = A m c (ix2 (tk t x) y) := by
  blk_ext [iblk, V, idx t]

/-- The block of weights. -/
theorem blk1 (c : Dev nD) (t : Fin cfg0.N) (x : Fin 2816) (y : Fin 1024) : iblk m c 1 t (ix2 x y) = W m c (ix2 (ch t x) y) := by
  blk_simp [iblk, V, idx t]
  entry_read
  pointwise
  refine congrArg (W m c) ?_
  blk_ext [idx t]

/-- What a point multiplies. -/
theorem pay_at (c : Dev nD) (t : Fin cfg0.N) (x : Fin 1024) (y : Fin 2816) :
    k0_pay1 (F := Ideal) (iblk m c 0 t) (iblk m c 1 t) (ix2 x y) = ∑ k : Fin 1024, A m c (ix2 (tk t x) k) * W m c (ix2 (ch t y) k) := by
  pointwise [Gen.k0_pay1]
  simp only [blk0, blk1]

/-- After the run the array holds the product. -/
theorem arr (c : Dev nD) : (dats m 0 c).arrAt 2 cfg0.N = nt (A m c) (W m c) := by
  refine (dats m 0 c).arrAt_eq_of_covers 2 _ (by decide +kernel) fun t hf y => ?_
  blk_simp
  rw [after0_2]
  idx_vars y
  rw [nt_at _ _ (tk t y0) (ch t y1) _ (by blk_simp [idx t]) (by blk_simp [idx t]), ← pay_at m c t y0 y1]
  frame_out

end Cert.DactIdeal.Arr

end
-- ==== Proof.DactClaim.lean ====
/- The claims of the gradient of the activation through the down projection: the reference's frame, and that kernel and reference leave equal results. -/
module

public import proofs.«01_k».proof.Defs
public import proofs.«01_k».proof.Proof.DactArray
public import proofs.«01_k».proof.Proof.Gen.DactRefIdeal.Read
public import Idealize.ShloMosaic.Lib.Quiescent

@[expose] public section

set_option maxRecDepth 16384

noncomputable section

namespace Cert.DactEq

open Idealize.ShloMosaic Idealize.ShloMosaic.TcCoe Idealize.SL.Sem Cert.Products

/-- The reference's result is the product. -/
theorem ref_eq (a : Cert.DactRefIdeal.S4096x1024.Idx → EReal) (w : Cert.DactRefIdeal.S2816x1024.Idx → EReal) :
    DactRefIdeal.Read.val_main_v4 (F := Ideal) a w = nt a w := by
  funext i
  idx_vars i
  pointwise [DactRefIdeal.Read.val_main_v4, DactRefIdeal.Read.val_main_v3, DactRefIdeal.Read.val_main_v2]
  unfold nt
  exact Finset.sum_congr rfl fun k _ => congrArg (_ * w ·) (rfl)

/-- The reference's frame. -/
theorem frame_ref : Cert.quiescent_DactRefIdeal (hDactRefIdeal := Cert.DactRefIdeal.Gen.facts) := fun m ρ _ =>
  (θ_run DactRefIdeal.defs _ _).mono (fun r h => ⟨fun c => (h c).2, sem_eq_zero_of_no_sems (by decide) r.2⟩)
    (DactRefIdeal.Value.run (F := Ideal) m ρ)

/-- Kernel and reference, from equal arguments, leave equal products. -/
theorem algebraic : Cert.algebraic_DactIdeal_DactRefIdeal (hDactIdeal := Cert.DactIdeal.Gen.facts)
    (hDactRefIdeal := Cert.DactRefIdeal.Gen.facts) := by
  intro m ρ m' ρ' hpre hagree
  refine ⟨fun c => nt (DactIdeal.Arr.A m c) (DactIdeal.Arr.W m c), ?_, ?_⟩
  · exact (θ_run DactIdeal.defs _ _).mono (fun r h c => ⟨(h c).1.trans (DactIdeal.Arr.arr m c), (h c).2⟩)
      (DactIdeal.Value.run_blocks (F := Ideal) m ρ)
  · refine (θ_run DactRefIdeal.defs _ _).mono (fun r h c => ?_) (DactRefIdeal.Value.run (F := Ideal) m' ρ')
    obtain ⟨e0, e1⟩ := hagree c
    refine ⟨(h c).1.trans ?_, (h c).2⟩
    rw [DactRefIdeal.Read.val_main_v4_eq, e0, e1]
    exact ref_eq _ _

end Cert.DactEq

end
-- ==== Proof.DwdownArray.lean ====
/- What the kernel of the gradient of the down projection's weights leaves in its array: two grid points for each block, the first of which
   keeps the product over its half of the tokens in the scratch. -/
module

public import proofs.«01_k».proof.Proof.Gen.DwdownIdeal.Value
public import proofs.«01_k».proof.Proof.Products
public import Idealize.ShloMosaic.Lib.Pipeline.ValueKit
public import Idealize.ShloMosaic.Lib.Pipeline.ReadBack

@[expose] public section

set_option maxRecDepth 16384

noncomputable section

namespace Cert.DwdownIdeal.Arr

open Cert.DwdownIdeal Cert.DwdownIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val % 2, t.val / 2] ∧ win0_1.index t = ![t.val % 2, 0] ∧ win0_2.index t = ![t.val / 2, 0] := by
  decide +kernel

/-- How many grid points there are. -/
theorem ptLt (t : Fin cfg0.N) : t.val < 4 := t.isLt
/-- The half is one of the two. -/
theorem hh (t : Fin cfg0.N) : t.val % 2 < 2 := Nat.mod_lt _ (by decide)

/-- Token `k` of half `h`. -/
abbrev tok (h : ℕ) (hh : h < 2) (k : Fin 2048) : Fin 4096 := ⟨h * 2048 + k.val, by omega⟩
/-- Row `x` of the point's block of the result. -/
abbrev rw' (t : Fin cfg0.N) (x : Fin 1408) : Fin 2816 := ⟨t.val / 2 * 1408 + x.val, by have := ptLt t; omega⟩

/-- The first factor. -/
abbrev A (c : Dev nD) : S4096x2816.Idx → EReal := m ((c : Thread nD τ).loc main_arg0)
/-- The second factor. -/
abbrev B (c : Dev nD) : S4096x1024.Idx → EReal := m ((c : Thread nD τ).loc main_arg1)

/-- The block of the first factor. -/
theorem blk0 (c : Dev nD) (t : Fin cfg0.N) (k : Fin 2048) (x : Fin 1408) :
    iblk m c 0 t (ix2 k x) = A m c (ix2 (tok (t.val % 2) (hh t) k) (rw' t x)) := by
  blk_ext [iblk, V, idx t]

/-- The block of the second. -/
theorem blk1 (c : Dev nD) (t : Fin cfg0.N) (k : Fin 2048) (y : Fin 1024) :
    iblk m c 1 t (ix2 k y) = B m c (ix2 (tok (t.val % 2) (hh t) k) y) := by
  blk_ext [iblk, V, idx t]

/-- The product over a half of the tokens. -/
def half (c : Dev nD) (h : ℕ) (hh : h < 2) (x : Fin 2816) (y : Fin 1024) : EReal :=
  ∑ k : Fin 2048, A m c (ix2 (tok h hh k) x) * B m c (ix2 (tok h hh k) y)

/-- The two halves make the product. -/
theorem halves (c : Dev nD) (x : Fin 2816) (y : Fin 1024) :
    half m c 0 (by decide) x y + half m c 1 (by decide) x y = ∑ k : Fin 4096, A m c (ix2 k x) * B m c (ix2 k y) := by
  refine Eq.trans ?_ (Fin.sum_mul_add_congr (S := 2) (n := 2048) (F := fun s k => A m c (ix2 (tok s.val s.isLt k) x) * B m c (ix2 (tok s.val s.isLt k) y))
    (fun s k hl => rfl))
  rw [Fin.sum_univ_two]
  rfl

/-- What a point multiplies. -/
theorem pay1_at (c : Dev nD) (t : Fin cfg0.N) (h : ℕ) (hh' : h < 2) (e : t.val % 2 = h) (x : Fin 1408) (y : Fin 1024) :
    k0_pay1 (F := Ideal) (iblk m c 0 t) (iblk m c 1 t) (ix2 x y) = half m c h hh' (rw' t x) y := by
  subst e
  pointwise [Gen.k0_pay1]
  simp only [blk0, blk1]
  rfl

/-- What the first point of a block leaves in the scratch. -/
theorem scr (c : Dev nD) (t : Fin cfg0.N) (h0 : t.val % 2 = 0) (x : Fin 1408) (y : Fin 1024) :
    (outsAt0 m c t.val t.isLt).2 (ix2 x y) = half m c 0 (by decide) (rw' t x) y := by
  rw [← pay1_at m c t 0 _ h0, Gen.outsAt0_A m c t h0 (by omega) (by omega)]
  frame_out
  pointwise [Gen.k0_pay2]

/-- The point before. -/
abbrev pre (t : Fin cfg0.N) : Fin cfg0.N := ⟨t.val - 1, Nat.lt_of_le_of_lt (Nat.sub_le _ _) t.isLt⟩

/-- What the second point of a block writes is the product. -/
theorem out_at (c : Dev nD) (t : Fin cfg0.N) (h : t.val % 2 = 1) (x : Fin 1408) (y : Fin 1024) :
    (outsAt0 m c t.val t.isLt).1 (ix2 x y) = ∑ k : Fin 4096, A m c (ix2 k (rw' t x)) * B m c (ix2 k y) := by
  have l : (pre t).val % 2 = 0 := show (t.val - 1) % 2 = 0 by omega
  have q : rw' (pre t) x = rw' t x := Fin.ext (show (t.val - 1) / 2 * 1408 + x.val = t.val / 2 * 1408 + x.val by
    have : (t.val - 1) / 2 = t.val / 2 := by omega
    rw [this])
  have e := scr m c (pre t) l x y
  rw [q] at e
  rw [← halves, ← e, ← pay1_at m c t 1 _ h, Gen.outsAt0_B m c t (by omega) h h]
  frame_out
  simp only [read_unread_whole]
  pointwise [Gen.k0_pay4, Gen.k0_pay3]

/-- After the run the array holds the product. -/
theorem arr (c : Dev nD) : (dats m 0 c).arrAt 2 cfg0.N = tn (A m c) (B m c) := by
  refine (dats m 0 c).arrAt_eq_of_covers 2 _ (by decide +kernel) fun t hf y => ?_
  have h := (flush0_2 t).mp hf
  blk_simp
  rw [after0_2]
  idx_vars y
  rw [tn_at _ _ (rw' t y0) y1 _ (by blk_simp [idx t]) (by blk_simp [idx t]), ← out_at m c t h y0 y1]

end Cert.DwdownIdeal.Arr

end
-- ==== Proof.DwdownClaim.lean ====
/- The claims of the gradient of the down projection's weights: the reference's frame, and that kernel and reference leave equal results. -/
module

public import proofs.«01_k».proof.Defs
public import proofs.«01_k».proof.Proof.DwdownArray
public import proofs.«01_k».proof.Proof.Gen.DwdownRefIdeal.Read
public import Idealize.ShloMosaic.Lib.Quiescent

@[expose] public section

set_option maxRecDepth 16384

noncomputable section

namespace Cert.DwdownEq

open Idealize.ShloMosaic Idealize.ShloMosaic.TcCoe Idealize.SL.Sem Cert.Products

/-- The reference's result is the product. -/
theorem ref_eq (a : Cert.DwdownRefIdeal.S4096x2816.Idx → EReal) (b : Cert.DwdownRefIdeal.S4096x1024.Idx → EReal) :
    DwdownRefIdeal.Read.val_main_v6 (F := Ideal) a b = tn a b := by
  funext i
  idx_vars i
  pointwise [DwdownRefIdeal.Read.val_main_v6, DwdownRefIdeal.Read.val_main_v5, DwdownRefIdeal.Read.val_main_v4, DwdownRefIdeal.Read.val_main_v3, DwdownRefIdeal.Read.val_main_v1]
  unfold tn
  exact Finset.sum_congr rfl fun k _ => mul_comm _ _

/-- The reference's frame. -/
theorem frame_ref : Cert.quiescent_DwdownRefIdeal (hDwdownRefIdeal := Cert.DwdownRefIdeal.Gen.facts) := fun m ρ _ =>
  (θ_run DwdownRefIdeal.defs _ _).mono (fun r h => ⟨fun c => (h c).2, sem_eq_zero_of_no_sems (by decide) r.2⟩)
    (DwdownRefIdeal.Value.run (F := Ideal) m ρ)

/-- Kernel and reference, from equal arguments, leave equal products. -/
theorem algebraic : Cert.algebraic_DwdownIdeal_DwdownRefIdeal (hDwdownIdeal := Cert.DwdownIdeal.Gen.facts)
    (hDwdownRefIdeal := Cert.DwdownRefIdeal.Gen.facts) := by
  intro m ρ m' ρ' hpre hagree
  refine ⟨fun c => tn (DwdownIdeal.Arr.A m c) (DwdownIdeal.Arr.B m c), ?_, ?_⟩
  · exact (θ_run DwdownIdeal.defs _ _).mono (fun r h c => ⟨(h c).1.trans (DwdownIdeal.Arr.arr m c), (h c).2⟩)
      (DwdownIdeal.Value.run_blocks (F := Ideal) m ρ)
  · refine (θ_run DwdownRefIdeal.defs _ _).mono (fun r h c => ?_) (DwdownRefIdeal.Value.run (F := Ideal) m' ρ')
    obtain ⟨e0, e1⟩ := hagree c
    refine ⟨(h c).1.trans ?_, (h c).2⟩
    rw [DwdownRefIdeal.Read.val_main_v6_eq, e0, e1]
    exact ref_eq _ _

end Cert.DwdownEq

end
-- ==== Proof.DwupArray.lean ====
/- What the kernel of the gradient of the up projection's weights leaves in its array: two grid points for each block, the first of which
   keeps the product over its half of the tokens in the scratch. -/
module

public import proofs.«01_k».proof.Proof.Gen.DwupIdeal.Value
public import proofs.«01_k».proof.Proof.Products
public import Idealize.ShloMosaic.Lib.Pipeline.ValueKit
public import Idealize.ShloMosaic.Lib.Pipeline.ReadBack

@[expose] public section

set_option maxRecDepth 16384

noncomputable section

namespace Cert.DwupIdeal.Arr

open Cert.DwupIdeal Cert.DwupIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val % 2, t.val / 2] ∧ win0_1.index t = ![t.val % 2, 0] ∧ win0_2.index t = ![t.val / 2, 0] := by
  decide +kernel

/-- How many grid points there are. -/
theorem ptLt (t : Fin cfg0.N) : t.val < 4 := t.isLt
/-- The half is one of the two. -/
theorem hh (t : Fin cfg0.N) : t.val % 2 < 2 := Nat.mod_lt _ (by decide)

/-- Token `k` of half `h`. -/
abbrev tok (h : ℕ) (hh : h < 2) (k : Fin 2048) : Fin 4096 := ⟨h * 2048 + k.val, by omega⟩
/-- Row `x` of the point's block of the result. -/
abbrev rw' (t : Fin cfg0.N) (x : Fin 1408) : Fin 2816 := ⟨t.val / 2 * 1408 + x.val, by have := ptLt t; omega⟩

/-- The first factor. -/
abbrev A (c : Dev nD) : S4096x2816.Idx → EReal := m ((c : Thread nD τ).loc main_arg0)
/-- The second factor. -/
abbrev B (c : Dev nD) : S4096x1024.Idx → EReal := m ((c : Thread nD τ).loc main_arg1)

/-- The block of the first factor. -/
theorem blk0 (c : Dev nD) (t : Fin cfg0.N) (k : Fin 2048) (x : Fin 1408) :
    iblk m c 0 t (ix2 k x) = A m c (ix2 (tok (t.val % 2) (hh t) k) (rw' t x)) := by
  blk_ext [iblk, V, idx t]

/-- The block of the second. -/
theorem blk1 (c : Dev nD) (t : Fin cfg0.N) (k : Fin 2048) (y : Fin 1024) :
    iblk m c 1 t (ix2 k y) = B m c (ix2 (tok (t.val % 2) (hh t) k) y) := by
  blk_ext [iblk, V, idx t]

/-- The product over a half of the tokens. -/
def half (c : Dev nD) (h : ℕ) (hh : h < 2) (x : Fin 2816) (y : Fin 1024) : EReal :=
  ∑ k : Fin 2048, A m c (ix2 (tok h hh k) x) * B m c (ix2 (tok h hh k) y)

/-- The two halves make the product. -/
theorem halves (c : Dev nD) (x : Fin 2816) (y : Fin 1024) :
    half m c 0 (by decide) x y + half m c 1 (by decide) x y = ∑ k : Fin 4096, A m c (ix2 k x) * B m c (ix2 k y) := by
  refine Eq.trans ?_ (Fin.sum_mul_add_congr (S := 2) (n := 2048) (F := fun s k => A m c (ix2 (tok s.val s.isLt k) x) * B m c (ix2 (tok s.val s.isLt k) y))
    (fun s k hl => rfl))
  rw [Fin.sum_univ_two]
  rfl

/-- What a point multiplies. -/
theorem pay1_at (c : Dev nD) (t : Fin cfg0.N) (h : ℕ) (hh' : h < 2) (e : t.val % 2 = h) (x : Fin 1408) (y : Fin 1024) :
    k0_pay1 (F := Ideal) (iblk m c 0 t) (iblk m c 1 t) (ix2 x y) = half m c h hh' (rw' t x) y := by
  subst e
  pointwise [Gen.k0_pay1]
  simp only [blk0, blk1]
  rfl

/-- What the first point of a block leaves in the scratch. -/
theorem scr (c : Dev nD) (t : Fin cfg0.N) (h0 : t.val % 2 = 0) (x : Fin 1408) (y : Fin 1024) :
    (outsAt0 m c t.val t.isLt).2 (ix2 x y) = half m c 0 (by decide) (rw' t x) y := by
  rw [← pay1_at m c t 0 _ h0, Gen.outsAt0_A m c t h0 (by omega) (by omega)]
  frame_out
  pointwise [Gen.k0_pay2]

/-- The point before. -/
abbrev pre (t : Fin cfg0.N) : Fin cfg0.N := ⟨t.val - 1, Nat.lt_of_le_of_lt (Nat.sub_le _ _) t.isLt⟩

/-- What the second point of a block writes is the product. -/
theorem out_at (c : Dev nD) (t : Fin cfg0.N) (h : t.val % 2 = 1) (x : Fin 1408) (y : Fin 1024) :
    (outsAt0 m c t.val t.isLt).1 (ix2 x y) = ∑ k : Fin 4096, A m c (ix2 k (rw' t x)) * B m c (ix2 k y) := by
  have l : (pre t).val % 2 = 0 := show (t.val - 1) % 2 = 0 by omega
  have q : rw' (pre t) x = rw' t x := Fin.ext (show (t.val - 1) / 2 * 1408 + x.val = t.val / 2 * 1408 + x.val by
    have : (t.val - 1) / 2 = t.val / 2 := by omega
    rw [this])
  have e := scr m c (pre t) l x y
  rw [q] at e
  rw [← halves, ← e, ← pay1_at m c t 1 _ h, Gen.outsAt0_B m c t (by omega) h h]
  frame_out
  simp only [read_unread_whole]
  pointwise [Gen.k0_pay4, Gen.k0_pay3]

/-- After the run the array holds the product. -/
theorem arr (c : Dev nD) : (dats m 0 c).arrAt 2 cfg0.N = tn (A m c) (B m c) := by
  refine (dats m 0 c).arrAt_eq_of_covers 2 _ (by decide +kernel) fun t hf y => ?_
  have h := (flush0_2 t).mp hf
  blk_simp
  rw [after0_2]
  idx_vars y
  rw [tn_at _ _ (rw' t y0) y1 _ (by blk_simp [idx t]) (by blk_simp [idx t]), ← out_at m c t h y0 y1]

end Cert.DwupIdeal.Arr

end
-- ==== Proof.DwupClaim.lean ====
/- The claims of the gradient of the up projection's weights: the reference's frame, and that kernel and reference leave equal results. -/
module

public import proofs.«01_k».proof.Defs
public import proofs.«01_k».proof.Proof.DwupArray
public import proofs.«01_k».proof.Proof.Gen.DwupRefIdeal.Read
public import Idealize.ShloMosaic.Lib.Quiescent

@[expose] public section

set_option maxRecDepth 16384

noncomputable section

namespace Cert.DwupEq

open Idealize.ShloMosaic Idealize.ShloMosaic.TcCoe Idealize.SL.Sem Cert.Products

/-- The reference's result is the product. -/
theorem ref_eq (a : Cert.DwupRefIdeal.S4096x2816.Idx → EReal) (b : Cert.DwupRefIdeal.S4096x1024.Idx → EReal) :
    DwupRefIdeal.Read.val_main_v7 (F := Ideal) a b = tn a b := by
  funext i
  idx_vars i
  pointwise [DwupRefIdeal.Read.val_main_v7, DwupRefIdeal.Read.val_main_v6, DwupRefIdeal.Read.val_main_v5, DwupRefIdeal.Read.val_main_v4, DwupRefIdeal.Read.val_main_v3, DwupRefIdeal.Read.val_main_v1]
  unfold tn
  rfl

/-- The reference's frame. -/
theorem frame_ref : Cert.quiescent_DwupRefIdeal (hDwupRefIdeal := Cert.DwupRefIdeal.Gen.facts) := fun m ρ _ =>
  (θ_run DwupRefIdeal.defs _ _).mono (fun r h => ⟨fun c => (h c).2, sem_eq_zero_of_no_sems (by decide) r.2⟩)
    (DwupRefIdeal.Value.run (F := Ideal) m ρ)

/-- Kernel and reference, from equal arguments, leave equal products. -/
theorem algebraic : Cert.algebraic_DwupIdeal_DwupRefIdeal (hDwupIdeal := Cert.DwupIdeal.Gen.facts)
    (hDwupRefIdeal := Cert.DwupRefIdeal.Gen.facts) := by
  intro m ρ m' ρ' hpre hagree
  refine ⟨fun c => tn (DwupIdeal.Arr.A m c) (DwupIdeal.Arr.B m c), ?_, ?_⟩
  · exact (θ_run DwupIdeal.defs _ _).mono (fun r h c => ⟨(h c).1.trans (DwupIdeal.Arr.arr m c), (h c).2⟩)
      (DwupIdeal.Value.run_blocks (F := Ideal) m ρ)
  · refine (θ_run DwupRefIdeal.defs _ _).mono (fun r h c => ?_) (DwupRefIdeal.Value.run (F := Ideal) m' ρ')
    obtain ⟨e0, e1⟩ := hagree c
    refine ⟨(h c).1.trans ?_, (h c).2⟩
    rw [DwupRefIdeal.Read.val_main_v7_eq, e0, e1]
    exact ref_eq _ _

end Cert.DwupEq

end
-- ==== Proof.DwinArray.lean ====
/- What the kernel of the gradient of the input projection's weights leaves in its array: two grid points for each block, the first of which
   keeps the product over its half of the tokens in the scratch. -/
module

public import proofs.«01_k».proof.Proof.Gen.DwinIdeal.Value
public import proofs.«01_k».proof.Proof.Products
public import Idealize.ShloMosaic.Lib.Pipeline.ValueKit
public import Idealize.ShloMosaic.Lib.Pipeline.ReadBack

@[expose] public section

set_option maxRecDepth 16384

noncomputable section

namespace Cert.DwinIdeal.Arr

open Cert.DwinIdeal Cert.DwinIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val % 2, t.val / 2] ∧ win0_1.index t = ![t.val % 2, 0] ∧ win0_2.index t = ![t.val / 2, 0] := by
  decide +kernel

/-- How many grid points there are. -/
theorem ptLt (t : Fin cfg0.N) : t.val < 4 := t.isLt
/-- The half is one of the two. -/
theorem hh (t : Fin cfg0.N) : t.val % 2 < 2 := Nat.mod_lt _ (by decide)

/-- Token `k` of half `h`. -/
abbrev tok (h : ℕ) (hh : h < 2) (k : Fin 2048) : Fin 4096 := ⟨h * 2048 + k.val, by omega⟩
/-- Row `x` of the point's block of the result. -/
abbrev rw' (t : Fin cfg0.N) (x : Fin 1792) : Fin 3584 := ⟨t.val / 2 * 1792 + x.val, by have := ptLt t; omega⟩

/-- The first factor. -/
abbrev A (c : Dev nD) : S4096x3584.Idx → EReal := m ((c : Thread nD τ).loc main_arg0)
/-- The second factor. -/
abbrev B (c : Dev nD) : S4096x1024.Idx → EReal := m ((c : Thread nD τ).loc main_arg1)

/-- The block of the first factor. -/
theorem blk0 (c : Dev nD) (t : Fin cfg0.N) (k : Fin 2048) (x : Fin 1792) :
    iblk m c 0 t (ix2 k x) = A m c (ix2 (tok (t.val % 2) (hh t) k) (rw' t x)) := by
  blk_ext [iblk, V, idx t]

/-- The block of the second. -/
theorem blk1 (c : Dev nD) (t : Fin cfg0.N) (k : Fin 2048) (y : Fin 1024) :
    iblk m c 1 t (ix2 k y) = B m c (ix2 (tok (t.val % 2) (hh t) k) y) := by
  blk_ext [iblk, V, idx t]

/-- The product over a half of the tokens. -/
def half (c : Dev nD) (h : ℕ) (hh : h < 2) (x : Fin 3584) (y : Fin 1024) : EReal :=
  ∑ k : Fin 2048, A m c (ix2 (tok h hh k) x) * B m c (ix2 (tok h hh k) y)

/-- The two halves make the product. -/
theorem halves (c : Dev nD) (x : Fin 3584) (y : Fin 1024) :
    half m c 0 (by decide) x y + half m c 1 (by decide) x y = ∑ k : Fin 4096, A m c (ix2 k x) * B m c (ix2 k y) := by
  refine Eq.trans ?_ (Fin.sum_mul_add_congr (S := 2) (n := 2048) (F := fun s k => A m c (ix2 (tok s.val s.isLt k) x) * B m c (ix2 (tok s.val s.isLt k) y))
    (fun s k hl => rfl))
  rw [Fin.sum_univ_two]
  rfl

/-- What a point multiplies. -/
theorem pay1_at (c : Dev nD) (t : Fin cfg0.N) (h : ℕ) (hh' : h < 2) (e : t.val % 2 = h) (x : Fin 1792) (y : Fin 1024) :
    k0_pay1 (F := Ideal) (iblk m c 0 t) (iblk m c 1 t) (ix2 x y) = half m c h hh' (rw' t x) y := by
  subst e
  pointwise [Gen.k0_pay1]
  simp only [blk0, blk1]
  rfl

/-- What the first point of a block leaves in the scratch. -/
theorem scr (c : Dev nD) (t : Fin cfg0.N) (h0 : t.val % 2 = 0) (x : Fin 1792) (y : Fin 1024) :
    (outsAt0 m c t.val t.isLt).2 (ix2 x y) = half m c 0 (by decide) (rw' t x) y := by
  rw [← pay1_at m c t 0 _ h0, Gen.outsAt0_A m c t h0 (by omega) (by omega)]
  frame_out
  pointwise [Gen.k0_pay2]

/-- The point before. -/
abbrev pre (t : Fin cfg0.N) : Fin cfg0.N := ⟨t.val - 1, Nat.lt_of_le_of_lt (Nat.sub_le _ _) t.isLt⟩

/-- What the second point of a block writes is the product. -/
theorem out_at (c : Dev nD) (t : Fin cfg0.N) (h : t.val % 2 = 1) (x : Fin 1792) (y : Fin 1024) :
    (outsAt0 m c t.val t.isLt).1 (ix2 x y) = ∑ k : Fin 4096, A m c (ix2 k (rw' t x)) * B m c (ix2 k y) := by
  have l : (pre t).val % 2 = 0 := show (t.val - 1) % 2 = 0 by omega
  have q : rw' (pre t) x = rw' t x := Fin.ext (show (t.val - 1) / 2 * 1792 + x.val = t.val / 2 * 1792 + x.val by
    have : (t.val - 1) / 2 = t.val / 2 := by omega
    rw [this])
  have e := scr m c (pre t) l x y
  rw [q] at e
  rw [← halves, ← e, ← pay1_at m c t 1 _ h, Gen.outsAt0_B m c t (by omega) h h]
  frame_out
  simp only [read_unread_whole]
  pointwise [Gen.k0_pay4, Gen.k0_pay3]

/-- After the run the array holds the product. -/
theorem arr (c : Dev nD) : (dats m 0 c).arrAt 2 cfg0.N = tn (A m c) (B m c) := by
  refine (dats m 0 c).arrAt_eq_of_covers 2 _ (by decide +kernel) fun t hf y => ?_
  have h := (flush0_2 t).mp hf
  blk_simp
  rw [after0_2]
  idx_vars y
  rw [tn_at _ _ (rw' t y0) y1 _ (by blk_simp [idx t]) (by blk_simp [idx t]), ← out_at m c t h y0 y1]

end Cert.DwinIdeal.Arr

end
-- ==== Proof.DwinClaim.lean ====
/- The claims of the gradient of the input projection's weights: the reference's frame, and that kernel and reference leave equal results. -/
module

public import proofs.«01_k».proof.Defs
public import proofs.«01_k».proof.Proof.DwinArray
public import proofs.«01_k».proof.Proof.Gen.DwinRefIdeal.Read
public import Idealize.ShloMosaic.Lib.Quiescent

@[expose] public section

set_option maxRecDepth 16384

noncomputable section

namespace Cert.DwinEq

open Idealize.ShloMosaic Idealize.ShloMosaic.TcCoe Idealize.SL.Sem Cert.Products

/-- The reference's result is the product. -/
theorem ref_eq (a : Cert.DwinRefIdeal.S4096x3584.Idx → EReal) (b : Cert.DwinRefIdeal.S4096x1024.Idx → EReal) :
    DwinRefIdeal.Read.val_main_v7 (F := Ideal) a b = tn a b := by
  funext i
  idx_vars i
  pointwise [DwinRefIdeal.Read.val_main_v7, DwinRefIdeal.Read.val_main_v6, DwinRefIdeal.Read.val_main_v5, DwinRefIdeal.Read.val_main_v4, DwinRefIdeal.Read.val_main_v3, DwinRefIdeal.Read.val_main_v1]
  unfold tn
  rfl

/-- The reference's frame. -/
theorem frame_ref : Cert.quiescent_DwinRefIdeal (hDwinRefIdeal := Cert.DwinRefIdeal.Gen.facts) := fun m ρ _ =>
  (θ_run DwinRefIdeal.defs _ _).mono (fun r h => ⟨fun c => (h c).2, sem_eq_zero_of_no_sems (by decide) r.2⟩)
    (DwinRefIdeal.Value.run (F := Ideal) m ρ)

/-- Kernel and reference, from equal arguments, leave equal products. -/
theorem algebraic : Cert.algebraic_DwinIdeal_DwinRefIdeal (hDwinIdeal := Cert.DwinIdeal.Gen.facts)
    (hDwinRefIdeal := Cert.DwinRefIdeal.Gen.facts) := by
  intro m ρ m' ρ' hpre hagree
  refine ⟨fun c => tn (DwinIdeal.Arr.A m c) (DwinIdeal.Arr.B m c), ?_, ?_⟩
  · exact (θ_run DwinIdeal.defs _ _).mono (fun r h c => ⟨(h c).1.trans (DwinIdeal.Arr.arr m c), (h c).2⟩)
      (DwinIdeal.Value.run_blocks (F := Ideal) m ρ)
  · refine (θ_run DwinRefIdeal.defs _ _).mono (fun r h c => ?_) (DwinRefIdeal.Value.run (F := Ideal) m' ρ')
    obtain ⟨e0, e1⟩ := hagree c
    refine ⟨(h c).1.trans ?_, (h c).2⟩
    rw [DwinRefIdeal.Read.val_main_v7_eq, e0, e1]
    exact ref_eq _ _

end Cert.DwinEq

end
-- ==== Proof.InprojArray.lean ====
/- What the kernel of the input projection leaves in its array: one block of the product at each grid point. -/
module

public import proofs.«01_k».proof.Proof.Gen.InprojIdeal.Value
public import proofs.«01_k».proof.Proof.Products
public import Idealize.ShloMosaic.Lib.Pipeline.ValueKit

@[expose] public section

set_option maxRecDepth 16384

noncomputable section

namespace Cert.InprojIdeal.Arr

open Cert.InprojIdeal Cert.InprojIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val / 2, 0] ∧ win0_1.index t = ![t.val % 2, 0] ∧ win0_2.index t = ![t.val / 2, t.val % 2] := by
  decide +kernel

/-- How many grid points there are. -/
theorem ptLt (t : Fin cfg0.N) : t.val < 8 := t.isLt

/-- Row `x` of the point's block. -/
abbrev tk (t : Fin cfg0.N) (x : Fin 1024) : Fin 4096 := ⟨t.val / 2 * 1024 + x.val, by have := ptLt t; omega⟩
/-- Column `y` of the point's block of the result. -/
abbrev cl (t : Fin cfg0.N) (y : Fin 1792) : Fin 3584 := ⟨t.val % 2 * 1792 + y.val, by have := ptLt t; omega⟩
/-- Its column of the weights. -/
abbrev ch (t : Fin cfg0.N) (y : Fin 1792) : Fin 3584 := ⟨t.val % 2 * 1792 + y.val, by have := ptLt t; omega⟩
/-- The whole array's channel of a block's channel, counted from where the half begins. -/
theorem chOf (t : Fin cfg0.N) (y : Fin 1792) : (ch t y).val = 0 + (cl t y).val := by
  show t.val % 2 * 1792 + y.val = 0 + (t.val % 2 * 1792 + y.val)
  omega

/-- The rows. -/
abbrev A (c : Dev nD) : S4096x1024.Idx → EReal := m ((c : Thread nD τ).loc main_arg0)
/-- The weights. -/
abbrev W (c : Dev nD) : S1024x3584.Idx → EReal := m ((c : Thread nD τ).loc main_arg1)

/-- The block of rows. -/
theorem blk0 (c : Dev nD) (t : Fin cfg0.N) (x : Fin 1024) (y : Fin 1024) : iblk m c 0 t (ix2 x y) = A m c (ix2 (tk t x) y) := by
  blk_ext [iblk, V, idx t]

/-- The block of weights. -/
theorem blk1 (c : Dev nD) (t : Fin cfg0.N) (x : Fin 1792) (y : Fin 1024) : iblk m c 1 t (ix2 x y) = W m c (ix2 y (ch t x)) := by
  blk_simp [iblk, V, idx t]
  entry_read
  pointwise
  refine congrArg (W m c) ?_
  blk_ext [idx t]

/-- What a point multiplies. -/
theorem pay_at (c : Dev nD) (t : Fin cfg0.N) (x : Fin 1024) (y : Fin 1792) :
    k0_pay1 (F := Ideal) (iblk m c 0 t) (iblk m c 1 t) (ix2 x y) = ∑ k : Fin 1024, A m c (ix2 (tk t x) k) * W m c (ix2 k (ch t y)) := by
  pointwise [Gen.k0_pay1]
  simp only [blk0, blk1]

/-- After the run the array holds the product. -/
theorem arr (c : Dev nD) : (dats m 0 c).arrAt 2 cfg0.N = nn 0 (by decide) (A m c) (W m c) := by
  refine (dats m 0 c).arrAt_eq_of_covers 2 _ (by decide +kernel) fun t hf y => ?_
  blk_simp
  rw [after0_2]
  idx_vars y
  rw [nn_at _ _ _ _ (tk t y0) (cl t y1) (ch t y1) (chOf t y1) _ (by blk_simp [idx t]) (by blk_simp [idx t]), ← pay_at m c t y0 y1]
  frame_out

end Cert.InprojIdeal.Arr

end
-- ==== Proof.InprojClaim.lean ====
/- The claims of the input projection: the reference's frame, and that kernel and reference leave equal results. -/
module

public import proofs.«01_k».proof.Defs
public import proofs.«01_k».proof.Proof.InprojArray
public import proofs.«01_k».proof.Proof.Gen.InprojRefIdeal.Read
public import Idealize.ShloMosaic.Lib.Quiescent

@[expose] public section

set_option maxRecDepth 16384

noncomputable section

namespace Cert.InprojEq

open Idealize.ShloMosaic Idealize.ShloMosaic.TcCoe Idealize.SL.Sem Cert.Products

/-- The reference's result is the product. -/
theorem ref_eq (a : Cert.InprojRefIdeal.S4096x1024.Idx → EReal) (w : Cert.InprojRefIdeal.S1024x3584.Idx → EReal) :
    InprojRefIdeal.Read.val_main_v2 (F := Ideal) a w = nn 0 (by decide) a w := by
  funext i
  idx_vars i
  pointwise [InprojRefIdeal.Read.val_main_v2, InprojRefIdeal.Read.val_main_v1, InprojRefIdeal.Read.val_main_v0]
  unfold nn
  exact Finset.sum_congr rfl fun k _ => congrArg (_ * w ·) (congrArg (ix2 k) (Fin.ext (Nat.zero_add _).symm))

/-- The reference's frame. -/
theorem frame_ref : Cert.quiescent_InprojRefIdeal (hInprojRefIdeal := Cert.InprojRefIdeal.Gen.facts) := fun m ρ _ =>
  (θ_run InprojRefIdeal.defs _ _).mono (fun r h => ⟨fun c => (h c).2, sem_eq_zero_of_no_sems (by decide) r.2⟩)
    (InprojRefIdeal.Value.run (F := Ideal) m ρ)

/-- Kernel and reference, from equal arguments, leave equal products. -/
theorem algebraic : Cert.algebraic_InprojIdeal_InprojRefIdeal (hInprojIdeal := Cert.InprojIdeal.Gen.facts)
    (hInprojRefIdeal := Cert.InprojRefIdeal.Gen.facts) := by
  intro m ρ m' ρ' hpre hagree
  refine ⟨fun c => nn 0 (by decide) (InprojIdeal.Arr.A m c) (InprojIdeal.Arr.W m c), ?_, ?_⟩
  · exact (θ_run InprojIdeal.defs _ _).mono (fun r h c => ⟨(h c).1.trans (InprojIdeal.Arr.arr m c), (h c).2⟩)
      (InprojIdeal.Value.run_blocks (F := Ideal) m ρ)
  · refine (θ_run InprojRefIdeal.defs _ _).mono (fun r h c => ?_) (InprojRefIdeal.Value.run (F := Ideal) m' ρ')
    obtain ⟨e0, e1⟩ := hagree c
    refine ⟨(h c).1.trans ?_, (h c).2⟩
    rw [InprojRefIdeal.Read.val_main_v2_eq, e0, e1]
    exact ref_eq _ _

end Cert.InprojEq

end
-- ==== Proof.UpgArray.lean ====
/- What the kernel of the gate of the up projection leaves in its array: one block of the product at each grid point. -/
module

public import proofs.«01_k».proof.Proof.Gen.UpgIdeal.Value
public import proofs.«01_k».proof.Proof.Products
public import Idealize.ShloMosaic.Lib.Pipeline.ValueKit

@[expose] public section

set_option maxRecDepth 16384

noncomputable section

namespace Cert.UpgIdeal.Arr

open Cert.UpgIdeal Cert.UpgIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 4 := t.isLt

/-- Row `x` of the point's block. -/
abbrev tk (t : Fin cfg0.N) (x : Fin 1024) : Fin 4096 := ⟨t.val * 1024 + x.val, by have := ptLt t; omega⟩
/-- Column `y` of the point's block of the result. -/
abbrev cl (t : Fin cfg0.N) (y : Fin 2816) : Fin 2816 := ⟨y.val, by have := ptLt t; omega⟩
/-- Its column of the weights. -/
abbrev ch (t : Fin cfg0.N) (y : Fin 2816) : Fin 5632 := ⟨y.val, by have := ptLt t; omega⟩
/-- The whole array's channel of a block's channel, counted from where the half begins. -/
theorem chOf (t : Fin cfg0.N) (y : Fin 2816) : (ch t y).val = 0 + (cl t y).val := by
  show y.val = 0 + (y.val)
  omega

/-- The rows. -/
abbrev A (c : Dev nD) : S4096x1024.Idx → EReal := m ((c : Thread nD τ).loc main_arg0)
/-- The weights. -/
abbrev W (c : Dev nD) : S1024x5632.Idx → EReal := m ((c : Thread nD τ).loc main_arg1)

/-- The block of rows. -/
theorem blk0 (c : Dev nD) (t : Fin cfg0.N) (x : Fin 1024) (y : Fin 1024) : iblk m c 0 t (ix2 x y) = A m c (ix2 (tk t x) y) := by
  blk_ext [iblk, V, idx t]

/-- The block of weights. -/
theorem blk1 (c : Dev nD) (t : Fin cfg0.N) (x : Fin 2816) (y : Fin 1024) : iblk m c 1 t (ix2 x y) = W m c (ix2 y (ch t x)) := by
  blk_simp [iblk, V, idx t]
  entry_read
  pointwise
  refine congrArg (W m c) ?_
  blk_ext [idx t]

/-- What a point multiplies. -/
theorem pay_at (c : Dev nD) (t : Fin cfg0.N) (x : Fin 1024) (y : Fin 2816) :
    k0_pay1 (F := Ideal) (iblk m c 0 t) (iblk m c 1 t) (ix2 x y) = ∑ k : Fin 1024, A m c (ix2 (tk t x) k) * W m c (ix2 k (ch t y)) := by
  pointwise [Gen.k0_pay1]
  simp only [blk0, blk1]

/-- After the run the array holds the product. -/
theorem arr (c : Dev nD) : (dats m 0 c).arrAt 2 cfg0.N = nn 0 (by decide) (A m c) (W m c) := by
  refine (dats m 0 c).arrAt_eq_of_covers 2 _ (by decide +kernel) fun t hf y => ?_
  blk_simp
  rw [after0_2]
  idx_vars y
  rw [nn_at _ _ _ _ (tk t y0) (cl t y1) (ch t y1) (chOf t y1) _ (by blk_simp [idx t]) (by blk_simp [idx t]), ← pay_at m c t y0 y1]
  frame_out

end Cert.UpgIdeal.Arr

end
-- ==== Proof.UpgClaim.lean ====
/- The claims of the gate of the up projection: the reference's frame, and that kernel and reference leave equal results. -/
module

public import proofs.«01_k».proof.Defs
public import proofs.«01_k».proof.Proof.UpgArray
public import proofs.«01_k».proof.Proof.Gen.UpgRefIdeal.Read
public import Idealize.ShloMosaic.Lib.Quiescent

@[expose] public section

set_option maxRecDepth 16384

noncomputable section

namespace Cert.UpgEq

open Idealize.ShloMosaic Idealize.ShloMosaic.TcCoe Idealize.SL.Sem Cert.Products

/-- The reference's result is the product. -/
theorem ref_eq (a : Cert.UpgRefIdeal.S4096x1024.Idx → EReal) (w : Cert.UpgRefIdeal.S1024x5632.Idx → EReal) :
    UpgRefIdeal.Read.val_main_v3 (F := Ideal) a w = nn 0 (by decide) a w := by
  funext i
  idx_vars i
  pointwise [UpgRefIdeal.Read.val_main_v3, UpgRefIdeal.Read.val_main_v2, UpgRefIdeal.Read.val_main_v1, UpgRefIdeal.Read.val_main_v0]
  unfold nn
  exact Finset.sum_congr rfl fun k _ => congrArg (_ * w ·) (congrArg (ix2 k) (Fin.ext (Nat.zero_add _).symm))

/-- The reference's frame. -/
theorem frame_ref : Cert.quiescent_UpgRefIdeal (hUpgRefIdeal := Cert.UpgRefIdeal.Gen.facts) := fun m ρ _ =>
  (θ_run UpgRefIdeal.defs _ _).mono (fun r h => ⟨fun c => (h c).2, sem_eq_zero_of_no_sems (by decide) r.2⟩)
    (UpgRefIdeal.Value.run (F := Ideal) m ρ)

/-- Kernel and reference, from equal arguments, leave equal products. -/
theorem algebraic : Cert.algebraic_UpgIdeal_UpgRefIdeal (hUpgIdeal := Cert.UpgIdeal.Gen.facts)
    (hUpgRefIdeal := Cert.UpgRefIdeal.Gen.facts) := by
  intro m ρ m' ρ' hpre hagree
  refine ⟨fun c => nn 0 (by decide) (UpgIdeal.Arr.A m c) (UpgIdeal.Arr.W m c), ?_, ?_⟩
  · exact (θ_run UpgIdeal.defs _ _).mono (fun r h c => ⟨(h c).1.trans (UpgIdeal.Arr.arr m c), (h c).2⟩)
      (UpgIdeal.Value.run_blocks (F := Ideal) m ρ)
  · refine (θ_run UpgRefIdeal.defs _ _).mono (fun r h c => ?_) (UpgRefIdeal.Value.run (F := Ideal) m' ρ')
    obtain ⟨e0, e1⟩ := hagree c
    refine ⟨(h c).1.trans ?_, (h c).2⟩
    rw [UpgRefIdeal.Read.val_main_v3_eq, e0, e1]
    exact ref_eq _ _

end Cert.UpgEq

end
-- ==== Proof.UpvArray.lean ====
/- What the kernel of the value of the up projection leaves in its array: one block of the product at each grid point. -/
module

public import proofs.«01_k».proof.Proof.Gen.UpvIdeal.Value
public import proofs.«01_k».proof.Proof.Products
public import Idealize.ShloMosaic.Lib.Pipeline.ValueKit

@[expose] public section

set_option maxRecDepth 16384

noncomputable section

namespace Cert.UpvIdeal.Arr

open Cert.UpvIdeal Cert.UpvIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![1, 0] ∧ win0_2.index t = ![t.val, 0] := by
  decide +kernel

/-- How many grid points there are. -/
theorem ptLt (t : Fin cfg0.N) : t.val < 4 := t.isLt

/-- Row `x` of the point's block. -/
abbrev tk (t : Fin cfg0.N) (x : Fin 1024) : Fin 4096 := ⟨t.val * 1024 + x.val, by have := ptLt t; omega⟩
/-- Column `y` of the point's block of the result. -/
abbrev cl (t : Fin cfg0.N) (y : Fin 2816) : Fin 2816 := ⟨y.val, by have := ptLt t; omega⟩
/-- Its column of the weights. -/
abbrev ch (t : Fin cfg0.N) (y : Fin 2816) : Fin 5632 := ⟨2816 + y.val, by have := ptLt t; omega⟩
/-- The whole array's channel of a block's channel, counted from where the half begins. -/
theorem chOf (t : Fin cfg0.N) (y : Fin 2816) : (ch t y).val = 2816 + (cl t y).val := by
  show 2816 + y.val = 2816 + (y.val)
  omega

/-- The rows. -/
abbrev A (c : Dev nD) : S4096x1024.Idx → EReal := m ((c : Thread nD τ).loc main_arg0)
/-- The weights. -/
abbrev W (c : Dev nD) : S1024x5632.Idx → EReal := m ((c : Thread nD τ).loc main_arg1)

/-- The block of rows. -/
theorem blk0 (c : Dev nD) (t : Fin cfg0.N) (x : Fin 1024) (y : Fin 1024) : iblk m c 0 t (ix2 x y) = A m c (ix2 (tk t x) y) := by
  blk_ext [iblk, V, idx t]

/-- The block of weights. -/
theorem blk1 (c : Dev nD) (t : Fin cfg0.N) (x : Fin 2816) (y : Fin 1024) : iblk m c 1 t (ix2 x y) = W m c (ix2 y (ch t x)) := by
  blk_simp [iblk, V, idx t]
  entry_read
  pointwise
  refine congrArg (W m c) ?_
  blk_ext [idx t]

/-- What a point multiplies. -/
theorem pay_at (c : Dev nD) (t : Fin cfg0.N) (x : Fin 1024) (y : Fin 2816) :
    k0_pay1 (F := Ideal) (iblk m c 0 t) (iblk m c 1 t) (ix2 x y) = ∑ k : Fin 1024, A m c (ix2 (tk t x) k) * W m c (ix2 k (ch t y)) := by
  pointwise [Gen.k0_pay1]
  simp only [blk0, blk1]

/-- After the run the array holds the product. -/
theorem arr (c : Dev nD) : (dats m 0 c).arrAt 2 cfg0.N = nn 2816 (by decide) (A m c) (W m c) := by
  refine (dats m 0 c).arrAt_eq_of_covers 2 _ (by decide +kernel) fun t hf y => ?_
  blk_simp
  rw [after0_2]
  idx_vars y
  rw [nn_at _ _ _ _ (tk t y0) (cl t y1) (ch t y1) (chOf t y1) _ (by blk_simp [idx t]) (by blk_simp [idx t]), ← pay_at m c t y0 y1]
  frame_out

end Cert.UpvIdeal.Arr

end
-- ==== Proof.UpvClaim.lean ====
/- The claims of the value of the up projection: the reference's frame, and that kernel and reference leave equal results. -/
module

public import proofs.«01_k».proof.Defs
public import proofs.«01_k».proof.Proof.UpvArray
public import proofs.«01_k».proof.Proof.Gen.UpvRefIdeal.Read
public import Idealize.ShloMosaic.Lib.Quiescent

@[expose] public section

set_option maxRecDepth 16384

noncomputable section

namespace Cert.UpvEq

open Idealize.ShloMosaic Idealize.ShloMosaic.TcCoe Idealize.SL.Sem Cert.Products

/-- The reference's result is the product. -/
theorem ref_eq (a : Cert.UpvRefIdeal.S4096x1024.Idx → EReal) (w : Cert.UpvRefIdeal.S1024x5632.Idx → EReal) :
    UpvRefIdeal.Read.val_main_v4 (F := Ideal) a w = nn 2816 (by decide) a w := by
  funext i
  idx_vars i
  pointwise [UpvRefIdeal.Read.val_main_v4, UpvRefIdeal.Read.val_main_v2, UpvRefIdeal.Read.val_main_v1, UpvRefIdeal.Read.val_main_v0]
  unfold nn
  exact Finset.sum_congr rfl fun k _ => congrArg (_ * w ·) (congrArg (ix2 k) (Fin.ext rfl))

/-- The reference's frame. -/
theorem frame_ref : Cert.quiescent_UpvRefIdeal (hUpvRefIdeal := Cert.UpvRefIdeal.Gen.facts) := fun m ρ _ =>
  (θ_run UpvRefIdeal.defs _ _).mono (fun r h => ⟨fun c => (h c).2, sem_eq_zero_of_no_sems (by decide) r.2⟩)
    (UpvRefIdeal.Value.run (F := Ideal) m ρ)

/-- Kernel and reference, from equal arguments, leave equal products. -/
theorem algebraic : Cert.algebraic_UpvIdeal_UpvRefIdeal (hUpvIdeal := Cert.UpvIdeal.Gen.facts)
    (hUpvRefIdeal := Cert.UpvRefIdeal.Gen.facts) := by
  intro m ρ m' ρ' hpre hagree
  refine ⟨fun c => nn 2816 (by decide) (UpvIdeal.Arr.A m c) (UpvIdeal.Arr.W m c), ?_, ?_⟩
  · exact (θ_run UpvIdeal.defs _ _).mono (fun r h c => ⟨(h c).1.trans (UpvIdeal.Arr.arr m c), (h c).2⟩)
      (UpvIdeal.Value.run_blocks (F := Ideal) m ρ)
  · refine (θ_run UpvRefIdeal.defs _ _).mono (fun r h c => ?_) (UpvRefIdeal.Value.run (F := Ideal) m' ρ')
    obtain ⟨e0, e1⟩ := hagree c
    refine ⟨(h c).1.trans ?_, (h c).2⟩
    rw [UpvRefIdeal.Read.val_main_v4_eq, e0, e1]
    exact ref_eq _ _

end Cert.UpvEq

end
-- ==== Proof.DownArray.lean ====
/- What the kernel of the down projection, beside the residual path, leaves in its array: two grid points for each block, the first of which
   leaves the product over its half of the channels in the result's block. -/
module

public import proofs.«01_k».proof.Proof.Gen.DownIdeal.Value
public import proofs.«01_k».proof.Proof.Products
public import Idealize.ShloMosaic.Lib.Pipeline.ValueKit
public import Idealize.ShloMosaic.Lib.Pipeline.ReadBack

@[expose] public section

set_option maxRecDepth 16384

noncomputable section

namespace Cert.DownIdeal.Arr

open Cert.DownIdeal Cert.DownIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val / 2, t.val % 2] ∧ win0_1.index t = ![t.val % 2, 0] ∧ win0_2.index t = ![t.val / 2, 0] ∧
    win0_3.index t = ![t.val / 2, 0] := by
  decide +kernel

/-- How many grid points there are. -/
theorem ptLt (t : Fin cfg0.N) : t.val < 8 := t.isLt
/-- The half is one of the two. -/
theorem hh (t : Fin cfg0.N) : t.val % 2 < 2 := Nat.mod_lt _ (by decide)

/-- Channel `k` of half `h`. -/
abbrev chn (h : ℕ) (hh : h < 2) (k : Fin 1408) : Fin 2816 := ⟨h * 1408 + k.val, by omega⟩
/-- Token `x` of the point's block. -/
abbrev tk (t : Fin cfg0.N) (x : Fin 1024) : Fin 4096 := ⟨t.val / 2 * 1024 + x.val, by have := ptLt t; omega⟩

/-- The activations. -/
abbrev A (c : Dev nD) : S4096x2816.Idx → EReal := m ((c : Thread nD τ).loc main_arg0)
/-- The weights. -/
abbrev W (c : Dev nD) : S2816x1024.Idx → EReal := m ((c : Thread nD τ).loc main_arg1)
/-- The residual path. -/
abbrev R (c : Dev nD) : S4096x1024.Idx → EReal := m ((c : Thread nD τ).loc main_arg2)

/-- The block of activations. -/
theorem blk0 (c : Dev nD) (t : Fin cfg0.N) (x : Fin 1024) (k : Fin 1408) :
    iblk m c 0 t (ix2 x k) = A m c (ix2 (tk t x) (chn (t.val % 2) (hh t) k)) := by
  blk_ext [iblk, V, idx t]

/-- The block of weights. -/
theorem blk1 (c : Dev nD) (t : Fin cfg0.N) (k : Fin 1408) (y : Fin 1024) :
    iblk m c 1 t (ix2 k y) = W m c (ix2 (chn (t.val % 2) (hh t) k) y) := by
  blk_simp [iblk, V, idx t]
  entry_read
  pointwise
  refine congrArg (W m c) ?_
  blk_ext [idx t]

/-- The block of the residual path. -/
theorem blk2 (c : Dev nD) (t : Fin cfg0.N) (x : Fin 1024) (y : Fin 1024) :
    iblk m c 2 t (ix2 x y) = R m c (ix2 (tk t x) y) := by
  blk_ext [iblk, V, idx t]

/-- The product over a half of the channels. -/
def half (c : Dev nD) (h : ℕ) (hh : h < 2) (x : Fin 4096) (y : Fin 1024) : EReal :=
  ∑ k : Fin 1408, A m c (ix2 x (chn h hh k)) * W m c (ix2 (chn h hh k) y)

/-- The two halves make the product. -/
theorem halves (c : Dev nD) (x : Fin 4096) (y : Fin 1024) :
    half m c 0 (by decide) x y + half m c 1 (by decide) x y = ∑ k : Fin 2816, A m c (ix2 x k) * W m c (ix2 k y) := by
  refine Eq.trans ?_ (Fin.sum_mul_add_congr (S := 2) (n := 1408) (F := fun s k => A m c (ix2 x (chn s.val s.isLt k)) * W m c (ix2 (chn s.val s.isLt k) y))
    (fun s k hl => rfl))
  rw [Fin.sum_univ_two]
  rfl

/-- What a point multiplies. -/
theorem pay1_at (c : Dev nD) (t : Fin cfg0.N) (h : ℕ) (hh' : h < 2) (e : t.val % 2 = h) (x : Fin 1024) (y : Fin 1024) :
    k0_pay1 (F := Ideal) (iblk m c 0 t) (iblk m c 1 t) (ix2 x y) = half m c h hh' (tk t x) y := by
  subst e
  pointwise [Gen.k0_pay1]
  simp only [blk0, blk1]
  rfl

/-- What the first point of a block leaves in its block. -/
theorem first (c : Dev nD) (t : Fin cfg0.N) (h0 : t.val % 2 = 0) (x : Fin 1024) (y : Fin 1024) :
    outsAt0 m c t.val t.isLt (ix2 x y) = half m c 0 (by decide) (tk t x) y + R m c (ix2 (tk t x) y) := by
  rw [← pay1_at m c t 0 _ h0, ← blk2, Gen.outsAt0_A m c t h0 (by omega)]
  frame_out
  pointwise [Gen.k0_pay2]

/-- The point before. -/
abbrev pre (t : Fin cfg0.N) : Fin cfg0.N := ⟨t.val - 1, Nat.lt_of_le_of_lt (Nat.sub_le _ _) t.isLt⟩

/-- What the second point of a block leaves is the product beside the residual path. -/
theorem out_at (c : Dev nD) (t : Fin cfg0.N) (h : t.val % 2 = 1) (x : Fin 1024) (y : Fin 1024) :
    outsAt0 m c t.val t.isLt (ix2 x y) = R m c (ix2 (tk t x) y) + ∑ k : Fin 2816, A m c (ix2 (tk t x) k) * W m c (ix2 k y) := by
  have l : (pre t).val % 2 = 0 := show (t.val - 1) % 2 = 0 by omega
  have q : tk (pre t) x = tk t x := Fin.ext (show (t.val - 1) / 2 * 1024 + x.val = t.val / 2 * 1024 + x.val by
    have : (t.val - 1) / 2 = t.val / 2 := by omega
    rw [this])
  have e := first m c (pre t) l x y
  rw [q] at e
  rw [← halves, ← add_assoc, add_comm (R m c _) (half m c 0 _ _ _), ← e, ← pay1_at m c t 1 _ h, Gen.outsAt0_B m c t (by omega) h]
  frame_out
  pointwise [Gen.k0_pay3]

/-- After the run the array holds the product beside the residual path. -/
theorem arr (c : Dev nD) : (dats m 0 c).arrAt 3 cfg0.N = fun i => R m c i + nn 0 (by decide) (A m c) (W m c) i := by
  refine (dats m 0 c).arrAt_eq_of_covers 3 _ (by decide +kernel) fun t hf y => ?_
  have h := (flush0_3 t).mp hf
  blk_simp
  rw [after0_3]
  idx_vars y
  rw [nn_at _ _ _ _ (tk t y0) y1 y1 (Nat.zero_add _).symm _ (by blk_simp [idx t]) (by blk_simp [idx t])]
  refine (out_at m c t h y0 y1).trans (congrArg (· + _) (congrArg (R m c) ?_))
  blk_ext [idx t]

end Cert.DownIdeal.Arr

end
-- ==== Proof.DownClaim.lean ====
/- The claims of the down projection beside the residual path: the reference's frame, and that kernel and reference leave equal results. -/
module

public import proofs.«01_k».proof.Defs
public import proofs.«01_k».proof.Proof.DownArray
public import proofs.«01_k».proof.Proof.Gen.DownRefIdeal.Read
public import Idealize.ShloMosaic.Lib.Quiescent

@[expose] public section

set_option maxRecDepth 16384

noncomputable section

namespace Cert.DownEq

open Idealize.ShloMosaic Idealize.ShloMosaic.TcCoe Idealize.SL.Sem Cert.Products

/-- The reference's result is the product beside the residual path. -/
theorem ref_eq (a : Cert.DownRefIdeal.S4096x2816.Idx → EReal) (w : Cert.DownRefIdeal.S2816x1024.Idx → EReal) (r : Cert.DownRefIdeal.S4096x1024.Idx → EReal) :
    DownRefIdeal.Read.val_main_v2 (F := Ideal) a w r = fun i => r i + nn 0 (by decide) a w i := by
  funext i
  idx_vars i
  pointwise [DownRefIdeal.Read.val_main_v2, DownRefIdeal.Read.val_main_v1, DownRefIdeal.Read.val_main_v0]
  rw [nn_at _ _ _ _ i0 i1 i1 (Nat.zero_add _).symm _ rfl rfl]

/-- The reference's frame. -/
theorem frame_ref : Cert.quiescent_DownRefIdeal (hDownRefIdeal := Cert.DownRefIdeal.Gen.facts) := fun m ρ _ =>
  (θ_run DownRefIdeal.defs _ _).mono (fun r h => ⟨fun c => (h c).2, sem_eq_zero_of_no_sems (by decide) r.2⟩)
    (DownRefIdeal.Value.run (F := Ideal) m ρ)

/-- Kernel and reference, from equal arguments, leave equal products. -/
theorem algebraic : Cert.algebraic_DownIdeal_DownRefIdeal (hDownIdeal := Cert.DownIdeal.Gen.facts)
    (hDownRefIdeal := Cert.DownRefIdeal.Gen.facts) := by
  intro m ρ m' ρ' hpre hagree
  refine ⟨fun c i => DownIdeal.Arr.R m c i + nn 0 (by decide) (DownIdeal.Arr.A m c) (DownIdeal.Arr.W m c) i, ?_, ?_⟩
  · exact (θ_run DownIdeal.defs _ _).mono (fun r h c => ⟨(h c).1.trans (DownIdeal.Arr.arr m c), (h c).2⟩)
      (DownIdeal.Value.run_blocks (F := Ideal) m ρ)
  · refine (θ_run DownRefIdeal.defs _ _).mono (fun r h c => ?_) (DownRefIdeal.Value.run (F := Ideal) m' ρ')
    obtain ⟨e0, e1, e2⟩ := hagree c
    refine ⟨(h c).1.trans ?_, (h c).2⟩
    rw [DownRefIdeal.Read.val_main_v2_eq, e0, e1, e2]
    exact ref_eq _ _ _

end Cert.DownEq

end
-- ==== Proof.DsqArray.lean ====
/- What the kernel of the gradient of the attention's or the merge's output through its projection leaves in its array: one block of the product at each grid point. -/
module

public import proofs.«01_k».proof.Proof.Gen.DsqIdeal.Value
public import proofs.«01_k».proof.Proof.Products
public import Idealize.ShloMosaic.Lib.Pipeline.ValueKit

@[expose] public section

set_option maxRecDepth 16384

noncomputable section

namespace Cert.DsqIdeal.Arr

open Cert.DsqIdeal Cert.DsqIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 2 := t.isLt

/-- Row `x` of the point's block of the result. -/
abbrev tk (t : Fin cfg0.N) (x : Fin 2048) : Fin 4096 := ⟨t.val * 2048 + x.val, by have := ptLt t; omega⟩

/-- The first factor. -/
abbrev A (c : Dev nD) : S4096x1024.Idx → EReal := m ((c : Thread nD τ).loc main_arg0)
/-- The second. -/
abbrev W (c : Dev nD) : S1024x1024.Idx → EReal := m ((c : Thread nD τ).loc main_arg1)

/-- The block of the first factor. -/
theorem blk0 (c : Dev nD) (t : Fin cfg0.N) (x : Fin 2048) (y : Fin 1024) : iblk m c 0 t (ix2 x y) = A m c (ix2 (tk t x) y) := by
  blk_ext [iblk, V, idx t]

/-- The block of the second, the whole of it. -/
theorem blk1 (c : Dev nD) (t : Fin cfg0.N) (x : Fin 1024) (y : Fin 1024) : iblk m c 1 t (ix2 x y) = W m c (ix2 x y) := by
  blk_simp [iblk, V, idx t]
  entry_read
  pointwise
  refine congrArg (W m c) ?_
  blk_ext [idx t]

/-- What a point computes. -/
theorem pay_at (c : Dev nD) (t : Fin cfg0.N) (x : Fin 2048) (y : Fin 1024) :
    k0_pay1 (F := Ideal) (iblk m c 0 t) (iblk m c 1 t) (ix2 x y) =
      ∑ k : Fin 1024, A m c (ix2 (tk t x) k) * W m c (ix2 y k) := by
  pointwise [Gen.k0_pay1]
  simp only [blk0, blk1]

/-- After the run the array holds the product. -/
theorem arr (c : Dev nD) : (dats m 0 c).arrAt 2 cfg0.N = nt (A m c) (W m c) := by
  refine (dats m 0 c).arrAt_eq_of_covers 2 _ (by decide +kernel) fun t hf y => ?_
  blk_simp
  rw [after0_2]
  idx_vars y
  rw [nt_at _ _ (tk t y0) y1 _ (by blk_simp [idx t]) (by blk_simp [idx t]), ← pay_at m c t y0 y1]
  frame_out

end Cert.DsqIdeal.Arr

end
-- ==== Proof.DsqClaim.lean ====
/- The claims of the gradient of the attention's or the merge's output through its projection: the reference's frame, and that kernel and reference leave equal results. -/
module

public import proofs.«01_k».proof.Defs
public import proofs.«01_k».proof.Proof.DsqArray
public import proofs.«01_k».proof.Proof.Gen.DsqRefIdeal.Read
public import Idealize.ShloMosaic.Lib.Quiescent

@[expose] public section

set_option maxRecDepth 16384

noncomputable section

namespace Cert.DsqEq

open Idealize.ShloMosaic Idealize.ShloMosaic.TcCoe Idealize.SL.Sem Cert.Products

/-- The reference's result is the product. -/
theorem ref_eq (a : Cert.DsqRefIdeal.S4096x1024.Idx → EReal) (w : Cert.DsqRefIdeal.S1024x1024.Idx → EReal) :
    DsqRefIdeal.Read.val_main_v4 (F := Ideal) a w = nt a w := by
  funext i
  idx_vars i
  pointwise [DsqRefIdeal.Read.val_main_v4, DsqRefIdeal.Read.val_main_v3, DsqRefIdeal.Read.val_main_v2]
  unfold nt
  exact Finset.sum_congr rfl fun k _ => rfl

/-- The reference's frame. -/
theorem frame_ref : Cert.quiescent_DsqRefIdeal (hDsqRefIdeal := Cert.DsqRefIdeal.Gen.facts) := fun m ρ _ =>
  (θ_run DsqRefIdeal.defs _ _).mono (fun r h => ⟨fun c => (h c).2, sem_eq_zero_of_no_sems (by decide) r.2⟩)
    (DsqRefIdeal.Value.run (F := Ideal) m ρ)

/-- Kernel and reference, from equal arguments, leave equal products. -/
theorem algebraic : Cert.algebraic_DsqIdeal_DsqRefIdeal (hDsqIdeal := Cert.DsqIdeal.Gen.facts)
    (hDsqRefIdeal := Cert.DsqRefIdeal.Gen.facts) := by
  intro m ρ m' ρ' hpre hagree
  refine ⟨fun c => nt (DsqIdeal.Arr.A m c) (DsqIdeal.Arr.W m c), ?_, ?_⟩
  · exact (θ_run DsqIdeal.defs _ _).mono (fun r h c => ⟨(h c).1.trans (DsqIdeal.Arr.arr m c), (h c).2⟩)
      (DsqIdeal.Value.run_blocks (F := Ideal) m ρ)
  · refine (θ_run DsqRefIdeal.defs _ _).mono (fun r h c => ?_) (DsqRefIdeal.Value.run (F := Ideal) m' ρ')
    obtain ⟨e0, e1⟩ := hagree c
    refine ⟨(h c).1.trans ?_, (h c).2⟩
    rw [DsqRefIdeal.Read.val_main_v4_eq, e0, e1]
    exact ref_eq _ _

end Cert.DsqEq

end
-- ==== Proof.DwsqArray.lean ====
/- What the kernel of the gradient of the weights of w_o, w_q or w_out leaves in its array: two grid points for each block, the first of which
   keeps the product over its half of the tokens in the scratch. -/
module

public import proofs.«01_k».proof.Proof.Gen.DwsqIdeal.Value
public import proofs.«01_k».proof.Proof.Products
public import Idealize.ShloMosaic.Lib.Pipeline.ValueKit
public import Idealize.ShloMosaic.Lib.Pipeline.ReadBack

@[expose] public section

set_option maxRecDepth 16384

noncomputable section

namespace Cert.DwsqIdeal.Arr

open Cert.DwsqIdeal Cert.DwsqIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val % 2, t.val / 2] ∧ win0_1.index t = ![t.val % 2, 0] ∧ win0_2.index t = ![t.val / 2, 0] := by
  decide +kernel

/-- How many grid points there are. -/
theorem ptLt (t : Fin cfg0.N) : t.val < 2 := t.isLt
/-- The half is one of the two. -/
theorem hh (t : Fin cfg0.N) : t.val % 2 < 2 := Nat.mod_lt _ (by decide)

/-- Token `k` of half `h`. -/
abbrev tok (h : ℕ) (hh : h < 2) (k : Fin 2048) : Fin 4096 := ⟨h * 2048 + k.val, by omega⟩
/-- Row `x` of the point's block of the result. -/
abbrev rw' (t : Fin cfg0.N) (x : Fin 1024) : Fin 1024 := ⟨t.val / 2 * 1024 + x.val, by have := ptLt t; omega⟩

/-- The first factor. -/
abbrev A (c : Dev nD) : S4096x1024.Idx → EReal := m ((c : Thread nD τ).loc main_arg0)
/-- The second factor. -/
abbrev B (c : Dev nD) : S4096x1024.Idx → EReal := m ((c : Thread nD τ).loc main_arg1)

/-- The block of the first factor. -/
theorem blk0 (c : Dev nD) (t : Fin cfg0.N) (k : Fin 2048) (x : Fin 1024) :
    iblk m c 0 t (ix2 k x) = A m c (ix2 (tok (t.val % 2) (hh t) k) (rw' t x)) := by
  blk_ext [iblk, V, idx t]

/-- The block of the second. -/
theorem blk1 (c : Dev nD) (t : Fin cfg0.N) (k : Fin 2048) (y : Fin 1024) :
    iblk m c 1 t (ix2 k y) = B m c (ix2 (tok (t.val % 2) (hh t) k) y) := by
  blk_ext [iblk, V, idx t]

/-- The product over a half of the tokens. -/
def half (c : Dev nD) (h : ℕ) (hh : h < 2) (x : Fin 1024) (y : Fin 1024) : EReal :=
  ∑ k : Fin 2048, A m c (ix2 (tok h hh k) x) * B m c (ix2 (tok h hh k) y)

/-- The two halves make the product. -/
theorem halves (c : Dev nD) (x : Fin 1024) (y : Fin 1024) :
    half m c 0 (by decide) x y + half m c 1 (by decide) x y = ∑ k : Fin 4096, A m c (ix2 k x) * B m c (ix2 k y) := by
  refine Eq.trans ?_ (Fin.sum_mul_add_congr (S := 2) (n := 2048) (F := fun s k => A m c (ix2 (tok s.val s.isLt k) x) * B m c (ix2 (tok s.val s.isLt k) y))
    (fun s k hl => rfl))
  rw [Fin.sum_univ_two]
  rfl

/-- What a point multiplies. -/
theorem pay1_at (c : Dev nD) (t : Fin cfg0.N) (h : ℕ) (hh' : h < 2) (e : t.val % 2 = h) (x : Fin 1024) (y : Fin 1024) :
    k0_pay1 (F := Ideal) (iblk m c 0 t) (iblk m c 1 t) (ix2 x y) = half m c h hh' (rw' t x) y := by
  subst e
  pointwise [Gen.k0_pay1]
  simp only [blk0, blk1]
  rfl

/-- What the first point of a block leaves in the scratch. -/
theorem scr (c : Dev nD) (t : Fin cfg0.N) (h0 : t.val % 2 = 0) (x : Fin 1024) (y : Fin 1024) :
    (outsAt0 m c t.val t.isLt).2 (ix2 x y) = half m c 0 (by decide) (rw' t x) y := by
  rw [← pay1_at m c t 0 _ h0, Gen.outsAt0_A m c t h0 (by omega) (by omega)]
  frame_out
  pointwise [Gen.k0_pay2]

/-- The point before. -/
abbrev pre (t : Fin cfg0.N) : Fin cfg0.N := ⟨t.val - 1, Nat.lt_of_le_of_lt (Nat.sub_le _ _) t.isLt⟩

/-- What the second point of a block writes is the product. -/
theorem out_at (c : Dev nD) (t : Fin cfg0.N) (h : t.val % 2 = 1) (x : Fin 1024) (y : Fin 1024) :
    (outsAt0 m c t.val t.isLt).1 (ix2 x y) = ∑ k : Fin 4096, A m c (ix2 k (rw' t x)) * B m c (ix2 k y) := by
  have l : (pre t).val % 2 = 0 := show (t.val - 1) % 2 = 0 by omega
  have q : rw' (pre t) x = rw' t x := Fin.ext (show (t.val - 1) / 2 * 1024 + x.val = t.val / 2 * 1024 + x.val by
    have : (t.val - 1) / 2 = t.val / 2 := by omega
    rw [this])
  have e := scr m c (pre t) l x y
  rw [q] at e
  rw [← halves, ← e, ← pay1_at m c t 1 _ h, Gen.outsAt0_B m c t (by omega) h h]
  frame_out
  simp only [read_unread_whole]
  pointwise [Gen.k0_pay4, Gen.k0_pay3]

/-- After the run the array holds the product. -/
theorem arr (c : Dev nD) : (dats m 0 c).arrAt 2 cfg0.N = tn (A m c) (B m c) := by
  refine (dats m 0 c).arrAt_eq_of_covers 2 _ (by decide +kernel) fun t hf y => ?_
  have h := (flush0_2 t).mp hf
  blk_simp
  rw [after0_2]
  idx_vars y
  rw [tn_at _ _ (rw' t y0) y1 _ (by blk_simp [idx t]) (by blk_simp [idx t]), ← out_at m c t h y0 y1]

end Cert.DwsqIdeal.Arr

end
-- ==== Proof.DwsqClaim.lean ====
/- The claims of the gradient of the weights of w_o, w_q or w_out: the reference's frame, and that kernel and reference leave equal results. -/
module

public import proofs.«01_k».proof.Defs
public import proofs.«01_k».proof.Proof.DwsqArray
public import proofs.«01_k».proof.Proof.Gen.DwsqRefIdeal.Read
public import Idealize.ShloMosaic.Lib.Quiescent

@[expose] public section

set_option maxRecDepth 16384

noncomputable section

namespace Cert.DwsqEq

open Idealize.ShloMosaic Idealize.ShloMosaic.TcCoe Idealize.SL.Sem Cert.Products

/-- The reference's result is the product. -/
theorem ref_eq (a : Cert.DwsqRefIdeal.S4096x1024.Idx → EReal) (b : Cert.DwsqRefIdeal.S4096x1024.Idx → EReal) :
    DwsqRefIdeal.Read.val_main_v6 (F := Ideal) a b = tn a b := by
  funext i
  idx_vars i
  pointwise [DwsqRefIdeal.Read.val_main_v6, DwsqRefIdeal.Read.val_main_v5, DwsqRefIdeal.Read.val_main_v4, DwsqRefIdeal.Read.val_main_v3, DwsqRefIdeal.Read.val_main_v1]
  unfold tn
  exact Finset.sum_congr rfl fun k _ => mul_comm _ _

/-- The reference's frame. -/
theorem frame_ref : Cert.quiescent_DwsqRefIdeal (hDwsqRefIdeal := Cert.DwsqRefIdeal.Gen.facts) := fun m ρ _ =>
  (θ_run DwsqRefIdeal.defs _ _).mono (fun r h => ⟨fun c => (h c).2, sem_eq_zero_of_no_sems (by decide) r.2⟩)
    (DwsqRefIdeal.Value.run (F := Ideal) m ρ)

/-- Kernel and reference, from equal arguments, leave equal products. -/
theorem algebraic : Cert.algebraic_DwsqIdeal_DwsqRefIdeal (hDwsqIdeal := Cert.DwsqIdeal.Gen.facts)
    (hDwsqRefIdeal := Cert.DwsqRefIdeal.Gen.facts) := by
  intro m ρ m' ρ' hpre hagree
  refine ⟨fun c => tn (DwsqIdeal.Arr.A m c) (DwsqIdeal.Arr.B m c), ?_, ?_⟩
  · exact (θ_run DwsqIdeal.defs _ _).mono (fun r h c => ⟨(h c).1.trans (DwsqIdeal.Arr.arr m c), (h c).2⟩)
      (DwsqIdeal.Value.run_blocks (F := Ideal) m ρ)
  · refine (θ_run DwsqRefIdeal.defs _ _).mono (fun r h c => ?_) (DwsqRefIdeal.Value.run (F := Ideal) m' ρ')
    obtain ⟨e0, e1⟩ := hagree c
    refine ⟨(h c).1.trans ?_, (h c).2⟩
    rw [DwsqRefIdeal.Read.val_main_v6_eq, e0, e1]
    exact ref_eq _ _

end Cert.DwsqEq

end
-- ==== Proof.DytArray.lean ====
/- What the kernel of the gradient of the convolution module's values through its output projection leaves in its array: one block of the product at each grid point. -/
module

public import proofs.«01_k».proof.Proof.Gen.DytIdeal.Value
public import proofs.«01_k».proof.Proof.Products
public import Idealize.ShloMosaic.Lib.Pipeline.ValueKit

@[expose] public section

set_option maxRecDepth 16384

noncomputable section

namespace Cert.DytIdeal.Arr

open Cert.DytIdeal Cert.DytIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 2 := t.isLt

/-- Row `x` of the point's block of the result. -/
abbrev tk (t : Fin cfg0.N) (x : Fin 2048) : Fin 4096 := ⟨t.val * 2048 + x.val, by have := ptLt t; omega⟩

/-- The first factor. -/
abbrev A (c : Dev nD) : S4096x1024.Idx → EReal := m ((c : Thread nD τ).loc main_arg0)
/-- The second. -/
abbrev W (c : Dev nD) : S512x1024.Idx → EReal := m ((c : Thread nD τ).loc main_arg1)

/-- The block of the first factor. -/
theorem blk0 (c : Dev nD) (t : Fin cfg0.N) (x : Fin 2048) (y : Fin 1024) : iblk m c 0 t (ix2 x y) = A m c (ix2 (tk t x) y) := by
  blk_ext [iblk, V, idx t]

/-- The block of the second, the whole of it. -/
theorem blk1 (c : Dev nD) (t : Fin cfg0.N) (x : Fin 1024) (y : Fin 512) : iblk m c 1 t (ix2 x y) = W m c (ix2 y x) := by
  blk_simp [iblk, V, idx t]
  entry_read
  pointwise
  refine congrArg (W m c) ?_
  blk_ext [idx t]

/-- What a point computes. -/
theorem pay_at (c : Dev nD) (t : Fin cfg0.N) (x : Fin 2048) (y : Fin 512) :
    k0_pay1 (F := Ideal) (iblk m c 0 t) (iblk m c 1 t) (ix2 x y) =
      ∑ k : Fin 1024, A m c (ix2 (tk t x) k) * W m c (ix2 y k) := by
  pointwise [Gen.k0_pay1]
  simp only [blk0, blk1]

/-- After the run the array holds the product. -/
theorem arr (c : Dev nD) : (dats m 0 c).arrAt 2 cfg0.N = nt (A m c) (W m c) := by
  refine (dats m 0 c).arrAt_eq_of_covers 2 _ (by decide +kernel) fun t hf y => ?_
  blk_simp
  rw [after0_2]
  idx_vars y
  rw [nt_at _ _ (tk t y0) y1 _ (by blk_simp [idx t]) (by blk_simp [idx t]), ← pay_at m c t y0 y1]
  frame_out

end Cert.DytIdeal.Arr

end
-- ==== Proof.DytClaim.lean ====
/- The claims of the gradient of the convolution module's values through its output projection: the reference's frame, and that kernel and reference leave equal results. -/
module

public import proofs.«01_k».proof.Defs
public import proofs.«01_k».proof.Proof.DytArray
public import proofs.«01_k».proof.Proof.Gen.DytRefIdeal.Read
public import Idealize.ShloMosaic.Lib.Quiescent

@[expose] public section

set_option maxRecDepth 16384

noncomputable section

namespace Cert.DytEq

open Idealize.ShloMosaic Idealize.ShloMosaic.TcCoe Idealize.SL.Sem Cert.Products

/-- The reference's result is the product. -/
theorem ref_eq (a : Cert.DytRefIdeal.S4096x1024.Idx → EReal) (w : Cert.DytRefIdeal.S512x1024.Idx → EReal) :
    DytRefIdeal.Read.val_main_v4 (F := Ideal) a w = nt a w := by
  funext i
  idx_vars i
  pointwise [DytRefIdeal.Read.val_main_v4, DytRefIdeal.Read.val_main_v3, DytRefIdeal.Read.val_main_v2]
  unfold nt
  exact Finset.sum_congr rfl fun k _ => rfl

/-- The reference's frame. -/
theorem frame_ref : Cert.quiescent_DytRefIdeal (hDytRefIdeal := Cert.DytRefIdeal.Gen.facts) := fun m ρ _ =>
  (θ_run DytRefIdeal.defs _ _).mono (fun r h => ⟨fun c => (h c).2, sem_eq_zero_of_no_sems (by decide) r.2⟩)
    (DytRefIdeal.Value.run (F := Ideal) m ρ)

/-- Kernel and reference, from equal arguments, leave equal products. -/
theorem algebraic : Cert.algebraic_DytIdeal_DytRefIdeal (hDytIdeal := Cert.DytIdeal.Gen.facts)
    (hDytRefIdeal := Cert.DytRefIdeal.Gen.facts) := by
  intro m ρ m' ρ' hpre hagree
  refine ⟨fun c => nt (DytIdeal.Arr.A m c) (DytIdeal.Arr.W m c), ?_, ?_⟩
  · exact (θ_run DytIdeal.defs _ _).mono (fun r h c => ⟨(h c).1.trans (DytIdeal.Arr.arr m c), (h c).2⟩)
      (DytIdeal.Value.run_blocks (F := Ideal) m ρ)
  · refine (θ_run DytRefIdeal.defs _ _).mono (fun r h c => ?_) (DytRefIdeal.Value.run (F := Ideal) m' ρ')
    obtain ⟨e0, e1⟩ := hagree c
    refine ⟨(h c).1.trans ?_, (h c).2⟩
    rw [DytRefIdeal.Read.val_main_v4_eq, e0, e1]
    exact ref_eq _ _

end Cert.DytEq

end
-- ==== Proof.DwcoArray.lean ====
/- What the kernel of the gradient of the convolution module's output weights leaves in its array: two grid points for each block, the first of which
   keeps the product over its half of the tokens in the scratch. -/
module

public import proofs.«01_k».proof.Proof.Gen.DwcoIdeal.Value
public import proofs.«01_k».proof.Proof.Products
public import Idealize.ShloMosaic.Lib.Pipeline.ValueKit
public import Idealize.ShloMosaic.Lib.Pipeline.ReadBack

@[expose] public section

set_option maxRecDepth 16384

noncomputable section

namespace Cert.DwcoIdeal.Arr

open Cert.DwcoIdeal Cert.DwcoIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val % 2, t.val / 2] ∧ win0_1.index t = ![t.val % 2, 0] ∧ win0_2.index t = ![t.val / 2, 0] := by
  decide +kernel

/-- How many grid points there are. -/
theorem ptLt (t : Fin cfg0.N) : t.val < 2 := t.isLt
/-- The half is one of the two. -/
theorem hh (t : Fin cfg0.N) : t.val % 2 < 2 := Nat.mod_lt _ (by decide)

/-- Token `k` of half `h`. -/
abbrev tok (h : ℕ) (hh : h < 2) (k : Fin 2048) : Fin 4096 := ⟨h * 2048 + k.val, by omega⟩
/-- Row `x` of the point's block of the result. -/
abbrev rw' (t : Fin cfg0.N) (x : Fin 1024) : Fin 1024 := ⟨t.val / 2 * 1024 + x.val, by have := ptLt t; omega⟩

/-- The first factor. -/
abbrev A (c : Dev nD) : S4096x1024.Idx → EReal := m ((c : Thread nD τ).loc main_arg0)
/-- The second factor. -/
abbrev B (c : Dev nD) : S4096x512.Idx → EReal := m ((c : Thread nD τ).loc main_arg1)

/-- The block of the first factor. -/
theorem blk0 (c : Dev nD) (t : Fin cfg0.N) (k : Fin 2048) (x : Fin 1024) :
    iblk m c 0 t (ix2 k x) = A m c (ix2 (tok (t.val % 2) (hh t) k) (rw' t x)) := by
  blk_ext [iblk, V, idx t]

/-- The block of the second. -/
theorem blk1 (c : Dev nD) (t : Fin cfg0.N) (k : Fin 2048) (y : Fin 512) :
    iblk m c 1 t (ix2 k y) = B m c (ix2 (tok (t.val % 2) (hh t) k) y) := by
  blk_ext [iblk, V, idx t]

/-- The product over a half of the tokens. -/
def half (c : Dev nD) (h : ℕ) (hh : h < 2) (x : Fin 1024) (y : Fin 512) : EReal :=
  ∑ k : Fin 2048, A m c (ix2 (tok h hh k) x) * B m c (ix2 (tok h hh k) y)

/-- The two halves make the product. -/
theorem halves (c : Dev nD) (x : Fin 1024) (y : Fin 512) :
    half m c 0 (by decide) x y + half m c 1 (by decide) x y = ∑ k : Fin 4096, A m c (ix2 k x) * B m c (ix2 k y) := by
  refine Eq.trans ?_ (Fin.sum_mul_add_congr (S := 2) (n := 2048) (F := fun s k => A m c (ix2 (tok s.val s.isLt k) x) * B m c (ix2 (tok s.val s.isLt k) y))
    (fun s k hl => rfl))
  rw [Fin.sum_univ_two]
  rfl

/-- What a point multiplies. -/
theorem pay1_at (c : Dev nD) (t : Fin cfg0.N) (h : ℕ) (hh' : h < 2) (e : t.val % 2 = h) (x : Fin 1024) (y : Fin 512) :
    k0_pay1 (F := Ideal) (iblk m c 0 t) (iblk m c 1 t) (ix2 x y) = half m c h hh' (rw' t x) y := by
  subst e
  pointwise [Gen.k0_pay1]
  simp only [blk0, blk1]
  rfl

/-- What the first point of a block leaves in the scratch. -/
theorem scr (c : Dev nD) (t : Fin cfg0.N) (h0 : t.val % 2 = 0) (x : Fin 1024) (y : Fin 512) :
    (outsAt0 m c t.val t.isLt).2 (ix2 x y) = half m c 0 (by decide) (rw' t x) y := by
  rw [← pay1_at m c t 0 _ h0, Gen.outsAt0_A m c t h0 (by omega) (by omega)]
  frame_out
  pointwise [Gen.k0_pay2]

/-- The point before. -/
abbrev pre (t : Fin cfg0.N) : Fin cfg0.N := ⟨t.val - 1, Nat.lt_of_le_of_lt (Nat.sub_le _ _) t.isLt⟩

/-- What the second point of a block writes is the product. -/
theorem out_at (c : Dev nD) (t : Fin cfg0.N) (h : t.val % 2 = 1) (x : Fin 1024) (y : Fin 512) :
    (outsAt0 m c t.val t.isLt).1 (ix2 x y) = ∑ k : Fin 4096, A m c (ix2 k (rw' t x)) * B m c (ix2 k y) := by
  have l : (pre t).val % 2 = 0 := show (t.val - 1) % 2 = 0 by omega
  have q : rw' (pre t) x = rw' t x := Fin.ext (show (t.val - 1) / 2 * 1024 + x.val = t.val / 2 * 1024 + x.val by
    have : (t.val - 1) / 2 = t.val / 2 := by omega
    rw [this])
  have e := scr m c (pre t) l x y
  rw [q] at e
  rw [← halves, ← e, ← pay1_at m c t 1 _ h, Gen.outsAt0_B m c t (by omega) h h]
  frame_out
  simp only [read_unread_whole]
  pointwise [Gen.k0_pay4, Gen.k0_pay3]

/-- After the run the array holds the product. -/
theorem arr (c : Dev nD) : (dats m 0 c).arrAt 2 cfg0.N = tn (A m c) (B m c) := by
  refine (dats m 0 c).arrAt_eq_of_covers 2 _ (by decide +kernel) fun t hf y => ?_
  have h := (flush0_2 t).mp hf
  blk_simp
  rw [after0_2]
  idx_vars y
  rw [tn_at _ _ (rw' t y0) y1 _ (by blk_simp [idx t]) (by blk_simp [idx t]), ← out_at m c t h y0 y1]

end Cert.DwcoIdeal.Arr

end
-- ==== Proof.DwcoClaim.lean ====
/- The claims of the gradient of the convolution module's output weights: the reference's frame, and that kernel and reference leave equal results. -/
module

public import proofs.«01_k».proof.Defs
public import proofs.«01_k».proof.Proof.DwcoArray
public import proofs.«01_k».proof.Proof.Gen.DwcoRefIdeal.Read
public import Idealize.ShloMosaic.Lib.Quiescent

@[expose] public section

set_option maxRecDepth 16384

noncomputable section

namespace Cert.DwcoEq

open Idealize.ShloMosaic Idealize.ShloMosaic.TcCoe Idealize.SL.Sem Cert.Products

/-- The reference's result is the product. -/
theorem ref_eq (a : Cert.DwcoRefIdeal.S4096x1024.Idx → EReal) (b : Cert.DwcoRefIdeal.S4096x512.Idx → EReal) :
    DwcoRefIdeal.Read.val_main_v7 (F := Ideal) a b = tn a b := by
  funext i
  idx_vars i
  pointwise [DwcoRefIdeal.Read.val_main_v7, DwcoRefIdeal.Read.val_main_v6, DwcoRefIdeal.Read.val_main_v5, DwcoRefIdeal.Read.val_main_v4, DwcoRefIdeal.Read.val_main_v3, DwcoRefIdeal.Read.val_main_v1]
  unfold tn
  exact Finset.sum_congr rfl fun k _ => rfl

/-- The reference's frame. -/
theorem frame_ref : Cert.quiescent_DwcoRefIdeal (hDwcoRefIdeal := Cert.DwcoRefIdeal.Gen.facts) := fun m ρ _ =>
  (θ_run DwcoRefIdeal.defs _ _).mono (fun r h => ⟨fun c => (h c).2, sem_eq_zero_of_no_sems (by decide) r.2⟩)
    (DwcoRefIdeal.Value.run (F := Ideal) m ρ)

/-- Kernel and reference, from equal arguments, leave equal products. -/
theorem algebraic : Cert.algebraic_DwcoIdeal_DwcoRefIdeal (hDwcoIdeal := Cert.DwcoIdeal.Gen.facts)
    (hDwcoRefIdeal := Cert.DwcoRefIdeal.Gen.facts) := by
  intro m ρ m' ρ' hpre hagree
  refine ⟨fun c => tn (DwcoIdeal.Arr.A m c) (DwcoIdeal.Arr.B m c), ?_, ?_⟩
  · exact (θ_run DwcoIdeal.defs _ _).mono (fun r h c => ⟨(h c).1.trans (DwcoIdeal.Arr.arr m c), (h c).2⟩)
      (DwcoIdeal.Value.run_blocks (F := Ideal) m ρ)
  · refine (θ_run DwcoRefIdeal.defs _ _).mono (fun r h c => ?_) (DwcoRefIdeal.Value.run (F := Ideal) m' ρ')
    obtain ⟨e0, e1⟩ := hagree c
    refine ⟨(h c).1.trans ?_, (h c).2⟩
    rw [DwcoRefIdeal.Read.val_main_v7_eq, e0, e1]
    exact ref_eq _ _

end Cert.DwcoEq

end
-- ==== Proof.QprojArray.lean ====
/- What the kernel of the queries' projection leaves in its array: one block of the product at each grid point. -/
module

public import proofs.«01_k».proof.Proof.Gen.QprojIdeal.Value
public import proofs.«01_k».proof.Proof.Products
public import Idealize.ShloMosaic.Lib.Pipeline.ValueKit

@[expose] public section

set_option maxRecDepth 16384

noncomputable section

namespace Cert.QprojIdeal.Arr

open Cert.QprojIdeal Cert.QprojIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 2 := t.isLt

/-- Row `x` of the point's block of the result. -/
abbrev tk (t : Fin cfg0.N) (x : Fin 2048) : Fin 4096 := ⟨t.val * 2048 + x.val, by have := ptLt t; omega⟩

/-- The first factor. -/
abbrev A (c : Dev nD) : S4096x1024.Idx → EReal := m ((c : Thread nD τ).loc main_arg0)
/-- The second. -/
abbrev W (c : Dev nD) : S1024x1024.Idx → EReal := m ((c : Thread nD τ).loc main_arg1)

/-- The block of the first factor. -/
theorem blk0 (c : Dev nD) (t : Fin cfg0.N) (x : Fin 2048) (y : Fin 1024) : iblk m c 0 t (ix2 x y) = A m c (ix2 (tk t x) y) := by
  blk_ext [iblk, V, idx t]

/-- The block of the second, the whole of it. -/
theorem blk1 (c : Dev nD) (t : Fin cfg0.N) (x : Fin 1024) (y : Fin 1024) : iblk m c 1 t (ix2 x y) = W m c (ix2 x y) := by
  blk_simp [iblk, V, idx t]
  entry_read
  pointwise
  refine congrArg (W m c) ?_
  blk_ext [idx t]

/-- What a point computes. -/
theorem pay_at (c : Dev nD) (t : Fin cfg0.N) (x : Fin 2048) (y : Fin 1024) :
    k0_pay1 (F := Ideal) (iblk m c 0 t) (iblk m c 1 t) (ix2 x y) =
      ∑ k : Fin 1024, A m c (ix2 (tk t x) k) * W m c (ix2 k y) := by
  pointwise [Gen.k0_pay1]
  simp only [blk0, blk1]

/-- After the run the array holds the product. -/
theorem arr (c : Dev nD) : (dats m 0 c).arrAt 2 cfg0.N = nn 0 (by decide) (A m c) (W m c) := by
  refine (dats m 0 c).arrAt_eq_of_covers 2 _ (by decide +kernel) fun t hf y => ?_
  blk_simp
  rw [after0_2]
  idx_vars y
  rw [nn_at _ _ _ _ (tk t y0) y1 y1 (Nat.zero_add _).symm _ (by blk_simp [idx t]) (by blk_simp [idx t]), ← pay_at m c t y0 y1]
  frame_out

end Cert.QprojIdeal.Arr

end
-- ==== Proof.QprojClaim.lean ====
/- The claims of the queries' projection: the reference's frame, and that kernel and reference leave equal results. -/
module

public import proofs.«01_k».proof.Defs
public import proofs.«01_k».proof.Proof.QprojArray
public import proofs.«01_k».proof.Proof.Gen.QprojRefIdeal.Read
public import Idealize.ShloMosaic.Lib.Quiescent

@[expose] public section

set_option maxRecDepth 16384

noncomputable section

namespace Cert.QprojEq

open Idealize.ShloMosaic Idealize.ShloMosaic.TcCoe Idealize.SL.Sem Cert.Products

/-- The reference's result is the product. -/
theorem ref_eq (a : Cert.QprojRefIdeal.S4096x1024.Idx → EReal) (w : Cert.QprojRefIdeal.S1024x1024.Idx → EReal) :
    QprojRefIdeal.Read.val_main_v2 (F := Ideal) a w = nn 0 (by decide) a w := by
  funext i
  idx_vars i
  pointwise [QprojRefIdeal.Read.val_main_v2, QprojRefIdeal.Read.val_main_v1, QprojRefIdeal.Read.val_main_v0]
  unfold nn
  exact Finset.sum_congr rfl fun k _ => congrArg (_ * w ·) (congrArg (ix2 k) (Fin.ext (Nat.zero_add _).symm))

/-- The reference's frame. -/
theorem frame_ref : Cert.quiescent_QprojRefIdeal (hQprojRefIdeal := Cert.QprojRefIdeal.Gen.facts) := fun m ρ _ =>
  (θ_run QprojRefIdeal.defs _ _).mono (fun r h => ⟨fun c => (h c).2, sem_eq_zero_of_no_sems (by decide) r.2⟩)
    (QprojRefIdeal.Value.run (F := Ideal) m ρ)

/-- Kernel and reference, from equal arguments, leave equal products. -/
theorem algebraic : Cert.algebraic_QprojIdeal_QprojRefIdeal (hQprojIdeal := Cert.QprojIdeal.Gen.facts)
    (hQprojRefIdeal := Cert.QprojRefIdeal.Gen.facts) := by
  intro m ρ m' ρ' hpre hagree
  refine ⟨fun c => nn 0 (by decide) (QprojIdeal.Arr.A m c) (QprojIdeal.Arr.W m c), ?_, ?_⟩
  · exact (θ_run QprojIdeal.defs _ _).mono (fun r h c => ⟨(h c).1.trans (QprojIdeal.Arr.arr m c), (h c).2⟩)
      (QprojIdeal.Value.run_blocks (F := Ideal) m ρ)
  · refine (θ_run QprojRefIdeal.defs _ _).mono (fun r h c => ?_) (QprojRefIdeal.Value.run (F := Ideal) m' ρ')
    obtain ⟨e0, e1⟩ := hagree c
    refine ⟨(h c).1.trans ?_, (h c).2⟩
    rw [QprojRefIdeal.Read.val_main_v2_eq, e0, e1]
    exact ref_eq _ _

end Cert.QprojEq

end
-- ==== Proof.OutprojArray.lean ====
/- What the kernel of the output projection of the merge or of the attention, beside the residual path leaves in its array: one block of the product at each grid point. -/
module

public import proofs.«01_k».proof.Proof.Gen.OutprojIdeal.Value
public import proofs.«01_k».proof.Proof.Products
public import Idealize.ShloMosaic.Lib.Pipeline.ValueKit

@[expose] public section

set_option maxRecDepth 16384

noncomputable section

namespace Cert.OutprojIdeal.Arr

open Cert.OutprojIdeal Cert.OutprojIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] ∧ win0_3.index t = ![t.val, 0] := by
  decide +kernel

/-- How many grid points there are. -/
theorem ptLt (t : Fin cfg0.N) : t.val < 4 := t.isLt

/-- Row `x` of the point's block of the result. -/
abbrev tk (t : Fin cfg0.N) (x : Fin 1024) : Fin 4096 := ⟨t.val * 1024 + x.val, by have := ptLt t; omega⟩

/-- The first factor. -/
abbrev A (c : Dev nD) : S4096x1024.Idx → EReal := m ((c : Thread nD τ).loc main_arg0)
/-- The second. -/
abbrev W (c : Dev nD) : S1024x1024.Idx → EReal := m ((c : Thread nD τ).loc main_arg1)
/-- What the product is added to. -/
abbrev R (c : Dev nD) : S4096x1024.Idx → EReal := m ((c : Thread nD τ).loc main_arg2)

/-- The block of the first factor. -/
theorem blk0 (c : Dev nD) (t : Fin cfg0.N) (x : Fin 1024) (y : Fin 1024) : iblk m c 0 t (ix2 x y) = A m c (ix2 (tk t x) y) := by
  blk_ext [iblk, V, idx t]

/-- The block of the second, the whole of it. -/
theorem blk1 (c : Dev nD) (t : Fin cfg0.N) (x : Fin 1024) (y : Fin 1024) : iblk m c 1 t (ix2 x y) = W m c (ix2 x y) := by
  blk_simp [iblk, V, idx t]
  entry_read
  pointwise
  refine congrArg (W m c) ?_
  blk_ext [idx t]

/-- The block of what it is added to. -/
theorem blk2 (c : Dev nD) (t : Fin cfg0.N) (x : Fin 1024) (y : Fin 1024) : iblk m c 2 t (ix2 x y) = R m c (ix2 (tk t x) y) := by
  blk_ext [iblk, V, idx t]

/-- What a point computes. -/
theorem pay_at (c : Dev nD) (t : Fin cfg0.N) (x : Fin 1024) (y : Fin 1024) :
    k0_pay1 (F := Ideal) (iblk m c 0 t) (iblk m c 1 t) (iblk m c 2 t) (ix2 x y) =
      R m c (ix2 (tk t x) y) + ∑ k : Fin 1024, A m c (ix2 (tk t x) k) * W m c (ix2 k y) := by
  pointwise [Gen.k0_pay1]
  simp only [blk0, blk1, blk2]
  exact add_comm _ _

/-- After the run the array holds the product beside it. -/
theorem arr (c : Dev nD) : (dats m 0 c).arrAt 3 cfg0.N = fun i => R m c i + nn 0 (by decide) (A m c) (W m c) i := by
  refine (dats m 0 c).arrAt_eq_of_covers 3 _ (by decide +kernel) fun t hf y => ?_
  blk_simp
  rw [after0_3]
  idx_vars y
  rw [nn_at _ _ _ _ (tk t y0) y1 y1 (Nat.zero_add _).symm _ (by blk_simp [idx t]) (by blk_simp [idx t])]
  refine Eq.trans ?_ ((pay_at m c t y0 y1).trans (congrArg (· + _) (congrArg (R m c) ?_)))
  · frame_out
  · blk_ext [idx t]

end Cert.OutprojIdeal.Arr

end
-- ==== Proof.OutprojClaim.lean ====
/- The claims of the output projection of the merge or of the attention, beside the residual path: the reference's frame, and that kernel and reference leave equal results. -/
module

public import proofs.«01_k».proof.Defs
public import proofs.«01_k».proof.Proof.OutprojArray
public import proofs.«01_k».proof.Proof.Gen.OutprojRefIdeal.Read
public import Idealize.ShloMosaic.Lib.Quiescent

@[expose] public section

set_option maxRecDepth 16384

noncomputable section

namespace Cert.OutprojEq

open Idealize.ShloMosaic Idealize.ShloMosaic.TcCoe Idealize.SL.Sem Cert.Products

/-- The reference's result is the product beside what it is added to. -/
theorem ref_eq (a : Cert.OutprojRefIdeal.S4096x1024.Idx → EReal) (w : Cert.OutprojRefIdeal.S1024x1024.Idx → EReal) (r : Cert.OutprojRefIdeal.S4096x1024.Idx → EReal) :
    OutprojRefIdeal.Read.val_main_v2 (F := Ideal) a w r = fun i => r i + nn 0 (by decide) a w i := by
  funext i
  idx_vars i
  pointwise [OutprojRefIdeal.Read.val_main_v2, OutprojRefIdeal.Read.val_main_v1, OutprojRefIdeal.Read.val_main_v0]
  rw [nn_at _ _ _ _ i0 i1 i1 (Nat.zero_add _).symm _ rfl rfl]

/-- The reference's frame. -/
theorem frame_ref : Cert.quiescent_OutprojRefIdeal (hOutprojRefIdeal := Cert.OutprojRefIdeal.Gen.facts) := fun m ρ _ =>
  (θ_run OutprojRefIdeal.defs _ _).mono (fun r h => ⟨fun c => (h c).2, sem_eq_zero_of_no_sems (by decide) r.2⟩)
    (OutprojRefIdeal.Value.run (F := Ideal) m ρ)

/-- Kernel and reference, from equal arguments, leave equal products. -/
theorem algebraic : Cert.algebraic_OutprojIdeal_OutprojRefIdeal (hOutprojIdeal := Cert.OutprojIdeal.Gen.facts)
    (hOutprojRefIdeal := Cert.OutprojRefIdeal.Gen.facts) := by
  intro m ρ m' ρ' hpre hagree
  refine ⟨fun c i => OutprojIdeal.Arr.R m c i + nn 0 (by decide) (OutprojIdeal.Arr.A m c) (OutprojIdeal.Arr.W m c) i, ?_, ?_⟩
  · exact (θ_run OutprojIdeal.defs _ _).mono (fun r h c => ⟨(h c).1.trans (OutprojIdeal.Arr.arr m c), (h c).2⟩)
      (OutprojIdeal.Value.run_blocks (F := Ideal) m ρ)
  · refine (θ_run OutprojRefIdeal.defs _ _).mono (fun r h c => ?_) (OutprojRefIdeal.Value.run (F := Ideal) m' ρ')
    obtain ⟨e0, e1, e2⟩ := hagree c
    refine ⟨(h c).1.trans ?_, (h c).2⟩
    rw [OutprojRefIdeal.Read.val_main_v2_eq, e0, e1, e2]
    exact ref_eq _ _ _

end Cert.OutprojEq

end
-- ==== Proof.ConvoutArray.lean ====
/- What the kernel of the output projection of the convolution module leaves in its array: one block of the product at each grid point. -/
module

public import proofs.«01_k».proof.Proof.Gen.ConvoutIdeal.Value
public import proofs.«01_k».proof.Proof.Products
public import Idealize.ShloMosaic.Lib.Pipeline.ValueKit

@[expose] public section

set_option maxRecDepth 16384

noncomputable section

namespace Cert.ConvoutIdeal.Arr

open Cert.ConvoutIdeal Cert.ConvoutIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 2 := t.isLt

/-- Row `x` of the point's block of the result. -/
abbrev tk (t : Fin cfg0.N) (x : Fin 2048) : Fin 4096 := ⟨t.val * 2048 + x.val, by have := ptLt t; omega⟩

/-- The first factor. -/
abbrev A (c : Dev nD) : S4096x512.Idx → EReal := m ((c : Thread nD τ).loc main_arg0)
/-- The second. -/
abbrev W (c : Dev nD) : S512x1024.Idx → EReal := m ((c : Thread nD τ).loc main_arg1)

/-- The block of the first factor. -/
theorem blk0 (c : Dev nD) (t : Fin cfg0.N) (x : Fin 2048) (y : Fin 512) : iblk m c 0 t (ix2 x y) = A m c (ix2 (tk t x) y) := by
  blk_ext [iblk, V, idx t]

/-- The block of the second, the whole of it. -/
theorem blk1 (c : Dev nD) (t : Fin cfg0.N) (x : Fin 1024) (y : Fin 512) : iblk m c 1 t (ix2 x y) = W m c (ix2 y x) := by
  blk_simp [iblk, V, idx t]
  entry_read
  pointwise
  refine congrArg (W m c) ?_
  blk_ext [idx t]

/-- What a point computes. -/
theorem pay_at (c : Dev nD) (t : Fin cfg0.N) (x : Fin 2048) (y : Fin 1024) :
    k0_pay1 (F := Ideal) (iblk m c 0 t) (iblk m c 1 t) (ix2 x y) =
      ∑ k : Fin 512, A m c (ix2 (tk t x) k) * W m c (ix2 k y) := by
  pointwise [Gen.k0_pay1]
  simp only [blk0, blk1]

/-- After the run the array holds the product. -/
theorem arr (c : Dev nD) : (dats m 0 c).arrAt 2 cfg0.N = nn 0 (by decide) (A m c) (W m c) := by
  refine (dats m 0 c).arrAt_eq_of_covers 2 _ (by decide +kernel) fun t hf y => ?_
  blk_simp
  rw [after0_2]
  idx_vars y
  rw [nn_at _ _ _ _ (tk t y0) y1 y1 (Nat.zero_add _).symm _ (by blk_simp [idx t]) (by blk_simp [idx t]), ← pay_at m c t y0 y1]
  frame_out

end Cert.ConvoutIdeal.Arr

end
-- ==== Proof.ConvoutClaim.lean ====
/- The claims of the output projection of the convolution module: the reference's frame, and that kernel and reference leave equal results. -/
module

public import proofs.«01_k».proof.Defs
public import proofs.«01_k».proof.Proof.ConvoutArray
public import proofs.«01_k».proof.Proof.Gen.ConvoutRefIdeal.Read
public import Idealize.ShloMosaic.Lib.Quiescent

@[expose] public section

set_option maxRecDepth 16384

noncomputable section

namespace Cert.ConvoutEq

open Idealize.ShloMosaic Idealize.ShloMosaic.TcCoe Idealize.SL.Sem Cert.Products

/-- The reference's result is the product. -/
theorem ref_eq (a : Cert.ConvoutRefIdeal.S4096x512.Idx → EReal) (w : Cert.ConvoutRefIdeal.S512x1024.Idx → EReal) :
    ConvoutRefIdeal.Read.val_main_v2 (F := Ideal) a w = nn 0 (by decide) a w := by
  funext i
  idx_vars i
  pointwise [ConvoutRefIdeal.Read.val_main_v2, ConvoutRefIdeal.Read.val_main_v1, ConvoutRefIdeal.Read.val_main_v0]
  unfold nn
  exact Finset.sum_congr rfl fun k _ => congrArg (_ * w ·) (congrArg (ix2 k) (Fin.ext (Nat.zero_add _).symm))

/-- The reference's frame. -/
theorem frame_ref : Cert.quiescent_ConvoutRefIdeal (hConvoutRefIdeal := Cert.ConvoutRefIdeal.Gen.facts) := fun m ρ _ =>
  (θ_run ConvoutRefIdeal.defs _ _).mono (fun r h => ⟨fun c => (h c).2, sem_eq_zero_of_no_sems (by decide) r.2⟩)
    (ConvoutRefIdeal.Value.run (F := Ideal) m ρ)

/-- Kernel and reference, from equal arguments, leave equal products. -/
theorem algebraic : Cert.algebraic_ConvoutIdeal_ConvoutRefIdeal (hConvoutIdeal := Cert.ConvoutIdeal.Gen.facts)
    (hConvoutRefIdeal := Cert.ConvoutRefIdeal.Gen.facts) := by
  intro m ρ m' ρ' hpre hagree
  refine ⟨fun c => nn 0 (by decide) (ConvoutIdeal.Arr.A m c) (ConvoutIdeal.Arr.W m c), ?_, ?_⟩
  · exact (θ_run ConvoutIdeal.defs _ _).mono (fun r h c => ⟨(h c).1.trans (ConvoutIdeal.Arr.arr m c), (h c).2⟩)
      (ConvoutIdeal.Value.run_blocks (F := Ideal) m ρ)
  · refine (θ_run ConvoutRefIdeal.defs _ _).mono (fun r h c => ?_) (ConvoutRefIdeal.Value.run (F := Ideal) m' ρ')
    obtain ⟨e0, e1⟩ := hagree c
    refine ⟨(h c).1.trans ?_, (h c).2⟩
    rw [ConvoutRefIdeal.Read.val_main_v2_eq, e0, e1]
    exact ref_eq _ _

end Cert.ConvoutEq

end
-- ==== Proof.KvprojArray.lean ====
/- What the kernel of the projection of the memory to keys and values leaves in its array: one block of the product at each grid point. -/
module

public import proofs.«01_k».proof.Proof.Gen.KvprojIdeal.Value
public import proofs.«01_k».proof.Proof.Products
public import Idealize.ShloMosaic.Lib.Pipeline.ValueKit

@[expose] public section

set_option maxRecDepth 16384

noncomputable section

namespace Cert.KvprojIdeal.Arr

open Cert.KvprojIdeal Cert.KvprojIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 1 := t.isLt

/-- Row `x` of the point's block of the result. -/
abbrev tk (t : Fin cfg0.N) (x : Fin 512) : Fin 512 := ⟨x.val, by have := ptLt t; omega⟩

/-- The first factor. -/
abbrev A (c : Dev nD) : S512x1024.Idx → EReal := m ((c : Thread nD τ).loc main_arg0)
/-- The second. -/
abbrev W (c : Dev nD) : S1024x2048.Idx → EReal := m ((c : Thread nD τ).loc main_arg1)

/-- The block of the first factor. -/
theorem blk0 (c : Dev nD) (t : Fin cfg0.N) (x : Fin 512) (y : Fin 1024) : iblk m c 0 t (ix2 x y) = A m c (ix2 (tk t x) y) := by
  blk_ext [iblk, V, idx t]

/-- The block of the second, the whole of it. -/
theorem blk1 (c : Dev nD) (t : Fin cfg0.N) (x : Fin 2048) (y : Fin 1024) : iblk m c 1 t (ix2 x y) = W m c (ix2 y x) := by
  blk_simp [iblk, V, idx t]
  entry_read
  pointwise
  refine congrArg (W m c) ?_
  blk_ext [idx t]

/-- What a point computes. -/
theorem pay_at (c : Dev nD) (t : Fin cfg0.N) (x : Fin 512) (y : Fin 2048) :
    k0_pay1 (F := Ideal) (iblk m c 0 t) (iblk m c 1 t) (ix2 x y) =
      ∑ k : Fin 1024, A m c (ix2 (tk t x) k) * W m c (ix2 k y) := by
  pointwise [Gen.k0_pay1]
  simp only [blk0, blk1]

/-- After the run the array holds the product. -/
theorem arr (c : Dev nD) : (dats m 0 c).arrAt 2 cfg0.N = nn 0 (by decide) (A m c) (W m c) := by
  refine (dats m 0 c).arrAt_eq_of_covers 2 _ (by decide +kernel) fun t hf y => ?_
  blk_simp
  rw [after0_2]
  idx_vars y
  rw [nn_at _ _ _ _ (tk t y0) y1 y1 (Nat.zero_add _).symm _ (by blk_simp [idx t]) (by blk_simp [idx t]), ← pay_at m c t y0 y1]
  frame_out

end Cert.KvprojIdeal.Arr

end
-- ==== Proof.KvprojClaim.lean ====
/- The claims of the projection of the memory to keys and values: the reference's frame, and that kernel and reference leave equal results. -/
module

public import proofs.«01_k».proof.Defs
public import proofs.«01_k».proof.Proof.KvprojArray
public import proofs.«01_k».proof.Proof.Gen.KvprojRefIdeal.Read
public import Idealize.ShloMosaic.Lib.Quiescent

@[expose] public section

set_option maxRecDepth 16384

noncomputable section

namespace Cert.KvprojEq

open Idealize.ShloMosaic Idealize.ShloMosaic.TcCoe Idealize.SL.Sem Cert.Products

/-- The reference's result is the product. -/
theorem ref_eq (a : Cert.KvprojRefIdeal.S512x1024.Idx → EReal) (w : Cert.KvprojRefIdeal.S1024x2048.Idx → EReal) :
    KvprojRefIdeal.Read.val_main_v2 (F := Ideal) a w = nn 0 (by decide) a w := by
  funext i
  idx_vars i
  pointwise [KvprojRefIdeal.Read.val_main_v2, KvprojRefIdeal.Read.val_main_v1, KvprojRefIdeal.Read.val_main_v0]
  unfold nn
  exact Finset.sum_congr rfl fun k _ => congrArg (_ * w ·) (congrArg (ix2 k) (Fin.ext (Nat.zero_add _).symm))

/-- The reference's frame. -/
theorem frame_ref : Cert.quiescent_KvprojRefIdeal (hKvprojRefIdeal := Cert.KvprojRefIdeal.Gen.facts) := fun m ρ _ =>
  (θ_run KvprojRefIdeal.defs _ _).mono (fun r h => ⟨fun c => (h c).2, sem_eq_zero_of_no_sems (by decide) r.2⟩)
    (KvprojRefIdeal.Value.run (F := Ideal) m ρ)

/-- Kernel and reference, from equal arguments, leave equal products. -/
theorem algebraic : Cert.algebraic_KvprojIdeal_KvprojRefIdeal (hKvprojIdeal := Cert.KvprojIdeal.Gen.facts)
    (hKvprojRefIdeal := Cert.KvprojRefIdeal.Gen.facts) := by
  intro m ρ m' ρ' hpre hagree
  refine ⟨fun c => nn 0 (by decide) (KvprojIdeal.Arr.A m c) (KvprojIdeal.Arr.W m c), ?_, ?_⟩
  · exact (θ_run KvprojIdeal.defs _ _).mono (fun r h c => ⟨(h c).1.trans (KvprojIdeal.Arr.arr m c), (h c).2⟩)
      (KvprojIdeal.Value.run_blocks (F := Ideal) m ρ)
  · refine (θ_run KvprojRefIdeal.defs _ _).mono (fun r h c => ?_) (KvprojRefIdeal.Value.run (F := Ideal) m' ρ')
    obtain ⟨e0, e1⟩ := hagree c
    refine ⟨(h c).1.trans ?_, (h c).2⟩
    rw [KvprojRefIdeal.Read.val_main_v2_eq, e0, e1]
    exact ref_eq _ _

end Cert.KvprojEq

end
-- ==== Proof.DwkvArray.lean ====
/- What the kernel of the gradient of the weights of the keys and values leaves in its array: one block of the product at each grid point. -/
module

public import proofs.«01_k».proof.Proof.Gen.DwkvIdeal.Value
public import proofs.«01_k».proof.Proof.Products
public import Idealize.ShloMosaic.Lib.Pipeline.ValueKit

@[expose] public section

set_option maxRecDepth 16384

noncomputable section

namespace Cert.DwkvIdeal.Arr

open Cert.DwkvIdeal Cert.DwkvIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, t.val] ∧ win0_1.index t = ![0, 0] ∧ win0_2.index t = ![t.val, 0] := by
  decide +kernel

/-- How many grid points there are. -/
theorem ptLt (t : Fin cfg0.N) : t.val < 2 := t.isLt

/-- Row `x` of the point's block of the result. -/
abbrev tk (t : Fin cfg0.N) (x : Fin 1024) : Fin 2048 := ⟨t.val * 1024 + x.val, by have := ptLt t; omega⟩

/-- The first factor. -/
abbrev A (c : Dev nD) : S512x2048.Idx → EReal := m ((c : Thread nD τ).loc main_arg0)
/-- The second. -/
abbrev W (c : Dev nD) : S512x1024.Idx → EReal := m ((c : Thread nD τ).loc main_arg1)

/-- The block of the first factor. -/
theorem blk0 (c : Dev nD) (t : Fin cfg0.N) (x : Fin 512) (y : Fin 1024) : iblk m c 0 t (ix2 x y) = A m c (ix2 x (tk t y)) := by
  blk_ext [iblk, V, idx t]

/-- The block of the second, the whole of it. -/
theorem blk1 (c : Dev nD) (t : Fin cfg0.N) (x : Fin 512) (y : Fin 1024) : iblk m c 1 t (ix2 x y) = W m c (ix2 x y) := by
  blk_ext [iblk, V, idx t]

/-- What a point computes. -/
theorem pay_at (c : Dev nD) (t : Fin cfg0.N) (x : Fin 1024) (y : Fin 1024) :
    k0_pay1 (F := Ideal) (iblk m c 0 t) (iblk m c 1 t) (ix2 x y) =
      ∑ k : Fin 512, A m c (ix2 k (tk t x)) * W m c (ix2 k y) := by
  pointwise [Gen.k0_pay1]
  simp only [blk0, blk1]

/-- After the run the array holds the product. -/
theorem arr (c : Dev nD) : (dats m 0 c).arrAt 2 cfg0.N = tn (A m c) (W m c) := by
  refine (dats m 0 c).arrAt_eq_of_covers 2 _ (by decide +kernel) fun t hf y => ?_
  blk_simp
  rw [after0_2]
  idx_vars y
  rw [tn_at _ _ (tk t y0) y1 _ (by blk_simp [idx t]) (by blk_simp [idx t]), ← pay_at m c t y0 y1]
  frame_out

end Cert.DwkvIdeal.Arr

end
-- ==== Proof.DwkvClaim.lean ====
/- The claims of the gradient of the weights of the keys and values: the reference's frame, and that kernel and reference leave equal results. -/
module

public import proofs.«01_k».proof.Defs
public import proofs.«01_k».proof.Proof.DwkvArray
public import proofs.«01_k».proof.Proof.Gen.DwkvRefIdeal.Read
public import Idealize.ShloMosaic.Lib.Quiescent

@[expose] public section

set_option maxRecDepth 16384

noncomputable section

namespace Cert.DwkvEq

open Idealize.ShloMosaic Idealize.ShloMosaic.TcCoe Idealize.SL.Sem Cert.Products

/-- The reference's result is the product. -/
theorem ref_eq (a : Cert.DwkvRefIdeal.S512x2048.Idx → EReal) (w : Cert.DwkvRefIdeal.S512x1024.Idx → EReal) :
    DwkvRefIdeal.Read.val_main_v6 (F := Ideal) a w = tn a w := by
  funext i
  idx_vars i
  pointwise [DwkvRefIdeal.Read.val_main_v6, DwkvRefIdeal.Read.val_main_v5, DwkvRefIdeal.Read.val_main_v4, DwkvRefIdeal.Read.val_main_v3, DwkvRefIdeal.Read.val_main_v1]
  unfold tn
  exact Finset.sum_congr rfl fun k _ => rfl

/-- The reference's frame. -/
theorem frame_ref : Cert.quiescent_DwkvRefIdeal (hDwkvRefIdeal := Cert.DwkvRefIdeal.Gen.facts) := fun m ρ _ =>
  (θ_run DwkvRefIdeal.defs _ _).mono (fun r h => ⟨fun c => (h c).2, sem_eq_zero_of_no_sems (by decide) r.2⟩)
    (DwkvRefIdeal.Value.run (F := Ideal) m ρ)

/-- Kernel and reference, from equal arguments, leave equal products. -/
theorem algebraic : Cert.algebraic_DwkvIdeal_DwkvRefIdeal (hDwkvIdeal := Cert.DwkvIdeal.Gen.facts)
    (hDwkvRefIdeal := Cert.DwkvRefIdeal.Gen.facts) := by
  intro m ρ m' ρ' hpre hagree
  refine ⟨fun c => tn (DwkvIdeal.Arr.A m c) (DwkvIdeal.Arr.W m c), ?_, ?_⟩
  · exact (θ_run DwkvIdeal.defs _ _).mono (fun r h c => ⟨(h c).1.trans (DwkvIdeal.Arr.arr m c), (h c).2⟩)
      (DwkvIdeal.Value.run_blocks (F := Ideal) m ρ)
  · refine (θ_run DwkvRefIdeal.defs _ _).mono (fun r h c => ?_) (DwkvRefIdeal.Value.run (F := Ideal) m' ρ')
    obtain ⟨e0, e1⟩ := hagree c
    refine ⟨(h c).1.trans ?_, (h c).2⟩
    rw [DwkvRefIdeal.Read.val_main_v6_eq, e0, e1]
    exact ref_eq _ _

end Cert.DwkvEq

end
-- ==== Proof.DmemArray.lean ====
/- What the kernel of the gradient of the normed memory beside that of the layer above leaves in its array: one block of the product at each grid point. -/
module

public import proofs.«01_k».proof.Proof.Gen.DmemIdeal.Value
public import proofs.«01_k».proof.Proof.Products
public import Idealize.ShloMosaic.Lib.Pipeline.ValueKit

@[expose] public section

set_option maxRecDepth 16384

noncomputable section

namespace Cert.DmemIdeal.Arr

open Cert.DmemIdeal Cert.DmemIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] ∧ win0_3.index t = ![t.val, 0] := by
  decide +kernel

/-- How many grid points there are. -/
theorem ptLt (t : Fin cfg0.N) : t.val < 1 := t.isLt

/-- Row `x` of the point's block of the result. -/
abbrev tk (t : Fin cfg0.N) (x : Fin 512) : Fin 512 := ⟨x.val, by have := ptLt t; omega⟩

/-- The first factor. -/
abbrev A (c : Dev nD) : S512x2048.Idx → EReal := m ((c : Thread nD τ).loc main_arg0)
/-- The second. -/
abbrev W (c : Dev nD) : S1024x2048.Idx → EReal := m ((c : Thread nD τ).loc main_arg1)
/-- What the product is added to. -/
abbrev R (c : Dev nD) : S512x1024.Idx → EReal := m ((c : Thread nD τ).loc main_arg2)

/-- The block of the first factor. -/
theorem blk0 (c : Dev nD) (t : Fin cfg0.N) (x : Fin 512) (y : Fin 2048) : iblk m c 0 t (ix2 x y) = A m c (ix2 (tk t x) y) := by
  blk_ext [iblk, V, idx t]

/-- The block of the second, the whole of it. -/
theorem blk1 (c : Dev nD) (t : Fin cfg0.N) (x : Fin 2048) (y : Fin 1024) : iblk m c 1 t (ix2 x y) = W m c (ix2 y x) := by
  blk_simp [iblk, V, idx t]
  entry_read
  pointwise
  refine congrArg (W m c) ?_
  blk_ext [idx t]

/-- The block of what it is added to. -/
theorem blk2 (c : Dev nD) (t : Fin cfg0.N) (x : Fin 512) (y : Fin 1024) : iblk m c 2 t (ix2 x y) = R m c (ix2 (tk t x) y) := by
  blk_ext [iblk, V, idx t]

/-- What a point computes. -/
theorem pay_at (c : Dev nD) (t : Fin cfg0.N) (x : Fin 512) (y : Fin 1024) :
    k0_pay1 (F := Ideal) (iblk m c 0 t) (iblk m c 1 t) (iblk m c 2 t) (ix2 x y) =
      R m c (ix2 (tk t x) y) + ∑ k : Fin 2048, A m c (ix2 (tk t x) k) * W m c (ix2 y k) := by
  pointwise [Gen.k0_pay1]
  simp only [blk0, blk1, blk2]
  exact add_comm _ _

/-- After the run the array holds the product beside it. -/
theorem arr (c : Dev nD) : (dats m 0 c).arrAt 3 cfg0.N = fun i => R m c i + nt (A m c) (W m c) i := by
  refine (dats m 0 c).arrAt_eq_of_covers 3 _ (by decide +kernel) fun t hf y => ?_
  blk_simp
  rw [after0_3]
  idx_vars y
  rw [nt_at _ _ (tk t y0) y1 _ (by blk_simp [idx t]) (by blk_simp [idx t])]
  refine Eq.trans ?_ ((pay_at m c t y0 y1).trans (congrArg (· + _) (congrArg (R m c) ?_)))
  · frame_out
  · blk_ext [idx t]

end Cert.DmemIdeal.Arr

end
-- ==== Proof.DmemClaim.lean ====
/- The claims of the gradient of the normed memory beside that of the layer above: the reference's frame, and that kernel and reference leave equal results. -/
module

public import proofs.«01_k».proof.Defs
public import proofs.«01_k».proof.Proof.DmemArray
public import proofs.«01_k».proof.Proof.Gen.DmemRefIdeal.Read
public import Idealize.ShloMosaic.Lib.Quiescent

@[expose] public section

set_option maxRecDepth 16384

noncomputable section

namespace Cert.DmemEq

open Idealize.ShloMosaic Idealize.ShloMosaic.TcCoe Idealize.SL.Sem Cert.Products

/-- The reference's result is the product beside what it is added to. -/
theorem ref_eq (a : Cert.DmemRefIdeal.S512x2048.Idx → EReal) (w : Cert.DmemRefIdeal.S1024x2048.Idx → EReal) (r : Cert.DmemRefIdeal.S512x1024.Idx → EReal) :
    DmemRefIdeal.Read.val_main_v3 (F := Ideal) a w r = fun i => r i + nt a w i := by
  funext i
  idx_vars i
  pointwise [DmemRefIdeal.Read.val_main_v3, DmemRefIdeal.Read.val_main_v2]
  rw [nt_at _ _ i0 i1 _ rfl rfl]

/-- The reference's frame. -/
theorem frame_ref : Cert.quiescent_DmemRefIdeal (hDmemRefIdeal := Cert.DmemRefIdeal.Gen.facts) := fun m ρ _ =>
  (θ_run DmemRefIdeal.defs _ _).mono (fun r h => ⟨fun c => (h c).2, sem_eq_zero_of_no_sems (by decide) r.2⟩)
    (DmemRefIdeal.Value.run (F := Ideal) m ρ)

/-- Kernel and reference, from equal arguments, leave equal products. -/
theorem algebraic : Cert.algebraic_DmemIdeal_DmemRefIdeal (hDmemIdeal := Cert.DmemIdeal.Gen.facts)
    (hDmemRefIdeal := Cert.DmemRefIdeal.Gen.facts) := by
  intro m ρ m' ρ' hpre hagree
  refine ⟨fun c i => DmemIdeal.Arr.R m c i + nt (DmemIdeal.Arr.A m c) (DmemIdeal.Arr.W m c) i, ?_, ?_⟩
  · exact (θ_run DmemIdeal.defs _ _).mono (fun r h c => ⟨(h c).1.trans (DmemIdeal.Arr.arr m c), (h c).2⟩)
      (DmemIdeal.Value.run_blocks (F := Ideal) m ρ)
  · refine (θ_run DmemRefIdeal.defs _ _).mono (fun r h c => ?_) (DmemRefIdeal.Value.run (F := Ideal) m' ρ')
    obtain ⟨e0, e1, e2⟩ := hagree c
    refine ⟨(h c).1.trans ?_, (h c).2⟩
    rw [DmemRefIdeal.Read.val_main_v3_eq, e0, e1, e2]
    exact ref_eq _ _ _

end Cert.DmemEq

end
-- ==== Proof.DmemtopArray.lean ====
/- What the kernel of the gradient of the normed memory through the last layer leaves in its array: one block of the product at each grid point. -/
module

public import proofs.«01_k».proof.Proof.Gen.DmemtopIdeal.Value
public import proofs.«01_k».proof.Proof.Products
public import Idealize.ShloMosaic.Lib.Pipeline.ValueKit

@[expose] public section

set_option maxRecDepth 16384

noncomputable section

namespace Cert.DmemtopIdeal.Arr

open Cert.DmemtopIdeal Cert.DmemtopIdeal.Gen Cert.Products Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 1 := t.isLt

/-- Row `x` of the point's block of the result. -/
abbrev tk (t : Fin cfg0.N) (x : Fin 512) : Fin 512 := ⟨x.val, by have := ptLt t; omega⟩

/-- The first factor. -/
abbrev A (c : Dev nD) : S512x2048.Idx → EReal := m ((c : Thread nD τ).loc main_arg0)
/-- The second. -/
abbrev W (c : Dev nD) : S1024x2048.Idx → EReal := m ((c : Thread nD τ).loc main_arg1)

/-- The block of the first factor. -/
theorem blk0 (c : Dev nD) (t : Fin cfg0.N) (x : Fin 512) (y : Fin 2048) : iblk m c 0 t (ix2 x y) = A m c (ix2 (tk t x) y) := by
  blk_ext [iblk, V, idx t]

/-- The block of the second, the whole of it. -/
theorem blk1 (c : Dev nD) (t : Fin cfg0.N) (x : Fin 2048) (y : Fin 1024) : iblk m c 1 t (ix2 x y) = W m c (ix2 y x) := by
  blk_simp [iblk, V, idx t]
  entry_read
  pointwise
  refine congrArg (W m c) ?_
  blk_ext [idx t]

/-- What a point computes. -/
theorem pay_at (c : Dev nD) (t : Fin cfg0.N) (x : Fin 512) (y : Fin 1024) :
    k0_pay1 (F := Ideal) (iblk m c 0 t) (iblk m c 1 t) (ix2 x y) =
      ∑ k : Fin 2048, A m c (ix2 (tk t x) k) * W m c (ix2 y k) := by
  pointwise [Gen.k0_pay1]
  simp only [blk0, blk1]

/-- After the run the array holds the product. -/
theorem arr (c : Dev nD) : (dats m 0 c).arrAt 2 cfg0.N = nt (A m c) (W m c) := by
  refine (dats m 0 c).arrAt_eq_of_covers 2 _ (by decide +kernel) fun t hf y => ?_
  blk_simp
  rw [after0_2]
  idx_vars y
  rw [nt_at _ _ (tk t y0) y1 _ (by blk_simp [idx t]) (by blk_simp [idx t]), ← pay_at m c t y0 y1]
  frame_out

end Cert.DmemtopIdeal.Arr

end
-- ==== Proof.DmemtopClaim.lean ====
/- The claims of the gradient of the normed memory through the last layer: the reference's frame, and that kernel and reference leave equal results. -/
module

public import proofs.«01_k».proof.Defs
public import proofs.«01_k».proof.Proof.DmemtopArray
public import proofs.«01_k».proof.Proof.Gen.DmemtopRefIdeal.Read
public import Idealize.ShloMosaic.Lib.Quiescent

@[expose] public section

set_option maxRecDepth 16384

noncomputable section

namespace Cert.DmemtopEq

open Idealize.ShloMosaic Idealize.ShloMosaic.TcCoe Idealize.SL.Sem Cert.Products

/-- The reference's result is the product. -/
theorem ref_eq (a : Cert.DmemtopRefIdeal.S512x2048.Idx → EReal) (w : Cert.DmemtopRefIdeal.S1024x2048.Idx → EReal) :
    DmemtopRefIdeal.Read.val_main_v2 (F := Ideal) a w = nt a w := by
  funext i
  idx_vars i
  pointwise [DmemtopRefIdeal.Read.val_main_v2]
  unfold nt
  exact Finset.sum_congr rfl fun k _ => rfl

/-- The reference's frame. -/
theorem frame_ref : Cert.quiescent_DmemtopRefIdeal (hDmemtopRefIdeal := Cert.DmemtopRefIdeal.Gen.facts) := fun m ρ _ =>
  (θ_run DmemtopRefIdeal.defs _ _).mono (fun r h => ⟨fun c => (h c).2, sem_eq_zero_of_no_sems (by decide) r.2⟩)
    (DmemtopRefIdeal.Value.run (F := Ideal) m ρ)

/-- Kernel and reference, from equal arguments, leave equal products. -/
theorem algebraic : Cert.algebraic_DmemtopIdeal_DmemtopRefIdeal (hDmemtopIdeal := Cert.DmemtopIdeal.Gen.facts)
    (hDmemtopRefIdeal := Cert.DmemtopRefIdeal.Gen.facts) := by
  intro m ρ m' ρ' hpre hagree
  refine ⟨fun c => nt (DmemtopIdeal.Arr.A m c) (DmemtopIdeal.Arr.W m c), ?_, ?_⟩
  · exact (θ_run DmemtopIdeal.defs _ _).mono (fun r h c => ⟨(h c).1.trans (DmemtopIdeal.Arr.arr m c), (h c).2⟩)
      (DmemtopIdeal.Value.run_blocks (F := Ideal) m ρ)
  · refine (θ_run DmemtopRefIdeal.defs _ _).mono (fun r h c => ?_) (DmemtopRefIdeal.Value.run (F := Ideal) m' ρ')
    obtain ⟨e0, e1⟩ := hagree c
    refine ⟨(h c).1.trans ?_, (h c).2⟩
    rw [DmemtopRefIdeal.Read.val_main_v2_eq, e0, e1]
    exact ref_eq _ _

end Cert.DmemtopEq

end
-- ==== Proof.AttnfMath.lean ====
/- The attention of 4096 queries over the memory, as a function on extended reals. -/
module

public import proofs.«01_k».proof.Proof.AttnMath

@[expose] public section

set_option maxRecDepth 16384

noncomputable section

namespace Cert.AttnMath

open Idealize.ShloMosaic

/-- The attention's output for one batch entry and head: the values, weighted. -/
def av (q : Tok.Idx → EReal) (kv : Mem.Idx → EReal) (b h : ℕ) (hb : b < 2) (hh : h < 4) (t : Fin 2048) (d : Fin 256) : EReal :=
  ∑ j, prob (sc q kv b h hb hh) t j * mem kv b (4 + h) hb (by omega) j d

/-- The array of the attention's output. -/
def AV (q : Tok.Idx → EReal) (kv : Mem.Idx → EReal) (i : Tok.Idx) : EReal :=
  av q kv ((i 0).val / 2048) ((i 1).val / 256) (Nat.div_lt_of_lt_mul (i 0).isLt) (Nat.div_lt_of_lt_mul (i 1).isLt)
    ⟨(i 0).val % 2048, Nat.mod_lt _ (by decide)⟩ ⟨(i 1).val % 256, Nat.mod_lt _ (by decide)⟩

/-- The output read at an index of a given block. -/
theorem AV_at (q : Tok.Idx → EReal) (kv : Mem.Idx → EReal) (b h : ℕ) (hb : b < 2) (hh : h < 4) (t : Fin 2048) (d : Fin 256)
    (i : Tok.Idx) (h0 : (i 0).val = b * 2048 + t.val) (h1 : (i 1).val = h * 256 + d.val) : AV q kv i = av q kv b h hb hh t d := by
  unfold AV
  congr 1
  · omega
  · omega
  · exact Fin.ext (by show (i 0).val % 2048 = t.val; omega)
  · exact Fin.ext (by show (i 1).val % 256 = d.val; omega)

/-- An index of 4096 × 1024 is a batch entry, a head, a token and a lane. -/
theorem splitTok (i : Tok.Idx) : ∃ (b : Fin 2) (h : Fin 4) (t : Fin 2048) (d : Fin 256),
    i = ix2 ⟨b.val * 2048 + t.val, by omega⟩ ⟨h.val * 256 + d.val, by omega⟩ := by
  idx_vars i
  refine ⟨⟨i0.val / 2048, by omega⟩, ⟨i1.val / 256, by omega⟩, ⟨i0.val % 2048, by omega⟩, ⟨i1.val % 256, by omega⟩, ?_⟩
  rw [ix2_inj]
  exact ⟨Fin.ext (Nat.div_add_mod' _ _).symm, Fin.ext (Nat.div_add_mod' _ _).symm⟩

end Cert.AttnMath

end
-- ==== Proof.AttnfArray.lean ====
/- What the attention's kernel leaves in its array: block by block the output of one batch entry and one head. -/
module

public import proofs.«01_k».proof.Proof.Gen.AttnfIdeal.Value
public import proofs.«01_k».proof.Proof.AttnfMath
public import Idealize.ShloMosaic.Lib.Pipeline.ValueKit

@[expose] public section

set_option maxRecDepth 16384

noncomputable section

namespace Cert.AttnfIdeal.Arr

open Cert.AttnfIdeal Cert.AttnfIdeal.Gen Cert.AttnMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val / 4, t.val % 4] ∧ win0_1.index t = ![t.val / 4, t.val % 4] ∧ win0_2.index t = ![t.val / 4, 4 + t.val % 4] ∧
    win0_3.index t = ![t.val / 4, t.val % 4] := by
  decide +kernel

/-- A grid point is a batch entry. -/
theorem hb (t : Fin cfg0.N) : t.val / 4 < 2 := by
  have h : cfg0.N = 8 := by decide +kernel
  have := t.isLt
  omega
/-- A grid point is a head. -/
theorem hh (t : Fin cfg0.N) : t.val % 4 < 4 := Nat.mod_lt _ (by decide)

/-- The queries. -/
abbrev Q (c : Dev nD) : Tok.Idx → EReal := m ((c : Thread nD τ).loc main_arg0)
/-- The memory's keys and values. -/
abbrev KV (c : Dev nD) : Mem.Idx → EReal := m ((c : Thread nD τ).loc main_arg1)

/-- The block of queries. -/
theorem blk0 (c : Dev nD) (t : Fin cfg0.N) (x : Fin 2048) (y : Fin 256) :
    iblk m c 0 t (ix2 x y) = tok (Q m c) (t.val / 4) (t.val % 4) (hb t) (hh t) x y := by
  unfold tok
  blk_ext [iblk, V, idx t]

/-- The block of keys. -/
theorem blk1 (c : Dev nD) (t : Fin cfg0.N) (x : Fin 256) (y : Fin 256) :
    iblk m c 1 t (ix2 x y) = mem (KV m c) (t.val / 4) (t.val % 4) (hb t) (Nat.lt_trans (hh t) (by decide)) x y := by
  unfold mem
  blk_ext [iblk, V, idx t]

/-- The block of values. -/
theorem blk2 (c : Dev nD) (t : Fin cfg0.N) (x : Fin 256) (y : Fin 256) :
    iblk m c 2 t (ix2 x y) = mem (KV m c) (t.val / 4) (4 + t.val % 4) (hb t) (Nat.add_lt_add_left (hh t) 4) x y := by
  unfold mem
  blk_ext [iblk, V, idx t]

/-- After the run the array holds the attention's output. -/
theorem arr (c : Dev nD) : (dats m 0 c).arrAt 3 cfg0.N = AV (Q m c) (KV m c) := by
  refine (dats m 0 c).arrAt_eq_of_covers 3 _ (by decide +kernel) fun t hf y => ?_
  blk_simp
  rw [after0_3]
  frame_out
  idx_vars y
  rw [AV_at _ _ (t.val / 4) (t.val % 4) (hb t) (hh t) y0 y1 _ (by blk_simp [idx t]) (by blk_simp [idx t])]
  pointwise [Gen.k0_pay1]
  simp only [blk0, blk1, blk2]
  rfl

end Cert.AttnfIdeal.Arr

end
-- ==== Proof.AttnfRef.lean ====
/- What the reference of the attention computes, read at an index. -/
module

public import proofs.«01_k».proof.Proof.Gen.AttnfRefIdeal.Read
public import proofs.«01_k».proof.Proof.AttnEq
public import proofs.«01_k».proof.Proof.AttnfMath
public import Idealize.ShloMosaic.Lib.Pointwise
public import Idealize.ShloMosaic.Lib.Pipeline.ValueKit

@[expose] public section

set_option maxRecDepth 16384

noncomputable section

namespace Cert.AttnfRefIdeal.At

open Cert.AttnfRefIdeal Cert.AttnfRefIdeal.Gen Cert.AttnfRefIdeal.Read Cert.AttnMath Idealize.ShloMosaic Idealize.ShloMosaic.TcCoe Idealize.SL.Sem

variable (q : Tok.Idx → EReal) (kv : Mem.Idx → EReal)

/-- A maximum that starts at −∞ is unchanged by it. -/
theorem start_max (x : EReal) : max start x = x := by
  rw [start_eq]
  exact bot_sup_eq x

/-- The scores. -/
theorem v9_at (b : Fin 2) (h : Fin 4) (t : Fin 2048) (j : Fin 256) :
    val_main_v9 (F := Ideal) q kv (ix4 b h t j) = sc q kv b h b.isLt h.isLt t j := by
  pointwise [val_main_v9, val_main_v8, val_main_cst, val_main_v7, val_main_v5, val_main_v4, val_main_v3, val_main_v1, val_main_v0]
  rfl

/-- The largest score. -/
theorem v10_at (b : Fin 2) (h : Fin 4) (t : Fin 2048) :
    val_main_v10 (F := Ideal) q kv (ix3 b h t) = top (sc q kv b h b.isLt h.isLt) t := by
  unfold val_main_v10
  have e : ∀ j, val_main_v9 (F := Ideal) q kv (ix4 b h t j) = sc q kv b h b.isLt h.isLt t j := v9_at q kv b h t
  generalize val_main_v9 (F := Ideal) q kv = y at e ⊢
  pointwise [val_main_cst_0]
  unfold top
  simp only [e]

/-- The largest score, once more compared with −∞. -/
theorem v12_at (b : Fin 2) (h : Fin 4) (t : Fin 2048) :
    val_main_v12 (F := Ideal) q kv (ix3 b h t) = top (sc q kv b h b.isLt h.isLt) t := by
  rw [val_main_v12_apply, v10_at, val_main_v11_apply, val_main_cst_1_apply]
  exact start_max _

/-- The exponentials. -/
theorem v16_at (b : Fin 2) (h : Fin 4) (t : Fin 2048) (j : Fin 256) :
    val_main_v16 (F := Ideal) q kv (ix4 b h t j) = ex (sc q kv b h b.isLt h.isLt) t j := by
  unfold val_main_v16 val_main_v15 val_main_v14 val_main_v13
  have e := v9_at q kv b h t j
  have f := v12_at q kv b h t
  generalize val_main_v9 (F := Ideal) q kv = y at e ⊢
  generalize val_main_v12 (F := Ideal) q kv = z at f ⊢
  pointwise
  rw [e, f]
  rfl

/-- The sum of the exponentials. -/
theorem v17_at (b : Fin 2) (h : Fin 4) (t : Fin 2048) :
    val_main_v17 (F := Ideal) q kv (ix3 b h t) = den (sc q kv b h b.isLt h.isLt) t := by
  unfold val_main_v17
  have e := v16_at q kv b h t
  generalize val_main_v16 (F := Ideal) q kv = y at e ⊢
  pointwise [val_main_cst_2]
  simp only [e]
  rfl

/-- The weights. -/
theorem v20_at (b : Fin 2) (h : Fin 4) (t : Fin 2048) (j : Fin 256) :
    val_main_v20 (F := Ideal) q kv (ix4 b h t j) = prob (sc q kv b h b.isLt h.isLt) t j := by
  unfold val_main_v20 val_main_v19 val_main_v18
  have e := v16_at q kv b h t j
  have f := v17_at q kv b h t
  generalize val_main_v16 (F := Ideal) q kv = y at e ⊢
  generalize val_main_v17 (F := Ideal) q kv = z at f ⊢
  pointwise
  rw [e, f]
  rfl

/-- The output. -/
theorem v24_at (b : Fin 2) (h : Fin 4) (t : Fin 2048) (d : Fin 256) :
    val_main_v24 (F := Ideal) q kv (ix2 ⟨b.val * 2048 + t.val, by omega⟩ ⟨h.val * 256 + d.val, by omega⟩) = av q kv b h b.isLt h.isLt t d := by
  unfold val_main_v24 val_main_v23 val_main_v22 val_main_v21 val_main_v6 val_main_v2 val_main_v0
  have e := v20_at q kv b h
  generalize val_main_v20 (F := Ideal) q kv = y at e ⊢
  pointwise
  unfold av mem
  refine Finset.sum_congr rfl fun x _ => ?_
  rw [e, mul_comm]
  refine congrArg (prob _ _ _ * kv ·) ?_
  blk_ext

end Cert.AttnfRefIdeal.At

end
-- ==== Proof.AttnfClaim.lean ====
/- The claims of the attention: the reference's frame, and that kernel and reference leave equal results. -/
module

public import proofs.«01_k».proof.Defs
public import proofs.«01_k».proof.Proof.AttnfArray
public import proofs.«01_k».proof.Proof.Gen.AttnfRefIdeal.Read
public import Idealize.ShloMosaic.Lib.Pointwise
public import Idealize.ShloMosaic.Lib.Quiescent
public import proofs.«01_k».proof.Proof.AttnfRef

@[expose] public section

set_option maxRecDepth 16384

noncomputable section

namespace Cert.AttnfEq

open Idealize.ShloMosaic Idealize.ShloMosaic.TcCoe Idealize.SL.Sem Cert.AttnMath

/-- The reference's result is the attention's output. -/
theorem ref_eq (q : Tok.Idx → EReal) (kv : Mem.Idx → EReal) : AttnfRefIdeal.Read.val_main_v24 (F := Ideal) q kv = AV q kv := by
  funext i
  obtain ⟨b, h, t, d, rfl⟩ := splitTok i
  rw [AttnfRefIdeal.At.v24_at, AV_at q kv b h b.isLt h.isLt t d _ rfl rfl]

/-- The reference's frame. -/
theorem frame_ref : Cert.quiescent_AttnfRefIdeal (hAttnfRefIdeal := Cert.AttnfRefIdeal.Gen.facts) := fun m ρ _ =>
  (θ_run AttnfRefIdeal.defs _ _).mono (fun r h => ⟨fun c => (h c).2, sem_eq_zero_of_no_sems (by decide) r.2⟩)
    (AttnfRefIdeal.Value.run (F := Ideal) m ρ)

/-- Kernel and reference, from equal arguments, leave equal results. -/
theorem algebraic : Cert.algebraic_AttnfIdeal_AttnfRefIdeal (hAttnfIdeal := Cert.AttnfIdeal.Gen.facts)
    (hAttnfRefIdeal := Cert.AttnfRefIdeal.Gen.facts) := by
  intro m ρ m' ρ' hpre hagree
  refine ⟨fun c => AV (AttnfIdeal.Arr.Q m c) (AttnfIdeal.Arr.KV m c), ?_, ?_⟩
  · exact (θ_run AttnfIdeal.defs _ _).mono (fun r h c => ⟨(h c).1.trans (AttnfIdeal.Arr.arr m c), (h c).2⟩)
      (AttnfIdeal.Value.run_blocks (F := Ideal) m ρ)
  · refine (θ_run AttnfRefIdeal.defs _ _).mono (fun r h c => ?_) (AttnfRefIdeal.Value.run (F := Ideal) m' ρ')
    obtain ⟨e0, e1⟩ := hagree c
    refine ⟨(h c).1.trans ?_, (h c).2⟩
    rw [AttnfRefIdeal.Read.val_main_v24_eq, e0, e1]
    exact ref_eq _ _

end Cert.AttnfEq

end
-- ==== Proof.NormfMath.lean ====
/- The norm of rows of 1024 values, as a function on extended reals. -/
module

public import proofs.«01_k».proof.Proof.NormMath

@[expose] public section

set_option maxRecDepth 16384

noncomputable section

namespace Cert.NormMath

open Idealize.ShloMosaic

/-- The norm of `M` rows: each value times its row's factor and its channel's gain. -/
def NF {M : ℕ} (x : (⟨2, ![M, 1024]⟩ : Shape).Idx → EReal) (g : Vec0.Idx → EReal) : (⟨2, ![M, 1024]⟩ : Shape).Idx → EReal := fun i =>
  x (ix2 (i 0) (i 1)) * rs (fun k : Fin 1024 => x (ix2 (i 0) k)) * g (ix1 (i 1))

/-- The norm at an index that is known by its coordinates. -/
theorem NF_at {M : ℕ} (x : (⟨2, ![M, 1024]⟩ : Shape).Idx → EReal) (g : Vec0.Idx → EReal) (t : Fin M) (j : Fin 1024)
    (i : (⟨2, ![M, 1024]⟩ : Shape).Idx) (h0 : (i 0).val = t.val) (h1 : (i 1).val = j.val) :
    NF x g i = x (ix2 t j) * rs (fun k : Fin 1024 => x (ix2 t k)) * g (ix1 j) := by
  have e0 : i 0 = t := Fin.ext h0
  have e1 : i 1 = j := Fin.ext h1
  unfold NF
  rw [e0, e1]

end Cert.NormMath

end
-- ==== Proof.NormfArray.lean ====
/- What the kernel of the tokens' norm leaves in its array. -/
module

public import proofs.«01_k».proof.Proof.Gen.NormfIdeal.Value
public import proofs.«01_k».proof.Proof.NormfMath
public import Idealize.ShloMosaic.Lib.Pipeline.ValueKit

@[expose] public section

set_option maxRecDepth 16384

noncomputable section

namespace Cert.NormfIdeal.Arr

open Cert.NormfIdeal Cert.NormfIdeal.Gen Cert.NormMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![0, 0] ∧ win0_2.index t = ![t.val, 0] := by
  decide +kernel

/-- How many grid points there are. -/
theorem ptLt (t : Fin cfg0.N) : t.val < 4 := t.isLt

/-- Row `x` of the point's block. -/
abbrev tk (t : Fin cfg0.N) (x : Fin 1024) : Fin 4096 := ⟨t.val * 1024 + x.val, by have := ptLt t; omega⟩

/-- The rows. -/
abbrev X (c : Dev nD) : S4096x1024.Idx → EReal := m ((c : Thread nD τ).loc main_arg0)
/-- The gain. -/
abbrev G (c : Dev nD) : Vec0.Idx → EReal := m ((c : Thread nD τ).loc main_arg1)

/-- The block of rows. -/
theorem blk0 (c : Dev nD) (t : Fin cfg0.N) (x : Fin 1024) (y : Fin 1024) : iblk m c 0 t (ix2 x y) = X m c (ix2 (tk t x) y) := by
  blk_ext [iblk, V, idx t]

/-- The block of the gain. -/
theorem blk1 (c : Dev nD) (t : Fin cfg0.N) (x : Fin 1) (y : Fin 1024) : iblk m c 1 t (ix2 x y) = G m c (ix1 y) := by
  blk_simp [iblk, V, idx t]
  entry_read
  pointwise
  refine congrArg (G m c) (congrArg ix1 (Fin.ext ?_))
  blk_simp [idx t]

/-- What a point computes. -/
theorem pay_at (c : Dev nD) (t : Fin cfg0.N) (x : Fin 1024) (y : Fin 1024) :
    k0_pay1 (F := Ideal) (iblk m c 0 t) (iblk m c 1 t) (ix2 x y)
      = X m c (ix2 (tk t x) y) * rs (fun k : Fin 1024 => X m c (ix2 (tk t x) k)) * G m c (ix1 y) := by
  pointwise [Gen.k0_pay1]
  simp only [blk0, blk1]
  rfl

/-- After the run the array holds the norm. -/
theorem arr (c : Dev nD) : (dats m 0 c).arrAt 2 cfg0.N = NF (X m c) (G m c) := by
  refine (dats m 0 c).arrAt_eq_of_covers 2 _ (by decide +kernel) fun t hf y => ?_
  blk_simp
  rw [after0_2]
  idx_vars y
  rw [NF_at _ _ (tk t y0) y1 _ (by blk_simp [idx t]) (by blk_simp [idx t]), ← pay_at m c t y0 y1]
  frame_out

end Cert.NormfIdeal.Arr

end
-- ==== Proof.NormfClaim.lean ====
/- The claims of the tokens' norm: the reference's frame, and that kernel and reference leave equal results. -/
module

public import proofs.«01_k».proof.Defs
public import proofs.«01_k».proof.Proof.NormfArray
public import proofs.«01_k».proof.Proof.Gen.NormfRefIdeal.Read
public import Idealize.ShloMosaic.Lib.Pointwise
public import Idealize.ShloMosaic.Lib.Quiescent

@[expose] public section

set_option maxRecDepth 16384

noncomputable section

namespace Cert.NormfEq

open Idealize.ShloMosaic Idealize.ShloMosaic.TcCoe Idealize.SL.Sem Cert.NormMath

/-- The reference's result is the norm. -/
theorem ref_eq (x : NormfRefIdeal.S4096x1024.Idx → EReal) (g : Vec0.Idx → EReal) :
    NormfRefIdeal.Read.val_main_v13 (F := Ideal) x g = NF x g := by
  funext i
  idx_vars i
  pointwise [NormfRefIdeal.Read.val_main_v13, NormfRefIdeal.Read.val_main_v12, NormfRefIdeal.Read.val_main_v11, NormfRefIdeal.Read.val_main_v10, NormfRefIdeal.Read.val_main_v9, NormfRefIdeal.Read.val_main_v8, NormfRefIdeal.Read.val_main_v7, NormfRefIdeal.Read.val_main_v6, NormfRefIdeal.Read.val_main_v5, NormfRefIdeal.Read.val_main_v4, NormfRefIdeal.Read.val_main_v3, NormfRefIdeal.Read.val_main_v2, NormfRefIdeal.Read.val_main_v1, NormfRefIdeal.Read.val_main_v0,
    NormfRefIdeal.Read.val_main_cst, NormfRefIdeal.Read.val_main_cst_0, NormfRefIdeal.Read.val_main_cst_1]
  rfl

/-- The reference's frame. -/
theorem frame_ref : Cert.quiescent_NormfRefIdeal (hNormfRefIdeal := Cert.NormfRefIdeal.Gen.facts) := fun m ρ _ =>
  (θ_run NormfRefIdeal.defs _ _).mono (fun r h => ⟨fun c => (h c).2, sem_eq_zero_of_no_sems (by decide) r.2⟩)
    (NormfRefIdeal.Value.run (F := Ideal) m ρ)

/-- Kernel and reference, from equal arguments, leave equal results. -/
theorem algebraic : Cert.algebraic_NormfIdeal_NormfRefIdeal (hNormfIdeal := Cert.NormfIdeal.Gen.facts)
    (hNormfRefIdeal := Cert.NormfRefIdeal.Gen.facts) := by
  intro m ρ m' ρ' hpre hagree
  refine ⟨fun c => NF (NormfIdeal.Arr.X m c) (NormfIdeal.Arr.G m c), ?_, ?_⟩
  · exact (θ_run NormfIdeal.defs _ _).mono (fun r h c => ⟨(h c).1.trans (NormfIdeal.Arr.arr m c), (h c).2⟩)
      (NormfIdeal.Value.run_blocks (F := Ideal) m ρ)
  · refine (θ_run NormfRefIdeal.defs _ _).mono (fun r h c => ?_) (NormfRefIdeal.Value.run (F := Ideal) m' ρ')
    obtain ⟨e0, e1⟩ := hagree c
    refine ⟨(h c).1.trans ?_, (h c).2⟩
    rw [NormfRefIdeal.Read.val_main_v13_eq, e0, e1]
    exact ref_eq _ _

end Cert.NormfEq

end
-- ==== Proof.MemfArray.lean ====
/- What the kernel of the memory's norm leaves in its array. -/
module

public import proofs.«01_k».proof.Proof.Gen.MemfIdeal.Value
public import proofs.«01_k».proof.Proof.NormfMath
public import Idealize.ShloMosaic.Lib.Pipeline.ValueKit

@[expose] public section

set_option maxRecDepth 16384

noncomputable section

namespace Cert.MemfIdeal.Arr

open Cert.MemfIdeal Cert.MemfIdeal.Gen Cert.NormMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0] := by
  decide +kernel

/-- How many grid points there are. -/
theorem ptLt (t : Fin cfg0.N) : t.val < 1 := t.isLt

/-- Row `x` of the point's block. -/
abbrev tk (t : Fin cfg0.N) (x : Fin 512) : Fin 512 := ⟨x.val, x.isLt⟩

/-- The rows. -/
abbrev X (c : Dev nD) : S512x1024.Idx → EReal := m ((c : Thread nD τ).loc main_arg0)
/-- The gain. -/
abbrev G (c : Dev nD) : Vec0.Idx → EReal := m ((c : Thread nD τ).loc main_arg1)

/-- The block of rows. -/
theorem blk0 (c : Dev nD) (t : Fin cfg0.N) (x : Fin 512) (y : Fin 1024) : iblk m c 0 t (ix2 x y) = X m c (ix2 (tk t x) y) := by
  blk_ext [iblk, V, idx t]

/-- The block of the gain. -/
theorem blk1 (c : Dev nD) (t : Fin cfg0.N) (x : Fin 1) (y : Fin 1024) : iblk m c 1 t (ix2 x y) = G m c (ix1 y) := by
  blk_simp [iblk, V, idx t]
  entry_read
  pointwise
  refine congrArg (G m c) (congrArg ix1 (Fin.ext ?_))
  blk_simp [idx t]

/-- What a point computes. -/
theorem pay_at (c : Dev nD) (t : Fin cfg0.N) (x : Fin 512) (y : Fin 1024) :
    k0_pay1 (F := Ideal) (iblk m c 0 t) (iblk m c 1 t) (ix2 x y)
      = X m c (ix2 (tk t x) y) * rs (fun k : Fin 1024 => X m c (ix2 (tk t x) k)) * G m c (ix1 y) := by
  pointwise [Gen.k0_pay1]
  simp only [blk0, blk1]
  rfl

/-- After the run the array holds the norm. -/
theorem arr (c : Dev nD) : (dats m 0 c).arrAt 2 cfg0.N = NF (X m c) (G m c) := by
  refine (dats m 0 c).arrAt_eq_of_covers 2 _ (by decide +kernel) fun t hf y => ?_
  blk_simp
  rw [after0_2]
  idx_vars y
  rw [NF_at _ _ (tk t y0) y1 _ (by blk_simp [idx t]) (by blk_simp [idx t]), ← pay_at m c t y0 y1]
  frame_out

end Cert.MemfIdeal.Arr

end
-- ==== Proof.MemfClaim.lean ====
/- The claims of the memory's norm: the reference's frame, and that kernel and reference leave equal results. -/
module

public import proofs.«01_k».proof.Defs
public import proofs.«01_k».proof.Proof.MemfArray
public import proofs.«01_k».proof.Proof.Gen.MemfRefIdeal.Read
public import Idealize.ShloMosaic.Lib.Pointwise
public import Idealize.ShloMosaic.Lib.Quiescent

@[expose] public section

set_option maxRecDepth 16384

noncomputable section

namespace Cert.MemfEq

open Idealize.ShloMosaic Idealize.ShloMosaic.TcCoe Idealize.SL.Sem Cert.NormMath

/-- The reference's result is the norm. -/
theorem ref_eq (x : MemfRefIdeal.S512x1024.Idx → EReal) (g : Vec0.Idx → EReal) :
    MemfRefIdeal.Read.val_main_v13 (F := Ideal) x g = NF x g := by
  funext i
  idx_vars i
  pointwise [MemfRefIdeal.Read.val_main_v13, MemfRefIdeal.Read.val_main_v12, MemfRefIdeal.Read.val_main_v11, MemfRefIdeal.Read.val_main_v10, MemfRefIdeal.Read.val_main_v9, MemfRefIdeal.Read.val_main_v8, MemfRefIdeal.Read.val_main_v7, MemfRefIdeal.Read.val_main_v6, MemfRefIdeal.Read.val_main_v5, MemfRefIdeal.Read.val_main_v4, MemfRefIdeal.Read.val_main_v3, MemfRefIdeal.Read.val_main_v2, MemfRefIdeal.Read.val_main_v1, MemfRefIdeal.Read.val_main_v0,
    MemfRefIdeal.Read.val_main_cst, MemfRefIdeal.Read.val_main_cst_0, MemfRefIdeal.Read.val_main_cst_1]
  rfl

/-- The reference's frame. -/
theorem frame_ref : Cert.quiescent_MemfRefIdeal (hMemfRefIdeal := Cert.MemfRefIdeal.Gen.facts) := fun m ρ _ =>
  (θ_run MemfRefIdeal.defs _ _).mono (fun r h => ⟨fun c => (h c).2, sem_eq_zero_of_no_sems (by decide) r.2⟩)
    (MemfRefIdeal.Value.run (F := Ideal) m ρ)

/-- Kernel and reference, from equal arguments, leave equal results. -/
theorem algebraic : Cert.algebraic_MemfIdeal_MemfRefIdeal (hMemfIdeal := Cert.MemfIdeal.Gen.facts)
    (hMemfRefIdeal := Cert.MemfRefIdeal.Gen.facts) := by
  intro m ρ m' ρ' hpre hagree
  refine ⟨fun c => NF (MemfIdeal.Arr.X m c) (MemfIdeal.Arr.G m c), ?_, ?_⟩
  · exact (θ_run MemfIdeal.defs _ _).mono (fun r h c => ⟨(h c).1.trans (MemfIdeal.Arr.arr m c), (h c).2⟩)
      (MemfIdeal.Value.run_blocks (F := Ideal) m ρ)
  · refine (θ_run MemfRefIdeal.defs _ _).mono (fun r h c => ?_) (MemfRefIdeal.Value.run (F := Ideal) m' ρ')
    obtain ⟨e0, e1⟩ := hagree c
    refine ⟨(h c).1.trans ?_, (h c).2⟩
    rw [MemfRefIdeal.Read.val_main_v13_eq, e0, e1]
    exact ref_eq _ _

end Cert.MemfEq

end
-- ==== Proof.MergefMath.lean ====
/- The gated merge, as a function on extended reals. -/
module

public import proofs.«01_k».proof.Proof.MergeMath

@[expose] public section

set_option maxRecDepth 16384

noncomputable section

namespace Cert.MergeMath

open Idealize.ShloMosaic

variable (p : Proj.Idx → EReal) (yc yp : Tok.Idx → EReal) (s : Chan.Idx → EReal)

/-- The gated sum of the two branches, of one token and channel. -/
def mg (t : Fin 4096) (j : Fin 1024) : EReal := sg (gc p t j) * yc (ix2 t j) + sg (gp p t j) * (yp (ix2 t j) * s (ix1 j))

/-- The array of the merged tokens. -/
def MG : Tok.Idx → EReal := fun i => mg p yc yp s (i 0) (i 1)

/-- The array at an index that is known by its coordinates. -/
theorem MG_at (t : Fin 4096) (j : Fin 1024) (i : Tok.Idx) (h0 : (i 0).val = t.val) (h1 : (i 1).val = j.val) :
    MG p yc yp s i = mg p yc yp s t j := by
  have e0 : i 0 = t := Fin.ext h0
  have e1 : i 1 = j := Fin.ext h1
  unfold MG
  rw [e0, e1]

end Cert.MergeMath

end
-- ==== Proof.MergefArray.lean ====
/- What the kernel of the gated merge leaves in its array: a block of 1024 tokens and 512 channels at each of eight grid points. -/
module

public import proofs.«01_k».proof.Proof.Gen.MergefIdeal.Value
public import proofs.«01_k».proof.Proof.MergefMath
public import Idealize.ShloMosaic.Lib.Pipeline.ValueKit

@[expose] public section

set_option maxRecDepth 16384

noncomputable section

namespace Cert.MergefIdeal.Arr

open Cert.MergefIdeal Cert.MergefIdeal.Gen Cert.MergeMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val / 2, 3 + t.val % 2] ∧ win0_1.index t = ![t.val / 2, 5 + t.val % 2] ∧ win0_2.index t = ![t.val / 2, t.val % 2] ∧
    win0_3.index t = ![t.val / 2, t.val % 2] ∧ win0_4.index t = ![0, t.val % 2] ∧ win0_5.index t = ![t.val / 2, t.val % 2] := by
  decide +kernel

/-- How many grid points there are. -/
theorem ptLt (t : Fin cfg0.N) : t.val < 8 := t.isLt

/-- Token `x` of block `b`. -/
abbrev tk (b : ℕ) (hb : b < 4) (x : Fin 1024) : Fin 4096 := ⟨b * 1024 + x.val, by omega⟩
/-- Channel `y` of half `h`. -/
abbrev ch (h : ℕ) (hh : h < 2) (y : Fin 512) : Fin 1024 := ⟨h * 512 + y.val, by omega⟩
/-- The block of tokens is one of those there are. -/
theorem hb (t : Fin cfg0.N) : t.val / 2 < 4 := by
  have := ptLt t
  omega
/-- The half is one of the two. -/
theorem hh (t : Fin cfg0.N) : t.val % 2 < 2 := Nat.mod_lt _ (by decide)

/-- The projections. -/
abbrev P (c : Dev nD) : Proj.Idx → EReal := m ((c : Thread nD τ).loc main_arg0)
/-- The convolution's branch. -/
abbrev YC (c : Dev nD) : Tok.Idx → EReal := m ((c : Thread nD τ).loc main_arg1)
/-- The pool's branch. -/
abbrev YP (c : Dev nD) : Tok.Idx → EReal := m ((c : Thread nD τ).loc main_arg2)
/-- The pool's scale. -/
abbrev SC (c : Dev nD) : Chan.Idx → EReal := m ((c : Thread nD τ).loc main_arg3)

/-- The block of the first gate. -/
theorem blk0 (c : Dev nD) (t : Fin cfg0.N) (x : Fin 1024) (y : Fin 512) :
    iblk m c 0 t (ix2 x y) = gc (P m c) (tk (t.val / 2) (hb t) x) (ch (t.val % 2) (hh t) y) := by
  blk_ext [iblk, V, idx t]

/-- The block of the second gate. -/
theorem blk1 (c : Dev nD) (t : Fin cfg0.N) (x : Fin 1024) (y : Fin 512) :
    iblk m c 1 t (ix2 x y) = gp (P m c) (tk (t.val / 2) (hb t) x) (ch (t.val % 2) (hh t) y) := by
  blk_ext [iblk, V, idx t]

/-- The blocks of the two branches. -/
theorem blk2 (c : Dev nD) (t : Fin cfg0.N) (x : Fin 1024) (y : Fin 512) :
    iblk m c 2 t (ix2 x y) = YC m c (ix2 (tk (t.val / 2) (hb t) x) (ch (t.val % 2) (hh t) y)) := by
  blk_ext [iblk, V, idx t]
/-- The block of the second branch. -/
theorem blk3 (c : Dev nD) (t : Fin cfg0.N) (x : Fin 1024) (y : Fin 512) :
    iblk m c 3 t (ix2 x y) = YP m c (ix2 (tk (t.val / 2) (hb t) x) (ch (t.val % 2) (hh t) y)) := by
  blk_ext [iblk, V, idx t]

/-- The block of the scale. -/
theorem blk4 (c : Dev nD) (t : Fin cfg0.N) (x : Fin 1) (y : Fin 512) :
    iblk m c 4 t (ix2 x y) = SC m c (ix1 (ch (t.val % 2) (hh t) y)) := by
  blk_simp [iblk, V, idx t]
  entry_read
  pointwise
  refine congrArg (SC m c) (congrArg ix1 (Fin.ext ?_))
  blk_simp [idx t]

/-- The kernel writes the logistic function with a difference from zero. -/
theorem sg_eq (x : EReal) : Ideal.div one (one + Ideal.exp (Ideal.ofBits FTy.f32 0x00000000#32 - x)) = sg x := by
  unfold sg
  rw [show Ideal.ofBits FTy.f32 0x00000000#32 = 0 from by simp [Ideal.ofBits, Ideal.ieee], zero_sub]

/-- What a point computes. -/
theorem pay_at (c : Dev nD) (t : Fin cfg0.N) (x : Fin 1024) (y : Fin 512) :
    k0_pay1 (F := Ideal) (iblk m c 0 t) (iblk m c 2 t) (iblk m c 1 t) (iblk m c 3 t) (iblk m c 4 t) (ix2 x y)
      = mg (P m c) (YC m c) (YP m c) (SC m c) (tk (t.val / 2) (hb t) x) (ch (t.val % 2) (hh t) y) := by
  unfold mg
  rw [← sg_eq, ← sg_eq]
  pointwise [Gen.k0_pay1]
  simp only [blk0, blk1, blk2, blk3, blk4]

/-- After the run the array holds the merged tokens. -/
theorem arr (c : Dev nD) : (dats m 0 c).arrAt 5 cfg0.N = MG (P m c) (YC m c) (YP m c) (SC m c) := by
  refine (dats m 0 c).arrAt_eq_of_covers 5 _ (by decide +kernel) fun t hf y => ?_
  blk_simp
  rw [after0_5]
  idx_vars y
  rw [MG_at _ _ _ _ (tk (t.val / 2) (hb t) y0) (ch (t.val % 2) (hh t) y1) _ (by blk_simp [idx t]) (by blk_simp [idx t]), ← pay_at m c t y0 y1]
  frame_out

end Cert.MergefIdeal.Arr

end
-- ==== Proof.MergefClaim.lean ====
/- The claims of the gated merge: the reference's frame, and that kernel and reference leave equal results. -/
module

public import proofs.«01_k».proof.Defs
public import proofs.«01_k».proof.Proof.MergefArray
public import proofs.«01_k».proof.Proof.Gen.MergefRefIdeal.Read
public import Idealize.ShloMosaic.Lib.Pointwise
public import Idealize.ShloMosaic.Lib.Quiescent

@[expose] public section

set_option maxRecDepth 16384

noncomputable section

namespace Cert.MergefEq

open Idealize.ShloMosaic Idealize.ShloMosaic.TcCoe Idealize.SL.Sem Cert.MergeMath

/-- The reference's result is the gated sum. -/
theorem ref_eq (p : Proj.Idx → EReal) (yc yp : Tok.Idx → EReal) (s : Chan.Idx → EReal) :
    MergefRefIdeal.Read.val_main_v23 (F := Ideal) p yc yp s = MG p yc yp s := by
  funext i
  idx_vars i
  pointwise [MergefRefIdeal.Read.val_main_v23, MergefRefIdeal.Read.val_main_v22, MergefRefIdeal.Read.val_main_v21, MergefRefIdeal.Read.val_main_v20, MergefRefIdeal.Read.val_main_v19, MergefRefIdeal.Read.val_main_v18, MergefRefIdeal.Read.val_main_v17, MergefRefIdeal.Read.val_main_v16, MergefRefIdeal.Read.val_main_v15, MergefRefIdeal.Read.val_main_v14, MergefRefIdeal.Read.val_main_v13, MergefRefIdeal.Read.val_main_v12, MergefRefIdeal.Read.val_main_v11, MergefRefIdeal.Read.val_main_v10, MergefRefIdeal.Read.val_main_v9, MergefRefIdeal.Read.val_main_v8, MergefRefIdeal.Read.val_main_v7, MergefRefIdeal.Read.val_main_v6, MergefRefIdeal.Read.val_main_v5, MergefRefIdeal.Read.val_main_v4, MergefRefIdeal.Read.val_main_v3, MergefRefIdeal.Read.val_main_v2, MergefRefIdeal.Read.val_main_v1, MergefRefIdeal.Read.val_main_v0,
    MergefRefIdeal.Read.val_main_cst, MergefRefIdeal.Read.val_main_cst_0, MergefRefIdeal.Read.val_main_cst_1, MergefRefIdeal.Read.val_main_cst_2]
  rfl

/-- The reference's frame. -/
theorem frame_ref : Cert.quiescent_MergefRefIdeal (hMergefRefIdeal := Cert.MergefRefIdeal.Gen.facts) := fun m ρ _ =>
  (θ_run MergefRefIdeal.defs _ _).mono (fun r h => ⟨fun c => (h c).2, sem_eq_zero_of_no_sems (by decide) r.2⟩)
    (MergefRefIdeal.Value.run (F := Ideal) m ρ)

/-- Kernel and reference, from equal arguments, leave equal results. -/
theorem algebraic : Cert.algebraic_MergefIdeal_MergefRefIdeal (hMergefIdeal := Cert.MergefIdeal.Gen.facts)
    (hMergefRefIdeal := Cert.MergefRefIdeal.Gen.facts) := by
  intro m ρ m' ρ' hpre hagree
  refine ⟨fun c => MG (MergefIdeal.Arr.P m c) (MergefIdeal.Arr.YC m c) (MergefIdeal.Arr.YP m c) (MergefIdeal.Arr.SC m c), ?_, ?_⟩
  · exact (θ_run MergefIdeal.defs _ _).mono (fun r h c => ⟨(h c).1.trans (MergefIdeal.Arr.arr m c), (h c).2⟩)
      (MergefIdeal.Value.run_blocks (F := Ideal) m ρ)
  · refine (θ_run MergefRefIdeal.defs _ _).mono (fun r h c => ?_) (MergefRefIdeal.Value.run (F := Ideal) m' ρ')
    obtain ⟨e0, e1, e2, e3⟩ := hagree c
    refine ⟨(h c).1.trans ?_, (h c).2⟩
    rw [MergefRefIdeal.Read.val_main_v23_eq, e0, e1, e2, e3]
    exact ref_eq _ _ _ _

end Cert.MergefEq

end
-- ==== Proof.GroupMath.lean ====
/- The products of four groups of channels, each one sum. -/
module

public import Idealize.ShloMosaic.PureOps.Ideal.Laws
public import Idealize.ShloMosaic.Lib.Pointwise
public import Idealize.ShloMosaic.Lib.Pipeline.ValueKit

@[expose] public section

set_option maxRecDepth 16384

noncomputable section

namespace Cert.GroupMath

open Idealize.ShloMosaic

/-- The pooled channels: four groups of 128. -/
abbrev Zp : Shape := ⟨2, ![4096, 512]⟩
/-- The projected channels: four groups of 256. -/
abbrev Yp : Shape := ⟨2, ![4096, 1024]⟩
/-- The weights of the groups. -/
abbrev Wg : Shape := ⟨3, ![4, 128, 256]⟩
/-- The weights of the groups, transposed. -/
abbrev Wt : Shape := ⟨3, ![4, 256, 128]⟩

/-- Channel `k` of group `g` of the pooled channels. -/
abbrev zc (g : Fin 4) (k : Fin 128) : Fin 512 := ⟨g.val * 128 + k.val, by omega⟩
/-- Channel `k` of group `g` of the projected channels. -/
abbrev yc (g : Fin 4) (k : Fin 256) : Fin 1024 := ⟨g.val * 256 + k.val, by omega⟩

/-- One value of the projection. -/
def pj (z : Zp.Idx → EReal) (w : Wg.Idx → EReal) (t : Fin 4096) (g : Fin 4) (d : Fin 256) : EReal :=
  ∑ k : Fin 128, z (ix2 t (zc g k)) * w (ix3 g k d)

/-- One value of the gradient of the pooled channels. -/
def pz (y : Yp.Idx → EReal) (w : Wg.Idx → EReal) (t : Fin 4096) (g : Fin 4) (k : Fin 128) : EReal :=
  ∑ d : Fin 256, y (ix2 t (yc g d)) * w (ix3 g k d)

/-- One value of the gradient of the weights. -/
def pw (y : Yp.Idx → EReal) (z : Zp.Idx → EReal) (g : Fin 4) (d : Fin 256) (k : Fin 128) : EReal :=
  ∑ t : Fin 4096, y (ix2 t (yc g d)) * z (ix2 t (zc g k))

/-- The projection of each group. -/
def PJ (z : Zp.Idx → EReal) (w : Wg.Idx → EReal) : Yp.Idx → EReal := fun i =>
  pj z w (i 0) ⟨(i 1).val / 256, Nat.div_lt_of_lt_mul (i 1).isLt⟩ ⟨(i 1).val % 256, Nat.mod_lt _ (by decide)⟩

/-- The gradient of the pooled channels. -/
def PZ (y : Yp.Idx → EReal) (w : Wg.Idx → EReal) : Zp.Idx → EReal := fun i =>
  pz y w (i 0) ⟨(i 1).val / 128, Nat.div_lt_of_lt_mul (i 1).isLt⟩ ⟨(i 1).val % 128, Nat.mod_lt _ (by decide)⟩

/-- The gradient of the weights, transposed. -/
def PW (y : Yp.Idx → EReal) (z : Zp.Idx → EReal) : Wt.Idx → EReal := fun i => pw y z (i 0) (i 1) (i 2)

/-- The projection read at an index of a given group. -/
theorem PJ_at (z : Zp.Idx → EReal) (w : Wg.Idx → EReal) (t : Fin 4096) (g : Fin 4) (d : Fin 256) (i : Yp.Idx)
    (h0 : (i 0).val = t.val) (h1 : (i 1).val = g.val * 256 + d.val) : PJ z w i = pj z w t g d := by
  unfold PJ
  congr 1
  · exact Fin.ext h0
  · exact Fin.ext (by show (i 1).val / 256 = g.val; omega)
  · exact Fin.ext (by show (i 1).val % 256 = d.val; omega)

/-- The gradient of the pooled channels read at an index of a given group. -/
theorem PZ_at (y : Yp.Idx → EReal) (w : Wg.Idx → EReal) (t : Fin 4096) (g : Fin 4) (k : Fin 128) (i : Zp.Idx)
    (h0 : (i 0).val = t.val) (h1 : (i 1).val = g.val * 128 + k.val) : PZ y w i = pz y w t g k := by
  unfold PZ
  congr 1
  · exact Fin.ext h0
  · exact Fin.ext (by show (i 1).val / 128 = g.val; omega)
  · exact Fin.ext (by show (i 1).val % 128 = k.val; omega)

/-- The gradient of the weights read at an index known by its coordinates. -/
theorem PW_at (y : Yp.Idx → EReal) (z : Zp.Idx → EReal) (g : Fin 4) (d : Fin 256) (k : Fin 128) (i : Wt.Idx)
    (h0 : (i 0).val = g.val) (h1 : (i 1).val = d.val) (h2 : (i 2).val = k.val) : PW y z i = pw y z g d k := by
  have e0 : i 0 = g := Fin.ext h0
  have e1 : i 1 = d := Fin.ext h1
  have e2 : i 2 = k := Fin.ext h2
  unfold PW
  rw [e0, e1, e2]

end Cert.GroupMath

end
-- ==== Proof.GprojArray.lean ====
/- What the kernel of the projection of the pooled channels leaves in its array: one group at each grid point. -/
module

public import proofs.«01_k».proof.Proof.Gen.GprojIdeal.Value
public import proofs.«01_k».proof.Proof.GroupMath
public import Idealize.ShloMosaic.Lib.Pipeline.ValueKit

@[expose] public section

set_option maxRecDepth 16384

noncomputable section

namespace Cert.GprojIdeal.Arr

open Cert.GprojIdeal Cert.GprojIdeal.Gen Cert.GroupMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, t.val] ∧ win0_1.index t = ![t.val, 0, 0] ∧ win0_2.index t = ![0, t.val] := by
  decide +kernel

/-- A grid point is a group. -/
abbrev gr (t : Fin cfg0.N) : Fin 4 := ⟨t.val, t.isLt⟩

/-- The rows. -/
abbrev A (c : Dev nD) : Zp.Idx → EReal := m ((c : Thread nD τ).loc main_arg0)
/-- The weights of the groups. -/
abbrev W (c : Dev nD) : Wg.Idx → EReal := m ((c : Thread nD τ).loc main_arg1)

/-- The block of rows. -/
theorem blk0 (c : Dev nD) (t : Fin cfg0.N) (x : Fin 4096) (y : Fin 128) : iblk m c 0 t (ix2 x y) = A m c (ix2 x (zc (gr t) y)) := by
  blk_ext [iblk, V, idx t]

/-- The block of weights. -/
theorem blk1 (c : Dev nD) (t : Fin cfg0.N) (o : Fin 1) (x : Fin 256) (y : Fin 128) : iblk m c 1 t (ix3 o x y) = W m c (ix3 (gr t) y x) := by
  blk_simp [iblk, V, idx t]
  entry_read
  pointwise
  refine congrArg (W m c) ?_
  blk_ext [idx t]

/-- What a point multiplies. -/
theorem pay_at (c : Dev nD) (t : Fin cfg0.N) (x : Fin 4096) (y : Fin 256) :
    k0_pay1 (F := Ideal) (iblk m c 0 t) (iblk m c 1 t) (ix2 x y) = pj (A m c) (W m c) x (gr t) y := by
  pointwise [Gen.k0_pay1]
  simp only [blk0, blk1]
  rfl

/-- After the run the array holds the result of every group. -/
theorem arr (c : Dev nD) : (dats m 0 c).arrAt 2 cfg0.N = PJ (A m c) (W m c) := by
  refine (dats m 0 c).arrAt_eq_of_covers 2 _ (by decide +kernel) fun t hf y => ?_
  blk_simp
  rw [after0_2]
  idx_vars y
  rw [PJ_at _ _ y0 (gr t) y1 _ (by blk_simp [idx t]) (by blk_simp [idx t]), ← pay_at m c t y0 y1]
  frame_out

end Cert.GprojIdeal.Arr

end
-- ==== Proof.GprojClaim.lean ====
/- The claims of the projection of the pooled channels: the reference's frame, and that kernel and reference leave equal results. -/
module

public import proofs.«01_k».proof.Defs
public import proofs.«01_k».proof.Proof.GprojArray
public import proofs.«01_k».proof.Proof.Gen.GprojRefIdeal.Read
public import Idealize.ShloMosaic.Lib.Pointwise
public import Idealize.ShloMosaic.Lib.Quiescent

@[expose] public section

set_option maxRecDepth 16384

noncomputable section

namespace Cert.GprojEq

open Idealize.ShloMosaic Idealize.ShloMosaic.TcCoe Idealize.SL.Sem Cert.GroupMath

/-- The reference's result is the projection. -/
theorem ref_eq (z : Zp.Idx → EReal) (w : Wg.Idx → EReal) : GprojRefIdeal.Read.val_main_v5 (F := Ideal) z w = PJ z w := by
  funext i
  idx_vars i
  pointwise [GprojRefIdeal.Read.val_main_v5, GprojRefIdeal.Read.val_main_v4, GprojRefIdeal.Read.val_main_v3, GprojRefIdeal.Read.val_main_v2, GprojRefIdeal.Read.val_main_v1, GprojRefIdeal.Read.val_main_v0]
  exact Finset.sum_congr rfl fun k _ => mul_comm _ _

/-- The reference's frame. -/
theorem frame_ref : Cert.quiescent_GprojRefIdeal (hGprojRefIdeal := Cert.GprojRefIdeal.Gen.facts) := fun m ρ _ =>
  (θ_run GprojRefIdeal.defs _ _).mono (fun r h => ⟨fun c => (h c).2, sem_eq_zero_of_no_sems (by decide) r.2⟩)
    (GprojRefIdeal.Value.run (F := Ideal) m ρ)

/-- Kernel and reference, from equal arguments, leave equal results. -/
theorem algebraic : Cert.algebraic_GprojIdeal_GprojRefIdeal (hGprojIdeal := Cert.GprojIdeal.Gen.facts)
    (hGprojRefIdeal := Cert.GprojRefIdeal.Gen.facts) := by
  intro m ρ m' ρ' hpre hagree
  refine ⟨fun c => PJ (GprojIdeal.Arr.A m c) (GprojIdeal.Arr.W m c), ?_, ?_⟩
  · exact (θ_run GprojIdeal.defs _ _).mono (fun r h c => ⟨(h c).1.trans (GprojIdeal.Arr.arr m c), (h c).2⟩)
      (GprojIdeal.Value.run_blocks (F := Ideal) m ρ)
  · refine (θ_run GprojRefIdeal.defs _ _).mono (fun r h c => ?_) (GprojRefIdeal.Value.run (F := Ideal) m' ρ')
    obtain ⟨e0, e1⟩ := hagree c
    refine ⟨(h c).1.trans ?_, (h c).2⟩
    rw [GprojRefIdeal.Read.val_main_v5_eq, e0, e1]
    exact ref_eq _ _

end Cert.GprojEq

end
-- ==== Proof.GdzArray.lean ====
/- What the kernel of the gradient of the pooled channels leaves in its array: one group at each grid point. -/
module

public import proofs.«01_k».proof.Proof.Gen.GdzIdeal.Value
public import proofs.«01_k».proof.Proof.GroupMath
public import Idealize.ShloMosaic.Lib.Pipeline.ValueKit

@[expose] public section

set_option maxRecDepth 16384

noncomputable section

namespace Cert.GdzIdeal.Arr

open Cert.GdzIdeal Cert.GdzIdeal.Gen Cert.GroupMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, t.val] ∧ win0_1.index t = ![t.val, 0, 0] ∧ win0_2.index t = ![0, t.val] := by
  decide +kernel

/-- A grid point is a group. -/
abbrev gr (t : Fin cfg0.N) : Fin 4 := ⟨t.val, t.isLt⟩

/-- The rows. -/
abbrev A (c : Dev nD) : Yp.Idx → EReal := m ((c : Thread nD τ).loc main_arg0)
/-- The weights of the groups. -/
abbrev W (c : Dev nD) : Wg.Idx → EReal := m ((c : Thread nD τ).loc main_arg1)

/-- The block of rows. -/
theorem blk0 (c : Dev nD) (t : Fin cfg0.N) (x : Fin 4096) (y : Fin 256) : iblk m c 0 t (ix2 x y) = A m c (ix2 x (yc (gr t) y)) := by
  blk_ext [iblk, V, idx t]

/-- The block of weights. -/
theorem blk1 (c : Dev nD) (t : Fin cfg0.N) (o : Fin 1) (x : Fin 256) (y : Fin 128) : iblk m c 1 t (ix3 o x y) = W m c (ix3 (gr t) y x) := by
  blk_simp [iblk, V, idx t]
  entry_read
  pointwise
  refine congrArg (W m c) ?_
  blk_ext [idx t]

/-- What a point multiplies. -/
theorem pay_at (c : Dev nD) (t : Fin cfg0.N) (x : Fin 4096) (y : Fin 128) :
    k0_pay1 (F := Ideal) (iblk m c 0 t) (iblk m c 1 t) (ix2 x y) = pz (A m c) (W m c) x (gr t) y := by
  pointwise [Gen.k0_pay1]
  simp only [blk0, blk1]
  rfl

/-- After the run the array holds the result of every group. -/
theorem arr (c : Dev nD) : (dats m 0 c).arrAt 2 cfg0.N = PZ (A m c) (W m c) := by
  refine (dats m 0 c).arrAt_eq_of_covers 2 _ (by decide +kernel) fun t hf y => ?_
  blk_simp
  rw [after0_2]
  idx_vars y
  rw [PZ_at _ _ y0 (gr t) y1 _ (by blk_simp [idx t]) (by blk_simp [idx t]), ← pay_at m c t y0 y1]
  frame_out

end Cert.GdzIdeal.Arr

end
-- ==== Proof.GdzClaim.lean ====
/- The claims of the gradient of the pooled channels: the reference's frame, and that kernel and reference leave equal results. -/
module

public import proofs.«01_k».proof.Defs
public import proofs.«01_k».proof.Proof.GdzArray
public import proofs.«01_k».proof.Proof.Gen.GdzRefIdeal.Read
public import Idealize.ShloMosaic.Lib.Pointwise
public import Idealize.ShloMosaic.Lib.Quiescent

@[expose] public section

set_option maxRecDepth 16384

noncomputable section

namespace Cert.GdzEq

open Idealize.ShloMosaic Idealize.ShloMosaic.TcCoe Idealize.SL.Sem Cert.GroupMath

/-- The reference's result is the gradient. -/
theorem ref_eq (y : Yp.Idx → EReal) (w : Wg.Idx → EReal) : GdzRefIdeal.Read.val_main_v11 (F := Ideal) y w = PZ y w := by
  funext i
  idx_vars i
  pointwise [GdzRefIdeal.Read.val_main_v11, GdzRefIdeal.Read.val_main_v10, GdzRefIdeal.Read.val_main_v9, GdzRefIdeal.Read.val_main_v8, GdzRefIdeal.Read.val_main_v7, GdzRefIdeal.Read.val_main_v6, GdzRefIdeal.Read.val_main_v5]
  rfl

/-- The reference's frame. -/
theorem frame_ref : Cert.quiescent_GdzRefIdeal (hGdzRefIdeal := Cert.GdzRefIdeal.Gen.facts) := fun m ρ _ =>
  (θ_run GdzRefIdeal.defs _ _).mono (fun r h => ⟨fun c => (h c).2, sem_eq_zero_of_no_sems (by decide) r.2⟩)
    (GdzRefIdeal.Value.run (F := Ideal) m ρ)

/-- Kernel and reference, from equal arguments, leave equal results. -/
theorem algebraic : Cert.algebraic_GdzIdeal_GdzRefIdeal (hGdzIdeal := Cert.GdzIdeal.Gen.facts)
    (hGdzRefIdeal := Cert.GdzRefIdeal.Gen.facts) := by
  intro m ρ m' ρ' hpre hagree
  refine ⟨fun c => PZ (GdzIdeal.Arr.A m c) (GdzIdeal.Arr.W m c), ?_, ?_⟩
  · exact (θ_run GdzIdeal.defs _ _).mono (fun r h c => ⟨(h c).1.trans (GdzIdeal.Arr.arr m c), (h c).2⟩)
      (GdzIdeal.Value.run_blocks (F := Ideal) m ρ)
  · refine (θ_run GdzRefIdeal.defs _ _).mono (fun r h c => ?_) (GdzRefIdeal.Value.run (F := Ideal) m' ρ')
    obtain ⟨e0, e1⟩ := hagree c
    refine ⟨(h c).1.trans ?_, (h c).2⟩
    rw [GdzRefIdeal.Read.val_main_v11_eq, e0, e1]
    exact ref_eq _ _

end Cert.GdzEq

end
-- ==== Proof.GdwArray.lean ====
/- What the kernel of the gradient of the groups' weights leaves in its array: one group at each grid point. -/
module

public import proofs.«01_k».proof.Proof.Gen.GdwIdeal.Value
public import proofs.«01_k».proof.Proof.GroupMath
public import Idealize.ShloMosaic.Lib.Pipeline.ValueKit

@[expose] public section

set_option maxRecDepth 16384

noncomputable section

namespace Cert.GdwIdeal.Arr

open Cert.GdwIdeal Cert.GdwIdeal.Gen Cert.GroupMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, t.val] ∧ win0_1.index t = ![0, t.val] ∧ win0_2.index t = ![t.val, 0, 0] := by
  decide +kernel

/-- A grid point is a group. -/
abbrev gr (t : Fin cfg0.N) : Fin 4 := ⟨t.val, t.isLt⟩

/-- The gradients of the projected channels. -/
abbrev Y (c : Dev nD) : Yp.Idx → EReal := m ((c : Thread nD τ).loc main_arg0)
/-- The pooled channels. -/
abbrev Z (c : Dev nD) : Zp.Idx → EReal := m ((c : Thread nD τ).loc main_arg1)

/-- The block of gradients. -/
theorem blk0 (c : Dev nD) (t : Fin cfg0.N) (x : Fin 4096) (y : Fin 256) : iblk m c 0 t (ix2 x y) = Y m c (ix2 x (yc (gr t) y)) := by
  blk_ext [iblk, V, idx t]

/-- The block of pooled channels. -/
theorem blk1 (c : Dev nD) (t : Fin cfg0.N) (x : Fin 4096) (y : Fin 128) : iblk m c 1 t (ix2 x y) = Z m c (ix2 x (zc (gr t) y)) := by
  blk_ext [iblk, V, idx t]

/-- What a point multiplies. -/
theorem pay_at (c : Dev nD) (t : Fin cfg0.N) (o : Fin 1) (x : Fin 256) (y : Fin 128) :
    k0_pay2 (F := Ideal) (iblk m c 0 t) (iblk m c 1 t) (ix3 o x y) = pw (Y m c) (Z m c) (gr t) x y := by
  pointwise [Gen.k0_pay2, Gen.k0_pay1]
  simp only [blk0, blk1]
  rfl

/-- After the run the array holds the gradient of every group. -/
theorem arr (c : Dev nD) : (dats m 0 c).arrAt 2 cfg0.N = PW (Y m c) (Z m c) := by
  refine (dats m 0 c).arrAt_eq_of_covers 2 _ (by decide +kernel) fun t hf y => ?_
  blk_simp
  rw [after0_2]
  idx_vars y
  rw [PW_at _ _ (gr t) y1 y2 _ (by blk_simp [idx t]) (by blk_simp [idx t]) (by blk_simp [idx t]), ← pay_at m c t y0 y1 y2]
  unfold outsAt0
  frame_out

end Cert.GdwIdeal.Arr

end
-- ==== Proof.GdwClaim.lean ====
/- The claims of the gradient of the groups' weights: the reference's frame, and that kernel and reference leave equal results. -/
module

public import proofs.«01_k».proof.Defs
public import proofs.«01_k».proof.Proof.GdwArray
public import proofs.«01_k».proof.Proof.Gen.GdwRefIdeal.Read
public import Idealize.ShloMosaic.Lib.Pointwise
public import Idealize.ShloMosaic.Lib.Quiescent

@[expose] public section

set_option maxRecDepth 16384

noncomputable section

namespace Cert.GdwEq

open Idealize.ShloMosaic Idealize.ShloMosaic.TcCoe Idealize.SL.Sem Cert.GroupMath

/-- The reference's result is the gradient. -/
theorem ref_eq (y : Yp.Idx → EReal) (z : Zp.Idx → EReal) : GdwRefIdeal.Read.val_main_v11 (F := Ideal) y z = PW y z := by
  funext i
  idx_vars i
  pointwise [GdwRefIdeal.Read.val_main_v11, GdwRefIdeal.Read.val_main_v10, GdwRefIdeal.Read.val_main_v9, GdwRefIdeal.Read.val_main_v8, GdwRefIdeal.Read.val_main_v7, GdwRefIdeal.Read.val_main_v6, GdwRefIdeal.Read.val_main_v2, GdwRefIdeal.Read.val_main_v1]
  rfl

/-- The reference's frame. -/
theorem frame_ref : Cert.quiescent_GdwRefIdeal (hGdwRefIdeal := Cert.GdwRefIdeal.Gen.facts) := fun m ρ _ =>
  (θ_run GdwRefIdeal.defs _ _).mono (fun r h => ⟨fun c => (h c).2, sem_eq_zero_of_no_sems (by decide) r.2⟩)
    (GdwRefIdeal.Value.run (F := Ideal) m ρ)

/-- Kernel and reference, from equal arguments, leave equal results. -/
theorem algebraic : Cert.algebraic_GdwIdeal_GdwRefIdeal (hGdwIdeal := Cert.GdwIdeal.Gen.facts)
    (hGdwRefIdeal := Cert.GdwRefIdeal.Gen.facts) := by
  intro m ρ m' ρ' hpre hagree
  refine ⟨fun c => PW (GdwIdeal.Arr.Y m c) (GdwIdeal.Arr.Z m c), ?_, ?_⟩
  · exact (θ_run GdwIdeal.defs _ _).mono (fun r h c => ⟨(h c).1.trans (GdwIdeal.Arr.arr m c), (h c).2⟩)
      (GdwIdeal.Value.run_blocks (F := Ideal) m ρ)
  · refine (θ_run GdwRefIdeal.defs _ _).mono (fun r h c => ?_) (GdwRefIdeal.Value.run (F := Ideal) m' ρ')
    obtain ⟨e0, e1⟩ := hagree c
    refine ⟨(h c).1.trans ?_, (h c).2⟩
    rw [GdwRefIdeal.Read.val_main_v11_eq, e0, e1]
    exact ref_eq _ _

end Cert.GdwEq

end
-- ==== Proof.LossMath.lean ====
/- The loss of the normed tokens against their targets, and the gradient it starts the backward pass with, for one token of 1024 values. -/
module

public import proofs.«01_k».proof.Proof.NormMath

@[expose] public section

noncomputable section

namespace Cert.NormMath

open Idealize.ShloMosaic Cert.RealLaws

/-- One half. -/
abbrev half : EReal := Ideal.ofBits FTy.f32 0x3F000000#32
/-- Two. -/
abbrev two : EReal := Ideal.ofBits FTy.f32 0x40000000#32
/-- One part in 1024. -/
abbrev part : EReal := Ideal.ofBits FTy.f32 0x3A800000#32

/-- The constant is one half. -/
theorem half_eq : half = ((1 / 2 : ℝ) : EReal) := by
  simp [Ideal.ofBits, Ideal.ieee]
  rw [← EReal.coe_mul]
  norm_num

/-- The constant is two. -/
theorem two_eq : two = ((2 : ℝ) : EReal) := by
  simp [Ideal.ofBits, Ideal.ieee]
  rw [← EReal.coe_mul]
  norm_num

/-- The constant is 1/1024. -/
theorem part_eq : part = ((1 / 1024 : ℝ) : EReal) := by
  simp [Ideal.ofBits, Ideal.ieee]
  rw [← EReal.coe_mul]
  norm_num

variable (g : Vec0.Idx → EReal) (x y : Tok.Idx → EReal)

/-- How far a normed token is from its target. -/
def err (t : Fin 4096) (j : Fin 1024) : EReal := row x t j * rs (row x t) * gain g j - row y t j

/-- The gradient of the normed tokens. -/
def grad (t : Fin 4096) (j : Fin 1024) : EReal := err g x y t j * part

/-- A token's part of the loss. -/
def lossPart (t : Fin 4096) : EReal := half * Ideal.div (∑ j, err g x y t j * err g x y t j) len

/-- The loss, in each place of a row of 128. -/
def LOSS : (⟨2, ![1, 128]⟩ : Shape).Idx → EReal := fun _ => ∑ t, lossPart g x y t

/-- No gradient beside the norm's. -/
def noRes : Tok.Idx → EReal := fun _ => 0

/-- The square's derivative of the mean's share of one half is the gradient. -/
theorem grad_eq (t : Fin 4096) (j : Fin 1024) : Ideal.div half len * (two * err g x y t j) = grad g x y t j := by
  unfold grad
  generalize err g x y t j = e
  rw [div_len, half_eq, two_eq, part_eq, ← mul_assoc, ← EReal.coe_mul, ← EReal.coe_mul, mul_comm e]
  norm_num

/-- One half of a sum of parts is the sum of their halves. -/
theorem half_sum {ι : Type*} (s : Finset ι) (f : ι → EReal) : half * ∑ i ∈ s, f i = ∑ i ∈ s, half * f i := by
  rw [half_eq]
  exact mul_sum s f (by exact_mod_cast (by norm_num : (0 : ℝ) ≤ 1 / 2)) (EReal.coe_ne_top _)

end Cert.NormMath

end
-- ==== Proof.LossArray.lean ====
/- What the loss head's kernel leaves in its arrays, block of tokens by block of tokens. -/
module

public import proofs.«01_k».proof.Proof.Gen.LossIdeal.Value
public import proofs.«01_k».proof.Proof.LossMath
public import Idealize.ShloMosaic.Lib.Pipeline.ValueKit

@[expose] public section

set_option maxRecDepth 16384

noncomputable section

namespace Cert.LossIdeal.Arr

open Cert.LossIdeal Cert.LossIdeal.Gen Cert.NormMath Idealize.ShloMosaic Idealize.ShloMosaic.TcCoe Idealize.SL.Sem

variable (m : (ℓ : Loc nD τ sig) → Buf (Elt Ideal) ℓ)

/-- Which block each window takes at a grid point. -/
theorem idx : ∀ t : Fin grid0.N,
    win0_0.index t = ![t.val, 0] ∧ win0_1.index t = ![0, 0] ∧ win0_2.index t = ![t.val, 0] ∧ win0_3.index t = ![t.val, 0] ∧
    win0_4.index t = ![t.val, 0] ∧ win0_5.index t = ![0, 0] ∧ win0_6.index t = ![0, 0] := by
  decide +kernel

/-- Token `x` of the block of point `t`. -/
theorem tokLt (t : Fin cfg0.N) (x : Fin 512) : t.val * 512 + x.val < 4096 := by
  have h : cfg0.N = 8 := by decide +kernel
  have := t.isLt
  omega

/-- The tokens. -/
abbrev X (c : Dev nD) : Tok.Idx → EReal := m ((c : Thread nD τ).loc main_arg0)
/-- The norm's gain. -/
abbrev G (c : Dev nD) : Vec0.Idx → EReal := m ((c : Thread nD τ).loc main_arg1)
/-- The targets. -/
abbrev Y (c : Dev nD) : Tok.Idx → EReal := m ((c : Thread nD τ).loc main_arg2)

/-- The block of tokens. -/
theorem blk0 (c : Dev nD) (t : Fin cfg0.N) (x : Fin 512) (y : Fin 1024) :
    iblk m c 0 t (ix2 x y) = row (X m c) ⟨t.val * 512 + x.val, tokLt t x⟩ y := by
  unfold row
  blk_ext [iblk, V, idx t]

/-- The gain. -/
theorem blk1 (c : Dev nD) (t : Fin cfg0.N) (x : Fin 1) (y : Fin 1024) : iblk m c 1 t (ix2 x y) = gain (G m c) y := by
  unfold gain
  blk_simp [iblk, V, idx t]
  entry_read
  pointwise
  refine congrArg (G m c) (congrArg ix1 (Fin.ext ?_))
  blk_simp [idx t]

/-- The block of targets. -/
theorem blk2 (c : Dev nD) (t : Fin cfg0.N) (x : Fin 512) (y : Fin 1024) :
    iblk m c 2 t (ix2 x y) = row (Y m c) ⟨t.val * 512 + x.val, tokLt t x⟩ y := by
  unfold row
  blk_ext [iblk, V, idx t]

/-- What one block computes of the tokens' gradients. -/
theorem pay9_at (c : Dev nD) (t : Fin cfg0.N) (x : Fin 512) (y : Fin 1024) :
    k0_pay9 (F := Ideal) (iblk m c 0 t) (iblk m c 1 t) (iblk m c 2 t) (ix2 x y)
      = back (grad (G m c) (X m c) (Y m c) ⟨t.val * 512 + x.val, tokLt t x⟩) (gain (G m c)) (row (X m c) ⟨t.val * 512 + x.val, tokLt t x⟩)
          (row noRes ⟨t.val * 512 + x.val, tokLt t x⟩) y := by
  refine Eq.trans ?_ (add_zero _).symm
  pointwise [Gen.k0_pay9, Gen.k0_pay8, Gen.k0_pay7, Gen.k0_pay6, Gen.k0_pay5, Gen.k0_pay4]
  simp only [blk0, blk1, blk2]
  rfl

/-- What one block computes of the gain's gradient: the sum over its tokens. -/
theorem pay11_at (c : Dev nD) (t : Fin cfg0.N) (x : Fin 1) (y : Fin 1024) :
    k0_pay11 (F := Ideal) (iblk m c 0 t) (iblk m c 1 t) (iblk m c 2 t) (ix2 x y)
      = ∑ k : Fin 512, gainPart (grad (G m c) (X m c) (Y m c)) (X m c) ⟨t.val * 512 + k.val, tokLt t k⟩ y := by
  pointwise [Gen.k0_pay11, Gen.k0_pay8, Gen.k0_pay7, Gen.k0_pay6, Gen.k0_pay5, Gen.k0_pay4]
  simp only [blk0, blk1, blk2]
  rfl

/-- What one block computes of the loss: the sum over its tokens. -/
theorem pay1_at (c : Dev nD) (t : Fin cfg0.N) (x : Fin 1) (y : Fin 128) :
    k0_pay1 (F := Ideal) (k0_pay12 (iblk m c 0 t) (iblk m c 1 t) (iblk m c 2 t)) (ix2 x y)
      = ∑ k : Fin 512, lossPart (G m c) (X m c) (Y m c) ⟨t.val * 512 + k.val, tokLt t k⟩ := by
  pointwise [Gen.k0_pay1, Gen.k0_pay12, Gen.k0_pay7, Gen.k0_pay6, Gen.k0_pay5, Gen.k0_pay4]
  simp only [blk0, blk1, blk2]
  simp only [Finset.univ_unique, Finset.sum_singleton]
  exact half_sum _ _

/-- After the run the first array holds the gradients of the tokens. -/
theorem dx_arr (c : Dev nD) : (dats m 0 c).arrAt 3 cfg0.N = DX (grad (G m c) (X m c) (Y m c)) (G m c) (X m c) noRes := by
  refine (dats m 0 c).arrAt_eq_of_covers 3 _ (by decide +kernel) fun t hf y => ?_
  blk_simp
  rw [after0_3]
  have hN : t.val < 8 := t.isLt
  idx_vars y
  rw [DX_at _ _ _ _ (t.val * 512 + y0.val) (tokLt t y0) y1 _ (by blk_simp [idx t]) (by blk_simp [idx t]), ← pay9_at]
  by_cases h0 : t.val % 8 = 0
  · rw [Gen.outsAt0_A m c t h0 (by omega)]
    frame_out
  · rw [Gen.outsAt0_B m c t h0 (by omega)]
    frame_out

/-- … the second the same. -/
theorem dxb_arr (c : Dev nD) : (dats m 0 c).arrAt 4 cfg0.N = DX (grad (G m c) (X m c) (Y m c)) (G m c) (X m c) noRes := by
  refine (dats m 0 c).arrAt_eq_of_covers 4 _ (by decide +kernel) fun t hf y => ?_
  blk_simp
  rw [after0_4]
  have hN : t.val < 8 := t.isLt
  idx_vars y
  rw [DX_at _ _ _ _ (t.val * 512 + y0.val) (tokLt t y0) y1 _ (by blk_simp [idx t]) (by blk_simp [idx t]), ← pay9_at]
  by_cases h0 : t.val % 8 = 0
  · rw [Gen.outsAt0_A m c t h0 (by omega)]
    frame_out
    pointwise [Gen.k0_pay10]
  · rw [Gen.outsAt0_B m c t h0 (by omega)]
    frame_out
    pointwise [Gen.k0_pay10]

/-- The first block starts the gain's gradient. -/
theorem gain_start (c : Dev nD) (t : Fin cfg0.N) (h0 : t.val % 8 = 0) (i : S1x1024.Idx) :
    (outsAt0 m c t.val t.isLt).2.2.1 i = 0 + k0_pay11 (F := Ideal) (iblk m c 0 t) (iblk m c 1 t) (iblk m c 2 t) i := by
  have hN : t.val < 8 := t.isLt
  rw [Gen.outsAt0_A m c t h0 (by omega), zero_add]
  frame_out

/-- Each further block adds to it. -/
theorem gain_step (c : Dev nD) (t : Fin cfg0.N) (h0 : ¬t.val % 8 = 0) (i : S1x1024.Idx) :
    (outsAt0 m c t.val t.isLt).2.2.1 i = (outsAt0 m c (t.val - 1) (Nat.lt_of_le_of_lt (Nat.sub_le _ _) t.isLt)).2.2.1 i
      + k0_pay11 (F := Ideal) (iblk m c 0 t) (iblk m c 1 t) (iblk m c 2 t) i := by
  have hN : t.val < 8 := t.isLt
  rw [Gen.outsAt0_B m c t h0 (by omega)]
  frame_out
  pointwise [Gen.k0_pay2]

/-- The first block starts the loss. -/
theorem loss_start (c : Dev nD) (t : Fin cfg0.N) (h0 : t.val % 8 = 0) (i : S1x128.Idx) :
    (outsAt0 m c t.val t.isLt).2.2.2 i = 0 + k0_pay1 (F := Ideal) (k0_pay12 (iblk m c 0 t) (iblk m c 1 t) (iblk m c 2 t)) i := by
  have hN : t.val < 8 := t.isLt
  rw [Gen.outsAt0_A m c t h0 (by omega), zero_add]
  frame_out

/-- Each further block adds to it. -/
theorem loss_step (c : Dev nD) (t : Fin cfg0.N) (h0 : ¬t.val % 8 = 0) (i : S1x128.Idx) :
    (outsAt0 m c t.val t.isLt).2.2.2 i = (outsAt0 m c (t.val - 1) (Nat.lt_of_le_of_lt (Nat.sub_le _ _) t.isLt)).2.2.2 i
      + k0_pay1 (F := Ideal) (k0_pay12 (iblk m c 0 t) (iblk m c 1 t) (iblk m c 2 t)) i := by
  have hN : t.val < 8 := t.isLt
  rw [Gen.outsAt0_B m c t h0 (by omega)]
  frame_out
  unfold Gen.k0_pay3
  generalize k0_pay1 (F := Ideal) (k0_pay12 (iblk m c 0 t) (iblk m c 1 t) (iblk m c 2 t)) = p
  pointwise

/-- After the run the third array holds the gradient of the gain. -/
theorem dg_arr (c : Dev nD) : (dats m 0 c).arrAt 5 cfg0.N = DG (grad (G m c) (X m c) (Y m c)) (X m c) := by
  refine (dats m 0 c).arrAt_eq_of_after_last 5 t0_7 (by decide +kernel) _ fun j => ?_
  blk_simp
  rw [after0_5]
  refine (Pipeline.eq_sum_fin_of_reset_step_apply_last (fun n hn => (outsAt0 m c n hn).2.2.1) 8 (fun _ => 0)
    (fun t => k0_pay11 (F := Ideal) (iblk m c 0 t) (iblk m c 1 t) (iblk m c 2 t))
    (gain_start m c) (gain_step m c) (by decide +kernel) t0_7 rfl j).trans ?_
  idx_vars j
  rw [zero_add]
  simp only [pay11_at]
  refine (Fin.sum_mul_add_congr (S := 8) (n := 512) (f := fun l : Fin 4096 => gainPart (grad (G m c) (X m c) (Y m c)) (X m c) l j1)
    (fun s k hl => rfl)).trans ?_
  unfold DG
  refine Finset.sum_congr rfl fun l _ => congrArg _ (Fin.ext ?_)
  blk_simp [idx t0_7]

/-- After the run the fourth array holds the loss. -/
theorem loss_arr (c : Dev nD) : (dats m 0 c).arrAt 6 cfg0.N = LOSS (G m c) (X m c) (Y m c) := by
  refine (dats m 0 c).arrAt_eq_of_after_last 6 t0_7 (by decide +kernel) _ fun j => ?_
  blk_simp
  rw [after0_6]
  refine (Pipeline.eq_sum_fin_of_reset_step_apply_last (fun n hn => (outsAt0 m c n hn).2.2.2) 8 (fun _ => 0)
    (fun t => k0_pay1 (F := Ideal) (k0_pay12 (iblk m c 0 t) (iblk m c 1 t) (iblk m c 2 t)))
    (loss_start m c) (loss_step m c) (by decide +kernel) t0_7 rfl j).trans ?_
  idx_vars j
  rw [zero_add]
  simp only [pay1_at]
  exact Fin.sum_mul_add_congr (S := 8) (n := 512) (f := fun l : Fin 4096 => lossPart (G m c) (X m c) (Y m c) l) (fun s k hl => rfl)

end Cert.LossIdeal.Arr

end
-- ==== Proof.LossRef.lean ====
/- What the reference of the loss head computes, read at an index. -/
module

public import proofs.«01_k».proof.Proof.Gen.LossRefIdeal.Read
public import proofs.«01_k».proof.Proof.LossMath
public import Idealize.ShloMosaic.Lib.Pointwise

@[expose] public section

set_option maxRecDepth 16384

noncomputable section

namespace Cert.LossRefIdeal.At

open Cert.LossRefIdeal Cert.LossRefIdeal.Gen Cert.LossRefIdeal.Read Cert.NormMath Idealize.ShloMosaic Idealize.ShloMosaic.TcCoe Idealize.SL.Sem

variable (x : Tok.Idx → EReal) (g : Vec0.Idx → EReal) (y : Tok.Idx → EReal)

/-- The mean square. -/
theorem v6_at (t : Fin 4096) : val_main_v6 (F := Ideal) x (ix2 t 0) = ms (row x t) := by
  pointwise [val_main_v6, val_main_v5, val_main_v4, val_main_v3, val_main_v2, val_main_v1, val_main_v0, val_main_cst, val_main_cst_0, val_main_cst_1]
  rfl

/-- The factor of the norm. -/
theorem v7_at (t : Fin 4096) : val_main_v7 (F := Ideal) x (ix2 t 0) = rs (row x t) := by
  unfold val_main_v7
  have e := v6_at x t
  generalize val_main_v6 (F := Ideal) x = y at e ⊢
  pointwise
  rw [e]
  rfl

/-- The derivative of the factor. -/
theorem v10_at (t : Fin 4096) : val_main_v10 (F := Ideal) x (ix2 t 0) = mhalf * Ideal.div (rs (row x t)) (ms (row x t)) := by
  unfold val_main_v10 val_main_v9 val_main_v8 val_main_cst_2
  have e := v6_at x t
  have f := v7_at x t
  generalize val_main_v6 (F := Ideal) x = y at e ⊢
  generalize val_main_v7 (F := Ideal) x = z at f ⊢
  pointwise
  rw [e, f]

/-- The normed token before its gain. -/
theorem v12_at (t : Fin 4096) (j : Fin 1024) : val_main_v12 (F := Ideal) x (ix2 t j) = row x t j * rs (row x t) := by
  unfold val_main_v12 val_main_v11
  have f := v7_at x t
  generalize val_main_v7 (F := Ideal) x = z at f ⊢
  pointwise
  rw [f]
  rfl

/-- How far the normed tokens are from their targets. -/
theorem v16_at (t : Fin 4096) (j : Fin 1024) : val_main_v16 (F := Ideal) x g y (ix2 t j) = err g x y t j := by
  unfold val_main_v16 val_main_v15 val_main_v14 val_main_v13
  have f := v12_at x t j
  generalize val_main_v12 (F := Ideal) x = z at f ⊢
  pointwise
  rw [f]
  rfl

/-- The gradient of the normed tokens. -/
theorem v30_at (t : Fin 4096) (j : Fin 1024) : val_main_v30 (F := Ideal) x g y (ix2 t j) = grad g x y t j := by
  unfold val_main_v30 val_main_v29 val_main_v28 val_main_v27 val_main_v26 val_main_v25 val_main_v19 val_main_v18 val_main_cst_8 val_main_cst_9
    val_main_cst_10 val_main_cst_3
  have f := v16_at x g y t j
  generalize val_main_v16 (F := Ideal) x g y = z at f ⊢
  pointwise
  rw [f, ← grad_eq]

/-- … times the gain. -/
theorem v35_at (t : Fin 4096) (j : Fin 1024) : val_main_v35 (F := Ideal) x g y (ix2 t j) = grad g x y t j * gain g j := by
  unfold val_main_v35 val_main_v34 val_main_v13
  have f := v30_at x g y t j
  generalize val_main_v30 (F := Ideal) x g y = z at f ⊢
  pointwise
  rw [f]
  rfl

/-- The part through the mean square. -/
theorem v45_at (t : Fin 4096) : val_main_v45 (F := Ideal) x g y (ix1 t) = thru (grad g x y t) (gain g) (row x t) := by
  unfold val_main_v45 val_main_v44 val_main_v43 val_main_v42 val_main_v39 val_main_v38 val_main_v37 val_main_cst_13 val_main_cst_14 val_main_cst_15
  have e := v10_at x t
  have f := v35_at x g y t
  generalize val_main_v10 (F := Ideal) x = u at e ⊢
  generalize val_main_v35 (F := Ideal) x g y = z at f ⊢
  pointwise
  simp only [Finset.univ_unique, Finset.sum_singleton, Fin.default_eq_zero, e, f]
  rfl

/-- The gradients of the tokens. -/
theorem v50_at (t : Fin 4096) (j : Fin 1024) :
    val_main_v50 (F := Ideal) x g y (ix2 t j) = backRef (grad g x y t) (gain g) (row x t) (row noRes t) j := by
  unfold val_main_v50 val_main_v49 val_main_v48 val_main_v47 val_main_v46 val_main_v41 val_main_v40
  have e := v7_at x t
  have f := v35_at x g y t j
  have k := v45_at x g y t
  generalize val_main_v7 (F := Ideal) x = u at e ⊢
  generalize val_main_v35 (F := Ideal) x g y = z at f ⊢
  generalize val_main_v45 (F := Ideal) x g y = v at k ⊢
  pointwise
  rw [e, f, k]
  unfold backRef
  rw [show row noRes t j = 0 from rfl, zero_add]
  rfl

/-- The reference's first result is the gradients of the tokens. -/
theorem v50_eq : val_main_v50 (F := Ideal) x g y = DX (grad g x y) g x noRes := by
  funext i
  idx_vars i
  rw [v50_at, backRef_eq]
  rfl

/-- The reference's second result is the same, rounded in the last step. -/
theorem v51_eq : val_main_v51 (F := Ideal) x g y = DX (grad g x y) g x noRes := by
  rw [← v50_eq]
  unfold val_main_v51
  generalize val_main_v50 (F := Ideal) x g y = z
  funext i
  pointwise

/-- The reference's third result is the gradient of the gain. -/
theorem v52_eq : val_main_v52 (F := Ideal) x g y = DG (grad g x y) x := by
  funext i
  unfold val_main_v52 val_main_v36 val_main_v33 val_main_v32 val_main_v31 val_main_cst_11 val_main_cst_12
  have e := v12_at x
  have f := v30_at x g y
  generalize val_main_v12 (F := Ideal) x = u at e ⊢
  generalize val_main_v30 (F := Ideal) x g y = z at f ⊢
  idx_vars i
  pointwise
  simp only [Finset.univ_unique, Finset.sum_singleton, Fin.default_eq_zero, e, f]
  refine Finset.sum_congr rfl fun t _ => mul_comm _ _

/-- The reference's fourth result is the loss, in every lane. -/
theorem v53_eq : val_main_v53 (F := Ideal) x g y = LOSS g x y := by
  funext i
  unfold val_main_v53 val_main_v24 val_main_v23 val_main_v22 val_main_v21 val_main_v20 val_main_v17 val_main_cst_4 val_main_cst_5 val_main_cst_6 val_main_cst_7
  have f := v16_at x g y
  generalize val_main_v16 (F := Ideal) x g y = z at f ⊢
  idx_vars i
  pointwise
  simp only [f]
  unfold LOSS lossPart
  exact half_sum _ _

end Cert.LossRefIdeal.At

end
-- ==== Proof.LossClaim.lean ====
/- The claims of the loss head: the reference's frame, and that kernel and reference leave equal results. -/
module

public import proofs.«01_k».proof.Defs
public import proofs.«01_k».proof.Proof.LossArray
public import proofs.«01_k».proof.Proof.LossRef
public import Idealize.ShloMosaic.Lib.Quiescent

@[expose] public section

set_option maxRecDepth 16384

noncomputable section

namespace Cert.LossEq

open Idealize.ShloMosaic Idealize.ShloMosaic.TcCoe Idealize.SL.Sem Cert.NormMath

/-- The reference's frame. -/
theorem frame_ref : Cert.quiescent_LossRefIdeal (hLossRefIdeal := Cert.LossRefIdeal.Gen.facts) := fun m ρ _ =>
  (θ_run LossRefIdeal.defs _ _).mono (fun r h => ⟨fun c => (h c).2.2.2.2, sem_eq_zero_of_no_sems (by decide) r.2⟩)
    (LossRefIdeal.Value.run (F := Ideal) m ρ)

open LossIdeal.Arr LossRefIdeal.Read LossRefIdeal.At in
/-- Kernel and reference, from equal arguments, leave equal gradients and the same loss. -/
theorem algebraic : Cert.algebraic_LossIdeal_LossRefIdeal (hLossIdeal := Cert.LossIdeal.Gen.facts)
    (hLossRefIdeal := Cert.LossRefIdeal.Gen.facts) := by
  intro m ρ m' ρ' hpre hagree
  refine ⟨fun c => DX (grad (G m c) (X m c) (Y m c)) (G m c) (X m c) noRes, fun c => DX (grad (G m c) (X m c) (Y m c)) (G m c) (X m c) noRes,
    fun c => DG (grad (G m c) (X m c) (Y m c)) (X m c), fun c => LOSS (G m c) (X m c) (Y m c), ?_, ?_⟩
  · exact (θ_run LossIdeal.defs _ _).mono (fun r h c => ⟨(h c).1.trans (dx_arr m c), (h c).2.1.trans (dxb_arr m c), (h c).2.2.1.trans (dg_arr m c),
      (h c).2.2.2.1.trans (loss_arr m c), (h c).2.2.2.2⟩) (LossIdeal.Value.run_blocks (F := Ideal) m ρ)
  · refine (θ_run LossRefIdeal.defs _ _).mono (fun r h c => ?_) (LossRefIdeal.Value.run (F := Ideal) m' ρ')
    obtain ⟨e0, e1, e2⟩ := hagree c
    refine ⟨(h c).1.trans ?_, (h c).2.1.trans ?_, (h c).2.2.1.trans ?_, (h c).2.2.2.1.trans ?_, (h c).2.2.2.2⟩
    · rw [val_main_v50_eq, e0, e1, e2]
      exact v50_eq _ _ _
    · rw [val_main_v51_eq, e0, e1, e2]
      exact v51_eq _ _ _
    · rw [val_main_v52_eq, e0, e1, e2]
      exact v52_eq _ _ _
    · rw [val_main_v53_eq, e0, e1, e2]
      exact v53_eq _ _ _

end Cert.LossEq

end
-- ==== Proof.MemnMath.lean ====
/- The norm's gradients of the memory's 512 rows. -/
module

public import proofs.«01_k».proof.Proof.NormMath

@[expose] public section

noncomputable section

namespace Cert.NormMath

open Idealize.ShloMosaic

/-- An array of 512 rows of 1024 values. -/
abbrev Mem : Shape := ⟨2, ![512, 1024]⟩

/-- Row `t` of an array. -/
def mrow (x : Mem.Idx → EReal) (t : Fin 512) (j : Fin 1024) : EReal := x (ix2 t j)

/-- The gradients of the memory. -/
def MDX (h : Mem.Idx → EReal) (g : Vec0.Idx → EReal) (x : Mem.Idx → EReal) : Mem.Idx → EReal :=
  fun i => back (mrow h (i 0)) (gain g) (mrow x (i 0)) (fun _ => 0) (i 1)

/-- The gradient of the norm's gain. -/
def MDG (h x : Mem.Idx → EReal) : Vec1.Idx → EReal := fun i => ∑ t, mrow h t (i 1) * (mrow x t (i 1) * rs (mrow x t))

end Cert.NormMath

end
-- ==== Proof.MemnArray.lean ====
/- What the kernel of the memory's norm's gradient leaves in its arrays. -/
module

public import proofs.«01_k».proof.Proof.Gen.MemnIdeal.Value
public import proofs.«01_k».proof.Proof.MemnMath
public import Idealize.ShloMosaic.Lib.Pipeline.ValueKit

@[expose] public section

set_option maxRecDepth 16384

noncomputable section

namespace Cert.MemnIdeal.Arr

open Cert.MemnIdeal Cert.MemnIdeal.Gen Cert.NormMath Idealize.ShloMosaic Idealize.ShloMosaic.TcCoe Idealize.SL.Sem

variable (m : (ℓ : Loc nD τ sig) → Buf (Elt Ideal) ℓ)

/-- Each window takes the whole of its array. -/
theorem idx : ∀ t : Fin grid0.N, win0_0.index t = ![0, 0] ∧ win0_1.index t = ![0, 0] ∧ win0_2.index t = ![0, 0] ∧ win0_3.index t = ![0, 0] ∧
    win0_4.index t = ![0, 0] ∧ win0_5.index t = ![0, 0] := by
  decide +kernel

/-- The memory. -/
abbrev X (c : Dev nD) : Mem.Idx → EReal := m ((c : Thread nD τ).loc main_arg0)
/-- The norm's gain. -/
abbrev G (c : Dev nD) : Vec0.Idx → EReal := m ((c : Thread nD τ).loc main_arg1)
/-- The gradients of the normed memory. -/
abbrev H (c : Dev nD) : Mem.Idx → EReal := m ((c : Thread nD τ).loc main_arg2)

/-- The block of the memory. -/
theorem blk0 (c : Dev nD) (t : Fin cfg0.N) (x : Fin 512) (y : Fin 1024) : iblk m c 0 t (ix2 x y) = mrow (X m c) x y := by
  unfold mrow
  blk_ext [iblk, V, idx t]

/-- The block of the gain. -/
theorem blk1 (c : Dev nD) (t : Fin cfg0.N) (x : Fin 1) (y : Fin 1024) : iblk m c 1 t (ix2 x y) = gain (G m c) y := by
  unfold gain
  blk_simp [iblk, V, idx t]
  entry_read
  pointwise
  refine congrArg (G m c) (congrArg ix1 (Fin.ext ?_))
  blk_simp [idx t]

/-- The block of the gradients. -/
theorem blk2 (c : Dev nD) (t : Fin cfg0.N) (x : Fin 512) (y : Fin 1024) : iblk m c 2 t (ix2 x y) = mrow (H m c) x y := by
  unfold mrow
  blk_ext [iblk, V, idx t]

/-- The gradients of the memory. -/
theorem pay4_at (c : Dev nD) (t : Fin cfg0.N) (x : Fin 512) (y : Fin 1024) :
    k0_pay4 (F := Ideal) (iblk m c 0 t) (iblk m c 2 t) (iblk m c 1 t) (ix2 x y) = MDX (H m c) (G m c) (X m c) (ix2 x y) := by
  refine Eq.trans ?_ (add_zero _).symm
  pointwise [Gen.k0_pay4, Gen.k0_pay3, Gen.k0_pay2]
  simp only [blk0, blk1, blk2]
  rfl

/-- The gradient of the gain. -/
theorem pay6_at (c : Dev nD) (t : Fin cfg0.N) (x : Fin 1) (y : Fin 1024) :
    k0_pay6 (F := Ideal) (iblk m c 0 t) (iblk m c 2 t) (ix2 x y) = MDG (H m c) (X m c) (ix2 x y) := by
  pointwise [Gen.k0_pay6, Gen.k0_pay3, Gen.k0_pay2]
  simp only [blk0, blk2]
  rfl

/-- After the run the first array holds the gradients of the memory. -/
theorem dx_arr (c : Dev nD) : (dats m 0 c).arrAt 3 cfg0.N = MDX (H m c) (G m c) (X m c) := by
  refine (dats m 0 c).arrAt_eq_of_covers 3 _ (by decide +kernel) fun t hf y => ?_
  blk_simp
  rw [after0_3]
  idx_vars y
  refine Eq.trans ?_ ((pay4_at m c t y0 y1).trans (congrArg (MDX (H m c) (G m c) (X m c)) ?_))
  · unfold outsAt0
    frame_out
  · blk_ext [idx t]

/-- … the second the same. -/
theorem dxb_arr (c : Dev nD) : (dats m 0 c).arrAt 4 cfg0.N = MDX (H m c) (G m c) (X m c) := by
  refine (dats m 0 c).arrAt_eq_of_covers 4 _ (by decide +kernel) fun t hf y => ?_
  blk_simp
  rw [after0_4]
  idx_vars y
  refine Eq.trans ?_ ((pay4_at m c t y0 y1).trans (congrArg (MDX (H m c) (G m c) (X m c)) ?_))
  · unfold outsAt0
    frame_out
    pointwise [Gen.k0_pay5]
  · blk_ext [idx t]

/-- After the run the third array holds the gradient of the gain. -/
theorem dg_arr (c : Dev nD) : (dats m 0 c).arrAt 5 cfg0.N = MDG (H m c) (X m c) := by
  refine (dats m 0 c).arrAt_eq_of_covers 5 _ (by decide +kernel) fun t hf y => ?_
  blk_simp
  rw [after0_5]
  idx_vars y
  refine Eq.trans ?_ ((pay6_at m c t y0 y1).trans (congrArg (MDG (H m c) (X m c)) ?_))
  · unfold outsAt0
    frame_out
  · blk_ext [idx t]

end Cert.MemnIdeal.Arr

end
-- ==== Proof.MemnRef.lean ====
/- What the reference of the memory's norm's gradient computes, read at an index. -/
module

public import proofs.«01_k».proof.Proof.Gen.MemnRefIdeal.Read
public import proofs.«01_k».proof.Proof.MemnMath
public import Idealize.ShloMosaic.Lib.Pointwise

@[expose] public section

set_option maxRecDepth 16384

noncomputable section

namespace Cert.MemnRefIdeal.At

open Cert.MemnRefIdeal Cert.MemnRefIdeal.Gen Cert.MemnRefIdeal.Read Cert.NormMath Idealize.ShloMosaic Idealize.ShloMosaic.TcCoe Idealize.SL.Sem

variable (x : Mem.Idx → EReal) (g : Vec0.Idx → EReal) (h : Mem.Idx → EReal)

/-- The mean square. -/
theorem v6_at (t : Fin 512) : val_main_v6 (F := Ideal) x (ix2 t 0) = ms (mrow x t) := by
  pointwise [val_main_v6, val_main_v5, val_main_v4, val_main_v3, val_main_v2, val_main_v1, val_main_v0, val_main_cst, val_main_cst_0, val_main_cst_1]
  rfl

/-- The factor of the norm. -/
theorem v7_at (t : Fin 512) : val_main_v7 (F := Ideal) x (ix2 t 0) = rs (mrow x t) := by
  unfold val_main_v7
  have e := v6_at x t
  generalize val_main_v6 (F := Ideal) x = y at e ⊢
  pointwise
  rw [e]
  rfl

/-- The derivative of the factor. -/
theorem v10_at (t : Fin 512) : val_main_v10 (F := Ideal) x (ix2 t 0) = mhalf * Ideal.div (rs (mrow x t)) (ms (mrow x t)) := by
  unfold val_main_v10 val_main_v9 val_main_v8 val_main_cst_2
  have e := v6_at x t
  have f := v7_at x t
  generalize val_main_v6 (F := Ideal) x = y at e ⊢
  generalize val_main_v7 (F := Ideal) x = z at f ⊢
  pointwise
  rw [e, f]

/-- The normed memory before its gain. -/
theorem v12_at (t : Fin 512) (j : Fin 1024) : val_main_v12 (F := Ideal) x (ix2 t j) = mrow x t j * rs (mrow x t) := by
  unfold val_main_v12 val_main_v11
  have f := v7_at x t
  generalize val_main_v7 (F := Ideal) x = z at f ⊢
  pointwise
  rw [f]
  rfl

/-- The gradient of the normed memory times the gain. -/
theorem v20_at (t : Fin 512) (j : Fin 1024) : val_main_v20 (F := Ideal) g h (ix2 t j) = mrow h t j * gain g j := by
  unfold val_main_v20 val_main_v19 val_main_v13
  pointwise
  rfl

/-- The part through the mean square. -/
theorem v30_at (t : Fin 512) : val_main_v30 (F := Ideal) x g h (ix1 t) = thru (mrow h t) (gain g) (mrow x t) := by
  unfold val_main_v30 val_main_v29 val_main_v28 val_main_v27 val_main_v24 val_main_v23 val_main_v22 val_main_cst_5 val_main_cst_6 val_main_cst_7
  have e := v10_at x t
  have f := v20_at g h t
  generalize val_main_v10 (F := Ideal) x = u at e ⊢
  generalize val_main_v20 (F := Ideal) g h = z at f ⊢
  pointwise
  simp only [Finset.univ_unique, Finset.sum_singleton, Fin.default_eq_zero, e, f]
  rfl

/-- The gradients of the memory. -/
theorem v35_at (t : Fin 512) (j : Fin 1024) :
    val_main_v35 (F := Ideal) x g h (ix2 t j) = backRef (mrow h t) (gain g) (mrow x t) (fun _ => 0) j := by
  unfold val_main_v35 val_main_v34 val_main_v33 val_main_v32 val_main_v31 val_main_v26 val_main_v25
  have e := v7_at x t
  have f := v20_at g h t j
  have k := v30_at x g h t
  generalize val_main_v7 (F := Ideal) x = u at e ⊢
  generalize val_main_v20 (F := Ideal) g h = z at f ⊢
  generalize val_main_v30 (F := Ideal) x g h = v at k ⊢
  pointwise
  rw [e, f, k]
  unfold backRef
  rw [zero_add]
  rfl

/-- The reference's first result is the gradients of the memory. -/
theorem v35_eq : val_main_v35 (F := Ideal) x g h = MDX h g x := by
  funext i
  idx_vars i
  rw [v35_at, backRef_eq]
  rfl

/-- The reference's second result is the same, rounded in the last step. -/
theorem v36_eq : val_main_v36 (F := Ideal) x g h = MDX h g x := by
  rw [← v35_eq]
  unfold val_main_v36
  generalize val_main_v35 (F := Ideal) x g h = z
  funext i
  pointwise

/-- The reference's third result is the gradient of the gain. -/
theorem v37_eq : val_main_v37 (F := Ideal) x h = MDG h x := by
  funext i
  unfold val_main_v37 val_main_v21 val_main_v18 val_main_v17 val_main_v16 val_main_cst_3 val_main_cst_4
  have e := v12_at x
  generalize val_main_v12 (F := Ideal) x = u at e ⊢
  idx_vars i
  pointwise
  simp only [Finset.univ_unique, Finset.sum_singleton, Fin.default_eq_zero, e]
  refine Finset.sum_congr rfl fun t _ => mul_comm _ _

end Cert.MemnRefIdeal.At

end
-- ==== Proof.MemnClaim.lean ====
/- The claims of the memory's norm's gradient: the reference's frame, and that kernel and reference leave equal results. -/
module

public import proofs.«01_k».proof.Defs
public import proofs.«01_k».proof.Proof.MemnArray
public import proofs.«01_k».proof.Proof.MemnRef
public import Idealize.ShloMosaic.Lib.Quiescent

@[expose] public section

set_option maxRecDepth 16384

noncomputable section

namespace Cert.MemnEq

open Idealize.ShloMosaic Idealize.ShloMosaic.TcCoe Idealize.SL.Sem Cert.NormMath

/-- The reference's frame. -/
theorem frame_ref : Cert.quiescent_MemnRefIdeal (hMemnRefIdeal := Cert.MemnRefIdeal.Gen.facts) := fun m ρ _ =>
  (θ_run MemnRefIdeal.defs _ _).mono (fun r h => ⟨fun c => (h c).2.2.2, sem_eq_zero_of_no_sems (by decide) r.2⟩)
    (MemnRefIdeal.Value.run (F := Ideal) m ρ)

open MemnIdeal.Arr MemnRefIdeal.Read MemnRefIdeal.At in
/-- Kernel and reference, from equal arguments, leave equal gradients. -/
theorem algebraic : Cert.algebraic_MemnIdeal_MemnRefIdeal (hMemnIdeal := Cert.MemnIdeal.Gen.facts)
    (hMemnRefIdeal := Cert.MemnRefIdeal.Gen.facts) := by
  intro m ρ m' ρ' hpre hagree
  refine ⟨fun c => MDX (H m c) (G m c) (X m c), fun c => MDX (H m c) (G m c) (X m c), fun c => MDG (H m c) (X m c), ?_, ?_⟩
  · exact (θ_run MemnIdeal.defs _ _).mono (fun r h c => ⟨(h c).1.trans (dx_arr m c), (h c).2.1.trans (dxb_arr m c), (h c).2.2.1.trans (dg_arr m c),
      (h c).2.2.2⟩) (MemnIdeal.Value.run_blocks (F := Ideal) m ρ)
  · refine (θ_run MemnRefIdeal.defs _ _).mono (fun r h c => ?_) (MemnRefIdeal.Value.run (F := Ideal) m' ρ')
    obtain ⟨e0, e1, e2⟩ := hagree c
    refine ⟨(h c).1.trans ?_, (h c).2.1.trans ?_, (h c).2.2.1.trans ?_, (h c).2.2.2⟩
    · rw [val_main_v35_eq, e0, e1, e2]
      exact v35_eq _ _ _
    · rw [val_main_v36_eq, e0, e1, e2]
      exact v36_eq _ _ _
    · rw [val_main_v37_eq, e0, e2]
      exact v37_eq _ _

end Cert.MemnEq

end
-- ==== Proof.SmallArray.lean ====
/- What the sum of the devices' small parts leaves in its array. -/
module

public import proofs.«01_k».proof.Proof.Gen.SmallIdeal.Value
public import Idealize.ShloMosaic.Lib.Pipeline.ValueKit

@[expose] public section

set_option maxRecDepth 16384

noncomputable section

namespace Cert.SmallIdeal.Arr

open Cert.SmallIdeal Cert.SmallIdeal.Gen Idealize.ShloMosaic Idealize.ShloMosaic.TcCoe Idealize.SL.Sem

variable (m : (ℓ : Loc nD τ sig) → Buf (Elt Ideal) ℓ)

/-- Each window takes the whole of its array. -/
theorem idx : ∀ t : Fin grid0.N, win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧ win0_8.index t = ![0, 0] := by
  decide +kernel

/-- The devices' parts. -/
abbrev A (c : Dev nD) : S8x80x1024.Idx → EReal := m ((c : Thread nD τ).loc main_arg0)

/-- The sum over the devices. -/
def TOTAL (a : S8x80x1024.Idx → EReal) : S80x1024.Idx → EReal := fun i => ∑ d : Fin 8, a (ix3 d (i 0) (i 1))

/-- The part of device 0. -/
theorem blk0 (c : Dev nD) (t : Fin cfg0.N) (x : Fin 80) (y : Fin 1024) : iblk m c 0 t (ix2 x y) = A m c (ix3 0 x y) := by
  blk_simp [iblk, V, idx t]
  entry_read
  pointwise
  refine congrArg (A m c) ?_
  blk_ext [idx t]

/-- The part of device 1. -/
theorem blk1 (c : Dev nD) (t : Fin cfg0.N) (x : Fin 80) (y : Fin 1024) : iblk m c 1 t (ix2 x y) = A m c (ix3 1 x y) := by
  blk_simp [iblk, V, idx t]
  entry_read
  pointwise
  refine congrArg (A m c) ?_
  blk_ext [idx t]

/-- The part of device 2. -/
theorem blk2 (c : Dev nD) (t : Fin cfg0.N) (x : Fin 80) (y : Fin 1024) : iblk m c 2 t (ix2 x y) = A m c (ix3 2 x y) := by
  blk_simp [iblk, V, idx t]
  entry_read
  pointwise
  refine congrArg (A m c) ?_
  blk_ext [idx t]

/-- The part of device 3. -/
theorem blk3 (c : Dev nD) (t : Fin cfg0.N) (x : Fin 80) (y : Fin 1024) : iblk m c 3 t (ix2 x y) = A m c (ix3 3 x y) := by
  blk_simp [iblk, V, idx t]
  entry_read
  pointwise
  refine congrArg (A m c) ?_
  blk_ext [idx t]

/-- The part of device 4. -/
theorem blk4 (c : Dev nD) (t : Fin cfg0.N) (x : Fin 80) (y : Fin 1024) : iblk m c 4 t (ix2 x y) = A m c (ix3 4 x y) := by
  blk_simp [iblk, V, idx t]
  entry_read
  pointwise
  refine congrArg (A m c) ?_
  blk_ext [idx t]

/-- The part of device 5. -/
theorem blk5 (c : Dev nD) (t : Fin cfg0.N) (x : Fin 80) (y : Fin 1024) : iblk m c 5 t (ix2 x y) = A m c (ix3 5 x y) := by
  blk_simp [iblk, V, idx t]
  entry_read
  pointwise
  refine congrArg (A m c) ?_
  blk_ext [idx t]

/-- The part of device 6. -/
theorem blk6 (c : Dev nD) (t : Fin cfg0.N) (x : Fin 80) (y : Fin 1024) : iblk m c 6 t (ix2 x y) = A m c (ix3 6 x y) := by
  blk_simp [iblk, V, idx t]
  entry_read
  pointwise
  refine congrArg (A m c) ?_
  blk_ext [idx t]

/-- The part of device 7. -/
theorem blk7 (c : Dev nD) (t : Fin cfg0.N) (x : Fin 80) (y : Fin 1024) : iblk m c 7 t (ix2 x y) = A m c (ix3 7 x y) := by
  blk_simp [iblk, V, idx t]
  entry_read
  pointwise
  refine congrArg (A m c) ?_
  blk_ext [idx t]

/-- After the run the array holds the sum. -/
theorem arr (c : Dev nD) : (dats m 0 c).arrAt 8 cfg0.N = TOTAL (A m c) := by
  refine (dats m 0 c).arrAt_eq_of_covers 8 _ (by decide +kernel) fun t hf y => ?_
  blk_simp
  rw [after0_8]
  idx_vars y
  have p : k0_pay1 (F := Ideal) (iblk m c 0 t) (iblk m c 1 t) (iblk m c 2 t) (iblk m c 3 t) (iblk m c 4 t) (iblk m c 5 t) (iblk m c 6 t)
      (iblk m c 7 t) (ix2 y0 y1) = TOTAL (A m c) (ix2 y0 y1) := by
    pointwise [Gen.k0_pay1]
    simp only [blk0, blk1, blk2, blk3, blk4, blk5, blk6, blk7]
    exact (Fin.sum_univ_eight (fun d : Fin 8 => A m c (ix3 d y0 y1))).symm
  refine Eq.trans ?_ (p.trans (congrArg (TOTAL (A m c)) ?_))
  · frame_out
  · blk_ext [idx t]

end Cert.SmallIdeal.Arr

end
-- ==== Proof.SmallClaim.lean ====
/- The claims of the sum of the devices' small parts: the reference's frame, and that kernel and reference leave equal sums. -/
module

public import proofs.«01_k».proof.Defs
public import proofs.«01_k».proof.Proof.SmallArray
public import proofs.«01_k».proof.Proof.Gen.SmallRefIdeal.Read
public import Idealize.ShloMosaic.Lib.Quiescent

@[expose] public section

set_option maxRecDepth 16384

noncomputable section

namespace Cert.SmallEq

open Idealize.ShloMosaic Idealize.ShloMosaic.TcCoe Idealize.SL.Sem

/-- The reference's result is the sum. -/
theorem ref_eq (a : Cert.SmallRefIdeal.S8x80x1024.Idx → EReal) : SmallRefIdeal.Read.val_main_v0 (F := Ideal) a = SmallIdeal.Arr.TOTAL a := by
  funext i
  idx_vars i
  pointwise [SmallRefIdeal.Read.val_main_v0, SmallRefIdeal.Read.val_main_cst]
  rfl

/-- The reference's frame. -/
theorem frame_ref : Cert.quiescent_SmallRefIdeal (hSmallRefIdeal := Cert.SmallRefIdeal.Gen.facts) := fun m ρ _ =>
  (θ_run SmallRefIdeal.defs _ _).mono (fun r h => ⟨fun c => (h c).2, sem_eq_zero_of_no_sems (by decide) r.2⟩)
    (SmallRefIdeal.Value.run (F := Ideal) m ρ)

/-- Kernel and reference, from equal arguments, leave equal sums. -/
theorem algebraic : Cert.algebraic_SmallIdeal_SmallRefIdeal (hSmallIdeal := Cert.SmallIdeal.Gen.facts)
    (hSmallRefIdeal := Cert.SmallRefIdeal.Gen.facts) := by
  intro m ρ m' ρ' hpre hagree
  refine ⟨fun c => SmallIdeal.Arr.TOTAL (SmallIdeal.Arr.A m c), ?_, ?_⟩
  · exact (θ_run SmallIdeal.defs _ _).mono (fun r h c => ⟨(h c).1.trans (SmallIdeal.Arr.arr m c), (h c).2⟩)
      (SmallIdeal.Value.run_blocks (F := Ideal) m ρ)
  · refine (θ_run SmallRefIdeal.defs _ _).mono (fun r h c => ?_) (SmallRefIdeal.Value.run (F := Ideal) m' ρ')
    refine ⟨(h c).1.trans ?_, (h c).2⟩
    rw [SmallRefIdeal.Read.val_main_v0_eq, hagree c]
    exact ref_eq _

end Cert.SmallEq

end
-- ==== Proof.GmixArray.lean ====
/- What the sum over the chips of the gradients of the mixing matrices of layer 0 leaves in its array. -/
module

public import proofs.«01_k».proof.Proof.Gen.GmixIdeal.Value
public import Idealize.ShloMosaic.Lib.Pipeline.ValueKit

@[expose] public section

set_option maxRecDepth 16384

noncomputable section

namespace Cert.GmixIdeal.Arr

open Cert.GmixIdeal Cert.GmixIdeal.Gen Idealize.ShloMosaic Idealize.ShloMosaic.TcCoe Idealize.SL.Sem

variable (m : (ℓ : Loc nD τ sig) → Buf (Elt Ideal) ℓ)

/-- Which block a point takes: that of its rows, of this chip's part and of the three others'. -/
theorem idx : ∀ t : Fin grid0.N, win0_0.index t = ![0, t.val, 0] ∧ win0_1.index t = ![0, t.val, 0] ∧ win0_2.index t = ![1, t.val, 0] ∧
    win0_3.index t = ![2, t.val, 0] ∧ win0_4.index t = ![t.val, 0] := by
  decide +kernel

/-- Row `x` of point `t`'s block. -/
def row (t : Fin cfg0.N) (x : Fin 656) : Fin 656 :=
  ⟨t.val * 656 + x.val, by have h : t.val < 1 := t.isLt; omega⟩

/-- This chip's part (the first) and those sent. -/
abbrev P (c : Dev nD) : S4x656x1024.Idx → EReal := m ((c : Thread nD τ).loc main_arg0)
/-- The other chips' parts. -/
abbrev Q (c : Dev nD) : S3x656x1024.Idx → EReal := m ((c : Thread nD τ).loc main_arg1)

/-- The sum over the chips. -/
def TOTAL (p : S4x656x1024.Idx → EReal) (q : S3x656x1024.Idx → EReal) : S656x1024.Idx → EReal :=
  fun i => p (ix3 0 (i 0) (i 1)) + ∑ k : Fin 3, q (ix3 k (i 0) (i 1))

/-- The block of this chip's part. -/
theorem blk0 (c : Dev nD) (t : Fin cfg0.N) (x : Fin 656) (y : Fin 1024) :
    iblk m c 0 t (ix3 0 x y) = P m c (ix3 0 (row t x) y) := by
  blk_ext [iblk, V, idx t, row]

/-- The block of the first of the others. -/
theorem blk1 (c : Dev nD) (t : Fin cfg0.N) (x : Fin 656) (y : Fin 1024) :
    iblk m c 1 t (ix3 0 x y) = Q m c (ix3 0 (row t x) y) := by
  blk_ext [iblk, V, idx t, row]

/-- The block of the second. -/
theorem blk2 (c : Dev nD) (t : Fin cfg0.N) (x : Fin 656) (y : Fin 1024) :
    iblk m c 2 t (ix3 0 x y) = Q m c (ix3 1 (row t x) y) := by
  blk_ext [iblk, V, idx t, row]

/-- The block of the third. -/
theorem blk3 (c : Dev nD) (t : Fin cfg0.N) (x : Fin 656) (y : Fin 1024) :
    iblk m c 3 t (ix3 0 x y) = Q m c (ix3 2 (row t x) y) := by
  blk_ext [iblk, V, idx t, row]

/-- After the run the array holds the sum. -/
theorem arr (c : Dev nD) : (dats m 0 c).arrAt 4 cfg0.N = TOTAL (P m c) (Q m c) := by
  refine (dats m 0 c).arrAt_eq_of_covers 4 _ (by decide +kernel) fun t hf y => ?_
  blk_simp
  rw [after0_4]
  idx_vars y
  have p : k0_pay1 (F := Ideal) (iblk m c 0 t) (iblk m c 1 t) (iblk m c 2 t) (iblk m c 3 t) (ix2 y0 y1) =
      TOTAL (P m c) (Q m c) (ix2 (row t y0) y1) := by
    pointwise [Gen.k0_pay1]
    simp only [blk0, blk1, blk2, blk3]
    unfold TOTAL
    rw [Fin.sum_univ_three, ← add_assoc, ← add_assoc]
    rfl
  refine Eq.trans ?_ (p.trans (congrArg (TOTAL (P m c) (Q m c)) ?_))
  · frame_out
  · blk_ext [idx t, row]

end Cert.GmixIdeal.Arr

end
-- ==== Proof.GmixClaim.lean ====
/- The claims of the sum over the chips of the gradients of the mixing matrices of layer 0: the reference's frame, and that kernel and reference leave equal sums. -/
module

public import proofs.«01_k».proof.Defs
public import proofs.«01_k».proof.Proof.GmixArray
public import proofs.«01_k».proof.Proof.Gen.GmixRefIdeal.Read
public import Idealize.ShloMosaic.Lib.Quiescent

@[expose] public section

set_option maxRecDepth 16384

noncomputable section

namespace Cert.GmixEq

open Idealize.ShloMosaic Idealize.ShloMosaic.TcCoe Idealize.SL.Sem

/-- The reference's result is the sum. -/
theorem ref_eq (p : Cert.GmixRefIdeal.S4x656x1024.Idx → EReal) (q : Cert.GmixRefIdeal.S3x656x1024.Idx → EReal) :
    GmixRefIdeal.Read.val_main_v5 (F := Ideal) p q = GmixIdeal.Arr.TOTAL p q := by
  funext i
  idx_vars i
  pointwise [GmixRefIdeal.Read.val_main_v5, GmixRefIdeal.Read.val_main_v4, GmixRefIdeal.Read.val_main_v3, GmixRefIdeal.Read.val_main_v2,
    GmixRefIdeal.Read.val_main_v1, GmixRefIdeal.Read.val_main_v0, GmixRefIdeal.Read.val_main_cst]
  rfl

/-- The reference's frame. -/
theorem frame_ref : Cert.quiescent_GmixRefIdeal (hGmixRefIdeal := Cert.GmixRefIdeal.Gen.facts) := fun m ρ _ =>
  (θ_run GmixRefIdeal.defs _ _).mono (fun r h => ⟨fun c => (h c).2, sem_eq_zero_of_no_sems (by decide) r.2⟩)
    (GmixRefIdeal.Value.run (F := Ideal) m ρ)

/-- Kernel and reference, from equal arguments, leave equal sums. -/
theorem algebraic : Cert.algebraic_GmixIdeal_GmixRefIdeal (hGmixIdeal := Cert.GmixIdeal.Gen.facts)
    (hGmixRefIdeal := Cert.GmixRefIdeal.Gen.facts) := by
  intro m ρ m' ρ' hpre hagree
  refine ⟨fun c => GmixIdeal.Arr.TOTAL (GmixIdeal.Arr.P m c) (GmixIdeal.Arr.Q m c), ?_, ?_⟩
  · exact (θ_run GmixIdeal.defs _ _).mono (fun r h c => ⟨(h c).1.trans (GmixIdeal.Arr.arr m c), (h c).2⟩)
      (GmixIdeal.Value.run_blocks (F := Ideal) m ρ)
  · refine (θ_run GmixRefIdeal.defs _ _).mono (fun r h c => ?_) (GmixRefIdeal.Value.run (F := Ideal) m' ρ')
    refine ⟨(h c).1.trans ?_, (h c).2⟩
    obtain ⟨e0, e1⟩ := hagree c
    rw [GmixRefIdeal.Read.val_main_v5_eq, e0, e1]
    exact ref_eq _ _

end Cert.GmixEq

end
-- ==== Proof.GrestArray.lean ====
/- What the sum over the chips of the gradients of the attention's and feed-forward's matrices of layer 0 leaves in its array. -/
module

public import proofs.«01_k».proof.Proof.Gen.GrestIdeal.Value
public import Idealize.ShloMosaic.Lib.Pipeline.ValueKit

@[expose] public section

set_option maxRecDepth 16384

noncomputable section

namespace Cert.GrestIdeal.Arr

open Cert.GrestIdeal Cert.GrestIdeal.Gen Idealize.ShloMosaic Idealize.ShloMosaic.TcCoe Idealize.SL.Sem

variable (m : (ℓ : Loc nD τ sig) → Buf (Elt Ideal) ℓ)

/-- Which block a point takes: that of its rows, of this chip's part and of the three others'. -/
theorem idx : ∀ t : Fin grid0.N, win0_0.index t = ![0, t.val, 0] ∧ win0_1.index t = ![0, t.val, 0] ∧ win0_2.index t = ![1, t.val, 0] ∧
    win0_3.index t = ![2, t.val, 0] ∧ win0_4.index t = ![t.val, 0] := by
  decide +kernel

/-- Row `x` of point `t`'s block. -/
def row (t : Fin cfg0.N) (x : Fin 784) : Fin 1568 :=
  ⟨t.val * 784 + x.val, by have h : t.val < 2 := t.isLt; omega⟩

/-- This chip's part (the first) and those sent. -/
abbrev P (c : Dev nD) : S4x1568x1024.Idx → EReal := m ((c : Thread nD τ).loc main_arg0)
/-- The other chips' parts. -/
abbrev Q (c : Dev nD) : S3x1568x1024.Idx → EReal := m ((c : Thread nD τ).loc main_arg1)

/-- The sum over the chips. -/
def TOTAL (p : S4x1568x1024.Idx → EReal) (q : S3x1568x1024.Idx → EReal) : S1568x1024.Idx → EReal :=
  fun i => p (ix3 0 (i 0) (i 1)) + ∑ k : Fin 3, q (ix3 k (i 0) (i 1))

/-- The block of this chip's part. -/
theorem blk0 (c : Dev nD) (t : Fin cfg0.N) (x : Fin 784) (y : Fin 1024) :
    iblk m c 0 t (ix3 0 x y) = P m c (ix3 0 (row t x) y) := by
  blk_ext [iblk, V, idx t, row]

/-- The block of the first of the others. -/
theorem blk1 (c : Dev nD) (t : Fin cfg0.N) (x : Fin 784) (y : Fin 1024) :
    iblk m c 1 t (ix3 0 x y) = Q m c (ix3 0 (row t x) y) := by
  blk_ext [iblk, V, idx t, row]

/-- The block of the second. -/
theorem blk2 (c : Dev nD) (t : Fin cfg0.N) (x : Fin 784) (y : Fin 1024) :
    iblk m c 2 t (ix3 0 x y) = Q m c (ix3 1 (row t x) y) := by
  blk_ext [iblk, V, idx t, row]

/-- The block of the third. -/
theorem blk3 (c : Dev nD) (t : Fin cfg0.N) (x : Fin 784) (y : Fin 1024) :
    iblk m c 3 t (ix3 0 x y) = Q m c (ix3 2 (row t x) y) := by
  blk_ext [iblk, V, idx t, row]

/-- After the run the array holds the sum. -/
theorem arr (c : Dev nD) : (dats m 0 c).arrAt 4 cfg0.N = TOTAL (P m c) (Q m c) := by
  refine (dats m 0 c).arrAt_eq_of_covers 4 _ (by decide +kernel) fun t hf y => ?_
  blk_simp
  rw [after0_4]
  idx_vars y
  have p : k0_pay1 (F := Ideal) (iblk m c 0 t) (iblk m c 1 t) (iblk m c 2 t) (iblk m c 3 t) (ix2 y0 y1) =
      TOTAL (P m c) (Q m c) (ix2 (row t y0) y1) := by
    pointwise [Gen.k0_pay1]
    simp only [blk0, blk1, blk2, blk3]
    unfold TOTAL
    rw [Fin.sum_univ_three, ← add_assoc, ← add_assoc]
    rfl
  refine Eq.trans ?_ (p.trans (congrArg (TOTAL (P m c) (Q m c)) ?_))
  · frame_out
  · blk_ext [idx t, row]

end Cert.GrestIdeal.Arr

end
-- ==== Proof.GrestClaim.lean ====
/- The claims of the sum over the chips of the gradients of the attention's and feed-forward's matrices of layer 0: the reference's frame, and that kernel and reference leave equal sums. -/
module

public import proofs.«01_k».proof.Defs
public import proofs.«01_k».proof.Proof.GrestArray
public import proofs.«01_k».proof.Proof.Gen.GrestRefIdeal.Read
public import Idealize.ShloMosaic.Lib.Quiescent

@[expose] public section

set_option maxRecDepth 16384

noncomputable section

namespace Cert.GrestEq

open Idealize.ShloMosaic Idealize.ShloMosaic.TcCoe Idealize.SL.Sem

/-- The reference's result is the sum. -/
theorem ref_eq (p : Cert.GrestRefIdeal.S4x1568x1024.Idx → EReal) (q : Cert.GrestRefIdeal.S3x1568x1024.Idx → EReal) :
    GrestRefIdeal.Read.val_main_v5 (F := Ideal) p q = GrestIdeal.Arr.TOTAL p q := by
  funext i
  idx_vars i
  pointwise [GrestRefIdeal.Read.val_main_v5, GrestRefIdeal.Read.val_main_v4, GrestRefIdeal.Read.val_main_v3, GrestRefIdeal.Read.val_main_v2,
    GrestRefIdeal.Read.val_main_v1, GrestRefIdeal.Read.val_main_v0, GrestRefIdeal.Read.val_main_cst]
  rfl

/-- The reference's frame. -/
theorem frame_ref : Cert.quiescent_GrestRefIdeal (hGrestRefIdeal := Cert.GrestRefIdeal.Gen.facts) := fun m ρ _ =>
  (θ_run GrestRefIdeal.defs _ _).mono (fun r h => ⟨fun c => (h c).2, sem_eq_zero_of_no_sems (by decide) r.2⟩)
    (GrestRefIdeal.Value.run (F := Ideal) m ρ)

/-- Kernel and reference, from equal arguments, leave equal sums. -/
theorem algebraic : Cert.algebraic_GrestIdeal_GrestRefIdeal (hGrestIdeal := Cert.GrestIdeal.Gen.facts)
    (hGrestRefIdeal := Cert.GrestRefIdeal.Gen.facts) := by
  intro m ρ m' ρ' hpre hagree
  refine ⟨fun c => GrestIdeal.Arr.TOTAL (GrestIdeal.Arr.P m c) (GrestIdeal.Arr.Q m c), ?_, ?_⟩
  · exact (θ_run GrestIdeal.defs _ _).mono (fun r h c => ⟨(h c).1.trans (GrestIdeal.Arr.arr m c), (h c).2⟩)
      (GrestIdeal.Value.run_blocks (F := Ideal) m ρ)
  · refine (θ_run GrestRefIdeal.defs _ _).mono (fun r h c => ?_) (GrestRefIdeal.Value.run (F := Ideal) m' ρ')
    refine ⟨(h c).1.trans ?_, (h c).2⟩
    obtain ⟨e0, e1⟩ := hagree c
    rw [GrestRefIdeal.Read.val_main_v5_eq, e0, e1]
    exact ref_eq _ _

end Cert.GrestEq

end
-- ==== Proof.GallArray.lean ====
/- What the sum over the chips of the gradients of the matrices of layer 1 leaves in its array. -/
module

public import proofs.«01_k».proof.Proof.Gen.GallIdeal.Value
public import Idealize.ShloMosaic.Lib.Pipeline.ValueKit

@[expose] public section

set_option maxRecDepth 16384

noncomputable section

namespace Cert.GallIdeal.Arr

open Cert.GallIdeal Cert.GallIdeal.Gen Idealize.ShloMosaic Idealize.ShloMosaic.TcCoe Idealize.SL.Sem

variable (m : (ℓ : Loc nD τ sig) → Buf (Elt Ideal) ℓ)

/-- Which block a point takes: that of its rows, of this chip's part and of the three others'. -/
theorem idx : ∀ t : Fin grid0.N, win0_0.index t = ![0, t.val, 0] ∧ win0_1.index t = ![0, t.val, 0] ∧ win0_2.index t = ![1, t.val, 0] ∧
    win0_3.index t = ![2, t.val, 0] ∧ win0_4.index t = ![t.val, 0] := by
  decide +kernel

/-- Row `x` of point `t`'s block. -/
def row (t : Fin cfg0.N) (x : Fin 1112) : Fin 2224 :=
  ⟨t.val * 1112 + x.val, by have h : t.val < 2 := t.isLt; omega⟩

/-- This chip's part (the first) and those sent. -/
abbrev P (c : Dev nD) : S4x2224x1024.Idx → EReal := m ((c : Thread nD τ).loc main_arg0)
/-- The other chips' parts. -/
abbrev Q (c : Dev nD) : S3x2224x1024.Idx → EReal := m ((c : Thread nD τ).loc main_arg1)

/-- The sum over the chips. -/
def TOTAL (p : S4x2224x1024.Idx → EReal) (q : S3x2224x1024.Idx → EReal) : S2224x1024.Idx → EReal :=
  fun i => p (ix3 0 (i 0) (i 1)) + ∑ k : Fin 3, q (ix3 k (i 0) (i 1))

/-- The block of this chip's part. -/
theorem blk0 (c : Dev nD) (t : Fin cfg0.N) (x : Fin 1112) (y : Fin 1024) :
    iblk m c 0 t (ix3 0 x y) = P m c (ix3 0 (row t x) y) := by
  blk_ext [iblk, V, idx t, row]

/-- The block of the first of the others. -/
theorem blk1 (c : Dev nD) (t : Fin cfg0.N) (x : Fin 1112) (y : Fin 1024) :
    iblk m c 1 t (ix3 0 x y) = Q m c (ix3 0 (row t x) y) := by
  blk_ext [iblk, V, idx t, row]

/-- The block of the second. -/
theorem blk2 (c : Dev nD) (t : Fin cfg0.N) (x : Fin 1112) (y : Fin 1024) :
    iblk m c 2 t (ix3 0 x y) = Q m c (ix3 1 (row t x) y) := by
  blk_ext [iblk, V, idx t, row]

/-- The block of the third. -/
theorem blk3 (c : Dev nD) (t : Fin cfg0.N) (x : Fin 1112) (y : Fin 1024) :
    iblk m c 3 t (ix3 0 x y) = Q m c (ix3 2 (row t x) y) := by
  blk_ext [iblk, V, idx t, row]

/-- After the run the array holds the sum. -/
theorem arr (c : Dev nD) : (dats m 0 c).arrAt 4 cfg0.N = TOTAL (P m c) (Q m c) := by
  refine (dats m 0 c).arrAt_eq_of_covers 4 _ (by decide +kernel) fun t hf y => ?_
  blk_simp
  rw [after0_4]
  idx_vars y
  have p : k0_pay1 (F := Ideal) (iblk m c 0 t) (iblk m c 1 t) (iblk m c 2 t) (iblk m c 3 t) (ix2 y0 y1) =
      TOTAL (P m c) (Q m c) (ix2 (row t y0) y1) := by
    pointwise [Gen.k0_pay1]
    simp only [blk0, blk1, blk2, blk3]
    unfold TOTAL
    rw [Fin.sum_univ_three, ← add_assoc, ← add_assoc]
    rfl
  refine Eq.trans ?_ (p.trans (congrArg (TOTAL (P m c) (Q m c)) ?_))
  · frame_out
  · blk_ext [idx t, row]

end Cert.GallIdeal.Arr

end
-- ==== Proof.GallClaim.lean ====
/- The claims of the sum over the chips of the gradients of the matrices of layer 1: the reference's frame, and that kernel and reference leave equal sums. -/
module

public import proofs.«01_k».proof.Defs
public import proofs.«01_k».proof.Proof.GallArray
public import proofs.«01_k».proof.Proof.Gen.GallRefIdeal.Read
public import Idealize.ShloMosaic.Lib.Quiescent

@[expose] public section

set_option maxRecDepth 16384

noncomputable section

namespace Cert.GallEq

open Idealize.ShloMosaic Idealize.ShloMosaic.TcCoe Idealize.SL.Sem

/-- The reference's result is the sum. -/
theorem ref_eq (p : Cert.GallRefIdeal.S4x2224x1024.Idx → EReal) (q : Cert.GallRefIdeal.S3x2224x1024.Idx → EReal) :
    GallRefIdeal.Read.val_main_v5 (F := Ideal) p q = GallIdeal.Arr.TOTAL p q := by
  funext i
  idx_vars i
  pointwise [GallRefIdeal.Read.val_main_v5, GallRefIdeal.Read.val_main_v4, GallRefIdeal.Read.val_main_v3, GallRefIdeal.Read.val_main_v2,
    GallRefIdeal.Read.val_main_v1, GallRefIdeal.Read.val_main_v0, GallRefIdeal.Read.val_main_cst]
  rfl

/-- The reference's frame. -/
theorem frame_ref : Cert.quiescent_GallRefIdeal (hGallRefIdeal := Cert.GallRefIdeal.Gen.facts) := fun m ρ _ =>
  (θ_run GallRefIdeal.defs _ _).mono (fun r h => ⟨fun c => (h c).2, sem_eq_zero_of_no_sems (by decide) r.2⟩)
    (GallRefIdeal.Value.run (F := Ideal) m ρ)

/-- Kernel and reference, from equal arguments, leave equal sums. -/
theorem algebraic : Cert.algebraic_GallIdeal_GallRefIdeal (hGallIdeal := Cert.GallIdeal.Gen.facts)
    (hGallRefIdeal := Cert.GallRefIdeal.Gen.facts) := by
  intro m ρ m' ρ' hpre hagree
  refine ⟨fun c => GallIdeal.Arr.TOTAL (GallIdeal.Arr.P m c) (GallIdeal.Arr.Q m c), ?_, ?_⟩
  · exact (θ_run GallIdeal.defs _ _).mono (fun r h c => ⟨(h c).1.trans (GallIdeal.Arr.arr m c), (h c).2⟩)
      (GallIdeal.Value.run_blocks (F := Ideal) m ρ)
  · refine (θ_run GallRefIdeal.defs _ _).mono (fun r h c => ?_) (GallRefIdeal.Value.run (F := Ideal) m' ρ')
    refine ⟨(h c).1.trans ?_, (h c).2⟩
    obtain ⟨e0, e1⟩ := hagree c
    rw [GallRefIdeal.Read.val_main_v5_eq, e0, e1]
    exact ref_eq _ _

end Cert.GallEq

end
-- ==== Proof.AdamMath.lean ====
/- AdamW's step, element by element: the two moments and the change of the weight. The kernels' payloads and the references take the same
   operations in the same order, so each is one of these three functions. -/
module

public import Idealize.ShloMosaic.Lib.Pipeline.ValueKit

@[expose] public section

noncomputable section

namespace Cert.AdamMath

open Idealize.ShloMosaic

variable {ι : Type}

/-- The first moment after the step: 0.9 of the old one and 0.1 of the gradient. -/
def newM (g m : ι → EReal) : ι → EReal := fun i => Ideal.ofBits FTy.f32 0x3F666666#32 * m i + Ideal.ofBits FTy.f32 0x3DCCCCCD#32 * g i

/-- The second moment after the step: 0.999 of the old one and 0.001 of the gradient's square. -/
def newV (g v : ι → EReal) : ι → EReal :=
  fun i => Ideal.ofBits FTy.f32 0x3F7FBE77#32 * v i + Ideal.ofBits FTy.f32 0x3A83126F#32 * (g i * g i)

/-- What the step adds to the weight: minus the rate times the quotient of the corrected moments and the weight's decay. -/
def delta (w g m v : ι → EReal) : ι → EReal := fun i =>
  Ideal.ofBits FTy.f32 0xBA83126F#32 *
    (Ideal.div (Ideal.div (newM g m i) (Ideal.ofBits FTy.f32 0x3F26BD02#32))
        (Ideal.sqrt (Ideal.div (newV g v i) (Ideal.ofBits FTy.f32 0x3C231ACC#32)) + Ideal.ofBits FTy.f32 0x322BCC77#32)
      + Ideal.ofBits FTy.f32 0x3C23D70A#32 * w i)

end Cert.AdamMath

end
-- ==== Proof.AdchanArray.lean ====
/- What AdamW's kernel of the four gains and scales per layer and channel leaves in its arrays: the step of every element. -/
module

public import proofs.«01_k».proof.Proof.Gen.AdchanIdeal.Value
public import proofs.«01_k».proof.Proof.AdamMath
public import Idealize.ShloMosaic.Lib.Pipeline.ValueKit

@[expose] public section

set_option maxRecDepth 16384

noncomputable section

namespace Cert.AdchanIdeal.Arr

open Cert.AdchanIdeal Cert.AdchanIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 2) : Fin 2 := ⟨x.val, by have := ptLt t; omega⟩

/-- The weights, as the call takes them. -/
def W (c : Dev nD) : S2x1024.Idx → EReal := V m c main_arg0
/-- The gradients, as the call takes them. -/
def G (c : Dev nD) : S2x1024.Idx → EReal := V m c main_arg1
/-- The first moments, as the call takes them. -/
def M (c : Dev nD) : S2x1024.Idx → EReal := V m c main_arg2
/-- The second moments, as the call takes them. -/
def U (c : Dev nD) : S2x1024.Idx → EReal := V m c main_arg3

/-- The block of weights. -/
theorem blk0 (c : Dev nD) (t : Fin cfg0.N) (x : Fin 2) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 2) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 2) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 2) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 2) (y : Fin 1024) :
    k0_pay1 (F := Ideal) (iblk m c 1 t) (iblk m c 2 t) (ix2 x y) = newM (G m c) (M m c) (ix2 (line t x) y) := by
  unfold newM
  rw [← blk1, ← blk2]
  pointwise [Gen.k0_pay1]

/-- A point's second moments. -/
theorem pay_v (c : Dev nD) (t : Fin cfg0.N) (x : Fin 2) (y : Fin 1024) :
    k0_pay2 (F := Ideal) (iblk m c 1 t) (iblk m c 3 t) (ix2 x y) = newV (G m c) (U m c) (ix2 (line t x) y) := by
  unfold newV
  rw [← blk1, ← blk3]
  pointwise [Gen.k0_pay2]

/-- A point's changes of the weights. -/
theorem pay_d (c : Dev nD) (t : Fin cfg0.N) (x : Fin 2) (y : Fin 1024) :
    k0_pay3 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's. -/
theorem W_eq (c : Dev nD) : W m c = m ((c : Thread nD τ).loc main_arg0) := by
  unfold W
  exact V_main_arg0 m c

/-- The gradients the call takes are the argument's. -/
theorem G_eq (c : Dev nD) : G m c = m ((c : Thread nD τ).loc main_arg1) := by
  unfold G
  exact V_main_arg1 m c

/-- The first moments the call takes are the argument's. -/
theorem M_eq (c : Dev nD) : M m c = m ((c : Thread nD τ).loc main_arg2) := by
  unfold M
  exact V_main_arg2 m c

/-- The second moments the call takes are the argument's. -/
theorem U_eq (c : Dev nD) : U m c = m ((c : Thread nD τ).loc main_arg3) := by
  unfold U
  exact V_main_arg3 m c

end Cert.AdchanIdeal.Arr

end
-- ==== Proof.AdchanClaim.lean ====
/- The claims of AdamW's call of the four gains and scales per layer and channel: the reference's frame, and that kernel and reference leave equal results. -/
module

public import proofs.«01_k».proof.Defs
public import proofs.«01_k».proof.Proof.AdchanArray
public import proofs.«01_k».proof.Proof.Gen.AdchanRefIdeal.Read
public import Idealize.ShloMosaic.Lib.Quiescent

@[expose] public section

set_option maxRecDepth 16384

noncomputable section

namespace Cert.AdchanEq

open Idealize.ShloMosaic Idealize.ShloMosaic.TcCoe Idealize.SL.Sem Cert.AdamMath Cert.AdchanRefIdeal Cert.AdchanRefIdeal.Gen Cert.AdchanRefIdeal.Read

section Reference

variable (w g m v : S2x1024.Idx → EReal)

/-- The reference's first moments. -/
theorem ref_m : val_main_v4 (F := Ideal) g m = newM g m := by
  funext i
  rfl

/-- The reference's second moments. -/
theorem ref_v : val_main_v10 (F := Ideal) g v = newV g v := by
  funext i
  rfl

/-- The reference's changes of the weights. -/
theorem ref_d : val_main_v23 (F := Ideal) w g m v = delta w g m v := by
  funext i
  rfl

end Reference

/-- The reference's frame. -/
theorem frame_ref : Cert.quiescent_AdchanRefIdeal (hAdchanRefIdeal := Cert.AdchanRefIdeal.Gen.facts) := fun m ρ _ =>
  (θ_run AdchanRefIdeal.defs _ _).mono (fun r h => ⟨fun c => (h c).2.2.2, sem_eq_zero_of_no_sems (by decide) r.2⟩)
    (AdchanRefIdeal.Value.run (F := Ideal) m ρ)

open AdchanIdeal.Arr in
/-- Kernel and reference, from equal arguments, leave equal changes and moments. -/
theorem algebraic : Cert.algebraic_AdchanIdeal_AdchanRefIdeal (hAdchanIdeal := Cert.AdchanIdeal.Gen.facts)
    (hAdchanRefIdeal := Cert.AdchanRefIdeal.Gen.facts) := by
  intro m ρ m' ρ' hpre hagree
  refine ⟨fun c => delta (W m c) (G m c) (M m c) (U m c), fun c => newM (G m c) (M m c), fun c => newV (G m c) (U m c), ?_, ?_⟩
  · exact (θ_run AdchanIdeal.defs _ _).mono (fun r h c => ⟨(h c).1.trans (arr_d m c), (h c).2.1.trans (arr_m m c), (h c).2.2.1.trans (arr_v m c),
      (h c).2.2.2⟩) (AdchanIdeal.Value.run_blocks (F := Ideal) m ρ)
  · refine (θ_run AdchanRefIdeal.defs _ _).mono (fun r h c => ?_) (AdchanRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v23_eq, e0, e1, e2, e3, W_eq, G_eq, M_eq, U_eq]
      exact ref_d _ _ _ _
    · beta_reduce
      rw [val_main_v4_eq, e1, e2, G_eq, M_eq]
      exact ref_m _ _
    · beta_reduce
      rw [val_main_v10_eq, e1, e3, G_eq, U_eq]
      exact ref_v _ _

end Cert.AdchanEq

end
-- ==== Proof.AdconvArray.lean ====
/- What AdamW's kernel of the three vectors per layer and convolution channel leaves in its arrays: the step of every element. -/
module

public import proofs.«01_k».proof.Proof.Gen.AdconvIdeal.Value
public import proofs.«01_k».proof.Proof.AdamMath
public import Idealize.ShloMosaic.Lib.Pipeline.ValueKit

@[expose] public section

set_option maxRecDepth 16384

noncomputable section

namespace Cert.AdconvIdeal.Arr

open Cert.AdconvIdeal Cert.AdconvIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 2) : Fin 2 := ⟨x.val, by have := ptLt t; omega⟩

/-- The weights, as the call takes them. -/
def W (c : Dev nD) : S2x512.Idx → EReal := V m c main_arg0
/-- The gradients, as the call takes them. -/
def G (c : Dev nD) : S2x512.Idx → EReal := V m c main_arg1
/-- The first moments, as the call takes them. -/
def M (c : Dev nD) : S2x512.Idx → EReal := V m c main_arg2
/-- The second moments, as the call takes them. -/
def U (c : Dev nD) : S2x512.Idx → EReal := V m c main_arg3

/-- The block of weights. -/
theorem blk0 (c : Dev nD) (t : Fin cfg0.N) (x : Fin 2) (y : Fin 512) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 2) (y : Fin 512) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 2) (y : Fin 512) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 2) (y : Fin 512) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 2) (y : Fin 512) :
    k0_pay1 (F := Ideal) (iblk m c 1 t) (iblk m c 2 t) (ix2 x y) = newM (G m c) (M m c) (ix2 (line t x) y) := by
  unfold newM
  rw [← blk1, ← blk2]
  pointwise [Gen.k0_pay1]

/-- A point's second moments. -/
theorem pay_v (c : Dev nD) (t : Fin cfg0.N) (x : Fin 2) (y : Fin 512) :
    k0_pay2 (F := Ideal) (iblk m c 1 t) (iblk m c 3 t) (ix2 x y) = newV (G m c) (U m c) (ix2 (line t x) y) := by
  unfold newV
  rw [← blk1, ← blk3]
  pointwise [Gen.k0_pay2]

/-- A point's changes of the weights. -/
theorem pay_d (c : Dev nD) (t : Fin cfg0.N) (x : Fin 2) (y : Fin 512) :
    k0_pay3 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's. -/
theorem W_eq (c : Dev nD) : W m c = m ((c : Thread nD τ).loc main_arg0) := by
  unfold W
  exact V_main_arg0 m c

/-- The gradients the call takes are the argument's. -/
theorem G_eq (c : Dev nD) : G m c = m ((c : Thread nD τ).loc main_arg1) := by
  unfold G
  exact V_main_arg1 m c

/-- The first moments the call takes are the argument's. -/
theorem M_eq (c : Dev nD) : M m c = m ((c : Thread nD τ).loc main_arg2) := by
  unfold M
  exact V_main_arg2 m c

/-- The second moments the call takes are the argument's. -/
theorem U_eq (c : Dev nD) : U m c = m ((c : Thread nD τ).loc main_arg3) := by
  unfold U
  exact V_main_arg3 m c

end Cert.AdconvIdeal.Arr

end
-- ==== Proof.AdconvClaim.lean ====
/- The claims of AdamW's call of the three vectors per layer and convolution channel: the reference's frame, and that kernel and reference leave equal results. -/
module

public import proofs.«01_k».proof.Defs
public import proofs.«01_k».proof.Proof.AdconvArray
public import proofs.«01_k».proof.Proof.Gen.AdconvRefIdeal.Read
public import Idealize.ShloMosaic.Lib.Quiescent

@[expose] public section

set_option maxRecDepth 16384

noncomputable section

namespace Cert.AdconvEq

open Idealize.ShloMosaic Idealize.ShloMosaic.TcCoe Idealize.SL.Sem Cert.AdamMath Cert.AdconvRefIdeal Cert.AdconvRefIdeal.Gen Cert.AdconvRefIdeal.Read

section Reference

variable (w g m v : S2x512.Idx → EReal)

/-- The reference's first moments. -/
theorem ref_m : val_main_v4 (F := Ideal) g m = newM g m := by
  funext i
  rfl

/-- The reference's second moments. -/
theorem ref_v : val_main_v10 (F := Ideal) g v = newV g v := by
  funext i
  rfl

/-- The reference's changes of the weights. -/
theorem ref_d : val_main_v23 (F := Ideal) w g m v = delta w g m v := by
  funext i
  rfl

end Reference

/-- The reference's frame. -/
theorem frame_ref : Cert.quiescent_AdconvRefIdeal (hAdconvRefIdeal := Cert.AdconvRefIdeal.Gen.facts) := fun m ρ _ =>
  (θ_run AdconvRefIdeal.defs _ _).mono (fun r h => ⟨fun c => (h c).2.2.2, sem_eq_zero_of_no_sems (by decide) r.2⟩)
    (AdconvRefIdeal.Value.run (F := Ideal) m ρ)

open AdconvIdeal.Arr in
/-- Kernel and reference, from equal arguments, leave equal changes and moments. -/
theorem algebraic : Cert.algebraic_AdconvIdeal_AdconvRefIdeal (hAdconvIdeal := Cert.AdconvIdeal.Gen.facts)
    (hAdconvRefIdeal := Cert.AdconvRefIdeal.Gen.facts) := by
  intro m ρ m' ρ' hpre hagree
  refine ⟨fun c => delta (W m c) (G m c) (M m c) (U m c), fun c => newM (G m c) (M m c), fun c => newV (G m c) (U m c), ?_, ?_⟩
  · exact (θ_run AdconvIdeal.defs _ _).mono (fun r h c => ⟨(h c).1.trans (arr_d m c), (h c).2.1.trans (arr_m m c), (h c).2.2.1.trans (arr_v m c),
      (h c).2.2.2⟩) (AdconvIdeal.Value.run_blocks (F := Ideal) m ρ)
  · refine (θ_run AdconvRefIdeal.defs _ _).mono (fun r h c => ?_) (AdconvRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v23_eq, e0, e1, e2, e3, W_eq, G_eq, M_eq, U_eq]
      exact ref_d _ _ _ _
    · beta_reduce
      rw [val_main_v4_eq, e1, e2, G_eq, M_eq]
      exact ref_m _ _
    · beta_reduce
      rw [val_main_v10_eq, e1, e3, G_eq, U_eq]
      exact ref_v _ _

end Cert.AdconvEq

end
-- ==== Proof.AdgainArray.lean ====
/- What AdamW's kernel of the two norms outside the layers leaves in its arrays: the step of every element. -/
module

public import proofs.«01_k».proof.Proof.Gen.AdgainIdeal.Value
public import proofs.«01_k».proof.Proof.AdamMath
public import Idealize.ShloMosaic.Lib.Pipeline.ValueKit

@[expose] public section

set_option maxRecDepth 16384

noncomputable section

namespace Cert.AdgainIdeal.Arr

open Cert.AdgainIdeal Cert.AdgainIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 1) : Fin 1 := ⟨x.val, by have := ptLt t; omega⟩

/-- The weights, as the call takes them. -/
def W (c : Dev nD) : S1x1024.Idx → EReal := V m c main_v0
/-- The gradients, as the call takes them. -/
def G (c : Dev nD) : S1x1024.Idx → EReal := V m c main_v1
/-- The first moments, as the call takes them. -/
def M (c : Dev nD) : S1x1024.Idx → EReal := V m c main_v2
/-- The second moments, as the call takes them. -/
def U (c : Dev nD) : S1x1024.Idx → EReal := V m c main_v3

/-- The block of weights. -/
theorem blk0 (c : Dev nD) (t : Fin cfg0.N) (x : Fin 1) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 1) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 1) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 1) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 1) (y : Fin 1024) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 1) (y : Fin 1024) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 1) (y : Fin 1024) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, as rows. -/
theorem W_eq (c : Dev nD) : W m c = shapeCast S1x1024 (m ((c : Thread nD τ).loc main_arg0) : S1024.Idx → EReal) shapeCasts_S1024_S1x1024 := by
  unfold W
  entry_read
  rfl

/-- The gradients the call takes are the argument's, as rows. -/
theorem G_eq (c : Dev nD) : G m c = shapeCast S1x1024 (m ((c : Thread nD τ).loc main_arg1) : S1024.Idx → EReal) shapeCasts_S1024_S1x1024 := by
  unfold G
  entry_read
  rfl

/-- The first moments the call takes are the argument's, as rows. -/
theorem M_eq (c : Dev nD) : M m c = shapeCast S1x1024 (m ((c : Thread nD τ).loc main_arg2) : S1024.Idx → EReal) shapeCasts_S1024_S1x1024 := by
  unfold M
  entry_read
  rfl

/-- The second moments the call takes are the argument's, as rows. -/
theorem U_eq (c : Dev nD) : U m c = shapeCast S1x1024 (m ((c : Thread nD τ).loc main_arg3) : S1024.Idx → EReal) shapeCasts_S1024_S1x1024 := by
  unfold U
  entry_read
  rfl

end Cert.AdgainIdeal.Arr

end
-- ==== Proof.AdgainClaim.lean ====
/- The claims of AdamW's call of the two norms outside the layers: the reference's frame, and that kernel and reference leave equal results. -/
module

public import proofs.«01_k».proof.Defs
public import proofs.«01_k».proof.Proof.AdgainArray
public import proofs.«01_k».proof.Proof.Gen.AdgainRefIdeal.Read
public import Idealize.ShloMosaic.Lib.Quiescent

@[expose] public section

set_option maxRecDepth 16384

noncomputable section

namespace Cert.AdgainEq

open Idealize.ShloMosaic Idealize.ShloMosaic.TcCoe Idealize.SL.Sem Cert.AdamMath Cert.AdgainRefIdeal Cert.AdgainRefIdeal.Gen Cert.AdgainRefIdeal.Read

section Reference

variable (w g m v : S1024.Idx → EReal)

/-- How the call lays out its arrays: as rows. -/
abbrev lay (x : S1024.Idx → EReal) : S1x1024.Idx → EReal := shapeCast S1x1024 x shapeCasts_S1024_S1x1024

/-- The reference's first moments. -/
theorem ref_m : val_main_v25 (F := Ideal) g m = newM (lay g) (lay m) := by
  funext i
  rfl

/-- The reference's second moments. -/
theorem ref_v : val_main_v26 (F := Ideal) g v = newV (lay g) (lay v) := by
  funext i
  rfl

/-- The reference's changes of the weights. -/
theorem ref_d : val_main_v24 (F := Ideal) w g m v = delta (lay w) (lay g) (lay m) (lay v) := by
  funext i
  rfl

end Reference

/-- The reference's frame. -/
theorem frame_ref : Cert.quiescent_AdgainRefIdeal (hAdgainRefIdeal := Cert.AdgainRefIdeal.Gen.facts) := fun m ρ _ =>
  (θ_run AdgainRefIdeal.defs _ _).mono (fun r h => ⟨fun c => (h c).2.2.2, sem_eq_zero_of_no_sems (by decide) r.2⟩)
    (AdgainRefIdeal.Value.run (F := Ideal) m ρ)

open AdgainIdeal.Arr in
/-- Kernel and reference, from equal arguments, leave equal changes and moments. -/
theorem algebraic : Cert.algebraic_AdgainIdeal_AdgainRefIdeal (hAdgainIdeal := Cert.AdgainIdeal.Gen.facts)
    (hAdgainRefIdeal := Cert.AdgainRefIdeal.Gen.facts) := by
  intro m ρ m' ρ' hpre hagree
  refine ⟨fun c => delta (W m c) (G m c) (M m c) (U m c), fun c => newM (G m c) (M m c), fun c => newV (G m c) (U m c), ?_, ?_⟩
  · exact (θ_run AdgainIdeal.defs _ _).mono (fun r h c => ⟨(h c).1.trans (arr_d m c), (h c).2.1.trans (arr_m m c), (h c).2.2.1.trans (arr_v m c),
      (h c).2.2.2⟩) (AdgainIdeal.Value.run_blocks (F := Ideal) m ρ)
  · refine (θ_run AdgainRefIdeal.defs _ _).mono (fun r h c => ?_) (AdgainRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v24_eq, e0, e1, e2, e3, W_eq, G_eq, M_eq, U_eq]
      exact ref_d _ _ _ _
    · beta_reduce
      rw [val_main_v25_eq, e1, e2, G_eq, M_eq]
      exact ref_m _ _
    · beta_reduce
      rw [val_main_v26_eq, e1, e3, G_eq, U_eq]
      exact ref_v _ _

end Cert.AdgainEq

end
-- ==== Proof.AdfiltArray.lean ====
/- What AdamW's kernel of conv_dw_w leaves in its arrays: the step of every element. -/
module

public import proofs.«01_k».proof.Proof.Gen.AdfiltIdeal.Value
public import proofs.«01_k».proof.Proof.AdamMath
public import Idealize.ShloMosaic.Lib.Pipeline.ValueKit

@[expose] public section

set_option maxRecDepth 16384

noncomputable section

namespace Cert.AdfiltIdeal.Arr

open Cert.AdfiltIdeal Cert.AdfiltIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 62) : Fin 62 := ⟨x.val, by have := ptLt t; omega⟩

/-- The weights, as the call takes them. -/
def W (c : Dev nD) : S62x64.Idx → EReal := V m c main_v0
/-- The gradients, as the call takes them. -/
def G (c : Dev nD) : S62x64.Idx → EReal := V m c main_v1
/-- The first moments, as the call takes them. -/
def M (c : Dev nD) : S62x64.Idx → EReal := V m c main_v2
/-- The second moments, as the call takes them. -/
def U (c : Dev nD) : S62x64.Idx → EReal := V m c main_v3

/-- The block of weights. -/
theorem blk0 (c : Dev nD) (t : Fin cfg0.N) (x : Fin 62) (y : Fin 64) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 62) (y : Fin 64) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 62) (y : Fin 64) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 62) (y : Fin 64) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 62) (y : Fin 64) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 62) (y : Fin 64) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 62) (y : Fin 64) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, as rows. -/
theorem W_eq (c : Dev nD) : W m c = shapeCast S62x64 (m ((c : Thread nD τ).loc main_arg0) : S2x31x64.Idx → EReal) shapeCasts_S2x31x64_S62x64 := by
  unfold W
  entry_read
  rfl

/-- The gradients the call takes are the argument's, as rows. -/
theorem G_eq (c : Dev nD) : G m c = shapeCast S62x64 (m ((c : Thread nD τ).loc main_arg1) : S2x31x64.Idx → EReal) shapeCasts_S2x31x64_S62x64 := by
  unfold G
  entry_read
  rfl

/-- The first moments the call takes are the argument's, as rows. -/
theorem M_eq (c : Dev nD) : M m c = shapeCast S62x64 (m ((c : Thread nD τ).loc main_arg2) : S2x31x64.Idx → EReal) shapeCasts_S2x31x64_S62x64 := by
  unfold M
  entry_read
  rfl

/-- The second moments the call takes are the argument's, as rows. -/
theorem U_eq (c : Dev nD) : U m c = shapeCast S62x64 (m ((c : Thread nD τ).loc main_arg3) : S2x31x64.Idx → EReal) shapeCasts_S2x31x64_S62x64 := by
  unfold U
  entry_read
  rfl

end Cert.AdfiltIdeal.Arr

end
-- ==== Proof.AdfiltClaim.lean ====
/- The claims of AdamW's call of conv_dw_w: the reference's frame, and that kernel and reference leave equal results. -/
module

public import proofs.«01_k».proof.Defs
public import proofs.«01_k».proof.Proof.AdfiltArray
public import proofs.«01_k».proof.Proof.Gen.AdfiltRefIdeal.Read
public import Idealize.ShloMosaic.Lib.Quiescent

@[expose] public section

set_option maxRecDepth 16384

noncomputable section

namespace Cert.AdfiltEq

open Idealize.ShloMosaic Idealize.ShloMosaic.TcCoe Idealize.SL.Sem Cert.AdamMath Cert.AdfiltRefIdeal Cert.AdfiltRefIdeal.Gen Cert.AdfiltRefIdeal.Read

section Reference

variable (w g m v : S2x31x64.Idx → EReal)

/-- How the call lays out its arrays: as rows. -/
abbrev lay (x : S2x31x64.Idx → EReal) : S62x64.Idx → EReal := shapeCast S62x64 x shapeCasts_S2x31x64_S62x64

/-- The reference's first moments. -/
theorem ref_m : val_main_v25 (F := Ideal) g m = newM (lay g) (lay m) := by
  funext i
  rfl

/-- The reference's second moments. -/
theorem ref_v : val_main_v26 (F := Ideal) g v = newV (lay g) (lay v) := by
  funext i
  rfl

/-- The reference's changes of the weights. -/
theorem ref_d : val_main_v24 (F := Ideal) w g m v = delta (lay w) (lay g) (lay m) (lay v) := by
  funext i
  rfl

end Reference

/-- The reference's frame. -/
theorem frame_ref : Cert.quiescent_AdfiltRefIdeal (hAdfiltRefIdeal := Cert.AdfiltRefIdeal.Gen.facts) := fun m ρ _ =>
  (θ_run AdfiltRefIdeal.defs _ _).mono (fun r h => ⟨fun c => (h c).2.2.2, sem_eq_zero_of_no_sems (by decide) r.2⟩)
    (AdfiltRefIdeal.Value.run (F := Ideal) m ρ)

open AdfiltIdeal.Arr in
/-- Kernel and reference, from equal arguments, leave equal changes and moments. -/
theorem algebraic : Cert.algebraic_AdfiltIdeal_AdfiltRefIdeal (hAdfiltIdeal := Cert.AdfiltIdeal.Gen.facts)
    (hAdfiltRefIdeal := Cert.AdfiltRefIdeal.Gen.facts) := by
  intro m ρ m' ρ' hpre hagree
  refine ⟨fun c => delta (W m c) (G m c) (M m c) (U m c), fun c => newM (G m c) (M m c), fun c => newV (G m c) (U m c), ?_, ?_⟩
  · exact (θ_run AdfiltIdeal.defs _ _).mono (fun r h c => ⟨(h c).1.trans (arr_d m c), (h c).2.1.trans (arr_m m c), (h c).2.2.1.trans (arr_v m c),
      (h c).2.2.2⟩) (AdfiltIdeal.Value.run_blocks (F := Ideal) m ρ)
  · refine (θ_run AdfiltRefIdeal.defs _ _).mono (fun r h c => ?_) (AdfiltRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v24_eq, e0, e1, e2, e3, W_eq, G_eq, M_eq, U_eq]
      exact ref_d _ _ _ _
    · beta_reduce
      rw [val_main_v25_eq, e1, e2, G_eq, M_eq]
      exact ref_m _ _
    · beta_reduce
      rw [val_main_v26_eq, e1, e3, G_eq, U_eq]
      exact ref_v _ _

end Cert.AdfiltEq

end
-- ==== Proof.AdffiltArray.lean ====
/- What AdamW's kernel of ffn_dw_w leaves in its arrays: the step of every element. -/
module

public import proofs.«01_k».proof.Proof.Gen.AdffiltIdeal.Value
public import proofs.«01_k».proof.Proof.AdamMath
public import Idealize.ShloMosaic.Lib.Pipeline.ValueKit

@[expose] public section

set_option maxRecDepth 16384

noncomputable section

namespace Cert.AdffiltIdeal.Arr

open Cert.AdffiltIdeal Cert.AdffiltIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 6) : Fin 6 := ⟨x.val, by have := ptLt t; omega⟩

/-- The weights, as the call takes them. -/
def W (c : Dev nD) : S6x704.Idx → EReal := V m c main_v0
/-- The gradients, as the call takes them. -/
def G (c : Dev nD) : S6x704.Idx → EReal := V m c main_v1
/-- The first moments, as the call takes them. -/
def M (c : Dev nD) : S6x704.Idx → EReal := V m c main_v2
/-- The second moments, as the call takes them. -/
def U (c : Dev nD) : S6x704.Idx → EReal := V m c main_v3

/-- The block of weights. -/
theorem blk0 (c : Dev nD) (t : Fin cfg0.N) (x : Fin 6) (y : Fin 704) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 6) (y : Fin 704) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 6) (y : Fin 704) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 6) (y : Fin 704) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 6) (y : Fin 704) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 6) (y : Fin 704) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 6) (y : Fin 704) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, as rows. -/
theorem W_eq (c : Dev nD) : W m c = shapeCast S6x704 (m ((c : Thread nD τ).loc main_arg0) : S2x3x704.Idx → EReal) shapeCasts_S2x3x704_S6x704 := by
  unfold W
  entry_read
  rfl

/-- The gradients the call takes are the argument's, as rows. -/
theorem G_eq (c : Dev nD) : G m c = shapeCast S6x704 (m ((c : Thread nD τ).loc main_arg1) : S2x3x704.Idx → EReal) shapeCasts_S2x3x704_S6x704 := by
  unfold G
  entry_read
  rfl

/-- The first moments the call takes are the argument's, as rows. -/
theorem M_eq (c : Dev nD) : M m c = shapeCast S6x704 (m ((c : Thread nD τ).loc main_arg2) : S2x3x704.Idx → EReal) shapeCasts_S2x3x704_S6x704 := by
  unfold M
  entry_read
  rfl

/-- The second moments the call takes are the argument's, as rows. -/
theorem U_eq (c : Dev nD) : U m c = shapeCast S6x704 (m ((c : Thread nD τ).loc main_arg3) : S2x3x704.Idx → EReal) shapeCasts_S2x3x704_S6x704 := by
  unfold U
  entry_read
  rfl

end Cert.AdffiltIdeal.Arr

end
-- ==== Proof.AdffiltClaim.lean ====
/- The claims of AdamW's call of ffn_dw_w: the reference's frame, and that kernel and reference leave equal results. -/
module

public import proofs.«01_k».proof.Defs
public import proofs.«01_k».proof.Proof.AdffiltArray
public import proofs.«01_k».proof.Proof.Gen.AdffiltRefIdeal.Read
public import Idealize.ShloMosaic.Lib.Quiescent

@[expose] public section

set_option maxRecDepth 16384

noncomputable section

namespace Cert.AdffiltEq

open Idealize.ShloMosaic Idealize.ShloMosaic.TcCoe Idealize.SL.Sem Cert.AdamMath Cert.AdffiltRefIdeal Cert.AdffiltRefIdeal.Gen Cert.AdffiltRefIdeal.Read

section Reference

variable (w g m v : S2x3x704.Idx → EReal)

/-- How the call lays out its arrays: as rows. -/
abbrev lay (x : S2x3x704.Idx → EReal) : S6x704.Idx → EReal := shapeCast S6x704 x shapeCasts_S2x3x704_S6x704

/-- The reference's first moments. -/
theorem ref_m : val_main_v25 (F := Ideal) g m = newM (lay g) (lay m) := by
  funext i
  rfl

/-- The reference's second moments. -/
theorem ref_v : val_main_v26 (F := Ideal) g v = newV (lay g) (lay v) := by
  funext i
  rfl

/-- The reference's changes of the weights. -/
theorem ref_d : val_main_v24 (F := Ideal) w g m v = delta (lay w) (lay g) (lay m) (lay v) := by
  funext i
  rfl

end Reference

/-- The reference's frame. -/
theorem frame_ref : Cert.quiescent_AdffiltRefIdeal (hAdffiltRefIdeal := Cert.AdffiltRefIdeal.Gen.facts) := fun m ρ _ =>
  (θ_run AdffiltRefIdeal.defs _ _).mono (fun r h => ⟨fun c => (h c).2.2.2, sem_eq_zero_of_no_sems (by decide) r.2⟩)
    (AdffiltRefIdeal.Value.run (F := Ideal) m ρ)

open AdffiltIdeal.Arr in
/-- Kernel and reference, from equal arguments, leave equal changes and moments. -/
theorem algebraic : Cert.algebraic_AdffiltIdeal_AdffiltRefIdeal (hAdffiltIdeal := Cert.AdffiltIdeal.Gen.facts)
    (hAdffiltRefIdeal := Cert.AdffiltRefIdeal.Gen.facts) := by
  intro m ρ m' ρ' hpre hagree
  refine ⟨fun c => delta (W m c) (G m c) (M m c) (U m c), fun c => newM (G m c) (M m c), fun c => newV (G m c) (U m c), ?_, ?_⟩
  · exact (θ_run AdffiltIdeal.defs _ _).mono (fun r h c => ⟨(h c).1.trans (arr_d m c), (h c).2.1.trans (arr_m m c), (h c).2.2.1.trans (arr_v m c),
      (h c).2.2.2⟩) (AdffiltIdeal.Value.run_blocks (F := Ideal) m ρ)
  · refine (θ_run AdffiltRefIdeal.defs _ _).mono (fun r h c => ?_) (AdffiltRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v24_eq, e0, e1, e2, e3, W_eq, G_eq, M_eq, U_eq]
      exact ref_d _ _ _ _
    · beta_reduce
      rw [val_main_v25_eq, e1, e2, G_eq, M_eq]
      exact ref_m _ _
    · beta_reduce
      rw [val_main_v26_eq, e1, e3, G_eq, U_eq]
      exact ref_v _ _

end Cert.AdffiltEq

end
-- ==== Proof.AdsqArray.lean ====
/- What AdamW's kernel of w_out, w_q and w_o leaves in its arrays: the step of every element. -/
module

public import proofs.«01_k».proof.Proof.Gen.AdsqIdeal.Value
public import proofs.«01_k».proof.Proof.AdamMath
public import Idealize.ShloMosaic.Lib.Pipeline.ValueKit

@[expose] public section

set_option maxRecDepth 16384

noncomputable section

namespace Cert.AdsqIdeal.Arr

open Cert.AdsqIdeal Cert.AdsqIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 256) : Fin 256 := ⟨x.val, by have := ptLt t; omega⟩

/-- The weights, as the call takes them. -/
def W (c : Dev nD) : S256x1024.Idx → EReal := V m c main_v0
/-- The gradients, as the call takes them. -/
def G (c : Dev nD) : S256x1024.Idx → EReal := V m c main_v1
/-- The first moments, as the call takes them. -/
def M (c : Dev nD) : S256x1024.Idx → EReal := V m c main_v2
/-- The second moments, as the call takes them. -/
def U (c : Dev nD) : S256x1024.Idx → EReal := V m c main_v3

/-- The block of weights. -/
theorem blk0 (c : Dev nD) (t : Fin cfg0.N) (x : Fin 256) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 256) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 256) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 256) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 256) (y : Fin 1024) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 256) (y : Fin 1024) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 256) (y : Fin 1024) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, as rows. -/
theorem W_eq (c : Dev nD) : W m c = shapeCast S256x1024 (m ((c : Thread nD τ).loc main_arg0) : S2x128x1024.Idx → EReal) shapeCasts_S2x128x1024_S256x1024 := by
  unfold W
  entry_read
  rfl

/-- The gradients the call takes are the argument's, as rows. -/
theorem G_eq (c : Dev nD) : G m c = shapeCast S256x1024 (m ((c : Thread nD τ).loc main_arg1) : S2x128x1024.Idx → EReal) shapeCasts_S2x128x1024_S256x1024 := by
  unfold G
  entry_read
  rfl

/-- The first moments the call takes are the argument's, as rows. -/
theorem M_eq (c : Dev nD) : M m c = shapeCast S256x1024 (m ((c : Thread nD τ).loc main_arg2) : S2x128x1024.Idx → EReal) shapeCasts_S2x128x1024_S256x1024 := by
  unfold M
  entry_read
  rfl

/-- The second moments the call takes are the argument's, as rows. -/
theorem U_eq (c : Dev nD) : U m c = shapeCast S256x1024 (m ((c : Thread nD τ).loc main_arg3) : S2x128x1024.Idx → EReal) shapeCasts_S2x128x1024_S256x1024 := by
  unfold U
  entry_read
  rfl

end Cert.AdsqIdeal.Arr

end
-- ==== Proof.AdsqClaim.lean ====
/- The claims of AdamW's call of w_out, w_q and w_o: the reference's frame, and that kernel and reference leave equal results. -/
module

public import proofs.«01_k».proof.Defs
public import proofs.«01_k».proof.Proof.AdsqArray
public import proofs.«01_k».proof.Proof.Gen.AdsqRefIdeal.Read
public import Idealize.ShloMosaic.Lib.Quiescent

@[expose] public section

set_option maxRecDepth 16384

noncomputable section

namespace Cert.AdsqEq

open Idealize.ShloMosaic Idealize.ShloMosaic.TcCoe Idealize.SL.Sem Cert.AdamMath Cert.AdsqRefIdeal Cert.AdsqRefIdeal.Gen Cert.AdsqRefIdeal.Read

section Reference

variable (w g m v : S2x128x1024.Idx → EReal)

/-- How the call lays out its arrays: as rows. -/
abbrev lay (x : S2x128x1024.Idx → EReal) : S256x1024.Idx → EReal := shapeCast S256x1024 x shapeCasts_S2x128x1024_S256x1024

/-- The reference's first moments. -/
theorem ref_m : val_main_v25 (F := Ideal) g m = newM (lay g) (lay m) := by
  funext i
  rfl

/-- The reference's second moments. -/
theorem ref_v : val_main_v26 (F := Ideal) g v = newV (lay g) (lay v) := by
  funext i
  rfl

/-- The reference's changes of the weights. -/
theorem ref_d : val_main_v24 (F := Ideal) w g m v = delta (lay w) (lay g) (lay m) (lay v) := by
  funext i
  rfl

end Reference

/-- The reference's frame. -/
theorem frame_ref : Cert.quiescent_AdsqRefIdeal (hAdsqRefIdeal := Cert.AdsqRefIdeal.Gen.facts) := fun m ρ _ =>
  (θ_run AdsqRefIdeal.defs _ _).mono (fun r h => ⟨fun c => (h c).2.2.2, sem_eq_zero_of_no_sems (by decide) r.2⟩)
    (AdsqRefIdeal.Value.run (F := Ideal) m ρ)

open AdsqIdeal.Arr in
/-- Kernel and reference, from equal arguments, leave equal changes and moments. -/
theorem algebraic : Cert.algebraic_AdsqIdeal_AdsqRefIdeal (hAdsqIdeal := Cert.AdsqIdeal.Gen.facts)
    (hAdsqRefIdeal := Cert.AdsqRefIdeal.Gen.facts) := by
  intro m ρ m' ρ' hpre hagree
  refine ⟨fun c => delta (W m c) (G m c) (M m c) (U m c), fun c => newM (G m c) (M m c), fun c => newV (G m c) (U m c), ?_, ?_⟩
  · exact (θ_run AdsqIdeal.defs _ _).mono (fun r h c => ⟨(h c).1.trans (arr_d m c), (h c).2.1.trans (arr_m m c), (h c).2.2.1.trans (arr_v m c),
      (h c).2.2.2⟩) (AdsqIdeal.Value.run_blocks (F := Ideal) m ρ)
  · refine (θ_run AdsqRefIdeal.defs _ _).mono (fun r h c => ?_) (AdsqRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v24_eq, e0, e1, e2, e3, W_eq, G_eq, M_eq, U_eq]
      exact ref_d _ _ _ _
    · beta_reduce
      rw [val_main_v25_eq, e1, e2, G_eq, M_eq]
      exact ref_m _ _
    · beta_reduce
      rw [val_main_v26_eq, e1, e3, G_eq, U_eq]
      exact ref_v _ _

end Cert.AdsqEq

end
-- ==== Proof.AddownArray.lean ====
/- What AdamW's kernel of w_down leaves in its arrays: the step of every element. -/
module

public import proofs.«01_k».proof.Proof.Gen.AddownIdeal.Value
public import proofs.«01_k».proof.Proof.AdamMath
public import Idealize.ShloMosaic.Lib.Pipeline.ValueKit

@[expose] public section

set_option maxRecDepth 16384

noncomputable section

namespace Cert.AddownIdeal.Arr

open Cert.AddownIdeal Cert.AddownIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- How many grid points there are. -/
theorem ptLt (t : Fin cfg0.N) : t.val < 2 := t.isLt

/-- Row `x` of the point's block. -/
abbrev line (t : Fin cfg0.N) (x : Fin 352) : Fin 704 := ⟨t.val * 352 + x.val, by have := ptLt t; omega⟩

/-- The weights, as the call takes them. -/
def W (c : Dev nD) : S704x1024.Idx → EReal := V m c main_v0
/-- The gradients, as the call takes them. -/
def G (c : Dev nD) : S704x1024.Idx → EReal := V m c main_v1
/-- The first moments, as the call takes them. -/
def M (c : Dev nD) : S704x1024.Idx → EReal := V m c main_v2
/-- The second moments, as the call takes them. -/
def U (c : Dev nD) : S704x1024.Idx → EReal := V m c main_v3

/-- The block of weights. -/
theorem blk0 (c : Dev nD) (t : Fin cfg0.N) (x : Fin 352) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 352) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 352) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 352) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 352) (y : Fin 1024) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 352) (y : Fin 1024) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 352) (y : Fin 1024) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, as rows. -/
theorem W_eq (c : Dev nD) : W m c = shapeCast S704x1024 (m ((c : Thread nD τ).loc main_arg0) : S2x352x1024.Idx → EReal) shapeCasts_S2x352x1024_S704x1024 := by
  unfold W
  entry_read
  rfl

/-- The gradients the call takes are the argument's, as rows. -/
theorem G_eq (c : Dev nD) : G m c = shapeCast S704x1024 (m ((c : Thread nD τ).loc main_arg1) : S2x352x1024.Idx → EReal) shapeCasts_S2x352x1024_S704x1024 := by
  unfold G
  entry_read
  rfl

/-- The first moments the call takes are the argument's, as rows. -/
theorem M_eq (c : Dev nD) : M m c = shapeCast S704x1024 (m ((c : Thread nD τ).loc main_arg2) : S2x352x1024.Idx → EReal) shapeCasts_S2x352x1024_S704x1024 := by
  unfold M
  entry_read
  rfl

/-- The second moments the call takes are the argument's, as rows. -/
theorem U_eq (c : Dev nD) : U m c = shapeCast S704x1024 (m ((c : Thread nD τ).loc main_arg3) : S2x352x1024.Idx → EReal) shapeCasts_S2x352x1024_S704x1024 := by
  unfold U
  entry_read
  rfl

end Cert.AddownIdeal.Arr

end
-- ==== Proof.AddownClaim.lean ====
/- The claims of AdamW's call of w_down: the reference's frame, and that kernel and reference leave equal results. -/
module

public import proofs.«01_k».proof.Defs
public import proofs.«01_k».proof.Proof.AddownArray
public import proofs.«01_k».proof.Proof.Gen.AddownRefIdeal.Read
public import Idealize.ShloMosaic.Lib.Quiescent

@[expose] public section

set_option maxRecDepth 16384

noncomputable section

namespace Cert.AddownEq

open Idealize.ShloMosaic Idealize.ShloMosaic.TcCoe Idealize.SL.Sem Cert.AdamMath Cert.AddownRefIdeal Cert.AddownRefIdeal.Gen Cert.AddownRefIdeal.Read

section Reference

variable (w g m v : S2x352x1024.Idx → EReal)

/-- How the call lays out its arrays: as rows. -/
abbrev lay (x : S2x352x1024.Idx → EReal) : S704x1024.Idx → EReal := shapeCast S704x1024 x shapeCasts_S2x352x1024_S704x1024

/-- The reference's first moments. -/
theorem ref_m : val_main_v25 (F := Ideal) g m = newM (lay g) (lay m) := by
  funext i
  rfl

/-- The reference's second moments. -/
theorem ref_v : val_main_v26 (F := Ideal) g v = newV (lay g) (lay v) := by
  funext i
  rfl

/-- The reference's changes of the weights. -/
theorem ref_d : val_main_v24 (F := Ideal) w g m v = delta (lay w) (lay g) (lay m) (lay v) := by
  funext i
  rfl

end Reference

/-- The reference's frame. -/
theorem frame_ref : Cert.quiescent_AddownRefIdeal (hAddownRefIdeal := Cert.AddownRefIdeal.Gen.facts) := fun m ρ _ =>
  (θ_run AddownRefIdeal.defs _ _).mono (fun r h => ⟨fun c => (h c).2.2.2, sem_eq_zero_of_no_sems (by decide) r.2⟩)
    (AddownRefIdeal.Value.run (F := Ideal) m ρ)

open AddownIdeal.Arr in
/-- Kernel and reference, from equal arguments, leave equal changes and moments. -/
theorem algebraic : Cert.algebraic_AddownIdeal_AddownRefIdeal (hAddownIdeal := Cert.AddownIdeal.Gen.facts)
    (hAddownRefIdeal := Cert.AddownRefIdeal.Gen.facts) := by
  intro m ρ m' ρ' hpre hagree
  refine ⟨fun c => delta (W m c) (G m c) (M m c) (U m c), fun c => newM (G m c) (M m c), fun c => newV (G m c) (U m c), ?_, ?_⟩
  · exact (θ_run AddownIdeal.defs _ _).mono (fun r h c => ⟨(h c).1.trans (arr_d m c), (h c).2.1.trans (arr_m m c), (h c).2.2.1.trans (arr_v m c),
      (h c).2.2.2⟩) (AddownIdeal.Value.run_blocks (F := Ideal) m ρ)
  · refine (θ_run AddownRefIdeal.defs _ _).mono (fun r h c => ?_) (AddownRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v24_eq, e0, e1, e2, e3, W_eq, G_eq, M_eq, U_eq]
      exact ref_d _ _ _ _
    · beta_reduce
      rw [val_main_v25_eq, e1, e2, G_eq, M_eq]
      exact ref_m _ _
    · beta_reduce
      rw [val_main_v26_eq, e1, e3, G_eq, U_eq]
      exact ref_v _ _

end Cert.AddownEq

end
-- ==== Proof.AdinArray.lean ====
/- What AdamW's kernel of w_in leaves in its arrays: the step of every element. -/
module

public import proofs.«01_k».proof.Proof.Gen.AdinIdeal.Value
public import proofs.«01_k».proof.Proof.AdamMath
public import Idealize.ShloMosaic.Lib.Pipeline.ValueKit

@[expose] public section

set_option maxRecDepth 16384

noncomputable section

namespace Cert.AdinIdeal.Arr

open Cert.AdinIdeal Cert.AdinIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- How many grid points there are. -/
theorem ptLt (t : Fin cfg0.N) : t.val < 2 := t.isLt

/-- Row `x` of the point's block. -/
abbrev line (t : Fin cfg0.N) (x : Fin 448) : Fin 896 := ⟨t.val * 448 + x.val, by have := ptLt t; omega⟩

/-- The weights, as the call takes them. -/
def W (c : Dev nD) : S896x1024.Idx → EReal := V m c main_v3
/-- The gradients, as the call takes them. -/
def G (c : Dev nD) : S896x1024.Idx → EReal := V m c main_v4
/-- The first moments, as the call takes them. -/
def M (c : Dev nD) : S896x1024.Idx → EReal := V m c main_v5
/-- The second moments, as the call takes them. -/
def U (c : Dev nD) : S896x1024.Idx → EReal := V m c main_v6

/-- The block of weights. -/
theorem blk0 (c : Dev nD) (t : Fin cfg0.N) (x : Fin 448) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 448) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 448) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 448) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 448) (y : Fin 1024) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 448) (y : Fin 1024) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 448) (y : Fin 1024) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, transposed, as rows. -/
theorem W_eq (c : Dev nD) : W m c = shapeCast S896x1024 (transpose S2x448x1024 [0, 2, 1] (m ((c : Thread nD τ).loc main_arg0) : S2x1024x448.Idx → EReal)
    transposes_S2x1024x448_S2x448x1024_0_2_1) shapeCasts_S2x448x1024_S896x1024 := by
  unfold W
  entry_read
  rfl

/-- The gradients the call takes are the argument's, as rows. -/
theorem G_eq (c : Dev nD) : G m c = shapeCast S896x1024 (m ((c : Thread nD τ).loc main_arg1) : S2x448x1024.Idx → EReal) shapeCasts_S2x448x1024_S896x1024 := by
  unfold G
  entry_read
  rfl

/-- The first moments the call takes are the argument's, transposed, as rows. -/
theorem M_eq (c : Dev nD) : M m c = shapeCast S896x1024 (transpose S2x448x1024 [0, 2, 1] (m ((c : Thread nD τ).loc main_arg2) : S2x1024x448.Idx → EReal)
    transposes_S2x1024x448_S2x448x1024_0_2_1) shapeCasts_S2x448x1024_S896x1024 := by
  unfold M
  entry_read
  rfl

/-- The second moments the call takes are the argument's, transposed, as rows. -/
theorem U_eq (c : Dev nD) : U m c = shapeCast S896x1024 (transpose S2x448x1024 [0, 2, 1] (m ((c : Thread nD τ).loc main_arg3) : S2x1024x448.Idx → EReal)
    transposes_S2x1024x448_S2x448x1024_0_2_1) shapeCasts_S2x448x1024_S896x1024 := by
  unfold U
  entry_read
  rfl

end Cert.AdinIdeal.Arr

end
-- ==== Proof.AdinClaim.lean ====
/- The claims of AdamW's call of w_in: the reference's frame, and that kernel and reference leave equal results. -/
module

public import proofs.«01_k».proof.Defs
public import proofs.«01_k».proof.Proof.AdinArray
public import proofs.«01_k».proof.Proof.Gen.AdinRefIdeal.Read
public import Idealize.ShloMosaic.Lib.Quiescent

@[expose] public section

set_option maxRecDepth 16384

noncomputable section

namespace Cert.AdinEq

open Idealize.ShloMosaic Idealize.ShloMosaic.TcCoe Idealize.SL.Sem Cert.AdamMath Cert.AdinRefIdeal Cert.AdinRefIdeal.Gen Cert.AdinRefIdeal.Read

section Reference

variable (w m v : S2x1024x448.Idx → EReal) (g : S2x448x1024.Idx → EReal)

/-- How the call lays out the weights and moments: transposed, as rows. -/
abbrev lay (x : S2x1024x448.Idx → EReal) : S896x1024.Idx → EReal :=
  shapeCast S896x1024 (transpose S2x448x1024 [0, 2, 1] x transposes_S2x1024x448_S2x448x1024_0_2_1) shapeCasts_S2x448x1024_S896x1024

/-- How the call lays out the gradients, which come transposed: as rows. -/
abbrev layG : S896x1024.Idx → EReal := shapeCast S896x1024 g shapeCasts_S2x448x1024_S896x1024

/-- Transposing the gradient there and back leaves it. -/
theorem lay_back : lay (transpose S2x1024x448 [0, 2, 1] g transposes_S2x448x1024_S2x1024x448_0_2_1) = layG g := by
  refine congrArg (fun x => shapeCast S896x1024 x shapeCasts_S2x448x1024_S896x1024) (funext fun k => ?_)
  refine (transpose_apply [0, 2, 1] _ transposes_S2x1024x448_S2x448x1024_0_2_1 k
    (fun a => match a with | ⟨0, _⟩ => ⟨(k 0).val, (k 0).isLt⟩ | ⟨1, _⟩ => ⟨(k 2).val, (k 2).isLt⟩ | ⟨2, _⟩ => ⟨(k 1).val, (k 1).isLt⟩)
    (fun b => match b with | ⟨0, _⟩ => rfl | ⟨1, _⟩ => rfl | ⟨2, _⟩ => rfl)).trans ?_
  exact transpose_apply [0, 2, 1] g transposes_S2x448x1024_S2x1024x448_0_2_1 _ k (fun b => match b with | ⟨0, _⟩ => rfl | ⟨1, _⟩ => rfl | ⟨2, _⟩ => rfl)

/-- The reference's first moments. -/
theorem ref_m : val_main_v28 (F := Ideal) g m = newM (layG g) (lay m) := by
  rw [← lay_back g]
  funext i
  rfl

/-- The reference's second moments. -/
theorem ref_v : val_main_v30 (F := Ideal) g v = newV (layG g) (lay v) := by
  rw [← lay_back g]
  funext i
  rfl

/-- The reference's changes of the weights. -/
theorem ref_d : val_main_v26 (F := Ideal) w g m v = delta (lay w) (layG g) (lay m) (lay v) := by
  rw [← lay_back g]
  funext i
  rfl

end Reference

/-- The reference's frame. -/
theorem frame_ref : Cert.quiescent_AdinRefIdeal (hAdinRefIdeal := Cert.AdinRefIdeal.Gen.facts) := fun m ρ _ =>
  (θ_run AdinRefIdeal.defs _ _).mono (fun r h => ⟨fun c => (h c).2.2.2, sem_eq_zero_of_no_sems (by decide) r.2⟩)
    (AdinRefIdeal.Value.run (F := Ideal) m ρ)

open AdinIdeal.Arr in
/-- Kernel and reference, from equal arguments, leave equal changes and moments. -/
theorem algebraic : Cert.algebraic_AdinIdeal_AdinRefIdeal (hAdinIdeal := Cert.AdinIdeal.Gen.facts)
    (hAdinRefIdeal := Cert.AdinRefIdeal.Gen.facts) := by
  intro m ρ m' ρ' hpre hagree
  refine ⟨fun c => delta (W m c) (G m c) (M m c) (U m c), fun c => newM (G m c) (M m c), fun c => newV (G m c) (U m c), ?_, ?_⟩
  · exact (θ_run AdinIdeal.defs _ _).mono (fun r h c => ⟨(h c).1.trans (arr_d m c), (h c).2.1.trans (arr_m m c), (h c).2.2.1.trans (arr_v m c),
      (h c).2.2.2⟩) (AdinIdeal.Value.run_blocks (F := Ideal) m ρ)
  · refine (θ_run AdinRefIdeal.defs _ _).mono (fun r h c => ?_) (AdinRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v26_eq, e0, e1, e2, e3, W_eq, G_eq, M_eq, U_eq]
      exact ref_d _ _ _ _
    · beta_reduce
      rw [val_main_v28_eq, e1, e2, G_eq, M_eq]
      exact ref_m _ _
    · beta_reduce
      rw [val_main_v30_eq, e1, e3, G_eq, U_eq]
      exact ref_v _ _

end Cert.AdinEq

end
-- ==== Proof.AdkvArray.lean ====
/- What AdamW's kernel of w_kv leaves in its arrays: the step of every element. -/
module

public import proofs.«01_k».proof.Proof.Gen.AdkvIdeal.Value
public import proofs.«01_k».proof.Proof.AdamMath
public import Idealize.ShloMosaic.Lib.Pipeline.ValueKit

@[expose] public section

set_option maxRecDepth 16384

noncomputable section

namespace Cert.AdkvIdeal.Arr

open Cert.AdkvIdeal Cert.AdkvIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 512) : Fin 512 := ⟨x.val, by have := ptLt t; omega⟩

/-- The weights, as the call takes them. -/
def W (c : Dev nD) : S512x1024.Idx → EReal := V m c main_v3
/-- The gradients, as the call takes them. -/
def G (c : Dev nD) : S512x1024.Idx → EReal := V m c main_v4
/-- The first moments, as the call takes them. -/
def M (c : Dev nD) : S512x1024.Idx → EReal := V m c main_v5
/-- The second moments, as the call takes them. -/
def U (c : Dev nD) : S512x1024.Idx → EReal := V m c main_v6

/-- The block of weights. -/
theorem blk0 (c : Dev nD) (t : Fin cfg0.N) (x : Fin 512) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 512) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 512) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 512) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 512) (y : Fin 1024) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 512) (y : Fin 1024) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 512) (y : Fin 1024) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, transposed, as rows. -/
theorem W_eq (c : Dev nD) : W m c = shapeCast S512x1024 (transpose S2x256x1024 [0, 2, 1] (m ((c : Thread nD τ).loc main_arg0) : S2x1024x256.Idx → EReal)
    transposes_S2x1024x256_S2x256x1024_0_2_1) shapeCasts_S2x256x1024_S512x1024 := by
  unfold W
  entry_read
  rfl

/-- The gradients the call takes are the argument's, as rows. -/
theorem G_eq (c : Dev nD) : G m c = shapeCast S512x1024 (m ((c : Thread nD τ).loc main_arg1) : S2x256x1024.Idx → EReal) shapeCasts_S2x256x1024_S512x1024 := by
  unfold G
  entry_read
  rfl

/-- The first moments the call takes are the argument's, transposed, as rows. -/
theorem M_eq (c : Dev nD) : M m c = shapeCast S512x1024 (transpose S2x256x1024 [0, 2, 1] (m ((c : Thread nD τ).loc main_arg2) : S2x1024x256.Idx → EReal)
    transposes_S2x1024x256_S2x256x1024_0_2_1) shapeCasts_S2x256x1024_S512x1024 := by
  unfold M
  entry_read
  rfl

/-- The second moments the call takes are the argument's, transposed, as rows. -/
theorem U_eq (c : Dev nD) : U m c = shapeCast S512x1024 (transpose S2x256x1024 [0, 2, 1] (m ((c : Thread nD τ).loc main_arg3) : S2x1024x256.Idx → EReal)
    transposes_S2x1024x256_S2x256x1024_0_2_1) shapeCasts_S2x256x1024_S512x1024 := by
  unfold U
  entry_read
  rfl

end Cert.AdkvIdeal.Arr

end
-- ==== Proof.AdkvClaim.lean ====
/- The claims of AdamW's call of w_kv: the reference's frame, and that kernel and reference leave equal results. -/
module

public import proofs.«01_k».proof.Defs
public import proofs.«01_k».proof.Proof.AdkvArray
public import proofs.«01_k».proof.Proof.Gen.AdkvRefIdeal.Read
public import Idealize.ShloMosaic.Lib.Quiescent

@[expose] public section

set_option maxRecDepth 16384

noncomputable section

namespace Cert.AdkvEq

open Idealize.ShloMosaic Idealize.ShloMosaic.TcCoe Idealize.SL.Sem Cert.AdamMath Cert.AdkvRefIdeal Cert.AdkvRefIdeal.Gen Cert.AdkvRefIdeal.Read

section Reference

variable (w m v : S2x1024x256.Idx → EReal) (g : S2x256x1024.Idx → EReal)

/-- How the call lays out the weights and moments: transposed, as rows. -/
abbrev lay (x : S2x1024x256.Idx → EReal) : S512x1024.Idx → EReal :=
  shapeCast S512x1024 (transpose S2x256x1024 [0, 2, 1] x transposes_S2x1024x256_S2x256x1024_0_2_1) shapeCasts_S2x256x1024_S512x1024

/-- How the call lays out the gradients, which come transposed: as rows. -/
abbrev layG : S512x1024.Idx → EReal := shapeCast S512x1024 g shapeCasts_S2x256x1024_S512x1024

/-- Transposing the gradient there and back leaves it. -/
theorem lay_back : lay (transpose S2x1024x256 [0, 2, 1] g transposes_S2x256x1024_S2x1024x256_0_2_1) = layG g := by
  refine congrArg (fun x => shapeCast S512x1024 x shapeCasts_S2x256x1024_S512x1024) (funext fun k => ?_)
  refine (transpose_apply [0, 2, 1] _ transposes_S2x1024x256_S2x256x1024_0_2_1 k
    (fun a => match a with | ⟨0, _⟩ => ⟨(k 0).val, (k 0).isLt⟩ | ⟨1, _⟩ => ⟨(k 2).val, (k 2).isLt⟩ | ⟨2, _⟩ => ⟨(k 1).val, (k 1).isLt⟩)
    (fun b => match b with | ⟨0, _⟩ => rfl | ⟨1, _⟩ => rfl | ⟨2, _⟩ => rfl)).trans ?_
  exact transpose_apply [0, 2, 1] g transposes_S2x256x1024_S2x1024x256_0_2_1 _ k (fun b => match b with | ⟨0, _⟩ => rfl | ⟨1, _⟩ => rfl | ⟨2, _⟩ => rfl)

/-- The reference's first moments. -/
theorem ref_m : val_main_v28 (F := Ideal) g m = newM (layG g) (lay m) := by
  rw [← lay_back g]
  funext i
  rfl

/-- The reference's second moments. -/
theorem ref_v : val_main_v30 (F := Ideal) g v = newV (layG g) (lay v) := by
  rw [← lay_back g]
  funext i
  rfl

/-- The reference's changes of the weights. -/
theorem ref_d : val_main_v26 (F := Ideal) w g m v = delta (lay w) (layG g) (lay m) (lay v) := by
  rw [← lay_back g]
  funext i
  rfl

end Reference

/-- The reference's frame. -/
theorem frame_ref : Cert.quiescent_AdkvRefIdeal (hAdkvRefIdeal := Cert.AdkvRefIdeal.Gen.facts) := fun m ρ _ =>
  (θ_run AdkvRefIdeal.defs _ _).mono (fun r h => ⟨fun c => (h c).2.2.2, sem_eq_zero_of_no_sems (by decide) r.2⟩)
    (AdkvRefIdeal.Value.run (F := Ideal) m ρ)

open AdkvIdeal.Arr in
/-- Kernel and reference, from equal arguments, leave equal changes and moments. -/
theorem algebraic : Cert.algebraic_AdkvIdeal_AdkvRefIdeal (hAdkvIdeal := Cert.AdkvIdeal.Gen.facts)
    (hAdkvRefIdeal := Cert.AdkvRefIdeal.Gen.facts) := by
  intro m ρ m' ρ' hpre hagree
  refine ⟨fun c => delta (W m c) (G m c) (M m c) (U m c), fun c => newM (G m c) (M m c), fun c => newV (G m c) (U m c), ?_, ?_⟩
  · exact (θ_run AdkvIdeal.defs _ _).mono (fun r h c => ⟨(h c).1.trans (arr_d m c), (h c).2.1.trans (arr_m m c), (h c).2.2.1.trans (arr_v m c),
      (h c).2.2.2⟩) (AdkvIdeal.Value.run_blocks (F := Ideal) m ρ)
  · refine (θ_run AdkvRefIdeal.defs _ _).mono (fun r h c => ?_) (AdkvRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v26_eq, e0, e1, e2, e3, W_eq, G_eq, M_eq, U_eq]
      exact ref_d _ _ _ _
    · beta_reduce
      rw [val_main_v28_eq, e1, e2, G_eq, M_eq]
      exact ref_m _ _
    · beta_reduce
      rw [val_main_v30_eq, e1, e3, G_eq, U_eq]
      exact ref_v _ _

end Cert.AdkvEq

end
-- ==== Proof.AdupArray.lean ====
/- What AdamW's kernel of w_up leaves in its arrays: the step of every element. -/
module

public import proofs.«01_k».proof.Proof.Gen.AdupIdeal.Value
public import proofs.«01_k».proof.Proof.AdamMath
public import Idealize.ShloMosaic.Lib.Pipeline.ValueKit

@[expose] public section

set_option maxRecDepth 16384

noncomputable section

namespace Cert.AdupIdeal.Arr

open Cert.AdupIdeal Cert.AdupIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- How many grid points there are. -/
theorem ptLt (t : Fin cfg0.N) : t.val < 4 := t.isLt

/-- Row `x` of the point's block. -/
abbrev line (t : Fin cfg0.N) (x : Fin 352) : Fin 1408 := ⟨t.val * 352 + x.val, by have := ptLt t; omega⟩

/-- The weights, as the call takes them. -/
def W (c : Dev nD) : S1408x1024.Idx → EReal := V m c main_v3
/-- The gradients, as the call takes them. -/
def G (c : Dev nD) : S1408x1024.Idx → EReal := V m c main_v4
/-- The first moments, as the call takes them. -/
def M (c : Dev nD) : S1408x1024.Idx → EReal := V m c main_v5
/-- The second moments, as the call takes them. -/
def U (c : Dev nD) : S1408x1024.Idx → EReal := V m c main_v6

/-- The block of weights. -/
theorem blk0 (c : Dev nD) (t : Fin cfg0.N) (x : Fin 352) (y : Fin 1024) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 352) (y : Fin 1024) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 352) (y : Fin 1024) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 352) (y : Fin 1024) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 352) (y : Fin 1024) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 352) (y : Fin 1024) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 352) (y : Fin 1024) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, transposed, as rows. -/
theorem W_eq (c : Dev nD) : W m c = shapeCast S1408x1024 (transpose S2x704x1024 [0, 2, 1] (m ((c : Thread nD τ).loc main_arg0) : S2x1024x704.Idx → EReal)
    transposes_S2x1024x704_S2x704x1024_0_2_1) shapeCasts_S2x704x1024_S1408x1024 := by
  unfold W
  entry_read
  rfl

/-- The gradients the call takes are the argument's, as rows. -/
theorem G_eq (c : Dev nD) : G m c = shapeCast S1408x1024 (m ((c : Thread nD τ).loc main_arg1) : S2x704x1024.Idx → EReal) shapeCasts_S2x704x1024_S1408x1024 := by
  unfold G
  entry_read
  rfl

/-- The first moments the call takes are the argument's, transposed, as rows. -/
theorem M_eq (c : Dev nD) : M m c = shapeCast S1408x1024 (transpose S2x704x1024 [0, 2, 1] (m ((c : Thread nD τ).loc main_arg2) : S2x1024x704.Idx → EReal)
    transposes_S2x1024x704_S2x704x1024_0_2_1) shapeCasts_S2x704x1024_S1408x1024 := by
  unfold M
  entry_read
  rfl

/-- The second moments the call takes are the argument's, transposed, as rows. -/
theorem U_eq (c : Dev nD) : U m c = shapeCast S1408x1024 (transpose S2x704x1024 [0, 2, 1] (m ((c : Thread nD τ).loc main_arg3) : S2x1024x704.Idx → EReal)
    transposes_S2x1024x704_S2x704x1024_0_2_1) shapeCasts_S2x704x1024_S1408x1024 := by
  unfold U
  entry_read
  rfl

end Cert.AdupIdeal.Arr

end
-- ==== Proof.AdupClaim.lean ====
/- The claims of AdamW's call of w_up: the reference's frame, and that kernel and reference leave equal results. -/
module

public import proofs.«01_k».proof.Defs
public import proofs.«01_k».proof.Proof.AdupArray
public import proofs.«01_k».proof.Proof.Gen.AdupRefIdeal.Read
public import Idealize.ShloMosaic.Lib.Quiescent

@[expose] public section

set_option maxRecDepth 16384

noncomputable section

namespace Cert.AdupEq

open Idealize.ShloMosaic Idealize.ShloMosaic.TcCoe Idealize.SL.Sem Cert.AdamMath Cert.AdupRefIdeal Cert.AdupRefIdeal.Gen Cert.AdupRefIdeal.Read

section Reference

variable (w m v : S2x1024x704.Idx → EReal) (g : S2x704x1024.Idx → EReal)

/-- How the call lays out the weights and moments: transposed, as rows. -/
abbrev lay (x : S2x1024x704.Idx → EReal) : S1408x1024.Idx → EReal :=
  shapeCast S1408x1024 (transpose S2x704x1024 [0, 2, 1] x transposes_S2x1024x704_S2x704x1024_0_2_1) shapeCasts_S2x704x1024_S1408x1024

/-- How the call lays out the gradients, which come transposed: as rows. -/
abbrev layG : S1408x1024.Idx → EReal := shapeCast S1408x1024 g shapeCasts_S2x704x1024_S1408x1024

/-- Transposing the gradient there and back leaves it. -/
theorem lay_back : lay (transpose S2x1024x704 [0, 2, 1] g transposes_S2x704x1024_S2x1024x704_0_2_1) = layG g := by
  refine congrArg (fun x => shapeCast S1408x1024 x shapeCasts_S2x704x1024_S1408x1024) (funext fun k => ?_)
  refine (transpose_apply [0, 2, 1] _ transposes_S2x1024x704_S2x704x1024_0_2_1 k
    (fun a => match a with | ⟨0, _⟩ => ⟨(k 0).val, (k 0).isLt⟩ | ⟨1, _⟩ => ⟨(k 2).val, (k 2).isLt⟩ | ⟨2, _⟩ => ⟨(k 1).val, (k 1).isLt⟩)
    (fun b => match b with | ⟨0, _⟩ => rfl | ⟨1, _⟩ => rfl | ⟨2, _⟩ => rfl)).trans ?_
  exact transpose_apply [0, 2, 1] g transposes_S2x704x1024_S2x1024x704_0_2_1 _ k (fun b => match b with | ⟨0, _⟩ => rfl | ⟨1, _⟩ => rfl | ⟨2, _⟩ => rfl)

/-- The reference's first moments. -/
theorem ref_m : val_main_v28 (F := Ideal) g m = newM (layG g) (lay m) := by
  rw [← lay_back g]
  funext i
  rfl

/-- The reference's second moments. -/
theorem ref_v : val_main_v30 (F := Ideal) g v = newV (layG g) (lay v) := by
  rw [← lay_back g]
  funext i
  rfl

/-- The reference's changes of the weights. -/
theorem ref_d : val_main_v26 (F := Ideal) w g m v = delta (lay w) (layG g) (lay m) (lay v) := by
  rw [← lay_back g]
  funext i
  rfl

end Reference

/-- The reference's frame. -/
theorem frame_ref : Cert.quiescent_AdupRefIdeal (hAdupRefIdeal := Cert.AdupRefIdeal.Gen.facts) := fun m ρ _ =>
  (θ_run AdupRefIdeal.defs _ _).mono (fun r h => ⟨fun c => (h c).2.2.2, sem_eq_zero_of_no_sems (by decide) r.2⟩)
    (AdupRefIdeal.Value.run (F := Ideal) m ρ)

open AdupIdeal.Arr in
/-- Kernel and reference, from equal arguments, leave equal changes and moments. -/
theorem algebraic : Cert.algebraic_AdupIdeal_AdupRefIdeal (hAdupIdeal := Cert.AdupIdeal.Gen.facts)
    (hAdupRefIdeal := Cert.AdupRefIdeal.Gen.facts) := by
  intro m ρ m' ρ' hpre hagree
  refine ⟨fun c => delta (W m c) (G m c) (M m c) (U m c), fun c => newM (G m c) (M m c), fun c => newV (G m c) (U m c), ?_, ?_⟩
  · exact (θ_run AdupIdeal.defs _ _).mono (fun r h c => ⟨(h c).1.trans (arr_d m c), (h c).2.1.trans (arr_m m c), (h c).2.2.1.trans (arr_v m c),
      (h c).2.2.2⟩) (AdupIdeal.Value.run_blocks (F := Ideal) m ρ)
  · refine (θ_run AdupRefIdeal.defs _ _).mono (fun r h c => ?_) (AdupRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v26_eq, e0, e1, e2, e3, W_eq, G_eq, M_eq, U_eq]
      exact ref_d _ _ _ _
    · beta_reduce
      rw [val_main_v28_eq, e1, e2, G_eq, M_eq]
      exact ref_m _ _
    · beta_reduce
      rw [val_main_v30_eq, e1, e3, G_eq, U_eq]
      exact ref_v _ _

end Cert.AdupEq

end
-- ==== Proof.AdcoutArray.lean ====
/- What AdamW's kernel of w_conv_out leaves in its arrays: the step of every element. -/
module

public import proofs.«01_k».proof.Proof.Gen.AdcoutIdeal.Value
public import proofs.«01_k».proof.Proof.AdamMath
public import Idealize.ShloMosaic.Lib.Pipeline.ValueKit

@[expose] public section

set_option maxRecDepth 16384

noncomputable section

namespace Cert.AdcoutIdeal.Arr

open Cert.AdcoutIdeal Cert.AdcoutIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 256) : Fin 256 := ⟨x.val, by have := ptLt t; omega⟩

/-- The weights, as the call takes them. -/
def W (c : Dev nD) : S256x512.Idx → EReal := V m c main_v3
/-- The gradients, as the call takes them. -/
def G (c : Dev nD) : S256x512.Idx → EReal := V m c main_v4
/-- The first moments, as the call takes them. -/
def M (c : Dev nD) : S256x512.Idx → EReal := V m c main_v5
/-- The second moments, as the call takes them. -/
def U (c : Dev nD) : S256x512.Idx → EReal := V m c main_v6

/-- The block of weights. -/
theorem blk0 (c : Dev nD) (t : Fin cfg0.N) (x : Fin 256) (y : Fin 512) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 256) (y : Fin 512) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 256) (y : Fin 512) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 256) (y : Fin 512) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 256) (y : Fin 512) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 256) (y : Fin 512) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 256) (y : Fin 512) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, transposed, as rows. -/
theorem W_eq (c : Dev nD) : W m c = shapeCast S256x512 (transpose S2x128x512 [0, 2, 1] (m ((c : Thread nD τ).loc main_arg0) : S2x512x128.Idx → EReal)
    transposes_S2x512x128_S2x128x512_0_2_1) shapeCasts_S2x128x512_S256x512 := by
  unfold W
  entry_read
  rfl

/-- The gradients the call takes are the argument's, as rows. -/
theorem G_eq (c : Dev nD) : G m c = shapeCast S256x512 (m ((c : Thread nD τ).loc main_arg1) : S2x128x512.Idx → EReal) shapeCasts_S2x128x512_S256x512 := by
  unfold G
  entry_read
  rfl

/-- The first moments the call takes are the argument's, transposed, as rows. -/
theorem M_eq (c : Dev nD) : M m c = shapeCast S256x512 (transpose S2x128x512 [0, 2, 1] (m ((c : Thread nD τ).loc main_arg2) : S2x512x128.Idx → EReal)
    transposes_S2x512x128_S2x128x512_0_2_1) shapeCasts_S2x128x512_S256x512 := by
  unfold M
  entry_read
  rfl

/-- The second moments the call takes are the argument's, transposed, as rows. -/
theorem U_eq (c : Dev nD) : U m c = shapeCast S256x512 (transpose S2x128x512 [0, 2, 1] (m ((c : Thread nD τ).loc main_arg3) : S2x512x128.Idx → EReal)
    transposes_S2x512x128_S2x128x512_0_2_1) shapeCasts_S2x128x512_S256x512 := by
  unfold U
  entry_read
  rfl

end Cert.AdcoutIdeal.Arr

end
-- ==== Proof.AdcoutClaim.lean ====
/- The claims of AdamW's call of w_conv_out: the reference's frame, and that kernel and reference leave equal results. -/
module

public import proofs.«01_k».proof.Defs
public import proofs.«01_k».proof.Proof.AdcoutArray
public import proofs.«01_k».proof.Proof.Gen.AdcoutRefIdeal.Read
public import Idealize.ShloMosaic.Lib.Quiescent

@[expose] public section

set_option maxRecDepth 16384

noncomputable section

namespace Cert.AdcoutEq

open Idealize.ShloMosaic Idealize.ShloMosaic.TcCoe Idealize.SL.Sem Cert.AdamMath Cert.AdcoutRefIdeal Cert.AdcoutRefIdeal.Gen Cert.AdcoutRefIdeal.Read

section Reference

variable (w m v : S2x512x128.Idx → EReal) (g : S2x128x512.Idx → EReal)

/-- How the call lays out the weights and moments: transposed, as rows. -/
abbrev lay (x : S2x512x128.Idx → EReal) : S256x512.Idx → EReal :=
  shapeCast S256x512 (transpose S2x128x512 [0, 2, 1] x transposes_S2x512x128_S2x128x512_0_2_1) shapeCasts_S2x128x512_S256x512

/-- How the call lays out the gradients, which come transposed: as rows. -/
abbrev layG : S256x512.Idx → EReal := shapeCast S256x512 g shapeCasts_S2x128x512_S256x512

/-- Transposing the gradient there and back leaves it. -/
theorem lay_back : lay (transpose S2x512x128 [0, 2, 1] g transposes_S2x128x512_S2x512x128_0_2_1) = layG g := by
  refine congrArg (fun x => shapeCast S256x512 x shapeCasts_S2x128x512_S256x512) (funext fun k => ?_)
  refine (transpose_apply [0, 2, 1] _ transposes_S2x512x128_S2x128x512_0_2_1 k
    (fun a => match a with | ⟨0, _⟩ => ⟨(k 0).val, (k 0).isLt⟩ | ⟨1, _⟩ => ⟨(k 2).val, (k 2).isLt⟩ | ⟨2, _⟩ => ⟨(k 1).val, (k 1).isLt⟩)
    (fun b => match b with | ⟨0, _⟩ => rfl | ⟨1, _⟩ => rfl | ⟨2, _⟩ => rfl)).trans ?_
  exact transpose_apply [0, 2, 1] g transposes_S2x128x512_S2x512x128_0_2_1 _ k (fun b => match b with | ⟨0, _⟩ => rfl | ⟨1, _⟩ => rfl | ⟨2, _⟩ => rfl)

/-- The reference's first moments. -/
theorem ref_m : val_main_v28 (F := Ideal) g m = newM (layG g) (lay m) := by
  rw [← lay_back g]
  funext i
  rfl

/-- The reference's second moments. -/
theorem ref_v : val_main_v30 (F := Ideal) g v = newV (layG g) (lay v) := by
  rw [← lay_back g]
  funext i
  rfl

/-- The reference's changes of the weights. -/
theorem ref_d : val_main_v26 (F := Ideal) w g m v = delta (lay w) (layG g) (lay m) (lay v) := by
  rw [← lay_back g]
  funext i
  rfl

end Reference

/-- The reference's frame. -/
theorem frame_ref : Cert.quiescent_AdcoutRefIdeal (hAdcoutRefIdeal := Cert.AdcoutRefIdeal.Gen.facts) := fun m ρ _ =>
  (θ_run AdcoutRefIdeal.defs _ _).mono (fun r h => ⟨fun c => (h c).2.2.2, sem_eq_zero_of_no_sems (by decide) r.2⟩)
    (AdcoutRefIdeal.Value.run (F := Ideal) m ρ)

open AdcoutIdeal.Arr in
/-- Kernel and reference, from equal arguments, leave equal changes and moments. -/
theorem algebraic : Cert.algebraic_AdcoutIdeal_AdcoutRefIdeal (hAdcoutIdeal := Cert.AdcoutIdeal.Gen.facts)
    (hAdcoutRefIdeal := Cert.AdcoutRefIdeal.Gen.facts) := by
  intro m ρ m' ρ' hpre hagree
  refine ⟨fun c => delta (W m c) (G m c) (M m c) (U m c), fun c => newM (G m c) (M m c), fun c => newV (G m c) (U m c), ?_, ?_⟩
  · exact (θ_run AdcoutIdeal.defs _ _).mono (fun r h c => ⟨(h c).1.trans (arr_d m c), (h c).2.1.trans (arr_m m c), (h c).2.2.1.trans (arr_v m c),
      (h c).2.2.2⟩) (AdcoutIdeal.Value.run_blocks (F := Ideal) m ρ)
  · refine (θ_run AdcoutRefIdeal.defs _ _).mono (fun r h c => ?_) (AdcoutRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v26_eq, e0, e1, e2, e3, W_eq, G_eq, M_eq, U_eq]
      exact ref_d _ _ _ _
    · beta_reduce
      rw [val_main_v28_eq, e1, e2, G_eq, M_eq]
      exact ref_m _ _
    · beta_reduce
      rw [val_main_v30_eq, e1, e3, G_eq, U_eq]
      exact ref_v _ _

end Cert.AdcoutEq

end
-- ==== Proof.AdpoolArray.lean ====
/- What AdamW's kernel of w_pool_grp leaves in its arrays: the step of every element. -/
module

public import proofs.«01_k».proof.Proof.Gen.AdpoolIdeal.Value
public import proofs.«01_k».proof.Proof.AdamMath
public import Idealize.ShloMosaic.Lib.Pipeline.ValueKit

@[expose] public section

set_option maxRecDepth 16384

noncomputable section

namespace Cert.AdpoolIdeal.Arr

open Cert.AdpoolIdeal Cert.AdpoolIdeal.Gen Cert.AdamMath Idealize.ShloMosaic Idealize.ShloMosaic.TcCoe Idealize.SL.Sem

variable (m : (ℓ : Loc nD τ sig) → Buf (Elt Ideal) ℓ)

/-- Which block each window takes at a grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- How many grid points there are. -/
theorem ptLt (t : Fin cfg0.N) : t.val < 1 := t.isLt

/-- Row `x` of the point's block. -/
abbrev line (t : Fin cfg0.N) (x : Fin 256) : Fin 256 := ⟨x.val, by have := ptLt t; omega⟩

/-- The weights, as the call takes them. -/
def W (c : Dev nD) : S256x128.Idx → EReal := V m c main_v3
/-- The gradients, as the call takes them. -/
def G (c : Dev nD) : S256x128.Idx → EReal := V m c main_v4
/-- The first moments, as the call takes them. -/
def M (c : Dev nD) : S256x128.Idx → EReal := V m c main_v5
/-- The second moments, as the call takes them. -/
def U (c : Dev nD) : S256x128.Idx → EReal := V m c main_v6

/-- The block of weights. -/
theorem blk0 (c : Dev nD) (t : Fin cfg0.N) (x : Fin 256) (y : Fin 128) : iblk m c 0 t (ix2 x y) = W m c (ix2 (line t x) y) := by
  blk_simp [iblk, idx t]
  refine congrArg (W m c) ?_
  blk_ext [idx t]

/-- The block of gradients. -/
theorem blk1 (c : Dev nD) (t : Fin cfg0.N) (x : Fin 256) (y : Fin 128) : iblk m c 1 t (ix2 x y) = G m c (ix2 (line t x) y) := by
  blk_simp [iblk, idx t]
  refine congrArg (G m c) ?_
  blk_ext [idx t]

/-- The block of first moments. -/
theorem blk2 (c : Dev nD) (t : Fin cfg0.N) (x : Fin 256) (y : Fin 128) : iblk m c 2 t (ix2 x y) = M m c (ix2 (line t x) y) := by
  blk_simp [iblk, idx t]
  refine congrArg (M m c) ?_
  blk_ext [idx t]

/-- The block of second moments. -/
theorem blk3 (c : Dev nD) (t : Fin cfg0.N) (x : Fin 256) (y : Fin 128) : iblk m c 3 t (ix2 x y) = U m c (ix2 (line t x) y) := by
  blk_simp [iblk, idx t]
  refine congrArg (U m c) ?_
  blk_ext [idx t]

/-- A point's first moments. -/
theorem pay_m (c : Dev nD) (t : Fin cfg0.N) (x : Fin 256) (y : Fin 128) :
    k0_pay2 (F := Ideal) (iblk m c 1 t) (iblk m c 2 t) (ix2 x y) = newM (G m c) (M m c) (ix2 (line t x) y) := by
  unfold newM
  rw [← blk1, ← blk2]
  pointwise [Gen.k0_pay2, Gen.k0_pay1]

/-- A point's second moments. -/
theorem pay_v (c : Dev nD) (t : Fin cfg0.N) (x : Fin 256) (y : Fin 128) :
    k0_pay3 (F := Ideal) (iblk m c 1 t) (iblk m c 3 t) (ix2 x y) = newV (G m c) (U m c) (ix2 (line t x) y) := by
  unfold newV
  rw [← blk1, ← blk3]
  pointwise [Gen.k0_pay3, Gen.k0_pay1]

/-- A point's changes of the weights. -/
theorem pay_d (c : Dev nD) (t : Fin cfg0.N) (x : Fin 256) (y : Fin 128) :
    k0_pay4 (F := Ideal) (iblk m c 1 t) (iblk m c 2 t) (iblk m c 3 t) (iblk m c 0 t) (ix2 x y)
      = delta (W m c) (G m c) (M m c) (U m c) (ix2 (line t x) y) := by
  unfold delta
  rw [← pay_m, ← pay_v, ← blk0]
  pointwise [Gen.k0_pay4, Gen.k0_pay3, Gen.k0_pay2, Gen.k0_pay1]

/-- After the run the first array holds the changes of the weights. -/
theorem arr_d (c : Dev nD) : (dats m 0 c).arrAt 4 cfg0.N = delta (W m c) (G m c) (M m c) (U m c) := by
  refine (dats m 0 c).arrAt_eq_of_covers 4 _ (by decide +kernel) fun t hf y => ?_
  blk_simp
  rw [after0_4]
  idx_vars y
  refine Eq.trans ?_ ((pay_d m c t y0 y1).trans (congrArg (delta (W m c) (G m c) (M m c) (U m c)) ?_))
  · frame_out
  · blk_ext [idx t]

/-- After the run the second array holds the first moments. -/
theorem arr_m (c : Dev nD) : (dats m 0 c).arrAt 5 cfg0.N = newM (G m c) (M m c) := by
  refine (dats m 0 c).arrAt_eq_of_covers 5 _ (by decide +kernel) fun t hf y => ?_
  blk_simp
  rw [after0_5]
  idx_vars y
  refine Eq.trans ?_ ((pay_m m c t y0 y1).trans (congrArg (newM (G m c) (M m c)) ?_))
  · frame_out
  · blk_ext [idx t]

/-- After the run the third array holds the second moments. -/
theorem arr_v (c : Dev nD) : (dats m 0 c).arrAt 6 cfg0.N = newV (G m c) (U m c) := by
  refine (dats m 0 c).arrAt_eq_of_covers 6 _ (by decide +kernel) fun t hf y => ?_
  blk_simp
  rw [after0_6]
  idx_vars y
  refine Eq.trans ?_ ((pay_v m c t y0 y1).trans (congrArg (newV (G m c) (U m c)) ?_))
  · frame_out
  · blk_ext [idx t]

/-- The weights the call takes are the argument's, transposed, as rows. -/
theorem W_eq (c : Dev nD) : W m c = shapeCast S256x128 (transpose S2x4x32x128 [0, 1, 3, 2] (m ((c : Thread nD τ).loc main_arg0) : S2x4x128x32.Idx → EReal)
    transposes_S2x4x128x32_S2x4x32x128_0_1_3_2) shapeCasts_S2x4x32x128_S256x128 := by
  unfold W
  entry_read
  rfl

/-- The gradients the call takes are the argument's, as rows. -/
theorem G_eq (c : Dev nD) : G m c = shapeCast S256x128 (m ((c : Thread nD τ).loc main_arg1) : S2x4x32x128.Idx → EReal) shapeCasts_S2x4x32x128_S256x128 := by
  unfold G
  entry_read
  rfl

/-- The first moments the call takes are the argument's, transposed, as rows. -/
theorem M_eq (c : Dev nD) : M m c = shapeCast S256x128 (transpose S2x4x32x128 [0, 1, 3, 2] (m ((c : Thread nD τ).loc main_arg2) : S2x4x128x32.Idx → EReal)
    transposes_S2x4x128x32_S2x4x32x128_0_1_3_2) shapeCasts_S2x4x32x128_S256x128 := by
  unfold M
  entry_read
  rfl

/-- The second moments the call takes are the argument's, transposed, as rows. -/
theorem U_eq (c : Dev nD) : U m c = shapeCast S256x128 (transpose S2x4x32x128 [0, 1, 3, 2] (m ((c : Thread nD τ).loc main_arg3) : S2x4x128x32.Idx → EReal)
    transposes_S2x4x128x32_S2x4x32x128_0_1_3_2) shapeCasts_S2x4x32x128_S256x128 := by
  unfold U
  entry_read
  rfl

end Cert.AdpoolIdeal.Arr

end
-- ==== Proof.AdpoolClaim.lean ====
/- The claims of AdamW's call of w_pool_grp: the reference's frame, and that kernel and reference leave equal results. -/
module

public import proofs.«01_k».proof.Defs
public import proofs.«01_k».proof.Proof.AdpoolArray
public import proofs.«01_k».proof.Proof.Gen.AdpoolRefIdeal.Read
public import Idealize.ShloMosaic.Lib.Quiescent

@[expose] public section

set_option maxRecDepth 16384

noncomputable section

namespace Cert.AdpoolEq

open Idealize.ShloMosaic Idealize.ShloMosaic.TcCoe Idealize.SL.Sem Cert.AdamMath Cert.AdpoolRefIdeal Cert.AdpoolRefIdeal.Gen Cert.AdpoolRefIdeal.Read

section Reference

variable (w m v : S2x4x128x32.Idx → EReal) (g : S2x4x32x128.Idx → EReal)

/-- How the call lays out the weights and moments: transposed, as rows. -/
abbrev lay (x : S2x4x128x32.Idx → EReal) : S256x128.Idx → EReal :=
  shapeCast S256x128 (transpose S2x4x32x128 [0, 1, 3, 2] x transposes_S2x4x128x32_S2x4x32x128_0_1_3_2) shapeCasts_S2x4x32x128_S256x128

/-- How the call lays out the gradients, which come transposed: as rows. -/
abbrev layG : S256x128.Idx → EReal := shapeCast S256x128 g shapeCasts_S2x4x32x128_S256x128

/-- Transposing the gradient there and back leaves it. -/
theorem lay_back : lay (transpose S2x4x128x32 [0, 1, 3, 2] g transposes_S2x4x32x128_S2x4x128x32_0_1_3_2) = layG g := by
  refine congrArg (fun x => shapeCast S256x128 x shapeCasts_S2x4x32x128_S256x128) (funext fun k => ?_)
  refine (transpose_apply [0, 1, 3, 2] _ transposes_S2x4x128x32_S2x4x32x128_0_1_3_2 k
    (fun a => match a with | ⟨0, _⟩ => ⟨(k 0).val, (k 0).isLt⟩ | ⟨1, _⟩ => ⟨(k 1).val, (k 1).isLt⟩ | ⟨2, _⟩ => ⟨(k 3).val, (k 3).isLt⟩ | ⟨3, _⟩ => ⟨(k 2).val, (k 2).isLt⟩)
    (fun b => match b with | ⟨0, _⟩ => rfl | ⟨1, _⟩ => rfl | ⟨2, _⟩ => rfl | ⟨3, _⟩ => rfl)).trans ?_
  exact transpose_apply [0, 1, 3, 2] g transposes_S2x4x32x128_S2x4x128x32_0_1_3_2 _ k (fun b => match b with | ⟨0, _⟩ => rfl | ⟨1, _⟩ => rfl | ⟨2, _⟩ => rfl | ⟨3, _⟩ => rfl)

/-- The reference's first moments. -/
theorem ref_m : val_main_v28 (F := Ideal) g m = newM (layG g) (lay m) := by
  rw [← lay_back g]
  funext i
  rfl

/-- The reference's second moments. -/
theorem ref_v : val_main_v30 (F := Ideal) g v = newV (layG g) (lay v) := by
  rw [← lay_back g]
  funext i
  rfl

/-- The reference's changes of the weights. -/
theorem ref_d : val_main_v26 (F := Ideal) w g m v = delta (lay w) (layG g) (lay m) (lay v) := by
  rw [← lay_back g]
  funext i
  rfl

end Reference

/-- The reference's frame. -/
theorem frame_ref : Cert.quiescent_AdpoolRefIdeal (hAdpoolRefIdeal := Cert.AdpoolRefIdeal.Gen.facts) := fun m ρ _ =>
  (θ_run AdpoolRefIdeal.defs _ _).mono (fun r h => ⟨fun c => (h c).2.2.2, sem_eq_zero_of_no_sems (by decide) r.2⟩)
    (AdpoolRefIdeal.Value.run (F := Ideal) m ρ)

open AdpoolIdeal.Arr in
/-- Kernel and reference, from equal arguments, leave equal changes and moments. -/
theorem algebraic : Cert.algebraic_AdpoolIdeal_AdpoolRefIdeal (hAdpoolIdeal := Cert.AdpoolIdeal.Gen.facts)
    (hAdpoolRefIdeal := Cert.AdpoolRefIdeal.Gen.facts) := by
  intro m ρ m' ρ' hpre hagree
  refine ⟨fun c => delta (W m c) (G m c) (M m c) (U m c), fun c => newM (G m c) (M m c), fun c => newV (G m c) (U m c), ?_, ?_⟩
  · exact (θ_run AdpoolIdeal.defs _ _).mono (fun r h c => ⟨(h c).1.trans (arr_d m c), (h c).2.1.trans (arr_m m c), (h c).2.2.1.trans (arr_v m c),
      (h c).2.2.2⟩) (AdpoolIdeal.Value.run_blocks (F := Ideal) m ρ)
  · refine (θ_run AdpoolRefIdeal.defs _ _).mono (fun r h c => ?_) (AdpoolRefIdeal.Value.run (F := Ideal) m' ρ')
    obtain ⟨e0, e1, e2, e3⟩ := hagree c
    refine ⟨(h c).1.trans ?_, (h c).2.1.trans ?_, (h c).2.2.1.trans ?_, (h c).2.2.2⟩
    · beta_reduce
      rw [val_main_v26_eq, e0, e1, e2, e3, W_eq, G_eq, M_eq, U_eq]
      exact ref_d _ _ _ _
    · beta_reduce
      rw [val_main_v28_eq, e1, e2, G_eq, M_eq]
      exact ref_m _ _
    · beta_reduce
      rw [val_main_v30_eq, e1, e3, G_eq, U_eq]
      exact ref_v _ _

end Cert.AdpoolEq

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.Gen.Hf
public import proofs.«01_k».proof.Proof.Gen.Hf.Skeleton
public import proofs.«01_k».proof.Proof.Gen.Hf.Launch
public import proofs.«01_k».proof.Proof.Gen.Hf.Points
public import proofs.«01_k».proof.Proof.Gen.Hf.Frame
public import proofs.«01_k».proof.Proof.Gen.HfIdeal
public import proofs.«01_k».proof.Proof.Gen.HfIdeal.Skeleton
public import proofs.«01_k».proof.Proof.Gen.HfIdeal.Launch
public import proofs.«01_k».proof.Proof.Gen.HfIdeal.Points
public import proofs.«01_k».proof.Proof.Gen.HfIdeal.Frame
public import proofs.«01_k».proof.Proof.Gen.HfIdeal.Value
public import proofs.«01_k».proof.Proof.Gen.HfRefIdeal
public import proofs.«01_k».proof.Proof.Gen.HfRefIdeal.Run
public import proofs.«01_k».proof.Proof.Gen.HfRefIdeal.Read
public import proofs.«01_k».proof.Proof.Gen.Hq
public import proofs.«01_k».proof.Proof.Gen.Hq.Skeleton
public import proofs.«01_k».proof.Proof.Gen.Hq.Launch
public import proofs.«01_k».proof.Proof.Gen.Hq.Points
public import proofs.«01_k».proof.Proof.Gen.Hq.Frame
public import proofs.«01_k».proof.Proof.Gen.HqIdeal
public import proofs.«01_k».proof.Proof.Gen.HqIdeal.Skeleton
public import proofs.«01_k».proof.Proof.Gen.HqIdeal.Launch
public import proofs.«01_k».proof.Proof.Gen.HqIdeal.Points
public import proofs.«01_k».proof.Proof.Gen.HqIdeal.Frame
public import proofs.«01_k».proof.Proof.Gen.HqIdeal.Value
public import proofs.«01_k».proof.Proof.Gen.HqRefIdeal
public import proofs.«01_k».proof.Proof.Gen.HqRefIdeal.Run
public import proofs.«01_k».proof.Proof.Gen.HqRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.Gen.Dwdown
public import proofs.«01_k».proof.Proof.Gen.Dwdown.Skeleton
public import proofs.«01_k».proof.Proof.Gen.Dwdown.Launch
public import proofs.«01_k».proof.Proof.Gen.Dwdown.Points
public import proofs.«01_k».proof.Proof.Gen.Dwdown.Frame
public import proofs.«01_k».proof.Proof.Gen.DwdownIdeal
public import proofs.«01_k».proof.Proof.Gen.DwdownIdeal.Skeleton
public import proofs.«01_k».proof.Proof.Gen.DwdownIdeal.Launch
public import proofs.«01_k».proof.Proof.Gen.DwdownIdeal.Points
public import proofs.«01_k».proof.Proof.Gen.DwdownIdeal.Frame
public import proofs.«01_k».proof.Proof.Gen.DwdownIdeal.Value
public import proofs.«01_k».proof.Proof.Gen.DwdownRefIdeal
public import proofs.«01_k».proof.Proof.Gen.DwdownRefIdeal.Run
public import proofs.«01_k».proof.Proof.Gen.DwdownRefIdeal.Read
public import proofs.«01_k».proof.Proof.Gen.Dwup
public import proofs.«01_k».proof.Proof.Gen.Dwup.Skeleton
public import proofs.«01_k».proof.Proof.Gen.Dwup.Launch
public import proofs.«01_k».proof.Proof.Gen.Dwup.Points
public import proofs.«01_k».proof.Proof.Gen.Dwup.Frame
public import proofs.«01_k».proof.Proof.Gen.DwupIdeal
public import proofs.«01_k».proof.Proof.Gen.DwupIdeal.Skeleton
public import proofs.«01_k».proof.Proof.Gen.DwupIdeal.Launch
public import proofs.«01_k».proof.Proof.Gen.DwupIdeal.Points
public import proofs.«01_k».proof.Proof.Gen.DwupIdeal.Frame
public import proofs.«01_k».proof.Proof.Gen.DwupIdeal.Value
public import proofs.«01_k».proof.Proof.Gen.DwupRefIdeal
public import proofs.«01_k».proof.Proof.Gen.DwupRefIdeal.Run
public import proofs.«01_k».proof.Proof.Gen.DwupRefIdeal.Read
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Upg
public import proofs.«01_k».proof.Proof.Gen.Upg.Skeleton
public import proofs.«01_k».proof.Proof.Gen.Upg.Launch
public import proofs.«01_k».proof.Proof.Gen.Upg.Points
public import proofs.«01_k».proof.Proof.Gen.Upg.Frame
public import proofs.«01_k».proof.Proof.Gen.UpgIdeal
public import proofs.«01_k».proof.Proof.Gen.UpgIdeal.Skeleton
public import proofs.«01_k».proof.Proof.Gen.UpgIdeal.Launch
public import proofs.«01_k».proof.Proof.Gen.UpgIdeal.Points
public import proofs.«01_k».proof.Proof.Gen.UpgIdeal.Frame
public import proofs.«01_k».proof.Proof.Gen.UpgIdeal.Value
public import proofs.«01_k».proof.Proof.Gen.UpgRefIdeal
public import proofs.«01_k».proof.Proof.Gen.UpgRefIdeal.Run
public import proofs.«01_k».proof.Proof.Gen.UpgRefIdeal.Read
public import proofs.«01_k».proof.Proof.Gen.Upv
public import proofs.«01_k».proof.Proof.Gen.Upv.Skeleton
public import proofs.«01_k».proof.Proof.Gen.Upv.Launch
public import proofs.«01_k».proof.Proof.Gen.Upv.Points
public import proofs.«01_k».proof.Proof.Gen.Upv.Frame
public import proofs.«01_k».proof.Proof.Gen.UpvIdeal
public import proofs.«01_k».proof.Proof.Gen.UpvIdeal.Skeleton
public import proofs.«01_k».proof.Proof.Gen.UpvIdeal.Launch
public import proofs.«01_k».proof.Proof.Gen.UpvIdeal.Points
public import proofs.«01_k».proof.Proof.Gen.UpvIdeal.Frame
public import proofs.«01_k».proof.Proof.Gen.UpvIdeal.Value
public import proofs.«01_k».proof.Proof.Gen.UpvRefIdeal
public import proofs.«01_k».proof.Proof.Gen.UpvRefIdeal.Run
public import proofs.«01_k».proof.Proof.Gen.UpvRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Dsq
public import proofs.«01_k».proof.Proof.Gen.Dsq.Skeleton
public import proofs.«01_k».proof.Proof.Gen.Dsq.Launch
public import proofs.«01_k».proof.Proof.Gen.Dsq.Points
public import proofs.«01_k».proof.Proof.Gen.Dsq.Frame
public import proofs.«01_k».proof.Proof.Gen.DsqIdeal
public import proofs.«01_k».proof.Proof.Gen.DsqIdeal.Skeleton
public import proofs.«01_k».proof.Proof.Gen.DsqIdeal.Launch
public import proofs.«01_k».proof.Proof.Gen.DsqIdeal.Points
public import proofs.«01_k».proof.Proof.Gen.DsqIdeal.Frame
public import proofs.«01_k».proof.Proof.Gen.DsqIdeal.Value
public import proofs.«01_k».proof.Proof.Gen.DsqRefIdeal
public import proofs.«01_k».proof.Proof.Gen.DsqRefIdeal.Run
public import proofs.«01_k».proof.Proof.Gen.DsqRefIdeal.Read
public import proofs.«01_k».proof.Proof.Gen.Dwsq
public import proofs.«01_k».proof.Proof.Gen.Dwsq.Skeleton
public import proofs.«01_k».proof.Proof.Gen.Dwsq.Launch
public import proofs.«01_k».proof.Proof.Gen.Dwsq.Points
public import proofs.«01_k».proof.Proof.Gen.Dwsq.Frame
public import proofs.«01_k».proof.Proof.Gen.DwsqIdeal
public import proofs.«01_k».proof.Proof.Gen.DwsqIdeal.Skeleton
public import proofs.«01_k».proof.Proof.Gen.DwsqIdeal.Launch
public import proofs.«01_k».proof.Proof.Gen.DwsqIdeal.Points
public import proofs.«01_k».proof.Proof.Gen.DwsqIdeal.Frame
public import proofs.«01_k».proof.Proof.Gen.DwsqIdeal.Value
public import proofs.«01_k».proof.Proof.Gen.DwsqRefIdeal
public import proofs.«01_k».proof.Proof.Gen.DwsqRefIdeal.Run
public import proofs.«01_k».proof.Proof.Gen.DwsqRefIdeal.Read
public import proofs.«01_k».proof.Proof.Gen.Dyt
public import proofs.«01_k».proof.Proof.Gen.Dyt.Skeleton
public import proofs.«01_k».proof.Proof.Gen.Dyt.Launch
public import proofs.«01_k».proof.Proof.Gen.Dyt.Points
public import proofs.«01_k».proof.Proof.Gen.Dyt.Frame
public import proofs.«01_k».proof.Proof.Gen.DytIdeal
public import proofs.«01_k».proof.Proof.Gen.DytIdeal.Skeleton
public import proofs.«01_k».proof.Proof.Gen.DytIdeal.Launch
public import proofs.«01_k».proof.Proof.Gen.DytIdeal.Points
public import proofs.«01_k».proof.Proof.Gen.DytIdeal.Frame
public import proofs.«01_k».proof.Proof.Gen.DytIdeal.Value
public import proofs.«01_k».proof.Proof.Gen.DytRefIdeal
public import proofs.«01_k».proof.Proof.Gen.DytRefIdeal.Run
public import proofs.«01_k».proof.Proof.Gen.DytRefIdeal.Read
public import proofs.«01_k».proof.Proof.Gen.Dwco
public import proofs.«01_k».proof.Proof.Gen.Dwco.Skeleton
public import proofs.«01_k».proof.Proof.Gen.Dwco.Launch
public import proofs.«01_k».proof.Proof.Gen.Dwco.Points
public import proofs.«01_k».proof.Proof.Gen.Dwco.Frame
public import proofs.«01_k».proof.Proof.Gen.DwcoIdeal
public import proofs.«01_k».proof.Proof.Gen.DwcoIdeal.Skeleton
public import proofs.«01_k».proof.Proof.Gen.DwcoIdeal.Launch
public import proofs.«01_k».proof.Proof.Gen.DwcoIdeal.Points
public import proofs.«01_k».proof.Proof.Gen.DwcoIdeal.Frame
public import proofs.«01_k».proof.Proof.Gen.DwcoIdeal.Value
public import proofs.«01_k».proof.Proof.Gen.DwcoRefIdeal
public import proofs.«01_k».proof.Proof.Gen.DwcoRefIdeal.Run
public import proofs.«01_k».proof.Proof.Gen.DwcoRefIdeal.Read
public import proofs.«01_k».proof.Proof.Gen.Qproj
public import proofs.«01_k».proof.Proof.Gen.Qproj.Skeleton
public import proofs.«01_k».proof.Proof.Gen.Qproj.Launch
public import proofs.«01_k».proof.Proof.Gen.Qproj.Points
public import proofs.«01_k».proof.Proof.Gen.Qproj.Frame
public import proofs.«01_k».proof.Proof.Gen.QprojIdeal
public import proofs.«01_k».proof.Proof.Gen.QprojIdeal.Skeleton
public import proofs.«01_k».proof.Proof.Gen.QprojIdeal.Launch
public import proofs.«01_k».proof.Proof.Gen.QprojIdeal.Points
public import proofs.«01_k».proof.Proof.Gen.QprojIdeal.Frame
public import proofs.«01_k».proof.Proof.Gen.QprojIdeal.Value
public import proofs.«01_k».proof.Proof.Gen.QprojRefIdeal
public import proofs.«01_k».proof.Proof.Gen.QprojRefIdeal.Run
public import proofs.«01_k».proof.Proof.Gen.QprojRefIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.Convout
public import proofs.«01_k».proof.Proof.Gen.Convout.Skeleton
public import proofs.«01_k».proof.Proof.Gen.Convout.Launch
public import proofs.«01_k».proof.Proof.Gen.Convout.Points
public import proofs.«01_k».proof.Proof.Gen.Convout.Frame
public import proofs.«01_k».proof.Proof.Gen.ConvoutIdeal
public import proofs.«01_k».proof.Proof.Gen.ConvoutIdeal.Skeleton
public import proofs.«01_k».proof.Proof.Gen.ConvoutIdeal.Launch
public import proofs.«01_k».proof.Proof.Gen.ConvoutIdeal.Points
public import proofs.«01_k».proof.Proof.Gen.ConvoutIdeal.Frame
public import proofs.«01_k».proof.Proof.Gen.ConvoutIdeal.Value
public import proofs.«01_k».proof.Proof.Gen.ConvoutRefIdeal
public import proofs.«01_k».proof.Proof.Gen.ConvoutRefIdeal.Run
public import proofs.«01_k».proof.Proof.Gen.ConvoutRefIdeal.Read
public import proofs.«01_k».proof.Proof.Gen.Kvproj
public import proofs.«01_k».proof.Proof.Gen.Kvproj.Skeleton
public import proofs.«01_k».proof.Proof.Gen.Kvproj.Launch
public import proofs.«01_k».proof.Proof.Gen.Kvproj.Points
public import proofs.«01_k».proof.Proof.Gen.Kvproj.Frame
public import proofs.«01_k».proof.Proof.Gen.KvprojIdeal
public import proofs.«01_k».proof.Proof.Gen.KvprojIdeal.Skeleton
public import proofs.«01_k».proof.Proof.Gen.KvprojIdeal.Launch
public import proofs.«01_k».proof.Proof.Gen.KvprojIdeal.Points
public import proofs.«01_k».proof.Proof.Gen.KvprojIdeal.Frame
public import proofs.«01_k».proof.Proof.Gen.KvprojIdeal.Value
public import proofs.«01_k».proof.Proof.Gen.KvprojRefIdeal
public import proofs.«01_k».proof.Proof.Gen.KvprojRefIdeal.Run
public import proofs.«01_k».proof.Proof.Gen.KvprojRefIdeal.Read
public import proofs.«01_k».proof.Proof.Gen.Dwkv
public import proofs.«01_k».proof.Proof.Gen.Dwkv.Skeleton
public import proofs.«01_k».proof.Proof.Gen.Dwkv.Launch
public import proofs.«01_k».proof.Proof.Gen.Dwkv.Points
public import proofs.«01_k».proof.Proof.Gen.Dwkv.Frame
public import proofs.«01_k».proof.Proof.Gen.DwkvIdeal
public import proofs.«01_k».proof.Proof.Gen.DwkvIdeal.Skeleton
public import proofs.«01_k».proof.Proof.Gen.DwkvIdeal.Launch
public import proofs.«01_k».proof.Proof.Gen.DwkvIdeal.Points
public import proofs.«01_k».proof.Proof.Gen.DwkvIdeal.Frame
public import proofs.«01_k».proof.Proof.Gen.DwkvIdeal.Value
public import proofs.«01_k».proof.Proof.Gen.DwkvRefIdeal
public import proofs.«01_k».proof.Proof.Gen.DwkvRefIdeal.Run
public import proofs.«01_k».proof.Proof.Gen.DwkvRefIdeal.Read
public import proofs.«01_k».proof.Proof.Gen.Dmem
public import proofs.«01_k».proof.Proof.Gen.Dmem.Skeleton
public import proofs.«01_k».proof.Proof.Gen.Dmem.Launch
public import proofs.«01_k».proof.Proof.Gen.Dmem.Points
public import proofs.«01_k».proof.Proof.Gen.Dmem.Frame
public import proofs.«01_k».proof.Proof.Gen.DmemIdeal
public import proofs.«01_k».proof.Proof.Gen.DmemIdeal.Skeleton
public import proofs.«01_k».proof.Proof.Gen.DmemIdeal.Launch
public import proofs.«01_k».proof.Proof.Gen.DmemIdeal.Points
public import proofs.«01_k».proof.Proof.Gen.DmemIdeal.Frame
public import proofs.«01_k».proof.Proof.Gen.DmemIdeal.Value
public import proofs.«01_k».proof.Proof.Gen.DmemRefIdeal
public import proofs.«01_k».proof.Proof.Gen.DmemRefIdeal.Run
public import proofs.«01_k».proof.Proof.Gen.DmemRefIdeal.Read
public import proofs.«01_k».proof.Proof.Gen.Dmemtop
public import proofs.«01_k».proof.Proof.Gen.Dmemtop.Skeleton
public import proofs.«01_k».proof.Proof.Gen.Dmemtop.Launch
public import proofs.«01_k».proof.Proof.Gen.Dmemtop.Points
public import proofs.«01_k».proof.Proof.Gen.Dmemtop.Frame
public import proofs.«01_k».proof.Proof.Gen.DmemtopIdeal
public import proofs.«01_k».proof.Proof.Gen.DmemtopIdeal.Skeleton
public import proofs.«01_k».proof.Proof.Gen.DmemtopIdeal.Launch
public import proofs.«01_k».proof.Proof.Gen.DmemtopIdeal.Points
public import proofs.«01_k».proof.Proof.Gen.DmemtopIdeal.Frame
public import proofs.«01_k».proof.Proof.Gen.DmemtopIdeal.Value
public import proofs.«01_k».proof.Proof.Gen.DmemtopRefIdeal
public import proofs.«01_k».proof.Proof.Gen.DmemtopRefIdeal.Run
public import proofs.«01_k».proof.Proof.Gen.DmemtopRefIdeal.Read
public import proofs.«01_k».proof.Proof.Gen.Attnf
public import proofs.«01_k».proof.Proof.Gen.Attnf.Skeleton
public import proofs.«01_k».proof.Proof.Gen.Attnf.Launch
public import proofs.«01_k».proof.Proof.Gen.Attnf.Points
public import proofs.«01_k».proof.Proof.Gen.Attnf.Frame
public import proofs.«01_k».proof.Proof.Gen.AttnfIdeal
public import proofs.«01_k».proof.Proof.Gen.AttnfIdeal.Skeleton
public import proofs.«01_k».proof.Proof.Gen.AttnfIdeal.Launch
public import proofs.«01_k».proof.Proof.Gen.AttnfIdeal.Points
public import proofs.«01_k».proof.Proof.Gen.AttnfIdeal.Frame
public import proofs.«01_k».proof.Proof.Gen.AttnfIdeal.Value
public import proofs.«01_k».proof.Proof.Gen.AttnfRefIdeal
public import proofs.«01_k».proof.Proof.Gen.AttnfRefIdeal.Run
public import proofs.«01_k».proof.Proof.Gen.AttnfRefIdeal.Read
public import proofs.«01_k».proof.Proof.Gen.Normf
public import proofs.«01_k».proof.Proof.Gen.Normf.Skeleton
public import proofs.«01_k».proof.Proof.Gen.Normf.Launch
public import proofs.«01_k».proof.Proof.Gen.Normf.Points
public import proofs.«01_k».proof.Proof.Gen.Normf.Frame
public import proofs.«01_k».proof.Proof.Gen.NormfIdeal
public import proofs.«01_k».proof.Proof.Gen.NormfIdeal.Skeleton
public import proofs.«01_k».proof.Proof.Gen.NormfIdeal.Launch
public import proofs.«01_k».proof.Proof.Gen.NormfIdeal.Points
public import proofs.«01_k».proof.Proof.Gen.NormfIdeal.Frame
public import proofs.«01_k».proof.Proof.Gen.NormfIdeal.Value
public import proofs.«01_k».proof.Proof.Gen.NormfRefIdeal
public import proofs.«01_k».proof.Proof.Gen.NormfRefIdeal.Run
public import proofs.«01_k».proof.Proof.Gen.NormfRefIdeal.Read
public import proofs.«01_k».proof.Proof.Gen.Memf
public import proofs.«01_k».proof.Proof.Gen.Memf.Skeleton
public import proofs.«01_k».proof.Proof.Gen.Memf.Launch
public import proofs.«01_k».proof.Proof.Gen.Memf.Points
public import proofs.«01_k».proof.Proof.Gen.Memf.Frame
public import proofs.«01_k».proof.Proof.Gen.MemfIdeal
public import proofs.«01_k».proof.Proof.Gen.MemfIdeal.Skeleton
public import proofs.«01_k».proof.Proof.Gen.MemfIdeal.Launch
public import proofs.«01_k».proof.Proof.Gen.MemfIdeal.Points
public import proofs.«01_k».proof.Proof.Gen.MemfIdeal.Frame
public import proofs.«01_k».proof.Proof.Gen.MemfIdeal.Value
public import proofs.«01_k».proof.Proof.Gen.MemfRefIdeal
public import proofs.«01_k».proof.Proof.Gen.MemfRefIdeal.Run
public import proofs.«01_k».proof.Proof.Gen.MemfRefIdeal.Read
public import proofs.«01_k».proof.Proof.Gen.Mergef
public import proofs.«01_k».proof.Proof.Gen.Mergef.Skeleton
public import proofs.«01_k».proof.Proof.Gen.Mergef.Launch
public import proofs.«01_k».proof.Proof.Gen.Mergef.Points
public import proofs.«01_k».proof.Proof.Gen.Mergef.Frame
public import proofs.«01_k».proof.Proof.Gen.MergefIdeal
public import proofs.«01_k».proof.Proof.Gen.MergefIdeal.Skeleton
public import proofs.«01_k».proof.Proof.Gen.MergefIdeal.Launch
public import proofs.«01_k».proof.Proof.Gen.MergefIdeal.Points
public import proofs.«01_k».proof.Proof.Gen.MergefIdeal.Frame
public import proofs.«01_k».proof.Proof.Gen.MergefIdeal.Value
public import proofs.«01_k».proof.Proof.Gen.MergefRefIdeal
public import proofs.«01_k».proof.Proof.Gen.MergefRefIdeal.Run
public import proofs.«01_k».proof.Proof.Gen.MergefRefIdeal.Read
public import proofs.«01_k».proof.Proof.Gen.Gproj
public import proofs.«01_k».proof.Proof.Gen.Gproj.Skeleton
public import proofs.«01_k».proof.Proof.Gen.Gproj.Launch
public import proofs.«01_k».proof.Proof.Gen.Gproj.Points
public import proofs.«01_k».proof.Proof.Gen.Gproj.Frame
public import proofs.«01_k».proof.Proof.Gen.GprojIdeal
public import proofs.«01_k».proof.Proof.Gen.GprojIdeal.Skeleton
public import proofs.«01_k».proof.Proof.Gen.GprojIdeal.Launch
public import proofs.«01_k».proof.Proof.Gen.GprojIdeal.Points
public import proofs.«01_k».proof.Proof.Gen.GprojIdeal.Frame
public import proofs.«01_k».proof.Proof.Gen.GprojIdeal.Value
public import proofs.«01_k».proof.Proof.Gen.GprojRefIdeal
public import proofs.«01_k».proof.Proof.Gen.GprojRefIdeal.Run
public import proofs.«01_k».proof.Proof.Gen.GprojRefIdeal.Read
public import proofs.«01_k».proof.Proof.Gen.Gdz
public import proofs.«01_k».proof.Proof.Gen.Gdz.Skeleton
public import proofs.«01_k».proof.Proof.Gen.Gdz.Launch
public import proofs.«01_k».proof.Proof.Gen.Gdz.Points
public import proofs.«01_k».proof.Proof.Gen.Gdz.Frame
public import proofs.«01_k».proof.Proof.Gen.GdzIdeal
public import proofs.«01_k».proof.Proof.Gen.GdzIdeal.Skeleton
public import proofs.«01_k».proof.Proof.Gen.GdzIdeal.Launch
public import proofs.«01_k».proof.Proof.Gen.GdzIdeal.Points
public import proofs.«01_k».proof.Proof.Gen.GdzIdeal.Frame
public import proofs.«01_k».proof.Proof.Gen.GdzIdeal.Value
public import proofs.«01_k».proof.Proof.Gen.GdzRefIdeal
public import proofs.«01_k».proof.Proof.Gen.GdzRefIdeal.Run
public import proofs.«01_k».proof.Proof.Gen.GdzRefIdeal.Read
public import proofs.«01_k».proof.Proof.Gen.Gdw
public import proofs.«01_k».proof.Proof.Gen.Gdw.Skeleton
public import proofs.«01_k».proof.Proof.Gen.Gdw.Launch
public import proofs.«01_k».proof.Proof.Gen.Gdw.Points
public import proofs.«01_k».proof.Proof.Gen.Gdw.Frame
public import proofs.«01_k».proof.Proof.Gen.GdwIdeal
public import proofs.«01_k».proof.Proof.Gen.GdwIdeal.Skeleton
public import proofs.«01_k».proof.Proof.Gen.GdwIdeal.Launch
public import proofs.«01_k».proof.Proof.Gen.GdwIdeal.Points
public import proofs.«01_k».proof.Proof.Gen.GdwIdeal.Frame
public import proofs.«01_k».proof.Proof.Gen.GdwIdeal.Value
public import proofs.«01_k».proof.Proof.Gen.GdwRefIdeal
public import proofs.«01_k».proof.Proof.Gen.GdwRefIdeal.Run
public import proofs.«01_k».proof.Proof.Gen.GdwRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Memn
public import proofs.«01_k».proof.Proof.Gen.Memn.Skeleton
public import proofs.«01_k».proof.Proof.Gen.Memn.Launch
public import proofs.«01_k».proof.Proof.Gen.Memn.Points
public import proofs.«01_k».proof.Proof.Gen.Memn.Frame
public import proofs.«01_k».proof.Proof.Gen.MemnIdeal
public import proofs.«01_k».proof.Proof.Gen.MemnIdeal.Skeleton
public import proofs.«01_k».proof.Proof.Gen.MemnIdeal.Launch
public import proofs.«01_k».proof.Proof.Gen.MemnIdeal.Points
public import proofs.«01_k».proof.Proof.Gen.MemnIdeal.Frame
public import proofs.«01_k».proof.Proof.Gen.MemnIdeal.Value
public import proofs.«01_k».proof.Proof.Gen.MemnRefIdeal
public import proofs.«01_k».proof.Proof.Gen.MemnRefIdeal.Run
public import proofs.«01_k».proof.Proof.Gen.MemnRefIdeal.Read
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.SmallRefIdeal.Read
public import proofs.«01_k».proof.Proof.Gen.Gmix
public import proofs.«01_k».proof.Proof.Gen.Gmix.Skeleton
public import proofs.«01_k».proof.Proof.Gen.Gmix.Launch
public import proofs.«01_k».proof.Proof.Gen.Gmix.Points
public import proofs.«01_k».proof.Proof.Gen.Gmix.Frame
public import proofs.«01_k».proof.Proof.Gen.GmixIdeal
public import proofs.«01_k».proof.Proof.Gen.GmixIdeal.Skeleton
public import proofs.«01_k».proof.Proof.Gen.GmixIdeal.Launch
public import proofs.«01_k».proof.Proof.Gen.GmixIdeal.Points
public import proofs.«01_k».proof.Proof.Gen.GmixIdeal.Frame
public import proofs.«01_k».proof.Proof.Gen.GmixIdeal.Value
public import proofs.«01_k».proof.Proof.Gen.GmixRefIdeal
public import proofs.«01_k».proof.Proof.Gen.GmixRefIdeal.Run
public import proofs.«01_k».proof.Proof.Gen.GmixRefIdeal.Read
public import proofs.«01_k».proof.Proof.Gen.Grest
public import proofs.«01_k».proof.Proof.Gen.Grest.Skeleton
public import proofs.«01_k».proof.Proof.Gen.Grest.Launch
public import proofs.«01_k».proof.Proof.Gen.Grest.Points
public import proofs.«01_k».proof.Proof.Gen.Grest.Frame
public import proofs.«01_k».proof.Proof.Gen.GrestIdeal
public import proofs.«01_k».proof.Proof.Gen.GrestIdeal.Skeleton
public import proofs.«01_k».proof.Proof.Gen.GrestIdeal.Launch
public import proofs.«01_k».proof.Proof.Gen.GrestIdeal.Points
public import proofs.«01_k».proof.Proof.Gen.GrestIdeal.Frame
public import proofs.«01_k».proof.Proof.Gen.GrestIdeal.Value
public import proofs.«01_k».proof.Proof.Gen.GrestRefIdeal
public import proofs.«01_k».proof.Proof.Gen.GrestRefIdeal.Run
public import proofs.«01_k».proof.Proof.Gen.GrestRefIdeal.Read
public import proofs.«01_k».proof.Proof.Gen.Gall
public import proofs.«01_k».proof.Proof.Gen.Gall.Skeleton
public import proofs.«01_k».proof.Proof.Gen.Gall.Launch
public import proofs.«01_k».proof.Proof.Gen.Gall.Points
public import proofs.«01_k».proof.Proof.Gen.Gall.Frame
public import proofs.«01_k».proof.Proof.Gen.GallIdeal
public import proofs.«01_k».proof.Proof.Gen.GallIdeal.Skeleton
public import proofs.«01_k».proof.Proof.Gen.GallIdeal.Launch
public import proofs.«01_k».proof.Proof.Gen.GallIdeal.Points
public import proofs.«01_k».proof.Proof.Gen.GallIdeal.Frame
public import proofs.«01_k».proof.Proof.Gen.GallIdeal.Value
public import proofs.«01_k».proof.Proof.Gen.GallRefIdeal
public import proofs.«01_k».proof.Proof.Gen.GallRefIdeal.Run
public import proofs.«01_k».proof.Proof.Gen.GallRefIdeal.Read
public import proofs.«01_k».proof.Proof.Gen.Adchan
public import proofs.«01_k».proof.Proof.Gen.Adchan.Skeleton
public import proofs.«01_k».proof.Proof.Gen.Adchan.Launch
public import proofs.«01_k».proof.Proof.Gen.Adchan.Points
public import proofs.«01_k».proof.Proof.Gen.Adchan.Frame
public import proofs.«01_k».proof.Proof.Gen.AdchanIdeal
public import proofs.«01_k».proof.Proof.Gen.AdchanIdeal.Skeleton
public import proofs.«01_k».proof.Proof.Gen.AdchanIdeal.Launch
public import proofs.«01_k».proof.Proof.Gen.AdchanIdeal.Points
public import proofs.«01_k».proof.Proof.Gen.AdchanIdeal.Frame
public import proofs.«01_k».proof.Proof.Gen.AdchanIdeal.Value
public import proofs.«01_k».proof.Proof.Gen.AdchanRefIdeal
public import proofs.«01_k».proof.Proof.Gen.AdchanRefIdeal.Run
public import proofs.«01_k».proof.Proof.Gen.AdchanRefIdeal.Read
public import proofs.«01_k».proof.Proof.Gen.Adconv
public import proofs.«01_k».proof.Proof.Gen.Adconv.Skeleton
public import proofs.«01_k».proof.Proof.Gen.Adconv.Launch
public import proofs.«01_k».proof.Proof.Gen.Adconv.Points
public import proofs.«01_k».proof.Proof.Gen.Adconv.Frame
public import proofs.«01_k».proof.Proof.Gen.AdconvIdeal
public import proofs.«01_k».proof.Proof.Gen.AdconvIdeal.Skeleton
public import proofs.«01_k».proof.Proof.Gen.AdconvIdeal.Launch
public import proofs.«01_k».proof.Proof.Gen.AdconvIdeal.Points
public import proofs.«01_k».proof.Proof.Gen.AdconvIdeal.Frame
public import proofs.«01_k».proof.Proof.Gen.AdconvIdeal.Value
public import proofs.«01_k».proof.Proof.Gen.AdconvRefIdeal
public import proofs.«01_k».proof.Proof.Gen.AdconvRefIdeal.Run
public import proofs.«01_k».proof.Proof.Gen.AdconvRefIdeal.Read
public import proofs.«01_k».proof.Proof.Gen.Adgain
public import proofs.«01_k».proof.Proof.Gen.Adgain.Skeleton
public import proofs.«01_k».proof.Proof.Gen.Adgain.Launch
public import proofs.«01_k».proof.Proof.Gen.Adgain.Points
public import proofs.«01_k».proof.Proof.Gen.Adgain.Frame
public import proofs.«01_k».proof.Proof.Gen.AdgainIdeal
public import proofs.«01_k».proof.Proof.Gen.AdgainIdeal.Skeleton
public import proofs.«01_k».proof.Proof.Gen.AdgainIdeal.Launch
public import proofs.«01_k».proof.Proof.Gen.AdgainIdeal.Points
public import proofs.«01_k».proof.Proof.Gen.AdgainIdeal.Frame
public import proofs.«01_k».proof.Proof.Gen.AdgainIdeal.Value
public import proofs.«01_k».proof.Proof.Gen.AdgainRefIdeal
public import proofs.«01_k».proof.Proof.Gen.AdgainRefIdeal.Run
public import proofs.«01_k».proof.Proof.Gen.AdgainRefIdeal.Read
public import proofs.«01_k».proof.Proof.Gen.Adfilt
public import proofs.«01_k».proof.Proof.Gen.Adfilt.Skeleton
public import proofs.«01_k».proof.Proof.Gen.Adfilt.Launch
public import proofs.«01_k».proof.Proof.Gen.Adfilt.Points
public import proofs.«01_k».proof.Proof.Gen.Adfilt.Frame
public import proofs.«01_k».proof.Proof.Gen.AdfiltIdeal
public import proofs.«01_k».proof.Proof.Gen.AdfiltIdeal.Skeleton
public import proofs.«01_k».proof.Proof.Gen.AdfiltIdeal.Launch
public import proofs.«01_k».proof.Proof.Gen.AdfiltIdeal.Points
public import proofs.«01_k».proof.Proof.Gen.AdfiltIdeal.Frame
public import proofs.«01_k».proof.Proof.Gen.AdfiltIdeal.Value
public import proofs.«01_k».proof.Proof.Gen.AdfiltRefIdeal
public import proofs.«01_k».proof.Proof.Gen.AdfiltRefIdeal.Run
public import proofs.«01_k».proof.Proof.Gen.AdfiltRefIdeal.Read
public import proofs.«01_k».proof.Proof.Gen.Adffilt
public import proofs.«01_k».proof.Proof.Gen.Adffilt.Skeleton
public import proofs.«01_k».proof.Proof.Gen.Adffilt.Launch
public import proofs.«01_k».proof.Proof.Gen.Adffilt.Points
public import proofs.«01_k».proof.Proof.Gen.Adffilt.Frame
public import proofs.«01_k».proof.Proof.Gen.AdffiltIdeal
public import proofs.«01_k».proof.Proof.Gen.AdffiltIdeal.Skeleton
public import proofs.«01_k».proof.Proof.Gen.AdffiltIdeal.Launch
public import proofs.«01_k».proof.Proof.Gen.AdffiltIdeal.Points
public import proofs.«01_k».proof.Proof.Gen.AdffiltIdeal.Frame
public import proofs.«01_k».proof.Proof.Gen.AdffiltIdeal.Value
public import proofs.«01_k».proof.Proof.Gen.AdffiltRefIdeal
public import proofs.«01_k».proof.Proof.Gen.AdffiltRefIdeal.Run
public import proofs.«01_k».proof.Proof.Gen.AdffiltRefIdeal.Read
public import proofs.«01_k».proof.Proof.Gen.Adsq
public import proofs.«01_k».proof.Proof.Gen.Adsq.Skeleton
public import proofs.«01_k».proof.Proof.Gen.Adsq.Launch
public import proofs.«01_k».proof.Proof.Gen.Adsq.Points
public import proofs.«01_k».proof.Proof.Gen.Adsq.Frame
public import proofs.«01_k».proof.Proof.Gen.AdsqIdeal
public import proofs.«01_k».proof.Proof.Gen.AdsqIdeal.Skeleton
public import proofs.«01_k».proof.Proof.Gen.AdsqIdeal.Launch
public import proofs.«01_k».proof.Proof.Gen.AdsqIdeal.Points
public import proofs.«01_k».proof.Proof.Gen.AdsqIdeal.Frame
public import proofs.«01_k».proof.Proof.Gen.AdsqIdeal.Value
public import proofs.«01_k».proof.Proof.Gen.AdsqRefIdeal
public import proofs.«01_k».proof.Proof.Gen.AdsqRefIdeal.Run
public import proofs.«01_k».proof.Proof.Gen.AdsqRefIdeal.Read
public import proofs.«01_k».proof.Proof.Gen.Addown
public import proofs.«01_k».proof.Proof.Gen.Addown.Skeleton
public import proofs.«01_k».proof.Proof.Gen.Addown.Launch
public import proofs.«01_k».proof.Proof.Gen.Addown.Points
public import proofs.«01_k».proof.Proof.Gen.Addown.Frame
public import proofs.«01_k».proof.Proof.Gen.AddownIdeal
public import proofs.«01_k».proof.Proof.Gen.AddownIdeal.Skeleton
public import proofs.«01_k».proof.Proof.Gen.AddownIdeal.Launch
public import proofs.«01_k».proof.Proof.Gen.AddownIdeal.Points
public import proofs.«01_k».proof.Proof.Gen.AddownIdeal.Frame
public import proofs.«01_k».proof.Proof.Gen.AddownIdeal.Value
public import proofs.«01_k».proof.Proof.Gen.AddownRefIdeal
public import proofs.«01_k».proof.Proof.Gen.AddownRefIdeal.Run
public import proofs.«01_k».proof.Proof.Gen.AddownRefIdeal.Read
public import proofs.«01_k».proof.Proof.Gen.Adin
public import proofs.«01_k».proof.Proof.Gen.Adin.Skeleton
public import proofs.«01_k».proof.Proof.Gen.Adin.Launch
public import proofs.«01_k».proof.Proof.Gen.Adin.Points
public import proofs.«01_k».proof.Proof.Gen.Adin.Frame
public import proofs.«01_k».proof.Proof.Gen.AdinIdeal
public import proofs.«01_k».proof.Proof.Gen.AdinIdeal.Skeleton
public import proofs.«01_k».proof.Proof.Gen.AdinIdeal.Launch
public import proofs.«01_k».proof.Proof.Gen.AdinIdeal.Points
public import proofs.«01_k».proof.Proof.Gen.AdinIdeal.Frame
public import proofs.«01_k».proof.Proof.Gen.AdinIdeal.Value
public import proofs.«01_k».proof.Proof.Gen.AdinRefIdeal
public import proofs.«01_k».proof.Proof.Gen.AdinRefIdeal.Run
public import proofs.«01_k».proof.Proof.Gen.AdinRefIdeal.Read
public import proofs.«01_k».proof.Proof.Gen.Adkv
public import proofs.«01_k».proof.Proof.Gen.Adkv.Skeleton
public import proofs.«01_k».proof.Proof.Gen.Adkv.Launch
public import proofs.«01_k».proof.Proof.Gen.Adkv.Points
public import proofs.«01_k».proof.Proof.Gen.Adkv.Frame
public import proofs.«01_k».proof.Proof.Gen.AdkvIdeal
public import proofs.«01_k».proof.Proof.Gen.AdkvIdeal.Skeleton
public import proofs.«01_k».proof.Proof.Gen.AdkvIdeal.Launch
public import proofs.«01_k».proof.Proof.Gen.AdkvIdeal.Points
public import proofs.«01_k».proof.Proof.Gen.AdkvIdeal.Frame
public import proofs.«01_k».proof.Proof.Gen.AdkvIdeal.Value
public import proofs.«01_k».proof.Proof.Gen.AdkvRefIdeal
public import proofs.«01_k».proof.Proof.Gen.AdkvRefIdeal.Run
public import proofs.«01_k».proof.Proof.Gen.AdkvRefIdeal.Read
public import proofs.«01_k».proof.Proof.Gen.Adup
public import proofs.«01_k».proof.Proof.Gen.Adup.Skeleton
public import proofs.«01_k».proof.Proof.Gen.Adup.Launch
public import proofs.«01_k».proof.Proof.Gen.Adup.Points
public import proofs.«01_k».proof.Proof.Gen.Adup.Frame
public import proofs.«01_k».proof.Proof.Gen.AdupIdeal
public import proofs.«01_k».proof.Proof.Gen.AdupIdeal.Skeleton
public import proofs.«01_k».proof.Proof.Gen.AdupIdeal.Launch
public import proofs.«01_k».proof.Proof.Gen.AdupIdeal.Points
public import proofs.«01_k».proof.Proof.Gen.AdupIdeal.Frame
public import proofs.«01_k».proof.Proof.Gen.AdupIdeal.Value
public import proofs.«01_k».proof.Proof.Gen.AdupRefIdeal
public import proofs.«01_k».proof.Proof.Gen.AdupRefIdeal.Run
public import proofs.«01_k».proof.Proof.Gen.AdupRefIdeal.Read
public import proofs.«01_k».proof.Proof.Gen.Adcout
public import proofs.«01_k».proof.Proof.Gen.Adcout.Skeleton
public import proofs.«01_k».proof.Proof.Gen.Adcout.Launch
public import proofs.«01_k».proof.Proof.Gen.Adcout.Points
public import proofs.«01_k».proof.Proof.Gen.Adcout.Frame
public import proofs.«01_k».proof.Proof.Gen.AdcoutIdeal
public import proofs.«01_k».proof.Proof.Gen.AdcoutIdeal.Skeleton
public import proofs.«01_k».proof.Proof.Gen.AdcoutIdeal.Launch
public import proofs.«01_k».proof.Proof.Gen.AdcoutIdeal.Points
public import proofs.«01_k».proof.Proof.Gen.AdcoutIdeal.Frame
public import proofs.«01_k».proof.Proof.Gen.AdcoutIdeal.Value
public import proofs.«01_k».proof.Proof.Gen.AdcoutRefIdeal
public import proofs.«01_k».proof.Proof.Gen.AdcoutRefIdeal.Run
public import proofs.«01_k».proof.Proof.Gen.AdcoutRefIdeal.Read
public import proofs.«01_k».proof.Proof.Gen.Adpool
public import proofs.«01_k».proof.Proof.Gen.Adpool.Skeleton
public import proofs.«01_k».proof.Proof.Gen.Adpool.Launch
public import proofs.«01_k».proof.Proof.Gen.Adpool.Points
public import proofs.«01_k».proof.Proof.Gen.Adpool.Frame
public import proofs.«01_k».proof.Proof.Gen.AdpoolIdeal
public import proofs.«01_k».proof.Proof.Gen.AdpoolIdeal.Skeleton
public import proofs.«01_k».proof.Proof.Gen.AdpoolIdeal.Launch
public import proofs.«01_k».proof.Proof.Gen.AdpoolIdeal.Points
public import proofs.«01_k».proof.Proof.Gen.AdpoolIdeal.Frame
public import proofs.«01_k».proof.Proof.Gen.AdpoolIdeal.Value
public import proofs.«01_k».proof.Proof.Gen.AdpoolRefIdeal
public import proofs.«01_k».proof.Proof.Gen.AdpoolRefIdeal.Run
public import proofs.«01_k».proof.Proof.Gen.AdpoolRefIdeal.Read
public import proofs.«01_k».proof.Proof.AttnClaim
public import proofs.«01_k».proof.Proof.HfClaim
public import proofs.«01_k».proof.Proof.HqClaim
public import proofs.«01_k».proof.Proof.MixClaim
public import proofs.«01_k».proof.Proof.MergeClaim
public import proofs.«01_k».proof.Proof.DactClaim
public import proofs.«01_k».proof.Proof.DwdownClaim
public import proofs.«01_k».proof.Proof.DwupClaim
public import proofs.«01_k».proof.Proof.DwinClaim
public import proofs.«01_k».proof.Proof.InprojClaim
public import proofs.«01_k».proof.Proof.UpgClaim
public import proofs.«01_k».proof.Proof.UpvClaim
public import proofs.«01_k».proof.Proof.DownClaim
public import proofs.«01_k».proof.Proof.DsqClaim
public import proofs.«01_k».proof.Proof.DwsqClaim
public import proofs.«01_k».proof.Proof.DytClaim
public import proofs.«01_k».proof.Proof.DwcoClaim
public import proofs.«01_k».proof.Proof.QprojClaim
public import proofs.«01_k».proof.Proof.OutprojClaim
public import proofs.«01_k».proof.Proof.ConvoutClaim
public import proofs.«01_k».proof.Proof.KvprojClaim
public import proofs.«01_k».proof.Proof.DwkvClaim
public import proofs.«01_k».proof.Proof.DmemClaim
public import proofs.«01_k».proof.Proof.DmemtopClaim
public import proofs.«01_k».proof.Proof.AttnfClaim
public import proofs.«01_k».proof.Proof.NormfClaim
public import proofs.«01_k».proof.Proof.MemfClaim
public import proofs.«01_k».proof.Proof.MergefClaim
public import proofs.«01_k».proof.Proof.GprojClaim
public import proofs.«01_k».proof.Proof.GdzClaim
public import proofs.«01_k».proof.Proof.GdwClaim
public import proofs.«01_k».proof.Proof.LossClaim
public import proofs.«01_k».proof.Proof.MemnClaim
public import proofs.«01_k».proof.Proof.SmallClaim
public import proofs.«01_k».proof.Proof.GmixClaim
public import proofs.«01_k».proof.Proof.GrestClaim
public import proofs.«01_k».proof.Proof.GallClaim
public import proofs.«01_k».proof.Proof.AdchanClaim
public import proofs.«01_k».proof.Proof.AdconvClaim
public import proofs.«01_k».proof.Proof.AdgainClaim
public import proofs.«01_k».proof.Proof.AdfiltClaim
public import proofs.«01_k».proof.Proof.AdffiltClaim
public import proofs.«01_k».proof.Proof.AdsqClaim
public import proofs.«01_k».proof.Proof.AddownClaim
public import proofs.«01_k».proof.Proof.AdinClaim
public import proofs.«01_k».proof.Proof.AdkvClaim
public import proofs.«01_k».proof.Proof.AdupClaim
public import proofs.«01_k».proof.Proof.AdcoutClaim
public import proofs.«01_k».proof.Proof.AdpoolClaim
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Attn.Gen.facts, Cert.AttnIdeal.Gen.facts, Cert.AttnRefIdeal.Gen.facts, Cert.Hf.Gen.facts, Cert.HfIdeal.Gen.facts, Cert.HfRefIdeal.Gen.facts, Cert.Hq.Gen.facts, Cert.HqIdeal.Gen.facts, Cert.HqRefIdeal.Gen.facts, Cert.Mix.Gen.facts, Cert.MixIdeal.Gen.facts, Cert.MixRefIdeal.Gen.facts, Cert.Merge.Gen.facts, Cert.MergeIdeal.Gen.facts, Cert.MergeRefIdeal.Gen.facts, Cert.Dact.Gen.facts, Cert.DactIdeal.Gen.facts, Cert.DactRefIdeal.Gen.facts, Cert.Dwdown.Gen.facts, Cert.DwdownIdeal.Gen.facts, Cert.DwdownRefIdeal.Gen.facts, Cert.Dwup.Gen.facts, Cert.DwupIdeal.Gen.facts, Cert.DwupRefIdeal.Gen.facts, Cert.Dwin.Gen.facts, Cert.DwinIdeal.Gen.facts, Cert.DwinRefIdeal.Gen.facts, Cert.Inproj.Gen.facts, Cert.InprojIdeal.Gen.facts, Cert.InprojRefIdeal.Gen.facts, Cert.Upg.Gen.facts, Cert.UpgIdeal.Gen.facts, Cert.UpgRefIdeal.Gen.facts, Cert.Upv.Gen.facts, Cert.UpvIdeal.Gen.facts, Cert.UpvRefIdeal.Gen.facts, Cert.Down.Gen.facts, Cert.DownIdeal.Gen.facts, Cert.DownRefIdeal.Gen.facts, Cert.Dsq.Gen.facts, Cert.DsqIdeal.Gen.facts, Cert.DsqRefIdeal.Gen.facts, Cert.Dwsq.Gen.facts, Cert.DwsqIdeal.Gen.facts, Cert.DwsqRefIdeal.Gen.facts, Cert.Dyt.Gen.facts, Cert.DytIdeal.Gen.facts, Cert.DytRefIdeal.Gen.facts, Cert.Dwco.Gen.facts, Cert.DwcoIdeal.Gen.facts, Cert.DwcoRefIdeal.Gen.facts, Cert.Qproj.Gen.facts, Cert.QprojIdeal.Gen.facts, Cert.QprojRefIdeal.Gen.facts, Cert.Outproj.Gen.facts, Cert.OutprojIdeal.Gen.facts, Cert.OutprojRefIdeal.Gen.facts, Cert.Convout.Gen.facts, Cert.ConvoutIdeal.Gen.facts, Cert.ConvoutRefIdeal.Gen.facts, Cert.Kvproj.Gen.facts, Cert.KvprojIdeal.Gen.facts, Cert.KvprojRefIdeal.Gen.facts, Cert.Dwkv.Gen.facts, Cert.DwkvIdeal.Gen.facts, Cert.DwkvRefIdeal.Gen.facts, Cert.Dmem.Gen.facts, Cert.DmemIdeal.Gen.facts, Cert.DmemRefIdeal.Gen.facts, Cert.Dmemtop.Gen.facts, Cert.DmemtopIdeal.Gen.facts, Cert.DmemtopRefIdeal.Gen.facts, Cert.Attnf.Gen.facts, Cert.AttnfIdeal.Gen.facts, Cert.AttnfRefIdeal.Gen.facts, Cert.Normf.Gen.facts, Cert.NormfIdeal.Gen.facts, Cert.NormfRefIdeal.Gen.facts, Cert.Memf.Gen.facts, Cert.MemfIdeal.Gen.facts, Cert.MemfRefIdeal.Gen.facts, Cert.Mergef.Gen.facts, Cert.MergefIdeal.Gen.facts, Cert.MergefRefIdeal.Gen.facts, Cert.Gproj.Gen.facts, Cert.GprojIdeal.Gen.facts, Cert.GprojRefIdeal.Gen.facts, Cert.Gdz.Gen.facts, Cert.GdzIdeal.Gen.facts, Cert.GdzRefIdeal.Gen.facts, Cert.Gdw.Gen.facts, Cert.GdwIdeal.Gen.facts, Cert.GdwRefIdeal.Gen.facts, Cert.Loss.Gen.facts, Cert.LossIdeal.Gen.facts, Cert.LossRefIdeal.Gen.facts, Cert.Memn.Gen.facts, Cert.MemnIdeal.Gen.facts, Cert.MemnRefIdeal.Gen.facts, Cert.Small.Gen.facts, Cert.SmallIdeal.Gen.facts, Cert.SmallRefIdeal.Gen.facts, Cert.Gmix.Gen.facts, Cert.GmixIdeal.Gen.facts, Cert.GmixRefIdeal.Gen.facts, Cert.Grest.Gen.facts, Cert.GrestIdeal.Gen.facts, Cert.GrestRefIdeal.Gen.facts, Cert.Gall.Gen.facts, Cert.GallIdeal.Gen.facts, Cert.GallRefIdeal.Gen.facts, Cert.Adchan.Gen.facts, Cert.AdchanIdeal.Gen.facts, Cert.AdchanRefIdeal.Gen.facts, Cert.Adconv.Gen.facts, Cert.AdconvIdeal.Gen.facts, Cert.AdconvRefIdeal.Gen.facts, Cert.Adgain.Gen.facts, Cert.AdgainIdeal.Gen.facts, Cert.AdgainRefIdeal.Gen.facts, Cert.Adfilt.Gen.facts, Cert.AdfiltIdeal.Gen.facts, Cert.AdfiltRefIdeal.Gen.facts, Cert.Adffilt.Gen.facts, Cert.AdffiltIdeal.Gen.facts, Cert.AdffiltRefIdeal.Gen.facts, Cert.Adsq.Gen.facts, Cert.AdsqIdeal.Gen.facts, Cert.AdsqRefIdeal.Gen.facts, Cert.Addown.Gen.facts, Cert.AddownIdeal.Gen.facts, Cert.AddownRefIdeal.Gen.facts, Cert.Adin.Gen.facts, Cert.AdinIdeal.Gen.facts, Cert.AdinRefIdeal.Gen.facts, Cert.Adkv.Gen.facts, Cert.AdkvIdeal.Gen.facts, Cert.AdkvRefIdeal.Gen.facts, Cert.Adup.Gen.facts, Cert.AdupIdeal.Gen.facts, Cert.AdupRefIdeal.Gen.facts, Cert.Adcout.Gen.facts, Cert.AdcoutIdeal.Gen.facts, Cert.AdcoutRefIdeal.Gen.facts, Cert.Adpool.Gen.facts, Cert.AdpoolIdeal.Gen.facts, Cert.AdpoolRefIdeal.Gen.facts, Cert.Pre_finite_attn.Gen.facts, by
  exact ⟨fun m ρ _ => Cert.Attn.Gen.frame m ρ,
    fun m ρ _ => Cert.AttnIdeal.Gen.frame m ρ,
    fun m ρ _ => Cert.AttnIdeal.Gen.frame m ρ,
    Cert.AttnEq.frame_ref,
    fun m ρ _ => Cert.AttnEq.frame_ref m ρ trivial,
    fun m ρ _ => Cert.Hf.Gen.frame m ρ,
    fun m ρ _ => Cert.HfIdeal.Gen.frame m ρ,
    Cert.HfEq.frame_ref,
    fun m ρ _ => Cert.Hq.Gen.frame m ρ,
    fun m ρ _ => Cert.HqIdeal.Gen.frame m ρ,
    Cert.HqEq.frame_ref,
    fun m ρ _ => Cert.Mix.Gen.frame m ρ,
    fun m ρ _ => Cert.MixIdeal.Gen.frame m ρ,
    Cert.MixEq.frame_ref,
    fun m ρ _ => Cert.Merge.Gen.frame m ρ,
    fun m ρ _ => Cert.MergeIdeal.Gen.frame m ρ,
    Cert.MergeEq.frame_ref,
    fun m ρ _ => Cert.Dact.Gen.frame m ρ,
    fun m ρ _ => Cert.DactIdeal.Gen.frame m ρ,
    Cert.DactEq.frame_ref,
    fun m ρ _ => Cert.Dwdown.Gen.frame m ρ,
    fun m ρ _ => Cert.DwdownIdeal.Gen.frame m ρ,
    Cert.DwdownEq.frame_ref,
    fun m ρ _ => Cert.Dwup.Gen.frame m ρ,
    fun m ρ _ => Cert.DwupIdeal.Gen.frame m ρ,
    Cert.DwupEq.frame_ref,
    fun m ρ _ => Cert.Dwin.Gen.frame m ρ,
    fun m ρ _ => Cert.DwinIdeal.Gen.frame m ρ,
    Cert.DwinEq.frame_ref,
    fun m ρ _ => Cert.Inproj.Gen.frame m ρ,
    fun m ρ _ => Cert.InprojIdeal.Gen.frame m ρ,
    Cert.InprojEq.frame_ref,
    fun m ρ _ => Cert.Upg.Gen.frame m ρ,
    fun m ρ _ => Cert.UpgIdeal.Gen.frame m ρ,
    Cert.UpgEq.frame_ref,
    fun m ρ _ => Cert.Upv.Gen.frame m ρ,
    fun m ρ _ => Cert.UpvIdeal.Gen.frame m ρ,
    Cert.UpvEq.frame_ref,
    fun m ρ _ => Cert.Down.Gen.frame m ρ,
    fun m ρ _ => Cert.DownIdeal.Gen.frame m ρ,
    Cert.DownEq.frame_ref,
    fun m ρ _ => Cert.Dsq.Gen.frame m ρ,
    fun m ρ _ => Cert.DsqIdeal.Gen.frame m ρ,
    Cert.DsqEq.frame_ref,
    fun m ρ _ => Cert.Dwsq.Gen.frame m ρ,
    fun m ρ _ => Cert.DwsqIdeal.Gen.frame m ρ,
    Cert.DwsqEq.frame_ref,
    fun m ρ _ => Cert.Dyt.Gen.frame m ρ,
    fun m ρ _ => Cert.DytIdeal.Gen.frame m ρ,
    Cert.DytEq.frame_ref,
    fun m ρ _ => Cert.Dwco.Gen.frame m ρ,
    fun m ρ _ => Cert.DwcoIdeal.Gen.frame m ρ,
    Cert.DwcoEq.frame_ref,
    fun m ρ _ => Cert.Qproj.Gen.frame m ρ,
    fun m ρ _ => Cert.QprojIdeal.Gen.frame m ρ,
    Cert.QprojEq.frame_ref,
    fun m ρ _ => Cert.Outproj.Gen.frame m ρ,
    fun m ρ _ => Cert.OutprojIdeal.Gen.frame m ρ,
    Cert.OutprojEq.frame_ref,
    fun m ρ _ => Cert.Convout.Gen.frame m ρ,
    fun m ρ _ => Cert.ConvoutIdeal.Gen.frame m ρ,
    Cert.ConvoutEq.frame_ref,
    fun m ρ _ => Cert.Kvproj.Gen.frame m ρ,
    fun m ρ _ => Cert.KvprojIdeal.Gen.frame m ρ,
    Cert.KvprojEq.frame_ref,
    fun m ρ _ => Cert.Dwkv.Gen.frame m ρ,
    fun m ρ _ => Cert.DwkvIdeal.Gen.frame m ρ,
    Cert.DwkvEq.frame_ref,
    fun m ρ _ => Cert.Dmem.Gen.frame m ρ,
    fun m ρ _ => Cert.DmemIdeal.Gen.frame m ρ,
    Cert.DmemEq.frame_ref,
    fun m ρ _ => Cert.Dmemtop.Gen.frame m ρ,
    fun m ρ _ => Cert.DmemtopIdeal.Gen.frame m ρ,
    Cert.DmemtopEq.frame_ref,
    fun m ρ _ => Cert.Attnf.Gen.frame m ρ,
    fun m ρ _ => Cert.AttnfIdeal.Gen.frame m ρ,
    Cert.AttnfEq.frame_ref,
    fun m ρ _ => Cert.Normf.Gen.frame m ρ,
    fun m ρ _ => Cert.NormfIdeal.Gen.frame m ρ,
    Cert.NormfEq.frame_ref,
    fun m ρ _ => Cert.Memf.Gen.frame m ρ,
    fun m ρ _ => Cert.MemfIdeal.Gen.frame m ρ,
    Cert.MemfEq.frame_ref,
    fun m ρ _ => Cert.Mergef.Gen.frame m ρ,
    fun m ρ _ => Cert.MergefIdeal.Gen.frame m ρ,
    Cert.MergefEq.frame_ref,
    fun m ρ _ => Cert.Gproj.Gen.frame m ρ,
    fun m ρ _ => Cert.GprojIdeal.Gen.frame m ρ,
    Cert.GprojEq.frame_ref,
    fun m ρ _ => Cert.Gdz.Gen.frame m ρ,
    fun m ρ _ => Cert.GdzIdeal.Gen.frame m ρ,
    Cert.GdzEq.frame_ref,
    fun m ρ _ => Cert.Gdw.Gen.frame m ρ,
    fun m ρ _ => Cert.GdwIdeal.Gen.frame m ρ,
    Cert.GdwEq.frame_ref,
    fun m ρ _ => Cert.Loss.Gen.frame m ρ,
    fun m ρ _ => Cert.LossIdeal.Gen.frame m ρ,
    Cert.LossEq.frame_ref,
    fun m ρ _ => Cert.Memn.Gen.frame m ρ,
    fun m ρ _ => Cert.MemnIdeal.Gen.frame m ρ,
    Cert.MemnEq.frame_ref,
    fun m ρ _ => Cert.Small.Gen.frame m ρ,
    fun m ρ _ => Cert.SmallIdeal.Gen.frame m ρ,
    Cert.SmallEq.frame_ref,
    fun m ρ _ => Cert.Gmix.Gen.frame m ρ,
    fun m ρ _ => Cert.GmixIdeal.Gen.frame m ρ,
    Cert.GmixEq.frame_ref,
    fun m ρ _ => Cert.Grest.Gen.frame m ρ,
    fun m ρ _ => Cert.GrestIdeal.Gen.frame m ρ,
    Cert.GrestEq.frame_ref,
    fun m ρ _ => Cert.Gall.Gen.frame m ρ,
    fun m ρ _ => Cert.GallIdeal.Gen.frame m ρ,
    Cert.GallEq.frame_ref,
    fun m ρ _ => Cert.Adchan.Gen.frame m ρ,
    fun m ρ _ => Cert.AdchanIdeal.Gen.frame m ρ,
    Cert.AdchanEq.frame_ref,
    fun m ρ _ => Cert.Adconv.Gen.frame m ρ,
    fun m ρ _ => Cert.AdconvIdeal.Gen.frame m ρ,
    Cert.AdconvEq.frame_ref,
    fun m ρ _ => Cert.Adgain.Gen.frame m ρ,
    fun m ρ _ => Cert.AdgainIdeal.Gen.frame m ρ,
    Cert.AdgainEq.frame_ref,
    fun m ρ _ => Cert.Adfilt.Gen.frame m ρ,
    fun m ρ _ => Cert.AdfiltIdeal.Gen.frame m ρ,
    Cert.AdfiltEq.frame_ref,
    fun m ρ _ => Cert.Adffilt.Gen.frame m ρ,
    fun m ρ _ => Cert.AdffiltIdeal.Gen.frame m ρ,
    Cert.AdffiltEq.frame_ref,
    fun m ρ _ => Cert.Adsq.Gen.frame m ρ,
    fun m ρ _ => Cert.AdsqIdeal.Gen.frame m ρ,
    Cert.AdsqEq.frame_ref,
    fun m ρ _ => Cert.Addown.Gen.frame m ρ,
    fun m ρ _ => Cert.AddownIdeal.Gen.frame m ρ,
    Cert.AddownEq.frame_ref,
    fun m ρ _ => Cert.Adin.Gen.frame m ρ,
    fun m ρ _ => Cert.AdinIdeal.Gen.frame m ρ,
    Cert.AdinEq.frame_ref,
    fun m ρ _ => Cert.Adkv.Gen.frame m ρ,
    fun m ρ _ => Cert.AdkvIdeal.Gen.frame m ρ,
    Cert.AdkvEq.frame_ref,
    fun m ρ _ => Cert.Adup.Gen.frame m ρ,
    fun m ρ _ => Cert.AdupIdeal.Gen.frame m ρ,
    Cert.AdupEq.frame_ref,
    fun m ρ _ => Cert.Adcout.Gen.frame m ρ,
    fun m ρ _ => Cert.AdcoutIdeal.Gen.frame m ρ,
    Cert.AdcoutEq.frame_ref,
    fun m ρ _ => Cert.Adpool.Gen.frame m ρ,
    fun m ρ _ => Cert.AdpoolIdeal.Gen.frame m ρ,
    Cert.AdpoolEq.frame_ref,
    trivial,
    Cert.AttnEq.algebraic,
    trivial,
    Cert.HfEq.algebraic,
    trivial,
    Cert.HqEq.algebraic,
    trivial,
    Cert.MixEq.algebraic,
    trivial,
    Cert.MergeEq.algebraic,
    trivial,
    Cert.DactEq.algebraic,
    trivial,
    Cert.DwdownEq.algebraic,
    trivial,
    Cert.DwupEq.algebraic,
    trivial,
    Cert.DwinEq.algebraic,
    trivial,
    Cert.InprojEq.algebraic,
    trivial,
    Cert.UpgEq.algebraic,
    trivial,
    Cert.UpvEq.algebraic,
    trivial,
    Cert.DownEq.algebraic,
    trivial,
    Cert.DsqEq.algebraic,
    trivial,
    Cert.DwsqEq.algebraic,
    trivial,
    Cert.DytEq.algebraic,
    trivial,
    Cert.DwcoEq.algebraic,
    trivial,
    Cert.QprojEq.algebraic,
    trivial,
    Cert.OutprojEq.algebraic,
    trivial,
    Cert.ConvoutEq.algebraic,
    trivial,
    Cert.KvprojEq.algebraic,
    trivial,
    Cert.DwkvEq.algebraic,
    trivial,
    Cert.DmemEq.algebraic,
    trivial,
    Cert.DmemtopEq.algebraic,
    trivial,
    Cert.AttnfEq.algebraic,
    trivial,
    Cert.NormfEq.algebraic,
    trivial,
    Cert.MemfEq.algebraic,
    trivial,
    Cert.MergefEq.algebraic,
    trivial,
    Cert.GprojEq.algebraic,
    trivial,
    Cert.GdzEq.algebraic,
    trivial,
    Cert.GdwEq.algebraic,
    trivial,
    Cert.LossEq.algebraic,
    trivial,
    Cert.MemnEq.algebraic,
    trivial,
    Cert.SmallEq.algebraic,
    trivial,
    Cert.GmixEq.algebraic,
    trivial,
    Cert.GrestEq.algebraic,
    trivial,
    Cert.GallEq.algebraic,
    trivial,
    Cert.AdchanEq.algebraic,
    trivial,
    Cert.AdconvEq.algebraic,
    trivial,
    Cert.AdgainEq.algebraic,
    trivial,
    Cert.AdfiltEq.algebraic,
    trivial,
    Cert.AdffiltEq.algebraic,
    trivial,
    Cert.AdsqEq.algebraic,
    trivial,
    Cert.AddownEq.algebraic,
    trivial,
    Cert.AdinEq.algebraic,
    trivial,
    Cert.AdkvEq.algebraic,
    trivial,
    Cert.AdupEq.algebraic,
    trivial,
    Cert.AdcoutEq.algebraic,
    trivial,
    Cert.AdpoolEq.algebraic⟩⟩

end Cert.Proof

end
